-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2.2 = (fun _ => 1#1)

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_foxf_finite [hPre_foxf_finite : Cert.Pre_foxf_finite.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_foxf_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).1 = (fun _ => 1#1)
    ∧ (Cert.Pre_foxf_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.1 = (fun _ => 1#1)
    ∧ (Cert.Pre_foxf_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.1 = (fun _ => 1#1)
    ∧ (Cert.Pre_foxf_finite.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2)) (m ((c.tc : Thread Cert.FoxFwdIdeal.nD Cert.FoxFwdIdeal.τ).loc Cert.FoxFwdIdeal.main_arg3))).2.2.2 = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_foxf_finite [hPre_foxf_finite : Cert.Pre_foxf_finite.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_foxf_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).1 = (fun _ => 1#1)
    ∧ (Cert.Pre_foxf_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.1 = (fun _ => 1#1)
    ∧ (Cert.Pre_foxf_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.1 = (fun _ => 1#1)
    ∧ (Cert.Pre_foxf_finite.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2)) (m ((c.tc : Thread Cert.FoxFwdRefIdeal.nD Cert.FoxFwdRefIdeal.τ).loc Cert.FoxFwdRefIdeal.main_arg3))).2.2.2 = (fun _ => 1#1)

def Pre_NormKv (m : (ℓ : Loc Cert.NormKv.nD Cert.NormKv.τ Cert.NormKv.sig) → Buf (Elt Bits) ℓ) : Prop :=
  True

def Pre_NormKvIdeal (m : (ℓ : Loc Cert.NormKvIdeal.nD Cert.NormKvIdeal.τ Cert.NormKvIdeal.sig) → Buf (Elt Ideal) ℓ) : Prop :=
  True

def Pre_NormKvRefIdeal (m : (ℓ : Loc Cert.NormKvRefIdeal.nD Cert.NormKvRefIdeal.τ Cert.NormKvRefIdeal.sig) → Buf (Elt Ideal) ℓ) : Prop :=
  True

def Pre_Relu (m : (ℓ : Loc Cert.Relu.nD Cert.Relu.τ Cert.Relu.sig) → Buf (Elt Bits) ℓ) : Prop :=
  True

def Pre_ReluIdeal (m : (ℓ : Loc Cert.ReluIdeal.nD Cert.ReluIdeal.τ Cert.ReluIdeal.sig) → Buf (Elt Ideal) ℓ) : Prop :=
  True

def Pre_ReluRefIdeal (m : (ℓ : Loc Cert.ReluRefIdeal.nD Cert.ReluRefIdeal.τ Cert.ReluRefIdeal.sig) → Buf (Elt Ideal) ℓ) : Prop :=
  True

def Pre_RmsQ (m : (ℓ : Loc Cert.RmsQ.nD Cert.RmsQ.τ Cert.RmsQ.sig) → Buf (Elt Bits) ℓ) : Prop :=
  True

def Pre_RmsQIdeal (m : (ℓ : Loc Cert.RmsQIdeal.nD Cert.RmsQIdeal.τ Cert.RmsQIdeal.sig) → Buf (Elt Ideal) ℓ) : Prop :=
  True

def Pre_RmsQRefIdeal (m : (ℓ : Loc Cert.RmsQRefIdeal.nD Cert.RmsQRefIdeal.τ Cert.RmsQRefIdeal.sig) → Buf (Elt Ideal) ℓ) : Prop :=
  True

def Pre_RmsKv (m : (ℓ : Loc Cert.RmsKv.nD Cert.RmsKv.τ Cert.RmsKv.sig) → Buf (Elt Bits) ℓ) : Prop :=
  True

def Pre_RmsKvIdeal (m : (ℓ : Loc Cert.RmsKvIdeal.nD Cert.RmsKvIdeal.τ Cert.RmsKvIdeal.sig) → Buf (Elt Ideal) ℓ) : Prop :=
  True

def Pre_RmsKvRefIdeal (m : (ℓ : Loc Cert.RmsKvRefIdeal.nD Cert.RmsKvRefIdeal.τ Cert.RmsKvRefIdeal.sig) → Buf (Elt Ideal) ℓ) : Prop :=
  True

def Pre_RmsUp (m : (ℓ : Loc Cert.RmsUp.nD Cert.RmsUp.τ Cert.RmsUp.sig) → Buf (Elt Bits) ℓ) : Prop :=
  True

def Pre_RmsUpIdeal (m : (ℓ : Loc Cert.RmsUpIdeal.nD Cert.RmsUpIdeal.τ Cert.RmsUpIdeal.sig) → Buf (Elt Ideal) ℓ) : Prop :=
  True

def Pre_RmsUpRefIdeal (m : (ℓ : Loc Cert.RmsUpRefIdeal.nD Cert.RmsUpRefIdeal.τ Cert.RmsUpRefIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInRefIdeal (m : (ℓ : Loc Cert.RmsInRefIdeal.nD Cert.RmsInRefIdeal.τ Cert.RmsInRefIdeal.sig) → Buf (Elt Ideal) ℓ) : Prop :=
  True

def Pre_MatRes (m : (ℓ : Loc Cert.MatRes.nD Cert.MatRes.τ Cert.MatRes.sig) → Buf (Elt Bits) ℓ) : Prop :=
  True

def Pre_MatResIdeal (m : (ℓ : Loc Cert.MatResIdeal.nD Cert.MatResIdeal.τ Cert.MatResIdeal.sig) → Buf (Elt Ideal) ℓ) : Prop :=
  True

def Pre_MatResRefIdeal (m : (ℓ : Loc Cert.MatResRefIdeal.nD Cert.MatResRefIdeal.τ Cert.MatResRefIdeal.sig) → Buf (Elt Ideal) ℓ) : Prop :=
  True

def Pre_MatNt (m : (ℓ : Loc Cert.MatNt.nD Cert.MatNt.τ Cert.MatNt.sig) → Buf (Elt Bits) ℓ) : Prop :=
  True

def Pre_MatNtIdeal (m : (ℓ : Loc Cert.MatNtIdeal.nD Cert.MatNtIdeal.τ Cert.MatNtIdeal.sig) → Buf (Elt Ideal) ℓ) : Prop :=
  True

def Pre_MatNtRefIdeal (m : (ℓ : Loc Cert.MatNtRefIdeal.nD Cert.MatNtRefIdeal.τ Cert.MatNtRefIdeal.sig) → Buf (Elt Ideal) ℓ) : Prop :=
  True

def Pre_MatTn (m : (ℓ : Loc Cert.MatTn.nD Cert.MatTn.τ Cert.MatTn.sig) → Buf (Elt Bits) ℓ) : Prop :=
  True

def Pre_MatTnIdeal (m : (ℓ : Loc Cert.MatTnIdeal.nD Cert.MatTnIdeal.τ Cert.MatTnIdeal.sig) → Buf (Elt Ideal) ℓ) : Prop :=
  True

def Pre_MatTnRefIdeal (m : (ℓ : Loc Cert.MatTnRefIdeal.nD Cert.MatTnRefIdeal.τ Cert.MatTnRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_RowSplit (m : (ℓ : Loc Cert.RowSplit.nD Cert.RowSplit.τ Cert.RowSplit.sig) → Buf (Elt Bits) ℓ) : Prop :=
  True

def Pre_RowSplitIdeal (m : (ℓ : Loc Cert.RowSplitIdeal.nD Cert.RowSplitIdeal.τ Cert.RowSplitIdeal.sig) → Buf (Elt Ideal) ℓ) : Prop :=
  True

def Pre_RowSplitRefIdeal (m : (ℓ : Loc Cert.RowSplitRefIdeal.nD Cert.RowSplitRefIdeal.τ Cert.RowSplitRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2)
      ∧ r.2.mem ((c.tc : Thread Cert.FoxFwd.nD Cert.FoxFwd.τ).loc Cert.FoxFwd.main_arg3) = m ((c.tc : Thread Cert.FoxFwd.nD Cert.FoxFwd.τ).loc Cert.FoxFwd.main_arg3))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdIdeal_pre_foxf_finite [hFoxFwdIdeal : Cert.FoxFwdIdeal.Facts] [hPre_foxf_finite : Cert.Pre_foxf_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_foxf_finite m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
      ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_FoxFwdRefIdeal_pre_foxf_finite [hFoxFwdRefIdeal : Cert.FoxFwdRefIdeal.Facts] [hPre_foxf_finite : Cert.Pre_foxf_finite.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_foxf_finite m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2)
      ∧ r.2.mem ((c.tc : Thread Cert.FoxFwdRefIdeal.nD Cert.FoxFwdRefIdeal.τ).loc Cert.FoxFwdRefIdeal.main_arg3) = m ((c.tc : Thread Cert.FoxFwdRefIdeal.nD Cert.FoxFwdRefIdeal.τ).loc Cert.FoxFwdRefIdeal.main_arg3))
      ∧ r.2.sem = fun _ => 0)

def quiescent_NormKv [hNormKv : Cert.NormKv.Facts] : Prop :=
  ∀ (m : (ℓ : Loc Cert.NormKv.nD Cert.NormKv.τ Cert.NormKv.sig) → Buf (Elt Bits) ℓ) (g : Dev Cert.NormKv.nD → PrngReg), Pre_NormKv m →
    θ_run (Cert.NormKv.defs (F := Bits)) (onTc (τ := Cert.NormKv.τ) (Cert.NormKv.main (F := Bits))) ⟨m, fun _ => 0, g⟩ (fun r => (∀ c : Dev Cert.NormKv.nD,
      r.2.mem ((c.tc : Thread Cert.NormKv.nD Cert.NormKv.τ).loc Cert.NormKv.main_arg0) = m ((c.tc : Thread Cert.NormKv.nD Cert.NormKv.τ).loc Cert.NormKv.main_arg0)
      ∧ r.2.mem ((c.tc : Thread Cert.NormKv.nD Cert.NormKv.τ).loc Cert.NormKv.main_arg1) = m ((c.tc : Thread Cert.NormKv.nD Cert.NormKv.τ).loc Cert.NormKv.main_arg1)
      ∧ r.2.mem ((c.tc : Thread Cert.NormKv.nD Cert.NormKv.τ).loc Cert.NormKv.main_arg2) = m ((c.tc : Thread Cert.NormKv.nD Cert.NormKv.τ).loc Cert.NormKv.main_arg2))
      ∧ r.2.sem = fun _ => 0)

def quiescent_NormKvIdeal [hNormKvIdeal : Cert.NormKvIdeal.Facts] : Prop :=
  ∀ (m : (ℓ : Loc Cert.NormKvIdeal.nD Cert.NormKvIdeal.τ Cert.NormKvIdeal.sig) → Buf (Elt Ideal) ℓ) (g : Dev Cert.NormKvIdeal.nD → PrngReg), Pre_NormKvIdeal m →
    θ_run (Cert.NormKvIdeal.defs (F := Ideal)) (onTc (τ := Cert.NormKvIdeal.τ) (Cert.NormKvIdeal.main (F := Ideal))) ⟨m, fun _ => 0, g⟩ (fun r => (∀ c : Dev Cert.NormKvIdeal.nD,
      r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
      ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
      ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ r.2.sem = fun _ => 0)

def quiescent_NormKvRefIdeal [hNormKvRefIdeal : Cert.NormKvRefIdeal.Facts] : Prop :=
  ∀ (m : (ℓ : Loc Cert.NormKvRefIdeal.nD Cert.NormKvRefIdeal.τ Cert.NormKvRefIdeal.sig) → Buf (Elt Ideal) ℓ) (g : Dev Cert.NormKvRefIdeal.nD → PrngReg), Pre_NormKvRefIdeal m →
    θ_run (Cert.NormKvRefIdeal.defs (F := Ideal)) (onTc (τ := Cert.NormKvRefIdeal.τ) (Cert.NormKvRefIdeal.main (F := Ideal))) ⟨m, fun _ => 0, g⟩ (fun r => (∀ c : Dev Cert.NormKvRefIdeal.nD,
      r.2.mem ((c.tc : Thread Cert.NormKvRefIdeal.nD Cert.NormKvRefIdeal.τ).loc Cert.NormKvRefIdeal.main_arg0) = m ((c.tc : Thread Cert.NormKvRefIdeal.nD Cert.NormKvRefIdeal.τ).loc Cert.NormKvRefIdeal.main_arg0)
      ∧ r.2.mem ((c.tc : Thread Cert.NormKvRefIdeal.nD Cert.NormKvRefIdeal.τ).loc Cert.NormKvRefIdeal.main_arg1) = m ((c.tc : Thread Cert.NormKvRefIdeal.nD Cert.NormKvRefIdeal.τ).loc Cert.NormKvRefIdeal.main_arg1)
      ∧ r.2.mem ((c.tc : Thread Cert.NormKvRefIdeal.nD Cert.NormKvRefIdeal.τ).loc Cert.NormKvRefIdeal.main_arg2) = m ((c.tc : Thread Cert.NormKvRefIdeal.nD Cert.NormKvRefIdeal.τ).loc Cert.NormKvRefIdeal.main_arg2))
      ∧ r.2.sem = fun _ => 0)

def quiescent_Relu [hRelu : Cert.Relu.Facts] : Prop :=
  ∀ (m : (ℓ : Loc Cert.Relu.nD Cert.Relu.τ Cert.Relu.sig) → Buf (Elt Bits) ℓ) (g : Dev Cert.Relu.nD → PrngReg), Pre_Relu m →
    θ_run (Cert.Relu.defs (F := Bits)) (onTc (τ := Cert.Relu.τ) (Cert.Relu.main (F := Bits))) ⟨m, fun _ => 0, g⟩ (fun r => (∀ c : Dev Cert.Relu.nD,
      r.2.mem ((c.tc : Thread Cert.Relu.nD Cert.Relu.τ).loc Cert.Relu.main_arg0) = m ((c.tc : Thread Cert.Relu.nD Cert.Relu.τ).loc Cert.Relu.main_arg0)
      ∧ r.2.mem ((c.tc : Thread Cert.Relu.nD Cert.Relu.τ).loc Cert.Relu.main_arg1) = m ((c.tc : Thread Cert.Relu.nD Cert.Relu.τ).loc Cert.Relu.main_arg1)
      ∧ r.2.mem ((c.tc : Thread Cert.Relu.nD Cert.Relu.τ).loc Cert.Relu.main_arg2) = m ((c.tc : Thread Cert.Relu.nD Cert.Relu.τ).loc Cert.Relu.main_arg2))
      ∧ r.2.sem = fun _ => 0)

def quiescent_ReluIdeal [hReluIdeal : Cert.ReluIdeal.Facts] : Prop :=
  ∀ (m : (ℓ : Loc Cert.ReluIdeal.nD Cert.ReluIdeal.τ Cert.ReluIdeal.sig) → Buf (Elt Ideal) ℓ) (g : Dev Cert.ReluIdeal.nD → PrngReg), Pre_ReluIdeal m →
    θ_run (Cert.ReluIdeal.defs (F := Ideal)) (onTc (τ := Cert.ReluIdeal.τ) (Cert.ReluIdeal.main (F := Ideal))) ⟨m, fun _ => 0, g⟩ (fun r => (∀ c : Dev Cert.ReluIdeal.nD,
      r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
      ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
      ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ r.2.sem = fun _ => 0)

def quiescent_ReluRefIdeal [hReluRefIdeal : Cert.ReluRefIdeal.Facts] : Prop :=
  ∀ (m : (ℓ : Loc Cert.ReluRefIdeal.nD Cert.ReluRefIdeal.τ Cert.ReluRefIdeal.sig) → Buf (Elt Ideal) ℓ) (g : Dev Cert.ReluRefIdeal.nD → PrngReg), Pre_ReluRefIdeal m →
    θ_run (Cert.ReluRefIdeal.defs (F := Ideal)) (onTc (τ := Cert.ReluRefIdeal.τ) (Cert.ReluRefIdeal.main (F := Ideal))) ⟨m, fun _ => 0, g⟩ (fun r => (∀ c : Dev Cert.ReluRefIdeal.nD,
      r.2.mem ((c.tc : Thread Cert.ReluRefIdeal.nD Cert.ReluRefIdeal.τ).loc Cert.ReluRefIdeal.main_arg0) = m ((c.tc : Thread Cert.ReluRefIdeal.nD Cert.ReluRefIdeal.τ).loc Cert.ReluRefIdeal.main_arg0)
      ∧ r.2.mem ((c.tc : Thread Cert.ReluRefIdeal.nD Cert.ReluRefIdeal.τ).loc Cert.ReluRefIdeal.main_arg1) = m ((c.tc : Thread Cert.ReluRefIdeal.nD Cert.ReluRefIdeal.τ).loc Cert.ReluRefIdeal.main_arg1)
      ∧ r.2.mem ((c.tc : Thread Cert.ReluRefIdeal.nD Cert.ReluRefIdeal.τ).loc Cert.ReluRefIdeal.main_arg2) = m ((c.tc : Thread Cert.ReluRefIdeal.nD Cert.ReluRefIdeal.τ).loc Cert.ReluRefIdeal.main_arg2))
      ∧ r.2.sem = fun _ => 0)

def quiescent_RmsQ [hRmsQ : Cert.RmsQ.Facts] : Prop :=
  ∀ (m : (ℓ : Loc Cert.RmsQ.nD Cert.RmsQ.τ Cert.RmsQ.sig) → Buf (Elt Bits) ℓ) (g : Dev Cert.RmsQ.nD → PrngReg), Pre_RmsQ m →
    θ_run (Cert.RmsQ.defs (F := Bits)) (onTc (τ := Cert.RmsQ.τ) (Cert.RmsQ.main (F := Bits))) ⟨m, fun _ => 0, g⟩ (fun r => (∀ c : Dev Cert.RmsQ.nD,
      r.2.mem ((c.tc : Thread Cert.RmsQ.nD Cert.RmsQ.τ).loc Cert.RmsQ.main_arg0) = m ((c.tc : Thread Cert.RmsQ.nD Cert.RmsQ.τ).loc Cert.RmsQ.main_arg0)
      ∧ r.2.mem ((c.tc : Thread Cert.RmsQ.nD Cert.RmsQ.τ).loc Cert.RmsQ.main_arg1) = m ((c.tc : Thread Cert.RmsQ.nD Cert.RmsQ.τ).loc Cert.RmsQ.main_arg1)
      ∧ r.2.mem ((c.tc : Thread Cert.RmsQ.nD Cert.RmsQ.τ).loc Cert.RmsQ.main_arg2) = m ((c.tc : Thread Cert.RmsQ.nD Cert.RmsQ.τ).loc Cert.RmsQ.main_arg2)
      ∧ r.2.mem ((c.tc : Thread Cert.RmsQ.nD Cert.RmsQ.τ).loc Cert.RmsQ.main_arg3) = m ((c.tc : Thread Cert.RmsQ.nD Cert.RmsQ.τ).loc Cert.RmsQ.main_arg3)
      ∧ r.2.mem ((c.tc : Thread Cert.RmsQ.nD Cert.RmsQ.τ).loc Cert.RmsQ.main_arg4) = m ((c.tc : Thread Cert.RmsQ.nD Cert.RmsQ.τ).loc Cert.RmsQ.main_arg4))
      ∧ r.2.sem = fun _ => 0)

def quiescent_RmsQIdeal [hRmsQIdeal : Cert.RmsQIdeal.Facts] : Prop :=
  ∀ (m : (ℓ : Loc Cert.RmsQIdeal.nD Cert.RmsQIdeal.τ Cert.RmsQIdeal.sig) → Buf (Elt Ideal) ℓ) (g : Dev Cert.RmsQIdeal.nD → PrngReg), Pre_RmsQIdeal m →
    θ_run (Cert.RmsQIdeal.defs (F := Ideal)) (onTc (τ := Cert.RmsQIdeal.τ) (Cert.RmsQIdeal.main (F := Ideal))) ⟨m, fun _ => 0, g⟩ (fun r => (∀ c : Dev Cert.RmsQIdeal.nD,
      r.2.mem ((c.tc : Thread Cert.RmsQIdeal.nD Cert.RmsQIdeal.τ).loc Cert.RmsQIdeal.main_arg0) = m ((c.tc : Thread Cert.RmsQIdeal.nD Cert.RmsQIdeal.τ).loc Cert.RmsQIdeal.main_arg0)
      ∧ r.2.mem ((c.tc : Thread Cert.RmsQIdeal.nD Cert.RmsQIdeal.τ).loc Cert.RmsQIdeal.main_arg1) = m ((c.tc : Thread Cert.RmsQIdeal.nD Cert.RmsQIdeal.τ).loc Cert.RmsQIdeal.main_arg1)
      ∧ r.2.mem ((c.tc : Thread Cert.RmsQIdeal.nD Cert.RmsQIdeal.τ).loc Cert.RmsQIdeal.main_arg2) = m ((c.tc : Thread Cert.RmsQIdeal.nD Cert.RmsQIdeal.τ).loc Cert.RmsQIdeal.main_arg2)
      ∧ r.2.mem ((c.tc : Thread Cert.RmsQIdeal.nD Cert.RmsQIdeal.τ).loc Cert.RmsQIdeal.main_arg3) = m ((c.tc : Thread Cert.RmsQIdeal.nD Cert.RmsQIdeal.τ).loc Cert.RmsQIdeal.main_arg3)
      ∧ r.2.mem ((c.tc : Thread Cert.RmsQIdeal.nD Cert.RmsQIdeal.τ).loc Cert.RmsQIdeal.main_arg4) = m ((c.tc : Thread Cert.RmsQIdeal.nD Cert.RmsQIdeal.τ).loc Cert.RmsQIdeal.main_arg4))
      ∧ r.2.sem = fun _ => 0)

def quiescent_RmsQRefIdeal [hRmsQRefIdeal : Cert.RmsQRefIdeal.Facts] : Prop :=
  ∀ (m : (ℓ : Loc Cert.RmsQRefIdeal.nD Cert.RmsQRefIdeal.τ Cert.RmsQRefIdeal.sig) → Buf (Elt Ideal) ℓ) (g : Dev Cert.RmsQRefIdeal.nD → PrngReg), Pre_RmsQRefIdeal m →
    θ_run (Cert.RmsQRefIdeal.defs (F := Ideal)) (onTc (τ := Cert.RmsQRefIdeal.τ) (Cert.RmsQRefIdeal.main (F := Ideal))) ⟨m, fun _ => 0, g⟩ (fun r => (∀ c : Dev Cert.RmsQRefIdeal.nD,
      r.2.mem ((c.tc : Thread Cert.RmsQRefIdeal.nD Cert.RmsQRefIdeal.τ).loc Cert.RmsQRefIdeal.main_arg0) = m ((c.tc : Thread Cert.RmsQRefIdeal.nD Cert.RmsQRefIdeal.τ).loc Cert.RmsQRefIdeal.main_arg0)
      ∧ r.2.mem ((c.tc : Thread Cert.RmsQRefIdeal.nD Cert.RmsQRefIdeal.τ).loc Cert.RmsQRefIdeal.main_arg1) = m ((c.tc : Thread Cert.RmsQRefIdeal.nD Cert.RmsQRefIdeal.τ).loc Cert.RmsQRefIdeal.main_arg1)
      ∧ r.2.mem ((c.tc : Thread Cert.RmsQRefIdeal.nD Cert.RmsQRefIdeal.τ).loc Cert.RmsQRefIdeal.main_arg2) = m ((c.tc : Thread Cert.RmsQRefIdeal.nD Cert.RmsQRefIdeal.τ).loc Cert.RmsQRefIdeal.main_arg2)
      ∧ r.2.mem ((c.tc : Thread Cert.RmsQRefIdeal.nD Cert.RmsQRefIdeal.τ).loc Cert.RmsQRefIdeal.main_arg3) = m ((c.tc : Thread Cert.RmsQRefIdeal.nD Cert.RmsQRefIdeal.τ).loc Cert.RmsQRefIdeal.main_arg3)
      ∧ r.2.mem ((c.tc : Thread Cert.RmsQRefIdeal.nD Cert.RmsQRefIdeal.τ).loc Cert.RmsQRefIdeal.main_arg4) = m ((c.tc : Thread Cert.RmsQRefIdeal.nD Cert.RmsQRefIdeal.τ).loc Cert.RmsQRefIdeal.main_arg4))
      ∧ r.2.sem = fun _ => 0)

def quiescent_RmsKv [hRmsKv : Cert.RmsKv.Facts] : Prop :=
  ∀ (m : (ℓ : Loc Cert.RmsKv.nD Cert.RmsKv.τ Cert.RmsKv.sig) → Buf (Elt Bits) ℓ) (g : Dev Cert.RmsKv.nD → PrngReg), Pre_RmsKv m →
    θ_run (Cert.RmsKv.defs (F := Bits)) (onTc (τ := Cert.RmsKv.τ) (Cert.RmsKv.main (F := Bits))) ⟨m, fun _ => 0, g⟩ (fun r => (∀ c : Dev Cert.RmsKv.nD,
      r.2.mem ((c.tc : Thread Cert.RmsKv.nD Cert.RmsKv.τ).loc Cert.RmsKv.main_arg0) = m ((c.tc : Thread Cert.RmsKv.nD Cert.RmsKv.τ).loc Cert.RmsKv.main_arg0)
      ∧ r.2.mem ((c.tc : Thread Cert.RmsKv.nD Cert.RmsKv.τ).loc Cert.RmsKv.main_arg1) = m ((c.tc : Thread Cert.RmsKv.nD Cert.RmsKv.τ).loc Cert.RmsKv.main_arg1)
      ∧ r.2.mem ((c.tc : Thread Cert.RmsKv.nD Cert.RmsKv.τ).loc Cert.RmsKv.main_arg2) = m ((c.tc : Thread Cert.RmsKv.nD Cert.RmsKv.τ).loc Cert.RmsKv.main_arg2)
      ∧ r.2.mem ((c.tc : Thread Cert.RmsKv.nD Cert.RmsKv.τ).loc Cert.RmsKv.main_arg3) = m ((c.tc : Thread Cert.RmsKv.nD Cert.RmsKv.τ).loc Cert.RmsKv.main_arg3)
      ∧ r.2.mem ((c.tc : Thread Cert.RmsKv.nD Cert.RmsKv.τ).loc Cert.RmsKv.main_arg4) = m ((c.tc : Thread Cert.RmsKv.nD Cert.RmsKv.τ).loc Cert.RmsKv.main_arg4))
      ∧ r.2.sem = fun _ => 0)

def quiescent_RmsKvIdeal [hRmsKvIdeal : Cert.RmsKvIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg), Pre_RmsKvIdeal m →
    θ_run (Cert.RmsKvIdeal.defs (F := Ideal)) (onTc (τ := Cert.RmsKvIdeal.τ) (Cert.RmsKvIdeal.main (F := Ideal))) ⟨m, fun _ => 0, g⟩ (fun r => (∀ c : Dev Cert.RmsKvIdeal.nD,
      r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
      ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1)
      ∧ r.2.mem ((c.tc : Thread Cert.RmsKvIdeal.nD Cert.RmsKvIdeal.τ).loc Cert.RmsKvIdeal.main_arg2) = m ((c.tc : Thread Cert.RmsKvIdeal.nD Cert.RmsKvIdeal.τ).loc Cert.RmsKvIdeal.main_arg2)
      ∧ r.2.mem ((c.tc : Thread Cert.RmsKvIdeal.nD Cert.RmsKvIdeal.τ).loc Cert.RmsKvIdeal.main_arg3) = m ((c.tc : Thread Cert.RmsKvIdeal.nD Cert.RmsKvIdeal.τ).loc Cert.RmsKvIdeal.main_arg3)
      ∧ r.2.mem ((c.tc : Thread Cert.RmsKvIdeal.nD Cert.RmsKvIdeal.τ).loc Cert.RmsKvIdeal.main_arg4) = m ((c.tc : Thread Cert.RmsKvIdeal.nD Cert.RmsKvIdeal.τ).loc Cert.RmsKvIdeal.main_arg4))
      ∧ r.2.sem = fun _ => 0)

def quiescent_RmsKvRefIdeal [hRmsKvRefIdeal : Cert.RmsKvRefIdeal.Facts] : Prop :=
  ∀ (m : (ℓ : Loc Cert.RmsKvRefIdeal.nD Cert.RmsKvRefIdeal.τ Cert.RmsKvRefIdeal.sig) → Buf (Elt Ideal) ℓ) (g : Dev Cert.RmsKvRefIdeal.nD → PrngReg), Pre_RmsKvRefIdeal m →
    θ_run (Cert.RmsKvRefIdeal.defs (F := Ideal)) (onTc (τ := Cert.RmsKvRefIdeal.τ) (Cert.RmsKvRefIdeal.main (F := Ideal))) ⟨m, fun _ => 0, g⟩ (fun r => (∀ c : Dev Cert.RmsKvRefIdeal.nD,
      r.2.mem ((c.tc : Thread Cert.RmsKvRefIdeal.nD Cert.RmsKvRefIdeal.τ).loc Cert.RmsKvRefIdeal.main_arg0) = m ((c.tc : Thread Cert.RmsKvRefIdeal.nD Cert.RmsKvRefIdeal.τ).loc Cert.RmsKvRefIdeal.main_arg0)
      ∧ r.2.mem ((c.tc : Thread Cert.RmsKvRefIdeal.nD Cert.RmsKvRefIdeal.τ).loc Cert.RmsKvRefIdeal.main_arg1) = m ((c.tc : Thread Cert.RmsKvRefIdeal.nD Cert.RmsKvRefIdeal.τ).loc Cert.RmsKvRefIdeal.main_arg1)
      ∧ r.2.mem ((c.tc : Thread Cert.RmsKvRefIdeal.nD Cert.RmsKvRefIdeal.τ).loc Cert.RmsKvRefIdeal.main_arg2) = m ((c.tc : Thread Cert.RmsKvRefIdeal.nD Cert.RmsKvRefIdeal.τ).loc Cert.RmsKvRefIdeal.main_arg2)
      ∧ r.2.mem ((c.tc : Thread Cert.RmsKvRefIdeal.nD Cert.RmsKvRefIdeal.τ).loc Cert.RmsKvRefIdeal.main_arg3) = m ((c.tc : Thread Cert.RmsKvRefIdeal.nD Cert.RmsKvRefIdeal.τ).loc Cert.RmsKvRefIdeal.main_arg3)
      ∧ r.2.mem ((c.tc : Thread Cert.RmsKvRefIdeal.nD Cert.RmsKvRefIdeal.τ).loc Cert.RmsKvRefIdeal.main_arg4) = m ((c.tc : Thread Cert.RmsKvRefIdeal.nD Cert.RmsKvRefIdeal.τ).loc Cert.RmsKvRefIdeal.main_arg4))
      ∧ r.2.sem = fun _ => 0)

def quiescent_RmsUp [hRmsUp : Cert.RmsUp.Facts] : Prop :=
  ∀ (m : (ℓ : Loc Cert.RmsUp.nD Cert.RmsUp.τ Cert.RmsUp.sig) → Buf (Elt Bits) ℓ) (g : Dev Cert.RmsUp.nD → PrngReg), Pre_RmsUp m →
    θ_run (Cert.RmsUp.defs (F := Bits)) (onTc (τ := Cert.RmsUp.τ) (Cert.RmsUp.main (F := Bits))) ⟨m, fun _ => 0, g⟩ (fun r => (∀ c : Dev Cert.RmsUp.nD,
      r.2.mem ((c.tc : Thread Cert.RmsUp.nD Cert.RmsUp.τ).loc Cert.RmsUp.main_arg0) = m ((c.tc : Thread Cert.RmsUp.nD Cert.RmsUp.τ).loc Cert.RmsUp.main_arg0)
      ∧ r.2.mem ((c.tc : Thread Cert.RmsUp.nD Cert.RmsUp.τ).loc Cert.RmsUp.main_arg1) = m ((c.tc : Thread Cert.RmsUp.nD Cert.RmsUp.τ).loc Cert.RmsUp.main_arg1)
      ∧ r.2.mem ((c.tc : Thread Cert.RmsUp.nD Cert.RmsUp.τ).loc Cert.RmsUp.main_arg2) = m ((c.tc : Thread Cert.RmsUp.nD Cert.RmsUp.τ).loc Cert.RmsUp.main_arg2)
      ∧ r.2.mem ((c.tc : Thread Cert.RmsUp.nD Cert.RmsUp.τ).loc Cert.RmsUp.main_arg3) = m ((c.tc : Thread Cert.RmsUp.nD Cert.RmsUp.τ).loc Cert.RmsUp.main_arg3)
      ∧ r.2.mem ((c.tc : Thread Cert.RmsUp.nD Cert.RmsUp.τ).loc Cert.RmsUp.main_arg4) = m ((c.tc : Thread Cert.RmsUp.nD Cert.RmsUp.τ).loc Cert.RmsUp.main_arg4))
      ∧ r.2.sem = fun _ => 0)

def quiescent_RmsUpIdeal [hRmsUpIdeal : Cert.RmsUpIdeal.Facts] : Prop :=
  ∀ (m : (ℓ : Loc Cert.RmsUpIdeal.nD Cert.RmsUpIdeal.τ Cert.RmsUpIdeal.sig) → Buf (Elt Ideal) ℓ) (g : Dev Cert.RmsUpIdeal.nD → PrngReg), Pre_RmsUpIdeal m →
    θ_run (Cert.RmsUpIdeal.defs (F := Ideal)) (onTc (τ := Cert.RmsUpIdeal.τ) (Cert.RmsUpIdeal.main (F := Ideal))) ⟨m, fun _ => 0, g⟩ (fun r => (∀ c : Dev Cert.RmsUpIdeal.nD,
      r.2.mem ((c.tc : Thread Cert.RmsUpIdeal.nD Cert.RmsUpIdeal.τ).loc Cert.RmsUpIdeal.main_arg0) = m ((c.tc : Thread Cert.RmsUpIdeal.nD Cert.RmsUpIdeal.τ).loc Cert.RmsUpIdeal.main_arg0)
      ∧ r.2.mem ((c.tc : Thread Cert.RmsUpIdeal.nD Cert.RmsUpIdeal.τ).loc Cert.RmsUpIdeal.main_arg1) = m ((c.tc : Thread Cert.RmsUpIdeal.nD Cert.RmsUpIdeal.τ).loc Cert.RmsUpIdeal.main_arg1)
      ∧ r.2.mem ((c.tc : Thread Cert.RmsUpIdeal.nD Cert.RmsUpIdeal.τ).loc Cert.RmsUpIdeal.main_arg2) = m ((c.tc : Thread Cert.RmsUpIdeal.nD Cert.RmsUpIdeal.τ).loc Cert.RmsUpIdeal.main_arg2)
      ∧ r.2.mem ((c.tc : Thread Cert.RmsUpIdeal.nD Cert.RmsUpIdeal.τ).loc Cert.RmsUpIdeal.main_arg3) = m ((c.tc : Thread Cert.RmsUpIdeal.nD Cert.RmsUpIdeal.τ).loc Cert.RmsUpIdeal.main_arg3)
      ∧ r.2.mem ((c.tc : Thread Cert.RmsUpIdeal.nD Cert.RmsUpIdeal.τ).loc Cert.RmsUpIdeal.main_arg4) = m ((c.tc : Thread Cert.RmsUpIdeal.nD Cert.RmsUpIdeal.τ).loc Cert.RmsUpIdeal.main_arg4))
      ∧ r.2.sem = fun _ => 0)

def quiescent_RmsUpRefIdeal [hRmsUpRefIdeal : Cert.RmsUpRefIdeal.Facts] : Prop :=
  ∀ (m : (ℓ : Loc Cert.RmsUpRefIdeal.nD Cert.RmsUpRefIdeal.τ Cert.RmsUpRefIdeal.sig) → Buf (Elt Ideal) ℓ) (g : Dev Cert.RmsUpRefIdeal.nD → PrngReg), Pre_RmsUpRefIdeal m →
    θ_run (Cert.RmsUpRefIdeal.defs (F := Ideal)) (onTc (τ := Cert.RmsUpRefIdeal.τ) (Cert.RmsUpRefIdeal.main (F := Ideal))) ⟨m, fun _ => 0, g⟩ (fun r => (∀ c : Dev Cert.RmsUpRefIdeal.nD,
      r.2.mem ((c.tc : Thread Cert.RmsUpRefIdeal.nD Cert.RmsUpRefIdeal.τ).loc Cert.RmsUpRefIdeal.main_arg0) = m ((c.tc : Thread Cert.RmsUpRefIdeal.nD Cert.RmsUpRefIdeal.τ).loc Cert.RmsUpRefIdeal.main_arg0)
      ∧ r.2.mem ((c.tc : Thread Cert.RmsUpRefIdeal.nD Cert.RmsUpRefIdeal.τ).loc Cert.RmsUpRefIdeal.main_arg1) = m ((c.tc : Thread Cert.RmsUpRefIdeal.nD Cert.RmsUpRefIdeal.τ).loc Cert.RmsUpRefIdeal.main_arg1)
      ∧ r.2.mem ((c.tc : Thread Cert.RmsUpRefIdeal.nD Cert.RmsUpRefIdeal.τ).loc Cert.RmsUpRefIdeal.main_arg2) = m ((c.tc : Thread Cert.RmsUpRefIdeal.nD Cert.RmsUpRefIdeal.τ).loc Cert.RmsUpRefIdeal.main_arg2)
      ∧ r.2.mem ((c.tc : Thread Cert.RmsUpRefIdeal.nD Cert.RmsUpRefIdeal.τ).loc Cert.RmsUpRefIdeal.main_arg3) = m ((c.tc : Thread Cert.RmsUpRefIdeal.nD Cert.RmsUpRefIdeal.τ).loc Cert.RmsUpRefIdeal.main_arg3)
      ∧ r.2.mem ((c.tc : Thread Cert.RmsUpRefIdeal.nD Cert.RmsUpRefIdeal.τ).loc Cert.RmsUpRefIdeal.main_arg4) = m ((c.tc : Thread Cert.RmsUpRefIdeal.nD Cert.RmsUpRefIdeal.τ).loc Cert.RmsUpRefIdeal.main_arg4))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1)
      ∧ r.2.mem ((c.tc : Thread Cert.RmsIn.nD Cert.RmsIn.τ).loc Cert.RmsIn.main_arg2) = m ((c.tc : Thread Cert.RmsIn.nD Cert.RmsIn.τ).loc Cert.RmsIn.main_arg2)
      ∧ r.2.mem ((c.tc : Thread Cert.RmsIn.nD Cert.RmsIn.τ).loc Cert.RmsIn.main_arg3) = m ((c.tc : Thread Cert.RmsIn.nD Cert.RmsIn.τ).loc Cert.RmsIn.main_arg3)
      ∧ r.2.mem ((c.tc : Thread Cert.RmsIn.nD Cert.RmsIn.τ).loc Cert.RmsIn.main_arg4) = m ((c.tc : Thread Cert.RmsIn.nD Cert.RmsIn.τ).loc Cert.RmsIn.main_arg4))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
      ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2)
      ∧ r.2.mem ((c.tc : Thread Cert.RmsInIdeal.nD Cert.RmsInIdeal.τ).loc Cert.RmsInIdeal.main_arg3) = m ((c.tc : Thread Cert.RmsInIdeal.nD Cert.RmsInIdeal.τ).loc Cert.RmsInIdeal.main_arg3)
      ∧ r.2.mem ((c.tc : Thread Cert.RmsInIdeal.nD Cert.RmsInIdeal.τ).loc Cert.RmsInIdeal.main_arg4) = m ((c.tc : Thread Cert.RmsInIdeal.nD Cert.RmsInIdeal.τ).loc Cert.RmsInIdeal.main_arg4))
      ∧ r.2.sem = fun _ => 0)

def quiescent_RmsInRefIdeal [hRmsInRefIdeal : Cert.RmsInRefIdeal.Facts] : Prop :=
  ∀ (m : (ℓ : Loc Cert.RmsInRefIdeal.nD Cert.RmsInRefIdeal.τ Cert.RmsInRefIdeal.sig) → Buf (Elt Ideal) ℓ) (g : Dev Cert.RmsInRefIdeal.nD → PrngReg), Pre_RmsInRefIdeal m →
    θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1)
      ∧ r.2.mem ((c.tc : Thread Cert.RmsInRefIdeal.nD Cert.RmsInRefIdeal.τ).loc Cert.RmsInRefIdeal.main_arg2) = m ((c.tc : Thread Cert.RmsInRefIdeal.nD Cert.RmsInRefIdeal.τ).loc Cert.RmsInRefIdeal.main_arg2)
      ∧ r.2.mem ((c.tc : Thread Cert.RmsInRefIdeal.nD Cert.RmsInRefIdeal.τ).loc Cert.RmsInRefIdeal.main_arg3) = m ((c.tc : Thread Cert.RmsInRefIdeal.nD Cert.RmsInRefIdeal.τ).loc Cert.RmsInRefIdeal.main_arg3)
      ∧ r.2.mem ((c.tc : Thread Cert.RmsInRefIdeal.nD Cert.RmsInRefIdeal.τ).loc Cert.RmsInRefIdeal.main_arg4) = m ((c.tc : Thread Cert.RmsInRefIdeal.nD Cert.RmsInRefIdeal.τ).loc Cert.RmsInRefIdeal.main_arg4))
      ∧ r.2.sem = fun _ => 0)

def quiescent_MatRes [hMatRes : Cert.MatRes.Facts] : Prop :=
  ∀ (m : (ℓ : Loc Cert.MatRes.nD Cert.MatRes.τ Cert.MatRes.sig) → Buf (Elt Bits) ℓ) (g : Dev Cert.MatRes.nD → PrngReg), Pre_MatRes m →
    θ_run (Cert.MatRes.defs (F := Bits)) (onTc (τ := Cert.MatRes.τ) (Cert.MatRes.main (F := Bits))) ⟨m, fun _ => 0, g⟩ (fun r => (∀ c : Dev Cert.MatRes.nD,
      r.2.mem ((c.tc : Thread Cert.MatRes.nD Cert.MatRes.τ).loc Cert.MatRes.main_arg0) = m ((c.tc : Thread Cert.MatRes.nD Cert.MatRes.τ).loc Cert.MatRes.main_arg0)
      ∧ r.2.mem ((c.tc : Thread Cert.MatRes.nD Cert.MatRes.τ).loc Cert.MatRes.main_arg1) = m ((c.tc : Thread Cert.MatRes.nD Cert.MatRes.τ).loc Cert.MatRes.main_arg1)
      ∧ r.2.mem ((c.tc : Thread Cert.MatRes.nD Cert.MatRes.τ).loc Cert.MatRes.main_arg2) = m ((c.tc : Thread Cert.MatRes.nD Cert.MatRes.τ).loc Cert.MatRes.main_arg2))
      ∧ r.2.sem = fun _ => 0)

def quiescent_MatResIdeal [hMatResIdeal : Cert.MatResIdeal.Facts] : Prop :=
  ∀ (m : (ℓ : Loc Cert.MatResIdeal.nD Cert.MatResIdeal.τ Cert.MatResIdeal.sig) → Buf (Elt Ideal) ℓ) (g : Dev Cert.MatResIdeal.nD → PrngReg), Pre_MatResIdeal m →
    θ_run (Cert.MatResIdeal.defs (F := Ideal)) (onTc (τ := Cert.MatResIdeal.τ) (Cert.MatResIdeal.main (F := Ideal))) ⟨m, fun _ => 0, g⟩ (fun r => (∀ c : Dev Cert.MatResIdeal.nD,
      r.2.mem ((c.tc : Thread Cert.MatResIdeal.nD Cert.MatResIdeal.τ).loc Cert.MatResIdeal.main_arg0) = m ((c.tc : Thread Cert.MatResIdeal.nD Cert.MatResIdeal.τ).loc Cert.MatResIdeal.main_arg0)
      ∧ r.2.mem ((c.tc : Thread Cert.MatResIdeal.nD Cert.MatResIdeal.τ).loc Cert.MatResIdeal.main_arg1) = m ((c.tc : Thread Cert.MatResIdeal.nD Cert.MatResIdeal.τ).loc Cert.MatResIdeal.main_arg1)
      ∧ r.2.mem ((c.tc : Thread Cert.MatResIdeal.nD Cert.MatResIdeal.τ).loc Cert.MatResIdeal.main_arg2) = m ((c.tc : Thread Cert.MatResIdeal.nD Cert.MatResIdeal.τ).loc Cert.MatResIdeal.main_arg2))
      ∧ r.2.sem = fun _ => 0)

def quiescent_MatResRefIdeal [hMatResRefIdeal : Cert.MatResRefIdeal.Facts] : Prop :=
  ∀ (m : (ℓ : Loc Cert.MatResRefIdeal.nD Cert.MatResRefIdeal.τ Cert.MatResRefIdeal.sig) → Buf (Elt Ideal) ℓ) (g : Dev Cert.MatResRefIdeal.nD → PrngReg), Pre_MatResRefIdeal m →
    θ_run (Cert.MatResRefIdeal.defs (F := Ideal)) (onTc (τ := Cert.MatResRefIdeal.τ) (Cert.MatResRefIdeal.main (F := Ideal))) ⟨m, fun _ => 0, g⟩ (fun r => (∀ c : Dev Cert.MatResRefIdeal.nD,
      r.2.mem ((c.tc : Thread Cert.MatResRefIdeal.nD Cert.MatResRefIdeal.τ).loc Cert.MatResRefIdeal.main_arg0) = m ((c.tc : Thread Cert.MatResRefIdeal.nD Cert.MatResRefIdeal.τ).loc Cert.MatResRefIdeal.main_arg0)
      ∧ r.2.mem ((c.tc : Thread Cert.MatResRefIdeal.nD Cert.MatResRefIdeal.τ).loc Cert.MatResRefIdeal.main_arg1) = m ((c.tc : Thread Cert.MatResRefIdeal.nD Cert.MatResRefIdeal.τ).loc Cert.MatResRefIdeal.main_arg1)
      ∧ r.2.mem ((c.tc : Thread Cert.MatResRefIdeal.nD Cert.MatResRefIdeal.τ).loc Cert.MatResRefIdeal.main_arg2) = m ((c.tc : Thread Cert.MatResRefIdeal.nD Cert.MatResRefIdeal.τ).loc Cert.MatResRefIdeal.main_arg2))
      ∧ r.2.sem = fun _ => 0)

def quiescent_MatNt [hMatNt : Cert.MatNt.Facts] : Prop :=
  ∀ (m : (ℓ : Loc Cert.MatNt.nD Cert.MatNt.τ Cert.MatNt.sig) → Buf (Elt Bits) ℓ) (g : Dev Cert.MatNt.nD → PrngReg), Pre_MatNt m →
    θ_run (Cert.MatNt.defs (F := Bits)) (onTc (τ := Cert.MatNt.τ) (Cert.MatNt.main (F := Bits))) ⟨m, fun _ => 0, g⟩ (fun r => (∀ c : Dev Cert.MatNt.nD,
      r.2.mem ((c.tc : Thread Cert.MatNt.nD Cert.MatNt.τ).loc Cert.MatNt.main_arg0) = m ((c.tc : Thread Cert.MatNt.nD Cert.MatNt.τ).loc Cert.MatNt.main_arg0)
      ∧ r.2.mem ((c.tc : Thread Cert.MatNt.nD Cert.MatNt.τ).loc Cert.MatNt.main_arg1) = m ((c.tc : Thread Cert.MatNt.nD Cert.MatNt.τ).loc Cert.MatNt.main_arg1))
      ∧ r.2.sem = fun _ => 0)

def quiescent_MatNtIdeal [hMatNtIdeal : Cert.MatNtIdeal.Facts] : Prop :=
  ∀ (m : (ℓ : Loc Cert.MatNtIdeal.nD Cert.MatNtIdeal.τ Cert.MatNtIdeal.sig) → Buf (Elt Ideal) ℓ) (g : Dev Cert.MatNtIdeal.nD → PrngReg), Pre_MatNtIdeal m →
    θ_run (Cert.MatNtIdeal.defs (F := Ideal)) (onTc (τ := Cert.MatNtIdeal.τ) (Cert.MatNtIdeal.main (F := Ideal))) ⟨m, fun _ => 0, g⟩ (fun r => (∀ c : Dev Cert.MatNtIdeal.nD,
      r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
      ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1))
      ∧ r.2.sem = fun _ => 0)

def quiescent_MatNtRefIdeal [hMatNtRefIdeal : Cert.MatNtRefIdeal.Facts] : Prop :=
  ∀ (m : (ℓ : Loc Cert.MatNtRefIdeal.nD Cert.MatNtRefIdeal.τ Cert.MatNtRefIdeal.sig) → Buf (Elt Ideal) ℓ) (g : Dev Cert.MatNtRefIdeal.nD → PrngReg), Pre_MatNtRefIdeal m →
    θ_run (Cert.MatNtRefIdeal.defs (F := Ideal)) (onTc (τ := Cert.MatNtRefIdeal.τ) (Cert.MatNtRefIdeal.main (F := Ideal))) ⟨m, fun _ => 0, g⟩ (fun r => (∀ c : Dev Cert.MatNtRefIdeal.nD,
      r.2.mem ((c.tc : Thread Cert.MatNtRefIdeal.nD Cert.MatNtRefIdeal.τ).loc Cert.MatNtRefIdeal.main_arg0) = m ((c.tc : Thread Cert.MatNtRefIdeal.nD Cert.MatNtRefIdeal.τ).loc Cert.MatNtRefIdeal.main_arg0)
      ∧ r.2.mem ((c.tc : Thread Cert.MatNtRefIdeal.nD Cert.MatNtRefIdeal.τ).loc Cert.MatNtRefIdeal.main_arg1) = m ((c.tc : Thread Cert.MatNtRefIdeal.nD Cert.MatNtRefIdeal.τ).loc Cert.MatNtRefIdeal.main_arg1))
      ∧ r.2.sem = fun _ => 0)

def quiescent_MatTn [hMatTn : Cert.MatTn.Facts] : Prop :=
  ∀ (m : (ℓ : Loc Cert.MatTn.nD Cert.MatTn.τ Cert.MatTn.sig) → Buf (Elt Bits) ℓ) (g : Dev Cert.MatTn.nD → PrngReg), Pre_MatTn m →
    θ_run (Cert.MatTn.defs (F := Bits)) (onTc (τ := Cert.MatTn.τ) (Cert.MatTn.main (F := Bits))) ⟨m, fun _ => 0, g⟩ (fun r => (∀ c : Dev Cert.MatTn.nD,
      r.2.mem ((c.tc : Thread Cert.MatTn.nD Cert.MatTn.τ).loc Cert.MatTn.main_arg0) = m ((c.tc : Thread Cert.MatTn.nD Cert.MatTn.τ).loc Cert.MatTn.main_arg0)
      ∧ r.2.mem ((c.tc : Thread Cert.MatTn.nD Cert.MatTn.τ).loc Cert.MatTn.main_arg1) = m ((c.tc : Thread Cert.MatTn.nD Cert.MatTn.τ).loc Cert.MatTn.main_arg1))
      ∧ r.2.sem = fun _ => 0)

def quiescent_MatTnIdeal [hMatTnIdeal : Cert.MatTnIdeal.Facts] : Prop :=
  ∀ (m : (ℓ : Loc Cert.MatTnIdeal.nD Cert.MatTnIdeal.τ Cert.MatTnIdeal.sig) → Buf (Elt Ideal) ℓ) (g : Dev Cert.MatTnIdeal.nD → PrngReg), Pre_MatTnIdeal m →
    θ_run (Cert.MatTnIdeal.defs (F := Ideal)) (onTc (τ := Cert.MatTnIdeal.τ) (Cert.MatTnIdeal.main (F := Ideal))) ⟨m, fun _ => 0, g⟩ (fun r => (∀ c : Dev Cert.MatTnIdeal.nD,
      r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
      ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1))
      ∧ r.2.sem = fun _ => 0)

def quiescent_MatTnRefIdeal [hMatTnRefIdeal : Cert.MatTnRefIdeal.Facts] : Prop :=
  ∀ (m : (ℓ : Loc Cert.MatTnRefIdeal.nD Cert.MatTnRefIdeal.τ Cert.MatTnRefIdeal.sig) → Buf (Elt Ideal) ℓ) (g : Dev Cert.MatTnRefIdeal.nD → PrngReg), Pre_MatTnRefIdeal m →
    θ_run (Cert.MatTnRefIdeal.defs (F := Ideal)) (onTc (τ := Cert.MatTnRefIdeal.τ) (Cert.MatTnRefIdeal.main (F := Ideal))) ⟨m, fun _ => 0, g⟩ (fun r => (∀ c : Dev Cert.MatTnRefIdeal.nD,
      r.2.mem ((c.tc : Thread Cert.MatTnRefIdeal.nD Cert.MatTnRefIdeal.τ).loc Cert.MatTnRefIdeal.main_arg0) = m ((c.tc : Thread Cert.MatTnRefIdeal.nD Cert.MatTnRefIdeal.τ).loc Cert.MatTnRefIdeal.main_arg0)
      ∧ r.2.mem ((c.tc : Thread Cert.MatTnRefIdeal.nD Cert.MatTnRefIdeal.τ).loc Cert.MatTnRefIdeal.main_arg1) = m ((c.tc : Thread Cert.MatTnRefIdeal.nD Cert.MatTnRefIdeal.τ).loc Cert.MatTnRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0))
      ∧ r.2.sem = fun _ => 0)

def quiescent_RowSplit [hRowSplit : Cert.RowSplit.Facts] : Prop :=
  ∀ (m : (ℓ : Loc Cert.RowSplit.nD Cert.RowSplit.τ Cert.RowSplit.sig) → Buf (Elt Bits) ℓ) (g : Dev Cert.RowSplit.nD → PrngReg), Pre_RowSplit m →
    θ_run (Cert.RowSplit.defs (F := Bits)) (onTc (τ := Cert.RowSplit.τ) (Cert.RowSplit.main (F := Bits))) ⟨m, fun _ => 0, g⟩ (fun r => (∀ c : Dev Cert.RowSplit.nD,
      r.2.mem ((c.tc : Thread Cert.RowSplit.nD Cert.RowSplit.τ).loc Cert.RowSplit.main_arg0) = m ((c.tc : Thread Cert.RowSplit.nD Cert.RowSplit.τ).loc Cert.RowSplit.main_arg0)
      ∧ r.2.mem ((c.tc : Thread Cert.RowSplit.nD Cert.RowSplit.τ).loc Cert.RowSplit.main_arg1) = m ((c.tc : Thread Cert.RowSplit.nD Cert.RowSplit.τ).loc Cert.RowSplit.main_arg1))
      ∧ r.2.sem = fun _ => 0)

def quiescent_RowSplitIdeal [hRowSplitIdeal : Cert.RowSplitIdeal.Facts] : Prop :=
  ∀ (m : (ℓ : Loc Cert.RowSplitIdeal.nD Cert.RowSplitIdeal.τ Cert.RowSplitIdeal.sig) → Buf (Elt Ideal) ℓ) (g : Dev Cert.RowSplitIdeal.nD → PrngReg), Pre_RowSplitIdeal m →
    θ_run (Cert.RowSplitIdeal.defs (F := Ideal)) (onTc (τ := Cert.RowSplitIdeal.τ) (Cert.RowSplitIdeal.main (F := Ideal))) ⟨m, fun _ => 0, g⟩ (fun r => (∀ c : Dev Cert.RowSplitIdeal.nD,
      r.2.mem ((c.tc : Thread Cert.RowSplitIdeal.nD Cert.RowSplitIdeal.τ).loc Cert.RowSplitIdeal.main_arg0) = m ((c.tc : Thread Cert.RowSplitIdeal.nD Cert.RowSplitIdeal.τ).loc Cert.RowSplitIdeal.main_arg0)
      ∧ r.2.mem ((c.tc : Thread Cert.RowSplitIdeal.nD Cert.RowSplitIdeal.τ).loc Cert.RowSplitIdeal.main_arg1) = m ((c.tc : Thread Cert.RowSplitIdeal.nD Cert.RowSplitIdeal.τ).loc Cert.RowSplitIdeal.main_arg1))
      ∧ r.2.sem = fun _ => 0)

def quiescent_RowSplitRefIdeal [hRowSplitRefIdeal : Cert.RowSplitRefIdeal.Facts] : Prop :=
  ∀ (m : (ℓ : Loc Cert.RowSplitRefIdeal.nD Cert.RowSplitRefIdeal.τ Cert.RowSplitRefIdeal.sig) → Buf (Elt Ideal) ℓ) (g : Dev Cert.RowSplitRefIdeal.nD → PrngReg), Pre_RowSplitRefIdeal m →
    θ_run (Cert.RowSplitRefIdeal.defs (F := Ideal)) (onTc (τ := Cert.RowSplitRefIdeal.τ) (Cert.RowSplitRefIdeal.main (F := Ideal))) ⟨m, fun _ => 0, g⟩ (fun r => (∀ c : Dev Cert.RowSplitRefIdeal.nD,
      r.2.mem ((c.tc : Thread Cert.RowSplitRefIdeal.nD Cert.RowSplitRefIdeal.τ).loc Cert.RowSplitRefIdeal.main_arg0) = m ((c.tc : Thread Cert.RowSplitRefIdeal.nD Cert.RowSplitRefIdeal.τ).loc Cert.RowSplitRefIdeal.main_arg0)
      ∧ r.2.mem ((c.tc : Thread Cert.RowSplitRefIdeal.nD Cert.RowSplitRefIdeal.τ).loc Cert.RowSplitRefIdeal.main_arg1) = m ((c.tc : Thread Cert.RowSplitRefIdeal.nD Cert.RowSplitRefIdeal.τ).loc Cert.RowSplitRefIdeal.main_arg1))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v16) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_v18) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v6_0)) (v1 : (c : Dev Cert.GateIdeal.nD) → Buf (Elt Ideal) ((c.tc : Thread Cert.GateIdeal.nD Cert.GateIdeal.τ).loc Cert.GateIdeal.main_v6_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6_0) = v0 c
          ∧ r.2.mem ((c.tc : Thread Cert.GateIdeal.nD Cert.GateIdeal.τ).loc Cert.GateIdeal.main_v6_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v18) = v0 c
          ∧ r.2.mem ((c.tc : Thread Cert.GateRefIdeal.nD Cert.GateRefIdeal.τ).loc Cert.GateRefIdeal.main_v19) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v4)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v4) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v9) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_Fox_FoxIdeal : Prop :=
  IdealRules.named_const.Statement Cert.FoxIdeal.κ "mask" .f32 0xF149F2CA#32 ⊥

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v61_0)) (v1 : (c : Dev Cert.FoxIdeal.nD) → Buf (Elt Ideal) ((c.tc : Thread Cert.FoxIdeal.nD Cert.FoxIdeal.τ).loc Cert.FoxIdeal.main_v61_1)) (v2 : (c : Dev Cert.FoxIdeal.nD) → Buf (Elt Ideal) ((c.tc : Thread Cert.FoxIdeal.nD Cert.FoxIdeal.τ).loc Cert.FoxIdeal.main_v61_2)) (v3 : (c : Dev Cert.FoxIdeal.nD) → Buf (Elt Ideal) ((c.tc : Thread Cert.FoxIdeal.nD Cert.FoxIdeal.τ).loc Cert.FoxIdeal.main_v61_3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v61_0) = v0 c
          ∧ r.2.mem ((c.tc : Thread Cert.FoxIdeal.nD Cert.FoxIdeal.τ).loc Cert.FoxIdeal.main_v61_1) = v1 c
          ∧ r.2.mem ((c.tc : Thread Cert.FoxIdeal.nD Cert.FoxIdeal.τ).loc Cert.FoxIdeal.main_v61_2) = v2 c
          ∧ r.2.mem ((c.tc : Thread Cert.FoxIdeal.nD Cert.FoxIdeal.τ).loc Cert.FoxIdeal.main_v61_3) = v3 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v168) = v0 c
          ∧ r.2.mem ((c.tc : Thread Cert.FoxRefIdeal.nD Cert.FoxRefIdeal.τ).loc Cert.FoxRefIdeal.main_v170) = v1 c
          ∧ r.2.mem ((c.tc : Thread Cert.FoxRefIdeal.nD Cert.FoxRefIdeal.τ).loc Cert.FoxRefIdeal.main_v162) = v2 c
          ∧ r.2.mem ((c.tc : Thread Cert.FoxRefIdeal.nD Cert.FoxRefIdeal.τ).loc Cert.FoxRefIdeal.main_v138) = v3 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_FoxFwd_FoxFwdIdeal : Prop :=
  IdealRules.named_const.Statement Cert.FoxFwdIdeal.κ "mask" .f32 0xF149F2CA#32 ⊥

def algebraic_FoxFwdIdeal_FoxFwdRefIdeal_pre_foxf_finite [hFoxFwdIdeal : Cert.FoxFwdIdeal.Facts] [hFoxFwdRefIdeal : Cert.FoxFwdRefIdeal.Facts] [hPre_foxf_finite : Cert.Pre_foxf_finite.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_foxf_finite m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)
      ∧ m' ((c.tc : Thread Cert.FoxFwdRefIdeal.nD Cert.FoxFwdRefIdeal.τ).loc Cert.FoxFwdRefIdeal.main_arg3) = m ((c.tc : Thread Cert.FoxFwdIdeal.nD Cert.FoxFwdIdeal.τ).loc Cert.FoxFwdIdeal.main_arg3)) →
    ∃ (v0 : (c : Dev Cert.FoxFwdIdeal.nD) → Buf (Elt Ideal) ((c.tc : Thread Cert.FoxFwdIdeal.nD Cert.FoxFwdIdeal.τ).loc Cert.FoxFwdIdeal.main_v3_0)) (v1 : (c : Dev Cert.FoxFwdIdeal.nD) → Buf (Elt Ideal) ((c.tc : Thread Cert.FoxFwdIdeal.nD Cert.FoxFwdIdeal.τ).loc Cert.FoxFwdIdeal.main_v3_1)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v3_0) = v0 c
          ∧ r.2.mem ((c.tc : Thread Cert.FoxFwdIdeal.nD Cert.FoxFwdIdeal.τ).loc Cert.FoxFwdIdeal.main_v3_1) = v1 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2)
          ∧ r.2.mem ((c.tc : Thread Cert.FoxFwdIdeal.nD Cert.FoxFwdIdeal.τ).loc Cert.FoxFwdIdeal.main_arg3) = m ((c.tc : Thread Cert.FoxFwdIdeal.nD Cert.FoxFwdIdeal.τ).loc Cert.FoxFwdIdeal.main_arg3))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v117) = v0 c
          ∧ r.2.mem ((c.tc : Thread Cert.FoxFwdRefIdeal.nD Cert.FoxFwdRefIdeal.τ).loc Cert.FoxFwdRefIdeal.main_v118) = v1 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2)
          ∧ r.2.mem ((c.tc : Thread Cert.FoxFwdRefIdeal.nD Cert.FoxFwdRefIdeal.τ).loc Cert.FoxFwdRefIdeal.main_arg3) = m' ((c.tc : Thread Cert.FoxFwdRefIdeal.nD Cert.FoxFwdRefIdeal.τ).loc Cert.FoxFwdRefIdeal.main_arg3))

def preserves_NormKv_NormKvIdeal : Prop :=
  True

def algebraic_NormKvIdeal_NormKvRefIdeal [hNormKvIdeal : Cert.NormKvIdeal.Facts] [hNormKvRefIdeal : Cert.NormKvRefIdeal.Facts] : Prop :=
  ∀ (m : (ℓ : Loc Cert.NormKvIdeal.nD Cert.NormKvIdeal.τ Cert.NormKvIdeal.sig) → Buf (Elt Ideal) ℓ) (g : Dev Cert.NormKvIdeal.nD → PrngReg)
    (m' : (ℓ : Loc Cert.NormKvRefIdeal.nD Cert.NormKvRefIdeal.τ Cert.NormKvRefIdeal.sig) → Buf (Elt Ideal) ℓ) (g' : Dev Cert.NormKvRefIdeal.nD → PrngReg), Pre_NormKvIdeal m →
    (∀ c : Dev Cert.NormKvIdeal.nD,
      m' ((c.tc : Thread Cert.NormKvRefIdeal.nD Cert.NormKvRefIdeal.τ).loc Cert.NormKvRefIdeal.main_arg0) = m ((c.tc : Thread Cert.NormKvIdeal.nD Cert.NormKvIdeal.τ).loc Cert.NormKvIdeal.main_arg0)
      ∧ m' ((c.tc : Thread Cert.NormKvRefIdeal.nD Cert.NormKvRefIdeal.τ).loc Cert.NormKvRefIdeal.main_arg1) = m ((c.tc : Thread Cert.NormKvIdeal.nD Cert.NormKvIdeal.τ).loc Cert.NormKvIdeal.main_arg1)
      ∧ m' ((c.tc : Thread Cert.NormKvRefIdeal.nD Cert.NormKvRefIdeal.τ).loc Cert.NormKvRefIdeal.main_arg2) = m ((c.tc : Thread Cert.NormKvIdeal.nD Cert.NormKvIdeal.τ).loc Cert.NormKvIdeal.main_arg2)) →
    ∃ (v0 : (c : Dev Cert.NormKvIdeal.nD) → Buf (Elt Ideal) ((c.tc : Thread Cert.NormKvIdeal.nD Cert.NormKvIdeal.τ).loc Cert.NormKvIdeal.main_v2_0)) (v1 : (c : Dev Cert.NormKvIdeal.nD) → Buf (Elt Ideal) ((c.tc : Thread Cert.NormKvIdeal.nD Cert.NormKvIdeal.τ).loc Cert.NormKvIdeal.main_v2_1)),
      θ_run (Cert.NormKvIdeal.defs (F := Ideal)) (onTc (τ := Cert.NormKvIdeal.τ) (Cert.NormKvIdeal.main (F := Ideal))) ⟨m, fun _ => 0, g⟩ (fun r => ∀ c : Dev Cert.NormKvIdeal.nD,
          r.2.mem ((c.tc : Thread Cert.NormKvIdeal.nD Cert.NormKvIdeal.τ).loc Cert.NormKvIdeal.main_v2_0) = v0 c
          ∧ r.2.mem ((c.tc : Thread Cert.NormKvIdeal.nD Cert.NormKvIdeal.τ).loc Cert.NormKvIdeal.main_v2_1) = v1 c
          ∧ r.2.mem ((c.tc : Thread Cert.NormKvIdeal.nD Cert.NormKvIdeal.τ).loc Cert.NormKvIdeal.main_arg0) = m ((c.tc : Thread Cert.NormKvIdeal.nD Cert.NormKvIdeal.τ).loc Cert.NormKvIdeal.main_arg0)
          ∧ r.2.mem ((c.tc : Thread Cert.NormKvIdeal.nD Cert.NormKvIdeal.τ).loc Cert.NormKvIdeal.main_arg1) = m ((c.tc : Thread Cert.NormKvIdeal.nD Cert.NormKvIdeal.τ).loc Cert.NormKvIdeal.main_arg1)
          ∧ r.2.mem ((c.tc : Thread Cert.NormKvIdeal.nD Cert.NormKvIdeal.τ).loc Cert.NormKvIdeal.main_arg2) = m ((c.tc : Thread Cert.NormKvIdeal.nD Cert.NormKvIdeal.τ).loc Cert.NormKvIdeal.main_arg2))
      ∧ θ_run (Cert.NormKvRefIdeal.defs (F := Ideal)) (onTc (τ := Cert.NormKvRefIdeal.τ) (Cert.NormKvRefIdeal.main (F := Ideal))) ⟨m', fun _ => 0, g'⟩ (fun r => ∀ c : Dev Cert.NormKvRefIdeal.nD,
          r.2.mem ((c.tc : Thread Cert.NormKvRefIdeal.nD Cert.NormKvRefIdeal.τ).loc Cert.NormKvRefIdeal.main_v13) = v0 c
          ∧ r.2.mem ((c.tc : Thread Cert.NormKvRefIdeal.nD Cert.NormKvRefIdeal.τ).loc Cert.NormKvRefIdeal.main_v14) = v1 c
          ∧ r.2.mem ((c.tc : Thread Cert.NormKvRefIdeal.nD Cert.NormKvRefIdeal.τ).loc Cert.NormKvRefIdeal.main_arg0) = m' ((c.tc : Thread Cert.NormKvRefIdeal.nD Cert.NormKvRefIdeal.τ).loc Cert.NormKvRefIdeal.main_arg0)
          ∧ r.2.mem ((c.tc : Thread Cert.NormKvRefIdeal.nD Cert.NormKvRefIdeal.τ).loc Cert.NormKvRefIdeal.main_arg1) = m' ((c.tc : Thread Cert.NormKvRefIdeal.nD Cert.NormKvRefIdeal.τ).loc Cert.NormKvRefIdeal.main_arg1)
          ∧ r.2.mem ((c.tc : Thread Cert.NormKvRefIdeal.nD Cert.NormKvRefIdeal.τ).loc Cert.NormKvRefIdeal.main_arg2) = m' ((c.tc : Thread Cert.NormKvRefIdeal.nD Cert.NormKvRefIdeal.τ).loc Cert.NormKvRefIdeal.main_arg2))

def preserves_Relu_ReluIdeal : Prop :=
  True

def algebraic_ReluIdeal_ReluRefIdeal [hReluIdeal : Cert.ReluIdeal.Facts] [hReluRefIdeal : Cert.ReluRefIdeal.Facts] : Prop :=
  ∀ (m : (ℓ : Loc Cert.ReluIdeal.nD Cert.ReluIdeal.τ Cert.ReluIdeal.sig) → Buf (Elt Ideal) ℓ) (g : Dev Cert.ReluIdeal.nD → PrngReg)
    (m' : (ℓ : Loc Cert.ReluRefIdeal.nD Cert.ReluRefIdeal.τ Cert.ReluRefIdeal.sig) → Buf (Elt Ideal) ℓ) (g' : Dev Cert.ReluRefIdeal.nD → PrngReg), Pre_ReluIdeal m →
    (∀ c : Dev Cert.ReluIdeal.nD,
      m' ((c.tc : Thread Cert.ReluRefIdeal.nD Cert.ReluRefIdeal.τ).loc Cert.ReluRefIdeal.main_arg0) = m ((c.tc : Thread Cert.ReluIdeal.nD Cert.ReluIdeal.τ).loc Cert.ReluIdeal.main_arg0)
      ∧ m' ((c.tc : Thread Cert.ReluRefIdeal.nD Cert.ReluRefIdeal.τ).loc Cert.ReluRefIdeal.main_arg1) = m ((c.tc : Thread Cert.ReluIdeal.nD Cert.ReluIdeal.τ).loc Cert.ReluIdeal.main_arg1)
      ∧ m' ((c.tc : Thread Cert.ReluRefIdeal.nD Cert.ReluRefIdeal.τ).loc Cert.ReluRefIdeal.main_arg2) = m ((c.tc : Thread Cert.ReluIdeal.nD Cert.ReluIdeal.τ).loc Cert.ReluIdeal.main_arg2)) →
    ∃ (v0 : (c : Dev Cert.ReluIdeal.nD) → Buf (Elt Ideal) ((c.tc : Thread Cert.ReluIdeal.nD Cert.ReluIdeal.τ).loc Cert.ReluIdeal.main_v5)),
      θ_run (Cert.ReluIdeal.defs (F := Ideal)) (onTc (τ := Cert.ReluIdeal.τ) (Cert.ReluIdeal.main (F := Ideal))) ⟨m, fun _ => 0, g⟩ (fun r => ∀ c : Dev Cert.ReluIdeal.nD,
          r.2.mem ((c.tc : Thread Cert.ReluIdeal.nD Cert.ReluIdeal.τ).loc Cert.ReluIdeal.main_v5) = v0 c
          ∧ r.2.mem ((c.tc : Thread Cert.ReluIdeal.nD Cert.ReluIdeal.τ).loc Cert.ReluIdeal.main_arg0) = m ((c.tc : Thread Cert.ReluIdeal.nD Cert.ReluIdeal.τ).loc Cert.ReluIdeal.main_arg0)
          ∧ r.2.mem ((c.tc : Thread Cert.ReluIdeal.nD Cert.ReluIdeal.τ).loc Cert.ReluIdeal.main_arg1) = m ((c.tc : Thread Cert.ReluIdeal.nD Cert.ReluIdeal.τ).loc Cert.ReluIdeal.main_arg1)
          ∧ r.2.mem ((c.tc : Thread Cert.ReluIdeal.nD Cert.ReluIdeal.τ).loc Cert.ReluIdeal.main_arg2) = m ((c.tc : Thread Cert.ReluIdeal.nD Cert.ReluIdeal.τ).loc Cert.ReluIdeal.main_arg2))
      ∧ θ_run (Cert.ReluRefIdeal.defs (F := Ideal)) (onTc (τ := Cert.ReluRefIdeal.τ) (Cert.ReluRefIdeal.main (F := Ideal))) ⟨m', fun _ => 0, g'⟩ (fun r => ∀ c : Dev Cert.ReluRefIdeal.nD,
          r.2.mem ((c.tc : Thread Cert.ReluRefIdeal.nD Cert.ReluRefIdeal.τ).loc Cert.ReluRefIdeal.main_v14) = v0 c
          ∧ r.2.mem ((c.tc : Thread Cert.ReluRefIdeal.nD Cert.ReluRefIdeal.τ).loc Cert.ReluRefIdeal.main_arg0) = m' ((c.tc : Thread Cert.ReluRefIdeal.nD Cert.ReluRefIdeal.τ).loc Cert.ReluRefIdeal.main_arg0)
          ∧ r.2.mem ((c.tc : Thread Cert.ReluRefIdeal.nD Cert.ReluRefIdeal.τ).loc Cert.ReluRefIdeal.main_arg1) = m' ((c.tc : Thread Cert.ReluRefIdeal.nD Cert.ReluRefIdeal.τ).loc Cert.ReluRefIdeal.main_arg1)
          ∧ r.2.mem ((c.tc : Thread Cert.ReluRefIdeal.nD Cert.ReluRefIdeal.τ).loc Cert.ReluRefIdeal.main_arg2) = m' ((c.tc : Thread Cert.ReluRefIdeal.nD Cert.ReluRefIdeal.τ).loc Cert.ReluRefIdeal.main_arg2))

def preserves_RmsQ_RmsQIdeal : Prop :=
  True

def algebraic_RmsQIdeal_RmsQRefIdeal [hRmsQIdeal : Cert.RmsQIdeal.Facts] [hRmsQRefIdeal : Cert.RmsQRefIdeal.Facts] : Prop :=
  ∀ (m : (ℓ : Loc Cert.RmsQIdeal.nD Cert.RmsQIdeal.τ Cert.RmsQIdeal.sig) → Buf (Elt Ideal) ℓ) (g : Dev Cert.RmsQIdeal.nD → PrngReg)
    (m' : (ℓ : Loc Cert.RmsQRefIdeal.nD Cert.RmsQRefIdeal.τ Cert.RmsQRefIdeal.sig) → Buf (Elt Ideal) ℓ) (g' : Dev Cert.RmsQRefIdeal.nD → PrngReg), Pre_RmsQIdeal m →
    (∀ c : Dev Cert.RmsQIdeal.nD,
      m' ((c.tc : Thread Cert.RmsQRefIdeal.nD Cert.RmsQRefIdeal.τ).loc Cert.RmsQRefIdeal.main_arg0) = m ((c.tc : Thread Cert.RmsQIdeal.nD Cert.RmsQIdeal.τ).loc Cert.RmsQIdeal.main_arg0)
      ∧ m' ((c.tc : Thread Cert.RmsQRefIdeal.nD Cert.RmsQRefIdeal.τ).loc Cert.RmsQRefIdeal.main_arg1) = m ((c.tc : Thread Cert.RmsQIdeal.nD Cert.RmsQIdeal.τ).loc Cert.RmsQIdeal.main_arg1)
      ∧ m' ((c.tc : Thread Cert.RmsQRefIdeal.nD Cert.RmsQRefIdeal.τ).loc Cert.RmsQRefIdeal.main_arg2) = m ((c.tc : Thread Cert.RmsQIdeal.nD Cert.RmsQIdeal.τ).loc Cert.RmsQIdeal.main_arg2)
      ∧ m' ((c.tc : Thread Cert.RmsQRefIdeal.nD Cert.RmsQRefIdeal.τ).loc Cert.RmsQRefIdeal.main_arg3) = m ((c.tc : Thread Cert.RmsQIdeal.nD Cert.RmsQIdeal.τ).loc Cert.RmsQIdeal.main_arg3)
      ∧ m' ((c.tc : Thread Cert.RmsQRefIdeal.nD Cert.RmsQRefIdeal.τ).loc Cert.RmsQRefIdeal.main_arg4) = m ((c.tc : Thread Cert.RmsQIdeal.nD Cert.RmsQIdeal.τ).loc Cert.RmsQIdeal.main_arg4)) →
    ∃ (v0 : (c : Dev Cert.RmsQIdeal.nD) → Buf (Elt Ideal) ((c.tc : Thread Cert.RmsQIdeal.nD Cert.RmsQIdeal.τ).loc Cert.RmsQIdeal.main_v3_0)) (v1 : (c : Dev Cert.RmsQIdeal.nD) → Buf (Elt Ideal) ((c.tc : Thread Cert.RmsQIdeal.nD Cert.RmsQIdeal.τ).loc Cert.RmsQIdeal.main_v3_1)),
      θ_run (Cert.RmsQIdeal.defs (F := Ideal)) (onTc (τ := Cert.RmsQIdeal.τ) (Cert.RmsQIdeal.main (F := Ideal))) ⟨m, fun _ => 0, g⟩ (fun r => ∀ c : Dev Cert.RmsQIdeal.nD,
          r.2.mem ((c.tc : Thread Cert.RmsQIdeal.nD Cert.RmsQIdeal.τ).loc Cert.RmsQIdeal.main_v3_0) = v0 c
          ∧ r.2.mem ((c.tc : Thread Cert.RmsQIdeal.nD Cert.RmsQIdeal.τ).loc Cert.RmsQIdeal.main_v3_1) = v1 c
          ∧ r.2.mem ((c.tc : Thread Cert.RmsQIdeal.nD Cert.RmsQIdeal.τ).loc Cert.RmsQIdeal.main_arg0) = m ((c.tc : Thread Cert.RmsQIdeal.nD Cert.RmsQIdeal.τ).loc Cert.RmsQIdeal.main_arg0)
          ∧ r.2.mem ((c.tc : Thread Cert.RmsQIdeal.nD Cert.RmsQIdeal.τ).loc Cert.RmsQIdeal.main_arg1) = m ((c.tc : Thread Cert.RmsQIdeal.nD Cert.RmsQIdeal.τ).loc Cert.RmsQIdeal.main_arg1)
          ∧ r.2.mem ((c.tc : Thread Cert.RmsQIdeal.nD Cert.RmsQIdeal.τ).loc Cert.RmsQIdeal.main_arg2) = m ((c.tc : Thread Cert.RmsQIdeal.nD Cert.RmsQIdeal.τ).loc Cert.RmsQIdeal.main_arg2)
          ∧ r.2.mem ((c.tc : Thread Cert.RmsQIdeal.nD Cert.RmsQIdeal.τ).loc Cert.RmsQIdeal.main_arg3) = m ((c.tc : Thread Cert.RmsQIdeal.nD Cert.RmsQIdeal.τ).loc Cert.RmsQIdeal.main_arg3)
          ∧ r.2.mem ((c.tc : Thread Cert.RmsQIdeal.nD Cert.RmsQIdeal.τ).loc Cert.RmsQIdeal.main_arg4) = m ((c.tc : Thread Cert.RmsQIdeal.nD Cert.RmsQIdeal.τ).loc Cert.RmsQIdeal.main_arg4))
      ∧ θ_run (Cert.RmsQRefIdeal.defs (F := Ideal)) (onTc (τ := Cert.RmsQRefIdeal.τ) (Cert.RmsQRefIdeal.main (F := Ideal))) ⟨m', fun _ => 0, g'⟩ (fun r => ∀ c : Dev Cert.RmsQRefIdeal.nD,
          r.2.mem ((c.tc : Thread Cert.RmsQRefIdeal.nD Cert.RmsQRefIdeal.τ).loc Cert.RmsQRefIdeal.main_v38) = v0 c
          ∧ r.2.mem ((c.tc : Thread Cert.RmsQRefIdeal.nD Cert.RmsQRefIdeal.τ).loc Cert.RmsQRefIdeal.main_v39) = v1 c
          ∧ r.2.mem ((c.tc : Thread Cert.RmsQRefIdeal.nD Cert.RmsQRefIdeal.τ).loc Cert.RmsQRefIdeal.main_arg0) = m' ((c.tc : Thread Cert.RmsQRefIdeal.nD Cert.RmsQRefIdeal.τ).loc Cert.RmsQRefIdeal.main_arg0)
          ∧ r.2.mem ((c.tc : Thread Cert.RmsQRefIdeal.nD Cert.RmsQRefIdeal.τ).loc Cert.RmsQRefIdeal.main_arg1) = m' ((c.tc : Thread Cert.RmsQRefIdeal.nD Cert.RmsQRefIdeal.τ).loc Cert.RmsQRefIdeal.main_arg1)
          ∧ r.2.mem ((c.tc : Thread Cert.RmsQRefIdeal.nD Cert.RmsQRefIdeal.τ).loc Cert.RmsQRefIdeal.main_arg2) = m' ((c.tc : Thread Cert.RmsQRefIdeal.nD Cert.RmsQRefIdeal.τ).loc Cert.RmsQRefIdeal.main_arg2)
          ∧ r.2.mem ((c.tc : Thread Cert.RmsQRefIdeal.nD Cert.RmsQRefIdeal.τ).loc Cert.RmsQRefIdeal.main_arg3) = m' ((c.tc : Thread Cert.RmsQRefIdeal.nD Cert.RmsQRefIdeal.τ).loc Cert.RmsQRefIdeal.main_arg3)
          ∧ r.2.mem ((c.tc : Thread Cert.RmsQRefIdeal.nD Cert.RmsQRefIdeal.τ).loc Cert.RmsQRefIdeal.main_arg4) = m' ((c.tc : Thread Cert.RmsQRefIdeal.nD Cert.RmsQRefIdeal.τ).loc Cert.RmsQRefIdeal.main_arg4))

def preserves_RmsKv_RmsKvIdeal : Prop :=
  True

def algebraic_RmsKvIdeal_RmsKvRefIdeal [hRmsKvIdeal : Cert.RmsKvIdeal.Facts] [hRmsKvRefIdeal : Cert.RmsKvRefIdeal.Facts] : Prop :=
  ∀ (m : (ℓ : Loc Cert.RmsKvIdeal.nD Cert.RmsKvIdeal.τ Cert.RmsKvIdeal.sig) → Buf (Elt Ideal) ℓ) (g : Dev Cert.RmsKvIdeal.nD → PrngReg)
    (m' : (ℓ : Loc Cert.RmsKvRefIdeal.nD Cert.RmsKvRefIdeal.τ Cert.RmsKvRefIdeal.sig) → Buf (Elt Ideal) ℓ) (g' : Dev Cert.RmsKvRefIdeal.nD → PrngReg), Pre_RmsKvIdeal m →
    (∀ c : Dev Cert.RmsKvIdeal.nD,
      m' ((c.tc : Thread Cert.RmsKvRefIdeal.nD Cert.RmsKvRefIdeal.τ).loc Cert.RmsKvRefIdeal.main_arg0) = m ((c.tc : Thread Cert.RmsKvIdeal.nD Cert.RmsKvIdeal.τ).loc Cert.RmsKvIdeal.main_arg0)
      ∧ m' ((c.tc : Thread Cert.RmsKvRefIdeal.nD Cert.RmsKvRefIdeal.τ).loc Cert.RmsKvRefIdeal.main_arg1) = m ((c.tc : Thread Cert.RmsKvIdeal.nD Cert.RmsKvIdeal.τ).loc Cert.RmsKvIdeal.main_arg1)
      ∧ m' ((c.tc : Thread Cert.RmsKvRefIdeal.nD Cert.RmsKvRefIdeal.τ).loc Cert.RmsKvRefIdeal.main_arg2) = m ((c.tc : Thread Cert.RmsKvIdeal.nD Cert.RmsKvIdeal.τ).loc Cert.RmsKvIdeal.main_arg2)
      ∧ m' ((c.tc : Thread Cert.RmsKvRefIdeal.nD Cert.RmsKvRefIdeal.τ).loc Cert.RmsKvRefIdeal.main_arg3) = m ((c.tc : Thread Cert.RmsKvIdeal.nD Cert.RmsKvIdeal.τ).loc Cert.RmsKvIdeal.main_arg3)
      ∧ m' ((c.tc : Thread Cert.RmsKvRefIdeal.nD Cert.RmsKvRefIdeal.τ).loc Cert.RmsKvRefIdeal.main_arg4) = m ((c.tc : Thread Cert.RmsKvIdeal.nD Cert.RmsKvIdeal.τ).loc Cert.RmsKvIdeal.main_arg4)) →
    ∃ (v0 : (c : Dev Cert.RmsKvIdeal.nD) → Buf (Elt Ideal) ((c.tc : Thread Cert.RmsKvIdeal.nD Cert.RmsKvIdeal.τ).loc Cert.RmsKvIdeal.main_v2_0)) (v1 : (c : Dev Cert.RmsKvIdeal.nD) → Buf (Elt Ideal) ((c.tc : Thread Cert.RmsKvIdeal.nD Cert.RmsKvIdeal.τ).loc Cert.RmsKvIdeal.main_v2_2)) (v2 : (c : Dev Cert.RmsKvIdeal.nD) → Buf (Elt Ideal) ((c.tc : Thread Cert.RmsKvIdeal.nD Cert.RmsKvIdeal.τ).loc Cert.RmsKvIdeal.main_v2_1)),
      θ_run (Cert.RmsKvIdeal.defs (F := Ideal)) (onTc (τ := Cert.RmsKvIdeal.τ) (Cert.RmsKvIdeal.main (F := Ideal))) ⟨m, fun _ => 0, g⟩ (fun r => ∀ c : Dev Cert.RmsKvIdeal.nD,
          r.2.mem ((c.tc : Thread Cert.RmsKvIdeal.nD Cert.RmsKvIdeal.τ).loc Cert.RmsKvIdeal.main_v2_0) = v0 c
          ∧ r.2.mem ((c.tc : Thread Cert.RmsKvIdeal.nD Cert.RmsKvIdeal.τ).loc Cert.RmsKvIdeal.main_v2_2) = v1 c
          ∧ r.2.mem ((c.tc : Thread Cert.RmsKvIdeal.nD Cert.RmsKvIdeal.τ).loc Cert.RmsKvIdeal.main_v2_1) = v2 c
          ∧ r.2.mem ((c.tc : Thread Cert.RmsKvIdeal.nD Cert.RmsKvIdeal.τ).loc Cert.RmsKvIdeal.main_arg0) = m ((c.tc : Thread Cert.RmsKvIdeal.nD Cert.RmsKvIdeal.τ).loc Cert.RmsKvIdeal.main_arg0)
          ∧ r.2.mem ((c.tc : Thread Cert.RmsKvIdeal.nD Cert.RmsKvIdeal.τ).loc Cert.RmsKvIdeal.main_arg1) = m ((c.tc : Thread Cert.RmsKvIdeal.nD Cert.RmsKvIdeal.τ).loc Cert.RmsKvIdeal.main_arg1)
          ∧ r.2.mem ((c.tc : Thread Cert.RmsKvIdeal.nD Cert.RmsKvIdeal.τ).loc Cert.RmsKvIdeal.main_arg2) = m ((c.tc : Thread Cert.RmsKvIdeal.nD Cert.RmsKvIdeal.τ).loc Cert.RmsKvIdeal.main_arg2)
          ∧ r.2.mem ((c.tc : Thread Cert.RmsKvIdeal.nD Cert.RmsKvIdeal.τ).loc Cert.RmsKvIdeal.main_arg3) = m ((c.tc : Thread Cert.RmsKvIdeal.nD Cert.RmsKvIdeal.τ).loc Cert.RmsKvIdeal.main_arg3)
          ∧ r.2.mem ((c.tc : Thread Cert.RmsKvIdeal.nD Cert.RmsKvIdeal.τ).loc Cert.RmsKvIdeal.main_arg4) = m ((c.tc : Thread Cert.RmsKvIdeal.nD Cert.RmsKvIdeal.τ).loc Cert.RmsKvIdeal.main_arg4))
      ∧ θ_run (Cert.RmsKvRefIdeal.defs (F := Ideal)) (onTc (τ := Cert.RmsKvRefIdeal.τ) (Cert.RmsKvRefIdeal.main (F := Ideal))) ⟨m', fun _ => 0, g'⟩ (fun r => ∀ c : Dev Cert.RmsKvRefIdeal.nD,
          r.2.mem ((c.tc : Thread Cert.RmsKvRefIdeal.nD Cert.RmsKvRefIdeal.τ).loc Cert.RmsKvRefIdeal.main_v38) = v0 c
          ∧ r.2.mem ((c.tc : Thread Cert.RmsKvRefIdeal.nD Cert.RmsKvRefIdeal.τ).loc Cert.RmsKvRefIdeal.main_v40) = v1 c
          ∧ r.2.mem ((c.tc : Thread Cert.RmsKvRefIdeal.nD Cert.RmsKvRefIdeal.τ).loc Cert.RmsKvRefIdeal.main_v41) = v2 c
          ∧ r.2.mem ((c.tc : Thread Cert.RmsKvRefIdeal.nD Cert.RmsKvRefIdeal.τ).loc Cert.RmsKvRefIdeal.main_arg0) = m' ((c.tc : Thread Cert.RmsKvRefIdeal.nD Cert.RmsKvRefIdeal.τ).loc Cert.RmsKvRefIdeal.main_arg0)
          ∧ r.2.mem ((c.tc : Thread Cert.RmsKvRefIdeal.nD Cert.RmsKvRefIdeal.τ).loc Cert.RmsKvRefIdeal.main_arg1) = m' ((c.tc : Thread Cert.RmsKvRefIdeal.nD Cert.RmsKvRefIdeal.τ).loc Cert.RmsKvRefIdeal.main_arg1)
          ∧ r.2.mem ((c.tc : Thread Cert.RmsKvRefIdeal.nD Cert.RmsKvRefIdeal.τ).loc Cert.RmsKvRefIdeal.main_arg2) = m' ((c.tc : Thread Cert.RmsKvRefIdeal.nD Cert.RmsKvRefIdeal.τ).loc Cert.RmsKvRefIdeal.main_arg2)
          ∧ r.2.mem ((c.tc : Thread Cert.RmsKvRefIdeal.nD Cert.RmsKvRefIdeal.τ).loc Cert.RmsKvRefIdeal.main_arg3) = m' ((c.tc : Thread Cert.RmsKvRefIdeal.nD Cert.RmsKvRefIdeal.τ).loc Cert.RmsKvRefIdeal.main_arg3)
          ∧ r.2.mem ((c.tc : Thread Cert.RmsKvRefIdeal.nD Cert.RmsKvRefIdeal.τ).loc Cert.RmsKvRefIdeal.main_arg4) = m' ((c.tc : Thread Cert.RmsKvRefIdeal.nD Cert.RmsKvRefIdeal.τ).loc Cert.RmsKvRefIdeal.main_arg4))

def preserves_RmsUp_RmsUpIdeal : Prop :=
  True

def algebraic_RmsUpIdeal_RmsUpRefIdeal [hRmsUpIdeal : Cert.RmsUpIdeal.Facts] [hRmsUpRefIdeal : Cert.RmsUpRefIdeal.Facts] : Prop :=
  ∀ (m : (ℓ : Loc Cert.RmsUpIdeal.nD Cert.RmsUpIdeal.τ Cert.RmsUpIdeal.sig) → Buf (Elt Ideal) ℓ) (g : Dev Cert.RmsUpIdeal.nD → PrngReg)
    (m' : (ℓ : Loc Cert.RmsUpRefIdeal.nD Cert.RmsUpRefIdeal.τ Cert.RmsUpRefIdeal.sig) → Buf (Elt Ideal) ℓ) (g' : Dev Cert.RmsUpRefIdeal.nD → PrngReg), Pre_RmsUpIdeal m →
    (∀ c : Dev Cert.RmsUpIdeal.nD,
      m' ((c.tc : Thread Cert.RmsUpRefIdeal.nD Cert.RmsUpRefIdeal.τ).loc Cert.RmsUpRefIdeal.main_arg0) = m ((c.tc : Thread Cert.RmsUpIdeal.nD Cert.RmsUpIdeal.τ).loc Cert.RmsUpIdeal.main_arg0)
      ∧ m' ((c.tc : Thread Cert.RmsUpRefIdeal.nD Cert.RmsUpRefIdeal.τ).loc Cert.RmsUpRefIdeal.main_arg1) = m ((c.tc : Thread Cert.RmsUpIdeal.nD Cert.RmsUpIdeal.τ).loc Cert.RmsUpIdeal.main_arg1)
      ∧ m' ((c.tc : Thread Cert.RmsUpRefIdeal.nD Cert.RmsUpRefIdeal.τ).loc Cert.RmsUpRefIdeal.main_arg2) = m ((c.tc : Thread Cert.RmsUpIdeal.nD Cert.RmsUpIdeal.τ).loc Cert.RmsUpIdeal.main_arg2)
      ∧ m' ((c.tc : Thread Cert.RmsUpRefIdeal.nD Cert.RmsUpRefIdeal.τ).loc Cert.RmsUpRefIdeal.main_arg3) = m ((c.tc : Thread Cert.RmsUpIdeal.nD Cert.RmsUpIdeal.τ).loc Cert.RmsUpIdeal.main_arg3)
      ∧ m' ((c.tc : Thread Cert.RmsUpRefIdeal.nD Cert.RmsUpRefIdeal.τ).loc Cert.RmsUpRefIdeal.main_arg4) = m ((c.tc : Thread Cert.RmsUpIdeal.nD Cert.RmsUpIdeal.τ).loc Cert.RmsUpIdeal.main_arg4)) →
    ∃ (v0 : (c : Dev Cert.RmsUpIdeal.nD) → Buf (Elt Ideal) ((c.tc : Thread Cert.RmsUpIdeal.nD Cert.RmsUpIdeal.τ).loc Cert.RmsUpIdeal.main_v5_0)) (v1 : (c : Dev Cert.RmsUpIdeal.nD) → Buf (Elt Ideal) ((c.tc : Thread Cert.RmsUpIdeal.nD Cert.RmsUpIdeal.τ).loc Cert.RmsUpIdeal.main_v5_2)) (v2 : (c : Dev Cert.RmsUpIdeal.nD) → Buf (Elt Ideal) ((c.tc : Thread Cert.RmsUpIdeal.nD Cert.RmsUpIdeal.τ).loc Cert.RmsUpIdeal.main_v5_1)),
      θ_run (Cert.RmsUpIdeal.defs (F := Ideal)) (onTc (τ := Cert.RmsUpIdeal.τ) (Cert.RmsUpIdeal.main (F := Ideal))) ⟨m, fun _ => 0, g⟩ (fun r => ∀ c : Dev Cert.RmsUpIdeal.nD,
          r.2.mem ((c.tc : Thread Cert.RmsUpIdeal.nD Cert.RmsUpIdeal.τ).loc Cert.RmsUpIdeal.main_v5_0) = v0 c
          ∧ r.2.mem ((c.tc : Thread Cert.RmsUpIdeal.nD Cert.RmsUpIdeal.τ).loc Cert.RmsUpIdeal.main_v5_2) = v1 c
          ∧ r.2.mem ((c.tc : Thread Cert.RmsUpIdeal.nD Cert.RmsUpIdeal.τ).loc Cert.RmsUpIdeal.main_v5_1) = v2 c
          ∧ r.2.mem ((c.tc : Thread Cert.RmsUpIdeal.nD Cert.RmsUpIdeal.τ).loc Cert.RmsUpIdeal.main_arg0) = m ((c.tc : Thread Cert.RmsUpIdeal.nD Cert.RmsUpIdeal.τ).loc Cert.RmsUpIdeal.main_arg0)
          ∧ r.2.mem ((c.tc : Thread Cert.RmsUpIdeal.nD Cert.RmsUpIdeal.τ).loc Cert.RmsUpIdeal.main_arg1) = m ((c.tc : Thread Cert.RmsUpIdeal.nD Cert.RmsUpIdeal.τ).loc Cert.RmsUpIdeal.main_arg1)
          ∧ r.2.mem ((c.tc : Thread Cert.RmsUpIdeal.nD Cert.RmsUpIdeal.τ).loc Cert.RmsUpIdeal.main_arg2) = m ((c.tc : Thread Cert.RmsUpIdeal.nD Cert.RmsUpIdeal.τ).loc Cert.RmsUpIdeal.main_arg2)
          ∧ r.2.mem ((c.tc : Thread Cert.RmsUpIdeal.nD Cert.RmsUpIdeal.τ).loc Cert.RmsUpIdeal.main_arg3) = m ((c.tc : Thread Cert.RmsUpIdeal.nD Cert.RmsUpIdeal.τ).loc Cert.RmsUpIdeal.main_arg3)
          ∧ r.2.mem ((c.tc : Thread Cert.RmsUpIdeal.nD Cert.RmsUpIdeal.τ).loc Cert.RmsUpIdeal.main_arg4) = m ((c.tc : Thread Cert.RmsUpIdeal.nD Cert.RmsUpIdeal.τ).loc Cert.RmsUpIdeal.main_arg4))
      ∧ θ_run (Cert.RmsUpRefIdeal.defs (F := Ideal)) (onTc (τ := Cert.RmsUpRefIdeal.τ) (Cert.RmsUpRefIdeal.main (F := Ideal))) ⟨m', fun _ => 0, g'⟩ (fun r => ∀ c : Dev Cert.RmsUpRefIdeal.nD,
          r.2.mem ((c.tc : Thread Cert.RmsUpRefIdeal.nD Cert.RmsUpRefIdeal.τ).loc Cert.RmsUpRefIdeal.main_v38) = v0 c
          ∧ r.2.mem ((c.tc : Thread Cert.RmsUpRefIdeal.nD Cert.RmsUpRefIdeal.τ).loc Cert.RmsUpRefIdeal.main_v40) = v1 c
          ∧ r.2.mem ((c.tc : Thread Cert.RmsUpRefIdeal.nD Cert.RmsUpRefIdeal.τ).loc Cert.RmsUpRefIdeal.main_v41) = v2 c
          ∧ r.2.mem ((c.tc : Thread Cert.RmsUpRefIdeal.nD Cert.RmsUpRefIdeal.τ).loc Cert.RmsUpRefIdeal.main_arg0) = m' ((c.tc : Thread Cert.RmsUpRefIdeal.nD Cert.RmsUpRefIdeal.τ).loc Cert.RmsUpRefIdeal.main_arg0)
          ∧ r.2.mem ((c.tc : Thread Cert.RmsUpRefIdeal.nD Cert.RmsUpRefIdeal.τ).loc Cert.RmsUpRefIdeal.main_arg1) = m' ((c.tc : Thread Cert.RmsUpRefIdeal.nD Cert.RmsUpRefIdeal.τ).loc Cert.RmsUpRefIdeal.main_arg1)
          ∧ r.2.mem ((c.tc : Thread Cert.RmsUpRefIdeal.nD Cert.RmsUpRefIdeal.τ).loc Cert.RmsUpRefIdeal.main_arg2) = m' ((c.tc : Thread Cert.RmsUpRefIdeal.nD Cert.RmsUpRefIdeal.τ).loc Cert.RmsUpRefIdeal.main_arg2)
          ∧ r.2.mem ((c.tc : Thread Cert.RmsUpRefIdeal.nD Cert.RmsUpRefIdeal.τ).loc Cert.RmsUpRefIdeal.main_arg3) = m' ((c.tc : Thread Cert.RmsUpRefIdeal.nD Cert.RmsUpRefIdeal.τ).loc Cert.RmsUpRefIdeal.main_arg3)
          ∧ r.2.mem ((c.tc : Thread Cert.RmsUpRefIdeal.nD Cert.RmsUpRefIdeal.τ).loc Cert.RmsUpRefIdeal.main_arg4) = m' ((c.tc : Thread Cert.RmsUpRefIdeal.nD Cert.RmsUpRefIdeal.τ).loc Cert.RmsUpRefIdeal.main_arg4))

def preserves_RmsIn_RmsInIdeal : Prop :=
  True

def algebraic_RmsInIdeal_RmsInRefIdeal [hRmsInIdeal : Cert.RmsInIdeal.Facts] [hRmsInRefIdeal : Cert.RmsInRefIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInRefIdeal.nD Cert.RmsInRefIdeal.τ Cert.RmsInRefIdeal.sig) → Buf (Elt Ideal) ℓ) (g' : Dev Cert.RmsInRefIdeal.nD → PrngReg), Pre_RmsInIdeal m →
    (∀ c : Dev Cert.RmsInIdeal.nD,
      m' ((c.tc : Thread Cert.RmsInRefIdeal.nD Cert.RmsInRefIdeal.τ).loc Cert.RmsInRefIdeal.main_arg0) = m ((c.tc : Thread Cert.RmsInIdeal.nD Cert.RmsInIdeal.τ).loc Cert.RmsInIdeal.main_arg0)
      ∧ m' ((c.tc : Thread Cert.RmsInRefIdeal.nD Cert.RmsInRefIdeal.τ).loc Cert.RmsInRefIdeal.main_arg1) = m ((c.tc : Thread Cert.RmsInIdeal.nD Cert.RmsInIdeal.τ).loc Cert.RmsInIdeal.main_arg1)
      ∧ m' ((c.tc : Thread Cert.RmsInRefIdeal.nD Cert.RmsInRefIdeal.τ).loc Cert.RmsInRefIdeal.main_arg2) = m ((c.tc : Thread Cert.RmsInIdeal.nD Cert.RmsInIdeal.τ).loc Cert.RmsInIdeal.main_arg2)
      ∧ m' ((c.tc : Thread Cert.RmsInRefIdeal.nD Cert.RmsInRefIdeal.τ).loc Cert.RmsInRefIdeal.main_arg3) = m ((c.tc : Thread Cert.RmsInIdeal.nD Cert.RmsInIdeal.τ).loc Cert.RmsInIdeal.main_arg3)
      ∧ m' ((c.tc : Thread Cert.RmsInRefIdeal.nD Cert.RmsInRefIdeal.τ).loc Cert.RmsInRefIdeal.main_arg4) = m ((c.tc : Thread Cert.RmsInIdeal.nD Cert.RmsInIdeal.τ).loc Cert.RmsInIdeal.main_arg4)) →
    ∃ (v0 : (c : Dev Cert.RmsInIdeal.nD) → Buf (Elt Ideal) ((c.tc : Thread Cert.RmsInIdeal.nD Cert.RmsInIdeal.τ).loc Cert.RmsInIdeal.main_v11_0)) (v1 : (c : Dev Cert.RmsInIdeal.nD) → Buf (Elt Ideal) ((c.tc : Thread Cert.RmsInIdeal.nD Cert.RmsInIdeal.τ).loc Cert.RmsInIdeal.main_v11_1)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v11_0) = v0 c
          ∧ r.2.mem ((c.tc : Thread Cert.RmsInIdeal.nD Cert.RmsInIdeal.τ).loc Cert.RmsInIdeal.main_v11_1) = v1 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1)
          ∧ r.2.mem ((c.tc : Thread Cert.RmsInIdeal.nD Cert.RmsInIdeal.τ).loc Cert.RmsInIdeal.main_arg2) = m ((c.tc : Thread Cert.RmsInIdeal.nD Cert.RmsInIdeal.τ).loc Cert.RmsInIdeal.main_arg2)
          ∧ r.2.mem ((c.tc : Thread Cert.RmsInIdeal.nD Cert.RmsInIdeal.τ).loc Cert.RmsInIdeal.main_arg3) = m ((c.tc : Thread Cert.RmsInIdeal.nD Cert.RmsInIdeal.τ).loc Cert.RmsInIdeal.main_arg3)
          ∧ r.2.mem ((c.tc : Thread Cert.RmsInIdeal.nD Cert.RmsInIdeal.τ).loc Cert.RmsInIdeal.main_arg4) = m ((c.tc : Thread Cert.RmsInIdeal.nD Cert.RmsInIdeal.τ).loc Cert.RmsInIdeal.main_arg4))
      ∧ θ_run (Cert.RmsInRefIdeal.defs (F := Ideal)) (onTc (τ := Cert.RmsInRefIdeal.τ) (Cert.RmsInRefIdeal.main (F := Ideal))) ⟨m', fun _ => 0, g'⟩ (fun r => ∀ c : Dev Cert.RmsInRefIdeal.nD,
          r.2.mem ((c.tc : Thread Cert.RmsInRefIdeal.nD Cert.RmsInRefIdeal.τ).loc Cert.RmsInRefIdeal.main_v38) = v0 c
          ∧ r.2.mem ((c.tc : Thread Cert.RmsInRefIdeal.nD Cert.RmsInRefIdeal.τ).loc Cert.RmsInRefIdeal.main_v39) = v1 c
          ∧ r.2.mem ((c.tc : Thread Cert.RmsInRefIdeal.nD Cert.RmsInRefIdeal.τ).loc Cert.RmsInRefIdeal.main_arg0) = m' ((c.tc : Thread Cert.RmsInRefIdeal.nD Cert.RmsInRefIdeal.τ).loc Cert.RmsInRefIdeal.main_arg0)
          ∧ r.2.mem ((c.tc : Thread Cert.RmsInRefIdeal.nD Cert.RmsInRefIdeal.τ).loc Cert.RmsInRefIdeal.main_arg1) = m' ((c.tc : Thread Cert.RmsInRefIdeal.nD Cert.RmsInRefIdeal.τ).loc Cert.RmsInRefIdeal.main_arg1)
          ∧ r.2.mem ((c.tc : Thread Cert.RmsInRefIdeal.nD Cert.RmsInRefIdeal.τ).loc Cert.RmsInRefIdeal.main_arg2) = m' ((c.tc : Thread Cert.RmsInRefIdeal.nD Cert.RmsInRefIdeal.τ).loc Cert.RmsInRefIdeal.main_arg2)
          ∧ r.2.mem ((c.tc : Thread Cert.RmsInRefIdeal.nD Cert.RmsInRefIdeal.τ).loc Cert.RmsInRefIdeal.main_arg3) = m' ((c.tc : Thread Cert.RmsInRefIdeal.nD Cert.RmsInRefIdeal.τ).loc Cert.RmsInRefIdeal.main_arg3)
          ∧ r.2.mem ((c.tc : Thread Cert.RmsInRefIdeal.nD Cert.RmsInRefIdeal.τ).loc Cert.RmsInRefIdeal.main_arg4) = m' ((c.tc : Thread Cert.RmsInRefIdeal.nD Cert.RmsInRefIdeal.τ).loc Cert.RmsInRefIdeal.main_arg4))

def preserves_MatRes_MatResIdeal : Prop :=
  True

def algebraic_MatResIdeal_MatResRefIdeal [hMatResIdeal : Cert.MatResIdeal.Facts] [hMatResRefIdeal : Cert.MatResRefIdeal.Facts] : Prop :=
  ∀ (m : (ℓ : Loc Cert.MatResIdeal.nD Cert.MatResIdeal.τ Cert.MatResIdeal.sig) → Buf (Elt Ideal) ℓ) (g : Dev Cert.MatResIdeal.nD → PrngReg)
    (m' : (ℓ : Loc Cert.MatResRefIdeal.nD Cert.MatResRefIdeal.τ Cert.MatResRefIdeal.sig) → Buf (Elt Ideal) ℓ) (g' : Dev Cert.MatResRefIdeal.nD → PrngReg), Pre_MatResIdeal m →
    (∀ c : Dev Cert.MatResIdeal.nD,
      m' ((c.tc : Thread Cert.MatResRefIdeal.nD Cert.MatResRefIdeal.τ).loc Cert.MatResRefIdeal.main_arg0) = m ((c.tc : Thread Cert.MatResIdeal.nD Cert.MatResIdeal.τ).loc Cert.MatResIdeal.main_arg0)
      ∧ m' ((c.tc : Thread Cert.MatResRefIdeal.nD Cert.MatResRefIdeal.τ).loc Cert.MatResRefIdeal.main_arg1) = m ((c.tc : Thread Cert.MatResIdeal.nD Cert.MatResIdeal.τ).loc Cert.MatResIdeal.main_arg1)
      ∧ m' ((c.tc : Thread Cert.MatResRefIdeal.nD Cert.MatResRefIdeal.τ).loc Cert.MatResRefIdeal.main_arg2) = m ((c.tc : Thread Cert.MatResIdeal.nD Cert.MatResIdeal.τ).loc Cert.MatResIdeal.main_arg2)) →
    ∃ (v0 : (c : Dev Cert.MatResIdeal.nD) → Buf (Elt Ideal) ((c.tc : Thread Cert.MatResIdeal.nD Cert.MatResIdeal.τ).loc Cert.MatResIdeal.main_v2)),
      θ_run (Cert.MatResIdeal.defs (F := Ideal)) (onTc (τ := Cert.MatResIdeal.τ) (Cert.MatResIdeal.main (F := Ideal))) ⟨m, fun _ => 0, g⟩ (fun r => ∀ c : Dev Cert.MatResIdeal.nD,
          r.2.mem ((c.tc : Thread Cert.MatResIdeal.nD Cert.MatResIdeal.τ).loc Cert.MatResIdeal.main_v2) = v0 c
          ∧ r.2.mem ((c.tc : Thread Cert.MatResIdeal.nD Cert.MatResIdeal.τ).loc Cert.MatResIdeal.main_arg0) = m ((c.tc : Thread Cert.MatResIdeal.nD Cert.MatResIdeal.τ).loc Cert.MatResIdeal.main_arg0)
          ∧ r.2.mem ((c.tc : Thread Cert.MatResIdeal.nD Cert.MatResIdeal.τ).loc Cert.MatResIdeal.main_arg1) = m ((c.tc : Thread Cert.MatResIdeal.nD Cert.MatResIdeal.τ).loc Cert.MatResIdeal.main_arg1)
          ∧ r.2.mem ((c.tc : Thread Cert.MatResIdeal.nD Cert.MatResIdeal.τ).loc Cert.MatResIdeal.main_arg2) = m ((c.tc : Thread Cert.MatResIdeal.nD Cert.MatResIdeal.τ).loc Cert.MatResIdeal.main_arg2))
      ∧ θ_run (Cert.MatResRefIdeal.defs (F := Ideal)) (onTc (τ := Cert.MatResRefIdeal.τ) (Cert.MatResRefIdeal.main (F := Ideal))) ⟨m', fun _ => 0, g'⟩ (fun r => ∀ c : Dev Cert.MatResRefIdeal.nD,
          r.2.mem ((c.tc : Thread Cert.MatResRefIdeal.nD Cert.MatResRefIdeal.τ).loc Cert.MatResRefIdeal.main_v1) = v0 c
          ∧ r.2.mem ((c.tc : Thread Cert.MatResRefIdeal.nD Cert.MatResRefIdeal.τ).loc Cert.MatResRefIdeal.main_arg0) = m' ((c.tc : Thread Cert.MatResRefIdeal.nD Cert.MatResRefIdeal.τ).loc Cert.MatResRefIdeal.main_arg0)
          ∧ r.2.mem ((c.tc : Thread Cert.MatResRefIdeal.nD Cert.MatResRefIdeal.τ).loc Cert.MatResRefIdeal.main_arg1) = m' ((c.tc : Thread Cert.MatResRefIdeal.nD Cert.MatResRefIdeal.τ).loc Cert.MatResRefIdeal.main_arg1)
          ∧ r.2.mem ((c.tc : Thread Cert.MatResRefIdeal.nD Cert.MatResRefIdeal.τ).loc Cert.MatResRefIdeal.main_arg2) = m' ((c.tc : Thread Cert.MatResRefIdeal.nD Cert.MatResRefIdeal.τ).loc Cert.MatResRefIdeal.main_arg2))

def preserves_MatNt_MatNtIdeal : Prop :=
  True

def algebraic_MatNtIdeal_MatNtRefIdeal [hMatNtIdeal : Cert.MatNtIdeal.Facts] [hMatNtRefIdeal : Cert.MatNtRefIdeal.Facts] : Prop :=
  ∀ (m : (ℓ : Loc Cert.MatNtIdeal.nD Cert.MatNtIdeal.τ Cert.MatNtIdeal.sig) → Buf (Elt Ideal) ℓ) (g : Dev Cert.MatNtIdeal.nD → PrngReg)
    (m' : (ℓ : Loc Cert.MatNtRefIdeal.nD Cert.MatNtRefIdeal.τ Cert.MatNtRefIdeal.sig) → Buf (Elt Ideal) ℓ) (g' : Dev Cert.MatNtRefIdeal.nD → PrngReg), Pre_MatNtIdeal m →
    (∀ c : Dev Cert.MatNtIdeal.nD,
      m' ((c.tc : Thread Cert.MatNtRefIdeal.nD Cert.MatNtRefIdeal.τ).loc Cert.MatNtRefIdeal.main_arg0) = m ((c.tc : Thread Cert.MatNtIdeal.nD Cert.MatNtIdeal.τ).loc Cert.MatNtIdeal.main_arg0)
      ∧ m' ((c.tc : Thread Cert.MatNtRefIdeal.nD Cert.MatNtRefIdeal.τ).loc Cert.MatNtRefIdeal.main_arg1) = m ((c.tc : Thread Cert.MatNtIdeal.nD Cert.MatNtIdeal.τ).loc Cert.MatNtIdeal.main_arg1)) →
    ∃ (v0 : (c : Dev Cert.MatNtIdeal.nD) → Buf (Elt Ideal) ((c.tc : Thread Cert.MatNtIdeal.nD Cert.MatNtIdeal.τ).loc Cert.MatNtIdeal.main_v2)),
      θ_run (Cert.MatNtIdeal.defs (F := Ideal)) (onTc (τ := Cert.MatNtIdeal.τ) (Cert.MatNtIdeal.main (F := Ideal))) ⟨m, fun _ => 0, g⟩ (fun r => ∀ c : Dev Cert.MatNtIdeal.nD,
          r.2.mem ((c.tc : Thread Cert.MatNtIdeal.nD Cert.MatNtIdeal.τ).loc Cert.MatNtIdeal.main_v2) = v0 c
          ∧ r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
          ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1))
      ∧ θ_run (Cert.MatNtRefIdeal.defs (F := Ideal)) (onTc (τ := Cert.MatNtRefIdeal.τ) (Cert.MatNtRefIdeal.main (F := Ideal))) ⟨m', fun _ => 0, g'⟩ (fun r => ∀ c : Dev Cert.MatNtRefIdeal.nD,
          r.2.mem ((c.tc : Thread Cert.MatNtRefIdeal.nD Cert.MatNtRefIdeal.τ).loc Cert.MatNtRefIdeal.main_v3) = v0 c
          ∧ r.2.mem ((c.tc : Thread Cert.MatNtRefIdeal.nD Cert.MatNtRefIdeal.τ).loc Cert.MatNtRefIdeal.main_arg0) = m' ((c.tc : Thread Cert.MatNtRefIdeal.nD Cert.MatNtRefIdeal.τ).loc Cert.MatNtRefIdeal.main_arg0)
          ∧ r.2.mem ((c.tc : Thread Cert.MatNtRefIdeal.nD Cert.MatNtRefIdeal.τ).loc Cert.MatNtRefIdeal.main_arg1) = m' ((c.tc : Thread Cert.MatNtRefIdeal.nD Cert.MatNtRefIdeal.τ).loc Cert.MatNtRefIdeal.main_arg1))

def preserves_MatTn_MatTnIdeal : Prop :=
  True

def algebraic_MatTnIdeal_MatTnRefIdeal [hMatTnIdeal : Cert.MatTnIdeal.Facts] [hMatTnRefIdeal : Cert.MatTnRefIdeal.Facts] : Prop :=
  ∀ (m : (ℓ : Loc Cert.MatTnIdeal.nD Cert.MatTnIdeal.τ Cert.MatTnIdeal.sig) → Buf (Elt Ideal) ℓ) (g : Dev Cert.MatTnIdeal.nD → PrngReg)
    (m' : (ℓ : Loc Cert.MatTnRefIdeal.nD Cert.MatTnRefIdeal.τ Cert.MatTnRefIdeal.sig) → Buf (Elt Ideal) ℓ) (g' : Dev Cert.MatTnRefIdeal.nD → PrngReg), Pre_MatTnIdeal m →
    (∀ c : Dev Cert.MatTnIdeal.nD,
      m' ((c.tc : Thread Cert.MatTnRefIdeal.nD Cert.MatTnRefIdeal.τ).loc Cert.MatTnRefIdeal.main_arg0) = m ((c.tc : Thread Cert.MatTnIdeal.nD Cert.MatTnIdeal.τ).loc Cert.MatTnIdeal.main_arg0)
      ∧ m' ((c.tc : Thread Cert.MatTnRefIdeal.nD Cert.MatTnRefIdeal.τ).loc Cert.MatTnRefIdeal.main_arg1) = m ((c.tc : Thread Cert.MatTnIdeal.nD Cert.MatTnIdeal.τ).loc Cert.MatTnIdeal.main_arg1)) →
    ∃ (v0 : (c : Dev Cert.MatTnIdeal.nD) → Buf (Elt Ideal) ((c.tc : Thread Cert.MatTnIdeal.nD Cert.MatTnIdeal.τ).loc Cert.MatTnIdeal.main_v2)),
      θ_run (Cert.MatTnIdeal.defs (F := Ideal)) (onTc (τ := Cert.MatTnIdeal.τ) (Cert.MatTnIdeal.main (F := Ideal))) ⟨m, fun _ => 0, g⟩ (fun r => ∀ c : Dev Cert.MatTnIdeal.nD,
          r.2.mem ((c.tc : Thread Cert.MatTnIdeal.nD Cert.MatTnIdeal.τ).loc Cert.MatTnIdeal.main_v2) = v0 c
          ∧ r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
          ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1))
      ∧ θ_run (Cert.MatTnRefIdeal.defs (F := Ideal)) (onTc (τ := Cert.MatTnRefIdeal.τ) (Cert.MatTnRefIdeal.main (F := Ideal))) ⟨m', fun _ => 0, g'⟩ (fun r => ∀ c : Dev Cert.MatTnRefIdeal.nD,
          r.2.mem ((c.tc : Thread Cert.MatTnRefIdeal.nD Cert.MatTnRefIdeal.τ).loc Cert.MatTnRefIdeal.main_v4) = v0 c
          ∧ r.2.mem ((c.tc : Thread Cert.MatTnRefIdeal.nD Cert.MatTnRefIdeal.τ).loc Cert.MatTnRefIdeal.main_arg0) = m' ((c.tc : Thread Cert.MatTnRefIdeal.nD Cert.MatTnRefIdeal.τ).loc Cert.MatTnRefIdeal.main_arg0)
          ∧ r.2.mem ((c.tc : Thread Cert.MatTnRefIdeal.nD Cert.MatTnRefIdeal.τ).loc Cert.MatTnRefIdeal.main_arg1) = m' ((c.tc : Thread Cert.MatTnRefIdeal.nD Cert.MatTnRefIdeal.τ).loc Cert.MatTnRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m' ((c.tc : Thread Cert.JoinRefIdeal.nD Cert.JoinRefIdeal.τ).loc Cert.JoinRefIdeal.main_arg0) = m ((c.tc : Thread Cert.JoinIdeal.nD Cert.JoinIdeal.τ).loc Cert.JoinIdeal.main_arg0)) →
    ∃ (v0 : (c : Dev Cert.JoinIdeal.nD) → Buf (Elt Ideal) ((c.tc : Thread Cert.JoinIdeal.nD Cert.JoinIdeal.τ).loc Cert.JoinIdeal.main_v1)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1) = v0 c
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0))
      ∧ θ_run (Cert.JoinRefIdeal.defs (F := Ideal)) (onTc (τ := Cert.JoinRefIdeal.τ) (Cert.JoinRefIdeal.main (F := Ideal))) ⟨m', fun _ => 0, g'⟩ (fun r => ∀ c : Dev Cert.JoinRefIdeal.nD,
          r.2.mem ((c.tc : Thread Cert.JoinRefIdeal.nD Cert.JoinRefIdeal.τ).loc Cert.JoinRefIdeal.main_v3) = v0 c
          ∧ r.2.mem ((c.tc : Thread Cert.JoinRefIdeal.nD Cert.JoinRefIdeal.τ).loc Cert.JoinRefIdeal.main_arg0) = m' ((c.tc : Thread Cert.JoinRefIdeal.nD Cert.JoinRefIdeal.τ).loc Cert.JoinRefIdeal.main_arg0))

def preserves_RowSplit_RowSplitIdeal : Prop :=
  True

def algebraic_RowSplitIdeal_RowSplitRefIdeal [hRowSplitIdeal : Cert.RowSplitIdeal.Facts] [hRowSplitRefIdeal : Cert.RowSplitRefIdeal.Facts] : Prop :=
  ∀ (m : (ℓ : Loc Cert.RowSplitIdeal.nD Cert.RowSplitIdeal.τ Cert.RowSplitIdeal.sig) → Buf (Elt Ideal) ℓ) (g : Dev Cert.RowSplitIdeal.nD → PrngReg)
    (m' : (ℓ : Loc Cert.RowSplitRefIdeal.nD Cert.RowSplitRefIdeal.τ Cert.RowSplitRefIdeal.sig) → Buf (Elt Ideal) ℓ) (g' : Dev Cert.RowSplitRefIdeal.nD → PrngReg), Pre_RowSplitIdeal m →
    (∀ c : Dev Cert.RowSplitIdeal.nD,
      m' ((c.tc : Thread Cert.RowSplitRefIdeal.nD Cert.RowSplitRefIdeal.τ).loc Cert.RowSplitRefIdeal.main_arg0) = m ((c.tc : Thread Cert.RowSplitIdeal.nD Cert.RowSplitIdeal.τ).loc Cert.RowSplitIdeal.main_arg0)
      ∧ m' ((c.tc : Thread Cert.RowSplitRefIdeal.nD Cert.RowSplitRefIdeal.τ).loc Cert.RowSplitRefIdeal.main_arg1) = m ((c.tc : Thread Cert.RowSplitIdeal.nD Cert.RowSplitIdeal.τ).loc Cert.RowSplitIdeal.main_arg1)) →
    ∃ (v0 : (c : Dev Cert.RowSplitIdeal.nD) → Buf (Elt Ideal) ((c.tc : Thread Cert.RowSplitIdeal.nD Cert.RowSplitIdeal.τ).loc Cert.RowSplitIdeal.main_v2)),
      θ_run (Cert.RowSplitIdeal.defs (F := Ideal)) (onTc (τ := Cert.RowSplitIdeal.τ) (Cert.RowSplitIdeal.main (F := Ideal))) ⟨m, fun _ => 0, g⟩ (fun r => ∀ c : Dev Cert.RowSplitIdeal.nD,
          r.2.mem ((c.tc : Thread Cert.RowSplitIdeal.nD Cert.RowSplitIdeal.τ).loc Cert.RowSplitIdeal.main_v2) = v0 c
          ∧ r.2.mem ((c.tc : Thread Cert.RowSplitIdeal.nD Cert.RowSplitIdeal.τ).loc Cert.RowSplitIdeal.main_arg0) = m ((c.tc : Thread Cert.RowSplitIdeal.nD Cert.RowSplitIdeal.τ).loc Cert.RowSplitIdeal.main_arg0)
          ∧ r.2.mem ((c.tc : Thread Cert.RowSplitIdeal.nD Cert.RowSplitIdeal.τ).loc Cert.RowSplitIdeal.main_arg1) = m ((c.tc : Thread Cert.RowSplitIdeal.nD Cert.RowSplitIdeal.τ).loc Cert.RowSplitIdeal.main_arg1))
      ∧ θ_run (Cert.RowSplitRefIdeal.defs (F := Ideal)) (onTc (τ := Cert.RowSplitRefIdeal.τ) (Cert.RowSplitRefIdeal.main (F := Ideal))) ⟨m', fun _ => 0, g'⟩ (fun r => ∀ c : Dev Cert.RowSplitRefIdeal.nD,
          r.2.mem ((c.tc : Thread Cert.RowSplitRefIdeal.nD Cert.RowSplitRefIdeal.τ).loc Cert.RowSplitRefIdeal.main_v3) = v0 c
          ∧ r.2.mem ((c.tc : Thread Cert.RowSplitRefIdeal.nD Cert.RowSplitRefIdeal.τ).loc Cert.RowSplitRefIdeal.main_arg0) = m' ((c.tc : Thread Cert.RowSplitRefIdeal.nD Cert.RowSplitRefIdeal.τ).loc Cert.RowSplitRefIdeal.main_arg0)
          ∧ r.2.mem ((c.tc : Thread Cert.RowSplitRefIdeal.nD Cert.RowSplitRefIdeal.τ).loc Cert.RowSplitRefIdeal.main_arg1) = m' ((c.tc : Thread Cert.RowSplitRefIdeal.nD Cert.RowSplitRefIdeal.τ).loc Cert.RowSplitRefIdeal.main_arg1))

def Claim : Prop :=
  ∃ (hLoss : Cert.Loss.Facts) (hLossIdeal : Cert.LossIdeal.Facts) (hLossRefIdeal : Cert.LossRefIdeal.Facts) (hGate : Cert.Gate.Facts) (hGateIdeal : Cert.GateIdeal.Facts) (hGateRefIdeal : Cert.GateRefIdeal.Facts) (hGateFwd : Cert.GateFwd.Facts) (hGateFwdIdeal : Cert.GateFwdIdeal.Facts) (hGateFwdRefIdeal : Cert.GateFwdRefIdeal.Facts) (hFox : Cert.Fox.Facts) (hFoxIdeal : Cert.FoxIdeal.Facts) (hFoxRefIdeal : Cert.FoxRefIdeal.Facts) (hFoxFwd : Cert.FoxFwd.Facts) (hFoxFwdIdeal : Cert.FoxFwdIdeal.Facts) (hFoxFwdRefIdeal : Cert.FoxFwdRefIdeal.Facts) (hNormKv : Cert.NormKv.Facts) (hNormKvIdeal : Cert.NormKvIdeal.Facts) (hNormKvRefIdeal : Cert.NormKvRefIdeal.Facts) (hRelu : Cert.Relu.Facts) (hReluIdeal : Cert.ReluIdeal.Facts) (hReluRefIdeal : Cert.ReluRefIdeal.Facts) (hRmsQ : Cert.RmsQ.Facts) (hRmsQIdeal : Cert.RmsQIdeal.Facts) (hRmsQRefIdeal : Cert.RmsQRefIdeal.Facts) (hRmsKv : Cert.RmsKv.Facts) (hRmsKvIdeal : Cert.RmsKvIdeal.Facts) (hRmsKvRefIdeal : Cert.RmsKvRefIdeal.Facts) (hRmsUp : Cert.RmsUp.Facts) (hRmsUpIdeal : Cert.RmsUpIdeal.Facts) (hRmsUpRefIdeal : Cert.RmsUpRefIdeal.Facts) (hRmsIn : Cert.RmsIn.Facts) (hRmsInIdeal : Cert.RmsInIdeal.Facts) (hRmsInRefIdeal : Cert.RmsInRefIdeal.Facts) (hMatRes : Cert.MatRes.Facts) (hMatResIdeal : Cert.MatResIdeal.Facts) (hMatResRefIdeal : Cert.MatResRefIdeal.Facts) (hMatNt : Cert.MatNt.Facts) (hMatNtIdeal : Cert.MatNtIdeal.Facts) (hMatNtRefIdeal : Cert.MatNtRefIdeal.Facts) (hMatTn : Cert.MatTn.Facts) (hMatTnIdeal : Cert.MatTnIdeal.Facts) (hMatTnRefIdeal : Cert.MatTnRefIdeal.Facts) (hAdam : Cert.Adam.Facts) (hAdamIdeal : Cert.AdamIdeal.Facts) (hAdamRefIdeal : Cert.AdamRefIdeal.Facts) (hJoin : Cert.Join.Facts) (hJoinIdeal : Cert.JoinIdeal.Facts) (hJoinRefIdeal : Cert.JoinRefIdeal.Facts) (hRowSplit : Cert.RowSplit.Facts) (hRowSplitIdeal : Cert.RowSplitIdeal.Facts) (hRowSplitRefIdeal : Cert.RowSplitRefIdeal.Facts) (hPre_fox_finite : Cert.Pre_fox_finite.Facts) (hPre_foxf_finite : Cert.Pre_foxf_finite.Facts),
    quiescent_Loss (hLoss := hLoss)
    ∧ quiescent_LossIdeal (hLossIdeal := hLossIdeal)
    ∧ quiescent_LossRefIdeal (hLossRefIdeal := hLossRefIdeal)
    ∧ quiescent_Gate (hGate := hGate)
    ∧ quiescent_GateIdeal (hGateIdeal := hGateIdeal)
    ∧ quiescent_GateRefIdeal (hGateRefIdeal := hGateRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_FoxFwd (hFoxFwd := hFoxFwd)
    ∧ quiescent_FoxFwdIdeal (hFoxFwdIdeal := hFoxFwdIdeal)
    ∧ quiescent_FoxFwdIdeal_pre_foxf_finite (hFoxFwdIdeal := hFoxFwdIdeal) (hPre_foxf_finite := hPre_foxf_finite)
    ∧ quiescent_FoxFwdRefIdeal (hFoxFwdRefIdeal := hFoxFwdRefIdeal)
    ∧ quiescent_FoxFwdRefIdeal_pre_foxf_finite (hFoxFwdRefIdeal := hFoxFwdRefIdeal) (hPre_foxf_finite := hPre_foxf_finite)
    ∧ quiescent_NormKv (hNormKv := hNormKv)
    ∧ quiescent_NormKvIdeal (hNormKvIdeal := hNormKvIdeal)
    ∧ quiescent_NormKvRefIdeal (hNormKvRefIdeal := hNormKvRefIdeal)
    ∧ quiescent_Relu (hRelu := hRelu)
    ∧ quiescent_ReluIdeal (hReluIdeal := hReluIdeal)
    ∧ quiescent_ReluRefIdeal (hReluRefIdeal := hReluRefIdeal)
    ∧ quiescent_RmsQ (hRmsQ := hRmsQ)
    ∧ quiescent_RmsQIdeal (hRmsQIdeal := hRmsQIdeal)
    ∧ quiescent_RmsQRefIdeal (hRmsQRefIdeal := hRmsQRefIdeal)
    ∧ quiescent_RmsKv (hRmsKv := hRmsKv)
    ∧ quiescent_RmsKvIdeal (hRmsKvIdeal := hRmsKvIdeal)
    ∧ quiescent_RmsKvRefIdeal (hRmsKvRefIdeal := hRmsKvRefIdeal)
    ∧ quiescent_RmsUp (hRmsUp := hRmsUp)
    ∧ quiescent_RmsUpIdeal (hRmsUpIdeal := hRmsUpIdeal)
    ∧ quiescent_RmsUpRefIdeal (hRmsUpRefIdeal := hRmsUpRefIdeal)
    ∧ quiescent_RmsIn (hRmsIn := hRmsIn)
    ∧ quiescent_RmsInIdeal (hRmsInIdeal := hRmsInIdeal)
    ∧ quiescent_RmsInRefIdeal (hRmsInRefIdeal := hRmsInRefIdeal)
    ∧ quiescent_MatRes (hMatRes := hMatRes)
    ∧ quiescent_MatResIdeal (hMatResIdeal := hMatResIdeal)
    ∧ quiescent_MatResRefIdeal (hMatResRefIdeal := hMatResRefIdeal)
    ∧ quiescent_MatNt (hMatNt := hMatNt)
    ∧ quiescent_MatNtIdeal (hMatNtIdeal := hMatNtIdeal)
    ∧ quiescent_MatNtRefIdeal (hMatNtRefIdeal := hMatNtRefIdeal)
    ∧ quiescent_MatTn (hMatTn := hMatTn)
    ∧ quiescent_MatTnIdeal (hMatTnIdeal := hMatTnIdeal)
    ∧ quiescent_MatTnRefIdeal (hMatTnRefIdeal := hMatTnRefIdeal)
    ∧ quiescent_Adam (hAdam := hAdam)
    ∧ quiescent_AdamIdeal (hAdamIdeal := hAdamIdeal)
    ∧ quiescent_AdamRefIdeal (hAdamRefIdeal := hAdamRefIdeal)
    ∧ quiescent_Join (hJoin := hJoin)
    ∧ quiescent_JoinIdeal (hJoinIdeal := hJoinIdeal)
    ∧ quiescent_JoinRefIdeal (hJoinRefIdeal := hJoinRefIdeal)
    ∧ quiescent_RowSplit (hRowSplit := hRowSplit)
    ∧ quiescent_RowSplitIdeal (hRowSplitIdeal := hRowSplitIdeal)
    ∧ quiescent_RowSplitRefIdeal (hRowSplitRefIdeal := hRowSplitRefIdeal)
    ∧ preserves_Loss_LossIdeal
    ∧ algebraic_LossIdeal_LossRefIdeal (hLossIdeal := hLossIdeal) (hLossRefIdeal := hLossRefIdeal)
    ∧ preserves_Gate_GateIdeal
    ∧ algebraic_GateIdeal_GateRefIdeal (hGateIdeal := hGateIdeal) (hGateRefIdeal := hGateRefIdeal)
    ∧ preserves_GateFwd_GateFwdIdeal
    ∧ algebraic_GateFwdIdeal_GateFwdRefIdeal (hGateFwdIdeal := hGateFwdIdeal) (hGateFwdRefIdeal := hGateFwdRefIdeal)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_FoxFwd_FoxFwdIdeal
    ∧ algebraic_FoxFwdIdeal_FoxFwdRefIdeal_pre_foxf_finite (hFoxFwdIdeal := hFoxFwdIdeal) (hFoxFwdRefIdeal := hFoxFwdRefIdeal) (hPre_foxf_finite := hPre_foxf_finite)
    ∧ preserves_NormKv_NormKvIdeal
    ∧ algebraic_NormKvIdeal_NormKvRefIdeal (hNormKvIdeal := hNormKvIdeal) (hNormKvRefIdeal := hNormKvRefIdeal)
    ∧ preserves_Relu_ReluIdeal
    ∧ algebraic_ReluIdeal_ReluRefIdeal (hReluIdeal := hReluIdeal) (hReluRefIdeal := hReluRefIdeal)
    ∧ preserves_RmsQ_RmsQIdeal
    ∧ algebraic_RmsQIdeal_RmsQRefIdeal (hRmsQIdeal := hRmsQIdeal) (hRmsQRefIdeal := hRmsQRefIdeal)
    ∧ preserves_RmsKv_RmsKvIdeal
    ∧ algebraic_RmsKvIdeal_RmsKvRefIdeal (hRmsKvIdeal := hRmsKvIdeal) (hRmsKvRefIdeal := hRmsKvRefIdeal)
    ∧ preserves_RmsUp_RmsUpIdeal
    ∧ algebraic_RmsUpIdeal_RmsUpRefIdeal (hRmsUpIdeal := hRmsUpIdeal) (hRmsUpRefIdeal := hRmsUpRefIdeal)
    ∧ preserves_RmsIn_RmsInIdeal
    ∧ algebraic_RmsInIdeal_RmsInRefIdeal (hRmsInIdeal := hRmsInIdeal) (hRmsInRefIdeal := hRmsInRefIdeal)
    ∧ preserves_MatRes_MatResIdeal
    ∧ algebraic_MatResIdeal_MatResRefIdeal (hMatResIdeal := hMatResIdeal) (hMatResRefIdeal := hMatResRefIdeal)
    ∧ preserves_MatNt_MatNtIdeal
    ∧ algebraic_MatNtIdeal_MatNtRefIdeal (hMatNtIdeal := hMatNtIdeal) (hMatNtRefIdeal := hMatNtRefIdeal)
    ∧ preserves_MatTn_MatTnIdeal
    ∧ algebraic_MatTnIdeal_MatTnRefIdeal (hMatTnIdeal := hMatTnIdeal) (hMatTnRefIdeal := hMatTnRefIdeal)
    ∧ preserves_Adam_AdamIdeal
    ∧ algebraic_AdamIdeal_AdamRefIdeal (hAdamIdeal := hAdamIdeal) (hAdamRefIdeal := hAdamRefIdeal)
    ∧ preserves_Join_JoinIdeal
    ∧ algebraic_JoinIdeal_JoinRefIdeal (hJoinIdeal := hJoinIdeal) (hJoinRefIdeal := hJoinRefIdeal)
    ∧ preserves_RowSplit_RowSplitIdeal
    ∧ algebraic_RowSplitIdeal_RowSplitRefIdeal (hRowSplitIdeal := hRowSplitIdeal) (hRowSplitRefIdeal := hRowSplitRefIdeal)
-- ==== Pre_fox_finite.lean ====
abbrev S2048x3072 : Shape := ⟨2, ![2048, 3072]⟩
abbrev S16x2048 : Shape := ⟨2, ![16, 2048]⟩
abbrev S1x64 : Shape := ⟨2, ![1, 64]⟩
abbrev S2048x1024 : Shape := ⟨2, ![2048, 1024]⟩
abbrev S_ : Shape := ⟨0, ![]⟩

class Facts : Prop where
  bcast_S_S2048x3072 : S_.BroadcastsInDim S2048x3072 (![] : Fin 0 → Fin S2048x3072.rank)
  bcast_S_S16x2048 : S_.BroadcastsInDim S16x2048 (![] : Fin 0 → Fin S16x2048.rank)
  bcast_S_S1x64 : S_.BroadcastsInDim S1x64 (![] : Fin 0 → Fin S1x64.rank)
  bcast_S_S2048x1024 : S_.BroadcastsInDim S2048x1024 (![] : Fin 0 → Fin S2048x1024.rank)

variable [Facts]

def fn {F : FTy → Type} [FloatOps F] (main_arg0 : FVec F S2048x3072 .f32) (main_arg1 : FVec F S16x2048 .f32) (main_arg2 : FVec F S1x64 .f32) (main_arg3 : FVec F S1x64 .f32) (main_arg4 : FVec F S2048x1024 .f32) : IVec S2048x3072 1 × IVec S16x2048 1 × IVec S1x64 1 × IVec S1x64 1 × IVec S2048x1024 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_foxf_finite.lean ====
abbrev S2048x3072 : Shape := ⟨2, ![2048, 3072]⟩
abbrev S16x2048 : Shape := ⟨2, ![16, 2048]⟩
abbrev S1x64 : Shape := ⟨2, ![1, 64]⟩
abbrev S_ : Shape := ⟨0, ![]⟩

class Facts : Prop where
  bcast_S_S2048x3072 : S_.BroadcastsInDim S2048x3072 (![] : Fin 0 → Fin S2048x3072.rank)
  bcast_S_S16x2048 : S_.BroadcastsInDim S16x2048 (![] : Fin 0 → Fin S16x2048.rank)
  bcast_S_S1x64 : S_.BroadcastsInDim S1x64 (![] : Fin 0 → Fin S1x64.rank)

variable [Facts]

def fn {F : FTy → Type} [FloatOps F] (main_arg0 : FVec F S2048x3072 .f32) (main_arg1 : FVec F S16x2048 .f32) (main_arg2 : FVec F S1x64 .f32) (main_arg3 : FVec F S1x64 .f32) : IVec S2048x3072 1 × IVec S16x2048 1 × IVec S1x64 1 × IVec S1x64 1 :=
  let main_v0 : FVec F S2048x3072 .f32 := Host.absf main_arg0
  let main_cst : FVec F S_ .f32 := constant S_ .f32 0x7F800000#32
  let main_v1 : FVec F S2048x3072 .f32 := broadcastInDim S2048x3072 ![] bcast_S_S2048x3072 main_cst
  let main_v2 : IVec S2048x3072 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  (main_v2, main_v5, main_v8, main_v11)
-- ==== Loss.lean ====
abbrev S2048x4096 : Shape := ⟨2, ![2048, 4096]⟩
abbrev S4096x1024 : Shape := ⟨2, ![4096, 1024]⟩
abbrev S2048x1024 : Shape := ⟨2, ![2048, 1024]⟩
abbrev S8x128 : Shape := ⟨2, ![8, 128]⟩
abbrev S1024x4096 : Shape := ⟨2, ![1024, 4096]⟩
abbrev S4096x512 : Shape := ⟨2, ![4096, 512]⟩
abbrev S1024x512 : Shape := ⟨2, ![1024, 512]⟩
abbrev S1x1024x512 : Shape := ⟨3, ![1, 1024, 512]⟩
abbrev S1 : Shape := ⟨1, ![1]⟩
abbrev S1x1x1 : Shape := ⟨3, ![1, 1, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S2048x4096, .bf16⟩
  | .hbm, ⟨5, _⟩ => ⟨S4096x1024, .bf16⟩
  | .hbm, ⟨6, _⟩ => ⟨S2048x1024, .f32⟩
  | .hbm, ⟨7, _⟩ => ⟨S2048x1024, .bf16⟩
  | .hbm, ⟨8, _⟩ => ⟨S8x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S8x128, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== LossRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S2048 : Shape := ⟨1, ![2048]⟩
abbrev S8x128 : Shape := ⟨2, ![8, 128]⟩

abbrev nBuf : Space → Nat
  | .hbm => 31
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x1024, .f32⟩
  | .hbm, ⟨28, _⟩ => ⟨S2048x1024, .f32⟩
  | .hbm, ⟨29, _⟩ => ⟨S2048x1024, .bf16⟩
  | .hbm, ⟨30, _⟩ => ⟨S8x128, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Gate.lean ====
abbrev S2048x3088 : Shape := ⟨2, ![2048, 3088]⟩
abbrev S1x16 : Shape := ⟨2, ![1, 16]⟩
abbrev S16x2048 : Shape := ⟨2, ![16, 2048]⟩
abbrev S_ : Shape := ⟨0, ![]⟩
abbrev S2048x3200 : Shape := ⟨2, ![2048, 3200]⟩
abbrev S1x128 : Shape := ⟨2, ![1, 128]⟩
abbrev S2048x16 : Shape := ⟨2, ![2048, 16]⟩
abbrev S2048x128 : Shape := ⟨2, ![2048, 128]⟩
abbrev S256x256 : Shape := ⟨2, ![256, 256]⟩
abbrev S256x128 : Shape := ⟨2, ![256, 128]⟩
abbrev S8x128 : Shape := ⟨2, ![8, 128]⟩
abbrev S128 : Shape := ⟨1, ![128]⟩

abbrev nBuf : Space → Nat
  | .hbm => 26
  | .vmem => 10
  | .smem => 0
  | _ => 0

abbrev bufTy : (tb : Table) → Fin (tcTables nBuf tb) → BufTy
  | .hbm, ⟨0, _⟩ => ⟨S2048x3088, .f32⟩
  | .hbm, ⟨1, _⟩ => ⟨S1x16, .f32⟩
  | .hbm, ⟨2, _⟩ => ⟨S16x2048, .f32⟩
  | .hbm, ⟨3, _⟩ => ⟨S_, .i32⟩
  | .hbm, ⟨4, _⟩ => ⟨S_, .f32⟩
  | .hbm, ⟨5, _⟩ => ⟨S2048x3200, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S2048x16, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S_, .f32⟩
  | .hbm, ⟨14, _⟩ => ⟨S256x256, .f32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S256x256, .i32⟩
  | .hbm, ⟨20, _⟩ => ⟨S256x256, .i1⟩
  | .hbm, ⟨21, _⟩ => ⟨S_, .f32⟩
  | .hbm, ⟨22, _⟩ => ⟨S256x256, .f32⟩
  | .hbm, ⟨23, _⟩ => ⟨S256x256, .f32⟩
  | .hbm, ⟨24, _⟩ => ⟨S2048x128, .bf16⟩
  | .hbm, ⟨25, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x128, .f32⟩
  | .local _ .vmem, ⟨4, _⟩ => ⟨S256x128, .f32⟩
  | .local _ .vmem, ⟨5, _⟩ => ⟨S256x256, .f32⟩
  | .local _ .vmem, ⟨6, _⟩ => ⟨S256x128, .bf16⟩
  | .local _ .vmem, ⟨7, _⟩ => ⟨S256x128, .bf16⟩
  | .local _ .vmem, ⟨8, _⟩ => ⟨S1x128, .f32⟩
  | .local _ .vmem, ⟨9, _⟩ => ⟨S8x128, .f32⟩
  | _, _ => ⟨S2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_call2_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_call3_v0 : Ref sig .tc := ⟨.hbm, 15, rfl⟩
abbrev main_call3_c : Ref sig .tc := ⟨.hbm, 16, rfl⟩
abbrev main_call3_v1 : Ref sig .tc := ⟨.hbm, 17, rfl⟩
abbrev main_call3_v2 : Ref sig .tc := ⟨.hbm, 18, rfl⟩
abbrev main_call3_v3 : Ref sig .tc := ⟨.hbm, 19, rfl⟩
abbrev main_call3_v4 : Ref sig .tc := ⟨.hbm, 20, rfl⟩
abbrev main_call3_cst : Ref sig .tc := ⟨.hbm, 21, rfl⟩
abbrev main_call3_v5 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c24_i32 : BitVec 32 := 24#32
  let c0_i32 : BitVec 32 := 0#32
  ![v0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateRefIdeal.lean ====
abbrev S2048x3088 : Shape := ⟨2, ![2048, 3088]⟩
abbrev S1x16 : Shape := ⟨2, ![1, 16]⟩
abbrev S16x2048 : Shape := ⟨2, ![16, 2048]⟩
abbrev S2048x16 : Shape := ⟨2, ![2048, 16]⟩
abbrev S16 : Shape := ⟨1, ![16]⟩
abbrev S_ : Shape := ⟨0, ![]⟩
abbrev S2048x128 : Shape := ⟨2, ![2048, 128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S2048x3088, .f32⟩
  | .hbm, ⟨1, _⟩ => ⟨S1x16, .f32⟩
  | .hbm, ⟨2, _⟩ => ⟨S16x2048, .f32⟩
  | .hbm, ⟨3, _⟩ => ⟨S2048x16, .f32⟩
  | .hbm, ⟨4, _⟩ => ⟨S16, .f32⟩
  | .hbm, ⟨5, _⟩ => ⟨S1x16, .f32⟩
  | .hbm, ⟨6, _⟩ => ⟨S2048x16, .f32⟩
  | .hbm, ⟨7, _⟩ => ⟨S2048x16, .f32⟩
  | .hbm, ⟨8, _⟩ => ⟨S2048x16, .f32⟩
  | .hbm, ⟨9, _⟩ => ⟨S_, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S2048x16, .i1⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S_, .f32⟩
  | .hbm, ⟨24, _⟩ => ⟨S2048x16, .f32⟩
  | .hbm, ⟨25, _⟩ => ⟨S2048x16, .i1⟩
  | .hbm, ⟨26, _⟩ => ⟨S_, .f32⟩
  | .hbm, ⟨27, _⟩ => ⟨S2048x16, .f32⟩
  | .hbm, ⟨28, _⟩ => ⟨S2048x16, .f32⟩
  | .hbm, ⟨29, _⟩ => ⟨S_, .f32⟩
  | .hbm, ⟨30, _⟩ => ⟨S2048x16, .f32⟩
  | .hbm, ⟨31, _⟩ => ⟨S2048x16, .i1⟩
  | .hbm, ⟨32, _⟩ => ⟨S_, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S_, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x16, .f32⟩
  | .hbm, ⟨45, _⟩ => ⟨S2048x16, .i1⟩
  | .hbm, ⟨46, _⟩ => ⟨S_, .f32⟩
  | .hbm, ⟨47, _⟩ => ⟨S2048x16, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S_, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S_, .f32⟩
  | .hbm, ⟨57, _⟩ => ⟨S_, .f32⟩
  | .hbm, ⟨58, _⟩ => ⟨S2048x16, .f32⟩
  | .hbm, ⟨59, _⟩ => ⟨S16x2048, .f32⟩
  | .hbm, ⟨60, _⟩ => ⟨S2048x16, .f32⟩
  | .hbm, ⟨61, _⟩ => ⟨S_, .f32⟩
  | .hbm, ⟨62, _⟩ => ⟨S_, .f32⟩
  | .hbm, ⟨63, _⟩ => ⟨S2048x16, .f32⟩
  | .hbm, ⟨64, _⟩ => ⟨S2048x16, .f32⟩
  | .hbm, ⟨65, _⟩ => ⟨S2048x16, .f32⟩
  | .hbm, ⟨66, _⟩ => ⟨S2048x16, .f32⟩
  | .hbm, ⟨67, _⟩ => ⟨S_, .f32⟩
  | .hbm, ⟨68, _⟩ => ⟨S16, .f32⟩
  | .hbm, ⟨69, _⟩ => ⟨S1x16, .f32⟩
  | .hbm, ⟨70, _⟩ => ⟨S_, .f32⟩
  | .hbm, ⟨71, _⟩ => ⟨S16, .f32⟩
  | .hbm, ⟨72, _⟩ => ⟨S1x16, .f32⟩
  | .hbm, ⟨73, _⟩ => ⟨S_, .f32⟩
  | .hbm, ⟨74, _⟩ => ⟨S2048x3088, .f32⟩
  | .hbm, ⟨75, _⟩ => ⟨S2048x16, .f32⟩
  | .hbm, ⟨76, _⟩ => ⟨S_, .i32⟩
  | .hbm, ⟨77, _⟩ => ⟨S_, .f32⟩
  | .hbm, ⟨78, _⟩ => ⟨S2048x128, .f32⟩
  | .hbm, ⟨79, _⟩ => ⟨S2048x128, .bf16⟩
  | .hbm, ⟨80, _⟩ => ⟨S_, .i32⟩
  | .hbm, ⟨81, _⟩ => ⟨S_, .f32⟩
  | .hbm, ⟨82, _⟩ => ⟨S1x128, .f32⟩
  | _, _ => ⟨S2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1_0 : Ref sig .tc := ⟨.hbm, 22, rfl⟩
abbrev main_call0_call0_cst_0 : Ref sig .tc := ⟨.hbm, 23, rfl⟩
abbrev main_call0_call0_v13 : Ref sig .tc := ⟨.hbm, 24, rfl⟩
abbrev main_call0_call0_v14 : Ref sig .tc := ⟨.hbm, 25, rfl⟩
abbrev main_call0_call0_cst_1 : Ref sig .tc := ⟨.hbm, 26, rfl⟩
abbrev main_call0_call0_v15 : Ref sig .tc := ⟨.hbm, 27, rfl⟩
abbrev main_call0_call0_v16 : Ref sig .tc := ⟨.hbm, 28, rfl⟩
abbrev main_call0_call0_cst_2 : Ref sig .tc := ⟨.hbm, 29, rfl⟩
abbrev main_call0_call0_v17 : Ref sig .tc := ⟨.hbm, 30, rfl⟩
abbrev main_call0_call0_v18 : Ref sig .tc := ⟨.hbm, 31, rfl⟩
abbrev main_call0_call0_cst_3 : Ref sig .tc := ⟨.hbm, 32, rfl⟩
abbrev main_call0_call0_v19 : Ref sig .tc := ⟨.hbm, 33, rfl⟩
abbrev main_call0_call0_v20 : Ref sig .tc := ⟨.hbm, 34, rfl⟩
abbrev main_call0_call0_v21 : Ref sig .tc := ⟨.hbm, 35, rfl⟩
abbrev main_v5_1 : Ref sig .tc := ⟨.hbm, 36, rfl⟩
abbrev main_call0_call0_cst_4 : Ref sig .tc := ⟨.hbm, 37, rfl⟩
abbrev main_call0_call0_cst_5 : Ref sig .tc := ⟨.hbm, 38, rfl⟩
abbrev main_call0_call0_v23 : Ref sig .tc := ⟨.hbm, 39, rfl⟩
abbrev main_call0_call0_cst_6 : Ref sig .tc := ⟨.hbm, 40, rfl⟩
abbrev main_call0_call0_cst_7 : Ref sig .tc := ⟨.hbm, 41, rfl⟩
abbrev main_call0_call0_v24 : Ref sig .tc := ⟨.hbm, 42, rfl⟩
abbrev main_call0_call0_cst_8 : Ref sig .tc := ⟨.hbm, 43, rfl⟩
abbrev main_call0_call0_v25 : Ref sig .tc := ⟨.hbm, 44, rfl⟩
abbrev main_call0_call0_v26 : Ref sig .tc := ⟨.hbm, 45, rfl⟩
abbrev main_call0_call0_cst_9 : Ref sig .tc := ⟨.hbm, 46, rfl⟩
abbrev main_call0_call0_v27 : Ref sig .tc := ⟨.hbm, 47, rfl⟩
abbrev main_call0_call0_v28 : Ref sig .tc := ⟨.hbm, 48, rfl⟩
abbrev main_call0_call0_v29 : Ref sig .tc := ⟨.hbm, 49, rfl⟩
abbrev main_call0_call0_v30 : Ref sig .tc := ⟨.hbm, 50, rfl⟩
abbrev main_call0_call0_v31 : Ref sig .tc := ⟨.hbm, 51, rfl⟩
abbrev main_call0_call0_cst_10 : Ref sig .tc := ⟨.hbm, 52, rfl⟩
abbrev main_call0_call0_v32 : Ref sig .tc := ⟨.hbm, 53, rfl⟩
abbrev main_v5_2 : Ref sig .tc := ⟨.hbm, 54, rfl⟩
abbrev main_v5_0 : Ref sig .tc := ⟨.hbm, 55, rfl⟩
abbrev main_call1_call0_cst : Ref sig .tc := ⟨.hbm, 56, rfl⟩
abbrev main_call1_call0_v0 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_call2_call0_cst : Ref sig .tc := ⟨.hbm, 61, rfl⟩
abbrev main_call2_call0_v0 : Ref sig .tc := ⟨.hbm, 62, rfl⟩
abbrev main_v9 : Ref sig .tc := ⟨.hbm, 63, rfl⟩
abbrev main_call3_v0 : Ref sig .tc := ⟨.hbm, 64, rfl⟩
abbrev main_call3_v1 : Ref sig .tc := ⟨.hbm, 65, rfl⟩
abbrev main_v10 : Ref sig .tc := ⟨.hbm, 66, rfl⟩
abbrev main_cst : Ref sig .tc := ⟨.hbm, 67, rfl⟩
abbrev main_v11 : Ref sig .tc := ⟨.hbm, 68, rfl⟩
abbrev main_v12 : Ref sig .tc := ⟨.hbm, 69, rfl⟩
abbrev main_cst_0 : Ref sig .tc := ⟨.hbm, 70, rfl⟩
abbrev main_v13 : Ref sig .tc := ⟨.hbm, 71, rfl⟩
abbrev main_v14 : Ref sig .tc := ⟨.hbm, 72, rfl⟩
abbrev main_cst_1 : Ref sig .tc := ⟨.hbm, 73, rfl⟩
abbrev main_v15 : Ref sig .tc := ⟨.hbm, 74, rfl⟩
abbrev main_v16 : Ref sig .tc := ⟨.hbm, 75, rfl⟩
abbrev main_c : Ref sig .tc := ⟨.hbm, 76, rfl⟩
abbrev main_call4_v0 : Ref sig .tc := ⟨.hbm, 77, rfl⟩
abbrev main_v17 : Ref sig .tc := ⟨.hbm, 78, rfl⟩
abbrev main_v18 : Ref sig .tc := ⟨.hbm, 79, rfl⟩
abbrev main_c_2 : Ref sig .tc := ⟨.hbm, 80, rfl⟩
abbrev main_call5_v0 : Ref sig .tc := ⟨.hbm, 81, rfl⟩
abbrev main_v19 : Ref sig .tc := ⟨.hbm, 82, rfl⟩

abbrev nD : Nat := 1
abbrev τ : Topo := Topo.v7x

variable {F : FTy → Type} [FloatOps F]
-- ==== GateFwd.lean ====
abbrev S2048x3088 : Shape := ⟨2, ![2048, 3088]⟩
abbrev S1x16 : Shape := ⟨2, ![1, 16]⟩
abbrev S_ : Shape := ⟨0, ![]⟩
abbrev S2048x3200 : Shape := ⟨2, ![2048, 3200]⟩
abbrev S1x128 : Shape := ⟨2, ![1, 128]⟩
abbrev S256x256 : Shape := ⟨2, ![256, 256]⟩
abbrev S2048x128 : Shape := ⟨2, ![2048, 128]⟩
abbrev S256x128 : Shape := ⟨2, ![256, 128]⟩
abbrev S8x128 : Shape := ⟨2, ![8, 128]⟩

abbrev nBuf : Space → Nat
  | .hbm => 20
  | .vmem => 7
  | .smem => 0
  | _ => 0

abbrev bufTy : (tb : Table) → Fin (tcTables nBuf tb) → BufTy
  | .hbm, ⟨0, _⟩ => ⟨S2048x3088, .f32⟩
  | .hbm, ⟨1, _⟩ => ⟨S1x16, .f32⟩
  | .hbm, ⟨2, _⟩ => ⟨S_, .i32⟩
  | .hbm, ⟨3, _⟩ => ⟨S_, .f32⟩
  | .hbm, ⟨4, _⟩ => ⟨S2048x3200, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S_, .f32⟩
  | .hbm, ⟨9, _⟩ => ⟨S256x256, .f32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S2048x128, .f32⟩
  | .local _ .vmem, ⟨0, _⟩ => ⟨S256x128, .f32⟩
  | .local _ .vmem, ⟨1, _⟩ => ⟨S256x128, .f32⟩
  | .local _ .vmem, ⟨2, _⟩ => ⟨S1x128, .f32⟩
  | .local _ .vmem, ⟨3, _⟩ => ⟨S256x256, .f32⟩
  | .local _ .vmem, ⟨4, _⟩ => ⟨S256x128, .f32⟩
  | .local _ .vmem, ⟨5, _⟩ => ⟨S256x128, .f32⟩
  | .local _ .vmem, ⟨6, _⟩ => ⟨S8x128, .f32⟩
  | _, _ => ⟨S2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_call2_v0 : Ref sig .tc := ⟨.hbm, 10, rfl⟩
abbrev main_call2_c : Ref sig .tc := ⟨.hbm, 11, rfl⟩
abbrev main_call2_v1 : Ref sig .tc := ⟨.hbm, 12, rfl⟩
abbrev main_call2_v2 : Ref sig .tc := ⟨.hbm, 13, rfl⟩
abbrev main_call2_v3 : Ref sig .tc := ⟨.hbm, 14, rfl⟩
abbrev main_call2_v4 : Ref sig .tc := ⟨.hbm, 15, rfl⟩
abbrev main_call2_cst : Ref sig .tc := ⟨.hbm, 16, rfl⟩
abbrev main_call2_v5 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateFwdRefIdeal.lean ====
abbrev S2048x3088 : Shape := ⟨2, ![2048, 3088]⟩
abbrev S1x16 : Shape := ⟨2, ![1, 16]⟩
abbrev S2048x16 : Shape := ⟨2, ![2048, 16]⟩
abbrev S16 : Shape := ⟨1, ![16]⟩
abbrev S_ : Shape := ⟨0, ![]⟩
abbrev S16x2048 : Shape := ⟨2, ![16, 2048]⟩
abbrev S2048x128 : Shape := ⟨2, ![2048, 128]⟩

abbrev nBuf : Space → Nat
  | .hbm => 31
  | .vmem => 0
  | .smem => 0
  | _ => 0

abbrev bufTy : (tb : Table) → Fin (tcTables nBuf tb) → BufTy
  | .hbm, ⟨0, _⟩ => ⟨S2048x3088, .f32⟩
  | .hbm, ⟨1, _⟩ => ⟨S1x16, .f32⟩
  | .hbm, ⟨2, _⟩ => ⟨S2048x16, .f32⟩
  | .hbm, ⟨3, _⟩ => ⟨S16, .f32⟩
  | .hbm, ⟨4, _⟩ => ⟨S1x16, .f32⟩
  | .hbm, ⟨5, _⟩ => ⟨S2048x16, .f32⟩
  | .hbm, ⟨6, _⟩ => ⟨S2048x16, .f32⟩
  | .hbm, ⟨7, _⟩ => ⟨S2048x16, .f32⟩
  | .hbm, ⟨8, _⟩ => ⟨S_, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S2048x16, .i1⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16, .f32⟩
  | .hbm, ⟨21, _⟩ => ⟨S2048x16, .f32⟩
  | .hbm, ⟨22, _⟩ => ⟨S2048x16, .f32⟩
  | .hbm, ⟨23, _⟩ => ⟨S_, .f32⟩
  | .hbm, ⟨24, _⟩ => ⟨S_, .f32⟩
  | .hbm, ⟨25, _⟩ => ⟨S2048x16, .f32⟩
  | .hbm, ⟨26, _⟩ => ⟨S16x2048, .f32⟩
  | .hbm, ⟨27, _⟩ => ⟨S2048x16, .f32⟩
  | .hbm, ⟨28, _⟩ => ⟨S_, .i32⟩
  | .hbm, ⟨29, _⟩ => ⟨S_, .f32⟩
  | .hbm, ⟨30, _⟩ => ⟨S2048x128, .f32⟩
  | _, _ => ⟨S2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call2_v0 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Fox.lean ====
abbrev S2048x3072 : Shape := ⟨2, ![2048, 3072]⟩
abbrev S16x2048 : Shape := ⟨2, ![16, 2048]⟩
abbrev S1x64 : Shape := ⟨2, ![1, 64]⟩
abbrev S2048x1024 : Shape := ⟨2, ![2048, 1024]⟩
abbrev S2048x16x64 : Shape := ⟨3, ![2048, 16, 64]⟩
abbrev S64 : Shape := ⟨1, ![64]⟩
abbrev S_ : Shape := ⟨0, ![]⟩
abbrev S2048x16 : Shape := ⟨2, ![2048, 16]⟩
abbrev S2048x16x1 : Shape := ⟨3, ![2048, 16, 1]⟩
abbrev S1x1x64 : Shape := ⟨3, ![1, 1, 64]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S8x2x2048 : Shape := ⟨3, ![8, 2, 2048]⟩
abbrev S8x8x2048 : Shape := ⟨3, ![8, 8, 2048]⟩
abbrev S2048x128 : Shape := ⟨2, ![2048, 128]⟩
abbrev S3x2048x1024 : Shape := ⟨3, ![3, 2048, 1024]⟩
abbrev S1x2x2048 : Shape := ⟨3, ![1, 2, 2048]⟩
abbrev S1x8x2048 : Shape := ⟨3, ![1, 8, 2048]⟩
abbrev S3x2048x128 : Shape := ⟨3, ![3, 2048, 128]⟩
abbrev S2048x64 : Shape := ⟨2, ![2048, 64]⟩
abbrev S2048 : Shape := ⟨1, ![2048]⟩
abbrev S2048x1 : Shape := ⟨2, ![2048, 1]⟩
abbrev S64x2048 : Shape := ⟨2, ![64, 2048]⟩
abbrev S1x1x2048 : Shape := ⟨3, ![1, 1, 2048]⟩
abbrev S1x2048 : Shape := ⟨2, ![1, 2048]⟩
abbrev S256x64 : Shape := ⟨2, ![256, 64]⟩
abbrev S1x256 : Shape := ⟨2, ![1, 256]⟩
abbrev S256x256 : Shape := ⟨2, ![256, 256]⟩
abbrev S256x1 : Shape := ⟨2, ![256, 1]⟩
abbrev S256 : Shape := ⟨1, ![256]⟩
abbrev S64x256 : Shape := ⟨2, ![64, 256]⟩
abbrev S256x128 : Shape := ⟨2, ![256, 128]⟩
abbrev S512x64 : Shape := ⟨2, ![512, 64]⟩
abbrev S512x256 : Shape := ⟨2, ![512, 256]⟩
abbrev S512x1 : Shape := ⟨2, ![512, 1]⟩
abbrev S64x512 : Shape := ⟨2, ![64, 512]⟩
abbrev S512x128 : Shape := ⟨2, ![512, 128]⟩
abbrev S768x64 : Shape := ⟨2, ![768, 64]⟩
abbrev S768x256 : Shape := ⟨2, ![768, 256]⟩
abbrev S768x1 : Shape := ⟨2, ![768, 1]⟩
abbrev S64x768 : Shape := ⟨2, ![64, 768]⟩
abbrev S768x128 : Shape := ⟨2, ![768, 128]⟩
abbrev S1024x64 : Shape := ⟨2, ![1024, 64]⟩
abbrev S1024x256 : Shape := ⟨2, ![1024, 256]⟩
abbrev S1024x1 : Shape := ⟨2, ![1024, 1]⟩
abbrev S64x1024 : Shape := ⟨2, ![64, 1024]⟩
abbrev S1024x128 : Shape := ⟨2, ![1024, 128]⟩
abbrev S1280x64 : Shape := ⟨2, ![1280, 64]⟩
abbrev S1280x256 : Shape := ⟨2, ![1280, 256]⟩
abbrev S1280x1 : Shape := ⟨2, ![1280, 1]⟩
abbrev S64x1280 : Shape := ⟨2, ![64, 1280]⟩
abbrev S1280x128 : Shape := ⟨2, ![1280, 128]⟩
abbrev S1536x64 : Shape := ⟨2, ![1536, 64]⟩
abbrev S1536x256 : Shape := ⟨2, ![1536, 256]⟩
abbrev S1536x1 : Shape := ⟨2, ![1536, 1]⟩
abbrev S64x1536 : Shape := ⟨2, ![64, 1536]⟩
abbrev S1536x128 : Shape := ⟨2, ![1536, 128]⟩
abbrev S1792x64 : Shape := ⟨2, ![1792, 64]⟩
abbrev S1792x256 : Shape := ⟨2, ![1792, 256]⟩
abbrev S1792x1 : Shape := ⟨2, ![1792, 1]⟩
abbrev S64x1792 : Shape := ⟨2, ![64, 1792]⟩
abbrev S1792x128 : Shape := ⟨2, ![1792, 128]⟩
abbrev S2048x256 : Shape := ⟨2, ![2048, 256]⟩
abbrev S1x2048x128 : Shape := ⟨3, ![1, 2048, 128]⟩

abbrev nBuf : Space → Nat
  | .hbm => 87
  | .vmem => 23
  | .smem => 0
  | _ => 0

abbrev bufTy : (tb : Table) → Fin (tcTables nBuf tb) → BufTy
  | .hbm, ⟨0, _⟩ => ⟨S2048x3072, .f32⟩
  | .hbm, ⟨1, _⟩ => ⟨S16x2048, .f32⟩
  | .hbm, ⟨2, _⟩ => ⟨S1x64, .f32⟩
  | .hbm, ⟨3, _⟩ => ⟨S1x64, .f32⟩
  | .hbm, ⟨4, _⟩ => ⟨S2048x1024, .f32⟩
  | .hbm, ⟨5, _⟩ => ⟨S2048x1024, .f32⟩
  | .hbm, ⟨6, _⟩ => ⟨S2048x16x64, .f32⟩
  | .hbm, ⟨7, _⟩ => ⟨S64, .f32⟩
  | .hbm, ⟨8, _⟩ => ⟨S2048x16x64, .f32⟩
  | .hbm, ⟨9, _⟩ => ⟨S_, .f32⟩
  | .hbm, ⟨10, _⟩ => ⟨S2048x16, .f32⟩
  | .hbm, ⟨11, _⟩ => ⟨S2048x16x1, .f32⟩
  | .hbm, ⟨12, _⟩ => ⟨S_, .f32⟩
  | .hbm, ⟨13, _⟩ => ⟨S2048x16x1, .f32⟩
  | .hbm, ⟨14, _⟩ => ⟨S2048x16x1, .f32⟩
  | .hbm, ⟨15, _⟩ => ⟨S_, .f32⟩
  | .hbm, ⟨16, _⟩ => ⟨S2048x16x1, .f32⟩
  | .hbm, ⟨17, _⟩ => ⟨S2048x16x1, .f32⟩
  | .hbm, ⟨18, _⟩ => ⟨S2048x16x1, .f32⟩
  | .hbm, ⟨19, _⟩ => ⟨S2048x16x64, .f32⟩
  | .hbm, ⟨20, _⟩ => ⟨S2048x16x64, .f32⟩
  | .hbm, ⟨21, _⟩ => ⟨S1x1x64, .f32⟩
  | .hbm, ⟨22, _⟩ => ⟨S2048x16x64, .f32⟩
  | .hbm, ⟨23, _⟩ => ⟨S2048x16x64, .f32⟩
  | .hbm, ⟨24, _⟩ => ⟨S2048x1024, .f32⟩
  | .hbm, ⟨25, _⟩ => ⟨S2048x16x64, .f32⟩
  | .hbm, ⟨26, _⟩ => ⟨S64, .f32⟩
  | .hbm, ⟨27, _⟩ => ⟨S2048x16x64, .f32⟩
  | .hbm, ⟨28, _⟩ => ⟨S_, .f32⟩
  | .hbm, ⟨29, _⟩ => ⟨S2048x16, .f32⟩
  | .hbm, ⟨30, _⟩ => ⟨S2048x16x1, .f32⟩
  | .hbm, ⟨31, _⟩ => ⟨S_, .f32⟩
  | .hbm, ⟨32, _⟩ => ⟨S2048x16x1, .f32⟩
  | .hbm, ⟨33, _⟩ => ⟨S2048x16x1, .f32⟩
  | .hbm, ⟨34, _⟩ => ⟨S_, .f32⟩
  | .hbm, ⟨35, _⟩ => ⟨S2048x16x1, .f32⟩
  | .hbm, ⟨36, _⟩ => ⟨S2048x16x1, .f32⟩
  | .hbm, ⟨37, _⟩ => ⟨S2048x16x1, .f32⟩
  | .hbm, ⟨38, _⟩ => ⟨S2048x16x64, .f32⟩
  | .hbm, ⟨39, _⟩ => ⟨S2048x16x64, .f32⟩
  | .hbm, ⟨40, _⟩ => ⟨S1x1x64, .f32⟩
  | .hbm, ⟨41, _⟩ => ⟨S2048x16x64, .f32⟩
  | .hbm, ⟨42, _⟩ => ⟨S2048x16x64, .f32⟩
  | .hbm, ⟨43, _⟩ => ⟨S16x2048x2048, .f32⟩
  | .hbm, ⟨44, _⟩ => ⟨S_, .f32⟩
  | .hbm, ⟨45, _⟩ => ⟨S16x2048x2048, .f32⟩
  | .hbm, ⟨46, _⟩ => ⟨S16x2048x2048, .f32⟩
  | .hbm, ⟨47, _⟩ => ⟨S16x2048x1, .f32⟩
  | .hbm, ⟨48, _⟩ => ⟨S16x2048x2048, .f32⟩
  | .hbm, ⟨49, _⟩ => ⟨S16x2048x2048, .f32⟩
  | .hbm, ⟨50, _⟩ => ⟨S16x1x2048, .f32⟩
  | .hbm, ⟨51, _⟩ => ⟨S16x2048x2048, .f32⟩
  | .hbm, ⟨52, _⟩ => ⟨S16x2048x2048, .f32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S_, .f32⟩
  | .hbm, ⟨57, _⟩ => ⟨S_, .f32⟩
  | .hbm, ⟨58, _⟩ => ⟨S16x2048x2048, .i1⟩
  | .hbm, ⟨59, _⟩ => ⟨S16x2048x2048, .f32⟩
  | .hbm, ⟨60, _⟩ => ⟨S16x2048x2048, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S16x2048x2048, .f32⟩
  | .hbm, ⟨65, _⟩ => ⟨S16x2048x2048, .f32⟩
  | .hbm, ⟨66, _⟩ => ⟨S16x2048x2048, .f32⟩
  | .hbm, ⟨67, _⟩ => ⟨S_, .f32⟩
  | .hbm, ⟨68, _⟩ => ⟨S16x2048, .f32⟩
  | .hbm, ⟨69, _⟩ => ⟨S16x2048x1, .f32⟩
  | .hbm, ⟨70, _⟩ => ⟨S16x2048x1, .f32⟩
  | .hbm, ⟨71, _⟩ => ⟨S16x2048x1, .f32⟩
  | .hbm, ⟨72, _⟩ => ⟨S16x2048, .f32⟩
  | .hbm, ⟨73, _⟩ => ⟨S8x2x2048, .f32⟩
  | .hbm, ⟨74, _⟩ => ⟨S_, .i32⟩
  | .hbm, ⟨75, _⟩ => ⟨S_, .f32⟩
  | .hbm, ⟨76, _⟩ => ⟨S8x8x2048, .f32⟩
  | .hbm, ⟨77, _⟩ => ⟨S8x2x2048, .f32⟩
  | .hbm, ⟨78, _⟩ => ⟨S2048x16, .f32⟩
  | .hbm, ⟨79, _⟩ => ⟨S_, .i32⟩
  | .hbm, ⟨80, _⟩ => ⟨S_, .f32⟩
  | .hbm, ⟨81, _⟩ => ⟨S2048x128, .f32⟩
  | .hbm, ⟨82, _⟩ => ⟨S2048x1024, .bf16⟩
  | .hbm, ⟨83, _⟩ => ⟨S3x2048x1024, .bf16⟩
  | .hbm, ⟨84, _⟩ => ⟨S2048x128, .f32⟩
  | .hbm, ⟨85, _⟩ => ⟨S1x64, .f32⟩
  | .hbm, ⟨86, _⟩ => ⟨S1x64, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x2x2048, .f32⟩
  | .local _ .vmem, ⟨8, _⟩ => ⟨S1x2x2048, .f32⟩
  | .local _ .vmem, ⟨9, _⟩ => ⟨S1x64, .f32⟩
  | .local _ .vmem, ⟨10, _⟩ => ⟨S1x64, .f32⟩
  | .local _ .vmem, ⟨11, _⟩ => ⟨S1x8x2048, .f32⟩
  | .local _ .vmem, ⟨12, _⟩ => ⟨S1x8x2048, .f32⟩
  | .local _ .vmem, ⟨13, _⟩ => ⟨S2048x128, .bf16⟩
  | .local _ .vmem, ⟨14, _⟩ => ⟨S2048x128, .bf16⟩
  | .local _ .vmem, ⟨15, _⟩ => ⟨S3x2048x128, .bf16⟩
  | .local _ .vmem, ⟨16, _⟩ => ⟨S3x2048x128, .bf16⟩
  | .local _ .vmem, ⟨17, _⟩ => ⟨S2048x128, .f32⟩
  | .local _ .vmem, ⟨18, _⟩ => ⟨S1x64, .f32⟩
  | .local _ .vmem, ⟨19, _⟩ => ⟨S1x64, .f32⟩
  | .local _ .vmem, ⟨20, _⟩ => ⟨S2048x64, .f32⟩
  | .local _ .vmem, ⟨21, _⟩ => ⟨S2048x64, .f32⟩
  | .local _ .vmem, ⟨22, _⟩ => ⟨S2048x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c : Ref sig .tc := ⟨.hbm, 74, rfl⟩
abbrev main_call1_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c_9 : Ref sig .tc := ⟨.hbm, 79, rfl⟩
abbrev main_call2_v0 : Ref sig .tc := ⟨.hbm, 80, rfl⟩
abbrev main_v59 : Ref sig .tc := ⟨.hbm, 81, rfl⟩
abbrev main_v60 : Ref sig .tc := ⟨.hbm, 82, rfl⟩
abbrev main_v61_0 : Ref sig .tc := ⟨.hbm, 83, rfl⟩
abbrev main_v61_1 : Ref sig .tc := ⟨.hbm, 84, rfl⟩
abbrev main_v61_2 : Ref sig .tc := ⟨.hbm, 85, rfl⟩
abbrev main_v61_3 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FoxIdeal.lean ====
variable {F : FTy → Type} [FloatOps F] [Named F]
def κ : String → Option EReal := fun
  | "mask" => some ⊥
  | _ => none
-- ==== FoxRefIdeal.lean ====
abbrev S2048x3072 : Shape := ⟨2, ![2048, 3072]⟩
abbrev S16x2048 : Shape := ⟨2, ![16, 2048]⟩
abbrev S1x64 : Shape := ⟨2, ![1, 64]⟩
abbrev S2048x1024 : Shape := ⟨2, ![2048, 1024]⟩
abbrev S2048x16x64 : Shape := ⟨3, ![2048, 16, 64]⟩
abbrev S64 : Shape := ⟨1, ![64]⟩
abbrev S_ : Shape := ⟨0, ![]⟩
abbrev S2048x16 : Shape := ⟨2, ![2048, 16]⟩
abbrev S2048x16x1 : Shape := ⟨3, ![2048, 16, 1]⟩
abbrev S1x1x64 : Shape := ⟨3, ![1, 1, 64]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S16x64x2048 : Shape := ⟨3, ![16, 64, 2048]⟩
abbrev S16x2048x64 : Shape := ⟨3, ![16, 2048, 64]⟩
abbrev S2048x3x1024 : Shape := ⟨3, ![2048, 3, 1024]⟩
abbrev S3x2048x1024 : Shape := ⟨3, ![3, 2048, 1024]⟩
abbrev S2048x128 : Shape := ⟨2, ![2048, 128]⟩

abbrev nBuf : Space → Nat
  | .hbm => 225
  | .vmem => 0
  | .smem => 0
  | _ => 0

abbrev hbmTy0_0 (i : Nat) : BufTy := match i % 128 with
  | 0 => ⟨S2048x3072, .f32⟩
  | 1 => ⟨S16x2048, .f32⟩
  | 2 => ⟨S1x64, .f32⟩
  | 3 => ⟨S1x64, .f32⟩
  | 4 => ⟨S2048x1024, .f32⟩
  | 5 => ⟨S2048x1024, .f32⟩
  | 6 => ⟨S2048x16x64, .f32⟩
  | 7 => ⟨S64, .f32⟩
  | 8 => ⟨S2048x16x64, .f32⟩
  | 9 => ⟨S_, .f32⟩
  | 10 => ⟨S2048x16, .f32⟩
  | 11 => ⟨S2048x16x1, .f32⟩
  | 12 => ⟨S_, .f32⟩
  | 13 => ⟨S2048x16x1, .f32⟩
  | 14 => ⟨S2048x16x1, .f32⟩
  | 15 => ⟨S_, .f32⟩
  | 16 => ⟨S2048x16x1, .f32⟩
  | 17 => ⟨S2048x16x1, .f32⟩
  | 18 => ⟨S2048x16x1, .f32⟩
  | 19 => ⟨S2048x16x1, .f32⟩
  | 20 => ⟨S_, .f32⟩
  | 21 => ⟨S2048x16x1, .f32⟩
  | 22 => ⟨S2048x16x1, .f32⟩
  | 23 => ⟨S2048x16x64, .f32⟩
  | 24 => ⟨S2048x16x64, .f32⟩
  | 25 => ⟨S1x1x64, .f32⟩
  | 26 => ⟨S2048x16x64, .f32⟩
  | 27 => ⟨S2048x16x64, .f32⟩
  | 28 => ⟨S2048x1024, .f32⟩
  | 29 => ⟨S2048x16x64, .f32⟩
  | 30 => ⟨S64, .f32⟩
  | 31 => ⟨S2048x16x64, .f32⟩
  | 32 => ⟨S_, .f32⟩
  | 33 => ⟨S2048x16, .f32⟩
  | 34 => ⟨S2048x16x1, .f32⟩
  | 35 => ⟨S_, .f32⟩
  | 36 => ⟨S2048x16x1, .f32⟩
  | 37 => ⟨S2048x16x1, .f32⟩
  | 38 => ⟨S_, .f32⟩
  | 39 => ⟨S2048x16x1, .f32⟩
  | 40 => ⟨S2048x16x1, .f32⟩
  | 41 => ⟨S2048x16x1, .f32⟩
  | 42 => ⟨S2048x16x1, .f32⟩
  | 43 => ⟨S_, .f32⟩
  | 44 => ⟨S2048x16x1, .f32⟩
  | 45 => ⟨S2048x16x1, .f32⟩
  | 46 => ⟨S2048x16x64, .f32⟩
  | 47 => ⟨S2048x16x64, .f32⟩
  | 48 => ⟨S1x1x64, .f32⟩
  | 49 => ⟨S2048x16x64, .f32⟩
  | 50 => ⟨S2048x16x64, .f32⟩
  | 51 => ⟨S2048x1024, .f32⟩
  | 52 => ⟨S2048x16x64, .f32⟩
  | 53 => ⟨S16x2048x2048, .f32⟩
  | 54 => ⟨S_, .f32⟩
  | 55 => ⟨S16x2048x2048, .f32⟩
  | 56 => ⟨S16x2048x2048, .f32⟩
  | 57 => ⟨S16x2048x1, .f32⟩
  | 58 => ⟨S16x2048x2048, .f32⟩
  | 59 => ⟨S16x2048x2048, .f32⟩
  | 60 => ⟨S16x1x2048, .f32⟩
  | 61 => ⟨S16x2048x2048, .f32⟩
  | 62 => ⟨S16x2048x2048, .f32⟩
  | 63 => ⟨S2048x2048, .i32⟩
  | 64 => ⟨S2048x2048, .i32⟩
  | 65 => ⟨S2048x2048, .i1⟩
  | 66 => ⟨S_, .f32⟩
  | 67 => ⟨S_, .f32⟩
  | 68 => ⟨S16x2048x2048, .i1⟩
  | 69 => ⟨S16x2048x2048, .f32⟩
  | 70 => ⟨S16x2048x2048, .f32⟩
  | 71 => ⟨S_, .f32⟩
  | 72 => ⟨S16x2048x2048, .f32⟩
  | 73 => ⟨S_, .f32⟩
  | 74 => ⟨S16x2048, .f32⟩
  | 75 => ⟨S16x2048x1, .f32⟩
  | 76 => ⟨S16x2048x2048, .f32⟩
  | 77 => ⟨S16x2048x2048, .i1⟩
  | 78 => ⟨S16x2048x2048, .f32⟩
  | 79 => ⟨S_, .f32⟩
  | 80 => ⟨S16x2048, .f32⟩
  | 81 => ⟨S_, .f32⟩
  | 82 => ⟨S16x2048, .f32⟩
  | 83 => ⟨S16x2048, .f32⟩
  | 84 => ⟨S_, .f32⟩
  | 85 => ⟨S16x2048, .f32⟩
  | 86 => ⟨S16x2048, .i1⟩
  | 87 => ⟨S_, .f32⟩
  | 88 => ⟨S16x2048, .f32⟩
  | 89 => ⟨S16x2048, .i1⟩
  | 90 => ⟨S_, .f32⟩
  | 91 => ⟨S16x2048, .f32⟩
  | 92 => ⟨S_, .f32⟩
  | 93 => ⟨S16x2048, .f32⟩
  | 94 => ⟨S_, .f32⟩
  | 95 => ⟨S16x2048, .f32⟩
  | 96 => ⟨S16x2048, .f32⟩
  | 97 => ⟨S16x2048, .f32⟩
  | 98 => ⟨S16x2048x1, .f32⟩
  | 99 => ⟨S16x2048x2048, .f32⟩
  | 100 => ⟨S16x2048x2048, .f32⟩
  | 101 => ⟨S16x2048x2048, .f32⟩
  | 102 => ⟨S_, .f32⟩
  | 103 => ⟨S16x2048, .f32⟩
  | 104 => ⟨S16x2048x1, .f32⟩
  | 105 => ⟨S16x2048x2048, .f32⟩
  | 106 => ⟨S16x2048x2048, .f32⟩
  | 107 => ⟨S16x2048x1, .f32⟩
  | 108 => ⟨S_, .f32⟩
  | 109 => ⟨S16x2048x1, .f32⟩
  | 110 => ⟨S16x2048x1, .f32⟩
  | 111 => ⟨S16x64x2048, .f32⟩
  | 112 => ⟨S2048x16x64, .f32⟩
  | 113 => ⟨S2048x1024, .f32⟩
  | 114 => ⟨S2048x16x64, .f32⟩
  | 115 => ⟨S16x64x2048, .f32⟩
  | 116 => ⟨S16x2048x2048, .f32⟩
  | 117 => ⟨S16x64x2048, .f32⟩
  | 118 => ⟨S2048x16x64, .f32⟩
  | 119 => ⟨S16x2048x2048, .f32⟩
  | 120 => ⟨S16x2048x2048, .f32⟩
  | 121 => ⟨S16x2048x2048, .f32⟩
  | 122 => ⟨S_, .f32⟩
  | 123 => ⟨S16x2048, .f32⟩
  | 124 => ⟨S16x2048x1, .f32⟩
  | 125 => ⟨S16x2048x1, .f32⟩
  | 126 => ⟨S16x2048x2048, .f32⟩
  | 127 => ⟨S16x2048x2048, .f32⟩
  | _ => ⟨S2048x3072, .f32⟩

abbrev hbmTy0_1 (i : Nat) : BufTy := match i % 128 with
  | 0 => ⟨S_, .f32⟩
  | 1 => ⟨S16x2048, .f32⟩
  | 2 => ⟨S16x2048x2048, .f32⟩
  | 3 => ⟨S16x2048x2048, .f32⟩
  | 4 => ⟨S16x2048x2048, .f32⟩
  | 5 => ⟨S_, .f32⟩
  | 6 => ⟨S16x2048x2048, .f32⟩
  | 7 => ⟨S16x2048x2048, .f32⟩
  | 8 => ⟨S16x2048x2048, .f32⟩
  | 9 => ⟨S_, .f32⟩
  | 10 => ⟨S16x2048, .f32⟩
  | 11 => ⟨S16x1x2048, .f32⟩
  | 12 => ⟨S_, .f32⟩
  | 13 => ⟨S16x2048, .f32⟩
  | 14 => ⟨S_, .f32⟩
  | 15 => ⟨S16x2048, .f32⟩
  | 16 => ⟨S16x2048x1, .f32⟩
  | 17 => ⟨S_, .f32⟩
  | 18 => ⟨S16x2048, .f32⟩
  | 19 => ⟨S16x2048, .f32⟩
  | 20 => ⟨S_, .f32⟩
  | 21 => ⟨S16x2048x2048, .f32⟩
  | 22 => ⟨S16x2048x2048, .f32⟩
  | 23 => ⟨S16x2048x64, .f32⟩
  | 24 => ⟨S2048x16x64, .f32⟩
  | 25 => ⟨S16x2048x64, .f32⟩
  | 26 => ⟨S2048x16x64, .f32⟩
  | 27 => ⟨S2048x1024, .f32⟩
  | 28 => ⟨S_, .f32⟩
  | 29 => ⟨S2048x3072, .f32⟩
  | 30 => ⟨S2048x16x64, .f32⟩
  | 31 => ⟨S_, .f32⟩
  | 32 => ⟨S64, .f32⟩
  | 33 => ⟨S1x1x64, .f32⟩
  | 34 => ⟨S2048x16x64, .f32⟩
  | 35 => ⟨S2048x16x64, .f32⟩
  | 36 => ⟨S_, .f32⟩
  | 37 => ⟨S64, .f32⟩
  | 38 => ⟨S2048x16x64, .f32⟩
  | 39 => ⟨S_, .f32⟩
  | 40 => ⟨S2048x16, .f32⟩
  | 41 => ⟨S2048x16x1, .f32⟩
  | 42 => ⟨S2048x16x64, .f32⟩
  | 43 => ⟨S2048x16x64, .f32⟩
  | 44 => ⟨S2048x16x1, .f32⟩
  | 45 => ⟨S_, .f32⟩
  | 46 => ⟨S2048x16x1, .f32⟩
  | 47 => ⟨S2048x16x1, .f32⟩
  | 48 => ⟨S_, .f32⟩
  | 49 => ⟨S2048x16, .f32⟩
  | 50 => ⟨S2048x16x64, .f32⟩
  | 51 => ⟨S2048x16x64, .f32⟩
  | 52 => ⟨S2048x16x64, .f32⟩
  | 53 => ⟨S2048x16x64, .f32⟩
  | 54 => ⟨S2048x16x64, .f32⟩
  | 55 => ⟨S1x64, .f32⟩
  | 56 => ⟨S2048x1024, .f32⟩
  | 57 => ⟨S_, .f32⟩
  | 58 => ⟨S2048x3072, .f32⟩
  | 59 => ⟨S2048x3072, .f32⟩
  | 60 => ⟨S2048x16x64, .f32⟩
  | 61 => ⟨S_, .f32⟩
  | 62 => ⟨S64, .f32⟩
  | 63 => ⟨S1x1x64, .f32⟩
  | 64 => ⟨S2048x16x64, .f32⟩
  | 65 => ⟨S2048x16x64, .f32⟩
  | 66 => ⟨S_, .f32⟩
  | 67 => ⟨S64, .f32⟩
  | 68 => ⟨S2048x16x64, .f32⟩
  | 69 => ⟨S_, .f32⟩
  | 70 => ⟨S2048x16, .f32⟩
  | 71 => ⟨S2048x16x1, .f32⟩
  | 72 => ⟨S2048x16x64, .f32⟩
  | 73 => ⟨S2048x16x64, .f32⟩
  | 74 => ⟨S2048x16x1, .f32⟩
  | 75 => ⟨S_, .f32⟩
  | 76 => ⟨S2048x16x1, .f32⟩
  | 77 => ⟨S2048x16x1, .f32⟩
  | 78 => ⟨S_, .f32⟩
  | 79 => ⟨S2048x16, .f32⟩
  | 80 => ⟨S2048x16x64, .f32⟩
  | 81 => ⟨S2048x16x64, .f32⟩
  | 82 => ⟨S2048x16x64, .f32⟩
  | 83 => ⟨S2048x16x64, .f32⟩
  | 84 => ⟨S2048x16x64, .f32⟩
  | 85 => ⟨S1x64, .f32⟩
  | 86 => ⟨S2048x1024, .f32⟩
  | 87 => ⟨S_, .f32⟩
  | 88 => ⟨S2048x3072, .f32⟩
  | 89 => ⟨S2048x3072, .f32⟩
  | 90 => ⟨S2048x3x1024, .f32⟩
  | 91 => ⟨S3x2048x1024, .f32⟩
  | 92 => ⟨S3x2048x1024, .bf16⟩
  | 93 => ⟨S2048x16, .f32⟩
  | 94 => ⟨S_, .i32⟩
  | 95 => ⟨S_, .f32⟩
  | 96 => ⟨S2048x128, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_call0_v0 : Ref sig .tc := ⟨.hbm, 67, rfl⟩
abbrev main_v52_1 : Ref sig .tc := ⟨.hbm, 68, rfl⟩
abbrev main_call0_v2 : Ref sig .tc := ⟨.hbm, 69, rfl⟩
abbrev main_v52_0 : Ref sig .tc := ⟨.hbm, 70, rfl⟩
abbrev main_call0_cst : Ref sig .tc := ⟨.hbm, 71, rfl⟩
abbrev main_v52_2 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_cst_13 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_cst_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_20 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_call1_cst : Ref sig .tc := ⟨.hbm, 133, rfl⟩
abbrev main_call1_v0 : Ref sig .tc := ⟨.hbm, 134, rfl⟩
abbrev main_v101 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩
abbrev main_cst_22 : Ref sig .tc := ⟨.hbm, 140, rfl⟩
abbrev main_v105 : Ref sig .tc := ⟨.hbm, 141, rfl⟩
abbrev main_cst_23 : Ref sig .tc := ⟨.hbm, 142, rfl⟩
abbrev main_v106 : Ref sig .tc := ⟨.hbm, 143, rfl⟩
abbrev main_v107 : Ref sig .tc := ⟨.hbm, 144, rfl⟩
abbrev main_cst_24 : Ref sig .tc := ⟨.hbm, 145, rfl⟩
abbrev main_v108 : Ref sig .tc := ⟨.hbm, 146, rfl⟩
abbrev main_v109 : Ref sig .tc := ⟨.hbm, 147, rfl⟩
abbrev main_cst_25 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_v118 : Ref sig .tc := ⟨.hbm, 158, rfl⟩
abbrev main_cst_27 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_28 : Ref sig .tc := ⟨.hbm, 164, rfl⟩
abbrev main_v123 : Ref sig .tc := ⟨.hbm, 165, rfl⟩
abbrev main_v124 : Ref sig .tc := ⟨.hbm, 166, rfl⟩
abbrev main_cst_29 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_30 : Ref sig .tc := ⟨.hbm, 173, rfl⟩
abbrev main_v130 : Ref sig .tc := ⟨.hbm, 174, rfl⟩
abbrev main_v131 : Ref sig .tc := ⟨.hbm, 175, rfl⟩
abbrev main_cst_31 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_32 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_33 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_34 : Ref sig .tc := ⟨.hbm, 194, rfl⟩
abbrev main_v147 : Ref sig .tc := ⟨.hbm, 195, rfl⟩
abbrev main_v148 : Ref sig .tc := ⟨.hbm, 196, rfl⟩
abbrev main_cst_35 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_36 : Ref sig .tc := ⟨.hbm, 203, rfl⟩
abbrev main_v154 : Ref sig .tc := ⟨.hbm, 204, rfl⟩
abbrev main_v155 : Ref sig .tc := ⟨.hbm, 205, rfl⟩
abbrev main_cst_37 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_cst_38 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_c : Ref sig .tc := ⟨.hbm, 222, rfl⟩
abbrev main_call2_v0 : Ref sig .tc := ⟨.hbm, 223, rfl⟩
abbrev main_v170 : Ref sig .tc := ⟨.hbm, 224, rfl⟩

abbrev nD : Nat := 1
abbrev τ : Topo := Topo.v7x

variable {F : FTy → Type} [FloatOps F]
-- ==== FoxFwd.lean ====
abbrev S2048x3072 : Shape := ⟨2, ![2048, 3072]⟩
abbrev S16x2048 : Shape := ⟨2, ![16, 2048]⟩
abbrev S1x64 : Shape := ⟨2, ![1, 64]⟩
abbrev S8x2x2048 : Shape := ⟨3, ![8, 2, 2048]⟩
abbrev S2048x16 : Shape := ⟨2, ![2048, 16]⟩
abbrev S_ : Shape := ⟨0, ![]⟩
abbrev S2048x128 : Shape := ⟨2, ![2048, 128]⟩
abbrev S2048x1024 : Shape := ⟨2, ![2048, 1024]⟩
abbrev S8x8x2048 : Shape := ⟨3, ![8, 8, 2048]⟩
abbrev S1x2x2048 : Shape := ⟨3, ![1, 2, 2048]⟩
abbrev S1x8x2048 : Shape := ⟨3, ![1, 8, 2048]⟩
abbrev S2048x64 : Shape := ⟨2, ![2048, 64]⟩
abbrev S2048 : Shape := ⟨1, ![2048]⟩
abbrev S2048x1 : Shape := ⟨2, ![2048, 1]⟩
abbrev S64x2048 : Shape := ⟨2, ![64, 2048]⟩
abbrev S1x1x2048 : Shape := ⟨3, ![1, 1, 2048]⟩
abbrev S1x2048 : Shape := ⟨2, ![1, 2048]⟩
abbrev S512x64 : Shape := ⟨2, ![512, 64]⟩
abbrev S1x512 : Shape := ⟨2, ![1, 512]⟩
abbrev S512x512 : Shape := ⟨2, ![512, 512]⟩
abbrev S512x1 : Shape := ⟨2, ![512, 1]⟩
abbrev S512 : Shape := ⟨1, ![512]⟩
abbrev S64x512 : Shape := ⟨2, ![64, 512]⟩
abbrev S1x1x512 : Shape := ⟨3, ![1, 1, 512]⟩
abbrev S1024x64 : Shape := ⟨2, ![1024, 64]⟩
abbrev S1024x512 : Shape := ⟨2, ![1024, 512]⟩
abbrev S1024x1 : Shape := ⟨2, ![1024, 1]⟩
abbrev S64x1024 : Shape := ⟨2, ![64, 1024]⟩
abbrev S1536x64 : Shape := ⟨2, ![1536, 64]⟩
abbrev S1536x512 : Shape := ⟨2, ![1536, 512]⟩
abbrev S1536x1 : Shape := ⟨2, ![1536, 1]⟩
abbrev S64x1536 : Shape := ⟨2, ![64, 1536]⟩
abbrev S2048x512 : Shape := ⟨2, ![2048, 512]⟩

abbrev nBuf : Space → Nat
  | .hbm => 11
  | .vmem => 15
  | .smem => 0
  | _ => 0

abbrev bufTy : (tb : Table) → Fin (tcTables nBuf tb) → BufTy
  | .hbm, ⟨0, _⟩ => ⟨S2048x3072, .f32⟩
  | .hbm, ⟨1, _⟩ => ⟨S16x2048, .f32⟩
  | .hbm, ⟨2, _⟩ => ⟨S1x64, .f32⟩
  | .hbm, ⟨3, _⟩ => ⟨S1x64, .f32⟩
  | .hbm, ⟨4, _⟩ => ⟨S8x2x2048, .f32⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x1024, .bf16⟩
  | .hbm, ⟨10, _⟩ => ⟨S8x8x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x2x2048, .f32⟩
  | .local _ .vmem, ⟨8, _⟩ => ⟨S1x2x2048, .f32⟩
  | .local _ .vmem, ⟨9, _⟩ => ⟨S1x64, .f32⟩
  | .local _ .vmem, ⟨10, _⟩ => ⟨S1x64, .f32⟩
  | .local _ .vmem, ⟨11, _⟩ => ⟨S2048x128, .bf16⟩
  | .local _ .vmem, ⟨12, _⟩ => ⟨S2048x128, .bf16⟩
  | .local _ .vmem, ⟨13, _⟩ => ⟨S1x8x2048, .f32⟩
  | .local _ .vmem, ⟨14, _⟩ => ⟨S1x8x2048, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FoxFwdIdeal.lean ====
variable {F : FTy → Type} [FloatOps F] [Named F]
def κ : String → Option EReal := fun
  | "mask" => some ⊥
  | _ => none
-- ==== FoxFwdRefIdeal.lean ====
abbrev S2048x3072 : Shape := ⟨2, ![2048, 3072]⟩
abbrev S16x2048 : Shape := ⟨2, ![16, 2048]⟩
abbrev S1x64 : Shape := ⟨2, ![1, 64]⟩
abbrev S2048x1024 : Shape := ⟨2, ![2048, 1024]⟩
abbrev S2048x16x64 : Shape := ⟨3, ![2048, 16, 64]⟩
abbrev S64 : Shape := ⟨1, ![64]⟩
abbrev S_ : Shape := ⟨0, ![]⟩
abbrev S2048x16 : Shape := ⟨2, ![2048, 16]⟩
abbrev S2048x16x1 : Shape := ⟨3, ![2048, 16, 1]⟩
abbrev S1x1x64 : Shape := ⟨3, ![1, 1, 64]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S8x2x2048 : Shape := ⟨3, ![8, 2, 2048]⟩
abbrev S16x64x2048 : Shape := ⟨3, ![16, 64, 2048]⟩
abbrev S8x8x2048 : Shape := ⟨3, ![8, 8, 2048]⟩

abbrev nBuf : Space → Nat
  | .hbm => 152
  | .vmem => 0
  | .smem => 0
  | _ => 0

abbrev hbmTy0_0 (i : Nat) : BufTy := match i % 128 with
  | 0 => ⟨S2048x3072, .f32⟩
  | 1 => ⟨S16x2048, .f32⟩
  | 2 => ⟨S1x64, .f32⟩
  | 3 => ⟨S1x64, .f32⟩
  | 4 => ⟨S2048x1024, .f32⟩
  | 5 => ⟨S2048x16x64, .f32⟩
  | 6 => ⟨S64, .f32⟩
  | 7 => ⟨S2048x16x64, .f32⟩
  | 8 => ⟨S_, .f32⟩
  | 9 => ⟨S2048x16, .f32⟩
  | 10 => ⟨S2048x16x1, .f32⟩
  | 11 => ⟨S_, .f32⟩
  | 12 => ⟨S2048x16x1, .f32⟩
  | 13 => ⟨S2048x16x1, .f32⟩
  | 14 => ⟨S_, .f32⟩
  | 15 => ⟨S2048x16x1, .f32⟩
  | 16 => ⟨S2048x16x1, .f32⟩
  | 17 => ⟨S2048x16x1, .f32⟩
  | 18 => ⟨S2048x16x64, .f32⟩
  | 19 => ⟨S2048x16x64, .f32⟩
  | 20 => ⟨S1x1x64, .f32⟩
  | 21 => ⟨S2048x16x64, .f32⟩
  | 22 => ⟨S2048x16x64, .f32⟩
  | 23 => ⟨S2048x1024, .f32⟩
  | 24 => ⟨S2048x16x64, .f32⟩
  | 25 => ⟨S64, .f32⟩
  | 26 => ⟨S2048x16x64, .f32⟩
  | 27 => ⟨S_, .f32⟩
  | 28 => ⟨S2048x16, .f32⟩
  | 29 => ⟨S2048x16x1, .f32⟩
  | 30 => ⟨S_, .f32⟩
  | 31 => ⟨S2048x16x1, .f32⟩
  | 32 => ⟨S2048x16x1, .f32⟩
  | 33 => ⟨S_, .f32⟩
  | 34 => ⟨S2048x16x1, .f32⟩
  | 35 => ⟨S2048x16x1, .f32⟩
  | 36 => ⟨S2048x16x1, .f32⟩
  | 37 => ⟨S2048x16x64, .f32⟩
  | 38 => ⟨S2048x16x64, .f32⟩
  | 39 => ⟨S1x1x64, .f32⟩
  | 40 => ⟨S2048x16x64, .f32⟩
  | 41 => ⟨S2048x16x64, .f32⟩
  | 42 => ⟨S16x2048x2048, .f32⟩
  | 43 => ⟨S_, .f32⟩
  | 44 => ⟨S16x2048x2048, .f32⟩
  | 45 => ⟨S16x2048x2048, .f32⟩
  | 46 => ⟨S16x2048x1, .f32⟩
  | 47 => ⟨S16x2048x2048, .f32⟩
  | 48 => ⟨S16x2048x2048, .f32⟩
  | 49 => ⟨S16x1x2048, .f32⟩
  | 50 => ⟨S16x2048x2048, .f32⟩
  | 51 => ⟨S16x2048x2048, .f32⟩
  | 52 => ⟨S2048x2048, .i32⟩
  | 53 => ⟨S2048x2048, .i32⟩
  | 54 => ⟨S2048x2048, .i1⟩
  | 55 => ⟨S_, .f32⟩
  | 56 => ⟨S_, .f32⟩
  | 57 => ⟨S16x2048x2048, .i1⟩
  | 58 => ⟨S16x2048x2048, .f32⟩
  | 59 => ⟨S16x2048x2048, .f32⟩
  | 60 => ⟨S_, .f32⟩
  | 61 => ⟨S16x2048, .f32⟩
  | 62 => ⟨S16x2048x1, .f32⟩
  | 63 => ⟨S16x2048x2048, .f32⟩
  | 64 => ⟨S16x2048x2048, .f32⟩
  | 65 => ⟨S16x2048x2048, .f32⟩
  | 66 => ⟨S_, .f32⟩
  | 67 => ⟨S16x2048, .f32⟩
  | 68 => ⟨S16x2048x1, .f32⟩
  | 69 => ⟨S16x2048x1, .f32⟩
  | 70 => ⟨S16x2048x1, .f32⟩
  | 71 => ⟨S16x2048, .f32⟩
  | 72 => ⟨S8x2x2048, .f32⟩
  | 73 => ⟨S2048x1024, .f32⟩
  | 74 => ⟨S2048x16x64, .f32⟩
  | 75 => ⟨S64, .f32⟩
  | 76 => ⟨S2048x16x64, .f32⟩
  | 77 => ⟨S_, .f32⟩
  | 78 => ⟨S2048x16, .f32⟩
  | 79 => ⟨S2048x16x1, .f32⟩
  | 80 => ⟨S_, .f32⟩
  | 81 => ⟨S2048x16x1, .f32⟩
  | 82 => ⟨S2048x16x1, .f32⟩
  | 83 => ⟨S_, .f32⟩
  | 84 => ⟨S2048x16x1, .f32⟩
  | 85 => ⟨S2048x16x1, .f32⟩
  | 86 => ⟨S2048x16x1, .f32⟩
  | 87 => ⟨S2048x16x64, .f32⟩
  | 88 => ⟨S2048x16x64, .f32⟩
  | 89 => ⟨S1x1x64, .f32⟩
  | 90 => ⟨S2048x16x64, .f32⟩
  | 91 => ⟨S2048x16x64, .f32⟩
  | 92 => ⟨S2048x1024, .f32⟩
  | 93 => ⟨S2048x16x64, .f32⟩
  | 94 => ⟨S64, .f32⟩
  | 95 => ⟨S2048x16x64, .f32⟩
  | 96 => ⟨S_, .f32⟩
  | 97 => ⟨S2048x16, .f32⟩
  | 98 => ⟨S2048x16x1, .f32⟩
  | 99 => ⟨S_, .f32⟩
  | 100 => ⟨S2048x16x1, .f32⟩
  | 101 => ⟨S2048x16x1, .f32⟩
  | 102 => ⟨S_, .f32⟩
  | 103 => ⟨S2048x16x1, .f32⟩
  | 104 => ⟨S2048x16x1, .f32⟩
  | 105 => ⟨S2048x16x1, .f32⟩
  | 106 => ⟨S2048x16x64, .f32⟩
  | 107 => ⟨S2048x16x64, .f32⟩
  | 108 => ⟨S1x1x64, .f32⟩
  | 109 => ⟨S2048x16x64, .f32⟩
  | 110 => ⟨S2048x16x64, .f32⟩
  | 111 => ⟨S2048x1024, .f32⟩
  | 112 => ⟨S2048x16x64, .f32⟩
  | 113 => ⟨S16x2048x2048, .f32⟩
  | 114 => ⟨S_, .f32⟩
  | 115 => ⟨S16x2048x2048, .f32⟩
  | 116 => ⟨S16x2048x2048, .f32⟩
  | 117 => ⟨S16x2048x1, .f32⟩
  | 118 => ⟨S16x2048x2048, .f32⟩
  | 119 => ⟨S16x2048x2048, .f32⟩
  | 120 => ⟨S16x1x2048, .f32⟩
  | 121 => ⟨S16x2048x2048, .f32⟩
  | 122 => ⟨S16x2048x2048, .f32⟩
  | 123 => ⟨S2048x2048, .i32⟩
  | 124 => ⟨S2048x2048, .i32⟩
  | 125 => ⟨S2048x2048, .i1⟩
  | 126 => ⟨S_, .f32⟩
  | 127 => ⟨S_, .f32⟩
  | _ => ⟨S2048x3072, .f32⟩

abbrev hbmTy0_1 (i : Nat) : BufTy := match i % 128 with
  | 0 => ⟨S16x2048x2048, .i1⟩
  | 1 => ⟨S16x2048x2048, .f32⟩
  | 2 => ⟨S16x2048x2048, .f32⟩
  | 3 => ⟨S_, .f32⟩
  | 4 => ⟨S16x2048, .f32⟩
  | 5 => ⟨S_, .f32⟩
  | 6 => ⟨S16x2048, .f32⟩
  | 7 => ⟨S16x2048, .f32⟩
  | 8 => ⟨S16x2048x1, .f32⟩
  | 9 => ⟨S16x2048x2048, .f32⟩
  | 10 => ⟨S16x2048x2048, .f32⟩
  | 11 => ⟨S16x2048x2048, .f32⟩
  | 12 => ⟨S_, .f32⟩
  | 13 => ⟨S16x2048, .f32⟩
  | 14 => ⟨S16x2048x1, .f32⟩
  | 15 => ⟨S16x2048x2048, .f32⟩
  | 16 => ⟨S16x2048x2048, .f32⟩
  | 17 => ⟨S16x64x2048, .f32⟩
  | 18 => ⟨S2048x16x64, .f32⟩
  | 19 => ⟨S2048x1024, .f32⟩
  | 20 => ⟨S2048x1024, .bf16⟩
  | 21 => ⟨S_, .i32⟩
  | 22 => ⟨S_, .f32⟩
  | 23 => ⟨S8x8x2048, .f32⟩
  | _ => ⟨S2048x3072, .f32⟩

abbrev hbmTy (i : Nat) : BufTy := match i / 128 with
  | 0 => hbmTy0_0 i
  | 1 => hbmTy0_1 i
  | _ => ⟨S2048x3072, .f32⟩

abbrev bufTy : (tb : Table) → Fin (tcTables nBuf tb) → BufTy
  | .hbm, ⟨i, _⟩ => hbmTy i
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_8 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_v62 : Ref sig .tc := ⟨.hbm, 81, rfl⟩
abbrev main_v63 : Ref sig .tc := ⟨.hbm, 82, rfl⟩
abbrev main_cst_11 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_12 : Ref sig .tc := ⟨.hbm, 96, rfl⟩
abbrev main_v76 : Ref sig .tc := ⟨.hbm, 97, rfl⟩
abbrev main_v77 : Ref sig .tc := ⟨.hbm, 98, rfl⟩
abbrev main_cst_13 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_15 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_16 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_cst_18 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_19 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_c : Ref sig .tc := ⟨.hbm, 149, rfl⟩
abbrev main_call2_v0 : Ref sig .tc := ⟨.hbm, 150, rfl⟩
abbrev main_v118 : Ref sig .tc := ⟨.hbm, 151, rfl⟩

abbrev nD : Nat := 1
abbrev τ : Topo := Topo.v7x

variable {F : FTy → Type} [FloatOps F]
-- ==== NormKv.lean ====
abbrev S2048x1024 : Shape := ⟨2, ![2048, 1024]⟩
abbrev S1024 : Shape := ⟨1, ![1024]⟩
abbrev S1024x256 : Shape := ⟨2, ![1024, 256]⟩
abbrev S1x1024 : Shape := ⟨2, ![1, 1024]⟩
abbrev S2048x256 : Shape := ⟨2, ![2048, 256]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x256, .f32⟩
  | .hbm, ⟨3, _⟩ => ⟨S1024x256, .bf16⟩
  | .hbm, ⟨4, _⟩ => ⟨S1x1024, .f32⟩
  | .hbm, ⟨5, _⟩ => ⟨S2048x256, .f32⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== NormKvRefIdeal.lean ====
abbrev S2048x1024 : Shape := ⟨2, ![2048, 1024]⟩
abbrev S1024 : Shape := ⟨1, ![1024]⟩
abbrev S1024x256 : Shape := ⟨2, ![1024, 256]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x256 : Shape := ⟨2, ![2048, 256]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x256, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x256, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Relu.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩
abbrev S3x1024x1024 : Shape := ⟨3, ![3, 1024, 1024]⟩
abbrev S2x3 : Shape := ⟨2, ![2, 3]⟩
abbrev S1x1 : Shape := ⟨2, ![1, 1]⟩
abbrev S1x1024x1024 : Shape := ⟨3, ![1, 1024, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S2048x1024, .bf16⟩
  | .hbm, ⟨9, _⟩ => ⟨S4096x1024, .bf16⟩
  | .hbm, ⟨10, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S3x1024x1024, .bf16⟩
  | .local _ .vmem, ⟨5, _⟩ => ⟨S3x1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c8_i32 : BitVec 32 := 8#32
  let v7 : BitVec 1 := Scalar.cmpi .slt v6 c8_i32
  let v8 : BitVec 32 := Scalar.extui v7
  let c0_i32_1 : BitVec 32 := 0#32
  let v9 : BitVec 1 := Scalar.cmpi .ne v8 c0_i32_1
  v9

def k0_off1 (i : grid0.Coords) : Fin 2 → Nat :=
  let c0_i32_68 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v86 : BitVec 32 := Scalar.addi v1 c3_i32_44
  let c1_i32_45 : BitVec 32 := 1#32
  let v87 : BitVec 32 := Scalar.subi v86 c1_i32_45
  let c3_i32_59 : BitVec 32 := 3#32
  let c0_i32_60 : BitVec 32 := 0#32
  let v115 : BitVec 1 := Scalar.cmpi .eq c3_i32_59 c0_i32_60
  let c1_i32_61 : BitVec 32 := 1#32
  let v116 : BitVec 32 := Scalar.select v115 c1_i32_61 c3_i32_59
  let v117 : BitVec 32 := Scalar.remsi v87 v116
  let c0_i32_63 : BitVec 32 := 0#32
  let v119 : BitVec 1 := Scalar.cmpi .slt v117 c0_i32_63
  let c0_i32_64 : BitVec 32 := 0#32
  let v120 : BitVec 1 := Scalar.cmpi .slt v116 c0_i32_64
  let v121 : BitVec 1 := Scalar.xori v119 v120
  let c0_i32_62 : BitVec 32 := 0#32
  let v118 : BitVec 1 := Scalar.cmpi .ne v117 c0_i32_62
  let v122 : BitVec 1 := Scalar.andi v121 v118
  let v123 : BitVec 32 := Scalar.addi v117 v116
  let v124 : BitVec 32 := Scalar.select v122 v123 v117
  ![0, v124.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v86 : BitVec 32 := Scalar.addi v1 c3_i32_44
  let c1_i32_45 : BitVec 32 := 1#32
  let v87 : BitVec 32 := Scalar.subi v86 c1_i32_45
  let c3_i32_59 : BitVec 32 := 3#32
  let c0_i32_60 : BitVec 32 := 0#32
  let v115 : BitVec 1 := Scalar.cmpi .eq c3_i32_59 c0_i32_60
  let c1_i32_61 : BitVec 32 := 1#32
  let v116 : BitVec 32 := Scalar.select v115 c1_i32_61 c3_i32_59
  let v117 : BitVec 32 := Scalar.remsi v87 v116
  let c0_i32_63 : BitVec 32 := 0#32
  let v119 : BitVec 1 := Scalar.cmpi .slt v117 c0_i32_63
  let c0_i32_64 : BitVec 32 := 0#32
  let v120 : BitVec 1 := Scalar.cmpi .slt v116 c0_i32_64
  let v121 : BitVec 1 := Scalar.xori v119 v120
  let c0_i32_62 : BitVec 32 := 0#32
  let v118 : BitVec 1 := Scalar.cmpi .ne v117 c0_i32_62
  let v122 : BitVec 1 := Scalar.andi v121 v118
  let v123 : BitVec 32 := Scalar.addi v117 v116
  let v124 : BitVec 32 := Scalar.select v122 v123 v117
  let c0_i32_69 : BitVec 32 := 0#32
  let c0_i32_70 : BitVec 32 := 0#32
  ![v124.toNat, 0, 0]
def k0_off3 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v86 : BitVec 32 := Scalar.addi v1 c3_i32_44
  let c1_i32_45 : BitVec 32 := 1#32
  let v87 : BitVec 32 := Scalar.subi v86 c1_i32_45
  let c4_i32_53 : BitVec 32 := 4#32
  let c0_i32_54 : BitVec 32 := 0#32
  let v105 : BitVec 1 := Scalar.cmpi .eq c4_i32_53 c0_i32_54
  let c1_i32_55 : BitVec 32 := 1#32
  let v106 : BitVec 32 := Scalar.select v105 c1_i32_55 c4_i32_53
  let v107 : BitVec 32 := Scalar.remsi v87 v106
  let c0_i32_57 : BitVec 32 := 0#32
  let v109 : BitVec 1 := Scalar.cmpi .slt v107 c0_i32_57
  let c0_i32_58 : BitVec 32 := 0#32
  let v110 : BitVec 1 := Scalar.cmpi .slt v106 c0_i32_58
  let v111 : BitVec 1 := Scalar.xori v109 v110
  let c0_i32_56 : BitVec 32 := 0#32
  let v108 : BitVec 1 := Scalar.cmpi .ne v107 c0_i32_56
  let v112 : BitVec 1 := Scalar.andi v111 v108
  let v113 : BitVec 32 := Scalar.addi v107 v106
  let v114 : BitVec 32 := Scalar.select v112 v113 v107
  let c1024_i32_65 : BitVec 32 := 1024#32
  let v125 : BitVec 32 := Scalar.muli v114 c1024_i32_65
  let c0_i32_71 : BitVec 32 := 0#32
  ![v125.toNat, 0]
def k0_off4 (i : grid0.Coords) : Fin 2 → Nat :=
  let c1_i32_72 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v86 : BitVec 32 := Scalar.addi v1 c3_i32_44
  let c1_i32_45 : BitVec 32 := 1#32
  let v87 : BitVec 32 := Scalar.subi v86 c1_i32_45
  let c3_i32_59 : BitVec 32 := 3#32
  let c0_i32_60 : BitVec 32 := 0#32
  let v115 : BitVec 1 := Scalar.cmpi .eq c3_i32_59 c0_i32_60
  let c1_i32_61 : BitVec 32 := 1#32
  let v116 : BitVec 32 := Scalar.select v115 c1_i32_61 c3_i32_59
  let v117 : BitVec 32 := Scalar.remsi v87 v116
  let c0_i32_63 : BitVec 32 := 0#32
  let v119 : BitVec 1 := Scalar.cmpi .slt v117 c0_i32_63
  let c0_i32_64 : BitVec 32 := 0#32
  let v120 : BitVec 1 := Scalar.cmpi .slt v116 c0_i32_64
  let v121 : BitVec 1 := Scalar.xori v119 v120
  let c0_i32_62 : BitVec 32 := 0#32
  let v118 : BitVec 1 := Scalar.cmpi .ne v117 c0_i32_62
  let v122 : BitVec 1 := Scalar.andi v121 v118
  let v123 : BitVec 32 := Scalar.addi v117 v116
  let v124 : BitVec 32 := Scalar.select v122 v123 v117
  ![1, v124.toNat]
def k0_off5 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_44 : BitVec 32 := 3#32
  let v86 : BitVec 32 := Scalar.addi v1 c3_i32_44
  let c1_i32_45 : BitVec 32 := 1#32
  let v87 : BitVec 32 := Scalar.subi v86 c1_i32_45
  let c0_i32_47 : BitVec 32 := 0#32
  let v89 : BitVec 1 := Scalar.cmpi .sgt v87 c0_i32_47
  let v90 : BitVec 32 := Scalar.extui v89
  let c0_i32_48 : BitVec 32 := 0#32
  let v91 : BitVec 1 := Scalar.cmpi .slt v87 c0_i32_48
  let v92 : BitVec 32 := Scalar.extui v91
  let v93 : BitVec 32 := Scalar.subi v90 v92
  let c4_i32_46 : BitVec 32 := 4#32
  let c0_i32_49 : BitVec 32 := 0#32
  let v94 : BitVec 1 := Scalar.cmpi .sgt c4_i32_46 c0_i32_49
  let v95 : BitVec 32 := Scalar.extui v94
  let c0_i32_50 : BitVec 32 := 0#32
  let v96 : BitVec 1 := Scalar.cmpi .slt c4_i32_46 c0_i32_50
  let v97 : BitVec 32 := Scalar.extui v96
  let v98 : BitVec 32 := Scalar.subi v95 v97
  let v99 : BitVec 1 := Scalar.cmpi .ne v93 v98
  let v100 : BitVec 32 := Scalar.remsi v87 c4_i32_46
  let c0_i32_51 : BitVec 32 := 0#32
  let v101 : BitVec 1 := Scalar.cmpi .ne v100 c0_i32_51
  let v102 : BitVec 1 := Scalar.andi v99 v101
  let v88 : BitVec 32 := Scalar.divsi v87 c4_i32_46
  let c1_i32_52 : BitVec 32 := 1#32
  let v103 : BitVec 32 := Scalar.subi v88 c1_i32_52
  let v104 : BitVec 32 := Scalar.select v102 v103 v88
  let c1024_i32_66 : BitVec 32 := 1024#32
  let v126 : BitVec 32 := Scalar.muli v104 c1024_i32_66
  let c4_i32_53 : BitVec 32 := 4#32
  let c0_i32_54 : BitVec 32 := 0#32
  let v105 : BitVec 1 := Scalar.cmpi .eq c4_i32_53 c0_i32_54
  let c1_i32_55 : BitVec 32 := 1#32
  let v106 : BitVec 32 := Scalar.select v105 c1_i32_55 c4_i32_53
  let v107 : BitVec 32 := Scalar.remsi v87 v106
  let c0_i32_57 : BitVec 32 := 0#32
  let v109 : BitVec 1 := Scalar.cmpi .slt v107 c0_i32_57
  let c0_i32_58 : BitVec 32 := 0#32
  let v110 : BitVec 1 := Scalar.cmpi .slt v106 c0_i32_58
  let v111 : BitVec 1 := Scalar.xori v109 v110
  let c0_i32_56 : BitVec 32 := 0#32
  let v108 : BitVec 1 := Scalar.cmpi .ne v107 c0_i32_56
  let v112 : BitVec 1 := Scalar.andi v111 v108
  let v113 : BitVec 32 := Scalar.addi v107 v106
  let v114 : BitVec 32 := Scalar.select v112 v113 v107
  let c1024_i32_67 : BitVec 32 := 1024#32
  let v127 : BitVec 32 := Scalar.muli v114 c1024_i32_67
  ![v126.toNat, v127.toNat]
def k0_off6 (i : grid0.Coords) : Fin 2 → Nat :=
  let c0_i32_23 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  ![0, v46.toNat]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  let c0_i32_24 : BitVec 32 := 0#32
  let c0_i32_25 : BitVec 32 := 0#32
  ![v46.toNat, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_9 : BitVec 32 := 4#32
  let c0_i32_10 : BitVec 32 := 0#32
  let v27 : BitVec 1 := Scalar.cmpi .eq c4_i32_9 c0_i32_10
  let c1_i32_11 : BitVec 32 := 1#32
  let v28 : BitVec 32 := Scalar.select v27 c1_i32_11 c4_i32_9
  let v29 : BitVec 32 := Scalar.remsi v1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c1024_i32 : BitVec 32 := 1024#32
  let v47 : BitVec 32 := Scalar.muli v36 c1024_i32
  let c0_i32_26 : BitVec 32 := 0#32
  ![v47.toNat, 0]
def k0_off9 (i : grid0.Coords) : Fin 2 → Nat :=
  let c1_i32_27 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_15 : BitVec 32 := 3#32
  let c0_i32_16 : BitVec 32 := 0#32
  let v37 : BitVec 1 := Scalar.cmpi .eq c3_i32_15 c0_i32_16
  let c1_i32_17 : BitVec 32 := 1#32
  let v38 : BitVec 32 := Scalar.select v37 c1_i32_17 c3_i32_15
  let v39 : BitVec 32 := Scalar.remsi v1 v38
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let c0_i32_18 : BitVec 32 := 0#32
  let v40 : BitVec 1 := Scalar.cmpi .ne v39 c0_i32_18
  let v44 : BitVec 1 := Scalar.andi v43 v40
  let v45 : BitVec 32 := Scalar.addi v39 v38
  let v46 : BitVec 32 := Scalar.select v44 v45 v39
  ![1, v46.toNat]
def k0_off10 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_3 : BitVec 32 := 0#32
  let v11 : BitVec 1 := Scalar.cmpi .sgt v1 c0_i32_3
  let v12 : BitVec 32 := Scalar.extui v11
  let c0_i32_4 : BitVec 32 := 0#32
  let v13 : BitVec 1 := Scalar.cmpi .slt v1 c0_i32_4
  let v14 : BitVec 32 := Scalar.extui v13
  let v15 : BitVec 32 := Scalar.subi v12 v14
  let c4_i32_2 : BitVec 32 := 4#32
  let c0_i32_5 : BitVec 32 := 0#32
  let v16 : BitVec 1 := Scalar.cmpi .sgt c4_i32_2 c0_i32_5
  let v17 : BitVec 32 := Scalar.extui v16
  let c0_i32_6 : BitVec 32 := 0#32
  let v18 : BitVec 1 := Scalar.cmpi .slt c4_i32_2 c0_i32_6
  let v19 : BitVec 32 := Scalar.extui v18
  let v20 : BitVec 32 := Scalar.subi v17 v19
  let v21 : BitVec 1 := Scalar.cmpi .ne v15 v20
  let v22 : BitVec 32 := Scalar.remsi v1 c4_i32_2
  let c0_i32_7 : BitVec 32 := 0#32
  let v23 : BitVec 1 := Scalar.cmpi .ne v22 c0_i32_7
  let v24 : BitVec 1 := Scalar.andi v21 v23
  let v10 : BitVec 32 := Scalar.divsi v1 c4_i32_2
  let c1_i32_8 : BitVec 32 := 1#32
  let v25 : BitVec 32 := Scalar.subi v10 c1_i32_8
  let v26 : BitVec 32 := Scalar.select v24 v25 v10
  let c1024_i32_21 : BitVec 32 := 1024#32
  let v48 : BitVec 32 := Scalar.muli v26 c1024_i32_21
  let c4_i32_9 : BitVec 32 := 4#32
  let c0_i32_10 : BitVec 32 := 0#32
  let v27 : BitVec 1 := Scalar.cmpi .eq c4_i32_9 c0_i32_10
  let c1_i32_11 : BitVec 32 := 1#32
  let v28 : BitVec 32 := Scalar.select v27 c1_i32_11 c4_i32_9
  let v29 : BitVec 32 := Scalar.remsi v1 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c1024_i32_22 : BitVec 32 := 1024#32
  let v49 : BitVec 32 := Scalar.muli v36 c1024_i32_22
  ![v48.toNat, v49.toNat]
def k0_off11 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_30 : BitVec 32 := 3#32
  let c0_i32_31 : BitVec 32 := 0#32
  let v60 : BitVec 1 := Scalar.cmpi .eq c3_i32_30 c0_i32_31
  let c1_i32_32 : BitVec 32 := 1#32
  let v61 : BitVec 32 := Scalar.select v60 c1_i32_32 c3_i32_30
  let v62 : BitVec 32 := Scalar.remsi v1 v61
  let c0_i32_34 : BitVec 32 := 0#32
  let v64 : BitVec 1 := Scalar.cmpi .slt v62 c0_i32_34
  let c0_i32_35 : BitVec 32 := 0#32
  let v65 : BitVec 1 := Scalar.cmpi .slt v61 c0_i32_35
  let v66 : BitVec 1 := Scalar.xori v64 v65
  let c0_i32_33 : BitVec 32 := 0#32
  let v63 : BitVec 1 := Scalar.cmpi .ne v62 c0_i32_33
  let v67 : BitVec 1 := Scalar.andi v66 v63
  let v68 : BitVec 32 := Scalar.addi v62 v61
  let v69 : BitVec 32 := Scalar.select v67 v68 v62
  let v72 : Index := Scalar.indexCast v69
  let c0_37 : Index := 0#32
  let c0_38 : Index := 0#32
  ![v72.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReluRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S1024x4096, .f32⟩
  | .hbm, ⟨17, _⟩ => ⟨S4096x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== RmsQ.lean ====
abbrev S2048x1024 : Shape := ⟨2, ![2048, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S2048x1024, .f32⟩
  | .hbm, ⟨9, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsQRefIdeal.lean ====
abbrev S2048x1024 : Shape := ⟨2, ![2048, 1024]⟩
abbrev S1024 : Shape := ⟨1, ![1024]⟩
abbrev S1024x1024 : Shape := ⟨2, ![1024, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== RmsKv.lean ====
abbrev S2048x1024 : Shape := ⟨2, ![2048, 1024]⟩
abbrev S1024 : Shape := ⟨1, ![1024]⟩
abbrev S1024x256 : Shape := ⟨2, ![1024, 256]⟩
abbrev S2048x256 : Shape := ⟨2, ![2048, 256]⟩
abbrev S1x1024 : Shape := ⟨2, ![1, 1024]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x256, .f32⟩
  | .hbm, ⟨3, _⟩ => ⟨S2048x256, .f32⟩
  | .hbm, ⟨4, _⟩ => ⟨S2048x1024, .f32⟩
  | .hbm, ⟨5, _⟩ => ⟨S1024x256, .bf16⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S2048x1024, .bf16⟩
  | .local _ .vmem, ⟨0, _⟩ => ⟨S512x256, .f32⟩
  | .local _ .vmem, ⟨1, _⟩ => ⟨S512x256, .f32⟩
  | .local _ .vmem, ⟨2, _⟩ => ⟨S1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RmsKvRefIdeal.lean ====
abbrev S2048x1024 : Shape := ⟨2, ![2048, 1024]⟩
abbrev S1024 : Shape := ⟨1, ![1024]⟩
abbrev S1024x256 : Shape := ⟨2, ![1024, 256]⟩
abbrev S2048x256 : Shape := ⟨2, ![2048, 256]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x256, .f32⟩
  | .hbm, ⟨3, _⟩ => ⟨S2048x256, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x256, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== RmsUp.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S2048x4096, .bf16⟩
  | .hbm, ⟨9, _⟩ => ⟨S1x1024, .f32⟩
  | .hbm, ⟨10, _⟩ => ⟨S2048x1024, .f32⟩
  | .hbm, ⟨11, _⟩ => ⟨S1x1024, .f32⟩
  | .hbm, ⟨12, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RmsUpRefIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x4096, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .bf16⟩
  | .hbm, ⟨55, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== RmsIn.lean ====
abbrev S2048x1024 : Shape := ⟨2, ![2048, 1024]⟩
abbrev S1024 : Shape := ⟨1, ![1024]⟩
abbrev S1024x3088 : Shape := ⟨2, ![1024, 3088]⟩
abbrev S2048x3088 : Shape := ⟨2, ![2048, 3088]⟩
abbrev S3088x1024 : Shape := ⟨2, ![3088, 1024]⟩
abbrev S_ : Shape := ⟨0, ![]⟩
abbrev S3200x1024 : Shape := ⟨2, ![3200, 1024]⟩
abbrev S2048x3072 : Shape := ⟨2, ![2048, 3072]⟩
abbrev S2048x3x1024 : Shape := ⟨3, ![2048, 3, 1024]⟩
abbrev S3x2048x1024 : Shape := ⟨3, ![3, 2048, 1024]⟩
abbrev S2048x16 : Shape := ⟨2, ![2048, 16]⟩
abbrev S2048x128 : Shape := ⟨2, ![2048, 128]⟩
abbrev S1x1024 : Shape := ⟨2, ![1, 1024]⟩
abbrev S3x512x1024 : Shape := ⟨3, ![3, 512, 1024]⟩
abbrev S512x128 : Shape := ⟨2, ![512, 128]⟩
abbrev S512x1024 : Shape := ⟨2, ![512, 1024]⟩
abbrev S128x1024 : Shape := ⟨2, ![128, 1024]⟩
abbrev S1x512x1024 : Shape := ⟨3, ![1, 512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 22
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3088, .f32⟩
  | .hbm, ⟨3, _⟩ => ⟨S2048x3088, .f32⟩
  | .hbm, ⟨4, _⟩ => ⟨S2048x1024, .f32⟩
  | .hbm, ⟨5, _⟩ => ⟨S3088x1024, .f32⟩
  | .hbm, ⟨6, _⟩ => ⟨S_, .i32⟩
  | .hbm, ⟨7, _⟩ => ⟨S_, .f32⟩
  | .hbm, ⟨8, _⟩ => ⟨S3200x1024, .f32⟩
  | .hbm, ⟨9, _⟩ => ⟨S3200x1024, .bf16⟩
  | .hbm, ⟨10, _⟩ => ⟨S2048x3072, .f32⟩
  | .hbm, ⟨11, _⟩ => ⟨S2048x3x1024, .f32⟩
  | .hbm, ⟨12, _⟩ => ⟨S3x2048x1024, .f32⟩
  | .hbm, ⟨13, _⟩ => ⟨S3x2048x1024, .bf16⟩
  | .hbm, ⟨14, _⟩ => ⟨S2048x16, .f32⟩
  | .hbm, ⟨15, _⟩ => ⟨S_, .i32⟩
  | .hbm, ⟨16, _⟩ => ⟨S_, .f32⟩
  | .hbm, ⟨17, _⟩ => ⟨S2048x128, .f32⟩
  | .hbm, ⟨18, _⟩ => ⟨S2048x128, .bf16⟩
  | .hbm, ⟨19, _⟩ => ⟨S1x1024, .f32⟩
  | .hbm, ⟨20, _⟩ => ⟨S2048x1024, .f32⟩
  | .hbm, ⟨21, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S512x128, .bf16⟩
  | .local _ .vmem, ⟨3, _⟩ => ⟨S512x128, .bf16⟩
  | .local _ .vmem, ⟨4, _⟩ => ⟨S3200x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3200x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsInRefIdeal.lean ====
abbrev S2048x1024 : Shape := ⟨2, ![2048, 1024]⟩
abbrev S1024 : Shape := ⟨1, ![1024]⟩
abbrev S1024x3088 : Shape := ⟨2, ![1024, 3088]⟩
abbrev S2048x3088 : Shape := ⟨2, ![2048, 3088]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x3088, .f32⟩
  | .hbm, ⟨3, _⟩ => ⟨S2048x3088, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x3088, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MatRes.lean ====
abbrev S2048x4096 : Shape := ⟨2, ![2048, 4096]⟩
abbrev S4096x1024 : Shape := ⟨2, ![4096, 1024]⟩
abbrev S2048x1024 : Shape := ⟨2, ![2048, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x4096, .bf16⟩
  | .hbm, ⟨4, _⟩ => ⟨S4096x1024, .bf16⟩
  | .hbm, ⟨5, _⟩ => ⟨S2048x1024, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MatResRefIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S2048x1024, .f32⟩
  | .hbm, ⟨4, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MatNt.lean ====
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatNtRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MatTn.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x4096, .bf16⟩
  | .hbm, ⟨3, _⟩ => ⟨S2048x1024, .bf16⟩
  | .hbm, ⟨4, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .bf16⟩
  | .local _ .vmem, ⟨4, _⟩ => ⟨S1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatTnRefIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Adam.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .bf16⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S_, .f32⟩
  | .hbm, ⟨5, _⟩ => ⟨S128x1024, .f32⟩
  | .hbm, ⟨6, _⟩ => ⟨S1x128x1024, .f32⟩
  | .hbm, ⟨7, _⟩ => ⟨S_, .f32⟩
  | .hbm, ⟨8, _⟩ => ⟨S1x128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .hbm, ⟨14, _⟩ => ⟨S_, .f32⟩
  | .hbm, ⟨15, _⟩ => ⟨S1x128x1024, .f32⟩
  | .hbm, ⟨16, _⟩ => ⟨S1x128x1024, .f32⟩
  | .hbm, ⟨17, _⟩ => ⟨S1x128x1024, .f32⟩
  | .hbm, ⟨18, _⟩ => ⟨S_, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S_, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S1x128x1024, .f32⟩
  | .hbm, ⟨29, _⟩ => ⟨S_, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S_, .f32⟩
  | .hbm, ⟨34, _⟩ => ⟨S1x128x1024, .f32⟩
  | .hbm, ⟨35, _⟩ => ⟨S1x128x1024, .f32⟩
  | .hbm, ⟨36, _⟩ => ⟨S1x128x1024, .f32⟩
  | .hbm, ⟨37, _⟩ => ⟨S_, .f32⟩
  | .hbm, ⟨38, _⟩ => ⟨S1x128x1024, .f32⟩
  | .hbm, ⟨39, _⟩ => ⟨S1x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Join.lean ====
abbrev S8x386x1024 : Shape := ⟨3, ![8, 386, 1024]⟩
abbrev S3200x1024 : Shape := ⟨2, ![3200, 1024]⟩
abbrev S8x386x256 : Shape := ⟨3, ![8, 386, 256]⟩
abbrev S3200x256 : Shape := ⟨2, ![3200, 256]⟩
abbrev S1x386x256 : Shape := ⟨3, ![1, 386, 256]⟩
abbrev S386x256 : Shape := ⟨2, ![386, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x386x1024, .f32⟩
  | .hbm, ⟨1, _⟩ => ⟨S8x386x1024, .bf16⟩
  | .hbm, ⟨2, _⟩ => ⟨S3200x1024, .bf16⟩
  | .local _ .vmem, ⟨0, _⟩ => ⟨S8x386x256, .bf16⟩
  | .local _ .vmem, ⟨1, _⟩ => ⟨S8x386x256, .bf16⟩
  | .local _ .vmem, ⟨2, _⟩ => ⟨S3200x256, .bf16⟩
  | .local _ .vmem, ⟨3, _⟩ => ⟨S3200x256, .bf16⟩
  | _, _ => ⟨S8x386x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x386x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== JoinRefIdeal.lean ====
abbrev S8x386x1024 : Shape := ⟨3, ![8, 386, 1024]⟩
abbrev S3088x1024 : Shape := ⟨2, ![3088, 1024]⟩
abbrev S_ : Shape := ⟨0, ![]⟩
abbrev S112x1024 : Shape := ⟨2, ![112, 1024]⟩
abbrev S3200x1024 : Shape := ⟨2, ![3200, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x386x1024, .f32⟩
  | .hbm, ⟨1, _⟩ => ⟨S3088x1024, .f32⟩
  | .hbm, ⟨2, _⟩ => ⟨S_, .f32⟩
  | .hbm, ⟨3, _⟩ => ⟨S112x1024, .f32⟩
  | .hbm, ⟨4, _⟩ => ⟨S3200x1024, .f32⟩
  | .hbm, ⟨5, _⟩ => ⟨S3200x1024, .bf16⟩
  | _, _ => ⟨S8x386x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RowSplit.lean ====
abbrev S3072x1024 : Shape := ⟨2, ![3072, 1024]⟩
abbrev S128x1024 : Shape := ⟨2, ![128, 1024]⟩
abbrev S8x386x1024 : Shape := ⟨3, ![8, 386, 1024]⟩
abbrev S3072x256 : Shape := ⟨2, ![3072, 256]⟩
abbrev S128x256 : Shape := ⟨2, ![128, 256]⟩
abbrev S8x386x256 : Shape := ⟨3, ![8, 386, 256]⟩
abbrev S386x256 : Shape := ⟨2, ![386, 256]⟩
abbrev S1x386x256 : Shape := ⟨3, ![1, 386, 256]⟩
abbrev S370x256 : Shape := ⟨2, ![370, 256]⟩
abbrev S1x370x256 : Shape := ⟨3, ![1, 370, 256]⟩
abbrev S16x256 : Shape := ⟨2, ![16, 256]⟩
abbrev S1x16x256 : Shape := ⟨3, ![1, 16, 256]⟩

abbrev nBuf : Space → Nat
  | .hbm => 5
  | .vmem => 6
  | .smem => 0
  | _ => 0

abbrev bufTy : (tb : Table) → Fin (tcTables nBuf tb) → BufTy
  | .hbm, ⟨0, _⟩ => ⟨S3072x1024, .f32⟩
  | .hbm, ⟨1, _⟩ => ⟨S128x1024, .f32⟩
  | .hbm, ⟨2, _⟩ => ⟨S3072x1024, .bf16⟩
  | .hbm, ⟨3, _⟩ => ⟨S128x1024, .bf16⟩
  | .hbm, ⟨4, _⟩ => ⟨S8x386x1024, .bf16⟩
  | .local _ .vmem, ⟨0, _⟩ => ⟨S3072x256, .bf16⟩
  | .local _ .vmem, ⟨1, _⟩ => ⟨S3072x256, .bf16⟩
  | .local _ .vmem, ⟨2, _⟩ => ⟨S128x256, .bf16⟩
  | .local _ .vmem, ⟨3, _⟩ => ⟨S128x256, .bf16⟩
  | .local _ .vmem, ⟨4, _⟩ => ⟨S8x386x256, .bf16⟩
  | .local _ .vmem, ⟨5, _⟩ => ⟨S8x386x256, .bf16⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x386x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowSplitRefIdeal.lean ====
abbrev S3072x1024 : Shape := ⟨2, ![3072, 1024]⟩
abbrev S128x1024 : Shape := ⟨2, ![128, 1024]⟩
abbrev S3200x1024 : Shape := ⟨2, ![3200, 1024]⟩
abbrev S3088x1024 : Shape := ⟨2, ![3088, 1024]⟩
abbrev S8x386x1024 : Shape := ⟨3, ![8, 386, 1024]⟩

abbrev nBuf : Space → Nat
  | .hbm => 6
  | .vmem => 0
  | .smem => 0
  | _ => 0

abbrev bufTy : (tb : Table) → Fin (tcTables nBuf tb) → BufTy
  | .hbm, ⟨0, _⟩ => ⟨S3072x1024, .f32⟩
  | .hbm, ⟨1, _⟩ => ⟨S128x1024, .f32⟩
  | .hbm, ⟨2, _⟩ => ⟨S3200x1024, .f32⟩
  | .hbm, ⟨3, _⟩ => ⟨S3088x1024, .f32⟩
  | .hbm, ⟨4, _⟩ => ⟨S8x386x1024, .f32⟩
  | .hbm, ⟨5, _⟩ => ⟨S8x386x1024, .bf16⟩
  | _, _ => ⟨S3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.LossValue.lean ====
/-
  The loss call: what the three result arrays of `LossIdeal` hold, in terms of the argument arrays.
-/
module

public import proofs.«01_k».proof.Proof.Gen.LossIdeal.Value
public import proofs.«01_k».proof.Proof.Gen.LossRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.LossIdeal.Hand

open Cert.LossIdeal Cert.LossIdeal.Gen

variable (m : (ℓ : Loc nD τ sig) → Buf (Elt Ideal) ℓ)

/-- The blocks' places, window by window. -/
theorem places : ∀ t : Fin cfg0.N, win0_0.index t = ![t.val / 2, 0] ∧ win0_1.index t = ![0, t.val % 2]
    ∧ win0_2.index t = ![t.val / 2, t.val % 2] ∧ win0_3.index t = ![t.val / 2, t.val % 2]
    ∧ win0_4.index t = ![t.val / 2, t.val % 2] ∧ win0_5.index t = ![t.val / 2, t.val % 2] ∧ win0_6.index t = ![0, 0] :=
  (by decide +kernel : ∀ t : Fin grid0.N, _)

/-- The residual error of the prediction `res + a @ w` at row `r`, column `k`. -/
def err (a : FVec Ideal S2048x4096 .f32) (w : FVec Ideal S4096x1024 .f32) (res tgt : FVec Ideal S2048x1024 .f32)
    (i : S2048x1024.Idx) : EReal :=
  (res i + ∑ k : Fin 4096, a (ix2 (i 0) k) * w (ix2 k (i 1))) - tgt i

theorem pay1_apply (x2 : FVec Ideal S1024x512 .f32) (x0 : FVec Ideal S1024x4096 .bf16) (x1 : FVec Ideal S4096x512 .bf16)
    (x3 : FVec Ideal S1024x512 .f32) (y : S1024x512.Idx) :
    k0_pay1 x2 x0 x1 x3 y = (x2 y + ∑ k : Fin 4096, x0 (ix2 (y 0) k) * x1 (ix2 k (y 1))) - x3 y := by
  idx_vars y
  pointwise [k0_pay1]

theorem block_err (c : Dev nD) (t : Fin cfg0.N) (y : S1024x512.Idx) :
    k0_pay1 (F := Ideal) (iblk m c 2 t) (iblk m c 0 t) (iblk m c 1 t) (iblk m c 3 t) y
      = err (m ((c : Thread nD τ).loc main_arg0)) (m ((c : Thread nD τ).loc main_arg1)) (m ((c : Thread nD τ).loc main_arg2))
          (m ((c : Thread nD τ).loc main_arg3)) (((cfg0.win 4).blk t).view.emb y) := by
  rw [pay1_apply]
  unfold err
  blk_point [iblk, V, places t]

/-- The four argument arrays of core `c`. -/
abbrev argErr (c : Dev nD) : S2048x1024.Idx → EReal :=
  err (m ((c : Thread nD τ).loc main_arg0)) (m ((c : Thread nD τ).loc main_arg1)) (m ((c : Thread nD τ).loc main_arg2))
    (m ((c : Thread nD τ).loc main_arg3))

theorem word_1024 : Ideal.ofBits .f32 0x3A800000#32 = ((1 / 1024 : ℝ) : EReal) := by
  simp [Ideal.ofBits, Ideal.ieee]
  rw [← EReal.coe_mul]
  norm_num

theorem word_2048 : Ideal.ofBits .f32 0x3A000000#32 = ((1 / 2048 : ℝ) : EReal) := by
  simp [Ideal.ofBits, Ideal.ieee]
  rw [← EReal.coe_mul]
  norm_num

theorem pay2_apply (x2 : FVec Ideal S1024x512 .f32) (x0 : FVec Ideal S1024x4096 .bf16) (x1 : FVec Ideal S4096x512 .bf16)
    (x3 : FVec Ideal S1024x512 .f32) (y : S1024x512.Idx) :
    k0_pay2 (F := Ideal) x2 x0 x1 x3 y = k0_pay1 (F := Ideal) x2 x0 x1 x3 y * ((1 / 1024 : ℝ) : EReal) := by
  rw [← word_1024]; rfl

theorem pay3_apply (x2 : FVec Ideal S1024x512 .f32) (x0 : FVec Ideal S1024x4096 .bf16) (x1 : FVec Ideal S4096x512 .bf16)
    (x3 : FVec Ideal S1024x512 .f32) (y : S1024x512.Idx) :
    k0_pay3 (F := Ideal) x2 x0 x1 x3 y = k0_pay1 (F := Ideal) x2 x0 x1 x3 y * ((1 / 1024 : ℝ) : EReal) := by
  rw [← word_1024]; rfl

/-- The tile's payload adds this block's share of the loss to what the tile held. -/
theorem pay5_apply (x2 : FVec Ideal S1024x512 .f32) (x0 : FVec Ideal S1024x4096 .bf16) (x1 : FVec Ideal S4096x512 .bf16)
    (x3 : FVec Ideal S1024x512 .f32) (acc : FVec Ideal S8x128 .f32) (y : S8x128.Idx) :
    k0_pay5 (F := Ideal) x2 x0 x1 x3 acc y = acc y + ((1 / 2048 : ℝ) : EReal)
      * ∑ r : Fin 1024, ∑ k : Fin 512, k0_pay1 (F := Ideal) x2 x0 x1 x3 (ix2 r k) * k0_pay1 (F := Ideal) x2 x0 x1 x3 (ix2 r k) := by
  idx_vars y
  rw [← word_2048]
  unfold k0_pay5
  generalize (k0_pay1 x2 x0 x1 x3 : FVec Ideal S1024x512 .f32) = e
  pointwise []

theorem pay4_apply (y : S8x128.Idx) : k0_pay4 (F := Ideal) y = 0 := by
  pointwise [k0_pay4]

/-- The gradient `dy`: the error over the number of columns. -/
theorem final_dy (c : Dev nD) : (dats m 0 c).arrAt 4 (cfgs 0).N = fun i => argErr m c i * ((1 / 1024 : ℝ) : EReal) := by
  refine (dats m 0 c).arrAt_eq_of_covers 4 _ (by decide +kernel) fun t _ y => ?_
  blk_simp
  rw [after0_4]
  by_cases h : t.val % 4 = 0
  · rw [outsAt0_A m c t h]
    frame_out
    rw [pay2_apply, block_err]
  · rw [outsAt0_B m c t h]
    frame_out
    rw [pay2_apply, block_err]

/-- The same in the narrow format. -/
theorem final_dy_bf16 (c : Dev nD) : (dats m 0 c).arrAt 5 (cfgs 0).N = fun i => argErr m c i * ((1 / 1024 : ℝ) : EReal) := by
  refine (dats m 0 c).arrAt_eq_of_covers 5 _ (by decide +kernel) fun t _ y => ?_
  blk_simp
  rw [after0_5]
  by_cases h : t.val % 4 = 0
  · rw [outsAt0_A m c t h]
    frame_out
    rw [pay3_apply, block_err]
    rfl
  · rw [outsAt0_B m c t h]
    frame_out
    rw [pay3_apply, block_err]
    rfl

/-- The loss, in every place of its tile: each of the four blocks' sums of squares over 2048. -/
theorem final_loss (c : Dev nD) : (dats m 0 c).arrAt 6 (cfgs 0).N = fun _ => ∑ p : Fin cfg0.N, ((1 / 2048 : ℝ) : EReal)
      * ∑ r : Fin 1024, ∑ k : Fin 512, argErr m c (((cfg0.win 4).blk p).view.emb (ix2 r k))
        * argErr m c (((cfg0.win 4).blk p).view.emb (ix2 r k)) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0) _
    (fun t h j => by rw [outsAt0_A m c t h]; frame_out; rw [pay5_apply, pay4_apply])
    (fun t h j => by rw [outsAt0_B m c t h]; frame_out; rw [pay5_apply])
    (le_of_eq N_0) t0_3 rfl j]
  refine (zero_add (M := EReal) _).trans ?_
  refine Finset.sum_congr rfl fun p _ => ?_
  simp only [block_err]

end Cert.LossIdeal.Hand
-- ==== Proof.Sums.lean ====
/-
  Sums over the extended reals and over index sets, shared by the value claims.
-/
module

public import Idealize.ShloMosaic.Lib.Pipeline.ValueKit

@[expose] public section

open Idealize.ShloMosaic
open scoped BigOperators

namespace Cert.Sums

/-- A real factor that is not negative distributes over any sum. -/
theorem real_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The rows of a 2048 × 1024 array summed tile by tile, the tiles being 1024 × 512. -/
theorem four_tiles (g : ℕ → ℕ → EReal) :
    ∑ p ∈ Finset.range 4, ∑ r ∈ Finset.range 1024, ∑ k ∈ Finset.range 512, g (p / 2 * 1024 + r) (p % 2 * 512 + k)
      = ∑ r ∈ Finset.range 2048, ∑ k ∈ Finset.range 1024, g r k := by
  have hrow : ∀ r, ∑ k ∈ Finset.range 1024, g r k
      = ∑ k ∈ Finset.range 512, g r k + ∑ k ∈ Finset.range 512, g r (512 + k) :=
    fun r => Finset.sum_range_add (g r) 512 512
  have hfour : ∀ f : ℕ → EReal, ∑ p ∈ Finset.range 4, f p = f 0 + f 1 + f 2 + f 3 := fun f => by
    simp [Finset.sum_range_succ]
  rw [show (2048 : ℕ) = 1024 + 1024 from rfl, Finset.sum_range_add, hfour]
  simp only [hrow, Finset.sum_add_distrib]
  norm_num
  ac_rfl

/-- A product with a row of a triangle of ones is the sum from that row on. -/
theorem upper_sum (n : ℕ) (f : ℕ → EReal) (r : ℕ) :
    (∑ k : Fin n, (if r ≤ k.val then (1 : EReal) else 0) * f k.val) = ∑ i ∈ Finset.Ico r n, f i := by
  rw [Fin.sum_univ_eq_sum_range (fun k => (if r ≤ k then (1 : EReal) else 0) * f k) n]
  simp only [ite_mul, one_mul, zero_mul]
  rw [← Finset.sum_filter]
  refine Finset.sum_congr ?_ fun _ _ => rfl
  ext k
  simp only [Finset.mem_filter, Finset.mem_range, Finset.mem_Ico]
  exact and_comm

/-- A sum from place `r` of the block that starts at `b`, and the sum behind the block, are one sum. -/
theorem block_then_rest (f : ℕ → EReal) (b n r e : ℕ) (hr : r ≤ n) (he : b + n ≤ e) :
    (∑ i ∈ Finset.Ico r n, f (b + i)) + ∑ i ∈ Finset.Ico (b + n) e, f i = ∑ i ∈ Finset.Ico (b + r) e, f i := by
  rw [Finset.sum_Ico_add f r n b, Nat.add_comm r b, Nat.add_comm n b]
  exact Finset.sum_Ico_consecutive f (by omega) he

end Cert.Sums
-- ==== Proof.LossRef.lean ====
/-
  The loss call's reference, read at an index, and the equation with what the kernel leaves.
-/
module

public import proofs.«01_k».proof.Proof.LossValue
public import proofs.«01_k».proof.Proof.Sums

@[expose] public section

set_option maxRecDepth 16384

noncomputable section

open Idealize.ShloMosaic Idealize.ShloMosaic.TcCoe
open scoped BigOperators

namespace Cert.LossRefIdeal.Hand

open Cert.LossRefIdeal Cert.LossRefIdeal.Read
open Cert.LossIdeal.Hand (err)

theorem word_half : Ideal.ofBits .f32 1056964608#32 = ((1 / 2 : ℝ) : EReal) := by
  simp [Ideal.ofBits, Ideal.ieee]; rw [← EReal.coe_mul]; norm_num
theorem word_one : Ideal.ofBits .f32 1065353216#32 = ((1 : ℝ) : EReal) := by
  simp [Ideal.ofBits, Ideal.ieee]; rw [← EReal.coe_mul]; norm_num
theorem word_two : Ideal.ofBits .f32 1073741824#32 = ((2 : ℝ) : EReal) := by
  simp [Ideal.ofBits, Ideal.ieee]; rw [← EReal.coe_mul]; norm_num
theorem word_columns : Ideal.ofBits .f32 1149239296#32 = ((1024 : ℝ) : EReal) := by
  simp [Ideal.ofBits, Ideal.ieee]; rw [← EReal.coe_mul]; norm_num
theorem word_zero : Ideal.ofBits .f32 0#32 = 0 := by
  simp [Ideal.ofBits, Ideal.ieee]

variable (a : FVec Ideal S2048x4096 .f32) (w : FVec Ideal S4096x1024 .f32) (res tgt : FVec Ideal S2048x1024 .f32)

theorem err_eq (i : S2048x1024.Idx) : val_main_v2 (F := Ideal) a w res tgt i = err a w res tgt i := by
  rw [val_main_v2_apply, val_main_v1_apply, val_main_v0_apply]
  unfold err
  have hl : ∀ k : Fin 4096, lidx_main_v0 i k = ix2 (i 0) k := fun k => by
    funext d; match d with | ⟨0, _⟩ => rfl | ⟨1, _⟩ => rfl
  have hr : ∀ k : Fin 4096, ridx_main_v0 i k = ix2 k (i 1) := fun k => by
    funext d; match d with | ⟨0, _⟩ => rfl | ⟨1, _⟩ => rfl
  simp only [hl, hr]
  rfl

theorem dy_eq (i : S2048x1024.Idx) : val_main_v16 (F := Ideal) a w res tgt i = err a w res tgt i * ((1 / 1024 : ℝ) : EReal) := by
  simp only [val_main_v16_apply, val_main_v15_apply, val_main_v14_apply, val_main_v13_apply, val_main_v12_apply, val_main_v11_apply,
    val_main_v5_apply, val_main_v4_apply, val_main_cst_apply, val_main_cst_4_apply, val_main_cst_5_apply, val_main_cst_6_apply, err_eq]
  generalize err a w res tgt i = e
  show Ideal.div (Ideal.ofBits .f32 1056964608#32 * Ideal.ofBits .f32 1065353216#32) (Ideal.ofBits .f32 1149239296#32)
    * (Ideal.ofBits .f32 1073741824#32 * e) = _
  rw [word_half, word_one, word_two, word_columns, Ideal.div_coe (by norm_num), ← mul_assoc, mul_comm e, ← EReal.coe_mul,
    ← EReal.coe_mul, ← EReal.coe_mul]
  norm_num

theorem dy_bf16_eq (i : S2048x1024.Idx) : val_main_v17 (F := Ideal) a w res tgt i
    = err a w res tgt i * ((1 / 1024 : ℝ) : EReal) := dy_eq a w res tgt i

/-- The square of the error by row and column numbers, zero outside the array. -/
def square (r k : ℕ) : EReal :=
  if h : r < 2048 ∧ k < 1024 then err a w res tgt (ix2 ⟨r, h.1⟩ ⟨k, h.2⟩) * err a w res tgt (ix2 ⟨r, h.1⟩ ⟨k, h.2⟩) else 0

theorem square_eq (i : S2048x1024.Idx) : err a w res tgt i * err a w res tgt i = square a w res tgt (i 0).val (i 1).val := by
  unfold square
  rw [dif_pos ⟨(i 0).isLt, (i 1).isLt⟩]
  have : (ix2 ⟨(i 0).val, (i 0).isLt⟩ ⟨(i 1).val, (i 1).isLt⟩ : S2048x1024.Idx) = i := by
    funext d; match d with | ⟨0, _⟩ => rfl | ⟨1, _⟩ => rfl
  rw [this]

theorem loss_eq (i : S8x128.Idx) : val_main_v18 (F := Ideal) a w res tgt i
    = ((1 / 2048 : ℝ) : EReal) * ∑ r ∈ Finset.range 2048, ∑ k ∈ Finset.range 1024, square a w res tgt r k := by
  simp only [val_main_v18_apply, val_main_v10_apply, val_main_v9_apply, val_main_v8_apply, val_main_v7_apply, val_main_v6_apply,
    val_main_v3_apply, val_main_cst_0_apply, val_main_cst_1_apply, val_main_cst_2_apply, val_main_cst_3_apply, err_eq]
  show Ideal.ofBits .f32 1056964608#32 * (Ideal.ofBits .f32 0#32 + ∑ j : S2048.Idx, Ideal.div (Ideal.ofBits .f32 0#32
    + ∑ k : Fin 1024, err a w res tgt (idx_main_v6 j k) * err a w res tgt (idx_main_v6 j k)) (Ideal.ofBits .f32 1149239296#32)) = _
  simp only [word_half, word_zero, word_columns, zero_add, Ideal.div_coe (y := 1024) (by norm_num), square_eq]
  rw [sum_idx1]
  have hin : ∀ r : Fin 2048, (∑ k : Fin 1024, square a w res tgt (idx_main_v6 (ix1 r) k 0).val (idx_main_v6 (ix1 r) k 1).val)
      = ∑ k ∈ Finset.range 1024, square a w res tgt r.val k := fun r =>
    Fin.sum_univ_eq_sum_range (fun k => square a w res tgt r.val k) 1024
  simp only [hin, mul_comm _ ((1 / 1024 : ℝ) : EReal)]
  rw [Fin.sum_univ_eq_sum_range (fun r => ((1 / 1024 : ℝ) : EReal) * ∑ k ∈ Finset.range 1024, square a w res tgt r k) 2048,
    ← Cert.Sums.real_mul_sum _ (by norm_num), ← mul_assoc, ← EReal.coe_mul]
  norm_num

end Cert.LossRefIdeal.Hand
-- ==== Proof.LossClaim.lean ====
/-
  The claims about the loss call, put together.
-/
module

public import proofs.«01_k».proof.Defs
public import proofs.«01_k».proof.Proof.Gen.Loss.Frame
public import proofs.«01_k».proof.Proof.Gen.LossRefIdeal.Run
public import proofs.«01_k».proof.Proof.LossRef

@[expose] public section

set_option maxRecDepth 16384

noncomputable section

open Idealize.ShloMosaic Idealize.ShloMosaic.TcCoe Idealize.SL.Sem
open scoped BigOperators

namespace Cert.LossIdeal.Hand

open Cert.LossIdeal Cert.LossIdeal.Gen
open Cert.LossRefIdeal.Hand (square square_eq)

/-- Where element `(r, k)` of point `p`'s tile lies in the array. -/
theorem tile_place (p : Fin cfg0.N) (r : Fin 1024) (k : Fin 512) :
    ((((cfg0.win 4).blk p).view.emb (ix2 r k)) 0).val = p.val / 2 * 1024 + r.val
      ∧ ((((cfg0.win 4).blk p).view.emb (ix2 r k)) 1).val = p.val % 2 * 512 + k.val := by
  constructor <;> blk_simp [places p] <;> rfl

/-- Any function of row and column summed over the four tiles is its sum over the whole array. -/
theorem tiles_sum (e : S2048x1024.Idx → EReal) (g : ℕ → ℕ → EReal) (h : ∀ i : S2048x1024.Idx, e i = g (i 0).val (i 1).val) :
    (∑ p : Fin cfg0.N, ∑ r : Fin 1024, ∑ k : Fin 512, e (((cfg0.win 4).blk p).view.emb (ix2 r k)))
      = ∑ r ∈ Finset.range 2048, ∑ k ∈ Finset.range 1024, g r k := by
  rw [← Cert.Sums.four_tiles, ← N_0, ← Fin.sum_univ_eq_sum_range]
  refine Finset.sum_congr rfl fun p _ => ?_
  rw [← Fin.sum_univ_eq_sum_range]
  refine Finset.sum_congr rfl fun r _ => ?_
  rw [← Fin.sum_univ_eq_sum_range]
  refine Finset.sum_congr rfl fun k _ => ?_
  rw [h, (tile_place p r k).1, (tile_place p r k).2]

/-- The four tiles' shares add up to the sum over the whole array. -/
theorem tiles_total (m : (ℓ : Loc nD τ sig) → Buf (Elt Ideal) ℓ) (c : Dev nD) :
    (∑ p : Fin cfg0.N, ((1 / 2048 : ℝ) : EReal) * ∑ r : Fin 1024, ∑ k : Fin 512,
        argErr m c (((cfg0.win 4).blk p).view.emb (ix2 r k)) * argErr m c (((cfg0.win 4).blk p).view.emb (ix2 r k)))
      = ((1 / 2048 : ℝ) : EReal) * ∑ r ∈ Finset.range 2048, ∑ k ∈ Finset.range 1024,
        square (m ((c : Thread nD τ).loc main_arg0)) (m ((c : Thread nD τ).loc main_arg1)) (m ((c : Thread nD τ).loc main_arg2))
          (m ((c : Thread nD τ).loc main_arg3)) r k := by
  rw [← Cert.Sums.real_mul_sum _ (by norm_num)]
  exact congrArg _ (tiles_sum (fun i => argErr m c i * argErr m c i) _ fun i => square_eq _ _ _ _ i)

end Cert.LossIdeal.Hand

namespace Cert.LossClaim

/-- The loss call terminates without a fault and leaves its arguments alone. -/
theorem frame_kernel : Cert.quiescent_Loss := fun m ρ _ => Cert.Loss.Gen.frame m ρ

/-- The same over the extended reals. -/
theorem frame_ideal : Cert.quiescent_LossIdeal := fun m ρ _ => Cert.LossIdeal.Gen.frame m ρ

/-- The reference terminates without a fault and leaves its arguments alone. -/
theorem frame_reference : Cert.quiescent_LossRefIdeal := fun m ρ _ =>
  (θ_run _ _ _).mono (fun r h => ⟨fun c => (h c).2.2.2, sem_eq_zero_of_no_sems rfl r.2⟩) (Cert.LossRefIdeal.Value.run m ρ)

/-- The kernel's three results are the reference's. -/
theorem algebraic : Cert.algebraic_LossIdeal_LossRefIdeal := by
  pair_intro
  · run_from Cert.LossIdeal.Value.run_blocks m g
  · run_from Cert.LossRefIdeal.Value.run m' g'
    · exact (Cert.LossRefIdeal.Read.val_main_v16_eq (F := Ideal) _ _ _ _).trans
        ((funext fun i => Cert.LossRefIdeal.Hand.dy_eq _ _ _ _ i).trans (Cert.LossIdeal.Hand.final_dy m c).symm)
    · exact (Cert.LossRefIdeal.Read.val_main_v17_eq (F := Ideal) _ _ _ _).trans
        ((funext fun i => Cert.LossRefIdeal.Hand.dy_bf16_eq _ _ _ _ i).trans (Cert.LossIdeal.Hand.final_dy_bf16 m c).symm)
    · exact (Cert.LossRefIdeal.Read.val_main_v18_eq (F := Ideal) _ _ _ _).trans
        ((funext fun i => (Cert.LossRefIdeal.Hand.loss_eq _ _ _ _ i).trans (Cert.LossIdeal.Hand.tiles_total m c).symm).trans
          (Cert.LossIdeal.Hand.final_loss m c).symm)

end Cert.LossClaim
-- ==== Proof.GateBlock.lean ====
/-
  The gate's gradient: what one block computes, and what the arrays hold that the host lines of `GateIdeal` prepare.
-/
module

public import proofs.«01_k».proof.Proof.Gen.GateIdeal.Value
public import proofs.«01_k».proof.Proof.Sums
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.GateIdeal.Hand

open Cert.GateIdeal Cert.GateIdeal.Gen

variable (m : (ℓ : Loc nD τ sig) → Buf (Elt Ideal) ℓ)

/-- The blocks' places, window by window: the points go through the rows from the last block to the first. -/
theorem places : ∀ t : Fin cfg0.N, win0_0.index t = ![7 - t.val, 24] ∧ win0_1.index t = ![0, 0]
    ∧ win0_2.index t = ![7 - t.val, 0] ∧ win0_3.index t = ![0, 0]
    ∧ win0_4.index t = ![7 - t.val, 0] ∧ win0_5.index t = ![0, 0] :=
  (by decide +kernel : ∀ t : Fin grid0.N, _)

/-- The running sum within a block, with the sum carried in from the rows below. -/
theorem pay4_apply (x3 : FVec Ideal S256x128 .f32) (x5 : FVec Ideal S256x256 .f32) (x8 : FVec Ideal S1x128 .f32) (y : S256x128.Idx) :
    k0_pay4 (F := Ideal) x3 x5 x8 y = (∑ k : Fin 256, x5 (ix2 (y 0) k) * x3 (ix2 k (y 1))) + x8 (ix2 0 (y 1)) := by
  idx_vars y
  pointwise [k0_pay4]

theorem pay5_apply (x3 : FVec Ideal S256x128 .f32) (x5 : FVec Ideal S256x256 .f32) (x8 : FVec Ideal S1x128 .f32) (y : S8x128.Idx) :
    k0_pay5 (F := Ideal) x3 x5 x8 y = k0_pay4 (F := Ideal) x3 x5 x8 (ix2 0 (y 1)) := by
  idx_vars y
  unfold k0_pay5
  generalize (k0_pay4 x3 x5 x8 : FVec Ideal S256x128 .f32) = e
  pointwise []

theorem pay6_apply (x3 : FVec Ideal S256x128 .f32) (x5 : FVec Ideal S256x256 .f32) (x8 : FVec Ideal S1x128 .f32)
    (x18 : FVec Ideal S256x128 .f32) (x20 : FVec Ideal S1x128 .f32) (y : S256x128.Idx) :
    k0_pay6 (F := Ideal) x3 x5 x8 x18 x20 y
      = if (y 1).val < 16 then Ideal.div (k0_pay4 (F := Ideal) x3 x5 x8 y) (1 + Ideal.exp (x18 y + x20 (ix2 0 (y 1)))) else 0 := by
  idx_vars y
  unfold k0_pay6
  generalize (k0_pay4 x3 x5 x8 : FVec Ideal S256x128 .f32) = e
  pointwise []
  rw [WordCmp.cmpi_slt_ofNat (by omega) (by omega)]
  by_cases h : (y1 : ℕ) < 16 <;> simp [Scalar.select, h]

theorem pay7_apply (x3 : FVec Ideal S256x128 .f32) (x5 : FVec Ideal S256x256 .f32) (x8 : FVec Ideal S1x128 .f32)
    (x18 : FVec Ideal S256x128 .f32) (x20 : FVec Ideal S1x128 .f32) (y : S256x128.Idx) :
    (k0_pay7 (F := Ideal) x3 x5 x8 x18 x20 y : EReal) = k0_pay6 (F := Ideal) x3 x5 x8 x18 x20 y := by
  unfold k0_pay7
  generalize (k0_pay6 x3 x5 x8 x18 x20 : FVec Ideal S256x128 .f32) = e
  pointwise []

theorem pay1_apply (x : FVec Ideal S256x128 .f32) (acc : FVec Ideal S1x128 .f32) (y : S1x128.Idx) :
    k0_pay1 (F := Ideal) x acc y = acc y + ∑ r : Fin 256, x (ix2 r (y 1)) := by
  idx_vars y
  pointwise [k0_pay1]

theorem pay2_apply (y : S8x128.Idx) : k0_pay2 (F := Ideal) y = 0 := by
  pointwise [k0_pay2]

theorem pay3_apply (y : S1x128.Idx) : k0_pay3 (F := Ideal) y = 0 := by
  pointwise [k0_pay3]

/-- The cotangent by row and lane, zero outside. -/
def ctAt (m : (ℓ : Loc nD τ sig) → Buf (Elt Ideal) ℓ) (c : Dev nD) (r l : ℕ) : EReal :=
  if h : l < 16 ∧ r < 2048 then (m ((c : Thread nD τ).loc main_arg2) : FVec Ideal S16x2048 .f32) (ix2 ⟨l, h.1⟩ ⟨r, h.2⟩) else 0

/-- The gate's pre-activation by row and lane without its bias, zero outside. -/
def projAt (m : (ℓ : Loc nD τ sig) → Buf (Elt Ideal) ℓ) (c : Dev nD) (r l : ℕ) : EReal :=
  if h : l < 16 ∧ r < 2048 then (m ((c : Thread nD τ).loc main_arg0) : FVec Ideal S2048x3088 .f32) (ix2 ⟨r, h.2⟩ ⟨3072 + l, by omega⟩) else 0

/-- The bias by lane, zero outside. -/
def biasAt (m : (ℓ : Loc nD τ sig) → Buf (Elt Ideal) ℓ) (c : Dev nD) (l : ℕ) : EReal :=
  if h : l < 16 then (m ((c : Thread nD τ).loc main_arg1) : FVec Ideal S1x16 .f32) (ix2 0 ⟨l, h⟩) else 0

theorem ctAt_in (c : Dev nD) (r l : ℕ) (h : l < 16 ∧ r < 2048) :
    ctAt m c r l = (m ((c : Thread nD τ).loc main_arg2) : FVec Ideal S16x2048 .f32) (ix2 ⟨l, h.1⟩ ⟨r, h.2⟩) := by unfold ctAt; exact dif_pos h

theorem ctAt_out (c : Dev nD) (r l : ℕ) (h : ¬(l < 16 ∧ r < 2048)) : ctAt m c r l = 0 := by unfold ctAt; exact dif_neg h

theorem projAt_in (c : Dev nD) (r l : ℕ) (h : l < 16 ∧ r < 2048) :
    projAt m c r l = (m ((c : Thread nD τ).loc main_arg0) : FVec Ideal S2048x3088 .f32) (ix2 ⟨r, h.2⟩ ⟨3072 + l, by omega⟩) := by
  unfold projAt; exact dif_pos h

theorem projAt_out (c : Dev nD) (r l : ℕ) (h : ¬(l < 16 ∧ r < 2048)) : projAt m c r l = 0 := by unfold projAt; exact dif_neg h

theorem biasAt_in (c : Dev nD) (l : ℕ) (h : l < 16) :
    biasAt m c l = (m ((c : Thread nD τ).loc main_arg1) : FVec Ideal S1x16 .f32) (ix2 0 ⟨l, h⟩) := by unfold biasAt; exact dif_pos h

theorem biasAt_out (c : Dev nD) (l : ℕ) (h : ¬l < 16) : biasAt m c l = 0 := by unfold biasAt; exact dif_neg h

/-- The padded cotangent that the host line prepares. -/
theorem entry_ct (c : Dev nD) (i : S2048x128.Idx) : (V m c main_v3 : FVec Ideal S2048x128 .f32) i = ctAt m c (i 0).val (i 1).val := by
  unfold_abbrev_sides
  simp only [List.flatten_cons, List.flatten_nil, List.cons_append, List.nil_append, List.append_nil, hostOps0_7]
  after_reads_at
  idx_vars i
  by_cases h : (i1 : ℕ) < 16
  · exact (dif_pos h).trans (ctAt_in m c _ _ ⟨h, i0.isLt⟩).symm
  · exact (dif_neg h).trans ((sitofp_zero (φ := .f32)).trans (ctAt_out m c _ _ (fun q => h q.1)).symm)

/-- The padded gate columns. -/
theorem entry_proj (c : Dev nD) (r : Fin 2048) (l : Fin 128) :
    (V m c main_v0 : FVec Ideal S2048x3200 .f32) (ix2 r ⟨3072 + l.val, by omega⟩) = projAt m c r l := by
  unfold_abbrev_sides
  simp only [List.flatten_cons, List.flatten_nil, List.cons_append, List.nil_append, List.append_nil, hostOps0_7]
  after_reads_at
  by_cases h : 3072 + (l : ℕ) < 3088
  · exact (dif_pos h).trans (projAt_in m c _ _ ⟨by omega, r.isLt⟩).symm
  · exact (dif_neg h).trans ((sitofp_zero (φ := .f32)).trans (projAt_out m c _ _ (fun q => h (by omega))).symm)

theorem entry_proj_at (c : Dev nD) (i : S2048x3200.Idx) (l : Fin 128) (h : (i 1).val = 3072 + l.val) :
    (V m c main_v0 : FVec Ideal S2048x3200 .f32) i = projAt m c (i 0).val l := by
  idx_vars i
  have e : i1 = ⟨3072 + l.val, by omega⟩ := Fin.ext h
  rw [e]
  exact entry_proj m c i0 l

/-- The padded bias. -/
theorem entry_bias (c : Dev nD) (i : S1x128.Idx) : (V m c main_v1 : FVec Ideal S1x128 .f32) i = biasAt m c (i 1).val := by
  unfold_abbrev_sides
  simp only [List.flatten_cons, List.flatten_nil, List.cons_append, List.nil_append, List.append_nil, hostOps0_7]
  after_reads_at
  idx_vars i
  by_cases h : (i1 : ℕ) < 16
  · exact (dif_pos h).trans (biasAt_in m c _ h).symm
  · exact (dif_neg h).trans ((sitofp_zero (φ := .f32)).trans (biasAt_out m c _ (h)).symm)

/-- "At least" of a row number less one, as words. -/
theorem word_ge (a b : ℕ) (ha : a < 256) (hb : b < 256) (x y : EReal) :
    Scalar.select (IntOp.cmpi .sge (IntOp.addi (BitVec.ofNat 32 a) 4294967295#32) (BitVec.ofNat 32 b)) x y = if a ≤ b then y else x := by
  have h : IntOp.cmpi .sge (IntOp.addi (BitVec.ofNat 32 a) 4294967295#32) (BitVec.ofNat 32 b) = BitVec.ofBool (decide (b < a)) := by
    rcases a with _ | a
    · have h1 : (IntOp.addi (BitVec.ofNat 32 0) 4294967295#32).toInt = -1 := by decide
      have h2 : (BitVec.ofNat 32 b).toInt = b := WordCmp.toInt_ofNat_of_lt (by omega)
      rw [WordCmp.cmpi_sge_eq, h1, h2]
      exact congrArg _ (decide_eq_decide.mpr (by omega))
    · have h1 : IntOp.addi (BitVec.ofNat 32 (a + 1)) 4294967295#32 = BitVec.ofNat 32 a := by
        unfold IntOp.addi
        apply BitVec.eq_of_toNat_eq; rw [BitVec.toNat_add, BitVec.toNat_ofNat, BitVec.toNat_ofNat, BitVec.toNat_ofNat]; omega
      rw [h1, WordCmp.cmpi_sge_ofNat (by omega) (by omega)]
      exact congrArg _ (decide_eq_decide.mpr (by omega))
  rw [h, WordCmp.select_decide]
  by_cases hab : a ≤ b
  · rw [if_pos hab, if_neg (by omega)]
  · rw [if_neg hab, if_pos (by omega)]

/-- A triangle of ones by row and column. -/
def tri (r k : ℕ) : EReal := if r ≤ k then (1 : EReal) else 0

/-- The triangle of ones that the host line prepares. -/
theorem entry_tri (c : Dev nD) (i : S256x256.Idx) : (V m c main_v5 : FVec Ideal S256x256 .f32) i
    = tri (i 0).val (i 1).val := by
  unfold_abbrev_sides
  simp only [List.flatten_cons, List.flatten_nil, List.cons_append, List.nil_append, List.append_nil, hostOps0_7]
  after_reads_simp
  simp -implicitDefEqProofs only [StableHlo.TRef.ofBuf_toBuf, StableHlo.TRef.toBuf, StableHlo.TRef.ofBuf, cast_eq]
  idx_vars i
  pointwise
  exact word_ge _ _ i0.isLt i1.isLt _ _

end Cert.GateIdeal.Hand
-- ==== Proof.GateValue.lean ====
/-
  The gate's gradient: what the two result arrays of `GateIdeal` hold, in terms of the argument arrays.
-/
module

public import proofs.«01_k».proof.Proof.GateBlock
public import proofs.«01_k».proof.Proof.Sums
public import Idealize.ShloMosaic.Lib.Pipeline.ValueKit
public import Idealize.ShloMosaic.Lib.Claim
public import Idealize.ShloMosaic.Lib.StableHlo.ReadAt
public import Idealize.ShloMosaic.Lib.Pipeline.ReadBack
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.GateIdeal.Hand

open Cert.GateIdeal Cert.GateIdeal.Gen

variable (m : (ℓ : Loc nD τ sig) → Buf (Elt Ideal) ℓ)

/-- Where a row of the blocks of point `t` lies in the array. -/
def row (t : Fin cfg0.N) (r : ℕ) : ℕ := 256 * (7 - t.val) + r

/-- Where element `(r, l)` of each window's block lies in its array. -/
theorem place_proj (t : Fin cfg0.N) (r : Fin 256) (l : Fin 128) :
    ((((cfg0.win 0).blk t).view.emb (ix2 r l)) 0).val = row t r ∧ ((((cfg0.win 0).blk t).view.emb (ix2 r l)) 1).val = 3072 + l.val := by
  constructor <;> blk_simp [places t] <;> simp [row] <;> omega

theorem place_bias (t : Fin cfg0.N) (l : Fin 128) : ((((cfg0.win 1).blk t).view.emb (ix2 0 l)) 1).val = l.val := by
  blk_simp [places t] <;> simp

theorem place_ct (t : Fin cfg0.N) (r : Fin 256) (l : Fin 128) :
    ((((cfg0.win 2).blk t).view.emb (ix2 r l)) 0).val = row t r ∧ ((((cfg0.win 2).blk t).view.emb (ix2 r l)) 1).val = l.val := by
  constructor <;> blk_simp [places t] <;> simp [row] <;> omega

theorem place_tri (t : Fin cfg0.N) (r k : Fin 256) :
    ((((cfg0.win 3).blk t).view.emb (ix2 r k)) 0).val = r.val ∧ ((((cfg0.win 3).blk t).view.emb (ix2 r k)) 1).val = k.val := by
  constructor <;> blk_simp [places t] <;> simp

theorem blk_ct (c : Dev nD) (t : Fin cfg0.N) (k : Fin 256) (l : Fin 128) :
    (iblk m c 2 t : FVec Ideal S256x128 .f32) (ix2 k l) = ctAt m c (row t k) l :=
  (entry_ct m c (((cfg0.win 2).blk t).view.emb (ix2 k l))).trans (congrArg₂ (ctAt m c) (place_ct t k l).1 (place_ct t k l).2)

theorem blk_tri (c : Dev nD) (t : Fin cfg0.N) (r k : Fin 256) :
    (iblk m c 3 t : FVec Ideal S256x256 .f32) (ix2 r k) = tri r.val k.val := by
  have e := (entry_tri m c (((cfg0.win 3).blk t).view.emb (ix2 r k))).trans (congrArg₂ tri (place_tri t r k).1 (place_tri t r k).2)
  unfold iblk
  rw [View.read_apply]
  exact (cast_eq _ _).trans e

theorem blk_proj (c : Dev nD) (t : Fin cfg0.N) (r : Fin 256) (l : Fin 128) :
    (iblk m c 0 t : FVec Ideal S256x128 .f32) (ix2 r l) = projAt m c (row t r) l :=
  (entry_proj_at m c (((cfg0.win 0).blk t).view.emb (ix2 r l)) l (place_proj t r l).2).trans
    (congrArg (fun n => projAt m c n l) (place_proj t r l).1)

theorem blk_bias (c : Dev nD) (t : Fin cfg0.N) (l : Fin 128) :
    (iblk m c 1 t : FVec Ideal S1x128 .f32) (ix2 0 l) = biasAt m c l :=
  (entry_bias m c (((cfg0.win 1).blk t).view.emb (ix2 0 l))).trans (congrArg (biasAt m c) (place_bias t l))

/-- The running sum over the rows from one row of a block on, the rows below the block being in `x`. -/
theorem dlf_apply (c : Dev nD) (t : Fin cfg0.N) (x : FVec Ideal S1x128 .f32) (y : S256x128.Idx)
    (hx : x (ix2 0 (y 1)) = ∑ i ∈ Finset.Ico (256 * (7 - t.val) + 256) 2048, ctAt m c i (y 1).val) :
    k0_pay4 (F := Ideal) (iblk m c 2 t) (iblk m c 3 t) x y = ∑ i ∈ Finset.Ico (row t (y 0).val) 2048, ctAt m c i (y 1).val := by
  have hr : (y 0).val < 256 := (y 0).isLt
  have ht : t.val < 8 := lt_of_lt_of_eq t.isLt N_0
  refine (pay4_apply _ _ _ _).trans ?_
  refine Eq.trans ?_ (Cert.Sums.block_then_rest (fun i => ctAt m c i (y 1).val) (256 * (7 - t.val)) 256 (y 0).val 2048 (by omega) (by omega))
  refine congrArg₂ (· + ·) (Eq.trans (Finset.sum_congr rfl fun k _ => ?_) (Cert.Sums.upper_sum 256 _ (y 0).val)) hx
  exact congrArg₂ (· * ·) (blk_tri m c t (y 0) k) (blk_ct m c t k (y 1))

/-- The place of the first row's element in the carried buffer. -/
theorem row0_idx (l : (Rect.unit (s := S8x128) ![0, 0] ![1, 128] inb_S8x128_S1x128_0_0).shape.Idx) :
    (Rect.unit (s := S8x128) ![0, 0] ![1, 128] inb_S8x128_S1x128_0_0).idx l = (ix2 0 (l 1) : S8x128.Idx) := by
  funext a
  apply Fin.ext
  rw [Rect.idx_unit_val]
  have h0 : (l 0).val < 1 := (l 0).isLt
  fin_cases a
  · simp <;> omega
  · simp

/-- After point `n` every row of the carried sum is the sum over all the rows from that point's block on. -/
theorem carry (c : Dev nD) (n : ℕ) (h : n < cfg0.N) (j : S8x128.Idx) :
    ((outsAt0 m c n h).2.2 : FVec Ideal S8x128 .f32) j = ∑ i ∈ Finset.Ico (256 * (7 - n)) 2048, ctAt m c i (j 1).val := by
  induction n generalizing j with
  | zero =>
    rw [outsAt0_A m c ⟨0, h⟩ rfl]
    frame_out
    refine (pay5_apply _ _ _ j).trans ((dlf_apply m c ⟨0, h⟩ _ _ ?_).trans ?_)
    · rw [View.readCov_fill _ _ _ _ _ (by decide), View.ld_apply, row0_idx]
      refine (pay2_apply _).trans ?_
      simp
    · simp [row]
  | succ n ih =>
    have h8 : n + 1 < 8 := lt_of_lt_of_eq h N_0
    rw [outsAt0_B m c ⟨n + 1, h⟩ (by simp; omega)]
    frame_out
    refine (pay5_apply _ _ _ j).trans ((dlf_apply m c ⟨n + 1, h⟩ _ _ ?_).trans ?_)
    · simp only [read_unread_whole]
      rw [View.ld_apply, row0_idx]
      refine (ih (by omega) _).trans ?_
      simp only [show 256 * (7 - (n + 1)) + 256 = 256 * (7 - n) from by omega]
      rfl
    · simp [row]

/-- The gate's gradient by row and lane. -/
def dfAt (c : Dev nD) (r l : ℕ) : EReal :=
  if l < 16 then Ideal.div (∑ i ∈ Finset.Ico r 2048, ctAt m c i l) (1 + Ideal.exp (projAt m c r l + biasAt m c l)) else 0

/-- The rows below point `t`'s block as the run at that point finds them carried in, at an element. -/
theorem pay6_at (c : Dev nD) (t : Fin cfg0.N) (x : FVec Ideal S1x128 .f32) (y : S256x128.Idx)
    (hx : x (ix2 0 (y 1)) = ∑ i ∈ Finset.Ico (256 * (7 - t.val) + 256) 2048, ctAt m c i (y 1).val) :
    k0_pay6 (F := Ideal) (iblk m c 2 t) (iblk m c 3 t) x (iblk m c 0 t) (iblk m c 1 t) y = dfAt m c (row t (y 0).val) (y 1).val := by
  refine (pay6_apply _ _ _ _ _ _).trans ?_
  rw [dlf_apply m c t x y hx]
  idx_vars y
  unfold dfAt
  by_cases h : (y1 : ℕ) < 16
  · refine (if_pos h).trans (Eq.trans ?_ (if_pos h).symm)
    exact congrArg (Ideal.div _) (congrArg (fun z => 1 + Ideal.exp z) (congrArg₂ (· + ·) (blk_proj m c t y0 y1) (blk_bias m c t y1)))
  · exact (if_neg h).trans (if_neg h).symm

/-- What point `t` finds carried in, at a point that is not the first. -/
theorem carried_in (c : Dev nD) (t : Fin cfg0.N) (h : ¬t.val % 8 = 0) (y : S256x128.Idx) :
    ((outsAt0 m c (t.val - 1) (Nat.lt_of_le_of_lt (Nat.sub_le _ _) t.isLt)).2.2 : FVec Ideal S8x128 .f32) (ix2 0 (y 1))
      = ∑ i ∈ Finset.Ico (256 * (7 - t.val) + 256) 2048, ctAt m c i (y 1).val := by
  have ht : t.val < 8 := lt_of_lt_of_eq t.isLt N_0
  refine (carry m c _ _ _).trans ?_
  rw [show 256 * (7 - t.val) + 256 = 256 * (7 - (t.val - 1)) from by omega]
  rfl

theorem final_df (c : Dev nD) : (dats m 0 c).arrAt 4 cfg0.N = fun (i : S2048x128.Idx) => dfAt m c (i 0).val (i 1).val := by
  refine (dats m 0 c).arrAt_eq_of_covers 4 _ (by decide +kernel) fun t hf y => ?_
  have hplace : dfAt m c (row t (y 0).val) (y 1).val = dfAt m c (win0_4.index t 0 * 256 + (y 0).val) (win0_4.index t 1 * 128 + (y 1).val) := by
    rw [(places t).2.2.2.2.1]
    simp [row, Nat.mul_comm]
  blk_simp
  rw [after0_4]
  by_cases h : t.val % 8 = 0
  · have ht : t.val < 8 := lt_of_lt_of_eq t.isLt N_0
    rw [outsAt0_A m c t h]
    frame_out
    rw [View.readCov_fill _ _ _ _ _ (by decide)]
    refine (pay7_apply _ _ _ _ _ _).trans ((pay6_at m c t _ _ ?_).trans hplace)
    rw [View.ld_apply, row0_idx]
    refine (pay2_apply _).trans ?_
    simp [show t.val = 0 by omega]
  · rw [outsAt0_B m c t h]
    frame_out
    simp only [read_unread_whole]
    refine (pay7_apply _ _ _ _ _ _).trans ((pay6_at m c t _ _ ?_).trans hplace)
    rw [View.ld_apply, row0_idx]
    exact carried_in m c t h y

/-- The running sum of the bias's gradient after point `n`: the rows of the blocks from that point's on. -/
theorem db_run (c : Dev nD) (n : ℕ) (h : n < cfg0.N) (j : S1x128.Idx) :
    ((outsAt0 m c n h).2.1 : FVec Ideal S1x128 .f32) j = ∑ r ∈ Finset.Ico (256 * (7 - n)) 2048, dfAt m c r (j 1).val := by
  have hsum : ∀ (t : Fin cfg0.N) (f : ℕ → EReal), ∑ r : Fin 256, f (row t r.val) = ∑ r ∈ Finset.Ico (256 * (7 - t.val)) (256 * (7 - t.val) + 256), f r := by
    intro t f
    rw [Fin.sum_univ_eq_sum_range (fun r => f (row t r)) 256, Finset.sum_Ico_eq_sum_range]
    simp [row]
  induction n generalizing j with
  | zero =>
    rw [outsAt0_A m c ⟨0, h⟩ rfl]
    frame_out
    rw [View.readCov_fill _ _ _ _ _ (by decide)]
    refine (pay1_apply _ _ j).trans ?_
    have hz : k0_pay3 (F := Ideal) j = 0 := pay3_apply j
    rw [hz]
    refine (zero_add (M := EReal) _).trans (Eq.trans ?_ (hsum ⟨0, h⟩ (fun r => dfAt m c r (j 1).val)))
    refine Finset.sum_congr rfl fun r _ => pay6_at m c ⟨0, h⟩ _ (ix2 r (j 1)) ?_
    rw [View.ld_apply, row0_idx]
    refine (pay2_apply _).trans ?_
    simp
  | succ n ih =>
    have h8 : n + 1 < 8 := lt_of_lt_of_eq h N_0
    rw [outsAt0_B m c ⟨n + 1, h⟩ (by simp; omega)]
    frame_out
    simp only [read_unread_whole]
    refine (pay1_apply _ _ j).trans ?_
    rw [← Finset.sum_Ico_consecutive (fun r => dfAt m c r (j 1).val) (m := 256 * (7 - (n + 1))) (n := 256 * (7 - n)) (k := 2048) (by omega) (by omega),
      add_comm (∑ r ∈ Finset.Ico (256 * (7 - (n + 1))) _, _)]
    refine congrArg₂ (· + ·) (ih (by omega) j) ?_
    rw [show 256 * (7 - n) = 256 * (7 - (n + 1)) + 256 from by omega]
    refine Eq.trans ?_ (hsum ⟨n + 1, h⟩ (fun r => dfAt m c r (j 1).val))
    refine Finset.sum_congr rfl fun r _ => pay6_at m c ⟨n + 1, h⟩ _ (ix2 r (j 1)) ?_
    rw [View.ld_apply, row0_idx]
    exact carried_in m c ⟨n + 1, h⟩ (by show ¬(n + 1) % 8 = 0; omega) (ix2 r (j 1))

theorem final_db (c : Dev nD) : (dats m 0 c).arrAt 5 cfg0.N = fun (i : S1x128.Idx) => ∑ r ∈ Finset.range 2048, dfAt m c r (i 1).val := by
  refine (dats m 0 c).arrAt_eq_of_after_last 5 t0_7 (by decide +kernel) _ fun j => ?_
  blk_simp
  rw [after0_5]
  refine (db_run m c _ _ _).trans ?_
  rw [Finset.range_eq_Ico]
  rfl

end Cert.GateIdeal.Hand
-- ==== Proof.GateRef.lean ====
/-
  The gate's gradient: what the reference computes.
-/
module

public import proofs.«01_k».proof.Proof.Gen.GateRefIdeal.Read
public import proofs.«01_k».proof.Proof.Sums
public import Idealize.ShloMosaic.Lib.Pipeline.ValueKit
public import Idealize.ShloMosaic.Lib.Claim
public import Idealize.ShloMosaic.Lib.KernelVsHost
public import Idealize.ShloMosaic.Lib.Routing.OpsOne

@[expose] public section

set_option maxRecDepth 16384

noncomputable section

open Idealize.ShloMosaic Idealize.ShloMosaic.TcCoe Idealize.SL.Sem
open scoped BigOperators

namespace Cert.GateRefIdeal.Hand

open Cert.GateRefIdeal Cert.GateRefIdeal.Read

/-- The softplus of `w` as the logarithm of a sigmoid takes it. -/
def softplus (w : EReal) : EReal := max w 0 + Ideal.log1p (Ideal.exp (-(max (w - 0) (-(w - 0)))))

/-- The factor that the derivative of the logarithm of a sigmoid carries, with its guards at infinity. -/
def factor (w : EReal) : EReal :=
  Ideal.exp ((if w = ⊤ then 0 else w) - (if softplus w = ⊤ then 0 else softplus w))

/-- Over the reals the softplus is the logarithm of `1 + exp w`. -/
theorem softplus_coe (w : ℝ) : softplus w = ((Real.log (1 + Real.exp w) : ℝ) : EReal) := by
  have hmax : ∀ a b : ℝ, max (a : EReal) (b : EReal) = ((max a b : ℝ) : EReal) := fun a b => (EReal.coe_strictMono.monotone.map_max (a := a) (b := b)).symm
  have h1 : 0 < 1 + Real.exp (-|w|) := by positivity
  unfold softplus
  rw [sub_zero, ← EReal.coe_neg, hmax w (-w), ← EReal.coe_zero, hmax w 0, ← EReal.coe_neg]
  unfold Ideal.log1p
  rw [show Ideal.exp ((-(max w (-w)) : ℝ) : EReal) = ((Real.exp (-|w|) : ℝ) : EReal) from rfl, ← EReal.coe_one, ← EReal.coe_add,
    show Ideal.log (((1 + Real.exp (-|w|) : ℝ)) : EReal) = ((Real.log (1 + Real.exp (-|w|)) : ℝ) : EReal) from by
      rw [Ideal.log_coe, if_neg (not_le.mpr h1)], ← EReal.coe_add]
  congr 1
  rcases le_total 0 w with hw | hw
  · rw [max_eq_left hw, abs_of_nonneg hw]
    have : 1 + Real.exp w = Real.exp w * (1 + Real.exp (-w)) := by
      rw [mul_add, ← Real.exp_add]; simp [add_comm]
    rw [this, Real.log_mul (by positivity) (by positivity), Real.log_exp]
  · rw [max_eq_right hw, abs_of_nonpos hw]
    simp

/-- The factor is the reciprocal of `1 + exp z`, at every extended real. -/
theorem factor_neg (z : EReal) : factor (-z) = (1 + Ideal.exp z)⁻¹ := by
  induction z with
  | bot =>
    have h : Ideal.log 1 = 0 := by rw [← EReal.coe_one, Ideal.log_coe]; simp
    have h0 : Ideal.exp 0 = 1 := by rw [← EReal.coe_zero, Ideal.exp_coe]; simp
    simp [factor, softplus, Ideal.log1p, h, h0]
  | top => simp [factor, softplus, Ideal.log1p, ← EReal.coe_one]
  | coe z =>
    have hp : 0 < 1 + Real.exp (-z) := by positivity
    rw [← EReal.coe_neg]
    unfold factor
    rw [softplus_coe, if_neg (EReal.coe_ne_top _), if_neg (EReal.coe_ne_top _), ← EReal.coe_sub,
      show ∀ r : ℝ, Ideal.exp (r : EReal) = ((Real.exp r : ℝ) : EReal) from fun _ => rfl,
      show ∀ r : ℝ, Ideal.exp (r : EReal) = ((Real.exp r : ℝ) : EReal) from fun _ => rfl, ← EReal.coe_one, ← EReal.coe_add, ← EReal.coe_inv]
    congr 1
    rw [Real.exp_sub, Real.exp_log hp, ← one_div, div_eq_div_iff hp.ne' (by positivity), mul_add, ← Real.exp_add]
    simp [add_comm]

/-- The kernel's quotient. -/
theorem div_eq (d z : EReal) : Ideal.div d (1 + Ideal.exp z) = d * (1 + Ideal.exp z)⁻¹ := by
  have h : 1 + Ideal.exp z ≠ 0 := by
    have : (0 : EReal) ≤ Ideal.exp z := by
      induction z with
      | bot => simp
      | top => simp
      | coe z => exact EReal.coe_nonneg.mpr (Real.exp_pos z).le
    intro h0
    have h1 : (1 : EReal) ≤ 1 + Ideal.exp z := le_add_of_nonneg_right this
    rw [h0] at h1
    exact absurd h1 (by norm_num)
  unfold Ideal.div
  rw [if_neg h]

/-- The reference's gradient of the pre-activation as the kernel forms it. -/
theorem scalar (d z : EReal) : -((-d) * factor (-z)) = Ideal.div d (1 + Ideal.exp z) := by
  rw [factor_neg, div_eq, neg_mul, neg_neg]

/-- A left fold of sums is the first value and the sum of the rest. -/
theorem foldl_sum {n : ℕ} (g : Fin n → EReal) (v : EReal) : (List.finRange n).foldl (fun r k => r + g k) v = v + ∑ k, g k := by
  rw [Fin.sum_univ_def]
  generalize List.finRange n = l
  induction l generalizing v with
  | nil => simp
  | cons a l ih => rw [List.foldl_cons, ih, List.map_cons, List.sum_cons, add_assoc]

/-- The reversed running sum of a column, as a window sum: the sum of the rows from `j` on. -/
theorem window_sum (x : FVec Ideal S2048x16 .f32) (X : ℕ → ℕ → EReal) (hx : ∀ (i : Fin 2048) (l : Fin 16), x (ix2 i l) = X i l)
    (init : FVec Ideal S_ .f32) (hinit : ∀ i, init i = (0 : EReal)) (h : S2048x16.ReduceWindows ![2048, 1] ![1, 1] ![0, 0] ![2047, 0] S2048x16)
    (hu : 0 < S_.numel) (j : Fin 2048) (l : Fin 16) :
    (Host.reduceWindowAdd ![2048, 1] ![1, 1] ![0, 0] ![2047, 0] x init h hu : FVec Ideal S2048x16 .f32) (ix2 j l) = ∑ i ∈ Finset.Ico j.val 2048, X i l := by
  unfold Host.reduceWindowAdd
  rw [Ideal.hostReduceWindowAdd_def]
  unfold Ideal.hostReduceWindowAdd
  unfold Host.reduceWindow
  have hj := j.isLt
  have hl := l.isLt
  have hn : ∀ n : Fin (⟨2, ![2048, 1]⟩ : Shape).numel, n.val < 2048 := fun n => (n.cast (Routing.numel_col 2048)).isLt
  have hw0 : ∀ n, ((⟨2, ![2048, 1]⟩ : Shape).rowMajor.symm n 0).val = n.val := fun n => by
    refine (congrArg (fun i : (⟨2, ![2048, 1]⟩ : Shape).Idx => (i 0).val) (Routing.symm_col (R := 2048) n)).trans rfl
  have hw1 : ∀ n, ((⟨2, ![2048, 1]⟩ : Shape).rowMajor.symm n 1).val = 0 := fun n => by
    refine (congrArg (fun i : (⟨2, ![2048, 1]⟩ : Shape).Idx => (i 1).val) (Routing.symm_col (R := 2048) n)).trans rfl
  dsimp only
  refine (foldl_sum _ _).trans ?_
  rw [hinit, zero_add]
  refine (Finset.sum_congr rfl fun n _ => (?_ : _ = if j.val + n.val < 2048 then X (j.val + n.val) l else 0)).trans ?_
  · split
    · next hin =>
      have h0 : 0 ≤ j.val * 1 + ((⟨2, ![2048, 1]⟩ : Shape).rowMajor.symm n 0).val
          ∧ j.val * 1 + ((⟨2, ![2048, 1]⟩ : Shape).rowMajor.symm n 0).val - 0 < 2048 := hin 0
      rw [hw0] at h0
      rw [if_pos (by omega)]
      refine (congrArg x (funext fun a => Fin.ext ?_)).trans (hx ⟨j.val + n.val, by omega⟩ l)
      match a with
      | ⟨0, _⟩ =>
        show j.val * 1 + ((⟨2, ![2048, 1]⟩ : Shape).rowMajor.symm n 0).val - 0 = j.val + n.val
        rw [hw0, Nat.mul_one, Nat.sub_zero]
      | ⟨1, _⟩ =>
        show l.val * 1 + ((⟨2, ![2048, 1]⟩ : Shape).rowMajor.symm n 1).val - 0 = l.val
        rw [hw1, Nat.mul_one, Nat.sub_zero, Nat.add_zero]
    · next hin =>
      rw [if_neg fun hle => hin fun a => ?_]
      match a with
      | ⟨0, _⟩ =>
        show 0 ≤ j.val * 1 + ((⟨2, ![2048, 1]⟩ : Shape).rowMajor.symm n 0).val
          ∧ j.val * 1 + ((⟨2, ![2048, 1]⟩ : Shape).rowMajor.symm n 0).val - 0 < 2048
        rw [hw0]
        omega
      | ⟨1, _⟩ =>
        show 0 ≤ l.val * 1 + ((⟨2, ![2048, 1]⟩ : Shape).rowMajor.symm n 1).val
          ∧ l.val * 1 + ((⟨2, ![2048, 1]⟩ : Shape).rowMajor.symm n 1).val - 0 < 16
        rw [hw1]
        omega
  · rw [← Equiv.sum_comp (finCongr (Routing.numel_col 2048)).symm]
    refine (Finset.sum_range (n := 2048) fun n => if j.val + n < 2048 then X (j.val + n) l else 0).symm.trans ?_
    rw [← Finset.sum_filter]
    refine Finset.sum_bij (fun n _ => j.val + n) (fun n hn => ?_) (fun a _ b _ h => by omega) (fun b hb => ⟨b - j.val, ?_, ?_⟩) (fun _ _ => rfl)
    · simp only [Finset.mem_filter, Finset.mem_range, Finset.mem_Ico] at hn ⊢; omega
    · simp only [Finset.mem_filter, Finset.mem_range, Finset.mem_Ico] at hb ⊢; omega
    · simp only [Finset.mem_Ico] at hb; omega

/-- The reference's pre-activation, at a row and a head. -/
theorem pre_at (x0 : FVec Ideal S2048x3088 .f32) (x1 : FVec Ideal S1x16 .f32) (r : Fin 2048) (l : Fin 16) :
    (val_main_v4 (F := Ideal) x0 x1 (ix2 r l) : EReal) = x0 (ix2 r ⟨3072 + l.val, by omega⟩) + x1 (ix2 (0 : Fin 1) l) := by
  simp only [val_main_v4_apply, val_main_v3_apply, val_main_v2_apply, val_main_v1_apply, val_main_v0_apply]
  exact congrArg₂ (fun a b : EReal => a + b) (congrArg x0 (by funext a; fin_cases a <;> rfl)) (congrArg x1 (by funext a; apply Fin.ext; fin_cases a <;> simp [idx_main_v1, idx_main_v2, idx_main_v3]))

/-- A choice by an equality. -/
theorem select_eq (a b x y : EReal) : (Scalar.select (FloatOps.cmpf (F := Ideal) (φ := .f32) .oeq a b) x y : EReal) = if a = b then x else y := by
  show (if Ideal.cmp .oeq a b = 1 then x else y) = _
  by_cases h : a = b <;> simp [Ideal.cmp, h]

/-- No extended real differs from itself. -/
theorem select_ne (a x y : EReal) : (Scalar.select (FloatOps.cmpf (F := Ideal) (φ := .f32) .une a a) x y : EReal) = y := by
  show (if Ideal.cmp .une a a = 1 then x else y) = _
  simp [Ideal.cmp]

/-- The word of zero. -/
theorem word_zero : (FloatOps.ofBits (F := Ideal) .f32 0#32 : EReal) = 0 := Ideal.ofBits_zero_f32

/-- The word of the infinity. -/
theorem word_top : (FloatOps.ofBits (F := Ideal) .f32 2139095040#32 : EReal) = ⊤ := by
  simp [Ideal.ofBits, Ideal.ieee]

/-- The factor of the logarithm of a sigmoid, as the reference's host lines form it. -/
theorem factor_at (x0 : FVec Ideal S2048x3088 .f32) (x1 : FVec Ideal S1x16 .f32) (i : S2048x16.Idx) :
    (val_main_v5_1 (F := Ideal) x0 x1 i : EReal) = factor (-(val_main_v4 (F := Ideal) x0 x1 i)) := by
  simp only [val_main_v5_1_apply, val_main_call0_call0_v21_apply, val_main_call0_call0_v20_apply, val_main_call0_call0_v19_apply, val_main_call0_call0_v18_apply,
    val_main_call0_call0_v17_apply, val_main_call0_call0_v16_apply, val_main_call0_call0_v15_apply, val_main_call0_call0_v14_apply, val_main_call0_call0_v13_apply,
    val_main_call0_v1_0_apply, val_main_call0_call0_v11_apply, val_main_call0_call0_v10_apply, val_main_call0_call0_v9_apply, val_main_call0_call0_v8_apply,
    val_main_call0_call0_v7_apply, val_main_call0_call0_v6_apply, val_main_call0_call0_v5_apply, val_main_call0_call0_v4_apply, val_main_call0_call0_v3_apply,
    val_main_call0_call0_v2_apply, val_main_call0_call0_v1_apply, val_main_call0_call0_v0_apply, val_main_call0_v0_apply, val_main_call0_call0_cst_apply,
    val_main_call0_call0_cst_0_apply, val_main_call0_call0_cst_1_apply, val_main_call0_call0_cst_2_apply, val_main_call0_call0_cst_3_apply]
  generalize val_main_v4 (F := Ideal) x0 x1 i = z
  rw [word_top, word_zero, select_eq, select_ne, select_eq]
  rfl

/-- The gradient of a pre-activation, at a row and a head. -/
theorem grad_at (x0 : FVec Ideal S2048x3088 .f32) (x1 : FVec Ideal S1x16 .f32) (x2 : FVec Ideal S16x2048 .f32) (X : ℕ → ℕ → EReal)
    (hX : ∀ (i : Fin 2048) (l : Fin 16), x2 (ix2 l i) = X i l) (r : Fin 2048) (l : Fin 16) :
    (val_main_v10 (F := Ideal) x0 x1 x2 (ix2 r l) : EReal)
      = Ideal.div (∑ i ∈ Finset.Ico r.val 2048, X i l) (1 + Ideal.exp (x0 (ix2 r ⟨3072 + l.val, by omega⟩) + x1 (ix2 (0 : Fin 1) l))) := by
  simp only [val_main_v10_apply, val_main_call3_v1_apply, val_main_call3_v0_apply]
  refine Eq.trans (congrArg₂ (fun a b : EReal => -((-a) * b)) ?_ (factor_at x0 x1 _)) ((scalar _ _).trans (congrArg (fun z => Ideal.div _ (1 + Ideal.exp z)) (pre_at x0 x1 r l)))
  unfold val_main_v9
  refine window_sum _ X (fun i l => ?_) _ (fun i => ?_) _ _ r l
  · rw [val_main_v8_apply]
    exact (congrArg x2 (by funext a; fin_cases a <;> rfl)).trans (hX i l)
  · simp only [val_main_call2_call0_v0_apply, val_main_call2_call0_cst_apply]
    exact Ideal.ofBits_zero_f32

/-- A pad with zero lanes on the right, at a row and a lane. -/
theorem pad_lanes {n : ℕ} (x : FVec Ideal ⟨2, ![n, 16]⟩ .f32) (z : FVec Ideal S_ .f32) (hz : ∀ i, z i = (0 : EReal))
    (h : Shape.Pads ⟨2, ![n, 16]⟩ ![0, 0] ![0, 112] ![0, 0] ⟨2, ![n, 128]⟩) (hu : 0 < S_.numel) (r : Fin n) (l : Fin 128) (g : ℕ → EReal)
    (hg : ∀ l : Fin 16, x (ix2 r l) = g l) :
    (pad ⟨2, ![n, 128]⟩ ![0, 0] ![0, 112] ![0, 0] x z h hu (ix2 r l) : EReal) = if l.val < 16 then g l else 0 := by
  by_cases hl : l.val < 16
  · rw [if_pos hl, ← hg ⟨l, hl⟩]
    refine pad_apply_of_inside _ _ _ _ _ _ _ _ _ fun a => ?_
    match a with
    | ⟨0, _⟩ => exact (Nat.zero_add _).symm.trans (congrArg (0 + ·) (Nat.mul_one _).symm)
    | ⟨1, _⟩ => exact (Nat.zero_add _).symm.trans (congrArg (0 + ·) (Nat.mul_one _).symm)
  · rw [if_neg hl]
    refine (pad_apply_of_not_inside _ _ _ _ _ _ _ _ (1 : Fin 2) fun hh => hl ?_).trans (hz _)
    have h2 : (l.val - 0) / 1 < 16 := hh.2.2
    simpa using h2

/-- The first result: the gradients of the pre-activations, in the first sixteen of 128 lanes. -/
theorem df_at (x0 : FVec Ideal S2048x3088 .f32) (x1 : FVec Ideal S1x16 .f32) (x2 : FVec Ideal S16x2048 .f32) (D : ℕ → ℕ → EReal)
    (hD : ∀ (r : Fin 2048) (l : Fin 16), (val_main_v10 (F := Ideal) x0 x1 x2 (ix2 r l) : EReal) = D r l) (r : Fin 2048) (l : Fin 128) :
    (val_main_v18 (F := Ideal) x0 x1 x2 (ix2 r l) : EReal) = if l.val < 16 then D r l else 0 := by
  rw [val_main_v18_apply]
  unfold val_main_v17
  refine pad_lanes (val_main_v16 (F := Ideal) x0 x1 x2) _ (fun i => ?_) _ _ r l (D r) fun l => ?_
  · rw [val_main_call4_v0_apply, val_main_c_apply]
    exact sitofp_zero (φ := .f32)
  · rw [val_main_v16_apply, ← hD]
    unfold val_main_v15
    refine pad_apply_of_inside _ _ _ _ _ _ _ _ _ fun a => ?_
    match a with
    | ⟨0, _⟩ => exact (Nat.zero_add _).symm.trans (congrArg (0 + ·) (Nat.mul_one _).symm)
    | ⟨1, _⟩ => exact congrArg (3072 + ·) (Nat.mul_one _).symm

/-- The second result: their sums over the rows. -/
theorem db_at (x0 : FVec Ideal S2048x3088 .f32) (x1 : FVec Ideal S1x16 .f32) (x2 : FVec Ideal S16x2048 .f32) (D : ℕ → ℕ → EReal)
    (hD : ∀ (r : Fin 2048) (l : Fin 16), (val_main_v10 (F := Ideal) x0 x1 x2 (ix2 r l) : EReal) = D r l) (l : Fin 128) :
    (val_main_v19 (F := Ideal) x0 x1 x2 (ix2 (0 : Fin 1) l) : EReal) = if l.val < 16 then ∑ r ∈ Finset.range 2048, D r l else 0 := by
  unfold val_main_v19
  refine pad_lanes (val_main_v14 (F := Ideal) x0 x1 x2) _ (fun i => ?_) _ _ (0 : Fin 1) l (fun l => ∑ r ∈ Finset.range 2048, D r l) fun l => ?_
  · rw [val_main_call5_v0_apply, val_main_c_2_apply]
    exact sitofp_zero (φ := .f32)
  · rw [val_main_v14_apply, val_main_v13_apply, val_main_cst_0_apply, word_zero, zero_add, Fin.sum_univ_one, val_main_v12_apply, val_main_v11_apply,
      val_main_cst_apply, word_zero, zero_add, Finset.sum_range]
    refine Finset.sum_congr rfl fun r _ => ?_
    rw [← hD]
    refine congrArg _ ?_
    funext a
    apply Fin.ext
    fin_cases a <;> simp [idx_main_v11, idx_main_v12, idx_main_v13, idx_main_v14]

end Cert.GateRefIdeal.Hand
-- ==== Proof.GateClaim.lean ====
/-
  The claims about the gate's gradient, put together.
-/
module

public import proofs.«01_k».proof.Defs
public import proofs.«01_k».proof.Proof.Gen.Gate.Frame
public import proofs.«01_k».proof.Proof.Gen.GateRefIdeal.Run
public import proofs.«01_k».proof.Proof.GateValue
public import proofs.«01_k».proof.Proof.GateRef

@[expose] public section

set_option maxRecDepth 16384

noncomputable section

open Idealize.ShloMosaic Idealize.ShloMosaic.TcCoe Idealize.SL.Sem
open scoped BigOperators

namespace Cert.GateIdeal.Hand

open Cert.GateIdeal Cert.GateIdeal.Gen

/-- The reference's gradient of a pre-activation is the kernel's. -/
theorem grad_eq (m : (ℓ : Loc nD τ sig) → Buf (Elt Ideal) ℓ) (c : Dev nD) (r : Fin 2048) (l : Fin 16) :
    (Cert.GateRefIdeal.Read.val_main_v10 (F := Ideal) (m ((c : Thread nD τ).loc main_arg0)) (m ((c : Thread nD τ).loc main_arg1)) (m ((c : Thread nD τ).loc main_arg2))
      (ix2 r l) : EReal) = dfAt m c r l := by
  refine (Cert.GateRefIdeal.Hand.grad_at _ _ _ (fun i l => ctAt m c i l) (fun i l => ?_) r l).trans ?_
  · exact (ctAt_in m c i l ⟨l.isLt, i.isLt⟩).symm
  · unfold dfAt
    rw [if_pos l.isLt, projAt_in m c r l (by have := r.isLt; have := l.isLt; omega), biasAt_in m c l (by have := l.isLt; omega)]

/-- A gradient outside the sixteen heads is zero. -/
theorem df_lanes (m : (ℓ : Loc nD τ sig) → Buf (Elt Ideal) ℓ) (c : Dev nD) (r l : ℕ) : (if l < 16 then dfAt m c r l else 0) = dfAt m c r l := by
  by_cases h : l < 16
  · rw [if_pos h]
  · rw [if_neg h, dfAt, if_neg h]

/-- The sums over the rows outside the sixteen heads are zero. -/
theorem db_lanes (m : (ℓ : Loc nD τ sig) → Buf (Elt Ideal) ℓ) (c : Dev nD) (l : ℕ) :
    (if l < 16 then ∑ r ∈ Finset.range 2048, dfAt m c r l else 0) = ∑ r ∈ Finset.range 2048, dfAt m c r l := by
  by_cases h : l < 16
  · rw [if_pos h]
  · rw [if_neg h]
    refine (Finset.sum_eq_zero fun r _ => ?_).symm
    rw [dfAt, if_neg h]

/-- The first result, whole. -/
theorem ref_df (m : (ℓ : Loc nD τ sig) → Buf (Elt Ideal) ℓ) (c : Dev nD) :
    Cert.GateRefIdeal.Read.val_main_v18 (F := Ideal) (m ((c : Thread nD τ).loc main_arg0)) (m ((c : Thread nD τ).loc main_arg1)) (m ((c : Thread nD τ).loc main_arg2))
      = fun (i : S2048x128.Idx) => dfAt m c (i 0).val (i 1).val := by
  funext i
  idx_vars i
  exact (Cert.GateRefIdeal.Hand.df_at _ _ _ _ (grad_eq m c) _ _).trans (df_lanes m c _ _)

/-- The second result, whole. -/
theorem ref_db (m : (ℓ : Loc nD τ sig) → Buf (Elt Ideal) ℓ) (c : Dev nD) :
    Cert.GateRefIdeal.Read.val_main_v19 (F := Ideal) (m ((c : Thread nD τ).loc main_arg0)) (m ((c : Thread nD τ).loc main_arg1)) (m ((c : Thread nD τ).loc main_arg2))
      = fun (i : S1x128.Idx) => ∑ r ∈ Finset.range 2048, dfAt m c r (i 1).val := by
  funext i
  idx_vars i
  obtain rfl : i0 = 0 := Subsingleton.elim _ _
  exact (Cert.GateRefIdeal.Hand.db_at _ _ _ _ (grad_eq m c) _).trans (db_lanes m c _)

end Cert.GateIdeal.Hand

namespace Cert.GateClaim

open Cert.GateIdeal.Hand

/-- The gate call terminates without a fault and leaves its arguments alone. -/
theorem frame_kernel : Cert.quiescent_Gate := fun m ρ _ => Cert.Gate.Gen.frame m ρ

/-- The same over the extended reals. -/
theorem frame_ideal : Cert.quiescent_GateIdeal := fun m ρ _ => Cert.GateIdeal.Gen.frame m ρ

/-- The reference terminates without a fault and leaves its arguments alone. -/
theorem frame_reference : Cert.quiescent_GateRefIdeal := fun m ρ _ =>
  (θ_run _ _ _).mono (fun r h => ⟨fun c => (h c).2.2, sem_eq_zero_of_no_sems rfl r.2⟩) (Cert.GateRefIdeal.Value.run m ρ)

/-- The kernel's two results are the reference's. -/
theorem algebraic : Cert.algebraic_GateIdeal_GateRefIdeal := by
  pair_intro
  · run_from Cert.GateIdeal.Value.run_blocks m g
  · run_from Cert.GateRefIdeal.Value.run m' g'
    · rw [Cert.GateRefIdeal.Read.val_main_v18_eq (F := Ideal) m' c, (hagree c).1, (hagree c).2.1, (hagree c).2.2]
      exact (ref_df m c).trans (final_df m c).symm
    · rw [Cert.GateRefIdeal.Read.val_main_v19_eq (F := Ideal) m' c, (hagree c).1, (hagree c).2.1, (hagree c).2.2]
      exact (ref_db m c).trans (final_db m c).symm

end Cert.GateClaim
-- ==== Proof.GateFwdBlock.lean ====
/-
  The forget gate, forward: what one block computes, and what the arrays hold that the host lines of `GateFwdIdeal` prepare.
-/
module

public import proofs.«01_k».proof.Proof.Gen.GateFwdIdeal.Value
public import proofs.«01_k».proof.Proof.GateRef
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.GateFwdIdeal.Hand

open Cert.GateFwdIdeal Cert.GateFwdIdeal.Gen
open Cert.GateRefIdeal.Hand (softplus word_zero)

variable (m : (ℓ : Loc nD τ sig) → Buf (Elt Ideal) ℓ)

/-- The logarithm of the sigmoid. -/
def logSig (z : EReal) : EReal := -(softplus (-z))

/-- The blocks' places: the points go through the rows. -/
theorem places : ∀ t : Fin cfg0.N, win0_0.index t = ![t.val, 24] ∧ win0_1.index t = ![0, 0]
    ∧ win0_2.index t = ![0, 0] ∧ win0_3.index t = ![t.val, 0] :=
  (by decide +kernel : ∀ t : Fin grid0.N, _)

/-- No extended real differs from itself. -/
theorem select_self (a x y : EReal) : (Scalar.select (FloatOps.cmpf (F := Ideal) (φ := .f32) .one a a) x y : EReal) = y := by
  show (if Ideal.cmp .one a a = 1 then x else y) = _
  simp [Ideal.cmp]

/-- The logarithm of the sigmoid, as the block's lines form it. -/
theorem logSig_eq (z : EReal) : 0 - (if 0 - z ≠ 0 - z then 0 - z else
    max (0 - z) 0 + Ideal.log1p (Ideal.exp (0 - (FloatOps.absf (F := Ideal) (φ := .f32) (0 - z) : EReal)))) = logSig z := by
  rw [if_neg (fun h => h rfl)]
  unfold logSig softplus
  simp only [zero_sub, sub_zero]
  rfl

/-- The running sum of the logarithms within a block, with the sum carried in from the rows above. -/
theorem pay3_apply (x : FVec Ideal S256x128 .f32) (b : FVec Ideal S1x128 .f32) (tr : FVec Ideal S256x256 .f32) (s : FVec Ideal S1x128 .f32) (y : S256x128.Idx) :
    (k0_pay3 (F := Ideal) x b tr s y : EReal)
      = (∑ k : Fin 256, (tr (ix2 (y 0) k) : EReal) * (if (y 1).val < 16 then logSig ((x (ix2 k (y 1)) : EReal) + b (ix2 0 (y 1))) else 0)) + s (ix2 0 (y 1)) := by
  idx_vars y
  unfold k0_pay3
  pointwise []
  refine congrArg₂ (fun a b : EReal => a + b) (Finset.sum_congr rfl fun k _ => ?_) rfl
  rw [WordCmp.cmpi_slt_ofNat (by omega) (by omega)]
  by_cases h : (y1 : ℕ) < 16
  · refine Eq.trans ?_ (congrArg (fun z : EReal => (tr (ix2 y0 k) : EReal) * z) (if_pos h).symm)
    rw [decide_eq_true h]
    exact congrArg (fun z : EReal => (tr (ix2 y0 k) : EReal) * z) (logSig_eq _)
  · refine Eq.trans ?_ (congrArg (fun z : EReal => (tr (ix2 y0 k) : EReal) * z) (if_neg h).symm)
    rw [decide_eq_false h, mul_zero]
    rfl

theorem pay1_apply (x : FVec Ideal S256x128 .f32) (y : S8x128.Idx) : (k0_pay1 (F := Ideal) x y : EReal) = x (ix2 255 (y 1)) := by
  idx_vars y
  unfold k0_pay1
  pointwise []

theorem pay2_apply (y : S8x128.Idx) : (k0_pay2 (F := Ideal) y : EReal) = 0 := by
  pointwise [k0_pay2]

/-- The padded gate columns, in the sixteen heads. -/
theorem entry_proj (c : Dev nD) (r : Fin 2048) (l : Fin 16) :
    ((V m c main_v0 : FVec Ideal S2048x3200 .f32) (ix2 r ⟨3072 + l.val, by have := l.isLt; omega⟩) : EReal)
      = (m ((c : Thread nD τ).loc main_arg0) : FVec Ideal S2048x3088 .f32) (ix2 r ⟨3072 + l.val, by have := l.isLt; omega⟩) := by
  unfold_abbrev_sides
  after_reads_at
  exact dif_pos (show 3072 + l.val < 3088 by omega)

/-- The padded bias, in the sixteen heads. -/
theorem entry_bias (c : Dev nD) (l : Fin 16) :
    ((V m c main_v1 : FVec Ideal S1x128 .f32) (ix2 0 ⟨l.val, by have := l.isLt; omega⟩) : EReal) = (m ((c : Thread nD τ).loc main_arg1) : FVec Ideal S1x16 .f32) (ix2 0 l) := by
  unfold_abbrev_sides
  after_reads_at

/-- A triangle of ones by row and column. -/
def low (r k : ℕ) : EReal := if k ≤ r then (1 : EReal) else 0

/-- The triangle of ones that the host line prepares. -/
theorem entry_tri (c : Dev nD) (i : S256x256.Idx) : ((V m c main_v3 : FVec Ideal S256x256 .f32) i : EReal) = low (i 0).val (i 1).val := by
  unfold_abbrev_sides
  simp only [List.flatten_cons, List.flatten_nil, List.cons_append, List.nil_append, List.append_nil, hostOps0_5]
  after_reads_simp
  simp -implicitDefEqProofs only [StableHlo.TRef.ofBuf_toBuf, StableHlo.TRef.toBuf, StableHlo.TRef.ofBuf, cast_eq]
  idx_vars i
  pointwise
  rw [show IntOp.addi (BitVec.ofNat 32 i0.val) 0#32 = BitVec.ofNat 32 i0.val from BitVec.add_zero _, WordCmp.cmpi_sge_ofNat (by omega) (by omega), WordCmp.select_decide]
  rfl

end Cert.GateFwdIdeal.Hand
-- ==== Proof.GateFwdValue.lean ====
/-
  The forget gate, forward: what the result array of `GateFwdIdeal` holds, the running sums over the rows.
-/
module

public import proofs.«01_k».proof.Proof.GateFwdBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.GateFwdIdeal.Hand

open Cert.GateFwdIdeal Cert.GateFwdIdeal.Gen

variable (m : (ℓ : Loc nD τ sig) → Buf (Elt Ideal) ℓ)

/-- The gate columns and the bias, as the program finds them. -/
def projArr (c : Dev nD) : FVec Ideal S2048x3088 .f32 := m ((c : Thread nD τ).loc main_arg0)
def biasArr (c : Dev nD) : FVec Ideal S1x16 .f32 := m ((c : Thread nD τ).loc main_arg1)

/-- The logarithm of the gate by row and lane, zero outside. -/
def lfAt (c : Dev nD) (r l : ℕ) : EReal :=
  if h : l < 16 ∧ r < 2048 then logSig ((projArr m c (ix2 ⟨r, h.2⟩ ⟨3072 + l, by omega⟩) : EReal) + biasArr m c (ix2 0 ⟨l, h.1⟩)) else 0

theorem lfAt_in (c : Dev nD) (r l : ℕ) (h : l < 16 ∧ r < 2048) :
    lfAt m c r l = logSig ((projArr m c (ix2 ⟨r, h.2⟩ ⟨3072 + l, by omega⟩) : EReal) + biasArr m c (ix2 0 ⟨l, h.1⟩)) := by unfold lfAt; exact dif_pos h

theorem lfAt_out (c : Dev nD) (r l : ℕ) (h : ¬l < 16) : lfAt m c r l = 0 := by unfold lfAt; exact dif_neg fun q => h q.1

theorem lt8 (t : Fin cfg0.N) : t.val < 8 := lt_of_lt_of_eq t.isLt N_0

theorem blk_tri (c : Dev nD) (t : Fin cfg0.N) (r k : Fin 256) : ((iblk m c 2 t : FVec Ideal S256x256 .f32) (ix2 r k) : EReal) = low r.val k.val := by
  refine (entry_tri m c (((cfg0.win 2).blk t).view.emb (ix2 r k))).trans (congrArg₂ low ?_ ?_)
  · blk_simp [places t] <;> simp
  · blk_simp [places t] <;> simp

theorem blk_proj (c : Dev nD) (t : Fin cfg0.N) (r : Fin 256) (l : Fin 128) (h : l.val < 16) :
    ((iblk m c 0 t : FVec Ideal S256x128 .f32) (ix2 r l) : EReal)
      = projArr m c (ix2 ⟨256 * t.val + r.val, by have := lt8 t; omega⟩ ⟨3072 + l.val, by omega⟩) := by
  refine Eq.trans ?_ (entry_proj m c ⟨256 * t.val + r.val, by have := lt8 t; omega⟩ ⟨l.val, h⟩)
  have e : (((cfg0.win 0).blk t).view.emb (ix2 r l) : S2048x3200.Idx) = ix2 ⟨256 * t.val + r.val, by have := lt8 t; omega⟩ ⟨3072 + l.val, by omega⟩ := by
    funext a
    apply Fin.ext
    fin_cases a <;> blk_simp [places t] <;> simp <;> omega
  exact congrArg (V m c main_v0 : FVec Ideal S2048x3200 .f32) e

theorem blk_bias (c : Dev nD) (t : Fin cfg0.N) (l : Fin 128) (h : l.val < 16) :
    ((iblk m c 1 t : FVec Ideal S1x128 .f32) (ix2 0 l) : EReal) = biasArr m c (ix2 0 ⟨l.val, h⟩) := by
  refine Eq.trans ?_ (entry_bias m c ⟨l.val, h⟩)
  have e : (((cfg0.win 1).blk t).view.emb (ix2 0 l) : S1x128.Idx) = ix2 0 ⟨l.val, by omega⟩ := by
    funext a
    apply Fin.ext
    fin_cases a <;> blk_simp [places t] <;> simp
  exact congrArg (V m c main_v1 : FVec Ideal S1x128 .f32) e

/-- A product with a row of the triangle of ones is the sum down to that row. -/
theorem lower_sum (f : ℕ → EReal) (r : ℕ) (hr : r < 256) : (∑ k : Fin 256, low r k.val * f k.val) = ∑ i ∈ Finset.range (r + 1), f i := by
  rw [Fin.sum_univ_eq_sum_range (fun k => low r k * f k) 256]
  unfold low
  simp only [ite_mul, one_mul, zero_mul]
  rw [← Finset.sum_filter]
  refine Finset.sum_congr ?_ fun _ _ => rfl
  ext k
  simp only [Finset.mem_filter, Finset.mem_range]
  omega

/-- The running sum down to one row of a block, the rows above the block being in `x`. -/
theorem run_block (c : Dev nD) (t : Fin cfg0.N) (x : FVec Ideal S1x128 .f32) (y : S256x128.Idx)
    (hx : (x (ix2 0 (y 1)) : EReal) = ∑ i ∈ Finset.range (256 * t.val), lfAt m c i (y 1).val) :
    (k0_pay3 (F := Ideal) (iblk m c 0 t) (iblk m c 1 t) (iblk m c 2 t) x y : EReal) = ∑ i ∈ Finset.range (256 * t.val + (y 0).val + 1), lfAt m c i (y 1).val := by
  have hr : (y 0).val < 256 := (y 0).isLt
  have ht := lt8 t
  refine (pay3_apply _ _ _ _ _).trans ?_
  rw [Nat.add_assoc, Finset.sum_range_add, add_comm (∑ i ∈ Finset.range (256 * t.val), _)]
  refine congrArg₂ (fun a b : EReal => a + b) (Eq.trans (Finset.sum_congr rfl fun k _ => ?_) (lower_sum (fun i => lfAt m c (256 * t.val + i) (y 1).val) (y 0).val hr)) hx
  refine congrArg₂ (fun a b : EReal => a * b) (blk_tri m c t (y 0) k) ?_
  by_cases h : (y 1).val < 16
  · rw [if_pos h, lfAt_in m c _ _ ⟨h, by have := k.isLt; omega⟩]
    exact congrArg logSig (congrArg₂ (fun a b : EReal => a + b) (blk_proj m c t k (y 1) h) (blk_bias m c t (y 1) h))
  · rw [if_neg h, lfAt_out m c _ _ h]

/-- The place of the first row's element in the carried buffer. -/
theorem row0_idx (l : (Rect.unit (s := S8x128) ![0, 0] ![1, 128] inb_S8x128_S1x128_0_0).shape.Idx) :
    (Rect.unit (s := S8x128) ![0, 0] ![1, 128] inb_S8x128_S1x128_0_0).idx l = (ix2 0 (l 1) : S8x128.Idx) := by
  funext a
  apply Fin.ext
  rw [Rect.idx_unit_val]
  have h0 : (l 0).val < 1 := (l 0).isLt
  fin_cases a
  · simp <;> omega
  · simp

/-- After point `n` every row of the carried sum is the sum over the rows of the blocks so far. -/
theorem carry (c : Dev nD) (n : ℕ) (h : n < cfg0.N) (j : S8x128.Idx) :
    ((outsAt0 m c n h).2 : FVec Ideal S8x128 .f32) j = ∑ i ∈ Finset.range (256 * (n + 1)), lfAt m c i (j 1).val := by
  induction n generalizing j with
  | zero =>
    rw [outsAt0_A m c ⟨0, h⟩ rfl]
    frame_out
    refine (pay1_apply _ j).trans ((run_block m c ⟨0, h⟩ _ (ix2 255 (j 1)) ?_).trans ?_)
    · rw [View.readCov_fill _ _ _ _ _ (by decide), View.ld_apply, row0_idx]
      refine (pay2_apply _).trans ?_
      simp
    · rfl
  | succ n ih =>
    have h8 : n + 1 < 8 := lt_of_lt_of_eq h N_0
    rw [outsAt0_B m c ⟨n + 1, h⟩ (by simp; omega)]
    frame_out
    refine (pay1_apply _ j).trans ((run_block m c ⟨n + 1, h⟩ _ (ix2 255 (j 1)) ?_).trans ?_)
    · simp only [read_unread_whole]
      rw [View.ld_apply, row0_idx]
      exact ih (by omega) _
    · rfl

/-- The result array, whole. -/
theorem final (c : Dev nD) : (dats m 0 c).arrAt 3 cfg0.N = fun (i : S2048x128.Idx) => ∑ r ∈ Finset.range ((i 0).val + 1), lfAt m c r (i 1).val := by
  refine (dats m 0 c).arrAt_eq_of_covers 3 _ (by decide +kernel) fun t hf y => ?_
  have ht := lt8 t
  have hplace : (∑ r ∈ Finset.range (256 * t.val + (y 0).val + 1), lfAt m c r (y 1).val)
      = ∑ r ∈ Finset.range (win0_3.index t 0 * 256 + (y 0).val + 1), lfAt m c r (win0_3.index t 1 * 128 + (y 1).val) := by
    rw [(places t).2.2.2]
    simp [Nat.mul_comm]
  blk_simp
  rw [after0_3]
  by_cases h : t.val % 8 = 0
  · rw [outsAt0_A m c t h]
    frame_out
    refine (run_block m c t _ y ?_).trans hplace
    rw [View.readCov_fill _ _ _ _ _ (by decide), View.ld_apply, row0_idx]
    refine (pay2_apply _).trans ?_
    simp [show t.val = 0 by omega]
  · rw [outsAt0_B m c t h]
    frame_out
    simp only [read_unread_whole]
    refine (run_block m c t _ y ?_).trans hplace
    rw [View.ld_apply, row0_idx]
    refine (carry m c _ _ _).trans ?_
    rw [show t.val - 1 + 1 = t.val from by omega]
    rfl

end Cert.GateFwdIdeal.Hand
-- ==== Proof.GateFwdRef.lean ====
/-
  The forget gate, forward: what the reference computes.
-/
module

public import proofs.«01_k».proof.Proof.Gen.GateFwdRefIdeal.Read
public import proofs.«01_k».proof.Proof.GateFwdBlock

@[expose] public section

set_option maxRecDepth 16384

noncomputable section

open Idealize.ShloMosaic Idealize.ShloMosaic.TcCoe Idealize.SL.Sem
open Idealize.ShloMosaic.Pipeline (Dat)
open scoped BigOperators

namespace Cert.GateFwdRefIdeal.Hand

open Cert.GateFwdRefIdeal Cert.GateFwdRefIdeal.Read
open Cert.GateRefIdeal.Hand (softplus word_zero foldl_sum pad_lanes select_ne)
open Cert.GateFwdIdeal.Hand (logSig)

/-- The running sum of a column, as a window sum: the sum of the rows down to `j`. -/
theorem window_sum (x : FVec Ideal S2048x16 .f32) (X : ℕ → EReal) (l : Fin 16) (hx : ∀ i : Fin 2048, (x (ix2 i l) : EReal) = X i)
    (init : FVec Ideal S_ .f32) (hinit : ∀ i, init i = (0 : EReal)) (h : S2048x16.ReduceWindows ![2048, 1] ![1, 1] ![2047, 0] ![0, 0] S2048x16)
    (hu : 0 < S_.numel) (j : Fin 2048) :
    ((Host.reduceWindowAdd ![2048, 1] ![1, 1] ![2047, 0] ![0, 0] x init h hu : FVec Ideal S2048x16 .f32) (ix2 j l) : EReal) = ∑ i ∈ Finset.range (j.val + 1), X i := by
  unfold Host.reduceWindowAdd
  rw [Ideal.hostReduceWindowAdd_def]
  unfold Ideal.hostReduceWindowAdd
  unfold Host.reduceWindow
  have hj := j.isLt
  have hl := l.isLt
  have hw0 : ∀ n, ((⟨2, ![2048, 1]⟩ : Shape).rowMajor.symm n 0).val = n.val := fun n => by
    refine (congrArg (fun i : (⟨2, ![2048, 1]⟩ : Shape).Idx => (i 0).val) (Routing.symm_col (R := 2048) n)).trans rfl
  have hw1 : ∀ n, ((⟨2, ![2048, 1]⟩ : Shape).rowMajor.symm n 1).val = 0 := fun n => by
    refine (congrArg (fun i : (⟨2, ![2048, 1]⟩ : Shape).Idx => (i 1).val) (Routing.symm_col (R := 2048) n)).trans rfl
  have hn : ∀ n : Fin (⟨2, ![2048, 1]⟩ : Shape).numel, n.val < 2048 := fun n => (n.cast (Routing.numel_col 2048)).isLt
  dsimp only
  refine (foldl_sum _ _).trans ?_
  rw [hinit, zero_add]
  refine (Finset.sum_congr rfl fun n _ => (?_ : _ = if 2047 ≤ j.val + n.val then X (j.val + n.val - 2047) else 0)).trans ?_
  · split
    · next hin =>
      have h0 : 2047 ≤ j.val * 1 + ((⟨2, ![2048, 1]⟩ : Shape).rowMajor.symm n 0).val
          ∧ j.val * 1 + ((⟨2, ![2048, 1]⟩ : Shape).rowMajor.symm n 0).val - 2047 < 2048 := hin 0
      rw [hw0] at h0
      rw [if_pos (by omega)]
      refine (congrArg x (funext fun a => Fin.ext ?_)).trans (hx ⟨j.val + n.val - 2047, by omega⟩)
      match a with
      | ⟨0, _⟩ =>
        show j.val * 1 + ((⟨2, ![2048, 1]⟩ : Shape).rowMajor.symm n 0).val - 2047 = j.val + n.val - 2047
        rw [hw0, Nat.mul_one]
      | ⟨1, _⟩ =>
        show l.val * 1 + ((⟨2, ![2048, 1]⟩ : Shape).rowMajor.symm n 1).val - 0 = l.val
        rw [hw1, Nat.mul_one, Nat.sub_zero, Nat.add_zero]
    · next hin =>
      have hnn := hn n
      rw [if_neg fun hle => hin fun a => ?_]
      match a with
      | ⟨0, _⟩ =>
        show 2047 ≤ j.val * 1 + ((⟨2, ![2048, 1]⟩ : Shape).rowMajor.symm n 0).val
          ∧ j.val * 1 + ((⟨2, ![2048, 1]⟩ : Shape).rowMajor.symm n 0).val - 2047 < 2048
        rw [hw0]
        omega
      | ⟨1, _⟩ =>
        show 0 ≤ l.val * 1 + ((⟨2, ![2048, 1]⟩ : Shape).rowMajor.symm n 1).val
          ∧ l.val * 1 + ((⟨2, ![2048, 1]⟩ : Shape).rowMajor.symm n 1).val - 0 < 16
        rw [hw1]
        omega
  · rw [← Equiv.sum_comp (finCongr (Routing.numel_col 2048)).symm]
    refine (Finset.sum_range (n := 2048) fun n => if 2047 ≤ j.val + n then X (j.val + n - 2047) else 0).symm.trans ?_
    rw [← Finset.sum_filter]
    refine Finset.sum_bij (fun n _ => j.val + n - 2047) (fun n hn => ?_) (fun a ha b hb h => ?_) (fun b hb => ⟨b + 2047 - j.val, ?_, ?_⟩) (fun _ _ => rfl)
    · simp only [Finset.mem_filter, Finset.mem_range] at hn ⊢; omega
    · simp only [Finset.mem_filter, Finset.mem_range] at ha hb; omega
    · simp only [Finset.mem_filter, Finset.mem_range] at hb ⊢; omega
    · simp only [Finset.mem_range] at hb; omega

variable (x0 : FVec Ideal S2048x3088 .f32) (x1 : FVec Ideal S1x16 .f32)

/-- The reference's pre-activation, at a row and a head. -/
theorem pre_at (r : Fin 2048) (l : Fin 16) :
    (val_main_v4 (F := Ideal) x0 x1 (ix2 r l) : EReal) = (x0 (ix2 r ⟨3072 + l.val, by omega⟩) : EReal) + x1 (ix2 (0 : Fin 1) l) := by
  simp only [val_main_v4_apply, val_main_v3_apply, val_main_v2_apply, val_main_v1_apply, val_main_v0_apply]
  exact congrArg₂ (fun a b : EReal => a + b) (congrArg x0 (by funext a; fin_cases a <;> rfl)) (congrArg x1 (by funext a; apply Fin.ext; fin_cases a <;> simp [idx_main_v1, idx_main_v2, idx_main_v3]))

/-- The logarithm of the sigmoid, as the host lines form it. -/
theorem log_at (i : S2048x16.Idx) : (val_main_v5 (F := Ideal) x0 x1 i : EReal) = logSig (val_main_v4 (F := Ideal) x0 x1 i) := by
  simp only [val_main_v5_apply, val_main_call0_v1_apply, val_main_call0_call0_v11_apply, val_main_call0_call0_v10_apply, val_main_call0_call0_v9_apply, val_main_call0_call0_v8_apply,
    val_main_call0_call0_v7_apply, val_main_call0_call0_v6_apply, val_main_call0_call0_v5_apply, val_main_call0_call0_v4_apply, val_main_call0_call0_v3_apply,
    val_main_call0_call0_v2_apply, val_main_call0_call0_v1_apply, val_main_call0_call0_v0_apply, val_main_call0_v0_apply, val_main_call0_call0_cst_apply]
  generalize val_main_v4 (F := Ideal) x0 x1 i = z
  rw [word_zero, select_ne]
  rfl

/-- The result: the running sums, in the first sixteen of 128 lanes. -/
theorem run_at (r : Fin 2048) (l : Fin 128) (X : ℕ → ℕ → EReal)
    (hX : ∀ (i : Fin 2048) (l : Fin 16), logSig ((x0 (ix2 i ⟨3072 + l.val, by omega⟩) : EReal) + x1 (ix2 (0 : Fin 1) l)) = X i l) :
    (val_main_v9 (F := Ideal) x0 x1 (ix2 r l) : EReal) = if l.val < 16 then ∑ i ∈ Finset.range (r.val + 1), X i l else 0 := by
  unfold val_main_v9
  refine pad_lanes (val_main_v8 (F := Ideal) x0 x1) _ (fun i => ?_) _ _ r l (fun l => ∑ i ∈ Finset.range (r.val + 1), X i l) fun l => ?_
  · rw [val_main_call2_v0_apply, val_main_c_apply]
    exact sitofp_zero (φ := .f32)
  · rw [val_main_v8_apply, val_main_v7_apply]
    have e : idx_main_v7 (idx_main_v8 (ix2 r l)) = (ix2 r l : S2048x16.Idx) := by funext a; fin_cases a <;> rfl
    rw [e]
    unfold val_main_v6
    refine window_sum _ (fun i => X i l) l (fun i => ?_) _ (fun i => ?_) _ _ r
    · rw [log_at, pre_at]; exact hX i l
    · simp only [val_main_call1_call0_v0_apply, val_main_call1_call0_cst_apply]
      exact Ideal.ofBits_zero_f32

end Cert.GateFwdRefIdeal.Hand
-- ==== Proof.GateFwdClaim.lean ====
/-
  The claims about the forget gate's forward call, put together.
-/
module

public import proofs.«01_k».proof.Defs
public import proofs.«01_k».proof.Proof.Gen.GateFwd.Frame
public import proofs.«01_k».proof.Proof.Gen.GateFwdRefIdeal.Run
public import proofs.«01_k».proof.Proof.GateFwdValue
public import proofs.«01_k».proof.Proof.GateFwdRef

@[expose] public section

set_option maxRecDepth 16384

noncomputable section

open Idealize.ShloMosaic Idealize.ShloMosaic.TcCoe Idealize.SL.Sem
open scoped BigOperators

namespace Cert.GateFwdClaim

open Cert.GateFwdIdeal Cert.GateFwdIdeal.Hand

/-- A running sum outside the sixteen heads is zero. -/
theorem lanes (m : (ℓ : Loc nD τ sig) → Buf (Elt Ideal) ℓ) (c : Dev nD) (r l : ℕ) :
    (if l < 16 then ∑ i ∈ Finset.range (r + 1), lfAt m c i l else 0) = ∑ i ∈ Finset.range (r + 1), lfAt m c i l := by
  by_cases h : l < 16
  · rw [if_pos h]
  · rw [if_neg h]
    exact (Finset.sum_eq_zero fun i _ => lfAt_out m c i l h).symm

/-- The reference's result is the kernel's. -/
theorem same (m : (ℓ : Loc nD τ sig) → Buf (Elt Ideal) ℓ) (c : Dev nD) :
    Cert.GateFwdRefIdeal.Read.val_main_v9 (F := Ideal) (m ((c : Thread nD τ).loc main_arg0)) (m ((c : Thread nD τ).loc main_arg1))
      = (Cert.GateFwdIdeal.Gen.dats m 0 c).arrAt 3 Cert.GateFwdIdeal.cfg0.N := by
  refine Eq.trans ?_ (final m c).symm
  funext i
  idx_vars i
  refine (Cert.GateFwdRefIdeal.Hand.run_at _ _ i0 i1 (lfAt m c) fun r l => ?_).trans (lanes m c _ _)
  exact (lfAt_in m c r l ⟨l.isLt, r.isLt⟩).symm

/-- The call terminates without a fault and leaves its arguments alone. -/
theorem frame_kernel : Cert.quiescent_GateFwd := fun m ρ _ => Cert.GateFwd.Gen.frame m ρ

/-- The same over the extended reals. -/
theorem frame_ideal : Cert.quiescent_GateFwdIdeal := fun m ρ _ => Cert.GateFwdIdeal.Gen.frame m ρ

/-- The reference terminates without a fault and leaves its arguments alone. -/
theorem frame_reference : Cert.quiescent_GateFwdRefIdeal := fun m ρ _ =>
  (θ_run _ _ _).mono (fun r h => ⟨fun c => (h c).2, sem_eq_zero_of_no_sems rfl r.2⟩) (Cert.GateFwdRefIdeal.Value.run m ρ)

/-- The kernel's result is the reference's. -/
theorem algebraic : Cert.algebraic_GateFwdIdeal_GateFwdRefIdeal := by
  pair_intro
  · run_from Cert.GateFwdIdeal.Value.run_blocks m g
  · run_from Cert.GateFwdRefIdeal.Value.run m' g'
    refine (Cert.GateFwdRefIdeal.Read.val_main_v9_eq (F := Ideal) _ _).trans ?_
    exact same m c

end Cert.GateFwdClaim
-- ==== Proof.FoxBlock.lean ====
/- One head of the forget-gate attention's backward pass, one block of 256 queries at a time: the block of probabilities
   (keys down, queries across), the gradient of the scores, and what the block adds to the gradients of the queries, keys,
   values and of the decay. All at any number `n` of keys and any first query `o`. -/
module

public import proofs.«01_k».proof.Proof.Gen.FoxIdeal.Value
public import Idealize.ShloMosaic.Lib.Pipeline.ValueKit
public import Idealize.ShloMosaic.Lib.Pipeline.ReadBack
public import Idealize.ShloMosaic.Lib.MatmulPlain

@[expose] public section
set_option maxRecDepth 16384
noncomputable section
open Idealize.ShloMosaic Idealize.ShloMosaic.TcCoe Idealize.SL.Sem
open scoped BigOperators
namespace Cert.FoxIdeal.Hand
open Cert.FoxIdeal Cert.FoxIdeal.Gen

/-- What one head's backward pass reads, by natural indices: normalised queries and keys, values, the output's cotangent,
    the decay at a key and at a query, the row's log-sum. -/
structure Head where
  q : ℕ → ℕ → EReal
  k : ℕ → ℕ → EReal
  v : ℕ → ℕ → EReal
  d : ℕ → ℕ → EReal
  ck : ℕ → EReal
  cq : ℕ → EReal
  ls : ℕ → EReal

namespace Head
variable (H : Head)
/-- The probability query `r` gives key `k`. -/
def prob (r k : ℕ) : EReal :=
  Ideal.exp ((if k ≤ r then ((∑ j : Fin 64, H.k k j * H.q r j) + H.cq r - H.ck k : EReal) else ⊥) - H.ls r)
/-- The cotangent of that probability. -/
def dp (r k : ℕ) : EReal := ∑ j : Fin 64, H.v k j * H.d r j
/-- The cotangent of the score, with `n` keys in the row. -/
def ds (n r k : ℕ) : EReal := H.prob r k * (H.dp r k - ∑ x : Fin n, H.prob r x * H.dp r x)
/-- What the 256 queries from `o` on add to the keys' gradient, to the values' and, lane by lane, to the decay's. -/
def dkC (n o k j : ℕ) : EReal := ∑ q : Fin 256, H.ds n (o + q) k * H.q (o + q) j
def dvC (o k j : ℕ) : EReal := ∑ q : Fin 256, H.prob (o + q) k * H.d (o + q) j
def dcC (n o k l : ℕ) : EReal := H.ds n (o + l) k + H.ds n (o + (128 + l)) k
/-- The gradient of a query. -/
def dqC (n r j : ℕ) : EReal := ∑ k : Fin n, H.k k j * H.ds n r k
end Head

/-- The vectors of a head hold what `H` says. -/
structure Reads (H : Head) (v40 v41 v45 v47 : FVec Ideal S2048x64 .bf16) (v58 : FVec Ideal S2048x1 .f32)
    (v60 v62 : FVec Ideal S1x2048 .f32) : Prop where
  q : ∀ r j, v40 (ix2 r j) = H.q r.val j.val
  k : ∀ r j, v41 (ix2 r j) = H.k r.val j.val
  v : ∀ r j, v45 (ix2 r j) = H.v r.val j.val
  d : ∀ r j, v47 (ix2 r j) = H.d r.val j.val
  ck : ∀ r j, v58 (ix2 r j) = H.ck r.val
  cq : ∀ i r, v60 (ix2 i r) = H.cq r.val
  ls : ∀ i r, v62 (ix2 i r) = H.ls r.val

/-- The shape facts of a block of 256 queries from `o` on against `n` keys. -/
structure BlockShape (n o : ℕ) : Prop where
  rows : S2048x64.Slices ![o, 0] S256x64
  lanes : S1x2048.Slices ![0, o] S1x256
  across : S1x256.Broadcasts ⟨2, ![n, 256]⟩
  down : Shape.Broadcasts ⟨2, ![n, 1]⟩ ⟨2, ![n, 256]⟩
  iota0 : (⟨2, ![n, 256]⟩ : Shape).Iotas .tc 32 [0]
  iota1 : (⟨2, ![n, 256]⟩ : Shape).Iotas .tc 32 [1]
  sum0 : Shape.Reduces ⟨2, ![n, 256]⟩ [0] S256
  le : n ≤ 2048
  fit : o + 256 ≤ 2048

/-- The first `n` keys, values and decays. -/
structure Cut (H : Head) (n : ℕ) (kx vx : FVec Ideal ⟨2, ![n, 64]⟩ .bf16) (cx : FVec Ideal ⟨2, ![n, 1]⟩ .f32) : Prop where
  k : ∀ r j, kx (ix2 r j) = H.k r.val j.val
  v : ∀ r j, vx (ix2 r j) = H.v r.val j.val
  c : ∀ r j, cx (ix2 r j) = H.ck r.val

/-- A block of rows of a matrix. -/
def rowsAt {o : ℕ} (hs : S2048x64.Slices ![o, 0] S256x64) (x : FVec Ideal S2048x64 .bf16) : FVec Ideal S256x64 .bf16 :=
  extractStridedSlice S256x64 ![o, 0] x hs

/-- The scores of a block, masked above the diagonal. -/
def scoreBlk {n o : ℕ} (hs : BlockShape n o) (v40 : FVec Ideal S2048x64 .bf16) (kx : FVec Ideal ⟨2, ![n, 64]⟩ .bf16) (cx : FVec Ideal ⟨2, ![n, 1]⟩ .f32)
    (v60 : FVec Ideal S1x2048 .f32) : FVec Ideal ⟨2, ![n, 256]⟩ .f32 :=
  select
    (cmpi .sle (iota .tc ⟨2, ![n, 256]⟩ 32 [0] hs.iota0)
      (addi (iota .tc ⟨2, ![n, 256]⟩ 32 [1] hs.iota1) (broadcast ⟨2, ![n, 256]⟩ (BitVec.ofNat 32 o))))
    (subf
      (addf
        (matmul (DotDims.transposedRhs n 64 256) none kx
          (rowsAt hs.rows v40) (constant ⟨2, ![n, 256]⟩ .f32 0x00000000#32))
        (broadcastTo ⟨2, ![n, 256]⟩ (extractStridedSlice S1x256 ![0, o] v60 hs.lanes) hs.across))
      (broadcastTo ⟨2, ![n, 256]⟩ cx hs.down))
    (broadcast ⟨2, ![n, 256]⟩ (Named.named (F := Ideal) κ "mask" 0xF149F2CA#32 : Ideal .f32))

/-- The probabilities of a block. -/
def probBlk {n o : ℕ} (hs : BlockShape n o) (v40 : FVec Ideal S2048x64 .bf16) (kx : FVec Ideal ⟨2, ![n, 64]⟩ .bf16) (cx : FVec Ideal ⟨2, ![n, 1]⟩ .f32)
    (v60 v62 : FVec Ideal S1x2048 .f32) : FVec Ideal ⟨2, ![n, 256]⟩ .f32 :=
  exp (subf (scoreBlk hs v40 kx cx v60)
    (broadcastTo ⟨2, ![n, 256]⟩ (extractStridedSlice S1x256 ![0, o] v62 hs.lanes) hs.across))

/-- The cotangents of a block's probabilities. -/
def dpBlk {n o : ℕ} (hs : BlockShape n o) (vx : FVec Ideal ⟨2, ![n, 64]⟩ .bf16) (v47 : FVec Ideal S2048x64 .bf16) : FVec Ideal ⟨2, ![n, 256]⟩ .f32 :=
  matmul (DotDims.transposedRhs n 64 256) none vx
    (rowsAt hs.rows v47) (constant ⟨2, ![n, 256]⟩ .f32 0x00000000#32)

/-- The gradient of the scores from a block's probabilities and their cotangents. -/
def backBlk {n o : ℕ} (hs : BlockShape n o) (p dp : FVec Ideal ⟨2, ![n, 256]⟩ .f32) : FVec Ideal ⟨2, ![n, 256]⟩ .f32 :=
  mulf p (subf dp (broadcastTo ⟨2, ![n, 256]⟩
    (shapeCast S1x256 (multiReduction .add [0] S256 (mulf p dp) 0x00000000#32 hs.sum0 (.inl rfl) rfl) shapeCasts_S256_S1x256)
    hs.across))

/-- The gradient of a block's scores. -/
def dsBlk {n o : ℕ} (hs : BlockShape n o) (v40 : FVec Ideal S2048x64 .bf16) (kx vx : FVec Ideal ⟨2, ![n, 64]⟩ .bf16) (v47 : FVec Ideal S2048x64 .bf16)
    (cx : FVec Ideal ⟨2, ![n, 1]⟩ .f32)
    (v60 v62 : FVec Ideal S1x2048 .f32) : FVec Ideal ⟨2, ![n, 256]⟩ .f32 :=
  backBlk hs (probBlk hs v40 kx cx v60 v62) (dpBlk hs vx v47)

/-- What a block adds to the values' gradient. -/
def mulRows {n : ℕ} (x : FVec Ideal ⟨2, ![n, 256]⟩ .bf16) (y : FVec Ideal S256x64 .bf16) : FVec Ideal ⟨2, ![n, 64]⟩ .f32 :=
  matmul (DotDims.plain n 256 64) none x y (constant ⟨2, ![n, 64]⟩ .f32 0x00000000#32)

/-- The block's gradient of its queries. -/
def dqBlk {n : ℕ} (kt : FVec Ideal ⟨2, ![64, n]⟩ .bf16)
    (ds : FVec Ideal ⟨2, ![n, 256]⟩ .bf16) : FVec Ideal S256x64 .f32 :=
  transpose S256x64 [1, 0]
    (matmul (DotDims.plain 64 n 256) none kt ds
      (constant S64x256 .f32 0x00000000#32)) transposes_S64x256_p1_0_S256x64

/-- A block's two halves of 128 lanes, added. -/
def foldBlk {n : ℕ} (h0 : Shape.Slices ⟨2, ![n, 256]⟩ ![0, 0] ⟨2, ![n, 128]⟩)
    (h1 : Shape.Slices ⟨2, ![n, 256]⟩ ![0, 128] ⟨2, ![n, 128]⟩) (ds : FVec Ideal ⟨2, ![n, 256]⟩ .f32) :
    FVec Ideal ⟨2, ![n, 128]⟩ .f32 :=
  addf (extractStridedSlice ⟨2, ![n, 128]⟩ ![0, 0] ds h0) (extractStridedSlice ⟨2, ![n, 128]⟩ ![0, 128] ds h1)

theorem mask_bot : (Named.named (F := Ideal) κ "mask" 0xF149F2CA#32 : Ideal .f32) = (⊥ : EReal) := rfl

section At
variable {n o : ℕ} (hs : BlockShape n o) {H : Head} {v40 v41 v45 v47 : FVec Ideal S2048x64 .bf16}
  {v58 : FVec Ideal S2048x1 .f32} {v60 v62 : FVec Ideal S1x2048 .f32} (hR : Reads H v40 v41 v45 v47 v58 v60 v62)
  {kx vx : FVec Ideal ⟨2, ![n, 64]⟩ .bf16} {cx : FVec Ideal ⟨2, ![n, 1]⟩ .f32} (hC : Cut H n kx vx cx)

/-- The first rows of the keys, values and decays. -/
theorem cut (h1 : S2048x64.Slices ![0, 0] ⟨2, ![n, 64]⟩) (h2 : S2048x1.Slices ![0, 0] ⟨2, ![n, 1]⟩) (hn : n ≤ 2048)
    (hR : Reads H v40 v41 v45 v47 v58 v60 v62) :
    Cut H n (extractStridedSlice ⟨2, ![n, 64]⟩ ![0, 0] v41 h1) (extractStridedSlice ⟨2, ![n, 64]⟩ ![0, 0] v45 h1)
      (extractStridedSlice ⟨2, ![n, 1]⟩ ![0, 0] v58 h2) where
  k r j := by
    refine Eq.trans ?_ (hR.k ⟨r.val, by omega⟩ j)
    pointwise []
  v r j := by
    refine Eq.trans ?_ (hR.v ⟨r.val, by omega⟩ j)
    pointwise []
  c r j := by
    refine Eq.trans ?_ (hR.ck ⟨r.val, by omega⟩ 0)
    obtain rfl : j = 0 := Subsingleton.elim _ _
    pointwise []
theorem cut_whole (hR : Reads H v40 v41 v45 v47 v58 v60 v62) : Cut H 2048 v41 v45 v58 := ⟨hR.k, hR.v, hR.ck⟩

theorem rows_at (x : FVec Ideal S2048x64 .bf16) (f : ℕ → ℕ → EReal) (hx : ∀ r j, x (ix2 r j) = f r.val j.val) (q : Fin 256)
    (j : Fin 64) : rowsAt hs.rows x (ix2 q j) = f (o + q) j := by
  have := hs.fit
  rw [← hx ⟨o + q.val, by omega⟩ j]
  unfold rowsAt
  pointwise []

/-- A block of keys against a block of queries. -/
theorem dot_at (x : FVec Ideal ⟨2, ![n, 64]⟩ .bf16) (y : FVec Ideal S2048x64 .bf16) (f g : ℕ → ℕ → EReal) (hx : ∀ r j, x (ix2 r j) = f r.val j.val)
    (hy : ∀ r j, y (ix2 r j) = g r.val j.val) (k : Fin n) (q : Fin 256) :
    (matmul (DotDims.transposedRhs n 64 256) none x
      (rowsAt hs.rows y) (constant (F := Ideal) ⟨2, ![n, 256]⟩ .f32 0x00000000#32) : FVec Ideal ⟨2, ![n, 256]⟩ .f32) (ix2 k q)
      = ∑ j : Fin 64, f k j * g (o + q) j := by
  have h2 := hs.le
  refine (Ideal.matmul_transposedRhs_apply (φ₁ := .bf16) (φ₂ := .bf16) none _ _ _ k q).trans ?_
  refine (congrArg₂ (· + ·) (by pointwise []) (Finset.sum_congr rfl fun j _ => congrArg₂ (· * ·) ?_
    (rows_at hs y g hy q j))).trans (zero_add _)
  exact hx k j

include hC
theorem col_at (k : Fin n) (q : Fin 256) :
    (broadcastTo ⟨2, ![n, 256]⟩ cx hs.down : FVec Ideal ⟨2, ![n, 256]⟩ .f32)
      (ix2 k q) = H.ck k := by
  have h2 := hs.le
  pointwise []
  refine (congrArg cx (?_ : _ = ix2 k 0)).trans (hC.c k 0)
  funext a
  refine Fin.ext ?_
  by_cases hn : n = 1
  · subst hn
    obtain rfl : k = 0 := Subsingleton.elim _ _
    fin_cases a <;> simp [Shape.Idx.norm]
  · fin_cases a <;> simp [Shape.Idx.norm, hn]

include hR
theorem score_at (k : Fin n) (q : Fin 256) : scoreBlk hs v40 kx cx v60 (ix2 k q)
    = (if k.val ≤ o + q.val then ((∑ j : Fin 64, H.k k j * H.q (o + q) j) + H.cq (o + q) - H.ck k : EReal) else ⊥) := by
  have h1 := hs.fit
  have h2 := hs.le
  have e := dot_at hs kx v40 H.k H.q hC.k hR.q k q
  unfold scoreBlk
  generalize (matmul (DotDims.transposedRhs n 64 256) none kx
    (rowsAt hs.rows v40) (constant (F := Ideal) ⟨2, ![n, 256]⟩ .f32 0x00000000#32) : FVec Ideal ⟨2, ![n, 256]⟩ .f32) = M at e ⊢
  have ec := col_at hs hC k q
  generalize (broadcastTo ⟨2, ![n, 256]⟩ cx hs.down :
    FVec Ideal ⟨2, ![n, 256]⟩ .f32) = C at ec ⊢
  pointwise []
  rw [e, ec, hR.cq, mask_bot]
  have hw : IntOp.addi (BitVec.ofNat 32 q.val) (BitVec.ofNat 32 o) = BitVec.ofNat 32 (o + q.val) := by
    rw [Nat.add_comm o]; exact (BitVec.ofNat_add ..).symm
  rw [hw, WordCmp.cmpi_sle_ofNat (by omega) (by omega)]
  by_cases hk : k.val ≤ o + q.val <;> simp [Scalar.select, hk]

theorem prob_at (k : Fin n) (q : Fin 256) : probBlk hs v40 kx cx v60 v62 (ix2 k q) = H.prob (o + q) k := by
  have h1 := hs.fit
  unfold probBlk Head.prob
  rw [← score_at hs hR hC k q]
  generalize scoreBlk hs v40 kx cx v60 = M
  pointwise []
  rw [hR.ls]

theorem dp_at (k : Fin n) (q : Fin 256) : dpBlk hs vx v47 (ix2 k q) = H.dp (o + q) k :=
  dot_at hs vx v47 H.v H.d hC.v hR.d k q

omit hR hC in
theorem back_at (p dp : FVec Ideal ⟨2, ![n, 256]⟩ .f32) (k : Fin n) (q : Fin 256) : backBlk hs p dp (ix2 k q)
    = (p (ix2 k q) : EReal) * (dp (ix2 k q) - ∑ x : Fin n, p (ix2 x q) * dp (ix2 x q)) := by
  unfold backBlk
  pointwise []

theorem ds_at (k : Fin n) (q : Fin 256) : dsBlk hs v40 kx vx v47 cx v60 v62 (ix2 k q) = H.ds n (o + q) k := by
  unfold dsBlk Head.ds
  rw [back_at]
  simp only [prob_at hs hR hC, dp_at hs hR hC]

/-- The block's part of the keys' gradient. -/
theorem dk_at (k : Fin n) (j : Fin 64) :
    mulRows (truncf .bf16 (dsBlk hs v40 kx vx v47 cx v60 v62) bitsLt_bf16_f32) (rowsAt hs.rows v40) (ix2 k j)
      = H.dkC n o k j := by
  unfold mulRows Head.dkC
  refine (Ideal.matmul_plain_apply (φ₁ := .bf16) (φ₂ := .bf16) none _ _ _ k j).trans ?_
  refine (congrArg₂ (· + ·) (by pointwise []) (Finset.sum_congr rfl fun q _ => congrArg₂ (· * ·) (ds_at hs hR hC k q)
    (rows_at hs v40 H.q hR.q q j))).trans (zero_add _)

/-- The block's part of the values' gradient. -/
theorem dv_at (k : Fin n) (j : Fin 64) :
    mulRows (truncf .bf16 (probBlk hs v40 kx cx v60 v62) bitsLt_bf16_f32) (rowsAt hs.rows v47) (ix2 k j)
      = H.dvC o k j := by
  unfold mulRows Head.dvC
  refine (Ideal.matmul_plain_apply (φ₁ := .bf16) (φ₂ := .bf16) none _ _ _ k j).trans ?_
  refine (congrArg₂ (· + ·) (by pointwise []) (Finset.sum_congr rfl fun q _ => congrArg₂ (· * ·) (prob_at hs hR hC k q)
    (rows_at hs v47 H.d hR.d q j))).trans (zero_add _)

/-- The block's queries' gradient. -/
theorem dq_at (kt : FVec Ideal ⟨2, ![64, n]⟩ .bf16) (hkt : ∀ j k, kt (ix2 j k) = H.k k.val j.val) (q : Fin 256) (j : Fin 64) :
    dqBlk kt (truncf .bf16 (dsBlk hs v40 kx vx v47 cx v60 v62) bitsLt_bf16_f32) (ix2 q j)
      = H.dqC n (o + q) j := by
  unfold Head.dqC
  have h2 := hs.le
  have tr : ∀ M : FVec Ideal S64x256 .f32,
      (transpose S256x64 [1, 0] M transposes_S64x256_p1_0_S256x64 : FVec Ideal S256x64 .f32) (ix2 q j) = M (ix2 j q) := by
    intro M
    pointwise []
  unfold dqBlk
  refine (tr _).trans ((Ideal.matmul_plain_apply (φ₁ := .bf16) (φ₂ := .bf16) none _ _ _ j q).trans ?_)
  refine (congrArg₂ (· + ·) (by pointwise []) (Finset.sum_congr rfl fun k _ => congrArg₂ (· * ·) ?_ (ds_at hs hR hC k q))).trans
    (zero_add _)
  exact hkt j k

omit hR hC in
/-- The first columns of the keys, turned. -/
theorem cut_across (hk : S64x2048.Slices ![0, 0] ⟨2, ![64, n]⟩) (hn : n ≤ 2048) (v43 : FVec Ideal S64x2048 .bf16)
    (h43 : ∀ j k, v43 (ix2 j k) = H.k k.val j.val) (j k) :
    (extractStridedSlice ⟨2, ![64, n]⟩ ![0, 0] v43 hk : FVec Ideal ⟨2, ![64, n]⟩ .bf16) (ix2 j k) = H.k k.val j.val := by
  refine Eq.trans ?_ (h43 j ⟨k.val, by omega⟩)
  pointwise []
/-- The block's part of the decay's gradient, by lane. -/
theorem dc_at (h0 h1) (k : Fin n) (l : Fin 128) :
    foldBlk h0 h1 (dsBlk hs v40 kx vx v47 cx v60 v62) (ix2 k l) = H.dcC n o k l := by
  unfold Head.dcC
  have e := fun q => ds_at hs hR hC k q
  unfold foldBlk
  generalize dsBlk hs v40 kx vx v47 cx v60 v62 = M at e ⊢
  refine (congrArg₂ (· + ·) (?_ : _ = M (ix2 k ⟨l.val, by omega⟩)) (?_ : _ = M (ix2 k ⟨128 + l.val, by omega⟩))).trans
    (by rw [e, e])
  all_goals
    pointwise []
    refine congrArg M ?_
    funext a
    refine Fin.ext ?_
    fin_cases a <;> simp [Shape.Idx.norm]
end At
end Cert.FoxIdeal.Hand
-- ==== Proof.FoxAcc.lean ====
/- The accumulators of one head: each block of queries adds to the first rows of an array that starts at zero. -/
module

public import proofs.«01_k».proof.Proof.FoxBlock

@[expose] public section
set_option maxRecDepth 16384
noncomputable section
open Idealize.ShloMosaic Idealize.ShloMosaic.TcCoe Idealize.SL.Sem
open scoped BigOperators
namespace Cert.FoxIdeal.Hand
open Cert.FoxIdeal Cert.FoxIdeal.Gen

/-! The shape facts of the eight blocks. -/
theorem shape0 : BlockShape 256 0 :=
  ⟨slices_S2048x64_o0_0_S256x64, slices_S1x2048_o0_0_S1x256, broadcasts_S1x256_S256x256,
    broadcasts_S256x1_S256x256, iota_S256x256_d0_w32, iota_S256x256_d1_w32, reduces_S256x256_S256,
    by decide, by decide⟩
theorem shape1 : BlockShape 512 256 :=
  ⟨slices_S2048x64_o256_0_S256x64, slices_S1x2048_o0_256_S1x256, broadcasts_S1x256_S512x256,
    broadcasts_S512x1_S512x256, iota_S512x256_d0_w32, iota_S512x256_d1_w32, reduces_S512x256_S256,
    by decide, by decide⟩
theorem shape2 : BlockShape 768 512 :=
  ⟨slices_S2048x64_o512_0_S256x64, slices_S1x2048_o0_512_S1x256, broadcasts_S1x256_S768x256,
    broadcasts_S768x1_S768x256, iota_S768x256_d0_w32, iota_S768x256_d1_w32, reduces_S768x256_S256,
    by decide, by decide⟩
theorem shape3 : BlockShape 1024 768 :=
  ⟨slices_S2048x64_o768_0_S256x64, slices_S1x2048_o0_768_S1x256, broadcasts_S1x256_S1024x256,
    broadcasts_S1024x1_S1024x256, iota_S1024x256_d0_w32, iota_S1024x256_d1_w32, reduces_S1024x256_S256,
    by decide, by decide⟩
theorem shape4 : BlockShape 1280 1024 :=
  ⟨slices_S2048x64_o1024_0_S256x64, slices_S1x2048_o0_1024_S1x256, broadcasts_S1x256_S1280x256,
    broadcasts_S1280x1_S1280x256, iota_S1280x256_d0_w32, iota_S1280x256_d1_w32, reduces_S1280x256_S256,
    by decide, by decide⟩
theorem shape5 : BlockShape 1536 1280 :=
  ⟨slices_S2048x64_o1280_0_S256x64, slices_S1x2048_o0_1280_S1x256, broadcasts_S1x256_S1536x256,
    broadcasts_S1536x1_S1536x256, iota_S1536x256_d0_w32, iota_S1536x256_d1_w32, reduces_S1536x256_S256,
    by decide, by decide⟩
theorem shape6 : BlockShape 1792 1536 :=
  ⟨slices_S2048x64_o1536_0_S256x64, slices_S1x2048_o0_1536_S1x256, broadcasts_S1x256_S1792x256,
    broadcasts_S1792x1_S1792x256, iota_S1792x256_d0_w32, iota_S1792x256_d1_w32, reduces_S1792x256_S256,
    by decide, by decide⟩
theorem shape7 : BlockShape 2048 1792 :=
  ⟨slices_S2048x64_o1792_0_S256x64, slices_S1x2048_o0_1792_S1x256, broadcasts_S1x256_S2048x256,
    broadcasts_S2048x1_S2048x256, iota_S2048x256_d0_w32, iota_S2048x256_d1_w32, reduces_S2048x256_S256,
    by decide, by decide⟩

/-- An array to whose first `n` rows `C` is added. -/
def addTo (A : ℕ → ℕ → EReal) (n : ℕ) (C : ℕ → ℕ → EReal) (k j : ℕ) : EReal := A k j + (if k < n then C k j else 0)

/-- An array of zeros. -/
def zeroAt (k j : ℕ) : EReal := 0

/-- The first `n` rows of an array of 2048 rows. -/
abbrev firstRows (n d : ℕ) (inb : ∀ a, (![0, 0] : Fin 2 → ℕ) a + (![n, d] : Fin 2 → ℕ) a ≤ (![2048, d] : Fin 2 → ℕ) a) :
    Rect (⟨2, ![2048, d]⟩ : Shape) := Rect.unit (s := ⟨2, ![2048, d]⟩) ![0, 0] ![n, d] inb

theorem emb_rows {n d : ℕ} (inb) (k : Fin 2048) (hk : k.val < n) (j : Fin d) :
    (firstRows n d inb).emb (ix2 ⟨k.val, hk⟩ j) = (ix2 k j : (⟨2, ![2048, d]⟩ : Shape).Idx) := by
  funext a
  refine Fin.ext ?_
  fin_cases a <;> simp [Rect.emb, Rect.unit]

/-- A load of the first `n` rows. -/
theorem old_read {n d : ℕ} (v : View sig .tc .vmem ⟨2, ![2048, d]⟩ .f32) (inb)
    (L : List (View.Piece (Elt Ideal) ⟨2, ![2048, d]⟩ .f32)) (k : Fin 2048) (hk : k.val < n) (j : Fin d) :
    v.readCov L (firstRows n d inb).toLoadRect (ix2 ⟨k.val, hk⟩ j) = View.canon L (ix2 k j) := by
  rw [View.readCov_eq_canon']
  exact congrArg (View.canon L) (emb_rows inb k hk j)

/-- One block's addition to the first `n` rows. -/
theorem acc_step {n d : ℕ} (inb) (old C' : FVec Ideal ⟨2, ![n, d]⟩ .f32) (sc : (⟨2, ![n, d]⟩ : Shape).ShapeCasts ⟨2, ![n, d]⟩)
    (L : List (View.Piece (Elt Ideal) ⟨2, ![2048, d]⟩ .f32)) (A C : ℕ → ℕ → EReal)
    (hold : ∀ (k : Fin 2048) (hk : k.val < n) (j : Fin d), old (ix2 ⟨k.val, hk⟩ j) = View.canon L (ix2 k j))
    (hA : ∀ k j, View.canon L (ix2 k j) = A k.val j.val) (hC : ∀ k j, C' (ix2 k j) = C k.val j.val) (k : Fin 2048) (j : Fin d) :
    View.canon (@List.cons (View.Piece (Elt Ideal) ⟨2, ![2048, d]⟩ .f32) ⟨firstRows n d inb, shapeCast ⟨2, ![n, d]⟩ (addf old C') sc⟩ L)
      (ix2 k j) = addTo A n C k j := by
  unfold addTo
  by_cases hk : k.val < n
  · rw [if_pos hk, shapeCast_self, ← emb_rows inb k hk j]
    refine (View.canon_cons_emb _ _ _ _).trans ?_
    refine (congrArg₂ (· + ·) ((hold k hk j).trans (hA k j)) (hC ⟨k.val, hk⟩ j) : _)
  · rw [if_neg hk, add_zero, View.canon_cons_of_not_mem, hA]
    intro hm
    have h0 := ((LoadRect.mem_set (r := (firstRows n d inb).toLoadRect)).mp hm) 0
    obtain ⟨x, hx, e⟩ := h0
    replace hx : x < n := hx
    replace e : k.val = 0 + 1 * x := e
    omega

/-- Before the first block the array is zero. -/
theorem acc_zero {d : ℕ} (inb) (w : FVec Ideal ⟨2, ![2048, d]⟩ .f32) (hw : ∀ k j, w (ix2 k j) = (0 : EReal))
    (L : List (View.Piece (Elt Ideal) ⟨2, ![2048, d]⟩ .f32)) (k : Fin 2048) (j : Fin d) :
    View.canon (@List.cons (View.Piece (Elt Ideal) ⟨2, ![2048, d]⟩ .f32) ⟨firstRows 2048 d inb, w⟩ L) (ix2 k j) = zeroAt k j := by
  rw [← emb_rows inb k k.isLt j]
  refine (View.canon_cons_emb _ _ _ _).trans ?_
  exact hw k j

/-- The last block's addition, to the whole array. -/
theorem acc_last {d : ℕ} (old C' : FVec Ideal ⟨2, ![2048, d]⟩ .f32) (sc : (⟨2, ![2048, d]⟩ : Shape).ShapeCasts ⟨2, ![2048, d]⟩)
    (L : List (View.Piece (Elt Ideal) ⟨2, ![2048, d]⟩ .f32)) (A C : ℕ → ℕ → EReal)
    (hold : ∀ (k : Fin 2048) (hk : k.val < 2048) (j : Fin d), old (ix2 ⟨k.val, hk⟩ j) = View.canon L (ix2 k j))
    (hA : ∀ k j, View.canon L (ix2 k j) = A k.val j.val) (hC : ∀ k j, C' (ix2 k j) = C k.val j.val) (k : Fin 2048) (j : Fin d) :
    (shapeCast ⟨2, ![2048, d]⟩ (addf old C') sc : FVec Ideal ⟨2, ![2048, d]⟩ .f32) (ix2 k j) = addTo A 2048 C k j := by
  unfold addTo
  rw [if_pos k.isLt, shapeCast_self]
  exact (congrArg₂ (· + ·) ((hold k k.isLt j).trans (hA k j)) (hC k j) : _)

theorem zero_fill (k : Fin 2048) (j : Fin 64) : k0_pay25 (F := Ideal) (ix2 k j) = (0 : EReal) := by pointwise [k0_pay25]

theorem zero_fill_lanes (k : Fin 2048) (j : Fin 128) : k0_pay28 (k0_pay27 (F := Ideal)) (ix2 k j) = (0 : EReal) := by
  pointwise [k0_pay28, k0_pay27]
end Cert.FoxIdeal.Hand
-- ==== Proof.FoxHead.lean ====
/- Around the blocks of one head: the norm of the queries and keys and its gradient, the column of decays, and the blocks'
   query gradients put one below the other. -/
module

public import proofs.«01_k».proof.Proof.FoxAcc

@[expose] public section
set_option maxRecDepth 16384
noncomputable section
open Idealize.ShloMosaic Idealize.ShloMosaic.TcCoe Idealize.SL.Sem
open scoped BigOperators
namespace Cert.FoxIdeal.Hand
open Cert.FoxIdeal Cert.FoxIdeal.Gen

/-- The numbers 64, the norm's small addend, -1/2 and 1/8, as the program writes them. -/
def w64 : EReal := (FloatOps.ofBits .f32 0x42800000#32 : Ideal .f32)
def wEps : EReal := (FloatOps.ofBits .f32 0x358637BD#32 : Ideal .f32)
def wNegHalf : EReal := (FloatOps.ofBits .f32 0xBF000000#32 : Ideal .f32)
def wEighth : EReal := (FloatOps.ofBits .f32 0x3E000000#32 : Ideal .f32)

section Norm
variable (x : ℕ → ℕ → EReal) (g : ℕ → EReal) (dy : ℕ → ℕ → EReal)
/-- A row's mean square, with the small addend. -/
def msq (r : ℕ) : EReal := Ideal.div (∑ j : Fin 64, x r j * x r j) w64 + wEps
/-- One over its root, and the derivative's factor. -/
def rs (r : ℕ) : EReal := Ideal.rsqrt (msq x r)
def hrs (r : ℕ) : EReal := wNegHalf * Ideal.div (rs x r) (msq x r)
/-- The row over its root. -/
def hat (r j : ℕ) : EReal := x r j * rs x r
/-- The gradient of a row from that of its norm. -/
def slope (r : ℕ) : EReal := Ideal.div ((∑ j : Fin 64, x r j * (dy r j * g j)) * hrs x r) w64
def back (r j : ℕ) : EReal := dy r j * g j * rs x r + x r j * slope x g dy r + slope x g dy r * x r j
/-- The gradient of the norm's weight. -/
def weigh (j : ℕ) : EReal := ∑ r : Fin 2048, hat x r j * dy r j
end Norm

section At
variable {v4 dyv : FVec Ideal S2048x64 .f32} {v5 : FVec Ideal S1x64 .f32} {x dy : ℕ → ℕ → EReal} {g : ℕ → EReal}
  (hx : ∀ r j, v4 (ix2 r j) = x r.val j.val) (hg : ∀ i j, v5 (ix2 i j) = g j.val) (hdy : ∀ r j, dyv (ix2 r j) = dy r.val j.val)
include hx

theorem msq_at (r i) : k0_pay6 (F := Ideal) v4 (ix2 r i) = msq x r.val := by
  obtain rfl : i = 0 := Subsingleton.elim _ _
  unfold msq
  simp only [← hx]
  pointwise [k0_pay6]
  rfl
theorem rs_at (r i) : k0_pay7 (F := Ideal) v4 (ix2 r i) = rs x r.val := by
  unfold k0_pay7 rs
  rw [← msq_at hx r i]
  generalize k0_pay6 (F := Ideal) v4 = e
  pointwise []
theorem hrs_at (r i) : k0_pay8 (F := Ideal) v4 (ix2 r i) = hrs x r.val := by
  unfold k0_pay8 hrs
  rw [← msq_at hx r i, ← rs_at hx r i]
  generalize k0_pay6 (F := Ideal) v4 = e
  generalize k0_pay7 (F := Ideal) v4 = e'
  pointwise []
  rfl
theorem hat_at (r j) : k0_pay9 (F := Ideal) v4 (ix2 r j) = hat x r.val j.val := by
  unfold k0_pay9 hat
  rw [← hx, ← rs_at hx r 0]
  generalize k0_pay7 (F := Ideal) v4 = e'
  pointwise []
include hg
theorem key_at (r j) : k0_pay18 (k0_pay14 (F := Ideal) v4) (k0_pay15 v5) (ix2 r j) = hat x r.val j.val * g j.val := by
  rw [← hat_at hx, ← hg 0]
  show k0_pay18 (k0_pay9 (F := Ideal) v4) (k0_pay15 v5) (ix2 r j) = _
  generalize k0_pay9 (F := Ideal) v4 = e'
  pointwise [k0_pay18, k0_pay15, k0_pay16]
theorem key_across (j r) : k0_pay19 (k0_pay14 (F := Ideal) v4) (k0_pay15 v5) (ix2 j r) = hat x r.val j.val * g j.val := by
  rw [← hat_at hx, ← hg 0]
  show k0_pay19 (k0_pay9 (F := Ideal) v4) (k0_pay15 v5) (ix2 j r) = _
  generalize k0_pay9 (F := Ideal) v4 = e'
  pointwise [k0_pay19, k0_pay15, k0_pay16]
theorem query_at (r j) : k0_pay17 (k0_pay10 (F := Ideal) v4 v5) (ix2 r j) = hat x r.val j.val * g j.val * wEighth := by
  rw [← hat_at hx, ← hg 0]
  unfold k0_pay17 k0_pay10
  generalize k0_pay9 (F := Ideal) v4 = e'
  pointwise []
  rfl
omit hx
/-- The norm's gradient, from the norm's two factors. -/
def backVec (v4 : FVec Ideal S2048x64 .f32) (v5 : FVec Ideal S1x64 .f32) (v13 v16 : FVec Ideal S2048x1 .f32)
    (dyv : FVec Ideal S2048x64 .f32) : FVec Ideal S2048x64 .f32 :=
  k0_pay120 v4 (k0_pay118 v5 v13 dyv) (k0_pay119 v4 v5 v16 dyv)

include hx hdy
theorem back_vec (v13 v16 : FVec Ideal S2048x1 .f32) (h13 : ∀ r i, v13 (ix2 r i) = rs x r.val)
    (h16 : ∀ r i, v16 (ix2 r i) = hrs x r.val) (r j) : backVec v4 v5 v13 v16 dyv (ix2 r j) = back x g dy r.val j.val := by
  have e : ∀ i, (shapeCast S2048x1 (multiReduction .add [1] S2048 (divf (k0_pay119 (F := Ideal) v4 v5 v16 dyv)
      (broadcast S2048x1 (Scalar.ofBits (F := Ideal) .f32 0x42800000#32))) 0x00000000#32 reduces_S2048x1_S2048 (.inl rfl) rfl)
        shapeCasts_S2048_S2048x1 : FVec Ideal S2048x1 .f32) (ix2 r i) = slope x g dy r.val := by
    intro i
    obtain rfl : i = 0 := Subsingleton.elim _ _
    unfold slope
    simp only [← hx, ← hdy, ← hg 0, ← h16 r 0]
    pointwise [k0_pay119, k0_pay117]
    simp
    rfl
  unfold backVec k0_pay120 back
  generalize (shapeCast S2048x1 (multiReduction .add [1] S2048 (divf (k0_pay119 (F := Ideal) v4 v5 v16 dyv)
      (broadcast S2048x1 (Scalar.ofBits (F := Ideal) .f32 0x42800000#32))) 0x00000000#32 reduces_S2048x1_S2048 (.inl rfl) rfl)
        shapeCasts_S2048_S2048x1 : FVec Ideal S2048x1 .f32) = M at e ⊢
  simp only [← e 0, ← hx, ← hdy, ← hg 0, ← h13 r 0]
  pointwise [k0_pay118, k0_pay117]
/-- The same, as the two heads' texts spell it for their keys. -/
theorem keyBack0 (r j) : k0_pay120 (F := Ideal) v4 (k0_pay118 v5 (k0_pay12 v4) dyv) (k0_pay119 v4 v5 (k0_pay13 v4) dyv) (ix2 r j)
    = back x g dy r.val j.val := back_vec hx hg hdy _ _ (rs_at hx) (hrs_at hx) r j
theorem keyBack1 (r j) : (addf (k0_pay235 (F := Ideal) v4 v5 (k0_pay129 v4) (k0_pay130 v4) dyv) (k0_pay236 v4 v5 (k0_pay130 v4) dyv) :
    FVec Ideal S2048x64 .f32) (ix2 r j) = back x g dy r.val j.val := back_vec hx hg hdy _ _ (rs_at hx) (hrs_at hx) r j
omit hg
theorem weigh_at (i j) : k0_pay116 (k0_pay14 (F := Ideal) v4) dyv (ix2 i j) = weigh x dy j.val := by
  obtain rfl : i = 0 := Subsingleton.elim _ _
  unfold weigh
  simp only [← hat_at hx, ← hdy]
  show k0_pay116 (k0_pay9 (F := Ideal) v4) dyv (ix2 0 j) = _
  generalize k0_pay9 (F := Ideal) v4 = e'
  pointwise [k0_pay116]
end At

/-- Eight blocks of 256 rows, one below the other, and scaled. -/
theorem stack_at (b0 b1 b2 b3 b4 b5 b6 b7 : FVec Ideal S256x64 .f32) (D : ℕ → ℕ → ℕ → EReal)
    (h0 : ∀ q j, b0 (ix2 q j) = D 256 (0 + q.val) j.val) (h1 : ∀ q j, b1 (ix2 q j) = D 512 (256 + q.val) j.val)
    (h2 : ∀ q j, b2 (ix2 q j) = D 768 (512 + q.val) j.val) (h3 : ∀ q j, b3 (ix2 q j) = D 1024 (768 + q.val) j.val)
    (h4 : ∀ q j, b4 (ix2 q j) = D 1280 (1024 + q.val) j.val) (h5 : ∀ q j, b5 (ix2 q j) = D 1536 (1280 + q.val) j.val)
    (h6 : ∀ q j, b6 (ix2 q j) = D 1792 (1536 + q.val) j.val) (h7 : ∀ q j, b7 (ix2 q j) = D 2048 (1792 + q.val) j.val)
    (r j) : k0_pay113 (F := Ideal) b0 b1 b2 b3 b4 b5 b6 b7 (ix2 r j) = D (256 * (r.val / 256 + 1)) r.val j.val * wEighth := by
  have hb : ∀ (b : FVec Ideal S256x64 .f32) (n o : ℕ) (h : ∀ q j, b (ix2 q j) = D n (o + q.val) j.val) (q : Fin 256)
      (hn : n = 256 * (r.val / 256 + 1)) (hq : r.val = o + q.val),
      b (ix2 q j) = D (256 * (r.val / 256 + 1)) r.val j.val := by
    intro b n o h q hn hq
    rw [h, ← hn, ← hq]
  have hr := r.isLt
  pointwise [k0_pay113]
  refine congrArg₂ (· * ·) ?_ rfl
  by_cases k0 : r.val < 256
  · exact (dif_pos k0).trans (hb _ _ _ h0 _ (by omega) (by dsimp only; omega))
  refine (dif_neg k0).trans ?_
  by_cases k1 : r.val - 256 < 256
  · exact (dif_pos k1).trans (hb _ _ _ h1 _ (by omega) (by dsimp only; omega))
  refine (dif_neg k1).trans ?_
  by_cases k2 : r.val - 256 - 256 < 256
  · exact (dif_pos k2).trans (hb _ _ _ h2 _ (by omega) (by dsimp only; omega))
  refine (dif_neg k2).trans ?_
  by_cases k3 : r.val - 256 - 256 - 256 < 256
  · exact (dif_pos k3).trans (hb _ _ _ h3 _ (by omega) (by dsimp only; omega))
  refine (dif_neg k3).trans ?_
  by_cases k4 : r.val - 256 - 256 - 256 - 256 < 256
  · exact (dif_pos k4).trans (hb _ _ _ h4 _ (by omega) (by dsimp only; omega))
  refine (dif_neg k4).trans ?_
  by_cases k5 : r.val - 256 - 256 - 256 - 256 - 256 < 256
  · exact (dif_pos k5).trans (hb _ _ _ h5 _ (by omega) (by dsimp only; omega))
  refine (dif_neg k5).trans ?_
  by_cases k6 : r.val - 256 - 256 - 256 - 256 - 256 - 256 < 256
  · exact (dif_pos k6).trans (hb _ _ _ h6 _ (by omega) (by dsimp only; omega))
  refine (dif_neg k6).trans ?_
  exact hb _ _ _ h7 _ (by omega) (by dsimp only; omega)

/-- The gradient of the queries, as the two heads' texts spell it. -/
theorem queryBack0 {v4 : FVec Ideal S2048x64 .f32} {v5 : FVec Ideal S1x64 .f32} {x dy : ℕ → ℕ → EReal} {g : ℕ → EReal}
    (hx : ∀ r j, v4 (ix2 r j) = x r.val j.val) (hg : ∀ i j, v5 (ix2 i j) = g j.val)
    {b0 b1 b2 b3 b4 b5 b6 b7 : FVec Ideal S256x64 .f32}
    (hdy : ∀ r j, k0_pay113 (F := Ideal) b0 b1 b2 b3 b4 b5 b6 b7 (ix2 r j) = dy r.val j.val) (r j) :
    k0_pay115 (F := Ideal) v4 v5 (k0_pay7 v4) (k0_pay8 v4) b0 b1 b2 b3 b4 b5 b6 b7 (ix2 r j) = back x g dy r.val j.val :=
  back_vec hx hg hdy _ _ (rs_at hx) (hrs_at hx) r j
theorem queryBack1 {v4 : FVec Ideal S2048x64 .f32} {v5 : FVec Ideal S1x64 .f32} {x dy : ℕ → ℕ → EReal} {g : ℕ → EReal}
    (hx : ∀ r j, v4 (ix2 r j) = x r.val j.val) (hg : ∀ i j, v5 (ix2 i j) = g j.val)
    {b0 b1 b2 b3 b4 b5 b6 b7 : FVec Ideal S256x64 .f32}
    (hdy : ∀ r j, k0_pay113 (F := Ideal) b0 b1 b2 b3 b4 b5 b6 b7 (ix2 r j) = dy r.val j.val) (r j) :
    k0_pay231 (F := Ideal) v4 v5 (k0_pay125 v4) (k0_pay126 v4) b0 b1 b2 b3 b4 b5 b6 b7 (ix2 r j) = back x g dy r.val j.val :=
  back_vec hx hg hdy _ _ (rs_at hx) (hrs_at hx) r j

section Lanes
/-- Is lane `l` the head's lane at point `t`? -/
theorem lane_eq (t l b : ℕ) (ht : t < 8) (hl : l < 128) (hb : b < 2) :
    IntOp.cmpi .eq (BitVec.ofNat 32 l) (Scalar.addi (Scalar.muli 2#32 (BitVec.ofNat 32 t)) (BitVec.ofNat 32 b)) = if l = 2 * t + b then 1#1 else 0#1 := by
  have hw : Scalar.addi (Scalar.muli 2#32 (BitVec.ofNat 32 t)) (BitVec.ofNat 32 b) = BitVec.ofNat 32 (2 * t + b) := by
    apply BitVec.eq_of_toNat_eq
    simp [Scalar.addi, Scalar.muli, IntOp.addi, IntOp.muli]
  rw [hw]
  have e : (BitVec.ofNat 32 l = BitVec.ofNat 32 (2 * t + b)) ↔ l = 2 * t + b := by
    constructor
    · intro h
      have := congrArg BitVec.toNat h
      simp only [BitVec.toNat_ofNat] at this
      omega
    · rintro rfl; rfl
  by_cases h : l = 2 * t + b
  · simp [IntOp.cmpi, h]
  · rw [if_neg h]
    exact congrArg BitVec.ofBool (beq_eq_false_iff_ne.mpr fun h' => h (e.mp h'))

/-- The head's lane, picked out of a row of 128. -/
theorem pick0_at (t : Fin 8) (v48 : FVec Ideal S2048x128 .f32) (r i) :
    k0_pay22 (F := Ideal) (BitVec.ofNat 32 t.val) v48 (ix2 r i) = v48 (ix2 r ⟨2 * t.val + 0, by omega⟩) := by
  obtain rfl : i = 0 := Subsingleton.elim _ _
  pointwise [k0_pay22]
  have e : ∀ x : Fin 128, Scalar.select
      (IntOp.cmpi .eq (BitVec.ofNat 32 x.val) (Scalar.addi (Scalar.muli 2#32 (BitVec.ofNat 32 t.val)) 0#32))
      (v48 (ix2 r x)) (0 : EReal) = if x = ⟨2 * t.val + 0, by omega⟩ then (v48 (ix2 r x) : EReal) else 0 := by
    intro x
    rw [lane_eq t.val x.val 0 t.isLt x.isLt (by omega)]
    by_cases h : x.val = 2 * t.val + 0
    · rw [if_pos h, if_pos (Fin.ext h)]; rfl
    · rw [if_neg h, if_neg (fun h' => h (congrArg Fin.val h'))]; rfl
  exact (Finset.sum_congr rfl fun x _ => e x).trans (by rw [Finset.sum_ite_eq' Finset.univ]; simp)
theorem pick1_at (t : Fin 8) (v48 : FVec Ideal S2048x128 .f32) (r i) :
    k0_pay138 (F := Ideal) (BitVec.ofNat 32 t.val) v48 (ix2 r i) = v48 (ix2 r ⟨2 * t.val + 1, by omega⟩) := by
  obtain rfl : i = 0 := Subsingleton.elim _ _
  pointwise [k0_pay138]
  have e : ∀ x : Fin 128, Scalar.select
      (IntOp.cmpi .eq (BitVec.ofNat 32 x.val) (Scalar.addi (Scalar.muli 2#32 (BitVec.ofNat 32 t.val)) 1#32))
      (v48 (ix2 r x)) (0 : EReal) = if x = ⟨2 * t.val + 1, by omega⟩ then (v48 (ix2 r x) : EReal) else 0 := by
    intro x
    rw [lane_eq t.val x.val 1 t.isLt x.isLt (by omega)]
    by_cases h : x.val = 2 * t.val + 1
    · rw [if_pos h, if_pos (Fin.ext h)]; rfl
    · rw [if_neg h, if_neg (fun h' => h (congrArg Fin.val h'))]; rfl
  exact (Finset.sum_congr rfl fun x _ => e x).trans (by rw [Finset.sum_ite_eq' Finset.univ]; simp)

theorem row_at (v : FVec Ideal S1x1x2048 .f32) (i r) : k0_pay23 (F := Ideal) v (ix2 i r) = v (ix3 0 0 r) := by
  obtain rfl : i = 0 := Subsingleton.elim _ _
  pointwise [k0_pay23]
theorem value_at (v : FVec Ideal S2048x64 .f32) (r j) : k0_pay20 (F := Ideal) v (ix2 r j) = v (ix2 r j) := by
  pointwise [k0_pay20]
theorem cot_at (v : FVec Ideal S2048x64 .bf16) (r j) : k0_pay21 (F := Ideal) v (ix2 r j) = v (ix2 r j) := by
  pointwise [k0_pay21]

/-- The decay's gradient: the head's lane is minus the row's sum, the others stay. -/
theorem put0_at (t : Fin 8) (io) (a old : FVec Ideal S2048x128 .f32) (r l) :
    k0_pay123 (F := Ideal) (BitVec.ofNat 32 t.val) (iota Kind.tc S2048x128 32 [1] io) a old (ix2 r l)
      = (if l.val = 2 * t.val + 0 then (0 - ∑ x : Fin 128, a (ix2 r x) : EReal) else old (ix2 r l)) := by
  pointwise [k0_pay123]
  have e := lane_eq t.val l.val 0 t.isLt l.isLt (by omega)
  by_cases h : l.val = 2 * t.val + 0
  · exact (congrArg (fun z => Scalar.select z _ _) (e.trans (if_pos h))).trans (if_pos h).symm
  · exact (congrArg (fun z => Scalar.select z _ _) (e.trans (if_neg h))).trans (if_neg h).symm
theorem put1_at (t : Fin 8) (io) (a old : FVec Ideal S2048x128 .f32) (r l) :
    k0_pay239 (F := Ideal) (BitVec.ofNat 32 t.val) (iota Kind.tc S2048x128 32 [1] io) a old (ix2 r l)
      = (if l.val = 2 * t.val + 1 then (0 - ∑ x : Fin 128, a (ix2 r x) : EReal) else old (ix2 r l)) := by
  pointwise [k0_pay239]
  have e := lane_eq t.val l.val 1 t.isLt l.isLt (by omega)
  by_cases h : l.val = 2 * t.val + 1
  · exact (congrArg (fun z => Scalar.select z _ _) (e.trans (if_pos h))).trans (if_pos h).symm
  · exact (congrArg (fun z => Scalar.select z _ _) (e.trans (if_neg h))).trans (if_neg h).symm

/-- Two heads' arrays side by side. -/
theorem sides_at (a b : FVec Ideal S2048x64 .f32) (A B : ℕ → ℕ → EReal) (ha : ∀ r j, a (ix2 r j) = A r.val j.val)
    (hb : ∀ r j, b (ix2 r j) = B r.val j.val) (y : S1x2048x128.Idx) : k0_pay2 (F := Ideal) a b y
      = (if (y 2).val < 64 then A (y 1).val (y 2).val else B (y 1).val ((y 2).val - 64)) := by
  idx_vars y
  obtain rfl : y0 = 0 := Subsingleton.elim _ _
  pointwise [k0_pay2]
  by_cases h : y2.val < 64
  · exact (dif_pos h).trans ((ha _ _).trans (if_pos h).symm)
  · exact (dif_neg h).trans ((hb _ _).trans (if_neg h).symm)
end Lanes
end Cert.FoxIdeal.Hand
-- ==== Proof.FoxPoint.lean ====
/- One grid point: what its two heads leave in the four outputs. -/
module

public import proofs.«01_k».proof.Proof.FoxHead

@[expose] public section
set_option maxRecDepth 16384
noncomputable section
open Idealize.ShloMosaic Idealize.ShloMosaic.TcCoe Idealize.SL.Sem
open Idealize.ShloMosaic.Pipeline (Dat)
open scoped BigOperators
namespace Cert.FoxIdeal.Hand
open Cert.FoxIdeal Cert.FoxIdeal.Gen

/-- The arguments by natural indices: the projection, the cumulated decays (head, row), the two norm weights, the
    output's cotangent, and the rows' log-sums (head, row). -/
structure Args where
  p : ℕ → ℕ → EReal
  c : ℕ → ℕ → EReal
  gq : ℕ → EReal
  gk : ℕ → EReal
  ct : ℕ → ℕ → EReal
  ls : ℕ → ℕ → EReal

namespace Args
variable (A : Args) (g : ℕ)
/-- Head `g`'s queries and keys before their norms. -/
def qx (r j : ℕ) : EReal := A.p r (64 * g + j)
def kx (r j : ℕ) : EReal := A.p r (1024 + (64 * g + j))
/-- What head `g`'s backward pass reads. -/
def head : Head where
  q r j := hat (A.qx g) r j * A.gq j * wEighth
  k r j := hat (A.kx g) r j * A.gk j
  v r j := A.p r (2048 + (64 * g + j))
  d r j := A.ct r (64 * g + j)
  ck := A.c g
  cq := A.c g
  ls := A.ls g
end Args

/-- Eight blocks' additions. -/
def total (C : ℕ → ℕ → ℕ → ℕ → EReal) : ℕ → ℕ → EReal :=
  addTo (addTo (addTo (addTo (addTo (addTo (addTo (addTo zeroAt 256 (C 256 0)) 512 (C 512 256)) 768 (C 768 512)) 1024 (C 1024 768))
    1280 (C 1280 1024)) 1536 (C 1536 1280)) 1792 (C 1792 1536)) 2048 (C 2048 1792)

namespace Args
variable (A : Args) (g : ℕ)
/-- The gradients of the normalised queries, the normalised keys, the values and the decays. -/
def dqn (r j : ℕ) : EReal := (A.head g).dqC (256 * (r / 256 + 1)) r j * wEighth
def dkn : ℕ → ℕ → EReal := total (A.head g).dkC
def dvn : ℕ → ℕ → EReal := total fun _ => (A.head g).dvC
def dcn (r : ℕ) : EReal := 0 - ∑ l : Fin 128, total (A.head g).dcC r l
end Args

/-- The vectors loaded for head `g` hold the arguments. -/
structure Ins (A : Args) (g : ℕ) (v4 v23 v44 : FVec Ideal S2048x64 .f32) (v46 : FVec Ideal S2048x64 .bf16)
    (v5 v24 : FVec Ideal S1x64 .f32) (v48 : FVec Ideal S2048x128 .f32) (v59 v61 : FVec Ideal S1x1x2048 .f32) : Prop where
  q : ∀ r j, v4 (ix2 r j) = A.qx g r.val j.val
  k : ∀ r j, v23 (ix2 r j) = A.kx g r.val j.val
  v : ∀ r j, v44 (ix2 r j) = A.p r.val (2048 + (64 * g + j.val))
  d : ∀ r j, v46 (ix2 r j) = A.ct r.val (64 * g + j.val)
  gq : ∀ i j, v5 (ix2 i j) = A.gq j.val
  gk : ∀ i j, v24 (ix2 i j) = A.gk j.val
  ck : ∀ r (l : Fin 128), l.val = g → v48 (ix2 r l) = A.c g r.val
  cq : ∀ r, v59 (ix3 0 0 r) = A.c g r.val
  ls : ∀ r, v61 (ix3 0 0 r) = A.ls g r.val

section
variable {A : Args} {t : Fin 8} {v4 v23 v44 : FVec Ideal S2048x64 .f32} {v46 : FVec Ideal S2048x64 .bf16}
    {v5 v24 : FVec Ideal S1x64 .f32} {v48 : FVec Ideal S2048x128 .f32} {v59 v61 : FVec Ideal S1x1x2048 .f32}

theorem reads0 (h : Ins A (2 * t.val + 0) v4 v23 v44 v46 v5 v24 v48 v59 v61) : Reads (A.head (2 * t.val + 0))
    (k0_pay17 (k0_pay10 v4 v5)) (k0_pay18 (k0_pay14 v23) (k0_pay15 v24)) (k0_pay20 v44) (k0_pay21 v46)
    (k0_pay22 (BitVec.ofNat 32 t.val) v48) (k0_pay23 v59) (k0_pay24 v61) where
  q := query_at h.q h.gq
  k := key_at h.k h.gk
  v r j := (value_at v44 r j).trans (h.v r j)
  d r j := (cot_at v46 r j).trans (h.d r j)
  ck r j := (pick0_at t v48 r j).trans (h.ck r _ rfl)
  cq i r := (row_at v59 i r).trans (h.cq r)
  ls i r := (row_at v61 i r).trans (h.ls r)

theorem reads1 (h : Ins A (2 * t.val + 1) v4 v23 v44 v46 v5 v24 v48 v59 v61) : Reads (A.head (2 * t.val + 1))
    (k0_pay133 v4 v5) (k0_pay134 v23 v24) (k0_pay136 v44) (k0_pay137 v46)
    (k0_pay138 (BitVec.ofNat 32 t.val) v48) (k0_pay139 v59) (k0_pay140 v61) where
  q := query_at h.q h.gq
  k := key_at h.k h.gk
  v r j := (value_at v44 r j).trans (h.v r j)
  d r j := (cot_at v46 r j).trans (h.d r j)
  ck r j := (pick1_at t v48 r j).trans (h.ck r _ rfl)
  cq i r := (row_at v59 i r).trans (h.cq r)
  ls i r := (row_at v61 i r).trans (h.ls r)
end

/-- The blocks of point `t` hold the arguments. -/
structure Blocks (A : Args) (t : ℕ) (b0 b1 b2 b3 : FVec Ideal S2048x128 .f32) (b4 : FVec Ideal S1x2x2048 .f32)
    (b5 b6 : FVec Ideal S1x64 .f32) (b7 : FVec Ideal S1x8x2048 .f32) (b8 : FVec Ideal S2048x128 .bf16) : Prop where
  q : ∀ r l, b0 (ix2 r l) = A.p r.val (128 * t + l.val)
  k : ∀ r l, b1 (ix2 r l) = A.p r.val (1024 + (128 * t + l.val))
  v : ∀ r l, b2 (ix2 r l) = A.p r.val (2048 + (128 * t + l.val))
  ck : ∀ r (l : Fin 128), l.val < 16 → b3 (ix2 r l) = A.c l.val r.val
  cq : ∀ (h : Fin 2) r, b4 (ix3 0 h r) = A.c (2 * t + h.val) r.val
  gq : ∀ i j, b5 (ix2 i j) = A.gq j.val
  gk : ∀ i j, b6 (ix2 i j) = A.gk j.val
  ls : ∀ (h : Fin 8) r, h.val < 2 → b7 (ix3 0 h r) = A.ls (2 * t + h.val) r.val
  d : ∀ r l, b8 (ix2 r l) = A.ct r.val (128 * t + l.val)

section
variable {A : Args} {t : ℕ} {b0 b1 b2 b3 : FVec Ideal S2048x128 .f32} {b4 : FVec Ideal S1x2x2048 .f32}
    {b5 b6 : FVec Ideal S1x64 .f32} {b7 : FVec Ideal S1x8x2048 .f32} {b8 : FVec Ideal S2048x128 .bf16}

theorem half_at {e : EltTy} (hh : ℕ) (b : S2048x128.Idx → Elt Ideal e) (inb) (r : Fin 2048) (j : Fin 64) (hl : hh + j.val < 128) :
    View.ld (Val := Elt Ideal) b (Rect.unit ![0, hh] ![2048, 64] inb) (ix2 r j) = b (ix2 r ⟨hh + j.val, hl⟩) := by
  refine congrArg b ?_
  funext a
  refine Fin.ext ?_
  fin_cases a <;> simp [LoadRect.idx, Rect.unit]
theorem line_at {n : ℕ} (hh : ℕ) (b : FVec Ideal (⟨3, ![1, n, 2048]⟩ : Shape) .f32) (inb) (r : Fin 2048) (hl : hh < n) :
    View.ld (Val := Elt Ideal) (e' := .f32) b (Rect.unit ![0, hh, 0] ![1, 1, 2048] inb) (ix3 0 0 r) = b (ix3 0 ⟨hh, hl⟩ r) := by
  refine congrArg b ?_
  funext a
  refine Fin.ext ?_
  fin_cases a <;> simp [LoadRect.idx, Rect.unit]
theorem ins0 (h : Blocks A t b0 b1 b2 b3 b4 b5 b6 b7 b8) (ht : t < 8) (i1 i2 i3) : Ins A (2 * t + 0)
    (View.ld (Val := Elt Ideal) (e' := .f32) b0 (Rect.unit ![0, 0] ![2048, 64] i1)) (View.ld (Val := Elt Ideal) (e' := .f32) b1 (Rect.unit ![0, 0] ![2048, 64] i1))
    (View.ld (Val := Elt Ideal) (e' := .f32) b2 (Rect.unit ![0, 0] ![2048, 64] i1)) (View.ld (Val := Elt Ideal) (e' := .bf16) b8 (Rect.unit ![0, 0] ![2048, 64] i1)) b5 b6 b3
    (View.ld (Val := Elt Ideal) (e' := .f32) b4 (Rect.unit ![0, 0, 0] ![1, 1, 2048] i2))
    (View.ld (Val := Elt Ideal) (e' := .f32) b7 (Rect.unit ![0, 0, 0] ![1, 1, 2048] i3)) where
  q r j := (half_at (e := .f32) 0 b0 i1 r j (by omega)).trans ((h.q r _).trans (congrArg (A.p r.val) (by simp only []; omega)))
  k r j := (half_at (e := .f32) 0 b1 i1 r j (by omega)).trans ((h.k r _).trans (congrArg (A.p r.val) (by simp only []; omega)))
  v r j := (half_at (e := .f32) 0 b2 i1 r j (by omega)).trans ((h.v r _).trans (congrArg (A.p r.val) (by simp only []; omega)))
  d r j := (half_at (e := .bf16) 0 b8 i1 r j (by omega)).trans ((h.d r _).trans (congrArg (A.ct r.val) (by simp only []; omega)))
  gq := h.gq
  gk := h.gk
  ck r l e := (h.ck r l (by omega)).trans (by rw [e])
  cq r := (line_at 0 b4 i2 r (by decide)).trans (h.cq _ r)
  ls r := (line_at 0 b7 i3 r (by decide)).trans (h.ls _ r (by decide))
theorem ins1 (h : Blocks A t b0 b1 b2 b3 b4 b5 b6 b7 b8) (ht : t < 8) (i1 i2 i3) : Ins A (2 * t + 1)
    (View.ld (Val := Elt Ideal) (e' := .f32) b0 (Rect.unit ![0, 64] ![2048, 64] i1)) (View.ld (Val := Elt Ideal) (e' := .f32) b1 (Rect.unit ![0, 64] ![2048, 64] i1))
    (View.ld (Val := Elt Ideal) (e' := .f32) b2 (Rect.unit ![0, 64] ![2048, 64] i1)) (View.ld (Val := Elt Ideal) (e' := .bf16) b8 (Rect.unit ![0, 64] ![2048, 64] i1)) b5 b6 b3
    (View.ld (Val := Elt Ideal) (e' := .f32) b4 (Rect.unit ![0, 1, 0] ![1, 1, 2048] i2))
    (View.ld (Val := Elt Ideal) (e' := .f32) b7 (Rect.unit ![0, 1, 0] ![1, 1, 2048] i3)) where
  q r j := (half_at (e := .f32) 64 b0 i1 r j (by omega)).trans ((h.q r _).trans (congrArg (A.p r.val) (by simp only []; omega)))
  k r j := (half_at (e := .f32) 64 b1 i1 r j (by omega)).trans ((h.k r _).trans (congrArg (A.p r.val) (by simp only []; omega)))
  v r j := (half_at (e := .f32) 64 b2 i1 r j (by omega)).trans ((h.v r _).trans (congrArg (A.p r.val) (by simp only []; omega)))
  d r j := (half_at (e := .bf16) 64 b8 i1 r j (by omega)).trans ((h.d r _).trans (congrArg (A.ct r.val) (by simp only []; omega)))
  gq := h.gq
  gk := h.gk
  ck r l e := (h.ck r l (by omega)).trans (by rw [e])
  cq r := (line_at 1 b4 i2 r (by decide)).trans (h.cq _ r)
  ls r := (line_at 1 b7 i3 r (by decide)).trans (h.ls _ r (by decide))
end

end Cert.FoxIdeal.Hand
-- ==== Proof.FoxEntry.lean ====
/- What the host puts before the kernel: the rows' log-sums, the decays by rows and by columns, the cotangent. -/
module

public import proofs.«01_k».proof.Proof.FoxPoint
public import proofs.«01_k».proof.Proof.Gen.FoxRefIdeal.Read
public import Idealize.ShloMosaic.Lib.Pipeline.ValueKit
public import Idealize.ShloMosaic.Lib.Claim
public import Idealize.ShloMosaic.Lib.StableHlo.ReadAt
public import Idealize.ShloMosaic.Lib.KernelVsHost

@[expose] public section
set_option maxRecDepth 16384
noncomputable section
open Idealize.ShloMosaic Idealize.ShloMosaic.StableHlo Idealize.ShloMosaic.TcCoe Idealize.SL.Sem
open scoped BigOperators
namespace Cert.FoxIdeal.Hand
open Cert.FoxIdeal Cert.FoxIdeal.Gen

/-- The largest score of a row, and a row's log-sum. -/
def rowMax (s : FVec Ideal S16x2048x2048 .f32) : FVec Ideal S16x2048 .f32 :=
  Host.reduce FloatOps.maximumf s (constant S_ .f32 0xFF800000#32) reducesTo_S16x2048x2048_S16x2048_d2 h_S_
def rowSum (s : FVec Ideal S16x2048x2048 .f32) : FVec Ideal S16x2048 .f32 :=
  Host.reduceAdd (Host.exp (subf s (broadcastInDim S16x2048x2048 ![0, 1, 2] bcast_S16x2048x1_S16x2048x2048_0_1_2
    (broadcastInDim S16x2048x1 ![0, 1] bcast_S16x2048_S16x2048x1_0_1 (rowMax s))))) (constant S_ .f32 0x00000000#32)
    reducesTo_S16x2048x2048_S16x2048_d2 h_S_
def logSum (s : FVec Ideal S16x2048x2048 .f32) : FVec Ideal S16x2048x1 .f32 :=
  addf (broadcastInDim S16x2048x1 ![0, 1] bcast_S16x2048_S16x2048x1_0_1 (rowMax s))
    (Host.log (broadcastInDim S16x2048x1 ![0, 1] bcast_S16x2048_S16x2048x1_0_1 (rowSum s)))

section Stages
variable (W : Valuation τ sig (Elt Ideal))

theorem scores :
    (after hostOps0 W (Proc.devRef .tc main_v40) : FVec Ideal S16x2048x2048 .f32)
      = Cert.FoxRefIdeal.Read.val_main_v48 (F := Ideal) (W (Proc.devRef .tc main_arg0)) (W (Proc.devRef .tc main_arg1))
        (W (Proc.devRef .tc main_arg2)) (W (Proc.devRef .tc main_arg3)) := by
  after_reads_simp
  rfl
theorem masks : after hostOps0 W (Proc.devRef .tc main_v43) = Cert.FoxRefIdeal.Read.val_main_v51 (F := Ideal) := by
  after_reads_simp
  rfl
theorem bots : after hostOps0 W (Proc.devRef .tc main_cst_6) = Cert.FoxRefIdeal.Read.val_main_cst_8 (F := Ideal) := by
  after_reads_simp
  rfl
theorem chosen :
    (after hostOps0_1 W (Proc.devRef .tc main_v44) : FVec Ideal S16x2048x2048 .f32) =
      select (broadcastInDim S16x2048x2048 ![1, 2] bcast_S2048x2048_S16x2048x2048_1_2 (W (Proc.devRef .tc main_v43) : IVec S2048x2048 1))
        (W (Proc.devRef .tc main_v40) : FVec Ideal S16x2048x2048 .f32)
        (broadcastInDim (s := S_) S16x2048x2048 ![] bcast_S_S16x2048x2048 (W (Proc.devRef .tc main_cst_6) : FVec Ideal S_ .f32)) := by
  after_reads_simp
  rfl
theorem summed : (after hostOps0_2 W (Proc.devRef .tc main_v55) : FVec Ideal S8x2x2048 .f32) =
    shapeCast S8x2x2048 (shapeCast S16x2048 (logSum (W (Proc.devRef .tc main_v44))) shapeCasts_S16x2048x1_S16x2048) shapeCasts_S16x2048_S8x2x2048 := by
  after_reads_simp
  rfl
theorem zeroed : (after hostOps0_2 W (Proc.devRef .tc main_c) : IVec S_ 32) = constantI S_ 32 0#32 := by
  after_reads_simp
theorem padded : (after hostOps0_3 W (Proc.devRef .tc main_v56) : FVec Ideal S8x8x2048 .f32) =
    pad S8x8x2048 ![0, 0, 0] ![0, 6, 0] ![0, 0, 0] (W (Proc.devRef .tc main_v55) : FVec Ideal S8x2x2048 .f32)
      (sitofp (F := Ideal) .f32 (W (Proc.devRef .tc main_c) : IVec S_ 32)) pads_S8x2x2048_S8x8x2048_000_060_000 h_S_ := by
  after_reads_simp
  rfl
theorem keep3_0 : after hostOps0 W (Proc.devRef .tc main_arg1) = W (Proc.devRef .tc main_arg1) := by after_reads_simp
theorem keep3_1 : after hostOps0_1 W (Proc.devRef .tc main_arg1) = W (Proc.devRef .tc main_arg1) := by after_reads_simp
theorem keep3_2 : after hostOps0_2 W (Proc.devRef .tc main_arg1) = W (Proc.devRef .tc main_arg1) := by after_reads_simp
theorem keep3_3 : after hostOps0_3 W (Proc.devRef .tc main_arg1) = W (Proc.devRef .tc main_arg1) := by after_reads_simp
theorem keep4_0 : after hostOps0 W (Proc.devRef .tc main_arg4) = W (Proc.devRef .tc main_arg4) := by after_reads_simp
theorem keep4_1 : after hostOps0_1 W (Proc.devRef .tc main_arg4) = W (Proc.devRef .tc main_arg4) := by after_reads_simp
theorem keep4_2 : after hostOps0_2 W (Proc.devRef .tc main_arg4) = W (Proc.devRef .tc main_arg4) := by after_reads_simp
theorem keep4_3 : after hostOps0_3 W (Proc.devRef .tc main_arg4) = W (Proc.devRef .tc main_arg4) := by after_reads_simp
theorem keep4_4 : after hostOps0_4 W (Proc.devRef .tc main_arg4) = W (Proc.devRef .tc main_arg4) := by after_reads_simp
theorem keep4_5 : after hostOps0_5 W (Proc.devRef .tc main_arg4) = W (Proc.devRef .tc main_arg4) := by after_reads_simp
theorem cast6 : (after hostOps0_6 W (Proc.devRef .tc main_v60) : FVec Ideal S2048x1024 .bf16) =
    truncf (F := Ideal) .bf16 (W (Proc.devRef .tc main_arg4) : FVec Ideal S2048x1024 .f32) bitsLt_bf16_f32 := by
  after_reads_simp
theorem lines4 : (after hostOps0_4 W (Proc.devRef .tc main_v57) : FVec Ideal S8x2x2048 .f32) =
    shapeCast S8x2x2048 (W (Proc.devRef .tc main_arg1) : FVec Ideal S16x2048 .f32) shapeCasts_S16x2048_S8x2x2048 := by
  after_reads_simp
  rfl
theorem cols4 : (after hostOps0_4 W (Proc.devRef .tc main_v58) : FVec Ideal S2048x16 .f32) =
    transpose S2048x16 [1, 0] (W (Proc.devRef .tc main_arg1) : FVec Ideal S16x2048 .f32) transposes_S16x2048_S2048x16_1_0 := by
  after_reads_simp
theorem zero4 : (after hostOps0_4 W (Proc.devRef .tc main_c_9) : IVec S_ 32) = constantI S_ 32 0#32 := by
  after_reads_simp
theorem padded5 : (after hostOps0_5 W (Proc.devRef .tc main_v59) : FVec Ideal S2048x128 .f32) =
    pad S2048x128 ![0, 0] ![0, 112] ![0, 0] (W (Proc.devRef .tc main_v58) : FVec Ideal S2048x16 .f32)
      (sitofp (F := Ideal) .f32 (W (Proc.devRef .tc main_c_9) : IVec S_ 32)) pads_S2048x16_S2048x128_000_01120 h_S_ := by
  after_reads_simp
  rfl
theorem ls4 : after hostOps0_4 W (Proc.devRef .tc main_v56) = W (Proc.devRef .tc main_v56) := by after_reads_simp
theorem ls5 : after hostOps0_5 W (Proc.devRef .tc main_v56) = W (Proc.devRef .tc main_v56) := by after_reads_simp
theorem ls6 : after hostOps0_6 W (Proc.devRef .tc main_v56) = W (Proc.devRef .tc main_v56) := by after_reads_simp
theorem lines5 : after hostOps0_5 W (Proc.devRef .tc main_v57) = W (Proc.devRef .tc main_v57) := by after_reads_simp
theorem lines6 : after hostOps0_6 W (Proc.devRef .tc main_v57) = W (Proc.devRef .tc main_v57) := by after_reads_simp
theorem cols6 : after hostOps0_6 W (Proc.devRef .tc main_v59) = W (Proc.devRef .tc main_v59) := by after_reads_simp

theorem after_two : ∀ (a b : List (HloOp τ sig (Elt Ideal))) (W : Valuation τ sig (Elt Ideal)), after (a ++ b) W = after b (after a W)
  | [], _, _ => rfl
  | x :: a, b, W => after_two a b _
end Stages

variable (m : (ℓ : Loc nD τ sig) → Buf (Elt Ideal) ℓ) (c : Dev nD)
/-- The reference's masked scores at the kernel's arguments. -/
abbrev masked : FVec Ideal S16x2048x2048 .f32 :=
  Cert.FoxRefIdeal.Read.val_main_v52_0 (F := Ideal) (m ((c : Thread nD τ).loc main_arg0)) (m ((c : Thread nD τ).loc main_arg1))
    (m ((c : Thread nD τ).loc main_arg2)) (m ((c : Thread nD τ).loc main_arg3))

theorem entry_ls : (V m c main_v56 : FVec Ideal S8x8x2048 .f32) =
    pad S8x8x2048 ![0, 0, 0] ![0, 6, 0] ![0, 0, 0]
      (shapeCast S8x2x2048 (shapeCast S16x2048 (logSum (masked m c)) shapeCasts_S16x2048x1_S16x2048) shapeCasts_S16x2048_S8x2x2048)
      (sitofp (F := Ideal) .f32 (constantI S_ 32 0#32)) pads_S8x2x2048_S8x8x2048_000_060_000 h_S_ := by
  unfold V
  simp only [List.flatten_cons, List.flatten_nil, List.append_nil, after_two]
  rw [ls6, ls5, ls4, padded, summed, zeroed, chosen, scores, masks, bots]
  rfl
theorem entry_cq : (V m c main_v57 : FVec Ideal S8x2x2048 .f32) =
    shapeCast S8x2x2048 (m ((c : Thread nD τ).loc main_arg1) : FVec Ideal S16x2048 .f32) shapeCasts_S16x2048_S8x2x2048 := by
  unfold V
  simp only [List.flatten_cons, List.flatten_nil, List.append_nil, after_two]
  rw [lines6, lines5, lines4, keep3_3, keep3_2, keep3_1, keep3_0]
theorem entry_ck : (V m c main_v59 : FVec Ideal S2048x128 .f32) =
    pad S2048x128 ![0, 0] ![0, 112] ![0, 0]
      (transpose S2048x16 [1, 0] (m ((c : Thread nD τ).loc main_arg1) : FVec Ideal S16x2048 .f32) transposes_S16x2048_S2048x16_1_0)
      (sitofp (F := Ideal) .f32 (constantI S_ 32 0#32)) pads_S2048x16_S2048x128_000_01120 h_S_ := by
  unfold V
  simp only [List.flatten_cons, List.flatten_nil, List.append_nil, after_two]
  rw [cols6, padded5, cols4, zero4, keep3_3, keep3_2, keep3_1, keep3_0]
theorem entry_d : (V m c main_v60 : FVec Ideal S2048x1024 .bf16) =
    truncf (F := Ideal) .bf16 (m ((c : Thread nD τ).loc main_arg4) : FVec Ideal S2048x1024 .f32) bitsLt_bf16_f32 := by
  unfold V
  simp only [List.flatten_cons, List.flatten_nil, List.append_nil, after_two]
  rw [cast6, keep4_5, keep4_4, keep4_3, keep4_2, keep4_1, keep4_0]
end Cert.FoxIdeal.Hand
-- ==== Proof.FoxBlocks.lean ====
/- The blocks a point reads hold the arguments. -/
module

public import proofs.«01_k».proof.Proof.FoxEntry

@[expose] public section
set_option maxRecDepth 16384
noncomputable section
open Idealize.ShloMosaic Idealize.ShloMosaic.TcCoe Idealize.SL.Sem
open Idealize.ShloMosaic.Pipeline (Dat)
open scoped BigOperators
namespace Cert.FoxIdeal.Hand
open Cert.FoxIdeal Cert.FoxIdeal.Gen

theorem at_ix3 {a b d : ℕ} (i : (⟨3, ![a, b, d]⟩ : Shape).Idx) (x : Fin a) (y : Fin b) (z : Fin d)
    (h : (i 0).val = x.val ∧ (i 1).val = y.val ∧ (i 2).val = z.val) : i = ix3 x y z := by
  funext k
  apply Fin.ext
  fin_cases k
  exacts [h.1, h.2.1, h.2.2]
theorem at_ix2 {a b : ℕ} (i : (⟨2, ![a, b]⟩ : Shape).Idx) (x : Fin a) (y : Fin b)
    (h : (i 0).val = x.val ∧ (i 1).val = y.val) : i = ix2 x y := by
  funext k
  apply Fin.ext
  fin_cases k
  exacts [h.1, h.2]

/-- A matrix by natural indices. -/
def nat2 {a b : ℕ} (x : FVec Ideal (⟨2, ![a, b]⟩ : Shape) .f32) (r j : ℕ) : EReal :=
  if h : r < a ∧ j < b then x (ix2 ⟨r, h.1⟩ ⟨j, h.2⟩) else 0
theorem nat2_of {a b : ℕ} (x : FVec Ideal (⟨2, ![a, b]⟩ : Shape) .f32) (i : (⟨2, ![a, b]⟩ : Shape).Idx) {r j : ℕ}
    (hr : (i 0).val = r) (hj : (i 1).val = j) : x i = nat2 x r j := by
  subst hr hj
  unfold nat2
  rw [dif_pos (⟨(i 0).isLt, (i 1).isLt⟩ : (i 0).val < a ∧ (i 1).val < b)]
  exact congrArg x (at_ix2 i ⟨(i 0).val, (i 0).isLt⟩ ⟨(i 1).val, (i 1).isLt⟩ ⟨rfl, rfl⟩)

variable (m : (ℓ : Loc nD τ sig) → Buf (Elt Ideal) ℓ) (c : Dev nD)

/-- A row's log-sum by natural indices. -/
def lsAt (x : FVec Ideal S16x2048x1 .f32) (g r : ℕ) : EReal :=
  if h : g < 16 ∧ r < 2048 then x (ix3 ⟨g, h.1⟩ ⟨r, h.2⟩ 0) else 0

/-- The arguments. -/
def args : Args where
  p := nat2 (a := 2048) (b := 3072) (m ((c : Thread nD τ).loc main_arg0))
  c := nat2 (a := 16) (b := 2048) (m ((c : Thread nD τ).loc main_arg1))
  gq := nat2 (a := 1) (b := 64) (m ((c : Thread nD τ).loc main_arg2)) 0
  gk := nat2 (a := 1) (b := 64) (m ((c : Thread nD τ).loc main_arg3)) 0
  ct := nat2 (a := 2048) (b := 1024) (m ((c : Thread nD τ).loc main_arg4))
  ls := lsAt (logSum (masked m c))

theorem ls_place (i : Fin 8) (h : Fin 8) (r : Fin 2048) (hh : h.val < 2) :
    (V m c main_v56 : FVec Ideal S8x8x2048 .f32) (ix3 i h r) = (args m c).ls (2 * i.val + h.val) r.val := by
  have hi := i.isLt
  have hlt : 2 * i.val + h.val < 16 := by omega
  rw [entry_ls]
  refine (pad_apply_of_inside _ _ _ _ _ _ _ _ (ix3 i ⟨h.val, hh⟩ r : S8x2x2048.Idx) fun a => ?_).trans ?_
  · match a with
    | ⟨0, _⟩ => exact (Nat.zero_add _).symm.trans (congrArg (0 + ·) (Nat.mul_one _).symm)
    | ⟨1, _⟩ => exact (Nat.zero_add _).symm.trans (congrArg (0 + ·) (Nat.mul_one _).symm)
    | ⟨2, _⟩ => exact (Nat.zero_add _).symm.trans (congrArg (0 + ·) (Nat.mul_one _).symm)
  refine (shapeCast_apply _ _ _ (ix2 ⟨2 * i.val + h.val, hlt⟩ r : S16x2048.Idx) ?_).trans ?_
  · rw [Shape.rowMajor_val_two, Shape.rowMajor_val_three]
    show (2 * i.val + h.val) * 2048 + r.val = (i.val * 2 + h.val) * 2048 + r.val
    omega
  refine (shapeCast_apply _ _ _ (ix3 ⟨2 * i.val + h.val, hlt⟩ r 0 : S16x2048x1.Idx) ?_).trans ?_
  · rw [Shape.rowMajor_val_two, Shape.rowMajor_val_three]
    show ((2 * i.val + h.val) * 2048 + r.val) * 1 + 0 = (2 * i.val + h.val) * 2048 + r.val
    omega
  exact (dif_pos ⟨hlt, r.isLt⟩ : lsAt _ _ _ = _).symm

theorem cq_place (i : Fin 8) (h : Fin 2) (r : Fin 2048) :
    (V m c main_v57 : FVec Ideal S8x2x2048 .f32) (ix3 i h r) = (args m c).c (2 * i.val + h.val) r.val := by
  have hi := i.isLt
  have hlt : 2 * i.val + h.val < 16 := by omega
  rw [entry_cq]
  refine (shapeCast_apply _ _ _ (ix2 ⟨2 * i.val + h.val, hlt⟩ r : S16x2048.Idx) ?_).trans ?_
  · rw [Shape.rowMajor_val_two, Shape.rowMajor_val_three]
    show (2 * i.val + h.val) * 2048 + r.val = (i.val * 2 + h.val) * 2048 + r.val
    omega
  exact nat2_of (a := 16) (b := 2048) _ _ rfl rfl

theorem ck_place (r : Fin 2048) (l : Fin 128) (hl : l.val < 16) :
    (V m c main_v59 : FVec Ideal S2048x128 .f32) (ix2 r l) = (args m c).c l.val r.val := by
  rw [entry_ck]
  refine (pad_apply_of_inside _ _ _ _ _ _ _ _ (ix2 r ⟨l.val, hl⟩ : S2048x16.Idx) fun a => ?_).trans ?_
  · match a with
    | ⟨0, _⟩ => exact (Nat.zero_add _).symm.trans (congrArg (0 + ·) (Nat.mul_one _).symm)
    | ⟨1, _⟩ => exact (Nat.zero_add _).symm.trans (congrArg (0 + ·) (Nat.mul_one _).symm)
  refine (transpose_apply _ _ _ _ (ix2 ⟨l.val, hl⟩ r : S16x2048.Idx) fun b => ?_).trans ?_
  · match b with
    | ⟨0, _⟩ => rfl
    | ⟨1, _⟩ => rfl
  exact nat2_of (a := 16) (b := 2048) _ _ rfl rfl

theorem d_place (i : S2048x1024.Idx) {r j : ℕ} (hr : (i 0).val = r) (hj : (i 1).val = j) :
    (V m c main_v60 : FVec Ideal S2048x1024 .bf16) i = (args m c).ct r j := by
  rw [entry_d]
  exact nat2_of (a := 2048) (b := 1024) (m ((c : Thread nD τ).loc main_arg4)) i hr hj

theorem coord_val (t : Fin cfg0.N) : (grid0.coords t 0).val = t.val :=
  (by decide +kernel : ∀ t : Fin grid0.N, (grid0.coords t 0).val = t.val) t
theorem places : ∀ t : Fin cfg0.N, win0_0.index t = ![0, t.val] ∧ win0_1.index t = ![0, 8 + t.val] ∧ win0_2.index t = ![0, 16 + t.val]
    ∧ win0_3.index t = ![0, 0] ∧ win0_4.index t = ![t.val, 0, 0] ∧ win0_5.index t = ![0, 0] ∧ win0_6.index t = ![0, 0]
    ∧ win0_7.index t = ![t.val, 0, 0] ∧ win0_8.index t = ![0, t.val] ∧ win0_9.index t = ![0, 0, t.val] :=
  (by decide +kernel : ∀ t : Fin grid0.N, _)

theorem put0 (t : Fin cfg0.N) (r : Fin 2048) (l : Fin 128) :
    ((((cfg0.win 0).blk t).view.emb (ix2 r l)) 0).val = r.val ∧ ((((cfg0.win 0).blk t).view.emb (ix2 r l)) 1).val = 128 * t.val + l.val := by
  constructor <;> blk_simp [places t] <;> (try simp) <;> (try omega)
theorem put1 (t : Fin cfg0.N) (r : Fin 2048) (l : Fin 128) :
    ((((cfg0.win 1).blk t).view.emb (ix2 r l)) 0).val = r.val ∧ ((((cfg0.win 1).blk t).view.emb (ix2 r l)) 1).val = 1024 + (128 * t.val + l.val) := by
  constructor <;> blk_simp [places t] <;> (try simp) <;> (try omega)
theorem put2 (t : Fin cfg0.N) (r : Fin 2048) (l : Fin 128) :
    ((((cfg0.win 2).blk t).view.emb (ix2 r l)) 0).val = r.val ∧ ((((cfg0.win 2).blk t).view.emb (ix2 r l)) 1).val = 2048 + (128 * t.val + l.val) := by
  constructor <;> blk_simp [places t] <;> (try simp) <;> (try omega)
theorem put3 (t : Fin cfg0.N) (r : Fin 2048) (l : Fin 128) :
    ((((cfg0.win 3).blk t).view.emb (ix2 r l)) 0).val = r.val ∧ ((((cfg0.win 3).blk t).view.emb (ix2 r l)) 1).val = l.val := by
  constructor <;> blk_simp [places t] <;> (try simp)
theorem put4 (t : Fin cfg0.N) (h : Fin 2) (r : Fin 2048) :
    ((((cfg0.win 4).blk t).view.emb (ix3 0 h r)) 0).val = t.val ∧ ((((cfg0.win 4).blk t).view.emb (ix3 0 h r)) 1).val = h.val
      ∧ ((((cfg0.win 4).blk t).view.emb (ix3 0 h r)) 2).val = r.val := by
  refine ⟨?_, ?_, ?_⟩ <;> blk_simp [places t] <;> (try simp)
theorem put5 (t : Fin cfg0.N) (i : Fin 1) (l : Fin 64) :
    ((((cfg0.win 5).blk t).view.emb (ix2 i l)) 0).val = 0 ∧ ((((cfg0.win 5).blk t).view.emb (ix2 i l)) 1).val = l.val := by
  obtain rfl : i = 0 := Subsingleton.elim _ _
  constructor <;> blk_simp [places t] <;> (try simp)
theorem put6 (t : Fin cfg0.N) (i : Fin 1) (l : Fin 64) :
    ((((cfg0.win 6).blk t).view.emb (ix2 i l)) 0).val = 0 ∧ ((((cfg0.win 6).blk t).view.emb (ix2 i l)) 1).val = l.val := by
  obtain rfl : i = 0 := Subsingleton.elim _ _
  constructor <;> blk_simp [places t] <;> (try simp)
theorem put7 (t : Fin cfg0.N) (h : Fin 8) (r : Fin 2048) :
    ((((cfg0.win 7).blk t).view.emb (ix3 0 h r)) 0).val = t.val ∧ ((((cfg0.win 7).blk t).view.emb (ix3 0 h r)) 1).val = h.val
      ∧ ((((cfg0.win 7).blk t).view.emb (ix3 0 h r)) 2).val = r.val := by
  refine ⟨?_, ?_, ?_⟩ <;> blk_simp [places t] <;> (try simp)
theorem put8 (t : Fin cfg0.N) (r : Fin 2048) (l : Fin 128) :
    ((((cfg0.win 8).blk t).view.emb (ix2 r l)) 0).val = r.val ∧ ((((cfg0.win 8).blk t).view.emb (ix2 r l)) 1).val = 128 * t.val + l.val := by
  constructor <;> blk_simp [places t] <;> (try simp) <;> (try omega)

theorem lt8 (t : Fin cfg0.N) : t.val < 8 := lt_of_lt_of_eq t.isLt N_0
theorem blk0 (t : Fin cfg0.N) (r : Fin 2048) (l : Fin 128) : (iblk m c 0 t : FVec Ideal S2048x128 .f32) (ix2 r l) = (args m c).p r.val (128 * t.val + l.val) := by
  have e := (congrFun (V_main_arg0 m c) (((cfg0.win 0).blk t).view.emb (ix2 r l))).trans (nat2_of (a := 2048) (b := 3072) (m ((c : Thread nD τ).loc main_arg0)) _ (put0 t r l).1 (put0 t r l).2)
  unfold iblk
  rw [View.read_apply]
  exact (cast_eq _ _).trans e
theorem blk1 (t : Fin cfg0.N) (r : Fin 2048) (l : Fin 128) : (iblk m c 1 t : FVec Ideal S2048x128 .f32) (ix2 r l) = (args m c).p r.val (1024 + (128 * t.val + l.val)) := by
  have e := (congrFun (V_main_arg0 m c) (((cfg0.win 1).blk t).view.emb (ix2 r l))).trans (nat2_of (a := 2048) (b := 3072) (m ((c : Thread nD τ).loc main_arg0)) _ (put1 t r l).1 (put1 t r l).2)
  unfold iblk
  rw [View.read_apply]
  exact (cast_eq _ _).trans e
theorem blk2 (t : Fin cfg0.N) (r : Fin 2048) (l : Fin 128) : (iblk m c 2 t : FVec Ideal S2048x128 .f32) (ix2 r l) = (args m c).p r.val (2048 + (128 * t.val + l.val)) := by
  have e := (congrFun (V_main_arg0 m c) (((cfg0.win 2).blk t).view.emb (ix2 r l))).trans (nat2_of (a := 2048) (b := 3072) (m ((c : Thread nD τ).loc main_arg0)) _ (put2 t r l).1 (put2 t r l).2)
  unfold iblk
  rw [View.read_apply]
  exact (cast_eq _ _).trans e
theorem blk3 (t : Fin cfg0.N) (r : Fin 2048) (l : Fin 128) (hl : l.val < 16) : (iblk m c 3 t : FVec Ideal S2048x128 .f32) (ix2 r l) = (args m c).c l.val r.val := by
  have e := (congrArg (V m c main_v59 : FVec Ideal S2048x128 .f32) (at_ix2 (((cfg0.win 3).blk t).view.emb (ix2 r l)) r l (put3 t r l))).trans (ck_place m c r l hl)
  unfold iblk
  rw [View.read_apply]
  exact (cast_eq _ _).trans e
theorem blk4 (t : Fin cfg0.N) (h : Fin 2) (r : Fin 2048) : (iblk m c 4 t : FVec Ideal S1x2x2048 .f32) (ix3 0 h r) = (args m c).c (2 * t.val + h.val) r.val := by
  have e := (congrArg (V m c main_v57 : FVec Ideal S8x2x2048 .f32) (at_ix3 (((cfg0.win 4).blk t).view.emb (ix3 0 h r)) ⟨t.val, lt8 t⟩ h r (put4 t h r))).trans (cq_place m c ⟨t.val, lt8 t⟩ h r)
  unfold iblk
  rw [View.read_apply]
  exact (cast_eq _ _).trans e
theorem blk5 (t : Fin cfg0.N) (i : Fin 1) (j : Fin 64) : (iblk m c 5 t : FVec Ideal S1x64 .f32) (ix2 i j) = (args m c).gq j.val := by
  have e := (congrFun (V_main_arg2 m c) (((cfg0.win 5).blk t).view.emb (ix2 i j))).trans (nat2_of (a := 1) (b := 64) (m ((c : Thread nD τ).loc main_arg2)) _ (put5 t i j).1 (put5 t i j).2)
  unfold iblk
  rw [View.read_apply]
  exact (cast_eq _ _).trans e
theorem blk6 (t : Fin cfg0.N) (i : Fin 1) (j : Fin 64) : (iblk m c 6 t : FVec Ideal S1x64 .f32) (ix2 i j) = (args m c).gk j.val := by
  have e := (congrFun (V_main_arg3 m c) (((cfg0.win 6).blk t).view.emb (ix2 i j))).trans (nat2_of (a := 1) (b := 64) (m ((c : Thread nD τ).loc main_arg3)) _ (put6 t i j).1 (put6 t i j).2)
  unfold iblk
  rw [View.read_apply]
  exact (cast_eq _ _).trans e
theorem blk7 (t : Fin cfg0.N) (h : Fin 8) (r : Fin 2048) (hh : h.val < 2) : (iblk m c 7 t : FVec Ideal S1x8x2048 .f32) (ix3 0 h r) = (args m c).ls (2 * t.val + h.val) r.val := by
  have e := (congrArg (V m c main_v56 : FVec Ideal S8x8x2048 .f32) (at_ix3 (((cfg0.win 7).blk t).view.emb (ix3 0 h r)) ⟨t.val, lt8 t⟩ h r (put7 t h r))).trans (ls_place m c ⟨t.val, lt8 t⟩ h r hh)
  unfold iblk
  rw [View.read_apply]
  exact (cast_eq _ _).trans e
theorem blk8 (t : Fin cfg0.N) (r : Fin 2048) (l : Fin 128) : (iblk m c 8 t : FVec Ideal S2048x128 .bf16) (ix2 r l) = (args m c).ct r.val (128 * t.val + l.val) := by
  have e := d_place m c (((cfg0.win 8).blk t).view.emb (ix2 r l)) (put8 t r l).1 (put8 t r l).2
  unfold iblk
  rw [View.read_apply]
  exact (cast_eq _ _).trans e

/-- Point `t`'s blocks. -/
theorem blocks (t : Fin cfg0.N) : Blocks (args m c) (grid0.coords t 0).val (iblk m c 0 t) (iblk m c 1 t) (iblk m c 2 t) (iblk m c 3 t)
    (iblk m c 4 t) (iblk m c 5 t) (iblk m c 6 t) (iblk m c 7 t) (iblk m c 8 t) := by
  rw [coord_val]
  exact ⟨blk0 m c t, blk1 m c t, blk2 m c t, blk3 m c t, blk4 m c t, blk5 m c t, blk6 m c t, blk7 m c t, blk8 m c t⟩
end Cert.FoxIdeal.Hand
-- ==== Proof.FoxOut9.lean ====
/- One grid point's block of the projection's gradient. -/
module

public import proofs.«01_k».proof.Proof.FoxPoint

@[expose] public section
set_option maxRecDepth 16384
noncomputable section
open Idealize.ShloMosaic Idealize.ShloMosaic.TcCoe Idealize.SL.Sem
open Idealize.ShloMosaic.Pipeline (Dat)
open scoped BigOperators
namespace Cert.FoxIdeal.Hand
open Cert.FoxIdeal Cert.FoxIdeal.Gen
variable (m : (ℓ : Loc nD τ sig) → Buf (Elt Ideal) ℓ)

theorem side_eq {a b : ℕ → ℕ → EReal} {O : ℕ → ℕ → ℕ → EReal} {T r l : ℕ} (ha : ∀ r j, a r j = O (2 * T + 0) r j)
    (hb : ∀ r j, b r j = O (2 * T + 1) r j) (hl : l < 128) {r' l' : ℕ} (hr : r' = r) (hl' : l' = l) :
    (if l < 64 then a r l else b r (l - 64)) = O (2 * T + l' / 64) r' (l' % 64) := by
  subst hr hl'
  by_cases h : l' < 64
  · rw [if_pos h, ha, Nat.div_eq_of_lt h, Nat.mod_eq_of_lt h]
  · rw [if_neg h, hb, show l' / 64 = 1 by omega, show l' % 64 = l' - 64 by omega]

/-- Head `g`'s three gradients: its queries', its keys', its values'. -/
def Args.grad (A : Args) (p g r j : ℕ) : EReal :=
  if p = 0 then back (A.qx g) A.gq (A.dqn g) r j else if p = 1 then back (A.kx g) A.gk (A.dkn g) r j else A.dvn g r j

set_option maxHeartbeats 2000000 in
theorem out9 (A : Args) (c : Dev nD) (t : Fin cfg0.N)
    (hB : Blocks A (grid0.coords t 0).val (iblk m c 0 t) (iblk m c 1 t) (iblk m c 2 t) (iblk m c 3 t) (iblk m c 4 t)
      (iblk m c 5 t) (iblk m c 6 t) (iblk m c 7 t) (iblk m c 8 t))
   (p : Fin 3) (r : Fin 2048) (l : Fin 128) : ((outsAt0 m c t.val t.isLt).1 (ix3 p r l) : EReal)
    = A.grad p.val (2 * (grid0.coords t 0).val + l.val / 64) r.val (l.val % 64) := by
  have hI0 := ins0 hB (grid0.coords t 0).isLt inb_S2048x128_S2048x64_0_0 inb_S1x2x2048_S1x1x2048_0_0_0 inb_S1x8x2048_S1x1x2048_0_0_0
  have hR0 := reads0 (t := grid0.coords t 0) hI0
  have hT0 := key_across hI0.k hI0.gk
  have hI1 := ins1 hB (grid0.coords t 0).isLt inb_S2048x128_S2048x64_0_64 inb_S1x2x2048_S1x1x2048_0_1_0 inb_S1x8x2048_S1x1x2048_0_1_0
  have hR1 := reads1 (t := grid0.coords t 0) hI1
  have hT1 := key_across hI1.k hI1.gk
  rcases em (t.val % 8 = 0) with h | h
  on_goal 1 => rw [outsAt0_A m c t h]
  on_goal 2 => rw [outsAt0_B m c t h]
  all_goals
    frame_out
    canon_tiles x h
    · refine (sides_at _ _ (A.dvn (2 * (grid0.coords t 0).val + 0)) (A.dvn (2 * (grid0.coords t 0).val + 1)) ?_ ?_ x).trans ?_
      · exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill _) (dv_at shape0 hR0 (cut slices_S2048x64_o0_0_S256x64 slices_S2048x1_o0_0_S256x1 (by decide) hR0))) (dv_at shape1 hR0 (cut slices_S2048x64_o0_0_S512x64 slices_S2048x1_o0_0_S512x1 (by decide) hR0))) (dv_at shape2 hR0 (cut slices_S2048x64_o0_0_S768x64 slices_S2048x1_o0_0_S768x1 (by decide) hR0))) (dv_at shape3 hR0 (cut slices_S2048x64_o0_0_S1024x64 slices_S2048x1_o0_0_S1024x1 (by decide) hR0))) (dv_at shape4 hR0 (cut slices_S2048x64_o0_0_S1280x64 slices_S2048x1_o0_0_S1280x1 (by decide) hR0))) (dv_at shape5 hR0 (cut slices_S2048x64_o0_0_S1536x64 slices_S2048x1_o0_0_S1536x1 (by decide) hR0))) (dv_at shape6 hR0 (cut slices_S2048x64_o0_0_S1792x64 slices_S2048x1_o0_0_S1792x1 (by decide) hR0))) (dv_at shape7 hR0 (cut_whole hR0))
      · exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill _) (dv_at shape0 hR1 (cut slices_S2048x64_o0_0_S256x64 slices_S2048x1_o0_0_S256x1 (by decide) hR1))) (dv_at shape1 hR1 (cut slices_S2048x64_o0_0_S512x64 slices_S2048x1_o0_0_S512x1 (by decide) hR1))) (dv_at shape2 hR1 (cut slices_S2048x64_o0_0_S768x64 slices_S2048x1_o0_0_S768x1 (by decide) hR1))) (dv_at shape3 hR1 (cut slices_S2048x64_o0_0_S1024x64 slices_S2048x1_o0_0_S1024x1 (by decide) hR1))) (dv_at shape4 hR1 (cut slices_S2048x64_o0_0_S1280x64 slices_S2048x1_o0_0_S1280x1 (by decide) hR1))) (dv_at shape5 hR1 (cut slices_S2048x64_o0_0_S1536x64 slices_S2048x1_o0_0_S1536x1 (by decide) hR1))) (dv_at shape6 hR1 (cut slices_S2048x64_o0_0_S1792x64 slices_S2048x1_o0_0_S1792x1 (by decide) hR1))) (dv_at shape7 hR1 (cut_whole hR1))
      refine (side_eq (O := A.grad 2) (fun _ _ => rfl) (fun _ _ => rfl) x2_lt h1 h2).trans ?_
      exact congrArg (fun q => A.grad q _ _ _) (show (2 : ℕ) = p.val from (h0.trans (by omega)).symm)
    · refine (sides_at _ _ (back (A.kx (2 * (grid0.coords t 0).val + 0)) A.gk (A.dkn (2 * (grid0.coords t 0).val + 0)))
        (back (A.kx (2 * (grid0.coords t 0).val + 1)) A.gk (A.dkn (2 * (grid0.coords t 0).val + 1))) ?_ ?_ x).trans ?_
      · refine keyBack0 hI0.k hI0.gk ?_
        exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill _) (dk_at shape0 hR0 (cut slices_S2048x64_o0_0_S256x64 slices_S2048x1_o0_0_S256x1 (by decide) hR0))) (dk_at shape1 hR0 (cut slices_S2048x64_o0_0_S512x64 slices_S2048x1_o0_0_S512x1 (by decide) hR0))) (dk_at shape2 hR0 (cut slices_S2048x64_o0_0_S768x64 slices_S2048x1_o0_0_S768x1 (by decide) hR0))) (dk_at shape3 hR0 (cut slices_S2048x64_o0_0_S1024x64 slices_S2048x1_o0_0_S1024x1 (by decide) hR0))) (dk_at shape4 hR0 (cut slices_S2048x64_o0_0_S1280x64 slices_S2048x1_o0_0_S1280x1 (by decide) hR0))) (dk_at shape5 hR0 (cut slices_S2048x64_o0_0_S1536x64 slices_S2048x1_o0_0_S1536x1 (by decide) hR0))) (dk_at shape6 hR0 (cut slices_S2048x64_o0_0_S1792x64 slices_S2048x1_o0_0_S1792x1 (by decide) hR0))) (dk_at shape7 hR0 (cut_whole hR0))
      · refine keyBack1 hI1.k hI1.gk ?_
        exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill _) (dk_at shape0 hR1 (cut slices_S2048x64_o0_0_S256x64 slices_S2048x1_o0_0_S256x1 (by decide) hR1))) (dk_at shape1 hR1 (cut slices_S2048x64_o0_0_S512x64 slices_S2048x1_o0_0_S512x1 (by decide) hR1))) (dk_at shape2 hR1 (cut slices_S2048x64_o0_0_S768x64 slices_S2048x1_o0_0_S768x1 (by decide) hR1))) (dk_at shape3 hR1 (cut slices_S2048x64_o0_0_S1024x64 slices_S2048x1_o0_0_S1024x1 (by decide) hR1))) (dk_at shape4 hR1 (cut slices_S2048x64_o0_0_S1280x64 slices_S2048x1_o0_0_S1280x1 (by decide) hR1))) (dk_at shape5 hR1 (cut slices_S2048x64_o0_0_S1536x64 slices_S2048x1_o0_0_S1536x1 (by decide) hR1))) (dk_at shape6 hR1 (cut slices_S2048x64_o0_0_S1792x64 slices_S2048x1_o0_0_S1792x1 (by decide) hR1))) (dk_at shape7 hR1 (cut_whole hR1))
      refine (side_eq (O := A.grad 1) (fun _ _ => rfl) (fun _ _ => rfl) x2_lt h1 h2).trans ?_
      exact congrArg (fun q => A.grad q _ _ _) (show (1 : ℕ) = p.val from (h0.trans (by omega)).symm)
    · refine (sides_at _ _ (back (A.qx (2 * (grid0.coords t 0).val + 0)) A.gq (A.dqn (2 * (grid0.coords t 0).val + 0)))
        (back (A.qx (2 * (grid0.coords t 0).val + 1)) A.gq (A.dqn (2 * (grid0.coords t 0).val + 1))) ?_ ?_ x).trans ?_
      · refine queryBack0 hI0.q hI0.gq ?_
        exact stack_at _ _ _ _ _ _ _ _ _
          (dq_at shape0 hR0 (cut slices_S2048x64_o0_0_S256x64 slices_S2048x1_o0_0_S256x1 (by decide) hR0) _ (cut_across slices_S64x2048_o0_0_S64x256 (by decide) _ hT0))
          (dq_at shape1 hR0 (cut slices_S2048x64_o0_0_S512x64 slices_S2048x1_o0_0_S512x1 (by decide) hR0) _ (cut_across slices_S64x2048_o0_0_S64x512 (by decide) _ hT0))
          (dq_at shape2 hR0 (cut slices_S2048x64_o0_0_S768x64 slices_S2048x1_o0_0_S768x1 (by decide) hR0) _ (cut_across slices_S64x2048_o0_0_S64x768 (by decide) _ hT0))
          (dq_at shape3 hR0 (cut slices_S2048x64_o0_0_S1024x64 slices_S2048x1_o0_0_S1024x1 (by decide) hR0) _ (cut_across slices_S64x2048_o0_0_S64x1024 (by decide) _ hT0))
          (dq_at shape4 hR0 (cut slices_S2048x64_o0_0_S1280x64 slices_S2048x1_o0_0_S1280x1 (by decide) hR0) _ (cut_across slices_S64x2048_o0_0_S64x1280 (by decide) _ hT0))
          (dq_at shape5 hR0 (cut slices_S2048x64_o0_0_S1536x64 slices_S2048x1_o0_0_S1536x1 (by decide) hR0) _ (cut_across slices_S64x2048_o0_0_S64x1536 (by decide) _ hT0))
          (dq_at shape6 hR0 (cut slices_S2048x64_o0_0_S1792x64 slices_S2048x1_o0_0_S1792x1 (by decide) hR0) _ (cut_across slices_S64x2048_o0_0_S64x1792 (by decide) _ hT0))
          (dq_at shape7 hR0 (cut_whole hR0) _ hT0)
      · refine queryBack1 hI1.q hI1.gq ?_
        exact stack_at _ _ _ _ _ _ _ _ _
          (dq_at shape0 hR1 (cut slices_S2048x64_o0_0_S256x64 slices_S2048x1_o0_0_S256x1 (by decide) hR1) _ (cut_across slices_S64x2048_o0_0_S64x256 (by decide) _ hT1))
          (dq_at shape1 hR1 (cut slices_S2048x64_o0_0_S512x64 slices_S2048x1_o0_0_S512x1 (by decide) hR1) _ (cut_across slices_S64x2048_o0_0_S64x512 (by decide) _ hT1))
          (dq_at shape2 hR1 (cut slices_S2048x64_o0_0_S768x64 slices_S2048x1_o0_0_S768x1 (by decide) hR1) _ (cut_across slices_S64x2048_o0_0_S64x768 (by decide) _ hT1))
          (dq_at shape3 hR1 (cut slices_S2048x64_o0_0_S1024x64 slices_S2048x1_o0_0_S1024x1 (by decide) hR1) _ (cut_across slices_S64x2048_o0_0_S64x1024 (by decide) _ hT1))
          (dq_at shape4 hR1 (cut slices_S2048x64_o0_0_S1280x64 slices_S2048x1_o0_0_S1280x1 (by decide) hR1) _ (cut_across slices_S64x2048_o0_0_S64x1280 (by decide) _ hT1))
          (dq_at shape5 hR1 (cut slices_S2048x64_o0_0_S1536x64 slices_S2048x1_o0_0_S1536x1 (by decide) hR1) _ (cut_across slices_S64x2048_o0_0_S64x1536 (by decide) _ hT1))
          (dq_at shape6 hR1 (cut slices_S2048x64_o0_0_S1792x64 slices_S2048x1_o0_0_S1792x1 (by decide) hR1) _ (cut_across slices_S64x2048_o0_0_S64x1792 (by decide) _ hT1))
          (dq_at shape7 hR1 (cut_whole hR1) _ hT1)
      refine (side_eq (O := A.grad 0) (fun _ _ => rfl) (fun _ _ => rfl) x2_lt h1 h2).trans ?_
      exact congrArg (fun q => A.grad q _ _ _) (show (0 : ℕ) = p.val from (h0.trans (by omega)).symm)
end Cert.FoxIdeal.Hand
-- ==== Proof.FoxOut1.lean ====
/- One grid point's parts of the decays' gradient and of the two norm weights' gradients. -/
module

public import proofs.«01_k».proof.Proof.FoxPoint

@[expose] public section
set_option maxRecDepth 16384
noncomputable section
open Idealize.ShloMosaic Idealize.ShloMosaic.TcCoe Idealize.SL.Sem
open Idealize.ShloMosaic.Pipeline (Dat)
open scoped BigOperators
namespace Cert.FoxIdeal.Hand
open Cert.FoxIdeal Cert.FoxIdeal.Gen
variable (m : (ℓ : Loc nD τ sig) → Buf (Elt Ideal) ℓ)

/-- The decays' gradient after point `T`: its two heads' lanes, the others as they were. -/
def Args.decay (A : Args) (T : ℕ) (old : EReal) (r l : ℕ) : EReal :=
  if l = 2 * T + 1 then A.dcn (2 * T + 1) r else if l = 2 * T + 0 then A.dcn (2 * T + 0) r else old
/-- Head `g`'s part of the query norm's and of the key norm's weight's gradient. -/
def Args.wq (A : Args) (g j : ℕ) : EReal := weigh (A.qx g) (A.dqn g) j
def Args.wk (A : Args) (g j : ℕ) : EReal := weigh (A.kx g) (A.dkn g) j

omit m in
theorem decay_of {A : Args} (t : Fin 8) (io io') {a1 a0 old : FVec Ideal S2048x128 .f32}
    (h1 : ∀ r j, a1 (ix2 r j) = total (A.head (2 * t.val + 1)).dcC r.val j.val)
    (h0 : ∀ r j, a0 (ix2 r j) = total (A.head (2 * t.val + 0)).dcC r.val j.val) (r : Fin 2048) (l : Fin 128) {o : EReal}
    (ho : old (ix2 r l) = o) :
    k0_pay239 (F := Ideal) (BitVec.ofNat 32 t.val) (iota Kind.tc S2048x128 32 [1] io) a1
      (k0_pay123 (F := Ideal) (BitVec.ofNat 32 t.val) (iota Kind.tc S2048x128 32 [1] io') a0 old) (ix2 r l)
      = A.decay t.val o r.val l.val := by
  refine (put1_at t io a1 _ r l).trans ?_
  unfold Args.decay Args.dcn
  simp only [h1]
  rw [put0_at t io' a0 old r l]
  simp only [h0, ho]

section
variable {x0 x1 D0 D1 : ℕ → ℕ → EReal} {v w : FVec Ideal S2048x64 .f32} {old : FVec Ideal S1x64 .f32} {o : EReal}
  (hv : ∀ r j, v (ix2 r j) = x0 r.val j.val) (hw : ∀ r j, w (ix2 r j) = x1 r.val j.val) {i : Fin 1} {j : Fin 64}
  (ho : old (ix2 i j) = o)
include hv hw ho
omit m in
theorem queries_of {b0 b1 b2 b3 b4 b5 b6 b7 c0 c1 c2 c3 c4 c5 c6 c7 : FVec Ideal S256x64 .f32}
    (h0 : ∀ r j, k0_pay113 (F := Ideal) b0 b1 b2 b3 b4 b5 b6 b7 (ix2 r j) = D0 r.val j.val)
    (h1 : ∀ r j, k0_pay113 (F := Ideal) c0 c1 c2 c3 c4 c5 c6 c7 (ix2 r j) = D1 r.val j.val) :
    k0_pay237 (F := Ideal) (k0_pay230 (k0_pay127 w) c0 c1 c2 c3 c4 c5 c6 c7)
      (k0_pay121 (F := Ideal) (k0_pay114 (k0_pay9 v) b0 b1 b2 b3 b4 b5 b6 b7) old) (ix2 i j)
      = (o + weigh x0 D0 j.val) + weigh x1 D1 j.val := by
  have e0 : k0_pay114 (F := Ideal) (k0_pay9 v) b0 b1 b2 b3 b4 b5 b6 b7 (ix2 i j) = weigh x0 D0 j.val := weigh_at hv h0 i j
  have e1 : k0_pay230 (F := Ideal) (k0_pay127 w) c0 c1 c2 c3 c4 c5 c6 c7 (ix2 i j) = weigh x1 D1 j.val := weigh_at hw h1 i j
  unfold k0_pay237 k0_pay121
  rw [shapeCast_self, shapeCast_self]
  exact (congrArg₂ (· + ·) (congrArg₂ (· + ·) ho e0) e1 : _)
omit m in
theorem keys_of {a b : FVec Ideal S2048x64 .f32} (h0 : ∀ r j, a (ix2 r j) = D0 r.val j.val)
    (h1 : ∀ r j, b (ix2 r j) = D1 r.val j.val) :
    k0_pay238 (F := Ideal) (k0_pay232 (k0_pay131 w) b) (k0_pay122 (F := Ideal) (k0_pay116 (k0_pay14 v) a) old) (ix2 i j)
      = (o + weigh x0 D0 j.val) + weigh x1 D1 j.val := by
  have e0 : k0_pay116 (F := Ideal) (k0_pay14 v) a (ix2 i j) = weigh x0 D0 j.val := weigh_at hv h0 i j
  have e1 : k0_pay232 (F := Ideal) (k0_pay131 w) b (ix2 i j) = weigh x1 D1 j.val := weigh_at hw h1 i j
  unfold k0_pay238 k0_pay122
  rw [shapeCast_self, shapeCast_self]
  exact (congrArg₂ (· + ·) (congrArg₂ (· + ·) ho e0) e1 : _)
end

/-- The array before point `t` adds to it: zeros at the first point. -/
def before {S : Shape} (P : (n : ℕ) → n < cfg0.N → FVec Ideal S .f32) (t : Fin cfg0.N) (y : S.Idx) : EReal :=
  if h : t.val % 8 = 0 then (0 : EReal) else P (t.val - 1) (by omega) y

set_option maxHeartbeats 2000000 in
theorem out10 (A : Args) (c : Dev nD) (t : Fin cfg0.N)
    (hB : Blocks A (grid0.coords t 0).val (iblk m c 0 t) (iblk m c 1 t) (iblk m c 2 t) (iblk m c 3 t) (iblk m c 4 t)
      (iblk m c 5 t) (iblk m c 6 t) (iblk m c 7 t) (iblk m c 8 t))
   (r : Fin 2048) (l : Fin 128) : ((outsAt0 m c t.val t.isLt).2.1 (ix2 r l) : EReal)
    = A.decay (grid0.coords t 0).val (before (fun n h => show FVec Ideal _ .f32 from (outsAt0 m c n h).2.1) t (ix2 r l)) r.val l.val := by
  have hI0 := ins0 hB (grid0.coords t 0).isLt inb_S2048x128_S2048x64_0_0 inb_S1x2x2048_S1x1x2048_0_0_0 inb_S1x8x2048_S1x1x2048_0_0_0
  have hR0 := reads0 (t := grid0.coords t 0) hI0
  have hT0 := key_across hI0.k hI0.gk
  have hI1 := ins1 hB (grid0.coords t 0).isLt inb_S2048x128_S2048x64_0_64 inb_S1x2x2048_S1x1x2048_0_1_0 inb_S1x8x2048_S1x1x2048_0_1_0
  have hR1 := reads1 (t := grid0.coords t 0) hI1
  have hT1 := key_across hI1.k hI1.gk
  unfold before
  rcases em (t.val % 8 = 0) with h | h
  on_goal 1 => rw [outsAt0_A m c t h, dif_pos h]
  on_goal 2 => rw [outsAt0_B m c t h, dif_neg h]
  all_goals
    frame_out
    refine decay_of (grid0.coords t 0) _ _ ?_ ?_ r l ?_
    · exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill_lanes _) (dc_at shape0 hR1 (cut slices_S2048x64_o0_0_S256x64 slices_S2048x1_o0_0_S256x1 (by decide) hR1) slices_S256x256_o0_0_S256x128 slices_S256x256_o0_128_S256x128)) (dc_at shape1 hR1 (cut slices_S2048x64_o0_0_S512x64 slices_S2048x1_o0_0_S512x1 (by decide) hR1) slices_S512x256_o0_0_S512x128 slices_S512x256_o0_128_S512x128)) (dc_at shape2 hR1 (cut slices_S2048x64_o0_0_S768x64 slices_S2048x1_o0_0_S768x1 (by decide) hR1) slices_S768x256_o0_0_S768x128 slices_S768x256_o0_128_S768x128)) (dc_at shape3 hR1 (cut slices_S2048x64_o0_0_S1024x64 slices_S2048x1_o0_0_S1024x1 (by decide) hR1) slices_S1024x256_o0_0_S1024x128 slices_S1024x256_o0_128_S1024x128)) (dc_at shape4 hR1 (cut slices_S2048x64_o0_0_S1280x64 slices_S2048x1_o0_0_S1280x1 (by decide) hR1) slices_S1280x256_o0_0_S1280x128 slices_S1280x256_o0_128_S1280x128)) (dc_at shape5 hR1 (cut slices_S2048x64_o0_0_S1536x64 slices_S2048x1_o0_0_S1536x1 (by decide) hR1) slices_S1536x256_o0_0_S1536x128 slices_S1536x256_o0_128_S1536x128)) (dc_at shape6 hR1 (cut slices_S2048x64_o0_0_S1792x64 slices_S2048x1_o0_0_S1792x1 (by decide) hR1) slices_S1792x256_o0_0_S1792x128 slices_S1792x256_o0_128_S1792x128)) (dc_at shape7 hR1 (cut_whole hR1) slices_S2048x256_o0_0_S2048x128 slices_S2048x256_o0_128_S2048x128)
    · exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill_lanes _) (dc_at shape0 hR0 (cut slices_S2048x64_o0_0_S256x64 slices_S2048x1_o0_0_S256x1 (by decide) hR0) slices_S256x256_o0_0_S256x128 slices_S256x256_o0_128_S256x128)) (dc_at shape1 hR0 (cut slices_S2048x64_o0_0_S512x64 slices_S2048x1_o0_0_S512x1 (by decide) hR0) slices_S512x256_o0_0_S512x128 slices_S512x256_o0_128_S512x128)) (dc_at shape2 hR0 (cut slices_S2048x64_o0_0_S768x64 slices_S2048x1_o0_0_S768x1 (by decide) hR0) slices_S768x256_o0_0_S768x128 slices_S768x256_o0_128_S768x128)) (dc_at shape3 hR0 (cut slices_S2048x64_o0_0_S1024x64 slices_S2048x1_o0_0_S1024x1 (by decide) hR0) slices_S1024x256_o0_0_S1024x128 slices_S1024x256_o0_128_S1024x128)) (dc_at shape4 hR0 (cut slices_S2048x64_o0_0_S1280x64 slices_S2048x1_o0_0_S1280x1 (by decide) hR0) slices_S1280x256_o0_0_S1280x128 slices_S1280x256_o0_128_S1280x128)) (dc_at shape5 hR0 (cut slices_S2048x64_o0_0_S1536x64 slices_S2048x1_o0_0_S1536x1 (by decide) hR0) slices_S1536x256_o0_0_S1536x128 slices_S1536x256_o0_128_S1536x128)) (dc_at shape6 hR0 (cut slices_S2048x64_o0_0_S1792x64 slices_S2048x1_o0_0_S1792x1 (by decide) hR0) slices_S1792x256_o0_0_S1792x128 slices_S1792x256_o0_128_S1792x128)) (dc_at shape7 hR0 (cut_whole hR0) slices_S2048x256_o0_0_S2048x128 slices_S2048x256_o0_128_S2048x128)
  · pointwise [k0_pay5]
  · rfl

set_option maxHeartbeats 2000000 in
theorem out11 (A : Args) (c : Dev nD) (t : Fin cfg0.N)
    (hB : Blocks A (grid0.coords t 0).val (iblk m c 0 t) (iblk m c 1 t) (iblk m c 2 t) (iblk m c 3 t) (iblk m c 4 t)
      (iblk m c 5 t) (iblk m c 6 t) (iblk m c 7 t) (iblk m c 8 t))
   (i : Fin 1) (j : Fin 64) : ((outsAt0 m c t.val t.isLt).2.2.1 (ix2 i j) : EReal)
    = (before (fun n h => show FVec Ideal _ .f32 from (outsAt0 m c n h).2.2.1) t (ix2 i j) + A.wq (2 * (grid0.coords t 0).val + 0) j.val)
      + A.wq (2 * (grid0.coords t 0).val + 1) j.val := by
  have hI0 := ins0 hB (grid0.coords t 0).isLt inb_S2048x128_S2048x64_0_0 inb_S1x2x2048_S1x1x2048_0_0_0 inb_S1x8x2048_S1x1x2048_0_0_0
  have hR0 := reads0 (t := grid0.coords t 0) hI0
  have hT0 := key_across hI0.k hI0.gk
  have hI1 := ins1 hB (grid0.coords t 0).isLt inb_S2048x128_S2048x64_0_64 inb_S1x2x2048_S1x1x2048_0_1_0 inb_S1x8x2048_S1x1x2048_0_1_0
  have hR1 := reads1 (t := grid0.coords t 0) hI1
  have hT1 := key_across hI1.k hI1.gk
  unfold before
  rcases em (t.val % 8 = 0) with h | h
  on_goal 1 => rw [outsAt0_A m c t h, dif_pos h]
  on_goal 2 => rw [outsAt0_B m c t h, dif_neg h]
  all_goals
    frame_out
    refine queries_of hI0.q hI1.q ?_ ?_ ?_
    rotate_left
    · exact stack_at _ _ _ _ _ _ _ _ _
          (dq_at shape0 hR0 (cut slices_S2048x64_o0_0_S256x64 slices_S2048x1_o0_0_S256x1 (by decide) hR0) _ (cut_across slices_S64x2048_o0_0_S64x256 (by decide) _ hT0))
          (dq_at shape1 hR0 (cut slices_S2048x64_o0_0_S512x64 slices_S2048x1_o0_0_S512x1 (by decide) hR0) _ (cut_across slices_S64x2048_o0_0_S64x512 (by decide) _ hT0))
          (dq_at shape2 hR0 (cut slices_S2048x64_o0_0_S768x64 slices_S2048x1_o0_0_S768x1 (by decide) hR0) _ (cut_across slices_S64x2048_o0_0_S64x768 (by decide) _ hT0))
          (dq_at shape3 hR0 (cut slices_S2048x64_o0_0_S1024x64 slices_S2048x1_o0_0_S1024x1 (by decide) hR0) _ (cut_across slices_S64x2048_o0_0_S64x1024 (by decide) _ hT0))
          (dq_at shape4 hR0 (cut slices_S2048x64_o0_0_S1280x64 slices_S2048x1_o0_0_S1280x1 (by decide) hR0) _ (cut_across slices_S64x2048_o0_0_S64x1280 (by decide) _ hT0))
          (dq_at shape5 hR0 (cut slices_S2048x64_o0_0_S1536x64 slices_S2048x1_o0_0_S1536x1 (by decide) hR0) _ (cut_across slices_S64x2048_o0_0_S64x1536 (by decide) _ hT0))
          (dq_at shape6 hR0 (cut slices_S2048x64_o0_0_S1792x64 slices_S2048x1_o0_0_S1792x1 (by decide) hR0) _ (cut_across slices_S64x2048_o0_0_S64x1792 (by decide) _ hT0))
          (dq_at shape7 hR0 (cut_whole hR0) _ hT0)
    · exact stack_at _ _ _ _ _ _ _ _ _
          (dq_at shape0 hR1 (cut slices_S2048x64_o0_0_S256x64 slices_S2048x1_o0_0_S256x1 (by decide) hR1) _ (cut_across slices_S64x2048_o0_0_S64x256 (by decide) _ hT1))
          (dq_at shape1 hR1 (cut slices_S2048x64_o0_0_S512x64 slices_S2048x1_o0_0_S512x1 (by decide) hR1) _ (cut_across slices_S64x2048_o0_0_S64x512 (by decide) _ hT1))
          (dq_at shape2 hR1 (cut slices_S2048x64_o0_0_S768x64 slices_S2048x1_o0_0_S768x1 (by decide) hR1) _ (cut_across slices_S64x2048_o0_0_S64x768 (by decide) _ hT1))
          (dq_at shape3 hR1 (cut slices_S2048x64_o0_0_S1024x64 slices_S2048x1_o0_0_S1024x1 (by decide) hR1) _ (cut_across slices_S64x2048_o0_0_S64x1024 (by decide) _ hT1))
          (dq_at shape4 hR1 (cut slices_S2048x64_o0_0_S1280x64 slices_S2048x1_o0_0_S1280x1 (by decide) hR1) _ (cut_across slices_S64x2048_o0_0_S64x1280 (by decide) _ hT1))
          (dq_at shape5 hR1 (cut slices_S2048x64_o0_0_S1536x64 slices_S2048x1_o0_0_S1536x1 (by decide) hR1) _ (cut_across slices_S64x2048_o0_0_S64x1536 (by decide) _ hT1))
          (dq_at shape6 hR1 (cut slices_S2048x64_o0_0_S1792x64 slices_S2048x1_o0_0_S1792x1 (by decide) hR1) _ (cut_across slices_S64x2048_o0_0_S64x1792 (by decide) _ hT1))
          (dq_at shape7 hR1 (cut_whole hR1) _ hT1)
  · pointwise [k0_pay3]
  · rfl

set_option maxHeartbeats 2000000 in
theorem out12 (A : Args) (c : Dev nD) (t : Fin cfg0.N)
    (hB : Blocks A (grid0.coords t 0).val (iblk m c 0 t) (iblk m c 1 t) (iblk m c 2 t) (iblk m c 3 t) (iblk m c 4 t)
      (iblk m c 5 t) (iblk m c 6 t) (iblk m c 7 t) (iblk m c 8 t))
   (i : Fin 1) (j : Fin 64) : ((outsAt0 m c t.val t.isLt).2.2.2 (ix2 i j) : EReal)
    = (before (fun n h => show FVec Ideal _ .f32 from (outsAt0 m c n h).2.2.2) t (ix2 i j) + A.wk (2 * (grid0.coords t 0).val + 0) j.val)
      + A.wk (2 * (grid0.coords t 0).val + 1) j.val := by
  have hI0 := ins0 hB (grid0.coords t 0).isLt inb_S2048x128_S2048x64_0_0 inb_S1x2x2048_S1x1x2048_0_0_0 inb_S1x8x2048_S1x1x2048_0_0_0
  have hR0 := reads0 (t := grid0.coords t 0) hI0
  have hT0 := key_across hI0.k hI0.gk
  have hI1 := ins1 hB (grid0.coords t 0).isLt inb_S2048x128_S2048x64_0_64 inb_S1x2x2048_S1x1x2048_0_1_0 inb_S1x8x2048_S1x1x2048_0_1_0
  have hR1 := reads1 (t := grid0.coords t 0) hI1
  have hT1 := key_across hI1.k hI1.gk
  unfold before
  rcases em (t.val % 8 = 0) with h | h
  on_goal 1 => rw [outsAt0_A m c t h, dif_pos h]
  on_goal 2 => rw [outsAt0_B m c t h, dif_neg h]
  all_goals
    frame_out
    refine keys_of hI0.k hI1.k ?_ ?_ ?_
    rotate_left
    · exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill _) (dk_at shape0 hR0 (cut slices_S2048x64_o0_0_S256x64 slices_S2048x1_o0_0_S256x1 (by decide) hR0))) (dk_at shape1 hR0 (cut slices_S2048x64_o0_0_S512x64 slices_S2048x1_o0_0_S512x1 (by decide) hR0))) (dk_at shape2 hR0 (cut slices_S2048x64_o0_0_S768x64 slices_S2048x1_o0_0_S768x1 (by decide) hR0))) (dk_at shape3 hR0 (cut slices_S2048x64_o0_0_S1024x64 slices_S2048x1_o0_0_S1024x1 (by decide) hR0))) (dk_at shape4 hR0 (cut slices_S2048x64_o0_0_S1280x64 slices_S2048x1_o0_0_S1280x1 (by decide) hR0))) (dk_at shape5 hR0 (cut slices_S2048x64_o0_0_S1536x64 slices_S2048x1_o0_0_S1536x1 (by decide) hR0))) (dk_at shape6 hR0 (cut slices_S2048x64_o0_0_S1792x64 slices_S2048x1_o0_0_S1792x1 (by decide) hR0))) (dk_at shape7 hR0 (cut_whole hR0))
    · exact acc_last _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_step _ _ _ _ _ _ _ (old_read _ _ _)
          (acc_zero _ _ zero_fill _) (dk_at shape0 hR1 (cut slices_S2048x64_o0_0_S256x64 slices_S2048x1_o0_0_S256x1 (by decide) hR1))) (dk_at shape1 hR1 (cut slices_S2048x64_o0_0_S512x64 slices_S2048x1_o0_0_S512x1 (by decide) hR1))) (dk_at shape2 hR1 (cut slices_S2048x64_o0_0_S768x64 slices_S2048x1_o0_0_S768x1 (by decide) hR1))) (dk_at shape3 hR1 (cut slices_S2048x64_o0_0_S1024x64 slices_S2048x1_o0_0_S1024x1 (by decide) hR1))) (dk_at shape4 hR1 (cut slices_S2048x64_o0_0_S1280x64 slices_S2048x1_o0_0_S1280x1 (by decide) hR1))) (dk_at shape5 hR1 (cut slices_S2048x64_o0_0_S1536x64 slices_S2048x1_o0_0_S1536x1 (by decide) hR1))) (dk_at shape6 hR1 (cut slices_S2048x64_o0_0_S1792x64 slices_S2048x1_o0_0_S1792x1 (by decide) hR1))) (dk_at shape7 hR1 (cut_whole hR1))
  · pointwise [k0_pay4]
  · rfl
end Cert.FoxIdeal.Hand
-- ==== Proof.FoxArr.lean ====
/- What the kernel's four results hold, from the points' blocks. -/
module

public import proofs.«01_k».proof.Proof.FoxBlocks
public import proofs.«01_k».proof.Proof.FoxOut9
public import proofs.«01_k».proof.Proof.FoxOut1

@[expose] public section
set_option maxRecDepth 16384
noncomputable section
open Idealize.ShloMosaic Idealize.ShloMosaic.TcCoe Idealize.SL.Sem
open Idealize.ShloMosaic.Pipeline (Dat)
open scoped BigOperators
namespace Cert.FoxIdeal.Hand
open Cert.FoxIdeal Cert.FoxIdeal.Gen
variable (m : (ℓ : Loc nD τ sig) → Buf (Elt Ideal) ℓ) (c : Dev nD)

theorem final9 : (dats m 0 c).arrAt 9 cfg0.N
    = fun (i : S3x2048x1024.Idx) => (args m c).grad (i 0).val ((i 2).val / 64) (i 1).val ((i 2).val % 64) := by
  refine (dats m 0 c).arrAt_eq_of_covers 9 _ (by decide +kernel) fun t hf y => ?_
  blk_simp
  rw [after0_9]
  idx_vars y
  refine (out9 m (args m c) c t (blocks m c t) y0 y1 y2).trans ?_
  have h2 : y2.val < 128 := y2.isLt
  rw [coord_val, (places t).2.2.2.2.2.2.2.2.2]
  have e0 : y0.val = (![0, 0, t.val] : Fin 3 → ℕ) 0 * 3 + y0.val := by simp
  have e1 : y1.val = (![0, 0, t.val] : Fin 3 → ℕ) 1 * 2048 + y1.val := by simp
  have e2 : 2 * t.val + y2.val / 64 = ((![0, 0, t.val] : Fin 3 → ℕ) 2 * 128 + y2.val) / 64 := by simp; omega
  have e3 : y2.val % 64 = ((![0, 0, t.val] : Fin 3 → ℕ) 2 * 128 + y2.val) % 64 := by simp; omega
  rw [e2, e3]
  exact congrArg₂ (fun a b => (args m c).grad a _ b _) e0 e1

theorem decay_step (A : Args) (r l n : ℕ) {old : EReal} (h1 : l < 2 * n → old = A.dcn l r) (h2 : ¬ l < 2 * n → old = 0) :
    A.decay n old r l = if l < 2 * n + 2 then A.dcn l r else 0 := by
  unfold Args.decay
  by_cases e1 : l = 2 * n + 1
  · rw [if_pos e1, if_pos (by omega), e1]
  rw [if_neg e1]
  by_cases e2 : l = 2 * n + 0
  · rw [if_pos e2, if_pos (by omega), e2]
  rw [if_neg e2]
  by_cases e3 : l < 2 * n
  · rw [if_pos (by omega), h1 e3]
  · rw [if_neg (by omega), h2 e3]

/-- The decays' gradients after point `n`. -/
theorem decay_run (r : Fin 2048) (l : Fin 128) : ∀ (n : ℕ) (h : n < cfg0.N),
    ((outsAt0 m c n h).2.1 (ix2 r l) : EReal) = if l.val < 2 * n + 2 then (args m c).dcn l.val r.val else 0 := by
  intro n
  induction n with
  | zero =>
    intro h
    have key := out10 m (args m c) c ⟨0, h⟩ (blocks m c ⟨0, h⟩) r l
    rw [coord_val] at key
    refine key.trans ?_
    unfold before
    rw [dif_pos (by simp)]
    exact decay_step _ _ _ 0 (fun h => absurd h (by omega)) (fun _ => rfl)
  | succ n ih =>
    intro h
    have h8 : n + 1 < 8 := lt_of_lt_of_eq h N_0
    have key := out10 m (args m c) c ⟨n + 1, h⟩ (blocks m c ⟨n + 1, h⟩) r l
    rw [coord_val] at key
    refine key.trans ?_
    unfold before
    rw [dif_neg (by show ¬ (n + 1) % 8 = 0; omega)]
    have e := ih (by omega)
    refine decay_step _ _ _ (n + 1) (fun h => e.trans (if_pos (by omega))) (fun h => e.trans (if_neg (by omega)))

/-- The norm weights' gradients after point `n`. -/
theorem sum_run (P : (n : ℕ) → n < cfg0.N → EReal) (w : ℕ → EReal)
    (h0 : ∀ h, P 0 h = (0 + w (2 * 0 + 0)) + w (2 * 0 + 1))
    (hs : ∀ n h, P (n + 1) h = (P n (by omega) + w (2 * (n + 1) + 0)) + w (2 * (n + 1) + 1)) :
    ∀ (n : ℕ) (h : n < cfg0.N), P n h = ∑ g ∈ Finset.range (2 * n + 2), w g := by
  intro n
  induction n with
  | zero => intro h; rw [h0]; simp [Finset.sum_range_succ]
  | succ n ih =>
    intro h
    rw [hs, ih, show 2 * (n + 1) + 2 = (2 * n + 2) + 1 + 1 from by omega, Finset.sum_range_succ w (2 * n + 2 + 1),
      Finset.sum_range_succ w (2 * n + 2)]
    rfl

theorem final10 : (dats m 0 c).arrAt 10 cfg0.N
    = fun (i : S2048x128.Idx) => if (i 1).val < 16 then (args m c).dcn (i 1).val (i 0).val else 0 := by
  refine (dats m 0 c).arrAt_eq_of_after_last 10 t0_7 (by decide +kernel) _ fun j => ?_
  blk_simp
  rw [after0_10]
  idx_vars j
  exact decay_run m c _ _ _ _

theorem final11 : (dats m 0 c).arrAt 11 cfg0.N
    = fun (i : S1x64.Idx) => ∑ g ∈ Finset.range 16, (args m c).wq g (i 1).val := by
  refine (dats m 0 c).arrAt_eq_of_after_last 11 t0_7 (by decide +kernel) _ fun j => ?_
  blk_simp
  rw [after0_11]
  idx_vars j
  obtain rfl : j0 = 0 := Subsingleton.elim _ _
  refine sum_run (fun n h => (outsAt0 m c n h).2.2.1 (ix2 0 j1)) (fun g => (args m c).wq g j1.val) (fun h => ?_) (fun n h => ?_) t0_7.val t0_7.isLt
  · have key := out11 m (args m c) c ⟨0, h⟩ (blocks m c ⟨0, h⟩) 0 j1
    rw [coord_val] at key
    refine key.trans ?_
    unfold before
    rw [dif_pos (by simp)]
  · have h8 : n + 1 < 8 := lt_of_lt_of_eq h N_0
    have key := out11 m (args m c) c ⟨n + 1, h⟩ (blocks m c ⟨n + 1, h⟩) 0 j1
    rw [coord_val] at key
    refine key.trans ?_
    unfold before
    rw [dif_neg (by show ¬ (n + 1) % 8 = 0; omega)]
    rfl

theorem final12 : (dats m 0 c).arrAt 12 cfg0.N
    = fun (i : S1x64.Idx) => ∑ g ∈ Finset.range 16, (args m c).wk g (i 1).val := by
  refine (dats m 0 c).arrAt_eq_of_after_last 12 t0_7 (by decide +kernel) _ fun j => ?_
  blk_simp
  rw [after0_12]
  idx_vars j
  obtain rfl : j0 = 0 := Subsingleton.elim _ _
  refine sum_run (fun n h => (outsAt0 m c n h).2.2.2 (ix2 0 j1)) (fun g => (args m c).wk g j1.val) (fun h => ?_) (fun n h => ?_) t0_7.val t0_7.isLt
  · have key := out12 m (args m c) c ⟨0, h⟩ (blocks m c ⟨0, h⟩) 0 j1
    rw [coord_val] at key
    refine key.trans ?_
    unfold before
    rw [dif_pos (by simp)]
  · have h8 : n + 1 < 8 := lt_of_lt_of_eq h N_0
    have key := out12 m (args m c) c ⟨n + 1, h⟩ (blocks m c ⟨n + 1, h⟩) 0 j1
    rw [coord_val] at key
    refine key.trans ?_
    unfold before
    rw [dif_neg (by show ¬ (n + 1) % 8 = 0; omega)]
    rfl
end Cert.FoxIdeal.Hand
-- ==== Proof.FoxMath.lean ====
/- One head's gradients over the reals: what the kernel's blocks of queries add up to. -/
module

public import proofs.«01_k».proof.Proof.FoxPoint

@[expose] public section
set_option maxRecDepth 16384
noncomputable section
open Idealize.ShloMosaic Idealize.ShloMosaic.TcCoe Idealize.SL.Sem
open scoped BigOperators
namespace Cert.FoxIdeal.Hand
open Cert.FoxIdeal Cert.FoxIdeal.Gen

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem wEighth_eq : wEighth = ((1 / 8 : ℝ) : EReal) := by
  unfold wEighth
  simp [Ideal.ofBits, Ideal.ieee]
  rw [← EReal.coe_mul]
  norm_num

/-- One head over the reals: normalised queries and keys, values, the output's cotangent, the decays, a shift per row. -/
structure RHead where
  Q : ℕ → ℕ → ℝ
  K : ℕ → ℕ → ℝ
  V : ℕ → ℕ → ℝ
  D : ℕ → ℕ → ℝ
  C : ℕ → ℝ
  M : ℕ → ℝ

namespace RHead
variable (H : RHead)
/-- The score, its exponential, their sum over a row, the probability. -/
def S (r k : ℕ) : ℝ := (∑ j : Fin 64, H.Q r j * H.K k j) * (1 / 8) + H.C r - H.C k
def E (r k : ℕ) : ℝ := if k ≤ r then Real.exp (H.S r k - H.M r) else 0
def Z (r : ℕ) : ℝ := ∑ k : Fin 2048, H.E r k
def P (r k : ℕ) : ℝ := H.E r k / H.Z r
/-- The cotangents of the probability and of the score. -/
def DP (r k : ℕ) : ℝ := ∑ j : Fin 64, H.V k j * H.D r j
def R (r : ℕ) : ℝ := ∑ k : Fin 2048, H.P r k * H.DP r k
def DS (r k : ℕ) : ℝ := H.P r k * (H.DP r k - H.R r)

theorem E_nonneg (r k : ℕ) : 0 ≤ H.E r k := by
  unfold E
  split_ifs
  exacts [(Real.exp_pos _).le, le_rfl]
theorem Z_pos {r : ℕ} (hr : r < 2048) : 0 < H.Z r := by
  refine Finset.sum_pos' (fun k _ => H.E_nonneg r k) ⟨⟨r, hr⟩, Finset.mem_univ _, ?_⟩
  unfold E
  rw [if_pos le_rfl]
  exact Real.exp_pos _
theorem P_above {r k : ℕ} (h : r < k) : H.P r k = 0 := by
  unfold P E
  rw [if_neg (by omega), zero_div]
theorem DS_above {r k : ℕ} (h : r < k) : H.DS r k = 0 := by
  unfold DS
  rw [H.P_above h, zero_mul]
theorem P_sum {r : ℕ} (hr : r < 2048) : ∑ k : Fin 2048, H.P r k = 1 := by
  unfold P
  rw [← Finset.sum_div]
  exact div_self (H.Z_pos hr).ne'
theorem DS_sum {r : ℕ} (hr : r < 2048) : ∑ k : Fin 2048, H.DS r k = 0 := by
  unfold DS
  simp only [mul_sub, Finset.sum_sub_distrib, ← Finset.sum_mul, H.P_sum hr, one_mul]
  exact sub_self _
/-- A sum over the keys of a row may stop after the diagonal. -/
theorem sum_cut {r n : ℕ} (hn : r < n) (h2 : n ≤ 2048) (f : ℕ → ℝ) (hf : ∀ k, r < k → f k = 0) :
    ∑ k : Fin n, f k = ∑ k : Fin 2048, f k := by
  rw [Fin.sum_univ_eq_sum_range f n, Fin.sum_univ_eq_sum_range f 2048]
  refine Finset.sum_subset (fun x hx => ?_) (fun x _ hx => hf x ?_)
  · rw [Finset.mem_range] at hx ⊢; omega
  · rw [Finset.mem_range] at hx; omega
end RHead

/-- The head's arguments are these reals. -/
structure Reals (A : Args) (g : ℕ) (H : RHead) : Prop where
  q : ∀ r j, hat (A.qx g) r j * A.gq j = (H.Q r j : EReal)
  k : ∀ r j, hat (A.kx g) r j * A.gk j = (H.K r j : EReal)
  v : ∀ r j, A.p r (2048 + (64 * g + j)) = (H.V r j : EReal)
  d : ∀ r j, A.ct r (64 * g + j) = (H.D r j : EReal)
  c : ∀ r, A.c g r = (H.C r : EReal)
  ls : ∀ r, r < 2048 → A.ls g r = ((H.M r + Real.log (H.Z r) : ℝ) : EReal)

section
variable {A : Args} {g : ℕ} {H : RHead} (h : Reals A g H)
include h

theorem prob_eq {r : ℕ} (hr : r < 2048) (k : ℕ) : (A.head g).prob r k = (H.P r k : EReal) := by
  have hs : ∑ j : Fin 64, (A.head g).k k j * (A.head g).q r j = ((∑ j : Fin 64, H.K k j * (H.Q r j * (1 / 8)) : ℝ) : EReal) := by
    rw [← sum_coe]
    refine Finset.sum_congr rfl fun j _ => ?_
    show hat (A.kx g) k j * A.gk j * (hat (A.qx g) r j * A.gq j * wEighth) = _
    rw [h.k, h.q, wEighth_eq, ← EReal.coe_mul, ← EReal.coe_mul]
  unfold Head.prob
  rw [hs]
  show Ideal.exp ((if k ≤ r then _ + A.c g r - A.c g k else ⊥) - A.ls g r) = _
  rw [h.c, h.c, h.ls r hr]
  unfold RHead.P RHead.E
  by_cases hk : k ≤ r
  · rw [if_pos hk, if_pos hk, ← EReal.coe_add, ← EReal.coe_sub, ← EReal.coe_sub, Ideal.exp_coe]
    refine congrArg _ ?_
    rw [← sub_sub, Real.exp_sub _ (Real.log _), Real.exp_log (H.Z_pos hr)]
    refine congrArg (fun x => Real.exp (x - H.M r) / H.Z r) ?_
    unfold RHead.S
    rw [Finset.sum_mul]
    refine congrArg (fun x => x + H.C r - H.C k) (Finset.sum_congr rfl fun j _ => by ring)
  · rw [if_neg hk, if_neg hk, zero_div]
    simp

theorem dp_eq (r k : ℕ) : (A.head g).dp r k = (H.DP r k : EReal) := by
  unfold Head.dp RHead.DP
  rw [← sum_coe]
  refine Finset.sum_congr rfl fun j _ => ?_
  show A.p k (2048 + (64 * g + j)) * A.ct r (64 * g + j) = _
  rw [h.v, h.d, EReal.coe_mul]

theorem ds_eq {r n : ℕ} (hr : r < 2048) (hn : r < n) (h2 : n ≤ 2048) (k : ℕ) : (A.head g).ds n r k = (H.DS r k : EReal) := by
  unfold Head.ds RHead.DS RHead.R
  have e : ∑ x : Fin n, (A.head g).prob r x * (A.head g).dp r x = ((∑ k : Fin 2048, H.P r k * H.DP r k : ℝ) : EReal) := by
    rw [← RHead.sum_cut hn h2 (fun k => H.P r k * H.DP r k) (fun k hk => by rw [H.P_above hk, zero_mul]), ← sum_coe]
    refine Finset.sum_congr rfl fun x _ => ?_
    rw [prob_eq h hr, dp_eq h, EReal.coe_mul]
  rw [e, prob_eq h hr, dp_eq h, ← EReal.coe_sub, ← EReal.coe_mul]
end

/-- Eight blocks of 256 rows are 2048 rows. -/
theorem blocks_sum (f : ℕ → ℝ) : ∑ b ∈ Finset.range 8, ∑ q : Fin 256, f (256 * b + q) = ∑ r : Fin 2048, f r := by
  have e : ∀ n : ℕ, ∑ b ∈ Finset.range n, ∑ q : Fin 256, f (256 * b + q) = ∑ r ∈ Finset.range (256 * n), f r := by
    intro n
    induction n with
    | zero => simp
    | succ n ih =>
      rw [Finset.sum_range_succ, ih, Nat.mul_succ, Finset.sum_range_add, Fin.sum_univ_eq_sum_range (fun q => f (256 * n + q)) 256]
  rw [e 8, Fin.sum_univ_eq_sum_range f 2048]

theorem total_coe (C : ℕ → ℕ → ℕ → ℕ → EReal) (k j : ℕ) (F : ℕ → ℝ)
    (h : ∀ b, b < 8 → (if k < 256 * (b + 1) then C (256 * (b + 1)) (256 * b) k j else 0) = (F b : EReal)) :
    total C k j = ((∑ b ∈ Finset.range 8, F b : ℝ) : EReal) := by
  have h0 := h 0 (by omega)
  have h1 := h 1 (by omega)
  have h2 := h 2 (by omega)
  have h3 := h 3 (by omega)
  have h4 := h 4 (by omega)
  have h5 := h 5 (by omega)
  have h6 := h 6 (by omega)
  have h7 := h 7 (by omega)
  simp only [Nat.reduceAdd, Nat.reduceMul] at h0 h1 h2 h3 h4 h5 h6 h7
  unfold total addTo zeroAt
  rw [h0, h1, h2, h3, h4, h5, h6, h7]
  simp only [Finset.sum_range_succ, Finset.sum_range_zero, EReal.coe_add, EReal.coe_zero]

section
variable {A : Args} {g : ℕ} {H : RHead} (h : Reals A g H)
include h

theorem dkn_eq (k j : ℕ) : A.dkn g k j = ((∑ r : Fin 2048, H.DS r k * (H.Q r j * (1 / 8)) : ℝ) : EReal) := by
  unfold Args.dkn
  rw [← blocks_sum (fun r => H.DS r k * (H.Q r j * (1 / 8)))]
  refine total_coe _ _ _ _ fun b hb => ?_
  by_cases hk : k < 256 * (b + 1)
  · rw [if_pos hk, ← sum_coe]
    unfold Head.dkC
    refine Finset.sum_congr rfl fun q _ => ?_
    have hq := q.isLt
    rw [ds_eq h (r := 256 * b + q) (by omega) (by omega) (by omega)]
    show _ * (hat (A.qx g) _ j * A.gq j * wEighth) = _
    rw [h.q, wEighth_eq, ← EReal.coe_mul, ← EReal.coe_mul]
  · rw [if_neg hk]
    refine Eq.trans ?_ (congrArg _ (Finset.sum_eq_zero fun q _ => ?_).symm)
    · rfl
    · have hq := q.isLt
      rw [H.DS_above (by omega), zero_mul]

theorem dvn_eq (k j : ℕ) : A.dvn g k j = ((∑ r : Fin 2048, H.P r k * H.D r j : ℝ) : EReal) := by
  unfold Args.dvn
  rw [← blocks_sum (fun r => H.P r k * H.D r j)]
  refine total_coe _ _ _ _ fun b hb => ?_
  by_cases hk : k < 256 * (b + 1)
  · rw [if_pos hk, ← sum_coe]
    unfold Head.dvC
    refine Finset.sum_congr rfl fun q _ => ?_
    have hq := q.isLt
    rw [prob_eq h (r := 256 * b + q) (by omega)]
    show _ * A.ct _ (64 * g + j) = _
    rw [h.d, ← EReal.coe_mul]
  · rw [if_neg hk]
    refine Eq.trans ?_ (congrArg _ (Finset.sum_eq_zero fun q _ => ?_).symm)
    · rfl
    · have hq := q.isLt
      rw [H.P_above (by omega), zero_mul]

theorem dcn_eq (k : ℕ) : A.dcn g k = ((-∑ r : Fin 2048, H.DS r k : ℝ) : EReal) := by
  unfold Args.dcn
  have e : ∀ l : Fin 128, total (A.head g).dcC k l
      = ((∑ b ∈ Finset.range 8, (H.DS (256 * b + l) k + H.DS (256 * b + (128 + l)) k) : ℝ) : EReal) := by
    intro l
    have hl := l.isLt
    refine total_coe _ _ _ _ fun b hb => ?_
    by_cases hk : k < 256 * (b + 1)
    · rw [if_pos hk]
      unfold Head.dcC
      rw [ds_eq h (r := 256 * b + l) (by omega) (by omega) (by omega),
        ds_eq h (r := 256 * b + (128 + l)) (by omega) (by omega) (by omega), EReal.coe_add]
    · rw [if_neg hk, H.DS_above (by omega), H.DS_above (by omega), add_zero]
      rfl
  rw [Finset.sum_congr rfl fun l _ => e l, sum_coe, ← blocks_sum (fun r => H.DS r k), Finset.sum_comm, EReal.coe_neg, ← zero_sub]
  refine congrArg (fun x : ℝ => (0 : EReal) - (x : EReal)) (Finset.sum_congr rfl fun b _ => ?_)
  rw [Fin.sum_univ_eq_sum_range (fun l => H.DS (256 * b + l) k + H.DS (256 * b + (128 + l)) k) 128,
    Fin.sum_univ_eq_sum_range (fun l => H.DS (256 * b + l) k) (128 + 128), Finset.sum_range_add, Finset.sum_add_distrib]

theorem dqn_eq {r : ℕ} (hr : r < 2048) (j : ℕ) : A.dqn g r j = (((∑ k : Fin 2048, H.K k j * H.DS r k) * (1 / 8) : ℝ) : EReal) := by
  unfold Args.dqn Head.dqC
  have hn : r < 256 * (r / 256 + 1) := by omega
  have h2 : 256 * (r / 256 + 1) ≤ 2048 := by omega
  rw [wEighth_eq, EReal.coe_mul]
  refine congrArg (· * _) ?_
  rw [← RHead.sum_cut hn h2 (fun k => H.K k j * H.DS r k) (fun k hk => by rw [H.DS_above hk, mul_zero]), ← sum_coe]
  refine Finset.sum_congr rfl fun k _ => ?_
  rw [ds_eq h hr hn h2]
  show hat (A.kx g) k j * A.gk j * _ = _
  rw [h.k, EReal.coe_mul]
end
end Cert.FoxIdeal.Hand
-- ==== Proof.FoxFwd.lean ====
/- The reference's forward values, read at any index: normalised queries and keys, scores, the mask. -/
module

public import proofs.«01_k».proof.Proof.FoxMath
public import proofs.«01_k».proof.Proof.FoxBlocks

@[expose] public section
set_option maxRecDepth 16384
noncomputable section
open Idealize.ShloMosaic Idealize.ShloMosaic.TcCoe Idealize.SL.Sem
open scoped BigOperators
namespace Cert.FoxIdeal.Hand
open Cert.FoxIdeal
open Cert.FoxRefIdeal.Read

theorem word_zero : (FloatOps.ofBits (F := Ideal) .f32 0#32 : EReal) = 0 := Ideal.ofBits_zero_f32
theorem word_bot : (FloatOps.ofBits (F := Ideal) .f32 0xFF800000#32 : EReal) = ⊥ := by
  simp [Ideal.ofBits, Ideal.ieee]
theorem word_one : (FloatOps.ofBits (F := Ideal) .f32 0x3F800000#32 : EReal) = ((1 : ℝ) : EReal) := by
  simp [Ideal.ofBits, Ideal.ieee]; rw [← EReal.coe_mul]; norm_num

variable (x0 : FVec Ideal S2048x3072 .f32) (x1 : FVec Ideal S16x2048 .f32) (x2 x3 : FVec Ideal S1x64 .f32) (x4 : FVec Ideal S2048x1024 .f32)

/-- The arguments by natural indices. -/
def argsOf : Args where
  p := nat2 (a := 2048) (b := 3072) x0
  c := nat2 (a := 16) (b := 2048) x1
  gq := nat2 (a := 1) (b := 64) x2 0
  gk := nat2 (a := 1) (b := 64) x3 0
  ct := nat2 (a := 2048) (b := 1024) x4
  ls := lsAt (logSum (val_main_v52_0 (F := Ideal) x0 x1 x2 x3))

/-- Queries, keys and values of a head. -/
theorem qx_at (i : S2048x16x64.Idx) : val_main_v1 (F := Ideal) x0 i = (argsOf x0 x1 x2 x3 x4).qx (i 1).val (i 0).val (i 2).val := by
  have h0 : (i 0).val < 2048 := (i 0).isLt
  have h1 : (i 1).val < 16 := (i 1).isLt
  have h2 : (i 2).val < 64 := (i 2).isLt
  rw [val_main_v1_apply, val_main_v0_apply]
  refine nat2_of (a := 2048) (b := 3072) x0 _ ?_ ?_
  · show (((i 0).val * 16 + (i 1).val) * 64 + (i 2).val) / 1024 = (i 0).val
    omega
  · show (((i 0).val * 16 + (i 1).val) * 64 + (i 2).val) % 1024 = 64 * (i 1).val + (i 2).val
    omega
theorem kx_at (i : S2048x16x64.Idx) : val_main_v20 (F := Ideal) x0 i = (argsOf x0 x1 x2 x3 x4).kx (i 1).val (i 0).val (i 2).val := by
  have h0 : (i 0).val < 2048 := (i 0).isLt
  have h1 : (i 1).val < 16 := (i 1).isLt
  have h2 : (i 2).val < 64 := (i 2).isLt
  rw [val_main_v20_apply, val_main_v19_apply]
  refine nat2_of (a := 2048) (b := 3072) x0 _ ?_ ?_
  · show (((i 0).val * 16 + (i 1).val) * 64 + (i 2).val) / 1024 = (i 0).val
    omega
  · show 1024 + (((i 0).val * 16 + (i 1).val) * 64 + (i 2).val) % 1024 = 1024 + (64 * (i 1).val + (i 2).val)
    omega
theorem vx_at (i : S2048x16x64.Idx) : val_main_v39 (F := Ideal) x0 i = (argsOf x0 x1 x2 x3 x4).p (i 0).val (2048 + (64 * (i 1).val + (i 2).val)) := by
  have h0 : (i 0).val < 2048 := (i 0).isLt
  have h1 : (i 1).val < 16 := (i 1).isLt
  have h2 : (i 2).val < 64 := (i 2).isLt
  rw [val_main_v39_apply, val_main_v38_apply]
  refine nat2_of (a := 2048) (b := 3072) x0 _ ?_ ?_
  · show (((i 0).val * 16 + (i 1).val) * 64 + (i 2).val) / 1024 = (i 0).val
    omega
  · show 2048 + (((i 0).val * 16 + (i 1).val) * 64 + (i 2).val) % 1024 = 2048 + (64 * (i 1).val + (i 2).val)
    omega
/-- The norms' weights. -/
theorem gq_at (i : S1x1x64.Idx) : val_main_v16 (F := Ideal) x2 i = (argsOf x0 x1 x2 x3 x4).gq (i 2).val := by
  have h2 : (i 2).val < 64 := (i 2).isLt
  rw [val_main_v16_apply, val_main_v2_apply]
  exact nat2_of (a := 1) (b := 64) x2 _ rfl (Nat.mod_eq_of_lt h2)
theorem gk_at (i : S1x1x64.Idx) : val_main_v35 (F := Ideal) x3 i = (argsOf x0 x1 x2 x3 x4).gk (i 2).val := by
  have h2 : (i 2).val < 64 := (i 2).isLt
  rw [val_main_v35_apply, val_main_v21_apply]
  exact nat2_of (a := 1) (b := 64) x3 _ rfl (Nat.mod_eq_of_lt h2)

theorem msq_q (i : S2048x16x1.Idx) : val_main_v9 (F := Ideal) x0 i = msq ((argsOf x0 x1 x2 x3 x4).qx (i 1).val) (i 0).val := by
  rw [val_main_v9_apply, val_main_v8_apply, val_main_v7_apply, val_main_v6_apply, val_main_v5_apply, val_main_v4_apply]
  simp only [val_main_v3_apply, qx_at x0 x1 x2 x3 x4, val_main_cst_apply, word_zero]
  refine congrArg (fun z : EReal => Ideal.div z w64 + wEps) (zero_add (M := EReal) _)
theorem msq_k (i : S2048x16x1.Idx) : val_main_v28 (F := Ideal) x0 i = msq ((argsOf x0 x1 x2 x3 x4).kx (i 1).val) (i 0).val := by
  rw [val_main_v28_apply, val_main_v27_apply, val_main_v26_apply, val_main_v25_apply, val_main_v24_apply, val_main_v23_apply]
  simp only [val_main_v22_apply, kx_at x0 x1 x2 x3 x4, val_main_cst_3_apply, word_zero]
  refine congrArg (fun z : EReal => Ideal.div z w64 + wEps) (zero_add (M := EReal) _)
theorem rs_q (i : S2048x16x1.Idx) : val_main_v10 (F := Ideal) x0 i = rs ((argsOf x0 x1 x2 x3 x4).qx (i 1).val) (i 0).val := by
  rw [val_main_v10_apply, msq_q x0 x1 x2 x3 x4]
  rfl
theorem rs_k (i : S2048x16x1.Idx) : val_main_v29 (F := Ideal) x0 i = rs ((argsOf x0 x1 x2 x3 x4).kx (i 1).val) (i 0).val := by
  rw [val_main_v29_apply, msq_k x0 x1 x2 x3 x4]
  rfl
theorem hrs_q (i : S2048x16x1.Idx) : val_main_v13 (F := Ideal) x0 i = hrs ((argsOf x0 x1 x2 x3 x4).qx (i 1).val) (i 0).val := by
  rw [val_main_v13_apply, val_main_v12_apply, val_main_v11_apply, msq_q x0 x1 x2 x3 x4, rs_q x0 x1 x2 x3 x4]
  rfl
theorem hrs_k (i : S2048x16x1.Idx) : val_main_v32 (F := Ideal) x0 i = hrs ((argsOf x0 x1 x2 x3 x4).kx (i 1).val) (i 0).val := by
  rw [val_main_v32_apply, val_main_v31_apply, val_main_v30_apply, msq_k x0 x1 x2 x3 x4, rs_k x0 x1 x2 x3 x4]
  rfl
theorem hat_q (i : S2048x16x64.Idx) : val_main_v15 (F := Ideal) x0 i = hat ((argsOf x0 x1 x2 x3 x4).qx (i 1).val) (i 0).val (i 2).val := by
  rw [val_main_v15_apply, val_main_v14_apply, qx_at x0 x1 x2 x3 x4, rs_q x0 x1 x2 x3 x4]
  rfl
theorem hat_k (i : S2048x16x64.Idx) : val_main_v34 (F := Ideal) x0 i = hat ((argsOf x0 x1 x2 x3 x4).kx (i 1).val) (i 0).val (i 2).val := by
  rw [val_main_v34_apply, val_main_v33_apply, kx_at x0 x1 x2 x3 x4, rs_k x0 x1 x2 x3 x4]
  rfl
theorem qn_at (i : S2048x16x64.Idx) :
    val_main_v18 (F := Ideal) x0 x2 i = hat ((argsOf x0 x1 x2 x3 x4).qx (i 1).val) (i 0).val (i 2).val * (argsOf x0 x1 x2 x3 x4).gq (i 2).val := by
  rw [val_main_v18_apply, val_main_v17_apply, hat_q x0 x1 x2 x3 x4, gq_at x0 x1 x2 x3 x4]
  rfl
theorem kn_at (i : S2048x16x64.Idx) :
    val_main_v37 (F := Ideal) x0 x3 i = hat ((argsOf x0 x1 x2 x3 x4).kx (i 1).val) (i 0).val (i 2).val * (argsOf x0 x1 x2 x3 x4).gk (i 2).val := by
  rw [val_main_v37_apply, val_main_v36_apply, hat_k x0 x1 x2 x3 x4, gk_at x0 x1 x2 x3 x4]
  rfl
theorem c_at (i : S16x2048.Idx) : x1 i = (argsOf x0 x1 x2 x3 x4).c (i 0).val (i 1).val := nat2_of (a := 16) (b := 2048) x1 i rfl rfl

/-- The scores, before and after the mask. -/
theorem scores_at (i : S16x2048x2048.Idx) : val_main_v48 (F := Ideal) x0 x1 x2 x3 i
    = (∑ j : Fin 64, hat ((argsOf x0 x1 x2 x3 x4).qx (i 0).val) (i 1).val j * (argsOf x0 x1 x2 x3 x4).gq j * (hat ((argsOf x0 x1 x2 x3 x4).kx (i 0).val) (i 2).val j * (argsOf x0 x1 x2 x3 x4).gk j)) * wEighth
      + (argsOf x0 x1 x2 x3 x4).c (i 0).val (i 1).val - (argsOf x0 x1 x2 x3 x4).c (i 0).val (i 2).val := by
  rw [val_main_v48_apply, val_main_v47_apply, val_main_v46_apply, val_main_v45_apply, val_main_v44_apply, val_main_v43_apply,
    val_main_v42_apply, val_main_v41_apply, val_main_v40_apply]
  simp only [qn_at x0 x1 x2 x3 x4, kn_at x0 x1 x2 x3 x4, c_at x0 x1 x2 x3 x4]
  rfl
theorem mask_at (i : S16x2048x2048.Idx) : val_main_v52_1 (F := Ideal) i = if (i 2).val ≤ (i 1).val then 1#1 else 0#1 := by
  have h1 : (i 1).val < 2048 := (i 1).isLt
  have h2 : (i 2).val < 2048 := (i 2).isLt
  rw [val_main_v52_1_apply, val_main_v51_apply]
  show IntOp.cmpi .sge (BitVec.ofNat 32 (i 1).val) (BitVec.ofNat 32 (i 2).val) = _
  rw [WordCmp.cmpi_sge_ofNat (by omega) (by omega)]
  by_cases h : (i 2).val ≤ (i 1).val <;> simp [h]
theorem masked_at (i : S16x2048x2048.Idx) : (val_main_v52_0 (F := Ideal) x0 x1 x2 x3 i : EReal)
    = if (i 2).val ≤ (i 1).val then (val_main_v48 (F := Ideal) x0 x1 x2 x3 i : EReal) else ⊥ := by
  rw [val_main_v52_0_apply, mask_at, val_main_call0_v2_apply, val_main_call0_v0_apply, val_main_cst_8_apply, word_bot]
  by_cases h : (i 2).val ≤ (i 1).val <;> simp [Scalar.select, h]
end Cert.FoxIdeal.Hand
-- ==== Proof.FoxReal.lean ====
/- With finite arguments every head of the reference is a head over the reals. -/
module

public import proofs.«01_k».proof.Proof.FoxFwd

@[expose] public section
set_option maxRecDepth 16384
noncomputable section
open Idealize.ShloMosaic Idealize.ShloMosaic.TcCoe Idealize.SL.Sem
open scoped BigOperators
namespace Cert.FoxIdeal.Hand
open Cert.FoxIdeal Cert.FoxIdeal.Gen
open Cert.FoxRefIdeal.Read

theorem w64_eq : w64 = ((64 : ℝ) : EReal) := by
  unfold w64
  simp [Ideal.ofBits, Ideal.ieee]
  rw [← EReal.coe_mul]
  norm_num
theorem wEps_eq : ∃ e : ℝ, 0 < e ∧ wEps = (e : EReal) := by
  refine ⟨8796093 * (2 : ℝ) ^ (-43 : ℤ), by positivity, ?_⟩
  unfold wEps
  simp [Ideal.ofBits, Ideal.ieee]

/-- A normalised row of reals is real. -/
theorem hat_real (x : ℕ → ℕ → EReal) (hx : ∀ r j, ∃ y : ℝ, x r j = (y : EReal)) (r j : ℕ) : ∃ y : ℝ, hat x r j = (y : EReal) := by
  choose X hX using hx
  obtain ⟨e, he, hw⟩ := wEps_eq
  have hm : msq x r = (((∑ j : Fin 64, X r j * X r j) * (1 / 64) + e : ℝ) : EReal) := by
    unfold msq
    rw [w64_eq, Ideal.div_coe (by norm_num), hw]
    simp only [hX, ← EReal.coe_mul]
    rw [sum_coe, ← EReal.coe_mul, ← EReal.coe_add]
  have hpos : 0 < (∑ j : Fin 64, X r j * X r j) * (1 / 64) + e := by
    have : 0 ≤ ∑ j : Fin 64, X r j * X r j := Finset.sum_nonneg fun j _ => mul_self_nonneg _
    positivity
  have hr : rs x r = (((Real.sqrt ((∑ j : Fin 64, X r j * X r j) * (1 / 64) + e))⁻¹ : ℝ) : EReal) := by
    unfold rs
    rw [hm]
    show Ideal.rsqrt _ = _
    rw [Ideal.rsqrt_coe, if_neg (not_lt.2 hpos.le), if_neg hpos.ne']
  unfold hat
  rw [hr, hX, ← EReal.coe_mul]
  exact ⟨_, rfl⟩

theorem nat2_real {a b : ℕ} (x : FVec Ideal (⟨2, ![a, b]⟩ : Shape) .f32) (hx : ∀ i, ∃ y : ℝ, (x i : EReal) = (y : EReal)) (r j : ℕ) :
    ∃ y : ℝ, nat2 x r j = (y : EReal) := by
  unfold nat2
  split_ifs with h
  · exact hx _
  · exact ⟨0, rfl⟩

/-- The largest of a row that holds reals and, behind them, −∞ is real. -/
theorem fold_max_real (f : Fin 2048 → EReal) (hf : ∀ k, f k ≠ ⊤) (k0 : Fin 2048) (y : ℝ) (h0 : f k0 = (y : EReal)) :
    ∃ z : ℝ, Finset.univ.fold max (⊥ : EReal) f = (z : EReal) := by
  have hb : Finset.univ.fold max (⊥ : EReal) f ≠ ⊥ := by
    have := (Finset.le_fold_max (s := Finset.univ) (f := f) (b := (⊥ : EReal)) (f k0)).2 (Or.inr ⟨k0, Finset.mem_univ _, le_rfl⟩)
    rw [h0] at this
    exact (lt_of_lt_of_le (EReal.bot_lt_coe y) this).ne'
  have ht : Finset.univ.fold max (⊥ : EReal) f ≠ ⊤ :=
    ((Finset.fold_max_lt (s := Finset.univ) (f := f) (b := (⊥ : EReal)) ⊤).2
      ⟨bot_lt_top, fun k _ => lt_of_le_of_ne le_top (hf k)⟩).ne
  exact ⟨_, (EReal.coe_toReal ht hb).symm⟩

variable (x0 : FVec Ideal S2048x3072 .f32) (x1 : FVec Ideal S16x2048 .f32) (x2 x3 : FVec Ideal S1x64 .f32) (x4 : FVec Ideal S2048x1024 .f32)

/-- The scores of a head over the reals. -/
theorem score_head (H : RHead) (g : Fin 16)
    (hq : ∀ r j, hat ((argsOf x0 x1 x2 x3 x4).qx g) r j * (argsOf x0 x1 x2 x3 x4).gq j = (H.Q r j : EReal))
    (hk : ∀ r j, hat ((argsOf x0 x1 x2 x3 x4).kx g) r j * (argsOf x0 x1 x2 x3 x4).gk j = (H.K r j : EReal))
    (hc : ∀ r, (argsOf x0 x1 x2 x3 x4).c g r = (H.C r : EReal)) (r k : Fin 2048) :
    (val_main_v48 (F := Ideal) x0 x1 x2 x3 (ix3 g r k) : EReal) = (H.S r k : EReal) := by
  rw [scores_at x0 x1 x2 x3 x4]
  show (∑ j : Fin 64, hat ((argsOf x0 x1 x2 x3 x4).qx g) r j * (argsOf x0 x1 x2 x3 x4).gq j
    * (hat ((argsOf x0 x1 x2 x3 x4).kx g) k j * (argsOf x0 x1 x2 x3 x4).gk j)) * wEighth
    + (argsOf x0 x1 x2 x3 x4).c g r - (argsOf x0 x1 x2 x3 x4).c g k = _
  simp only [hq, hk, hc, wEighth_eq, ← EReal.coe_mul]
  rw [sum_coe, ← EReal.coe_mul, ← EReal.coe_add, ← EReal.coe_sub]
  rfl

theorem rowMax_fold (s : FVec Ideal S16x2048x2048 .f32) (g : Fin 16) (r : Fin 2048) :
    (rowMax s (ix2 g r) : EReal) = Finset.univ.fold max (⊥ : EReal) fun k : Fin 2048 => (s (ix3 g r k) : EReal) := by
  unfold rowMax
  simp only [pointwise]
  exact congrArg (fun z : EReal => Finset.univ.fold max z fun k : Fin 2048 => (s (ix3 g r k) : EReal)) word_bot
theorem max_is (i : S16x2048.Idx) : val_main_v60 (F := Ideal) x0 x1 x2 x3 i = rowMax (val_main_v52_0 (F := Ideal) x0 x1 x2 x3) i := by
  rw [val_main_v60_apply, val_main_v59_apply, val_main_cst_11_apply, word_bot]
  exact max_eq_right (bot_le (α := EReal))
theorem sum_is : rowSum (val_main_v52_0 (F := Ideal) x0 x1 x2 x3) = val_main_v74 (F := Ideal) x0 x1 x2 x3 := by
  have h : val_main_v60 (F := Ideal) x0 x1 x2 x3 = rowMax (val_main_v52_0 (F := Ideal) x0 x1 x2 x3) := funext (max_is x0 x1 x2 x3)
  unfold rowSum val_main_v74 val_main_v73 val_main_v72 val_main_v71 val_main_v70
  rw [h]
  rfl

theorem shift_log (y z : FVec Ideal S16x2048 .f32) (g : Fin 16) (r : Fin 2048) :
    (addf (broadcastInDim S16x2048x1 ![0, 1] bcast_S16x2048_S16x2048x1_0_1 y)
      (Host.log (broadcastInDim S16x2048x1 ![0, 1] bcast_S16x2048_S16x2048x1_0_1 z)) (ix3 g r 0) : EReal)
      = (y (ix2 g r) : EReal) + Ideal.log (z (ix2 g r)) := by
  have b : ∀ y : FVec Ideal S16x2048 .f32,
      (broadcastInDim S16x2048x1 ![0, 1] bcast_S16x2048_S16x2048x1_0_1 y) (ix3 g r 0) = y (ix2 g r) := fun y =>
    broadcastInDim_apply _ bcast_S16x2048_S16x2048x1_0_1 y (ix3 g r 0) (ix2 g r) (fun a => match a with
      | ⟨0, _⟩ => by show g.val = if (16 : Nat) = 1 then 0 else g.val; rw [if_neg (by decide)]
      | ⟨1, _⟩ => by show r.val = if (2048 : Nat) = 1 then 0 else r.val; rw [if_neg (by decide)])
  rw [← b y, ← b z]
  rfl

/-! The row's largest score, its exponentials, their sum, its log-sum, for a head whose scores are real. -/
section Rows
variable {x0 x1 x2 x3} {H : RHead} {g : Fin 16}
  (hS : ∀ r k : Fin 2048, (val_main_v48 (F := Ideal) x0 x1 x2 x3 (ix3 g r k) : EReal) = (H.S r k : EReal))
include hS
theorem masked_real (r k : Fin 2048) :
    (val_main_v52_0 (F := Ideal) x0 x1 x2 x3 (ix3 g r k) : EReal) = if k.val ≤ r.val then (H.S r k : EReal) else ⊥ := by
  rw [masked_at, ← hS]
  rfl
theorem rowMax_real (r : Fin 2048) : ∃ M : ℝ, (rowMax (val_main_v52_0 (F := Ideal) x0 x1 x2 x3) (ix2 g r) : EReal) = (M : EReal) := by
  rw [rowMax_fold]
  refine fold_max_real _ (fun k => ?_) r (H.S r r) ?_
  · rw [masked_real hS]
    split_ifs
    exacts [EReal.coe_ne_top _, bot_ne_top]
  · rw [masked_real hS, if_pos le_rfl]
variable (hM : ∀ r : Fin 2048, (rowMax (val_main_v52_0 (F := Ideal) x0 x1 x2 x3) (ix2 g r) : EReal) = (H.M r : EReal))
include hM
theorem exp_real (r k : Fin 2048) : (val_main_v73 (F := Ideal) x0 x1 x2 x3 (ix3 g r k) : EReal) = (H.E r k : EReal) := by
  rw [val_main_v73_apply, val_main_v72_apply, val_main_v71_apply, val_main_v70_apply, max_is]
  have h : (rowMax (val_main_v52_0 (F := Ideal) x0 x1 x2 x3) (idx_main_v70 (idx_main_v71 (ix3 g r k))) : EReal) = (H.M r : EReal) :=
    (congrArg (fun i => (rowMax (val_main_v52_0 (F := Ideal) x0 x1 x2 x3) i : EReal)) (at_ix2 _ g r ⟨rfl, rfl⟩)).trans (hM r)
  rw [h]
  show Ideal.exp ((val_main_v52_0 (F := Ideal) x0 x1 x2 x3 (ix3 g r k) : EReal) - (H.M r : EReal)) = _
  rw [masked_real hS]
  unfold RHead.E
  split_ifs
  · rw [← EReal.coe_sub, Ideal.exp_coe]
  · rfl
theorem total_real (r : Fin 2048) : (val_main_v74 (F := Ideal) x0 x1 x2 x3 (ix2 g r) : EReal) = (H.Z r : EReal) := by
  rw [val_main_v74_apply, val_main_cst_17_apply, word_zero]
  refine (zero_add (M := EReal) _).trans ?_
  unfold RHead.Z
  rw [← sum_coe]
  refine Finset.sum_congr rfl fun k _ => ?_
  refine Eq.trans ?_ (exp_real hS hM r k)
  exact congrArg (fun i => (val_main_v73 (F := Ideal) x0 x1 x2 x3 i : EReal)) (at_ix3 _ g r k ⟨rfl, rfl, rfl⟩)
theorem logSum_real (r : Fin 2048) :
    (logSum (val_main_v52_0 (F := Ideal) x0 x1 x2 x3) (ix3 g r 0) : EReal) = ((H.M r + Real.log (H.Z r) : ℝ) : EReal) := by
  unfold logSum
  rw [sum_is, shift_log, hM, total_real hS hM, Ideal.log_coe, if_neg (not_le.2 (H.Z_pos r.isLt)), ← EReal.coe_add]
end Rows

/-- All of a head that is real: its arguments and, in the reference, its scores and largest scores. -/
structure Held (H : RHead) (g : Fin 16) : Prop where
  reals : Reals (argsOf x0 x1 x2 x3 x4) g H
  score : ∀ r k : Fin 2048, (val_main_v48 (F := Ideal) x0 x1 x2 x3 (ix3 g r k) : EReal) = (H.S r k : EReal)
  top : ∀ r : Fin 2048, (rowMax (val_main_v52_0 (F := Ideal) x0 x1 x2 x3) (ix2 g r) : EReal) = (H.M r : EReal)

theorem heads (h0 : ∀ i, ∃ y : ℝ, (x0 i : EReal) = (y : EReal)) (h1 : ∀ i, ∃ y : ℝ, (x1 i : EReal) = (y : EReal))
    (h2 : ∀ i, ∃ y : ℝ, (x2 i : EReal) = (y : EReal)) (h3 : ∀ i, ∃ y : ℝ, (x3 i : EReal) = (y : EReal))
    (h4 : ∀ i, ∃ y : ℝ, (x4 i : EReal) = (y : EReal)) (g : Fin 16) : ∃ H : RHead, Held x0 x1 x2 x3 x4 H g := by
  have mul : ∀ x y : EReal, (∃ a : ℝ, x = (a : EReal)) → (∃ a : ℝ, y = (a : EReal)) → ∃ a : ℝ, x * y = (a : EReal) := by
    rintro _ _ ⟨a, rfl⟩ ⟨b, rfl⟩
    exact ⟨a * b, (EReal.coe_mul a b).symm⟩
  have hq : ∀ r j, ∃ y : ℝ, hat ((argsOf x0 x1 x2 x3 x4).qx g) r j * (argsOf x0 x1 x2 x3 x4).gq j = (y : EReal) := fun r j =>
    mul _ _ (hat_real _ (fun r j => nat2_real _ h0 _ _) r j) (nat2_real _ h2 _ _)
  have hk : ∀ r j, ∃ y : ℝ, hat ((argsOf x0 x1 x2 x3 x4).kx g) r j * (argsOf x0 x1 x2 x3 x4).gk j = (y : EReal) := fun r j =>
    mul _ _ (hat_real _ (fun r j => nat2_real _ h0 _ _) r j) (nat2_real _ h3 _ _)
  have hv : ∀ r j, ∃ y : ℝ, (argsOf x0 x1 x2 x3 x4).p r (2048 + (64 * g.val + j)) = (y : EReal) := fun r j => nat2_real _ h0 _ _
  have hd : ∀ r j, ∃ y : ℝ, (argsOf x0 x1 x2 x3 x4).ct r (64 * g.val + j) = (y : EReal) := fun r j => nat2_real _ h4 _ _
  have hc : ∀ r, ∃ y : ℝ, (argsOf x0 x1 x2 x3 x4).c g r = (y : EReal) := fun r => nat2_real _ h1 _ _
  choose Q hQ using hq
  choose K hK using hk
  choose V hV using hv
  choose D hD using hd
  choose C hC using hc
  have hS := score_head x0 x1 x2 x3 x4 ⟨Q, K, V, D, C, fun _ => 0⟩ g hQ hK hC
  choose M hM using rowMax_real hS
  have hM' : ∀ r : Fin 2048, (rowMax (val_main_v52_0 (F := Ideal) x0 x1 x2 x3) (ix2 g r) : EReal)
      = ((if h : r.val < 2048 then M ⟨r.val, h⟩ else 0 : ℝ) : EReal) := fun r => by
    rw [dif_pos r.isLt]
    exact hM r
  have hS' : ∀ r k : Fin 2048, (val_main_v48 (F := Ideal) x0 x1 x2 x3 (ix3 g r k) : EReal)
      = ((RHead.mk Q K V D C fun r => if h : r < 2048 then M ⟨r, h⟩ else 0).S r k : EReal) := hS
  refine ⟨⟨Q, K, V, D, C, fun r => if h : r < 2048 then M ⟨r, h⟩ else 0⟩, ⟨hQ, hK, hV, hD, hC, fun r hr => ?_⟩, hS', hM'⟩
  refine Eq.trans ?_ (logSum_real hS' hM' ⟨r, hr⟩)
  show lsAt _ g.val r = _
  unfold lsAt
  rw [dif_pos ⟨g.isLt, hr⟩]
end Cert.FoxIdeal.Hand
-- ==== Proof.FoxBack.lean ====
/- The reference's backward pass, head by head, with real arguments: the gradients are the kernel's. -/
module

public import proofs.«01_k».proof.Proof.FoxReal

@[expose] public section
set_option maxRecDepth 16384
noncomputable section
open Idealize.ShloMosaic Idealize.ShloMosaic.TcCoe Idealize.SL.Sem
open scoped BigOperators
namespace Cert.FoxIdeal.Hand
open Cert.FoxIdeal Cert.FoxIdeal.Gen
open Cert.FoxRefIdeal.Read

section
variable {x0 : FVec Ideal S2048x3072 .f32} {x1 : FVec Ideal S16x2048 .f32} {x2 x3 : FVec Ideal S1x64 .f32} {x4 : FVec Ideal S2048x1024 .f32}

theorem sum_word {n : ℕ} (z : EReal) (hz : z = (FloatOps.ofBits (F := Ideal) .f32 0x00000000#32 : EReal)) (f : Fin n → EReal) (g : Fin n → ℝ)
    (h : ∀ k, f k = (g k : EReal)) : z + ∑ k, f k = ((∑ k, g k : ℝ) : EReal) := by
  rw [hz, word_zero, zero_add, ← sum_coe]
  exact Finset.sum_congr rfl fun k _ => h k
theorem dot_real {n : ℕ} (f f' : Fin n → EReal) (g g' : Fin n → ℝ) (h : ∀ k, f k = (g k : EReal)) (h' : ∀ k, f' k = (g' k : EReal)) :
    ∑ k, f k * f' k = ((∑ k, g k * g' k : ℝ) : EReal) := by
  rw [← sum_coe]
  exact Finset.sum_congr rfl fun k _ => by rw [h, h', EReal.coe_mul]

theorem ct_at (i : S2048x16x64.Idx) : val_main_v84 (F := Ideal) x4 i = (argsOf x0 x1 x2 x3 x4).ct (i 0).val (64 * (i 1).val + (i 2).val) := by
  have h0 : (i 0).val < 2048 := (i 0).isLt
  have h1 : (i 1).val < 16 := (i 1).isLt
  have h2 : (i 2).val < 64 := (i 2).isLt
  rw [val_main_v84_apply]
  refine nat2_of (a := 2048) (b := 1024) x4 _ ?_ ?_
  · show (((i 0).val * 16 + (i 1).val) * 64 + (i 2).val) / 1024 = (i 0).val
    omega
  · show (((i 0).val * 16 + (i 1).val) * 64 + (i 2).val) % 1024 = 64 * (i 1).val + (i 2).val
    omega

variable {H : RHead} {g : Fin 16} (h : Held x0 x1 x2 x3 x4 H g)
include h

theorem ref_e_at (i : S16x2048x2048.Idx) (hi : (i 0).val = g.val) :
    (val_main_v73 (F := Ideal) x0 x1 x2 x3 i : EReal) = (H.E (i 1).val (i 2).val : EReal) := by
  have e := exp_real h.score h.top ⟨(i 1).val, (i 1).isLt⟩ ⟨(i 2).val, (i 2).isLt⟩
  refine Eq.trans ?_ e
  exact congrArg (fun i => (val_main_v73 (F := Ideal) x0 x1 x2 x3 i : EReal)) (at_ix3 i g _ _ ⟨hi, rfl, rfl⟩)
theorem ref_z_at (i : S16x2048.Idx) (hi : (i 0).val = g.val) :
    (val_main_v74 (F := Ideal) x0 x1 x2 x3 i : EReal) = (H.Z (i 1).val : EReal) := by
  have e := total_real h.score h.top ⟨(i 1).val, (i 1).isLt⟩
  refine Eq.trans ?_ e
  exact congrArg (fun i => (val_main_v74 (F := Ideal) x0 x1 x2 x3 i : EReal)) (at_ix2 i g _ ⟨hi, rfl⟩)
theorem ref_z_row (i : S16x2048x1.Idx) (hi : (i 0).val = g.val) :
    (val_main_v75 (F := Ideal) x0 x1 x2 x3 i : EReal) = (H.Z (i 1).val : EReal) := by
  rw [val_main_v75_apply, ref_z_at h _ hi]
theorem ref_p_at (i : S16x2048x2048.Idx) (hi : (i 0).val = g.val) :
    (val_main_v77 (F := Ideal) x0 x1 x2 x3 i : EReal) = (H.P (i 1).val (i 2).val : EReal) := by
  rw [val_main_v77_apply, val_main_v76_apply, ref_z_row h _ hi, ref_e_at h i hi]
  have hz := H.Z_pos (i 1).isLt
  show Ideal.div _ ((H.Z (i 1).val : ℝ) : EReal) = _
  rw [Ideal.div_coe hz.ne', ← EReal.coe_mul]
  unfold RHead.P
  rw [mul_one_div]
theorem ref_inv_at (i : S16x2048x1.Idx) (hi : (i 0).val = g.val) :
    (val_main_v80 (F := Ideal) x0 x1 x2 x3 i : EReal) = ((1 / (H.Z (i 1).val * H.Z (i 1).val) : ℝ) : EReal) := by
  have hz := H.Z_pos (i 1).isLt
  rw [val_main_v80_apply, val_main_v79_apply, val_main_cst_18_apply, val_main_v78_apply, ref_z_row h i hi, word_one]
  show Ideal.div _ (((H.Z (i 1).val : ℝ) : EReal) * ((H.Z (i 1).val : ℝ) : EReal)) = _
  rw [← EReal.coe_mul, Ideal.div_coe (mul_pos hz hz).ne', ← EReal.coe_mul, one_mul]
theorem ref_d_at (i : Cert.FoxRefIdeal.S16x64x2048.Idx) (hi : (i 0).val = g.val) :
    (val_main_v85 (F := Ideal) x4 i : EReal) = (H.D (i 2).val (i 1).val : EReal) := by
  rw [val_main_v85_apply, ct_at (x0 := x0) (x1 := x1) (x2 := x2) (x3 := x3)]
  show (argsOf x0 x1 x2 x3 x4).ct (i 2).val (64 * (i 0).val + (i 1).val) = _
  rw [hi, h.reals.d]
theorem ref_v_at (i : S2048x16x64.Idx) (hi : (i 1).val = g.val) :
    (val_main_v39 (F := Ideal) x0 i : EReal) = (H.V (i 0).val (i 2).val : EReal) := by
  rw [vx_at x0 x1 x2 x3 x4, hi, h.reals.v]
theorem ref_q_at (i : S2048x16x64.Idx) (hi : (i 1).val = g.val) :
    (val_main_v18 (F := Ideal) x0 x2 i : EReal) = (H.Q (i 0).val (i 2).val : EReal) := by
  rw [qn_at x0 x1 x2 x3 x4, hi, h.reals.q]
theorem ref_k_at (i : S2048x16x64.Idx) (hi : (i 1).val = g.val) :
    (val_main_v37 (F := Ideal) x0 x3 i : EReal) = (H.K (i 0).val (i 2).val : EReal) := by
  rw [kn_at x0 x1 x2 x3 x4, hi, h.reals.k]
theorem ref_dp_at (i : S16x2048x2048.Idx) (hi : (i 0).val = g.val) :
    (val_main_v86 (F := Ideal) x0 x4 i : EReal) = (H.DP (i 1).val (i 2).val : EReal) := by
  rw [val_main_v86_apply]
  refine (dot_real _ _ (fun j : Fin 64 => H.D (i 1).val j) (fun j : Fin 64 => H.V (i 2).val j)
    (fun k => ref_d_at h _ hi) fun k => ref_v_at h _ hi).trans ?_
  unfold RHead.DP
  exact congrArg _ (Finset.sum_congr rfl fun j _ => mul_comm _ _)

/-- The row's sum, times its cotangent's weight, taken from each probability's cotangent. -/
theorem ref_shift_at (i : S16x2048.Idx) (hi : (i 0).val = g.val) :
    (val_main_v97 (F := Ideal) x0 x1 x2 x3 x4 i : EReal)
      = ((-∑ k : Fin 2048, H.DP (i 1).val k * (1 / (H.Z (i 1).val * H.Z (i 1).val)) * H.E (i 1).val k : ℝ) : EReal) := by
  rw [val_main_v97_apply]
  refine (sum_word _ rfl _ (fun _ : Fin 1 => -∑ k : Fin 2048, H.DP (i 1).val k * (1 / (H.Z (i 1).val * H.Z (i 1).val)) * H.E (i 1).val k)
    fun l => ?_).trans (by simp)
  rw [val_main_v94_apply, val_main_v93_apply]
  refine (congrArg (fun z : EReal => -z) ?_).trans (EReal.coe_neg _).symm
  rw [val_main_v92_apply]
  have h0 : (i 0).val < 16 := (i 0).isLt
  have h1 : (i 1).val < 2048 := (i 1).isLt
  have hl := l.isLt
  have er : (((i 0).val * 2048 + (i 1).val) * 1 + l.val) % 2048 = (i 1).val := by omega
  have eg : (((i 0).val * 2048 + (i 1).val) * 1 + l.val) / 2048 = g.val := by omega
  refine sum_word _ rfl _ _ fun k => ?_
  rw [val_main_v91_apply, val_main_v90_apply, val_main_v89_apply, ref_dp_at h _ eg, ref_e_at h _ eg, ref_inv_at h _ eg]
  show ((H.DP ((((i 0).val * 2048 + (i 1).val) * 1 + l.val) % 2048) k : ℝ) : EReal)
    * ((1 / (H.Z ((((i 0).val * 2048 + (i 1).val) * 1 + l.val) % 2048) * H.Z ((((i 0).val * 2048 + (i 1).val) * 1 + l.val) % 2048)) : ℝ) : EReal)
    * ((H.E ((((i 0).val * 2048 + (i 1).val) * 1 + l.val) % 2048) k : ℝ) : EReal) = _
  rw [er, ← EReal.coe_mul, ← EReal.coe_mul]

/-- The score's cotangent. -/
theorem ref_ds_at (i : S16x2048x2048.Idx) (hi : (i 0).val = g.val) :
    (val_main_v101 (F := Ideal) x0 x1 x2 x3 x4 i : EReal) = (H.DS (i 1).val (i 2).val : EReal) := by
  have h1 : (i 1).val < 2048 := (i 1).isLt
  have hz := H.Z_pos h1
  rw [val_main_v101_apply, mask_at, val_main_call1_v0_apply, val_main_call1_cst_apply, word_zero]
  by_cases hm : (i 2).val ≤ (i 1).val
  · rw [if_pos hm]
    show (val_main_v100 (F := Ideal) x0 x1 x2 x3 x4 i : EReal) = _
    rw [val_main_v100_apply, val_main_v99_apply, val_main_v98_apply, val_main_v96_apply, val_main_v95_apply, ref_dp_at h i hi, ref_e_at h i hi,
      ref_z_row h _ hi, ref_shift_at h _ hi]
    show (Ideal.div (H.DP (i 1).val (i 2).val : EReal) ((H.Z (i 1).val : ℝ) : EReal)
      + ((-∑ k : Fin 2048, H.DP (i 1).val k * (1 / (H.Z (i 1).val * H.Z (i 1).val)) * H.E (i 1).val k : ℝ) : EReal))
      * ((H.E (i 1).val (i 2).val : ℝ) : EReal) = _
    rw [Ideal.div_coe hz.ne', ← EReal.coe_mul, ← EReal.coe_add, ← EReal.coe_mul]
    refine congrArg _ ?_
    have hR : ∑ k : Fin 2048, H.DP (i 1).val k * (1 / (H.Z (i 1).val * H.Z (i 1).val)) * H.E (i 1).val k
        = 1 / H.Z (i 1).val * H.R (i 1).val := by
      unfold RHead.R RHead.P
      rw [Finset.mul_sum]
      refine Finset.sum_congr rfl fun k _ => ?_
      field_simp
    rw [hR]
    unfold RHead.DS RHead.P
    field_simp
    ring
  · rw [if_neg hm, H.DS_above (by omega)]
    rfl

/-- The values', keys', queries' and decays' cotangents. -/
theorem ref_dv_at (i : S2048x16x64.Idx) (hi : (i 1).val = g.val) :
    (val_main_v88 (F := Ideal) x0 x1 x2 x3 x4 i : EReal) = (argsOf x0 x1 x2 x3 x4).dvn g (i 0).val (i 2).val := by
  rw [dvn_eq h.reals, val_main_v88_apply, val_main_v87_apply]
  refine (dot_real _ _ (fun r : Fin 2048 => H.D r (i 2).val) (fun r : Fin 2048 => H.P r (i 0).val)
    (fun k => ref_d_at h _ hi) fun k => ref_p_at h _ hi).trans ?_
  exact congrArg _ (Finset.sum_congr rfl fun j _ => mul_comm _ _)
theorem ref_scaled_at (i : S16x2048x2048.Idx) (hi : (i 0).val = g.val) :
    (val_main_v111 (F := Ideal) x0 x1 x2 x3 x4 i : EReal) = ((H.DS (i 1).val (i 2).val * (1 / 8) : ℝ) : EReal) := by
  rw [val_main_v111_apply, val_main_v110_apply, val_main_cst_25_apply, ref_ds_at h i hi, EReal.coe_mul, ← wEighth_eq]
  rfl
theorem ref_dk_at (i : S2048x16x64.Idx) (hi : (i 1).val = g.val) :
    (val_main_v113 (F := Ideal) x0 x1 x2 x3 x4 i : EReal) = (argsOf x0 x1 x2 x3 x4).dkn g (i 0).val (i 2).val := by
  rw [dkn_eq h.reals, val_main_v113_apply, val_main_v112_apply]
  refine (dot_real _ _ (fun r : Fin 2048 => H.DS r (i 0).val * (1 / 8)) (fun r : Fin 2048 => H.Q r (i 2).val)
    (fun k => ref_scaled_at h _ hi) fun k => ref_q_at h (ridx_main_v112 (idx_main_v113 i) k) hi).trans ?_
  exact congrArg _ (Finset.sum_congr rfl fun j _ => by ring)
theorem ref_dq_at (i : S2048x16x64.Idx) (hi : (i 1).val = g.val) :
    (val_main_v115 (F := Ideal) x0 x1 x2 x3 x4 i : EReal) = (argsOf x0 x1 x2 x3 x4).dqn g (i 0).val (i 2).val := by
  rw [dqn_eq h.reals (i 0).isLt, val_main_v115_apply, val_main_v114_apply]
  refine (dot_real _ _ (fun k : Fin 2048 => H.DS (i 0).val k * (1 / 8)) (fun k : Fin 2048 => H.K k (i 2).val)
    (fun k => ref_scaled_at h _ hi) fun k => ref_k_at h (ridx_main_v114 (idx_main_v115 i) k) hi).trans ?_
  rw [Finset.sum_mul]
  exact congrArg _ (Finset.sum_congr rfl fun j _ => by ring)
theorem ref_dc_at (i : S16x2048.Idx) (hi : (i 0).val = g.val) :
    (val_main_v109 (F := Ideal) x0 x1 x2 x3 x4 i : EReal) = (argsOf x0 x1 x2 x3 x4).dcn g (i 1).val := by
  have h0 : (i 0).val < 16 := (i 0).isLt
  have h1 : (i 1).val < 2048 := (i 1).isLt
  rw [dcn_eq h.reals, val_main_v109_apply]
  have ha : (val_main_v105 (F := Ideal) x0 x1 x2 x3 x4 i : EReal) = ((∑ r : Fin 2048, -H.DS r (i 1).val : ℝ) : EReal) := by
    rw [val_main_v105_apply]
    refine (sum_word _ rfl _ (fun _ : Fin 1 => ∑ r : Fin 2048, -H.DS r (i 1).val) fun l => ?_).trans (by simp)
    have hl := l.isLt
    have er : (((i 0).val * 1 + l.val) * 2048 + (i 1).val) % 2048 = (i 1).val := by omega
    have eg : (((i 0).val * 1 + l.val) * 2048 + (i 1).val) / 2048 = g.val := by omega
    rw [val_main_v104_apply, val_main_v103_apply]
    refine sum_word _ rfl _ _ fun r => ?_
    rw [val_main_v102_apply, ref_ds_at h _ eg]
    show -((H.DS r ((((i 0).val * 1 + l.val) * 2048 + (i 1).val) % 2048) : ℝ) : EReal) = _
    rw [er, EReal.coe_neg]
  have hb : (val_main_v108 (F := Ideal) x0 x1 x2 x3 x4 i : EReal) = ((0 : ℝ) : EReal) := by
    rw [val_main_v108_apply]
    refine (sum_word _ rfl _ (fun _ : Fin 1 => 0) fun l => ?_).trans (by simp)
    have hl := l.isLt
    have er : (((i 0).val * 2048 + (i 1).val) * 1 + l.val) % 2048 = (i 1).val := by omega
    have eg : (((i 0).val * 2048 + (i 1).val) * 1 + l.val) / 2048 = g.val := by omega
    rw [val_main_v107_apply, val_main_v106_apply, ← H.DS_sum h1]
    refine sum_word _ rfl _ _ fun k => ?_
    rw [ref_ds_at h _ eg]
    show ((H.DS ((((i 0).val * 2048 + (i 1).val) * 1 + l.val) % 2048) k : ℝ) : EReal) = _
    rw [er]
  rw [ha, hb]
  show (((∑ r : Fin 2048, -H.DS r (i 1).val : ℝ) : EReal) + ((0 : ℝ) : EReal)) = _
  rw [← EReal.coe_add, add_zero, Finset.sum_neg_distrib]
end
end Cert.FoxIdeal.Hand
-- ==== Proof.FoxSums.lean ====
/- The reference's four results: the norms' gradients over the heads, the columns put side by side. -/
module

public import proofs.«01_k».proof.Proof.FoxBack
public import proofs.«01_k».proof.Proof.FoxOut9
public import proofs.«01_k».proof.Proof.FoxOut1

@[expose] public section
set_option maxRecDepth 16384
noncomputable section
open Idealize.ShloMosaic Idealize.ShloMosaic.TcCoe Idealize.SL.Sem
open scoped BigOperators
namespace Cert.FoxIdeal.Hand
open Cert.FoxIdeal Cert.FoxIdeal.Gen
open Cert.FoxRefIdeal.Read

/-- A matrix of 1024 columns set into 3072 columns of zeros. -/
theorem set_in (lo hi : ℕ) (y : FVec Ideal S2048x1024 .f32) (v : FVec Ideal S_ .f32) (hv : (v (Shape.Idx.first h_S_) : EReal) = 0)
    (hp : S2048x1024.Pads ![0, lo] ![0, hi] ![0, 0] S2048x3072) (i : S2048x3072.Idx) :
    (pad S2048x3072 ![0, lo] ![0, hi] ![0, 0] y v hp h_S_ i : EReal)
      = if h : lo ≤ (i 1).val ∧ (i 1).val - lo < 1024 then y (ix2 ⟨(i 0).val, (i 0).isLt⟩ ⟨(i 1).val - lo, h.2⟩) else 0 := by
  split_ifs with h
  · refine pad_apply_of_inside _ _ _ _ _ _ _ _ _ fun a => ?_
    match a with
    | ⟨0, _⟩ => show (i 0).val = 0 + (i 0).val * (0 + 1); omega
    | ⟨1, _⟩ => show (i 1).val = lo + ((i 1).val - lo) * (0 + 1); omega
  · refine (pad_apply_of_not_inside _ _ _ _ _ _ _ _ (1 : Fin 2) fun hin => h ?_).trans hv
    have e1 : lo ≤ (i 1).val := hin.1
    have e2 : ((i 1).val - lo) / (0 + 1) < 1024 := hin.2.2
    exact ⟨e1, by omega⟩

/-- A sum over the two leading axes. -/
theorem lead_fiber {a b n : ℕ} {t : Shape} (y : (⟨3, ![a, b, n]⟩ : Shape).Idx → EReal) (hr : (⟨3, ![a, b, n]⟩ : Shape).ReducesTo [0, 1] t)
    (j : t.Idx) (h0 : 0 < t.rank) (J : Fin n) (hJ : (j ⟨0, h0⟩).val = J.val) :
    ∑ i ∈ Finset.univ.filter (fun i => hr.drop i = j), y i = ∑ p : Fin a, ∑ q : Fin b, y (ix3 p q J) := by
  have hf : ∀ i : (⟨3, ![a, b, n]⟩ : Shape).Idx, hr.drop i = j ↔ ∃ k : Fin a × Fin b, ix3 k.1 k.2 J = i := fun i => by
    constructor
    · intro e
      exact ⟨(i 0, i 1), (at_ix3 i _ _ _ ⟨rfl, rfl, (congrArg Fin.val (congrFun e ⟨0, h0⟩)).trans hJ⟩).symm⟩
    · rintro ⟨k, rfl⟩
      funext l
      apply Fin.ext
      match l with
      | ⟨0, _⟩ => exact hJ.symm
      | ⟨_ + 1, hb⟩ => exact absurd hb (by have : t.rank = 1 := hr.1; omega)
  refine (Finset.sum_filter_eq_sum_of_fiber _ (fun k : Fin a × Fin b => ix3 k.1 k.2 J)
    (fun _ _ e => Prod.ext (congrFun e 0) (congrFun e 1)) hf y).trans ?_
  simp only [Fintype.sum_prod_type]
theorem lead_sum {a b : ℕ} (y : FVec Ideal (⟨3, ![a, b, 64]⟩ : Shape) .f32) (z : FVec Ideal S_ .f32)
    (hr : (⟨3, ![a, b, 64]⟩ : Shape).ReducesTo [0, 1] (⟨1, ![64]⟩ : Shape)) (j : S64.Idx) :
    (Host.reduceAdd y z hr h_S_ j : EReal) = (z (Shape.Idx.first h_S_) : EReal) + ∑ p : Fin a, ∑ q : Fin b, (y (ix3 p q (j 0)) : EReal) := by
  simp only [Host.reduceAdd, Ideal.hostReduceAdd_def]
  exact congrArg (fun s : EReal => (z (Shape.Idx.first h_S_) : EReal) + s) (lead_fiber y hr j (by decide) (j 0) rfl)

section
variable {x0 : FVec Ideal S2048x3072 .f32} {x1 : FVec Ideal S16x2048 .f32} {x2 x3 : FVec Ideal S1x64 .f32} {x4 : FVec Ideal S2048x1024 .f32}
  (hall : ∀ g : Fin 16, ∃ H : RHead, Held x0 x1 x2 x3 x4 H g)
include hall

theorem all_dv (i : S2048x16x64.Idx) :
    (val_main_v88 (F := Ideal) x0 x1 x2 x3 x4 i : EReal) = (argsOf x0 x1 x2 x3 x4).dvn (i 1).val (i 0).val (i 2).val := by
  obtain ⟨H, h⟩ := hall ⟨(i 1).val, (i 1).isLt⟩
  exact ref_dv_at h i rfl
theorem all_dk (i : S2048x16x64.Idx) :
    (val_main_v113 (F := Ideal) x0 x1 x2 x3 x4 i : EReal) = (argsOf x0 x1 x2 x3 x4).dkn (i 1).val (i 0).val (i 2).val := by
  obtain ⟨H, h⟩ := hall ⟨(i 1).val, (i 1).isLt⟩
  exact ref_dk_at h i rfl
theorem all_dq (i : S2048x16x64.Idx) :
    (val_main_v115 (F := Ideal) x0 x1 x2 x3 x4 i : EReal) = (argsOf x0 x1 x2 x3 x4).dqn (i 1).val (i 0).val (i 2).val := by
  obtain ⟨H, h⟩ := hall ⟨(i 1).val, (i 1).isLt⟩
  exact ref_dq_at h i rfl
theorem all_dc (i : S16x2048.Idx) :
    (val_main_v109 (F := Ideal) x0 x1 x2 x3 x4 i : EReal) = (argsOf x0 x1 x2 x3 x4).dcn (i 0).val (i 1).val := by
  obtain ⟨H, h⟩ := hall ⟨(i 0).val, (i 0).isLt⟩
  exact ref_dc_at h i rfl

/-- The norms' backward passes. -/
theorem dyk_at (i : S2048x16x64.Idx) : (val_main_v122 (F := Ideal) x0 x1 x2 x3 x4 i : EReal)
    = (argsOf x0 x1 x2 x3 x4).dkn (i 1).val (i 0).val (i 2).val * (argsOf x0 x1 x2 x3 x4).gk (i 2).val := by
  rw [val_main_v122_apply, val_main_v121_apply, all_dk hall, gk_at x0 x1 x2 x3 x4]
  rfl
theorem dyq_at (i : S2048x16x64.Idx) : (val_main_v146 (F := Ideal) x0 x1 x2 x3 x4 i : EReal)
    = (argsOf x0 x1 x2 x3 x4).dqn (i 1).val (i 0).val (i 2).val * (argsOf x0 x1 x2 x3 x4).gq (i 2).val := by
  rw [val_main_v146_apply, val_main_v145_apply, all_dq hall, gq_at x0 x1 x2 x3 x4]
  rfl
theorem along_k (i : S2048x16.Idx) : (val_main_v125 (F := Ideal) x0 x1 x2 x3 x4 i : EReal)
    = ∑ j : Fin 64, (argsOf x0 x1 x2 x3 x4).kx (i 1).val (i 0).val j
      * ((argsOf x0 x1 x2 x3 x4).dkn (i 1).val (i 0).val j * (argsOf x0 x1 x2 x3 x4).gk j) := by
  rw [val_main_v125_apply, val_main_cst_29_apply, word_zero]
  refine (zero_add (M := EReal) _).trans (Finset.sum_congr rfl fun j _ => ?_)
  rw [val_main_v124_apply, dyk_at hall, kx_at x0 x1 x2 x3 x4]
  rfl
theorem along_q (i : S2048x16.Idx) : (val_main_v149 (F := Ideal) x0 x1 x2 x3 x4 i : EReal)
    = ∑ j : Fin 64, (argsOf x0 x1 x2 x3 x4).qx (i 1).val (i 0).val j
      * ((argsOf x0 x1 x2 x3 x4).dqn (i 1).val (i 0).val j * (argsOf x0 x1 x2 x3 x4).gq j) := by
  rw [val_main_v149_apply, val_main_cst_35_apply, word_zero]
  refine (zero_add (M := EReal) _).trans (Finset.sum_congr rfl fun j _ => ?_)
  rw [val_main_v148_apply, dyq_at hall, qx_at x0 x1 x2 x3 x4]
  rfl
theorem slope_k (i : S2048x16.Idx) : (val_main_v132 (F := Ideal) x0 x1 x2 x3 x4 i : EReal)
    = slope ((argsOf x0 x1 x2 x3 x4).kx (i 1).val) (argsOf x0 x1 x2 x3 x4).gk ((argsOf x0 x1 x2 x3 x4).dkn (i 1).val) (i 0).val := by
  have h0 : (i 0).val < 2048 := (i 0).isLt
  have h1 : (i 1).val < 16 := (i 1).isLt
  rw [val_main_v132_apply, val_main_cst_31_apply, word_zero]
  refine (zero_add (M := EReal) _).trans ((Fin.sum_univ_one _).trans ?_)
  rw [val_main_v131_apply, val_main_v130_apply, val_main_v129_apply, val_main_v126_apply, along_k hall, hrs_k x0 x1 x2 x3 x4]
  have e0 : (((i 0).val * 16 + (i 1).val) * 1 + 0) / 16 = (i 0).val := by omega
  have e1 : (((i 0).val * 16 + (i 1).val) * 1 + 0) % 16 = (i 1).val := by omega
  show Ideal.div ((∑ j : Fin 64, (argsOf x0 x1 x2 x3 x4).kx ((((i 0).val * 16 + (i 1).val) * 1 + 0) % 16) ((((i 0).val * 16 + (i 1).val) * 1 + 0) / 16) j
    * ((argsOf x0 x1 x2 x3 x4).dkn ((((i 0).val * 16 + (i 1).val) * 1 + 0) % 16) ((((i 0).val * 16 + (i 1).val) * 1 + 0) / 16) j
      * (argsOf x0 x1 x2 x3 x4).gk j)) * hrs ((argsOf x0 x1 x2 x3 x4).kx (i 1).val) (i 0).val) w64 = _
  rw [e0, e1]
  rfl
theorem slope_q (i : S2048x16.Idx) : (val_main_v156 (F := Ideal) x0 x1 x2 x3 x4 i : EReal)
    = slope ((argsOf x0 x1 x2 x3 x4).qx (i 1).val) (argsOf x0 x1 x2 x3 x4).gq ((argsOf x0 x1 x2 x3 x4).dqn (i 1).val) (i 0).val := by
  have h0 : (i 0).val < 2048 := (i 0).isLt
  have h1 : (i 1).val < 16 := (i 1).isLt
  rw [val_main_v156_apply, val_main_cst_37_apply, word_zero]
  refine (zero_add (M := EReal) _).trans ((Fin.sum_univ_one _).trans ?_)
  rw [val_main_v155_apply, val_main_v154_apply, val_main_v153_apply, val_main_v150_apply, along_q hall, hrs_q x0 x1 x2 x3 x4]
  have e0 : (((i 0).val * 16 + (i 1).val) * 1 + 0) / 16 = (i 0).val := by omega
  have e1 : (((i 0).val * 16 + (i 1).val) * 1 + 0) % 16 = (i 1).val := by omega
  show Ideal.div ((∑ j : Fin 64, (argsOf x0 x1 x2 x3 x4).qx ((((i 0).val * 16 + (i 1).val) * 1 + 0) % 16) ((((i 0).val * 16 + (i 1).val) * 1 + 0) / 16) j
    * ((argsOf x0 x1 x2 x3 x4).dqn ((((i 0).val * 16 + (i 1).val) * 1 + 0) % 16) ((((i 0).val * 16 + (i 1).val) * 1 + 0) / 16) j
      * (argsOf x0 x1 x2 x3 x4).gq j)) * hrs ((argsOf x0 x1 x2 x3 x4).qx (i 1).val) (i 0).val) w64 = _
  rw [e0, e1]
  rfl
theorem back_k (i : S2048x16x64.Idx) : (val_main_v137 (F := Ideal) x0 x1 x2 x3 x4 i : EReal)
    = (argsOf x0 x1 x2 x3 x4).grad 1 (i 1).val (i 0).val (i 2).val := by
  rw [val_main_v137_apply, val_main_v136_apply, val_main_v135_apply, val_main_v134_apply, val_main_v133_apply, val_main_v128_apply,
    val_main_v127_apply, dyk_at hall, kx_at x0 x1 x2 x3 x4, rs_k x0 x1 x2 x3 x4, slope_k hall]
  rfl
theorem back_q (i : S2048x16x64.Idx) : (val_main_v161 (F := Ideal) x0 x1 x2 x3 x4 i : EReal)
    = (argsOf x0 x1 x2 x3 x4).grad 0 (i 1).val (i 0).val (i 2).val := by
  rw [val_main_v161_apply, val_main_v160_apply, val_main_v159_apply, val_main_v158_apply, val_main_v157_apply, val_main_v152_apply,
    val_main_v151_apply, dyq_at hall, qx_at x0 x1 x2 x3 x4, rs_q x0 x1 x2 x3 x4, slope_q hall]
  rfl

/-- The three column blocks, and the four results. -/
theorem cols_v (i : S2048x1024.Idx) : (val_main_v116 (F := Ideal) x0 x1 x2 x3 x4 i : EReal)
    = (argsOf x0 x1 x2 x3 x4).grad 2 ((i 1).val / 64) (i 0).val ((i 1).val % 64) := by
  have h0 : (i 0).val < 2048 := (i 0).isLt
  have h1 : (i 1).val < 1024 := (i 1).isLt
  rw [val_main_v116_apply, all_dv hall]
  have e0 : (idx_main_v116 i 0).val = (i 0).val := by show _ / _ = _; omega
  have e1 : (idx_main_v116 i 1).val = (i 1).val / 64 := by show _ % _ = _; omega
  have e2 : (idx_main_v116 i 2).val = (i 1).val % 64 := by show _ % _ = _; omega
  rw [e0, e1, e2]
  rfl
theorem cols_k (i : S2048x1024.Idx) : (val_main_v139 (F := Ideal) x0 x1 x2 x3 x4 i : EReal)
    = (argsOf x0 x1 x2 x3 x4).grad 1 ((i 1).val / 64) (i 0).val ((i 1).val % 64) := by
  have h0 : (i 0).val < 2048 := (i 0).isLt
  have h1 : (i 1).val < 1024 := (i 1).isLt
  rw [val_main_v139_apply, back_k hall]
  have e0 : (idx_main_v139 i 0).val = (i 0).val := by show _ / _ = _; omega
  have e1 : (idx_main_v139 i 1).val = (i 1).val / 64 := by show _ % _ = _; omega
  have e2 : (idx_main_v139 i 2).val = (i 1).val % 64 := by show _ % _ = _; omega
  rw [e0, e1, e2]
theorem cols_q (i : S2048x1024.Idx) : (val_main_v163 (F := Ideal) x0 x1 x2 x3 x4 i : EReal)
    = (argsOf x0 x1 x2 x3 x4).grad 0 ((i 1).val / 64) (i 0).val ((i 1).val % 64) := by
  have h0 : (i 0).val < 2048 := (i 0).isLt
  have h1 : (i 1).val < 1024 := (i 1).isLt
  rw [val_main_v163_apply, back_q hall]
  have e0 : (idx_main_v163 i 0).val = (i 0).val := by show _ / _ = _; omega
  have e1 : (idx_main_v163 i 1).val = (i 1).val / 64 := by show _ % _ = _; omega
  have e2 : (idx_main_v163 i 2).val = (i 1).val % 64 := by show _ % _ = _; omega
  rw [e0, e1, e2]

theorem columns (i : S2048x3072.Idx) : (val_main_v165 (F := Ideal) x0 x1 x2 x3 x4 i : EReal)
    = (argsOf x0 x1 x2 x3 x4).grad ((i 1).val / 1024) ((i 1).val % 1024 / 64) (i 0).val ((i 1).val % 1024 % 64) := by
  have h1 : (i 1).val < 3072 := (i 1).isLt
  rw [val_main_v165_apply, val_main_v141_apply]
  show ((val_main_v117 (F := Ideal) x0 x1 x2 x3 x4 i : EReal) + val_main_v140 (F := Ideal) x0 x1 x2 x3 x4 i)
    + val_main_v164 (F := Ideal) x0 x1 x2 x3 x4 i = _
  unfold val_main_v117 val_main_v140 val_main_v164
  rw [set_in 2048 0 _ _ word_zero, set_in 1024 1024 _ _ word_zero, set_in 0 2048 _ _ word_zero]
  simp only [cols_v hall, cols_k hall, cols_q hall]
  rcases (by omega : (i 1).val < 1024 ∨ (1024 ≤ (i 1).val ∧ (i 1).val < 2048) ∨ 2048 ≤ (i 1).val) with h | h | h
  · rw [dif_neg (by omega), dif_neg (by omega), dif_pos (by omega), zero_add, zero_add]
    show (argsOf x0 x1 x2 x3 x4).grad 0 (((i 1).val - 0) / 64) (i 0).val (((i 1).val - 0) % 64) = _
    rw [Nat.sub_zero, Nat.div_eq_of_lt h, Nat.mod_eq_of_lt h]
  · rw [dif_neg (by omega), dif_pos (by omega), dif_neg (by omega), zero_add, add_zero]
    show (argsOf x0 x1 x2 x3 x4).grad 1 (((i 1).val - 1024) / 64) (i 0).val (((i 1).val - 1024) % 64) = _
    rw [show (i 1).val / 1024 = 1 by omega, show (i 1).val % 1024 = (i 1).val - 1024 by omega]
  · rw [dif_pos (by omega), dif_neg (by omega), dif_neg (by omega), add_zero, add_zero]
    show (argsOf x0 x1 x2 x3 x4).grad 2 (((i 1).val - 2048) / 64) (i 0).val (((i 1).val - 2048) % 64) = _
    rw [show (i 1).val / 1024 = 2 by omega, show (i 1).val % 1024 = (i 1).val - 2048 by omega]

theorem result_dqkv (i : S3x2048x1024.Idx) : (val_main_v168 (F := Ideal) x0 x1 x2 x3 x4 i : EReal)
    = (argsOf x0 x1 x2 x3 x4).grad (i 0).val ((i 2).val / 64) (i 1).val ((i 2).val % 64) := by
  have h0 : (i 0).val < 3 := (i 0).isLt
  have h1 : (i 1).val < 2048 := (i 1).isLt
  have h2 : (i 2).val < 1024 := (i 2).isLt
  rw [val_main_v168_apply, val_main_v167_apply, val_main_v166_apply]
  refine (columns hall _).trans ?_
  have e0 : (idx_main_v166 (idx_main_v167 i) 0).val = (i 1).val := by
    show (((i 1).val * 3 + (i 0).val) * 1024 + (i 2).val) / 3072 = _
    omega
  have e1 : (idx_main_v166 (idx_main_v167 i) 1).val = 1024 * (i 0).val + (i 2).val := by
    show (((i 1).val * 3 + (i 0).val) * 1024 + (i 2).val) % 3072 = _
    omega
  rw [e0, e1, show (1024 * (i 0).val + (i 2).val) / 1024 = (i 0).val by omega,
    show (1024 * (i 0).val + (i 2).val) % 1024 = (i 2).val by omega]
theorem turned_dc (r : Fin 2048) (l : Fin 16) :
    (val_main_v169 (F := Ideal) x0 x1 x2 x3 x4 (ix2 r l) : EReal) = (argsOf x0 x1 x2 x3 x4).dcn l.val r.val := by
  rw [val_main_v169_apply, all_dc hall]
  have e0 : (idx_main_v169 (ix2 r l) 0).val = l.val := rfl
  have e1 : (idx_main_v169 (ix2 r l) 1).val = r.val := rfl
  rw [e0, e1]
theorem result_dc (i : S2048x128.Idx) : (val_main_v170 (F := Ideal) x0 x1 x2 x3 x4 i : EReal)
    = if (i 1).val < 16 then (argsOf x0 x1 x2 x3 x4).dcn (i 1).val (i 0).val else 0 := by
  have z : (val_main_call2_v0 (F := Ideal) (Shape.Idx.first h_S_) : EReal) = 0 := by
    rw [val_main_call2_v0_apply, val_main_c_apply]
    show (((0#32 : BitVec 32).toInt : ℝ) : EReal) = 0
    simp
  unfold val_main_v170
  generalize hy : val_main_v169 (F := Ideal) x0 x1 x2 x3 x4 = y
  generalize val_main_call2_v0 (F := Ideal) = w at z ⊢
  split_ifs with h
  · refine (pad_apply_of_inside _ _ _ y w _ _ i (ix2 (⟨(i 0).val, (i 0).isLt⟩ : Fin 2048) (⟨(i 1).val, h⟩ : Fin 16)) fun a => ?_).trans ?_
    · match a with
      | ⟨0, _⟩ => show (i 0).val = 0 + (i 0).val * (0 + 1); omega
      | ⟨1, _⟩ => show (i 1).val = 0 + (i 1).val * (0 + 1); omega
    · rw [← hy]
      exact turned_dc hall _ _
  · refine (pad_apply_of_not_inside _ _ _ y w _ _ i (1 : Fin 2) fun hin => h ?_).trans z
    have e2 : ((i 1).val - 0) / (0 + 1) < 16 := hin.2.2
    omega
theorem weight_k (j : S64.Idx) : (val_main_v119 (F := Ideal) x0 x1 x2 x3 x4 j : EReal)
    = ∑ g ∈ Finset.range 16, (argsOf x0 x1 x2 x3 x4).wk g (j 0).val := by
  unfold val_main_v119
  rw [lead_sum, val_main_cst_27_apply, word_zero, zero_add, Finset.sum_comm, ← Fin.sum_univ_eq_sum_range]
  refine Finset.sum_congr rfl fun g _ => ?_
  unfold Args.wk weigh
  refine Finset.sum_congr rfl fun r _ => ?_
  rw [val_main_v118_apply, all_dk hall, hat_k x0 x1 x2 x3 x4]
  rfl
theorem weight_q (j : S64.Idx) : (val_main_v143 (F := Ideal) x0 x1 x2 x3 x4 j : EReal)
    = ∑ g ∈ Finset.range 16, (argsOf x0 x1 x2 x3 x4).wq g (j 0).val := by
  unfold val_main_v143
  rw [lead_sum, val_main_cst_33_apply, word_zero, zero_add, Finset.sum_comm, ← Fin.sum_univ_eq_sum_range]
  refine Finset.sum_congr rfl fun g _ => ?_
  unfold Args.wq weigh
  refine Finset.sum_congr rfl fun r _ => ?_
  rw [val_main_v142_apply, all_dq hall, hat_q x0 x1 x2 x3 x4]
  rfl
theorem result_dgk (i : S1x64.Idx) : (val_main_v138 (F := Ideal) x0 x1 x2 x3 x4 i : EReal)
    = ∑ g ∈ Finset.range 16, (argsOf x0 x1 x2 x3 x4).wk g (i 1).val := by
  rw [val_main_v138_apply]
  unfold val_main_v123
  rw [lead_sum, val_main_cst_28_apply, word_zero, zero_add, Fin.sum_univ_one, Fin.sum_univ_one, val_main_v120_apply, weight_k hall]
  have e : (idx_main_v120 (ix3 0 0 (idx_main_v138 i 0)) 0).val = (i 1).val := by
    show (0 * 1 + 0) * 64 + (i 1).val = _
    omega
  rw [e]
theorem result_dgq (i : S1x64.Idx) : (val_main_v162 (F := Ideal) x0 x1 x2 x3 x4 i : EReal)
    = ∑ g ∈ Finset.range 16, (argsOf x0 x1 x2 x3 x4).wq g (i 1).val := by
  rw [val_main_v162_apply]
  unfold val_main_v147
  rw [lead_sum, val_main_cst_34_apply, word_zero, zero_add, Fin.sum_univ_one, Fin.sum_univ_one, val_main_v144_apply, weight_q hall]
  have e : (idx_main_v144 (ix3 0 0 (idx_main_v162 i 0)) 0).val = (i 1).val := by
    show (0 * 1 + 0) * 64 + (i 1).val = _
    omega
  rw [e]
end
end Cert.FoxIdeal.Hand
-- ==== Proof.FoxClaim.lean ====
/-
  The claims about the gradient of the forgetting attention, put together.
-/
module

public import proofs.«01_k».proof.Defs
public import proofs.«01_k».proof.Proof.Gen.Fox.Frame
public import proofs.«01_k».proof.Proof.Gen.FoxRefIdeal.Run
public import proofs.«01_k».proof.Proof.FoxArr
public import proofs.«01_k».proof.Proof.FoxSums

@[expose] public section

set_option maxRecDepth 16384

noncomputable section

open Idealize.ShloMosaic Idealize.ShloMosaic.TcCoe Idealize.SL.Sem
open scoped BigOperators

namespace Cert.FoxClaim

open Cert.FoxIdeal Cert.FoxIdeal.Hand

/-- The shapes the precondition's operations take fit. -/
theorem facts : Cert.Pre_fox_finite.Facts := ⟨by decide, by decide, by decide, by decide⟩

/-- A value whose size is less than infinity is a real number. -/
theorem real_of_size (x : EReal) (h : (FloatOps.cmpf (F := Ideal) (φ := .f32) .olt (FloatOps.hostAbsf (F := Ideal) (φ := .f32) x) (FloatOps.ofBits (F := Ideal) .f32 0x7F800000#32)) = 1#1) :
    ∃ y : ℝ, x = (y : EReal) := by
  have w : (FloatOps.ofBits (F := Ideal) .f32 0x7F800000#32 : EReal) = ⊤ := by
    show Ideal.ofBits .f32 0x7F800000#32 = ⊤
    simp [Ideal.ofBits, Ideal.ieee]
  rw [w] at h
  have l : max x (-x) < ⊤ := by
    by_contra n
    have : (FloatOps.cmpf (F := Ideal) (φ := .f32) .olt (FloatOps.hostAbsf (F := Ideal) (φ := .f32) x) (⊤ : EReal)) = BitVec.ofBool (decide (max x (-x) < (⊤ : EReal))) := rfl
    rw [this, decide_eq_false n] at h
    exact absurd h (by decide)
  have ht : x ≠ ⊤ := fun e => by
    rw [e] at l
    exact absurd l (by simp)
  have hb : x ≠ ⊥ := fun e => by
    rw [e] at l
    exact absurd l (by simp)
  exact ⟨x.toReal, (EReal.coe_toReal ht hb).symm⟩

/-- Where the precondition holds, every head's forward pass is over the reals. -/
theorem held (hp : Cert.Pre_fox_finite.Facts) (m : (ℓ : Loc nD τ sig) → Buf (Elt Ideal) ℓ) (h : Cert.Pre_FoxIdeal_fox_finite (hPre_fox_finite := hp) m) (c : Dev nD) (g : Fin 16) :
    ∃ H, Held (m ((c : Thread nD τ).loc main_arg0)) (m ((c : Thread nD τ).loc main_arg1)) (m ((c : Thread nD τ).loc main_arg2)) (m ((c : Thread nD τ).loc main_arg3))
      (m ((c : Thread nD τ).loc main_arg4)) H g := by
  obtain ⟨h0, h1, h2, h3, h4⟩ := h c
  exact heads _ _ _ _ _ (fun i => real_of_size _ (congrFun h0 i)) (fun i => real_of_size _ (congrFun h1 i)) (fun i => real_of_size _ (congrFun h2 i))
    (fun i => real_of_size _ (congrFun h3 i)) (fun i => real_of_size _ (congrFun h4 i)) g

/-- The attention's gradient call terminates without a fault and leaves its arguments alone. -/
theorem frame_kernel : Cert.quiescent_Fox := fun m ρ _ => Cert.Fox.Gen.frame m ρ

/-- The same over the extended reals. -/
theorem frame_ideal : Cert.quiescent_FoxIdeal := fun m ρ _ => Cert.FoxIdeal.Gen.frame m ρ

/-- The same of finite arguments. -/
theorem frame_ideal_finite (hp : Cert.Pre_fox_finite.Facts) : Cert.quiescent_FoxIdeal_pre_fox_finite (hPre_fox_finite := hp) := fun m ρ _ => Cert.FoxIdeal.Gen.frame m ρ

/-- The reference terminates without a fault and leaves its arguments alone. -/
theorem frame_reference : Cert.quiescent_FoxRefIdeal := fun m ρ _ =>
  (θ_run _ _ _).mono (fun r h => ⟨fun c => (h c).2.2.2.2, sem_eq_zero_of_no_sems rfl r.2⟩) (Cert.FoxRefIdeal.Value.run m ρ)

/-- The same of finite arguments. -/
theorem frame_reference_finite (hp : Cert.Pre_fox_finite.Facts) : Cert.quiescent_FoxRefIdeal_pre_fox_finite (hPre_fox_finite := hp) := fun m ρ _ =>
  frame_reference m ρ trivial

/-- The mask is the one constant read as another value. -/
theorem preserves : Cert.preserves_Fox_FoxIdeal := IdealRules.named_const.statement Cert.FoxIdeal.κ "mask" .f32 0xF149F2CA#32 ⊥ rfl

/-- The reference's argument arrays are the kernel's. -/
abbrev Agree (m : (ℓ : Loc nD τ sig) → Buf (Elt Ideal) ℓ) (V : Valuation Cert.FoxRefIdeal.τ Cert.FoxRefIdeal.sig (Elt Ideal)) (c : Dev nD) : Prop :=
  V (Proc.devRef .tc Cert.FoxRefIdeal.main_arg0) = m ((c : Thread nD τ).loc main_arg0)
    ∧ V (Proc.devRef .tc Cert.FoxRefIdeal.main_arg1) = m ((c : Thread nD τ).loc main_arg1)
    ∧ V (Proc.devRef .tc Cert.FoxRefIdeal.main_arg2) = m ((c : Thread nD τ).loc main_arg2)
    ∧ V (Proc.devRef .tc Cert.FoxRefIdeal.main_arg3) = m ((c : Thread nD τ).loc main_arg3)
    ∧ V (Proc.devRef .tc Cert.FoxRefIdeal.main_arg4) = m ((c : Thread nD τ).loc main_arg4)

/-- The queries', keys' and values' gradient of the reference is the kernel's. -/
theorem same_dqkv (hp : Cert.Pre_fox_finite.Facts) (m : (ℓ : Loc nD τ sig) → Buf (Elt Ideal) ℓ) (h : Cert.Pre_FoxIdeal_fox_finite (hPre_fox_finite := hp) m)
    (V : Valuation Cert.FoxRefIdeal.τ Cert.FoxRefIdeal.sig (Elt Ideal)) (c : Dev nD) (a : Agree m V c) :
    Cert.FoxRefIdeal.Read.val_main_v168 (F := Ideal) (V (Proc.devRef .tc Cert.FoxRefIdeal.main_arg0)) (V (Proc.devRef .tc Cert.FoxRefIdeal.main_arg1)) (V (Proc.devRef .tc Cert.FoxRefIdeal.main_arg2)) (V (Proc.devRef .tc Cert.FoxRefIdeal.main_arg3)) (V (Proc.devRef .tc Cert.FoxRefIdeal.main_arg4)) = (Cert.FoxIdeal.Gen.dats m 0 c).arrAt 9 Cert.FoxIdeal.cfg0.N := by
  rw [a.1, a.2.1, a.2.2.1, a.2.2.2.1, a.2.2.2.2]
  exact (funext fun i => result_dqkv (held hp m h c) i).trans (final9 m c).symm

/-- The decays' gradient of the reference is the kernel's. -/
theorem same_dc (hp : Cert.Pre_fox_finite.Facts) (m : (ℓ : Loc nD τ sig) → Buf (Elt Ideal) ℓ) (h : Cert.Pre_FoxIdeal_fox_finite (hPre_fox_finite := hp) m)
    (V : Valuation Cert.FoxRefIdeal.τ Cert.FoxRefIdeal.sig (Elt Ideal)) (c : Dev nD) (a : Agree m V c) :
    Cert.FoxRefIdeal.Read.val_main_v170 (F := Ideal) (V (Proc.devRef .tc Cert.FoxRefIdeal.main_arg0)) (V (Proc.devRef .tc Cert.FoxRefIdeal.main_arg1)) (V (Proc.devRef .tc Cert.FoxRefIdeal.main_arg2)) (V (Proc.devRef .tc Cert.FoxRefIdeal.main_arg3)) (V (Proc.devRef .tc Cert.FoxRefIdeal.main_arg4)) = (Cert.FoxIdeal.Gen.dats m 0 c).arrAt 10 Cert.FoxIdeal.cfg0.N := by
  rw [a.1, a.2.1, a.2.2.1, a.2.2.2.1, a.2.2.2.2]
  exact (funext fun i => result_dc (held hp m h c) i).trans (final10 m c).symm

/-- The queries' norm weights' gradient of the reference is the kernel's. -/
theorem same_dgq (hp : Cert.Pre_fox_finite.Facts) (m : (ℓ : Loc nD τ sig) → Buf (Elt Ideal) ℓ) (h : Cert.Pre_FoxIdeal_fox_finite (hPre_fox_finite := hp) m)
    (V : Valuation Cert.FoxRefIdeal.τ Cert.FoxRefIdeal.sig (Elt Ideal)) (c : Dev nD) (a : Agree m V c) :
    Cert.FoxRefIdeal.Read.val_main_v162 (F := Ideal) (V (Proc.devRef .tc Cert.FoxRefIdeal.main_arg0)) (V (Proc.devRef .tc Cert.FoxRefIdeal.main_arg1)) (V (Proc.devRef .tc Cert.FoxRefIdeal.main_arg2)) (V (Proc.devRef .tc Cert.FoxRefIdeal.main_arg3)) (V (Proc.devRef .tc Cert.FoxRefIdeal.main_arg4)) = (Cert.FoxIdeal.Gen.dats m 0 c).arrAt 11 Cert.FoxIdeal.cfg0.N := by
  rw [a.1, a.2.1, a.2.2.1, a.2.2.2.1, a.2.2.2.2]
  exact (funext fun i => result_dgq (held hp m h c) i).trans (final11 m c).symm

/-- The keys' norm weights' gradient of the reference is the kernel's. -/
theorem same_dgk (hp : Cert.Pre_fox_finite.Facts) (m : (ℓ : Loc nD τ sig) → Buf (Elt Ideal) ℓ) (h : Cert.Pre_FoxIdeal_fox_finite (hPre_fox_finite := hp) m)
    (V : Valuation Cert.FoxRefIdeal.τ Cert.FoxRefIdeal.sig (Elt Ideal)) (c : Dev nD) (a : Agree m V c) :
    Cert.FoxRefIdeal.Read.val_main_v138 (F := Ideal) (V (Proc.devRef .tc Cert.FoxRefIdeal.main_arg0)) (V (Proc.devRef .tc Cert.FoxRefIdeal.main_arg1)) (V (Proc.devRef .tc Cert.FoxRefIdeal.main_arg2)) (V (Proc.devRef .tc Cert.FoxRefIdeal.main_arg3)) (V (Proc.devRef .tc Cert.FoxRefIdeal.main_arg4)) = (Cert.FoxIdeal.Gen.dats m 0 c).arrAt 12 Cert.FoxIdeal.cfg0.N := by
  rw [a.1, a.2.1, a.2.2.1, a.2.2.2.1, a.2.2.2.2]
  exact (funext fun i => result_dgk (held hp m h c) i).trans (final12 m c).symm

set_option maxHeartbeats 1000000 in
/-- The kernel's four results are the reference's. -/
theorem algebraic (hp : Cert.Pre_fox_finite.Facts) : Cert.algebraic_FoxIdeal_FoxRefIdeal_pre_fox_finite (hPre_fox_finite := hp) := by
  pair_intro
  · run_from Cert.FoxIdeal.Value.run_blocks m g
  · run_from Cert.FoxRefIdeal.Value.run m' g'
    · refine (Cert.FoxRefIdeal.Read.val_main_v168_eq (F := Ideal) (StableHlo.launchContents m' c)).trans ?_
      exact same_dqkv hp m hpre (StableHlo.launchContents m' c) c (hagree c)
    · refine (Cert.FoxRefIdeal.Read.val_main_v170_eq (F := Ideal) (StableHlo.launchContents m' c)).trans ?_
      exact same_dc hp m hpre (StableHlo.launchContents m' c) c (hagree c)
    · refine (Cert.FoxRefIdeal.Read.val_main_v162_eq (F := Ideal) (StableHlo.launchContents m' c)).trans ?_
      exact same_dgq hp m hpre (StableHlo.launchContents m' c) c (hagree c)
    · refine (Cert.FoxRefIdeal.Read.val_main_v138_eq (F := Ideal) (StableHlo.launchContents m' c)).trans ?_
      exact same_dgk hp m hpre (StableHlo.launchContents m' c) c (hagree c)

end Cert.FoxClaim
-- ==== Proof.FwdBlock.lean ====
/- One head of the forget-gate attention's forward pass, one block of 512 queries at a time: the scores (keys down, queries
   across), the largest of each row, the exponentials, their sum, the output and the row's log-sum. All at any number `n` of
   keys and any first query `o`. -/
module

public import proofs.«01_k».proof.Proof.Gen.FoxFwdIdeal.Value
public import proofs.«01_k».proof.Proof.FoxReal

@[expose] public section
set_option maxRecDepth 16384
noncomputable section
open Idealize.ShloMosaic Idealize.ShloMosaic.TcCoe Idealize.SL.Sem
open scoped BigOperators
namespace Cert.FoxFwdIdeal.Hand
open Cert.FoxFwdIdeal Cert.FoxFwdIdeal.Gen
open Cert.FoxIdeal.Hand (RHead sum_coe)

/-- The vectors of a head hold its reals; the queries carry the factor 1/8. -/
structure Holds (H : RHead) (v18 v33 : FVec Ideal S2048x64 .bf16) (v36 : FVec Ideal S64x2048 .bf16)
    (v47 : FVec Ideal S2048x1 .f32) (v49 : FVec Ideal S1x2048 .f32) : Prop where
  q : ∀ r j, v18 (ix2 r j) = ((H.Q r.val j.val * (1 / 8) : ℝ) : EReal)
  k : ∀ r j, v33 (ix2 r j) = (H.K r.val j.val : EReal)
  v : ∀ j r, v36 (ix2 j r) = (H.V r.val j.val : EReal)
  ck : ∀ r j, v47 (ix2 r j) = (H.C r.val : EReal)
  cq : ∀ i r, v49 (ix2 i r) = (H.C r.val : EReal)

/-- A row's largest score is the head's shift. -/
def Top (H : RHead) : Prop := ∀ r, r < 2048 →
  Finset.univ.fold max (⊥ : EReal) (fun k : Fin 2048 => if k.val ≤ r then (H.S r k : EReal) else ⊥) = (H.M r : EReal)

/-- The shape facts of a block of 512 queries from `o` on against `n` keys. -/
structure BlockShape (n o : ℕ) : Prop where
  rows : S2048x64.Slices ![o, 0] S512x64
  lanes : S1x2048.Slices ![0, o] S1x512
  across : S1x512.Broadcasts ⟨2, ![n, 512]⟩
  down : Shape.Broadcasts ⟨2, ![n, 1]⟩ ⟨2, ![n, 512]⟩
  iota0 : (⟨2, ![n, 512]⟩ : Shape).Iotas .tc 32 [0]
  iota1 : (⟨2, ![n, 512]⟩ : Shape).Iotas .tc 32 [1]
  sum0 : Shape.Reduces ⟨2, ![n, 512]⟩ [0] S512
  last : n = o + 512
  le : n ≤ 2048

/-- The first `n` keys, values and decays. -/
structure Cut (H : RHead) (n : ℕ) (kx : FVec Ideal ⟨2, ![n, 64]⟩ .bf16) (vx : FVec Ideal ⟨2, ![64, n]⟩ .bf16)
    (cx : FVec Ideal ⟨2, ![n, 1]⟩ .f32) : Prop where
  k : ∀ r j, kx (ix2 r j) = (H.K r.val j.val : EReal)
  v : ∀ j r, vx (ix2 j r) = (H.V r.val j.val : EReal)
  c : ∀ r j, cx (ix2 r j) = (H.C r.val : EReal)

/-- The scores of a block before the mask, and behind it. -/
def rawBlk {n o : ℕ} (hs : BlockShape n o) (qx : FVec Ideal S512x64 .bf16) (kx : FVec Ideal ⟨2, ![n, 64]⟩ .bf16) (cx : FVec Ideal ⟨2, ![n, 1]⟩ .f32)
    (v49 : FVec Ideal S1x2048 .f32) : FVec Ideal ⟨2, ![n, 512]⟩ .f32 :=
  subf
    (addf
      (matmul (DotDims.transposedRhs n 64 512) none kx qx (constant ⟨2, ![n, 512]⟩ .f32 0x00000000#32))
      (broadcastTo ⟨2, ![n, 512]⟩ (extractStridedSlice S1x512 ![0, o] v49 hs.lanes) hs.across))
    (broadcastTo ⟨2, ![n, 512]⟩ cx hs.down)
def scoreBlk {n o : ℕ} (hs : BlockShape n o) (s : FVec Ideal ⟨2, ![n, 512]⟩ .f32) : FVec Ideal ⟨2, ![n, 512]⟩ .f32 :=
  select
    (cmpi .sle (iota .tc ⟨2, ![n, 512]⟩ 32 [0] hs.iota0)
      (addi (iota .tc ⟨2, ![n, 512]⟩ 32 [1] hs.iota1) (broadcast ⟨2, ![n, 512]⟩ (BitVec.ofNat 32 o))))
    s (broadcast ⟨2, ![n, 512]⟩ (Named.named (F := Ideal) κ "mask" 0xF149F2CA#32 : Ideal .f32))
/-- The largest score of each row. -/
def maxBlk {n o : ℕ} (hs : BlockShape n o) (s : FVec Ideal ⟨2, ![n, 512]⟩ .f32) : FVec Ideal S1x512 .f32 :=
  shapeCast S1x512 (multiReduction .maximumf [0] S512 s 0xFF800000#32 hs.sum0 (.inl rfl) rfl) shapeCasts_S512_S1x512
/-- The exponentials, and their sums. -/
def expBlk {n o : ℕ} (hs : BlockShape n o) (s : FVec Ideal ⟨2, ![n, 512]⟩ .f32) (m : FVec Ideal S1x512 .f32) : FVec Ideal ⟨2, ![n, 512]⟩ .f32 :=
  exp (subf s (broadcastTo ⟨2, ![n, 512]⟩ m hs.across))
def sumBlk {n o : ℕ} (hs : BlockShape n o) (p : FVec Ideal ⟨2, ![n, 512]⟩ .f32) : FVec Ideal S1x512 .f32 :=
  shapeCast S1x512 (multiReduction .add [0] S512 p 0x00000000#32 hs.sum0 (.inl rfl) rfl) shapeCasts_S512_S1x512
/-- The block's output. -/
def outBlk {n : ℕ} (vx : FVec Ideal ⟨2, ![64, n]⟩ .bf16) (p : FVec Ideal ⟨2, ![n, 512]⟩ .f32) (l : FVec Ideal S1x512 .f32) :
    FVec Ideal S512x64 .f32 :=
  transpose S512x64 [1, 0]
    (divf (matmul (DotDims.plain 64 n 512) none vx (truncf .bf16 p bitsLt_bf16_f32 : FVec Ideal ⟨2, ![n, 512]⟩ .bf16) (constant S64x512 .f32 0x00000000#32))
      (broadcastTo S64x512 l broadcasts_S1x512_S64x512)) transposes_S64x512_p1_0_S512x64
/-- The block's log-sums. -/
def logBlk (m l : FVec Ideal S1x512 .f32) : FVec Ideal S1x1x512 .f32 :=
  shapeCast S1x1x512 (addf m (log l)) shapeCasts_S1x512_S1x1x512

theorem mask_bot : (Named.named (F := Ideal) κ "mask" 0xF149F2CA#32 : Ideal .f32) = (⊥ : EReal) := rfl

/-- The largest of a row whose keys behind `n` are all masked. -/
theorem fold_cut {n : ℕ} (h2 : n ≤ 2048) (f : ℕ → EReal) (hf : ∀ k, n ≤ k → f k = ⊥) :
    Finset.univ.fold max (⊥ : EReal) (fun k : Fin n => f k) = Finset.univ.fold max (⊥ : EReal) fun k : Fin 2048 => f k := by
  refine le_antisymm (Finset.fold_max_le _ |>.2 ⟨bot_le, fun k _ => ?_⟩) (Finset.fold_max_le _ |>.2 ⟨bot_le, fun k _ => ?_⟩)
  · exact (Finset.le_fold_max _).2 (Or.inr ⟨⟨k.val, by omega⟩, Finset.mem_univ _, le_rfl⟩)
  · by_cases hk : k.val < n
    · exact (Finset.le_fold_max _).2 (Or.inr ⟨⟨k.val, hk⟩, Finset.mem_univ _, le_rfl⟩)
    · rw [hf k (by omega)]; exact bot_le

section At
variable {n o : ℕ} (hs : BlockShape n o) {H : RHead} {v18 v33 : FVec Ideal S2048x64 .bf16} {v36 : FVec Ideal S64x2048 .bf16}
  {v47 : FVec Ideal S2048x1 .f32} {v49 : FVec Ideal S1x2048 .f32} (hR : Holds H v18 v33 v36 v47 v49)
  {kx : FVec Ideal ⟨2, ![n, 64]⟩ .bf16} {vx : FVec Ideal ⟨2, ![64, n]⟩ .bf16} {cx : FVec Ideal ⟨2, ![n, 1]⟩ .f32} (hC : Cut H n kx vx cx)

theorem cut (h1 : S2048x64.Slices ![0, 0] ⟨2, ![n, 64]⟩) (h2 : S64x2048.Slices ![0, 0] ⟨2, ![64, n]⟩) (h3 : S2048x1.Slices ![0, 0] ⟨2, ![n, 1]⟩)
    (hn : n ≤ 2048) (hR : Holds H v18 v33 v36 v47 v49) :
    Cut H n (extractStridedSlice ⟨2, ![n, 64]⟩ ![0, 0] v33 h1) (extractStridedSlice ⟨2, ![64, n]⟩ ![0, 0] v36 h2)
      (extractStridedSlice ⟨2, ![n, 1]⟩ ![0, 0] v47 h3) where
  k r j := by
    refine Eq.trans ?_ (hR.k ⟨r.val, by omega⟩ j)
    pointwise []
  v j r := by
    refine Eq.trans ?_ (hR.v j ⟨r.val, by omega⟩)
    pointwise []
  c r j := by
    refine Eq.trans ?_ (hR.ck ⟨r.val, by omega⟩ 0)
    obtain rfl : j = 0 := Subsingleton.elim _ _
    pointwise []
theorem cut_whole (hR : Holds H v18 v33 v36 v47 v49) : Cut H 2048 v33 v36 v47 := ⟨hR.k, hR.v, hR.ck⟩

include hR in
theorem rows_at (q : Fin 512) (j : Fin 64) : extractStridedSlice S512x64 ![o, 0] v18 hs.rows (ix2 q j) = ((H.Q (o + q) j * (1 / 8) : ℝ) : EReal) := by
  have h1 := hs.last
  have h2 := hs.le
  rw [← hR.q ⟨o + q.val, by omega⟩ j]
  pointwise []

include hC
theorem col_at (k : Fin n) (q : Fin 512) :
    (broadcastTo ⟨2, ![n, 512]⟩ cx hs.down : FVec Ideal ⟨2, ![n, 512]⟩ .f32)
      (ix2 k q) = (H.C k : EReal) := by
  have h1 := hs.last
  have h2 := hs.le
  pointwise []
  refine (congrArg cx (?_ : _ = ix2 k 0)).trans (hC.c k 0)
  funext a
  refine Fin.ext ?_
  have hn : n ≠ 1 := by omega
  fin_cases a <;> simp [Shape.Idx.norm, hn]

include hR
theorem raw_at (k : Fin n) (q : Fin 512) : rawBlk hs (extractStridedSlice S512x64 ![o, 0] v18 hs.rows) kx cx v49 (ix2 k q)
    = (H.S (o + q) k : EReal) := by
  have h1 := hs.last
  have h2 := hs.le
  have e : (matmul (DotDims.transposedRhs n 64 512) none kx (extractStridedSlice S512x64 ![o, 0] v18 hs.rows)
      (constant (F := Ideal) ⟨2, ![n, 512]⟩ .f32 0x00000000#32) : FVec Ideal ⟨2, ![n, 512]⟩ .f32) (ix2 k q)
      = (((∑ j : Fin 64, H.Q (o + q) j * H.K k j) * (1 / 8) : ℝ) : EReal) := by
    refine (Ideal.matmul_transposedRhs_apply (φ₁ := .bf16) (φ₂ := .bf16) none _ _ _ k q).trans ?_
    refine (congrArg₂ (· + ·) (by pointwise []) (Finset.sum_congr rfl fun j _ => congrArg₂ (· * ·) (hC.k k j)
      (rows_at hs hR q j))).trans ((zero_add _).trans ?_)
    rw [Finset.sum_mul, ← sum_coe]
    refine Finset.sum_congr rfl fun j _ => ?_
    show (H.K k j : EReal) * ((H.Q (o + q) j * (1 / 8) : ℝ) : EReal) = _
    rw [← EReal.coe_mul]
    exact congrArg _ (by ring)
  have ec := col_at hs hC k q
  unfold rawBlk
  generalize (matmul (DotDims.transposedRhs n 64 512) none kx (extractStridedSlice S512x64 ![o, 0] v18 hs.rows)
      (constant (F := Ideal) ⟨2, ![n, 512]⟩ .f32 0x00000000#32) : FVec Ideal ⟨2, ![n, 512]⟩ .f32) = M at e ⊢
  generalize (broadcastTo ⟨2, ![n, 512]⟩ cx hs.down : FVec Ideal ⟨2, ![n, 512]⟩ .f32) = C at ec ⊢
  pointwise []
  rw [e, ec, hR.cq, ← EReal.coe_add, ← EReal.coe_sub]
  rfl
omit hR hC
/-- From a block of raw scores on. -/
theorem score_at {s : FVec Ideal ⟨2, ![n, 512]⟩ .f32} (h : ∀ k q, s (ix2 k q) = (H.S (o + q.val) k.val : EReal)) (k : Fin n) (q : Fin 512) :
    (scoreBlk hs s (ix2 k q) : EReal) = if k.val ≤ o + q.val then (H.S (o + q) k : EReal) else ⊥ := by
  have h1 := hs.last
  have h2 := hs.le
  unfold scoreBlk
  pointwise []
  rw [h, mask_bot]
  have hw : IntOp.addi (BitVec.ofNat 32 q.val) (BitVec.ofNat 32 o) = BitVec.ofNat 32 (o + q.val) := by
    rw [Nat.add_comm o]; exact (BitVec.ofNat_add ..).symm
  rw [hw, WordCmp.cmpi_sle_ofNat (by omega) (by omega)]
  by_cases hk : k.val ≤ o + q.val <;> simp [Scalar.select, hk]
theorem max_at (hT : Top H) {s : FVec Ideal ⟨2, ![n, 512]⟩ .f32}
    (h : ∀ k q, (s (ix2 k q) : EReal) = if k.val ≤ o + q.val then (H.S (o + q.val) k.val : EReal) else ⊥) (i q) :
    (maxBlk hs s (ix2 i q) : EReal) = (H.M (o + q.val) : EReal) := by
  have h1 := hs.last
  have h2 := hs.le
  obtain rfl : i = 0 := Subsingleton.elim _ _
  rw [← hT (o + q.val) (by omega), ← fold_cut h2 (fun k => if k ≤ o + q.val then (H.S (o + q.val) k : EReal) else ⊥) (fun k hk => if_neg (by omega))]
  simp only [← h]
  unfold maxBlk
  pointwise []
  rfl
theorem exp_at {s : FVec Ideal ⟨2, ![n, 512]⟩ .f32} {mx : FVec Ideal S1x512 .f32}
    (h : ∀ k q, (s (ix2 k q) : EReal) = if k.val ≤ o + q.val then (H.S (o + q.val) k.val : EReal) else ⊥)
    (hm : ∀ i q, (mx (ix2 i q) : EReal) = (H.M (o + q.val) : EReal)) (k q) : (expBlk hs s mx (ix2 k q) : EReal) = (H.E (o + q.val) k.val : EReal) := by
  unfold expBlk RHead.E
  pointwise []
  rw [h, hm]
  split_ifs
  · rw [← EReal.coe_sub, Ideal.exp_coe]
  · rfl
theorem sum_at {p : FVec Ideal ⟨2, ![n, 512]⟩ .f32} (h : ∀ k q, (p (ix2 k q) : EReal) = (H.E (o + q.val) k.val : EReal)) (i q) :
    (sumBlk hs p (ix2 i q) : EReal) = (H.Z (o + q.val) : EReal) := by
  have h1 := hs.last
  obtain rfl : i = 0 := Subsingleton.elim _ _
  unfold sumBlk RHead.Z
  rw [← RHead.sum_cut (r := o + q.val) (n := n) (by omega) hs.le (fun k => H.E (o + q.val) k) (fun k hk => if_neg (by omega)), ← sum_coe]
  simp only [← h]
  pointwise []
include hs in
theorem out_at (hC : Cut H n kx vx cx) {p : FVec Ideal ⟨2, ![n, 512]⟩ .f32} {l : FVec Ideal S1x512 .f32} (h : ∀ k q, (p (ix2 k q) : EReal) = (H.E (o + q.val) k.val : EReal))
    (hl : ∀ i q, (l (ix2 i q) : EReal) = (H.Z (o + q.val) : EReal)) (q j) :
    (outBlk vx p l (ix2 q j) : EReal) = ((∑ k : Fin 2048, H.P (o + q.val) k * H.V k j.val : ℝ) : EReal) := by
  have h1 := hs.last
  have h2 := hs.le
  have e : (matmul (DotDims.plain 64 n 512) none vx (truncf .bf16 p bitsLt_bf16_f32 : FVec Ideal ⟨2, ![n, 512]⟩ .bf16)
      (constant (F := Ideal) S64x512 .f32 0x00000000#32) : FVec Ideal S64x512 .f32) (ix2 j q)
      = ((∑ k : Fin 2048, H.V k j.val * H.E (o + q.val) k : ℝ) : EReal) := by
    rw [← RHead.sum_cut (r := o + q.val) (n := n) (by omega) h2 (fun k => H.V k j.val * H.E (o + q.val) k)
      (fun k hk => by unfold RHead.E; rw [if_neg (by omega), mul_zero]), ← sum_coe]
    refine (Ideal.matmul_plain_apply (φ₁ := .bf16) (φ₂ := .bf16) none _ _ _ j q).trans ?_
    refine (congrArg₂ (· + ·) (by pointwise []) (Finset.sum_congr rfl fun k _ => (congrArg₂ (· * ·) (hC.v j k)
      (h k q)).trans (EReal.coe_mul _ _).symm)).trans (zero_add _)
  have tr : ∀ M : FVec Ideal S64x512 .f32,
      (transpose S512x64 [1, 0] (divf M (broadcastTo S64x512 l broadcasts_S1x512_S64x512)) transposes_S64x512_p1_0_S512x64 : FVec Ideal S512x64 .f32) (ix2 q j)
        = Ideal.div (M (ix2 j q)) (l (ix2 0 q)) := by
    intro M
    pointwise []
  unfold outBlk
  refine (tr _).trans ?_
  rw [e, hl, Ideal.div_coe (H.Z_pos (by omega)).ne', ← EReal.coe_mul]
  refine congrArg _ ?_
  rw [Finset.sum_mul]
  refine Finset.sum_congr rfl fun k _ => ?_
  unfold RHead.P
  ring
omit hs in
theorem log_at {mx l : FVec Ideal S1x512 .f32} (hm : ∀ i q, (mx (ix2 i q) : EReal) = (H.M (o + q.val) : EReal))
    (hl : ∀ i q, (l (ix2 i q) : EReal) = (H.Z (o + q.val) : EReal)) (q) (hq : o + q.val < 2048) :
    (logBlk mx l (ix3 0 0 q) : EReal) = ((H.M (o + q.val) + Real.log (H.Z (o + q.val)) : ℝ) : EReal) := by
  have e : (logBlk mx l (ix3 0 0 q) : EReal) = (mx (ix2 0 q) : EReal) + Ideal.log (l (ix2 0 q)) := by
    unfold logBlk
    pointwise []
  rw [e, hm, hl, Ideal.log_coe, if_neg (not_le.2 (H.Z_pos hq)), ← EReal.coe_add]
end At
end Cert.FoxFwdIdeal.Hand
-- ==== Proof.FwdPoint.lean ====
/- One head's forward pass from its four blocks, and the two heads of a grid point. -/
module

public import proofs.«01_k».proof.Proof.FwdBlock

@[expose] public section
set_option maxRecDepth 16384
noncomputable section
open Idealize.ShloMosaic Idealize.ShloMosaic.TcCoe Idealize.SL.Sem
open scoped BigOperators
namespace Cert.FoxFwdIdeal.Hand
open Cert.FoxFwdIdeal Cert.FoxFwdIdeal.Gen
open Cert.FoxIdeal.Hand (RHead Args Reals hat wEighth wEighth_eq half_at line_at)

/-- A block's scores, output and log-sums from the head's vectors. -/
def scoresOf {n o : ℕ} (hs : BlockShape n o) (v18 : FVec Ideal S2048x64 .bf16) (kx : FVec Ideal ⟨2, ![n, 64]⟩ .bf16) (cx : FVec Ideal ⟨2, ![n, 1]⟩ .f32)
    (v49 : FVec Ideal S1x2048 .f32) : FVec Ideal ⟨2, ![n, 512]⟩ .f32 :=
  scoreBlk hs (rawBlk hs (extractStridedSlice S512x64 ![o, 0] v18 hs.rows) kx cx v49)
def attnOut {n o : ℕ} (hs : BlockShape n o) (v18 : FVec Ideal S2048x64 .bf16) (kx : FVec Ideal ⟨2, ![n, 64]⟩ .bf16) (vx : FVec Ideal ⟨2, ![64, n]⟩ .bf16)
    (cx : FVec Ideal ⟨2, ![n, 1]⟩ .f32) (v49 : FVec Ideal S1x2048 .f32) : FVec Ideal S512x64 .f32 :=
  outBlk vx (expBlk hs (scoresOf hs v18 kx cx v49) (maxBlk hs (scoresOf hs v18 kx cx v49)))
    (sumBlk hs (expBlk hs (scoresOf hs v18 kx cx v49) (maxBlk hs (scoresOf hs v18 kx cx v49))))
def attnLog {n o : ℕ} (hs : BlockShape n o) (v18 : FVec Ideal S2048x64 .bf16) (kx : FVec Ideal ⟨2, ![n, 64]⟩ .bf16)
    (cx : FVec Ideal ⟨2, ![n, 1]⟩ .f32) (v49 : FVec Ideal S1x2048 .f32) : FVec Ideal S1x1x512 .f32 :=
  logBlk (maxBlk hs (scoresOf hs v18 kx cx v49))
    (sumBlk hs (expBlk hs (scoresOf hs v18 kx cx v49) (maxBlk hs (scoresOf hs v18 kx cx v49))))

section
variable {n o : ℕ} (hs : BlockShape n o) {H : RHead} {v18 v33 : FVec Ideal S2048x64 .bf16} {v36 : FVec Ideal S64x2048 .bf16}
  {v47 : FVec Ideal S2048x1 .f32} {v49 : FVec Ideal S1x2048 .f32} (hR : Holds H v18 v33 v36 v47 v49) (hT : Top H)
  {kx : FVec Ideal ⟨2, ![n, 64]⟩ .bf16} {vx : FVec Ideal ⟨2, ![64, n]⟩ .bf16} {cx : FVec Ideal ⟨2, ![n, 1]⟩ .f32} (hC : Cut H n kx vx cx)
include hR hT hC
theorem attnOut_at (q j) : (attnOut hs v18 kx vx cx v49 (ix2 q j) : EReal) = ((∑ k : Fin 2048, H.P (o + q.val) k * H.V k j.val : ℝ) : EReal) := by
  have h1 := score_at hs (raw_at hs hR hC)
  have h2 := max_at hs hT h1
  have h3 := exp_at hs h1 h2
  exact out_at hs hC h3 (sum_at hs h3) q j
theorem attnLog_at (q) : (attnLog hs v18 kx cx v49 (ix3 0 0 q) : EReal) = ((H.M (o + q.val) + Real.log (H.Z (o + q.val)) : ℝ) : EReal) := by
  have h1 := score_at hs (raw_at hs hR hC)
  have h2 := max_at hs hT h1
  have h3 := exp_at hs h1 h2
  have e1 := hs.last
  have e2 := hs.le
  exact log_at h2 (sum_at hs h3) q (by omega)
end

/-! The shape facts of the four blocks. -/
theorem shape0 : BlockShape 512 0 :=
  ⟨slices_S2048x64_o0_0_S512x64, slices_S1x2048_o0_0_S1x512, broadcasts_S1x512_S512x512,
    broadcasts_S512x1_S512x512, iota_S512x512_d0_w32, iota_S512x512_d1_w32, reduces_S512x512_S512,
    by decide, by decide⟩
theorem shape1 : BlockShape 1024 512 :=
  ⟨slices_S2048x64_o512_0_S512x64, slices_S1x2048_o0_512_S1x512, broadcasts_S1x512_S1024x512,
    broadcasts_S1024x1_S1024x512, iota_S1024x512_d0_w32, iota_S1024x512_d1_w32, reduces_S1024x512_S512,
    by decide, by decide⟩
theorem shape2 : BlockShape 1536 1024 :=
  ⟨slices_S2048x64_o1024_0_S512x64, slices_S1x2048_o0_1024_S1x512, broadcasts_S1x512_S1536x512,
    broadcasts_S1536x1_S1536x512, iota_S1536x512_d0_w32, iota_S1536x512_d1_w32, reduces_S1536x512_S512,
    by decide, by decide⟩
theorem shape3 : BlockShape 2048 1536 :=
  ⟨slices_S2048x64_o1536_0_S512x64, slices_S1x2048_o0_1536_S1x512, broadcasts_S1x512_S2048x512,
    broadcasts_S2048x1_S2048x512, iota_S2048x512_d0_w32, iota_S2048x512_d1_w32, reduces_S2048x512_S512,
    by decide, by decide⟩

/-- Four blocks of 512 rows, one below the other. -/
theorem stack_at (b0 b1 b2 b3 : FVec Ideal S512x64 .f32) (D : ℕ → ℕ → EReal)
    (h0 : ∀ q j, (b0 (ix2 q j) : EReal) = D (0 + q.val) j.val) (h1 : ∀ q j, (b1 (ix2 q j) : EReal) = D (512 + q.val) j.val)
    (h2 : ∀ q j, (b2 (ix2 q j) : EReal) = D (1024 + q.val) j.val) (h3 : ∀ q j, (b3 (ix2 q j) : EReal) = D (1536 + q.val) j.val) (r j) :
    ((concatenate S2048x64 0 [⟨S512x64, b0⟩, ⟨S512x64, b1⟩, ⟨S512x64, b2⟩, ⟨S512x64, b3⟩] concatenates_S512x64_S512x64_S512x64_S512x64_S2048x64_d0
      : FVec Ideal S2048x64 .f32) (ix2 r j) : EReal) = D r.val j.val := by
  have hb : ∀ (b : FVec Ideal S512x64 .f32) (o : ℕ) (h : ∀ q j, (b (ix2 q j) : EReal) = D (o + q.val) j.val) (q : Fin 512)
      (hq : r.val = o + q.val), (b (ix2 q j) : EReal) = D r.val j.val := by
    intro b o h q hq
    rw [h, ← hq]
  have hr := r.isLt
  pointwise []
  by_cases k0 : r.val < 512
  · exact (dif_pos k0).trans (hb _ _ h0 _ (by dsimp only; omega))
  refine (dif_neg k0).trans ?_
  by_cases k1 : r.val - 512 < 512
  · exact (dif_pos k1).trans (hb _ _ h1 _ (by dsimp only; omega))
  refine (dif_neg k1).trans ?_
  by_cases k2 : r.val - 512 - 512 < 512
  · exact (dif_pos k2).trans (hb _ _ h2 _ (by dsimp only; omega))
  refine (dif_neg k2).trans ?_
  exact hb _ _ h3 _ (by dsimp only; omega)

/-- A head's output. -/
def headOut (v18 v33 : FVec Ideal S2048x64 .bf16) (v36 : FVec Ideal S64x2048 .bf16)
    (v47 : FVec Ideal S2048x1 .f32) (v49 : FVec Ideal S1x2048 .f32) : FVec Ideal S2048x64 .f32 :=
  concatenate S2048x64 0
    [⟨S512x64, attnOut shape0 v18 (extractStridedSlice S512x64 ![0, 0] v33 slices_S2048x64_o0_0_S512x64)
        (extractStridedSlice S64x512 ![0, 0] v36 slices_S64x2048_o0_0_S64x512) (extractStridedSlice S512x1 ![0, 0] v47 slices_S2048x1_o0_0_S512x1) v49⟩,
      ⟨S512x64, attnOut shape1 v18 (extractStridedSlice S1024x64 ![0, 0] v33 slices_S2048x64_o0_0_S1024x64)
        (extractStridedSlice S64x1024 ![0, 0] v36 slices_S64x2048_o0_0_S64x1024) (extractStridedSlice S1024x1 ![0, 0] v47 slices_S2048x1_o0_0_S1024x1) v49⟩,
      ⟨S512x64, attnOut shape2 v18 (extractStridedSlice S1536x64 ![0, 0] v33 slices_S2048x64_o0_0_S1536x64)
        (extractStridedSlice S64x1536 ![0, 0] v36 slices_S64x2048_o0_0_S64x1536) (extractStridedSlice S1536x1 ![0, 0] v47 slices_S2048x1_o0_0_S1536x1) v49⟩,
      ⟨S512x64, attnOut shape3 v18 v33 v36 v47 v49⟩] concatenates_S512x64_S512x64_S512x64_S512x64_S2048x64_d0

section
variable {H : RHead} {v18 v33 : FVec Ideal S2048x64 .bf16} {v36 : FVec Ideal S64x2048 .bf16}
  {v47 : FVec Ideal S2048x1 .f32} {v49 : FVec Ideal S1x2048 .f32} (hR : Holds H v18 v33 v36 v47 v49) (hT : Top H)
include hR
include hT
theorem headOut_at (r j) : (headOut v18 v33 v36 v47 v49 (ix2 r j) : EReal) = ((∑ k : Fin 2048, H.P r.val k * H.V k j.val : ℝ) : EReal) :=
  stack_at _ _ _ _ (fun r j => ((∑ k : Fin 2048, H.P r k * H.V k j : ℝ) : EReal)) (attnOut_at shape0 hR hT (cut slices_S2048x64_o0_0_S512x64 slices_S64x2048_o0_0_S64x512 slices_S2048x1_o0_0_S512x1 (by decide) hR))
    (attnOut_at shape1 hR hT (cut slices_S2048x64_o0_0_S1024x64 slices_S64x2048_o0_0_S64x1024 slices_S2048x1_o0_0_S1024x1 (by decide) hR)) (attnOut_at shape2 hR hT (cut slices_S2048x64_o0_0_S1536x64 slices_S64x2048_o0_0_S64x1536 slices_S2048x1_o0_0_S1536x1 (by decide) hR)) (attnOut_at shape3 hR hT (cut_whole hR)) r j
end

/-- Two heads' outputs side by side. -/
def pairOut (a b : FVec Ideal S2048x64 .f32) : FVec Ideal S2048x128 .bf16 :=
  truncf .bf16 (concatenate S2048x128 1 [⟨S2048x64, a⟩, ⟨S2048x64, b⟩] concatenates_S2048x64_S2048x64_S2048x128_d1 : FVec Ideal S2048x128 .f32) bitsLt_bf16_f32
theorem pairOut_at (a b : FVec Ideal S2048x64 .f32) (O : ℕ → ℕ → ℕ → EReal) (T : ℕ) (ha : ∀ r j, (a (ix2 r j) : EReal) = O (2 * T + 0) r.val j.val)
    (hb : ∀ r j, (b (ix2 r j) : EReal) = O (2 * T + 1) r.val j.val) (r : Fin 2048) (l : Fin 128) :
    (pairOut a b (ix2 r l) : EReal) = O (2 * T + l.val / 64) r.val (l.val % 64) := by
  have hl := l.isLt
  unfold pairOut
  pointwise []
  by_cases h : l.val < 64
  · refine (dif_pos h).trans ((ha _ _).trans ?_)
    rw [Nat.div_eq_of_lt h, Nat.mod_eq_of_lt h]
  · refine (dif_neg h).trans ((hb _ _).trans ?_)
    rw [show l.val / 64 = 1 by omega, show l.val % 64 = l.val - 64 by omega]

/-! The two heads of a point. -/
/-- The vectors loaded for head `g` hold the arguments. -/
structure Ins (A : Args) (g : ℕ) (v2 v19 v34 : FVec Ideal S2048x64 .f32) (v3 v20 : FVec Ideal S1x64 .f32)
    (v37 : FVec Ideal S2048x128 .f32) (v48 : FVec Ideal S1x1x2048 .f32) : Prop where
  q : ∀ r j, v2 (ix2 r j) = A.qx g r.val j.val
  k : ∀ r j, v19 (ix2 r j) = A.kx g r.val j.val
  v : ∀ r j, v34 (ix2 r j) = A.p r.val (2048 + (64 * g + j.val))
  gq : ∀ i j, v3 (ix2 i j) = A.gq j.val
  gk : ∀ i j, v20 (ix2 i j) = A.gk j.val
  ck : ∀ r (l : Fin 128), l.val = g → v37 (ix2 r l) = A.c g r.val
  cq : ∀ r, v48 (ix3 0 0 r) = A.c g r.val

section
variable {A : Args} {t : Fin 8} {H : RHead} {v2 v19 v34 : FVec Ideal S2048x64 .f32} {v3 v20 : FVec Ideal S1x64 .f32}
    {v37 : FVec Ideal S2048x128 .f32} {v48 : FVec Ideal S1x1x2048 .f32}

theorem values_at (v : FVec Ideal S2048x64 .f32) (j r) : k0_pay9 (F := Ideal) v (ix2 j r) = v (ix2 r j) := by pointwise [k0_pay9]
theorem line_row (v : FVec Ideal S1x1x2048 .f32) (i r) : k0_pay11 (F := Ideal) v (ix2 i r) = v (ix3 0 0 r) := by
  obtain rfl : i = 0 := Subsingleton.elim _ _
  pointwise [k0_pay11]

theorem query_real {g : ℕ} (hH : Reals A g H) {x : EReal} {r j : ℕ} (h : x = hat (A.qx g) r j * A.gq j * wEighth) :
    x = ((H.Q r j * (1 / 8) : ℝ) : EReal) := by
  rw [h, hH.q, wEighth_eq, ← EReal.coe_mul]

theorem holds0 (h : Ins A (2 * t.val + 0) v2 v19 v34 v3 v20 v37 v48) (hH : Reals A (2 * t.val + 0) H) :
    Holds H (k0_pay7 v2 v3) (k0_pay8 v19 v20) (k0_pay9 v34) (k0_pay10 (BitVec.ofNat 32 t.val) v37) (k0_pay11 v48) where
  q r j := query_real hH (Cert.FoxIdeal.Hand.query_at h.q h.gq r j)
  k r j := (Cert.FoxIdeal.Hand.key_at h.k h.gk r j).trans (hH.k _ _)
  v j r := (values_at v34 j r).trans ((h.v r j).trans (hH.v _ _))
  ck r j := (Cert.FoxIdeal.Hand.pick0_at t v37 r j).trans ((h.ck r _ rfl).trans (hH.c _))
  cq i r := (line_row v48 i r).trans ((h.cq r).trans (hH.c _))
theorem holds1 (h : Ins A (2 * t.val + 1) v2 v19 v34 v3 v20 v37 v48) (hH : Reals A (2 * t.val + 1) H) :
    Holds H (k0_pay38 v2 v3) (k0_pay40 v20 (k0_pay39 v19)) (k0_pay41 v34) (k0_pay42 (BitVec.ofNat 32 t.val) v37) (k0_pay43 v48) where
  q r j := query_real hH (Cert.FoxIdeal.Hand.query_at h.q h.gq r j)
  k r j := (Cert.FoxIdeal.Hand.key_at h.k h.gk r j).trans (hH.k _ _)
  v j r := (values_at v34 j r).trans ((h.v r j).trans (hH.v _ _))
  ck r j := (Cert.FoxIdeal.Hand.pick1_at t v37 r j).trans ((h.ck r _ rfl).trans (hH.c _))
  cq i r := (line_row v48 i r).trans ((h.cq r).trans (hH.c _))
end

/-- The blocks of point `t` hold the arguments. -/
structure Blocks (A : Args) (t : ℕ) (b0 b1 b2 b3 : FVec Ideal S2048x128 .f32) (b4 : FVec Ideal S1x2x2048 .f32)
    (b5 b6 : FVec Ideal S1x64 .f32) : Prop where
  q : ∀ r l, b0 (ix2 r l) = A.p r.val (128 * t + l.val)
  k : ∀ r l, b1 (ix2 r l) = A.p r.val (1024 + (128 * t + l.val))
  v : ∀ r l, b2 (ix2 r l) = A.p r.val (2048 + (128 * t + l.val))
  ck : ∀ r (l : Fin 128), l.val < 16 → b3 (ix2 r l) = A.c l.val r.val
  cq : ∀ (h : Fin 2) r, b4 (ix3 0 h r) = A.c (2 * t + h.val) r.val
  gq : ∀ i j, b5 (ix2 i j) = A.gq j.val
  gk : ∀ i j, b6 (ix2 i j) = A.gk j.val

section
variable {A : Args} {t : ℕ} {b0 b1 b2 b3 : FVec Ideal S2048x128 .f32} {b4 : FVec Ideal S1x2x2048 .f32} {b5 b6 : FVec Ideal S1x64 .f32}

theorem ins (b hh : ℕ) (hb : b < 2) (hhh : hh = 64 * b) (h : Blocks A t b0 b1 b2 b3 b4 b5 b6) (ht : t < 8) (i1 i2) : Ins A (2 * t + b)
    (View.ld (Val := Elt Ideal) (e' := .f32) b0 (Rect.unit ![0, hh] ![2048, 64] i1)) (View.ld (Val := Elt Ideal) (e' := .f32) b1 (Rect.unit ![0, hh] ![2048, 64] i1))
    (View.ld (Val := Elt Ideal) (e' := .f32) b2 (Rect.unit ![0, hh] ![2048, 64] i1)) b5 b6 b3
    (View.ld (Val := Elt Ideal) (e' := .f32) b4 (Rect.unit ![0, b, 0] ![1, 1, 2048] i2)) where
  q r j := (half_at (e := .f32) hh b0 i1 r j (by omega)).trans ((h.q r _).trans (congrArg (A.p r.val) (by simp only []; omega)))
  k r j := (half_at (e := .f32) hh b1 i1 r j (by omega)).trans ((h.k r _).trans (congrArg (A.p r.val) (by simp only []; omega)))
  v r j := (half_at (e := .f32) hh b2 i1 r j (by omega)).trans ((h.v r _).trans (congrArg (A.p r.val) (by simp only []; omega)))
  gq := h.gq
  gk := h.gk
  ck r l e := (h.ck r l (by omega)).trans (by rw [e])
  cq r := (line_at b b4 i2 r hb).trans (h.cq _ r)
end
end Cert.FoxFwdIdeal.Hand
-- ==== Proof.FwdEntry.lean ====
/- What the host puts before the forward pass, and the blocks that a point reads. -/
module

public import proofs.«01_k».proof.Proof.FwdPoint
public import Idealize.ShloMosaic.Lib.Pipeline.ValueKit
public import Idealize.ShloMosaic.Lib.Claim
public import Idealize.ShloMosaic.Lib.StableHlo.ReadAt
public import Idealize.ShloMosaic.Lib.KernelVsHost

@[expose] public section
set_option maxRecDepth 16384
noncomputable section
open Idealize.ShloMosaic Idealize.ShloMosaic.StableHlo Idealize.ShloMosaic.TcCoe Idealize.SL.Sem
open Idealize.ShloMosaic.Pipeline (Dat)
open scoped BigOperators
namespace Cert.FoxFwdIdeal.Hand
open Cert.FoxFwdIdeal Cert.FoxFwdIdeal.Gen
open Cert.FoxIdeal.Hand (Args argsOf nat2 nat2_of at_ix2 at_ix3)

section Stages
variable (W : Valuation τ sig (Elt Ideal))
theorem lines : (after hostOps0 W (Proc.devRef .tc main_v0) : FVec Ideal S8x2x2048 .f32) =
    shapeCast S8x2x2048 (W (Proc.devRef .tc main_arg1) : FVec Ideal S16x2048 .f32) shapeCasts_S16x2048_S8x2x2048 := by
  after_reads_simp
  rfl
theorem cols : (after hostOps0 W (Proc.devRef .tc main_v1) : FVec Ideal S2048x16 .f32) =
    transpose S2048x16 [1, 0] (W (Proc.devRef .tc main_arg1) : FVec Ideal S16x2048 .f32) transposes_S16x2048_S2048x16_1_0 := by
  after_reads_simp
theorem zero : (after hostOps0 W (Proc.devRef .tc main_c) : IVec S_ 32) = constantI S_ 32 0#32 := by
  after_reads_simp
theorem padded : (after hostOps0_1 W (Proc.devRef .tc main_v2) : FVec Ideal S2048x128 .f32) =
    pad S2048x128 ![0, 0] ![0, 112] ![0, 0] (W (Proc.devRef .tc main_v1) : FVec Ideal S2048x16 .f32)
      (sitofp (F := Ideal) .f32 (W (Proc.devRef .tc main_c) : IVec S_ 32)) pads_S2048x16_S2048x128_000_01120 h_S_ := by
  after_reads_simp
  rfl
theorem lines_kept : after hostOps0_1 W (Proc.devRef .tc main_v0) = W (Proc.devRef .tc main_v0) := by after_reads_simp
theorem after_two : ∀ (a b : List (HloOp τ sig (Elt Ideal))) (W : Valuation τ sig (Elt Ideal)), after (a ++ b) W = after b (after a W)
  | [], _, _ => rfl
  | x :: a, b, W => after_two a b _
end Stages

variable (m : (ℓ : Loc nD τ sig) → Buf (Elt Ideal) ℓ) (c : Dev nD)
theorem entry_cq : (V m c main_v0 : FVec Ideal S8x2x2048 .f32) =
    shapeCast S8x2x2048 (m ((c : Thread nD τ).loc main_arg1) : FVec Ideal S16x2048 .f32) shapeCasts_S16x2048_S8x2x2048 := by
  unfold V
  simp only [List.flatten_cons, List.flatten_nil, List.append_nil, after_two]
  rw [lines_kept, lines]
theorem entry_ck : (V m c main_v2 : FVec Ideal S2048x128 .f32) =
    pad S2048x128 ![0, 0] ![0, 112] ![0, 0]
      (transpose S2048x16 [1, 0] (m ((c : Thread nD τ).loc main_arg1) : FVec Ideal S16x2048 .f32) transposes_S16x2048_S2048x16_1_0)
      (sitofp (F := Ideal) .f32 (constantI S_ 32 0#32)) pads_S2048x16_S2048x128_000_01120 h_S_ := by
  unfold V
  simp only [List.flatten_cons, List.flatten_nil, List.append_nil, after_two]
  rw [padded, cols, zero]

/-- The arguments; the cotangent and the saved log-sums, which the forward pass reads nothing of, are left to `argsOf`. -/
def args : Args := argsOf (m ((c : Thread nD τ).loc main_arg0)) (m ((c : Thread nD τ).loc main_arg1)) (m ((c : Thread nD τ).loc main_arg2))
  (m ((c : Thread nD τ).loc main_arg3)) (fun _ => (0 : EReal))

theorem cq_place (i : Fin 8) (h : Fin 2) (r : Fin 2048) :
    (V m c main_v0 : FVec Ideal S8x2x2048 .f32) (ix3 i h r) = (args m c).c (2 * i.val + h.val) r.val := by
  have hi := i.isLt
  have hlt : 2 * i.val + h.val < 16 := by omega
  rw [entry_cq]
  refine (shapeCast_apply _ _ _ (ix2 ⟨2 * i.val + h.val, hlt⟩ r : S16x2048.Idx) ?_).trans ?_
  · rw [Shape.rowMajor_val_two, Shape.rowMajor_val_three]
    show (2 * i.val + h.val) * 2048 + r.val = (i.val * 2 + h.val) * 2048 + r.val
    omega
  exact nat2_of (a := 16) (b := 2048) _ _ rfl rfl

theorem ck_place (r : Fin 2048) (l : Fin 128) (hl : l.val < 16) :
    (V m c main_v2 : FVec Ideal S2048x128 .f32) (ix2 r l) = (args m c).c l.val r.val := by
  rw [entry_ck]
  refine (pad_apply_of_inside _ _ _ _ _ _ _ _ (ix2 r ⟨l.val, hl⟩ : S2048x16.Idx) fun a => ?_).trans ?_
  · match a with
    | ⟨0, _⟩ => exact (Nat.zero_add _).symm.trans (congrArg (0 + ·) (Nat.mul_one _).symm)
    | ⟨1, _⟩ => exact (Nat.zero_add _).symm.trans (congrArg (0 + ·) (Nat.mul_one _).symm)
  refine (transpose_apply _ _ _ _ (ix2 ⟨l.val, hl⟩ r : S16x2048.Idx) fun b => ?_).trans ?_
  · match b with
    | ⟨0, _⟩ => rfl
    | ⟨1, _⟩ => rfl
  exact nat2_of (a := 16) (b := 2048) _ _ rfl rfl

theorem coord_val (t : Fin cfg0.N) : (grid0.coords t 0).val = t.val :=
  (by decide +kernel : ∀ t : Fin grid0.N, (grid0.coords t 0).val = t.val) t
theorem places : ∀ t : Fin cfg0.N, win0_0.index t = ![0, t.val] ∧ win0_1.index t = ![0, 8 + t.val] ∧ win0_2.index t = ![0, 16 + t.val]
    ∧ win0_3.index t = ![0, 0] ∧ win0_4.index t = ![t.val, 0, 0] ∧ win0_5.index t = ![0, 0] ∧ win0_6.index t = ![0, 0]
    ∧ win0_7.index t = ![0, t.val] ∧ win0_8.index t = ![t.val, 0, 0] :=
  (by decide +kernel : ∀ t : Fin grid0.N, _)

theorem put0 (t : Fin cfg0.N) (r : Fin 2048) (l : Fin 128) :
    ((((cfg0.win 0).blk t).view.emb (ix2 r l)) 0).val = r.val ∧ ((((cfg0.win 0).blk t).view.emb (ix2 r l)) 1).val = 128 * t.val + l.val := by
  constructor <;> blk_simp [places t] <;> (try simp) <;> (try omega)
theorem put1 (t : Fin cfg0.N) (r : Fin 2048) (l : Fin 128) :
    ((((cfg0.win 1).blk t).view.emb (ix2 r l)) 0).val = r.val ∧ ((((cfg0.win 1).blk t).view.emb (ix2 r l)) 1).val = 1024 + (128 * t.val + l.val) := by
  constructor <;> blk_simp [places t] <;> (try simp) <;> (try omega)
theorem put2 (t : Fin cfg0.N) (r : Fin 2048) (l : Fin 128) :
    ((((cfg0.win 2).blk t).view.emb (ix2 r l)) 0).val = r.val ∧ ((((cfg0.win 2).blk t).view.emb (ix2 r l)) 1).val = 2048 + (128 * t.val + l.val) := by
  constructor <;> blk_simp [places t] <;> (try simp) <;> (try omega)
theorem put3 (t : Fin cfg0.N) (r : Fin 2048) (l : Fin 128) :
    ((((cfg0.win 3).blk t).view.emb (ix2 r l)) 0).val = r.val ∧ ((((cfg0.win 3).blk t).view.emb (ix2 r l)) 1).val = l.val := by
  constructor <;> blk_simp [places t] <;> (try simp)
theorem put4 (t : Fin cfg0.N) (h : Fin 2) (r : Fin 2048) :
    ((((cfg0.win 4).blk t).view.emb (ix3 0 h r)) 0).val = t.val ∧ ((((cfg0.win 4).blk t).view.emb (ix3 0 h r)) 1).val = h.val
      ∧ ((((cfg0.win 4).blk t).view.emb (ix3 0 h r)) 2).val = r.val := by
  refine ⟨?_, ?_, ?_⟩ <;> blk_simp [places t] <;> (try simp)
theorem put5 (t : Fin cfg0.N) (i : Fin 1) (l : Fin 64) :
    ((((cfg0.win 5).blk t).view.emb (ix2 i l)) 0).val = 0 ∧ ((((cfg0.win 5).blk t).view.emb (ix2 i l)) 1).val = l.val := by
  obtain rfl : i = 0 := Subsingleton.elim _ _
  constructor <;> blk_simp [places t] <;> (try simp)
theorem put6 (t : Fin cfg0.N) (i : Fin 1) (l : Fin 64) :
    ((((cfg0.win 6).blk t).view.emb (ix2 i l)) 0).val = 0 ∧ ((((cfg0.win 6).blk t).view.emb (ix2 i l)) 1).val = l.val := by
  obtain rfl : i = 0 := Subsingleton.elim _ _
  constructor <;> blk_simp [places t] <;> (try simp)
theorem lt8 (t : Fin cfg0.N) : t.val < 8 := lt_of_lt_of_eq t.isLt N_0
theorem blk0 (t : Fin cfg0.N) (r : Fin 2048) (l : Fin 128) : (iblk m c 0 t : FVec Ideal S2048x128 .f32) (ix2 r l) = (args m c).p r.val (128 * t.val + l.val) := by
  have e := (congrFun (V_main_arg0 m c) (((cfg0.win 0).blk t).view.emb (ix2 r l))).trans (nat2_of (a := 2048) (b := 3072) (m ((c : Thread nD τ).loc main_arg0)) _ (put0 t r l).1 (put0 t r l).2)
  unfold iblk
  rw [View.read_apply]
  exact (cast_eq _ _).trans e
theorem blk1 (t : Fin cfg0.N) (r : Fin 2048) (l : Fin 128) : (iblk m c 1 t : FVec Ideal S2048x128 .f32) (ix2 r l) = (args m c).p r.val (1024 + (128 * t.val + l.val)) := by
  have e := (congrFun (V_main_arg0 m c) (((cfg0.win 1).blk t).view.emb (ix2 r l))).trans (nat2_of (a := 2048) (b := 3072) (m ((c : Thread nD τ).loc main_arg0)) _ (put1 t r l).1 (put1 t r l).2)
  unfold iblk
  rw [View.read_apply]
  exact (cast_eq _ _).trans e
theorem blk2 (t : Fin cfg0.N) (r : Fin 2048) (l : Fin 128) : (iblk m c 2 t : FVec Ideal S2048x128 .f32) (ix2 r l) = (args m c).p r.val (2048 + (128 * t.val + l.val)) := by
  have e := (congrFun (V_main_arg0 m c) (((cfg0.win 2).blk t).view.emb (ix2 r l))).trans (nat2_of (a := 2048) (b := 3072) (m ((c : Thread nD τ).loc main_arg0)) _ (put2 t r l).1 (put2 t r l).2)
  unfold iblk
  rw [View.read_apply]
  exact (cast_eq _ _).trans e
theorem blk3 (t : Fin cfg0.N) (r : Fin 2048) (l : Fin 128) (hl : l.val < 16) : (iblk m c 3 t : FVec Ideal S2048x128 .f32) (ix2 r l) = (args m c).c l.val r.val := by
  have e := (congrArg (V m c main_v2 : FVec Ideal S2048x128 .f32) (at_ix2 (((cfg0.win 3).blk t).view.emb (ix2 r l)) r l (put3 t r l))).trans (ck_place m c r l hl)
  unfold iblk
  rw [View.read_apply]
  exact (cast_eq _ _).trans e
theorem blk4 (t : Fin cfg0.N) (h : Fin 2) (r : Fin 2048) : (iblk m c 4 t : FVec Ideal S1x2x2048 .f32) (ix3 0 h r) = (args m c).c (2 * t.val + h.val) r.val := by
  have e := (congrArg (V m c main_v0 : FVec Ideal S8x2x2048 .f32) (at_ix3 (((cfg0.win 4).blk t).view.emb (ix3 0 h r)) ⟨t.val, lt8 t⟩ h r (put4 t h r))).trans (cq_place m c ⟨t.val, lt8 t⟩ h r)
  unfold iblk
  rw [View.read_apply]
  exact (cast_eq _ _).trans e
theorem blk5 (t : Fin cfg0.N) (i : Fin 1) (j : Fin 64) : (iblk m c 5 t : FVec Ideal S1x64 .f32) (ix2 i j) = (args m c).gq j.val := by
  have e := (congrFun (V_main_arg2 m c) (((cfg0.win 5).blk t).view.emb (ix2 i j))).trans (nat2_of (a := 1) (b := 64) (m ((c : Thread nD τ).loc main_arg2)) _ (put5 t i j).1 (put5 t i j).2)
  unfold iblk
  rw [View.read_apply]
  exact (cast_eq _ _).trans e
theorem blk6 (t : Fin cfg0.N) (i : Fin 1) (j : Fin 64) : (iblk m c 6 t : FVec Ideal S1x64 .f32) (ix2 i j) = (args m c).gk j.val := by
  have e := (congrFun (V_main_arg3 m c) (((cfg0.win 6).blk t).view.emb (ix2 i j))).trans (nat2_of (a := 1) (b := 64) (m ((c : Thread nD τ).loc main_arg3)) _ (put6 t i j).1 (put6 t i j).2)
  unfold iblk
  rw [View.read_apply]
  exact (cast_eq _ _).trans e
/-- Point `t`'s blocks. -/
theorem blocks (t : Fin cfg0.N) : Blocks (args m c) (grid0.coords t 0).val (iblk m c 0 t) (iblk m c 1 t) (iblk m c 2 t) (iblk m c 3 t)
    (iblk m c 4 t) (iblk m c 5 t) (iblk m c 6 t) := by
  rw [coord_val]
  exact ⟨blk0 m c t, blk1 m c t, blk2 m c t, blk3 m c t, blk4 m c t, blk5 m c t, blk6 m c t⟩
end Cert.FoxFwdIdeal.Hand
-- ==== Proof.FwdOut.lean ====
/- What a grid point leaves in the two outputs, and the outputs after all points. -/
module

public import proofs.«01_k».proof.Proof.FwdEntry

@[expose] public section
set_option maxRecDepth 16384
noncomputable section
open Idealize.ShloMosaic Idealize.ShloMosaic.TcCoe Idealize.SL.Sem
open Idealize.ShloMosaic.Pipeline (Dat)
open scoped BigOperators
namespace Cert.FoxFwdIdeal.Hand
open Cert.FoxFwdIdeal Cert.FoxFwdIdeal.Gen
open Cert.FoxIdeal.Hand (RHead Args Reals)
variable (m : (ℓ : Loc nD τ sig) → Buf (Elt Ideal) ℓ)

/-- A store into 512 places of one row of the log-sums. -/
theorem row_step {hh o : ℕ} (inb) (v : FVec Ideal S1x1x512 .f32) (L : List (View.Piece (Elt Ideal) S1x8x2048 .f32)) (f : ℕ → ℕ → EReal)
    (h : Fin 8) (r : Fin 2048) (hv : ∀ q : Fin 512, (v (ix3 0 0 q) : EReal) = f hh (o + q.val))
    (hL : ¬ (h.val = hh ∧ o ≤ r.val ∧ r.val < o + 512) → (View.canon L (ix3 0 h r) : EReal) = f h.val r.val) :
    (View.canon (@List.cons (View.Piece (Elt Ideal) S1x8x2048 .f32) ⟨Rect.unit (s := S1x8x2048) ![0, hh, o] S1x1x512.size inb, v⟩ L) (ix3 0 h r) : EReal) = f h.val r.val := by
  by_cases k : h.val = hh ∧ o ≤ r.val ∧ r.val < o + 512
  · have e : (Rect.unit (s := S1x8x2048) ![0, hh, o] S1x1x512.size inb).emb (ix3 0 0 (⟨r.val - o, by omega⟩ : Fin 512)) = ix3 0 h r := by
      funext a
      refine Fin.ext ?_
      fin_cases a
      · simp [Rect.emb, Rect.unit]
      · simp [Rect.emb, Rect.unit, k.1]
      · simp [Rect.emb, Rect.unit]; omega
    rw [← e]
    refine (View.canon_cons_emb _ _ _ _).trans ?_
    refine (hv _).trans ?_
    rw [k.1]
    exact congrArg (f hh) (by show o + (r.val - o) = r.val; omega)
  · refine Eq.trans (View.canon_cons_of_not_mem _ _ fun hm => k ?_) (hL k)
    have hm' := (LoadRect.mem_set (r := (Rect.unit (s := S1x8x2048) ![0, hh, o] S1x1x512.size inb).toLoadRect)).mp hm
    obtain ⟨x, hx, e⟩ := hm' 1
    obtain ⟨y, hy, e'⟩ := hm' 2
    replace hx : x < 1 := hx
    replace hy : y < 512 := hy
    replace e : h.val = hh + 1 * x := e
    replace e' : r.val = o + 1 * y := e'
    omega
/-- The first store, of zeros. -/
theorem row_zero (inb) (L : List (View.Piece (Elt Ideal) S1x8x2048 .f32)) (h : Fin 8) (r : Fin 2048) :
    (View.canon (@List.cons (View.Piece (Elt Ideal) S1x8x2048 .f32) ⟨Rect.unit (s := S1x8x2048) ![0, 0, 0] S1x8x2048.size inb, k0_pay6 (F := Ideal)⟩ L) (ix3 0 h r) : EReal) = 0 := by
  have e : (Rect.unit (s := S1x8x2048) ![0, 0, 0] S1x8x2048.size inb).emb (ix3 0 h r) = ix3 0 h r := by
    funext a
    refine Fin.ext ?_
    fin_cases a <;> simp [Rect.emb, Rect.unit]
  rw [← e]
  refine (View.canon_cons_emb _ _ _ _).trans ?_
  pointwise [k0_pay6]

/-- The real heads of all points. -/
structure Heads (A : Args) (Hs : ℕ → RHead) : Prop where
  reals : ∀ g, g < 16 → Reals A g (Hs g)
  top : ∀ g, g < 16 → Top (Hs g)
/-- An output's entry of head `g`, and a log-sum's, zero behind the two heads of a point. -/
def outAt (Hs : ℕ → RHead) (g r j : ℕ) : EReal := ((∑ k : Fin 2048, (Hs g).P r k * (Hs g).V k j : ℝ) : EReal)
def logAt (Hs : ℕ → RHead) (T h r : ℕ) : EReal :=
  if h < 2 then (((Hs (2 * T + h)).M r + Real.log ((Hs (2 * T + h)).Z r) : ℝ) : EReal) else 0
theorem logAt_of (Hs : ℕ → RHead) (T h r : ℕ) (hh : h < 2) :
    logAt Hs T h r = (((Hs (2 * T + h)).M r + Real.log ((Hs (2 * T + h)).Z r) : ℝ) : EReal) := if_pos hh

theorem logAt_congr (Hs : ℕ → RHead) {a b h k r s : ℕ} (e : a = b) (e' : h = k) (e'' : r = s) : logAt Hs a h r = logAt Hs b k s := by
  rw [e, e', e'']

section
variable {A : Args} {Hs : ℕ → RHead} (hA : Heads A Hs) (c : Dev nD) (t : Fin cfg0.N)
    (hB : Blocks A (grid0.coords t 0).val (iblk m c 0 t) (iblk m c 1 t) (iblk m c 2 t) (iblk m c 3 t) (iblk m c 4 t) (iblk m c 5 t) (iblk m c 6 t))
include hA hB
set_option maxHeartbeats 1000000 in
theorem out7 (r : Fin 2048) (l : Fin 128) : ((outsAt0 m c t).1 (ix2 r l) : EReal)
    = outAt Hs (2 * (grid0.coords t 0).val + l.val / 64) r.val (l.val % 64) := by
  have ht := (grid0.coords t 0).isLt
  have ht8 : (grid0.coords t 0).val < 8 := ht
  have hR0 := holds0 (t := grid0.coords t 0) (ins 0 0 (by decide) rfl hB ht8 inb_S2048x128_S2048x64_0_0 inb_S1x2x2048_S1x1x2048_0_0_0) (hA.reals _ (by omega))
  have hR1 := holds1 (t := grid0.coords t 0) (ins 1 64 (by decide) rfl hB ht8 inb_S2048x128_S2048x64_0_64 inb_S1x2x2048_S1x1x2048_0_1_0) (hA.reals _ (by omega))
  have key := pairOut_at _ _ (outAt Hs) (grid0.coords t 0).val (headOut_at hR0 (hA.top _ (by omega))) (headOut_at hR1 (hA.top _ (by omega))) r l
  refine Eq.trans ?_ key
  unfold outsAt0 out0_A_7
  frame_out
  rfl
set_option maxHeartbeats 1000000 in
theorem out8 (h : Fin 8) (r : Fin 2048) : ((outsAt0 m c t).2 (ix3 0 h r) : EReal) = logAt Hs (grid0.coords t 0).val h.val r.val := by
  have ht := (grid0.coords t 0).isLt
  have ht8 : (grid0.coords t 0).val < 8 := ht
  have hR0 := holds0 (t := grid0.coords t 0) (ins 0 0 (by decide) rfl hB ht8 inb_S2048x128_S2048x64_0_0 inb_S1x2x2048_S1x1x2048_0_0_0) (hA.reals _ (by omega))
  have hR1 := holds1 (t := grid0.coords t 0) (ins 1 64 (by decide) rfl hB ht8 inb_S2048x128_S2048x64_0_64 inb_S1x2x2048_S1x1x2048_0_1_0) (hA.reals _ (by omega))
  have hT0 := hA.top (2 * (grid0.coords t 0).val + 0) (by omega)
  have hT1 := hA.top (2 * (grid0.coords t 0).val + 1) (by omega)
  unfold outsAt0 out0_A_8
  frame_out
  refine row_step _ _ _ (logAt Hs (grid0.coords t 0).val) h r (fun q => (attnLog_at shape3 hR1 hT1 (cut_whole hR1) q).trans (logAt_of _ _ _ _ (by decide)).symm) fun n1 => ?_
  refine row_step _ _ _ (logAt Hs (grid0.coords t 0).val) h r (fun q => (attnLog_at shape2 hR1 hT1 (cut slices_S2048x64_o0_0_S1536x64 slices_S64x2048_o0_0_S64x1536 slices_S2048x1_o0_0_S1536x1 (by decide) hR1) q).trans (logAt_of _ _ _ _ (by decide)).symm) fun n2 => ?_
  refine row_step _ _ _ (logAt Hs (grid0.coords t 0).val) h r (fun q => (attnLog_at shape1 hR1 hT1 (cut slices_S2048x64_o0_0_S1024x64 slices_S64x2048_o0_0_S64x1024 slices_S2048x1_o0_0_S1024x1 (by decide) hR1) q).trans (logAt_of _ _ _ _ (by decide)).symm) fun n3 => ?_
  refine row_step _ _ _ (logAt Hs (grid0.coords t 0).val) h r (fun q => (attnLog_at shape0 hR1 hT1 (cut slices_S2048x64_o0_0_S512x64 slices_S64x2048_o0_0_S64x512 slices_S2048x1_o0_0_S512x1 (by decide) hR1) q).trans (logAt_of _ _ _ _ (by decide)).symm) fun n4 => ?_
  refine row_step _ _ _ (logAt Hs (grid0.coords t 0).val) h r (fun q => (attnLog_at shape3 hR0 hT0 (cut_whole hR0) q).trans (logAt_of _ _ _ _ (by decide)).symm) fun n5 => ?_
  refine row_step _ _ _ (logAt Hs (grid0.coords t 0).val) h r (fun q => (attnLog_at shape2 hR0 hT0 (cut slices_S2048x64_o0_0_S1536x64 slices_S64x2048_o0_0_S64x1536 slices_S2048x1_o0_0_S1536x1 (by decide) hR0) q).trans (logAt_of _ _ _ _ (by decide)).symm) fun n6 => ?_
  refine row_step _ _ _ (logAt Hs (grid0.coords t 0).val) h r (fun q => (attnLog_at shape1 hR0 hT0 (cut slices_S2048x64_o0_0_S1024x64 slices_S64x2048_o0_0_S64x1024 slices_S2048x1_o0_0_S1024x1 (by decide) hR0) q).trans (logAt_of _ _ _ _ (by decide)).symm) fun n7 => ?_
  refine row_step _ _ _ (logAt Hs (grid0.coords t 0).val) h r (fun q => (attnLog_at shape0 hR0 hT0 (cut slices_S2048x64_o0_0_S512x64 slices_S64x2048_o0_0_S64x512 slices_S2048x1_o0_0_S512x1 (by decide) hR0) q).trans (logAt_of _ _ _ _ (by decide)).symm) fun n8 => ?_
  refine (row_zero _ _ h r).trans ?_
  have hr := r.isLt
  exact (if_neg (by omega) : logAt _ _ _ _ = _).symm
end

variable (c : Dev nD) {Hs : ℕ → RHead} (hA : Heads (args m c) Hs)
include hA
theorem final7 : (dats m 0 c).arrAt 7 cfg0.N = fun (i : S2048x1024.Idx) => outAt Hs ((i 1).val / 64) (i 0).val ((i 1).val % 64) := by
  refine (dats m 0 c).arrAt_eq_of_covers 7 _ (by decide +kernel) fun t hf y => ?_
  blk_simp
  rw [after0_7]
  idx_vars y
  refine (out7 m hA c t (blocks m c t) y0 y1).trans ?_
  have h1 : y1.val < 128 := y1.isLt
  rw [coord_val, (places t).2.2.2.2.2.2.2.1]
  have e0 : y0.val = (![0, t.val] : Fin 2 → ℕ) 0 * 2048 + y0.val := by simp
  have e2 : 2 * t.val + y1.val / 64 = ((![0, t.val] : Fin 2 → ℕ) 1 * 128 + y1.val) / 64 := by simp; omega
  have e3 : y1.val % 64 = ((![0, t.val] : Fin 2 → ℕ) 1 * 128 + y1.val) % 64 := by simp; omega
  rw [e2, e3]
  exact congrArg (fun b => outAt Hs _ b _) e0
theorem final8 : (dats m 0 c).arrAt 8 cfg0.N = fun (i : S8x8x2048.Idx) => logAt Hs (i 0).val (i 1).val (i 2).val := by
  refine (dats m 0 c).arrAt_eq_of_covers 8 _ (by decide +kernel) fun t hf y => ?_
  blk_simp
  rw [after0_8]
  idx_vars y
  obtain rfl : y0 = 0 := Subsingleton.elim _ _
  refine (out8 m hA c t (blocks m c t) y1 y2).trans ?_
  rw [coord_val, (places t).2.2.2.2.2.2.2.2]
  have e0 : t.val = (![t.val, 0, 0] : Fin 3 → ℕ) 0 := rfl
  have e1 : y1.val = (![t.val, 0, 0] : Fin 3 → ℕ) 1 * 8 + y1.val := by simp
  have e2 : y2.val = (![t.val, 0, 0] : Fin 3 → ℕ) 2 * 2048 + y2.val := by simp
  exact logAt_congr Hs e0 e1 e2
end Cert.FoxFwdIdeal.Hand
-- ==== Proof.FwdRef.lean ====
/- What the reference of the forward pass computes: a head's output and its rows' log-sums, over the reals. -/
module

public import proofs.«01_k».proof.Proof.Gen.FoxFwdRefIdeal.Read
public import proofs.«01_k».proof.Proof.FoxReal

@[expose] public section
set_option maxRecDepth 16384
noncomputable section
open Idealize.ShloMosaic Idealize.ShloMosaic.TcCoe Idealize.SL.Sem
open scoped BigOperators
namespace Cert.FoxFwdRefIdeal.Hand
open Cert.FoxFwdRefIdeal Cert.FoxFwdRefIdeal.Read
open Cert.FoxIdeal.Hand (RHead Held Args argsOf logSum rowMax exp_real total_real logSum_real at_ix2 at_ix3 vx_at sum_coe)

variable (x0 : FVec Ideal S2048x3072 .f32) (x1 : FVec Ideal S16x2048 .f32) (x2 x3 : FVec Ideal S1x64 .f32) (x4 : FVec Ideal S2048x1024 .f32)

/-! The lines that the two references share. -/
theorem same_values : val_main_v89 (F := Ideal) x0 = Cert.FoxRefIdeal.Read.val_main_v39 (F := Ideal) x0 := rfl
theorem same_masked : val_main_v44 (F := Ideal) x0 x1 x2 x3 = Cert.FoxRefIdeal.Read.val_main_v52_0 (F := Ideal) x0 x1 x2 x3 := rfl
theorem same_exps : val_main_v109 (F := Ideal) x0 x1 x2 x3 = Cert.FoxRefIdeal.Read.val_main_v73 (F := Ideal) x0 x1 x2 x3 := rfl
theorem same_sums : val_main_v110 (F := Ideal) x0 x1 x2 x3 = Cert.FoxRefIdeal.Read.val_main_v74 (F := Ideal) x0 x1 x2 x3 := rfl
theorem log_sums : val_main_v53 (F := Ideal) x0 x1 x2 x3 = logSum (Cert.FoxRefIdeal.Read.val_main_v52_0 (F := Ideal) x0 x1 x2 x3) := rfl

variable {x0 x1 x2 x3 x4} {H : RHead} {g : Fin 16} (hH : Held x0 x1 x2 x3 x4 H g)
include hH

theorem prob_ref (r k : Fin 2048) : (val_main_v113 (F := Ideal) x0 x1 x2 x3 (ix3 g r k) : EReal) = (H.P r k : EReal) := by
  rw [val_main_v113_apply, val_main_v112_apply, val_main_v111_apply, same_exps, same_sums, exp_real hH.score hH.top]
  have e : (Cert.FoxRefIdeal.Read.val_main_v74 (F := Ideal) x0 x1 x2 x3 (idx_main_v111 (idx_main_v112 (ix3 g r k))) : EReal) = (H.Z r : EReal) :=
    (congrArg (fun i => (Cert.FoxRefIdeal.Read.val_main_v74 (F := Ideal) x0 x1 x2 x3 i : EReal)) (at_ix2 _ g r ⟨rfl, rfl⟩)).trans
      (total_real hH.score hH.top r)
  rw [e]
  show Ideal.div (H.E r k : EReal) (H.Z r : EReal) = _
  rw [Ideal.div_coe (H.Z_pos r.isLt).ne', ← EReal.coe_mul]
  refine congrArg _ ?_
  unfold RHead.P
  ring

/-- The output's entries. -/
theorem out_ref (i : S2048x1024.Idx) (hg : (i 1).val / 64 = g.val) : (val_main_v117 (F := Ideal) x0 x1 x2 x3 i : EReal)
    = ((∑ k : Fin 2048, H.P (i 0).val k * H.V k ((i 1).val % 64) : ℝ) : EReal) := by
  have h0 : (i 0).val < 2048 := (i 0).isLt
  have h1 : (i 1).val < 1024 := (i 1).isLt
  have hj : (i 1).val % 64 < 64 := by omega
  rw [val_main_v117_apply]
  show (val_main_v116 (F := Ideal) x0 x1 x2 x3 i : EReal) = _
  rw [val_main_v116_apply, val_main_v115_apply]
  have e : idx_main_v115 (idx_main_v116 i) = ix3 g ⟨(i 1).val % 64, hj⟩ ⟨(i 0).val, h0⟩ := by
    refine at_ix3 _ _ _ _ ⟨?_, ?_, ?_⟩
    · show ((i 0).val * 1024 + (i 1).val) / 64 % 16 = g.val
      omega
    · show ((i 0).val * 1024 + (i 1).val) % 64 = (i 1).val % 64
      omega
    · show ((i 0).val * 1024 + (i 1).val) / 1024 = (i 0).val
      omega
  rw [e, val_main_v114_apply, ← sum_coe]
  refine Finset.sum_congr rfl fun k _ => ?_
  have ev : (val_main_v89 (F := Ideal) x0 (lidx_main_v114 (ix3 g ⟨(i 1).val % 64, hj⟩ ⟨(i 0).val, h0⟩) k) : EReal) = (H.V k ((i 1).val % 64) : EReal) := by
    rw [same_values, vx_at x0 x1 x2 x3 x4]
    exact hH.reals.v _ _
  have ep : (val_main_v113 (F := Ideal) x0 x1 x2 x3 (ridx_main_v114 (ix3 g ⟨(i 1).val % 64, hj⟩ ⟨(i 0).val, h0⟩) k) : EReal) = (H.P (i 0).val k : EReal) :=
    (congrArg (fun i => (val_main_v113 (F := Ideal) x0 x1 x2 x3 i : EReal)) (at_ix3 _ g ⟨(i 0).val, h0⟩ k ⟨rfl, rfl, rfl⟩)).trans
      (prob_ref hH ⟨(i 0).val, h0⟩ k)
  rw [ev, ep, ← EReal.coe_mul, mul_comm]

/-- The log-sums' entries, and behind them zeros. -/
theorem log_ref (t : Fin 8) (h : Fin 8) (r : Fin 2048) (hh : h.val < 2) (hg : g.val = 2 * t.val + h.val) :
    (val_main_v118 (F := Ideal) x0 x1 x2 x3 (ix3 t h r) : EReal) = ((H.M r + Real.log (H.Z r) : ℝ) : EReal) := by
  have ht := t.isLt
  unfold val_main_v118
  refine (pad_apply_of_inside _ _ _ _ _ _ _ _ (ix3 t ⟨h.val, hh⟩ r : S8x2x2048.Idx) fun a => ?_).trans ?_
  · match a with
    | ⟨0, _⟩ => exact (Nat.zero_add _).symm.trans (congrArg (0 + ·) (Nat.mul_one _).symm)
    | ⟨1, _⟩ => exact (Nat.zero_add _).symm.trans (congrArg (0 + ·) (Nat.mul_one _).symm)
    | ⟨2, _⟩ => exact (Nat.zero_add _).symm.trans (congrArg (0 + ·) (Nat.mul_one _).symm)
  rw [val_main_v55_apply, val_main_v54_apply, log_sums]
  refine (congrArg (fun i => (logSum (Cert.FoxRefIdeal.Read.val_main_v52_0 (F := Ideal) x0 x1 x2 x3) i : EReal)) (at_ix3 _ g r 0 ⟨?_, ?_, rfl⟩)).trans
    (logSum_real hH.score hH.top r)
  · show (((t.val * 2 + h.val) * 2048 + r.val) / 2048 * 2048 + ((t.val * 2 + h.val) * 2048 + r.val) % 2048) / 2048 = g.val
    have := r.isLt
    omega
  · show (((t.val * 2 + h.val) * 2048 + r.val) / 2048 * 2048 + ((t.val * 2 + h.val) * 2048 + r.val) % 2048) / 1 % 2048 = r.val
    have := r.isLt
    omega
omit hH
theorem log_ref_zero (t : Fin 8) (h : Fin 8) (r : Fin 2048) (hh : 2 ≤ h.val) :
    (val_main_v118 (F := Ideal) x0 x1 x2 x3 (ix3 t h r) : EReal) = 0 := by
  unfold val_main_v118
  refine (pad_apply_of_not_inside _ _ _ _ _ _ _ _ (1 : Fin 3) fun hq => ?_).trans ?_
  · have h2 : (h.val - 0) / (0 + 1) < 2 := hq.2.2
    omega
  · show ((((0#32 : BitVec 32).toInt : ℤ) : ℝ) : EReal) = 0
    simp
end Cert.FoxFwdRefIdeal.Hand
-- ==== Proof.FoxFwdClaim.lean ====
/-
  The claims about the forgetting attention's forward call, put together.
-/
module

public import proofs.«01_k».proof.Defs
public import proofs.«01_k».proof.Proof.Gen.FoxFwd.Frame
public import proofs.«01_k».proof.Proof.Gen.FoxFwdIdeal.Value
public import proofs.«01_k».proof.Proof.Gen.FoxFwdRefIdeal.Run
public import proofs.«01_k».proof.Proof.FoxClaim
public import proofs.«01_k».proof.Proof.FwdOut
public import proofs.«01_k».proof.Proof.FwdRef

@[expose] public section

set_option maxRecDepth 16384

noncomputable section

open Idealize.ShloMosaic Idealize.ShloMosaic.TcCoe Idealize.SL.Sem
open scoped BigOperators

namespace Cert.FoxFwdClaim

open Cert.FoxFwdIdeal Cert.FoxFwdIdeal.Hand
open Cert.FoxIdeal.Hand (RHead Held Args argsOf heads rowMax_fold masked_real)

/-- The shapes the precondition's operations take fit. -/
theorem facts : Cert.Pre_foxf_finite.Facts := ⟨by decide, by decide, by decide⟩

/-- The reference's largest score of a row is the largest that the kernel's blocks find. -/
theorem top_of_held {x0 : FVec Ideal S2048x3072 .f32} {x1 : FVec Ideal S16x2048 .f32} {x2 x3 : FVec Ideal S1x64 .f32} {x4 : FVec Ideal S2048x1024 .f32}
    {H : RHead} {g : Fin 16} (h : Held x0 x1 x2 x3 x4 H g) : Top H := fun r hr =>
  ((congrArg (fun f : Fin 2048 → EReal => Finset.univ.fold max (⊥ : EReal) f) (funext fun k => (masked_real h.score ⟨r, hr⟩ k).symm)).trans
    (rowMax_fold _ g ⟨r, hr⟩).symm).trans (h.top ⟨r, hr⟩)

section
variable (hp : Cert.Pre_foxf_finite.Facts) (m : (ℓ : Loc nD τ sig) → Buf (Elt Ideal) ℓ) (h : Cert.Pre_FoxFwdIdeal_foxf_finite (hPre_foxf_finite := hp) m) (c : Dev nD)
include h

/-- Where the precondition holds, every head's forward pass is over the reals. -/
theorem held (g : Fin 16) :
    ∃ H, Held (m ((c : Thread nD τ).loc main_arg0)) (m ((c : Thread nD τ).loc main_arg1)) (m ((c : Thread nD τ).loc main_arg2)) (m ((c : Thread nD τ).loc main_arg3))
      (fun _ => (0 : EReal)) H g := by
  obtain ⟨h0, h1, h2, h3⟩ := h c
  exact heads _ _ _ _ _ (fun i => Cert.FoxClaim.real_of_size _ (congrFun h0 i)) (fun i => Cert.FoxClaim.real_of_size _ (congrFun h1 i))
    (fun i => Cert.FoxClaim.real_of_size _ (congrFun h2 i)) (fun i => Cert.FoxClaim.real_of_size _ (congrFun h3 i)) (fun _ => ⟨0, EReal.coe_zero.symm⟩) g

/-- The real heads by their numbers. -/
theorem all_heads : ∃ Hs : ℕ → RHead, ∀ g : Fin 16, Held (m ((c : Thread nD τ).loc main_arg0)) (m ((c : Thread nD τ).loc main_arg1))
    (m ((c : Thread nD τ).loc main_arg2)) (m ((c : Thread nD τ).loc main_arg3)) (fun _ => (0 : EReal)) (Hs g.val) g := by
  choose H hH using held hp m h c
  refine ⟨fun n => H ⟨n % 16, Nat.mod_lt _ (by decide)⟩, fun g => ?_⟩
  have e : (⟨g.val % 16, Nat.mod_lt _ (by decide)⟩ : Fin 16) = g := Fin.ext (Nat.mod_eq_of_lt g.isLt)
  show Held _ _ _ _ _ (H ⟨g.val % 16, _⟩) g
  rw [e]
  exact hH g

/-- The output of the reference is the kernel's. -/
theorem same_out : Cert.FoxFwdRefIdeal.Read.val_main_v117 (F := Ideal) (m ((c : Thread nD τ).loc main_arg0)) (m ((c : Thread nD τ).loc main_arg1))
    (m ((c : Thread nD τ).loc main_arg2)) (m ((c : Thread nD τ).loc main_arg3)) = (Cert.FoxFwdIdeal.Gen.dats m 0 c).arrAt 7 Cert.FoxFwdIdeal.cfg0.N := by
  obtain ⟨Hs, hHs⟩ := all_heads hp m h c
  have hA : Heads (args m c) Hs := ⟨fun g hg => (hHs ⟨g, hg⟩).reals, fun g hg => top_of_held (hHs ⟨g, hg⟩)⟩
  refine Eq.trans (funext fun i => ?_) (final7 m c hA).symm
  have h1 : (i 1).val < 1024 := (i 1).isLt
  exact Cert.FoxFwdRefIdeal.Hand.out_ref (hHs ⟨(i 1).val / 64, by omega⟩) i rfl

/-- The rows' log-sums of the reference are the kernel's. -/
theorem same_log : Cert.FoxFwdRefIdeal.Read.val_main_v118 (F := Ideal) (m ((c : Thread nD τ).loc main_arg0)) (m ((c : Thread nD τ).loc main_arg1))
    (m ((c : Thread nD τ).loc main_arg2)) (m ((c : Thread nD τ).loc main_arg3)) = (Cert.FoxFwdIdeal.Gen.dats m 0 c).arrAt 8 Cert.FoxFwdIdeal.cfg0.N := by
  obtain ⟨Hs, hHs⟩ := all_heads hp m h c
  have hA : Heads (args m c) Hs := ⟨fun g hg => (hHs ⟨g, hg⟩).reals, fun g hg => top_of_held (hHs ⟨g, hg⟩)⟩
  refine Eq.trans (funext fun i => ?_) (final8 m c hA).symm
  idx_vars i
  have ht : i0.val < 8 := i0.isLt
  show _ = logAt Hs i0.val i1.val i2.val
  by_cases k : i1.val < 2
  · rw [logAt_of _ _ _ _ k]
    exact Cert.FoxFwdRefIdeal.Hand.log_ref (hHs ⟨2 * i0.val + i1.val, by omega⟩) i0 i1 i2 k rfl
  · exact (Cert.FoxFwdRefIdeal.Hand.log_ref_zero i0 i1 i2 (by omega)).trans (if_neg k).symm
end

/-- The attention's forward call terminates without a fault and leaves its arguments alone. -/
theorem frame_kernel : Cert.quiescent_FoxFwd := fun m ρ _ => Cert.FoxFwd.Gen.frame m ρ

/-- The same over the extended reals. -/
theorem frame_ideal : Cert.quiescent_FoxFwdIdeal := fun m ρ _ => Cert.FoxFwdIdeal.Gen.frame m ρ

/-- The same of finite arguments. -/
theorem frame_ideal_finite (hp : Cert.Pre_foxf_finite.Facts) : Cert.quiescent_FoxFwdIdeal_pre_foxf_finite (hPre_foxf_finite := hp) := fun m ρ _ => Cert.FoxFwdIdeal.Gen.frame m ρ

/-- The reference terminates without a fault and leaves its arguments alone. -/
theorem frame_reference : Cert.quiescent_FoxFwdRefIdeal := fun m ρ _ =>
  (θ_run _ _ _).mono (fun r h => ⟨fun c => (h c).2.2, sem_eq_zero_of_no_sems rfl r.2⟩) (Cert.FoxFwdRefIdeal.Value.run m ρ)

/-- The same of finite arguments. -/
theorem frame_reference_finite (hp : Cert.Pre_foxf_finite.Facts) : Cert.quiescent_FoxFwdRefIdeal_pre_foxf_finite (hPre_foxf_finite := hp) := fun m ρ _ =>
  frame_reference m ρ trivial

/-- The mask is the one constant read as another value. -/
theorem preserves : Cert.preserves_FoxFwd_FoxFwdIdeal := IdealRules.named_const.statement Cert.FoxFwdIdeal.κ "mask" .f32 0xF149F2CA#32 ⊥ rfl

set_option maxHeartbeats 1000000 in
/-- The kernel's two results are the reference's. -/
theorem algebraic (hp : Cert.Pre_foxf_finite.Facts) : Cert.algebraic_FoxFwdIdeal_FoxFwdRefIdeal_pre_foxf_finite (hPre_foxf_finite := hp) := by
  pair_intro
  · run_from Cert.FoxFwdIdeal.Value.run_blocks m g
  · run_from Cert.FoxFwdRefIdeal.Value.run m' g'
    · refine (Cert.FoxFwdRefIdeal.Read.val_main_v117_eq (F := Ideal) m' c).trans ?_
      rw [(hagree c).1, (hagree c).2.1, (hagree c).2.2.1, (hagree c).2.2.2]
      exact same_out hp m hpre c
    · refine (Cert.FoxFwdRefIdeal.Read.val_main_v118_eq (F := Ideal) m' c).trans ?_
      rw [(hagree c).1, (hagree c).2.1, (hagree c).2.2.1, (hagree c).2.2.2]
      exact same_log hp m hpre c

end Cert.FoxFwdClaim
-- ==== Proof.NormGrad.lean ====
/-
  The gradient of a norm over rows of 1024: one row of it, over the extended reals.
-/
module

public import Idealize.ShloMosaic.Lib.Pipeline.ValueKit

@[expose] public section

noncomputable section

open Idealize.ShloMosaic
open scoped BigOperators

namespace Cert.NormGrad

/-- The mean of a row's squares and the small constant. -/
def meanSq (x : Fin 1024 → EReal) : EReal :=
  Ideal.div (∑ k, x k * x k) (Ideal.ofBits .f32 0x44800000#32) + Ideal.ofBits .f32 0x358637BD#32

/-- What the norm multiplies a row by. -/
def scale (x : Fin 1024 → EReal) : EReal := Ideal.rsqrt (meanSq x)

/-- The gradient that reaches each element's square. -/
def pull (x g d : Fin 1024 → EReal) : EReal :=
  Ideal.div ((∑ k, x k * (d k * g k)) * (Ideal.ofBits .f32 0xBF000000#32 * Ideal.div (scale x) (meanSq x))) (Ideal.ofBits .f32 0x44800000#32)

/-- The gradient of a row's element. -/
def grad (x g d : Fin 1024 → EReal) (l : Fin 1024) : EReal := d l * g l * scale x + x l * pull x g d + pull x g d * x l

/-- A row's part of the gradient of the weight. -/
def weight (x d : Fin 1024 → EReal) (l : Fin 1024) : EReal := x l * scale x * d l

/-- Row `r` of block `n` of 512 rows. -/
def row (n : ℕ) (r : Fin 512) : Fin 2048 := ⟨(512 * n + r.val) % 2048, Nat.mod_lt _ (by decide)⟩

theorem row_val (n : ℕ) (hn : n < 4) (r : Fin 512) : (row n r).val = 512 * n + r.val := by
  have hr := r.isLt
  exact Nat.mod_eq_of_lt (by omega)

/-- The sum over 2048, block by block of 512. -/
theorem blocks_sum (g : ℕ → EReal) : ∑ n ∈ Finset.range 4, ∑ r ∈ Finset.range 512, g (512 * n + r) = ∑ r ∈ Finset.range 2048, g r := by
  rw [show 2048 = 512 + 512 + 512 + 512 from rfl]
  simp only [Finset.sum_range_add, Finset.sum_range_succ _ 0, Finset.sum_range_succ _ 1, Finset.sum_range_succ _ 2, Finset.sum_range_succ _ 3,
    Finset.sum_range_zero, zero_add, Nat.mul_zero, Nat.mul_one, Nat.zero_add]

/-- The sum over the rows, block by block. -/
theorem rows_sum (f : Fin 2048 → EReal) : ∑ n ∈ Finset.range 4, ∑ r : Fin 512, f (row n r) = ∑ r : Fin 2048, f r := by
  let g : ℕ → EReal := fun k => f ⟨k % 2048, Nat.mod_lt _ (by decide)⟩
  have e : ∑ r : Fin 2048, f r = ∑ r ∈ Finset.range 2048, g r := by
    rw [← Fin.sum_univ_eq_sum_range g 2048]
    exact Finset.sum_congr rfl fun r _ => congrArg f (Fin.ext (Nat.mod_eq_of_lt r.isLt).symm)
  rw [e, ← blocks_sum g]
  exact Finset.sum_congr rfl fun n _ => Fin.sum_univ_eq_sum_range (fun r => g (512 * n + r)) 512

end Cert.NormGrad
-- ==== Proof.NormKvValue.lean ====
/-
  The norm before keys and values with its product, forward: what the result arrays of `NormKvIdeal` hold.
-/
module

public import proofs.«01_k».proof.Proof.Gen.NormKvIdeal.Value
public import proofs.«01_k».proof.Proof.NormGrad
public import Idealize.ShloMosaic.Lib.Pipeline.ValueKit
public import Idealize.ShloMosaic.Lib.Pipeline.ReadBack
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.NormKvIdeal.Hand

open Cert.NormKvIdeal Cert.NormKvIdeal.Gen Cert.NormGrad

/-- A block's norm and its product. -/
theorem pay1_apply (x : FVec Ideal S1024x1024 .f32) (g : FVec Ideal S1x1024 .f32) (y : S1024x1024.Idx) :
    (k0_pay1 (F := Ideal) x g y : EReal) = x (ix2 (y 0) (y 1)) * (scale fun k => x (ix2 (y 0) k)) * g (ix2 0 (y 1)) := by
  idx_vars y
  pointwise [k0_pay1]
  rfl

theorem pay2_apply (w : FVec Ideal S1024x256 .bf16) (x : FVec Ideal S1024x1024 .bf16) (y : S1024x256.Idx) :
    (k0_pay2 (F := Ideal) w x y : EReal) = ∑ k : Fin 1024, x (ix2 (y 0) k) * w (ix2 k (y 1)) := by
  idx_vars y
  pointwise [k0_pay2]

variable (m : (ℓ : Loc nD τ sig) → Buf (Elt Ideal) ℓ)

/-- The arguments, as the program finds them. -/
def xArr (c : Dev nD) : FVec Ideal S2048x1024 .f32 := m ((c : Thread nD τ).loc main_arg0)
def gArr (c : Dev nD) : FVec Ideal S1024 .f32 := m ((c : Thread nD τ).loc main_arg1)
def wArr (c : Dev nD) : FVec Ideal S1024x256 .f32 := m ((c : Thread nD τ).loc main_arg2)

/-- The norm and the product. -/
def norm (c : Dev nD) (r : Fin 2048) (l : Fin 1024) : EReal := (xArr m c (ix2 r l) : EReal) * (scale fun k => xArr m c (ix2 r k)) * gArr m c (ix1 l)
def prod (c : Dev nD) (r : Fin 2048) (l : Fin 256) : EReal := ∑ k : Fin 1024, norm m c r k * (wArr m c (ix2 k l) : EReal)

/-- The blocks' places. -/
theorem places : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The host lines cast the weight and lay the norm's weight out as a row. -/
theorem entry_g (c : Dev nD) (l : Fin 1024) : ((V m c main_v1 : FVec Ideal S1x1024 .f32) (ix2 (0 : Fin 1) l) : EReal) = gArr m c (ix1 l) := by
  unfold_abbrev_sides
  after_reads_at
  rfl

theorem entry_w (c : Dev nD) (i : S1024x256.Idx) : ((V m c main_v0 : FVec Ideal S1024x256 .bf16) i : EReal) = wArr m c i := by
  unfold_abbrev_sides
  after_reads_at
  rfl

theorem lt2 (t : Fin cfg0.N) : t.val < 2 := lt_of_lt_of_eq t.isLt N_0

variable (c : Dev nD) (t : Fin cfg0.N)

/-- A block's row in the arrays. -/
def rowOf (r : Fin 1024) : Fin 2048 := ⟨1024 * t.val + r.val, by have := lt2 t; have := r.isLt; omega⟩

theorem blk_x (r k : Fin 1024) : ((iblk m c 0 t : FVec Ideal S1024x1024 .f32) (ix2 r k) : EReal) = xArr m c (ix2 (rowOf t r) k) := by
  refine congrArg (xArr m c) (show ((cfg0.win 0).blk t).view.emb (ix2 r k) = _ from ?_)
  funext a
  apply Fin.ext
  fin_cases a <;> blk_simp [places t] <;> simp [rowOf] <;> omega

theorem blk_g (k : Fin 1024) : ((iblk m c 1 t : FVec Ideal S1x1024 .f32) (ix2 (0 : Fin 1) k) : EReal) = gArr m c (ix1 k) := by
  refine Eq.trans (congrArg (V m c main_v1 : FVec Ideal S1x1024 .f32) (show ((cfg0.win 1).blk t).view.emb (ix2 (0 : Fin 1) k) = ix2 (0 : Fin 1) k from ?_)) (entry_g m c k)
  funext a
  apply Fin.ext
  fin_cases a <;> blk_simp [places t] <;> simp

theorem blk_w (k : Fin 1024) (l : Fin 256) : ((iblk m c 2 t : FVec Ideal S1024x256 .bf16) (ix2 k l) : EReal) = wArr m c (ix2 k l) := by
  refine (entry_w m c (((cfg0.win 2).blk t).view.emb (ix2 k l))).trans (congrArg (wArr m c) ?_)
  funext a
  apply Fin.ext
  fin_cases a <;> blk_simp [places t] <;> simp

/-- A point's norm and product. -/
theorem norm_block (r l : Fin 1024) : (k0_pay1 (F := Ideal) (iblk m c 0 t) (iblk m c 1 t) (ix2 r l) : EReal) = norm m c (rowOf t r) l := by
  refine (pay1_apply _ _ _).trans ?_
  unfold norm
  exact congrArg₂ (fun a b : EReal => a * b)
    (congrArg₂ (fun a b : EReal => a * b) (blk_x m c t r l) (congrArg scale (funext fun k => blk_x m c t r k))) (blk_g m c t l)

theorem prod_block (r : Fin 1024) (l : Fin 256) :
    (k0_pay2 (F := Ideal) (iblk m c 2 t) (k0_pay1 (F := Ideal) (iblk m c 0 t) (iblk m c 1 t)) (ix2 r l) : EReal) = prod m c (rowOf t r) l :=
  (pay2_apply _ _ _).trans (Finset.sum_congr rfl fun k _ => congrArg₂ (fun a b : EReal => a * b) (norm_block m c t r k) (blk_w m c t k l))

/-- The result arrays, whole. -/
theorem final_prod : (dats m 0 c).arrAt 3 cfg0.N = fun (i : S2048x256.Idx) => prod m c (i 0) (i 1) := by
  refine (dats m 0 c).arrAt_eq_of_covers 3 _ (by decide +kernel) fun t hf y => ?_
  blk_simp
  rw [after0_3]
  unfold outsAt0 out0_A_3
  frame_out
  idx_vars y
  refine (prod_block m c t y0 y1).trans (congrArg₂ (prod m c) ?_ ?_) <;> apply Fin.ext <;> blk_simp [places t] <;> simp [rowOf] <;> omega

theorem final_norm : (dats m 0 c).arrAt 4 cfg0.N = fun (i : S2048x1024.Idx) => norm m c (i 0) (i 1) := by
  refine (dats m 0 c).arrAt_eq_of_covers 4 _ (by decide +kernel) fun t hf y => ?_
  blk_simp
  rw [after0_4]
  unfold outsAt0 out0_A_4
  frame_out
  idx_vars y
  refine (norm_block m c t y0 y1).trans (congrArg₂ (norm m c) ?_ ?_) <;> apply Fin.ext <;> blk_simp [places t] <;> simp [rowOf] <;> omega

end Cert.NormKvIdeal.Hand
-- ==== Proof.NormKvRef.lean ====
/-
  The norm before keys and values with its product, forward: what the reference computes.
-/
module

public import proofs.«01_k».proof.Proof.Gen.NormKvRefIdeal.Read
public import proofs.«01_k».proof.Proof.NormGrad
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open scoped BigOperators

namespace Cert.NormKvRefIdeal.Hand

open Cert.NormKvRefIdeal Cert.NormKvRefIdeal.Read Cert.NormGrad

variable (x : FVec Ideal S2048x1024 .f32) (g : FVec Ideal S1024 .f32) (w : FVec Ideal S1024x256 .f32)

/-- What a row is multiplied by. -/
theorem scale_at (r : Fin 2048) : (val_main_v7 (F := Ideal) x (ix2 r (0 : Fin 1)) : EReal) = scale fun k => x (ix2 r k) := by
  simp only [val_main_v7_apply, val_main_v6_apply, val_main_v5_apply, val_main_v4_apply, val_main_v3_apply, val_main_v2_apply, val_main_v1_apply,
    val_main_v0_apply, val_main_cst_apply, val_main_cst_0_apply, val_main_cst_1_apply]
  rw [show (FloatOps.ofBits (F := Ideal) .f32 0#32 : EReal) = 0 from Ideal.ofBits_zero_f32, zero_add]
  unfold scale meanSq
  refine congrArg (fun s : EReal => Ideal.rsqrt (Ideal.div s _ + _)) (Finset.sum_congr rfl fun k _ => ?_)
  exact congrArg (fun z : EReal => z * z) (congrArg x (by funext a; fin_cases a <;> rfl))

/-- The norm's output. -/
theorem norm_at (r : Fin 2048) (l : Fin 1024) :
    (val_main_v12 (F := Ideal) x g (ix2 r l) : EReal) = x (ix2 r l) * (scale fun k => x (ix2 r k)) * g (ix1 l) := by
  rw [val_main_v12_apply, val_main_v9_apply, val_main_v8_apply, val_main_v11_apply, val_main_v10_apply, ← scale_at]
  refine congrArg₂ (fun a b : EReal => x (ix2 r l) * a * b) (congrArg (val_main_v7 (F := Ideal) x) ?_) (congrArg g ?_) <;> funext a <;> fin_cases a <;> rfl

/-- The second result, the norm's output in bf16. -/
theorem copy_at (r : Fin 2048) (l : Fin 1024) :
    (val_main_v14 (F := Ideal) x g (ix2 r l) : EReal) = x (ix2 r l) * (scale fun k => x (ix2 r k)) * g (ix1 l) := by
  rw [val_main_v14_apply]
  exact norm_at x g r l

/-- The first result, the product. -/
theorem prod_at (r : Fin 2048) (l : Fin 256) : (val_main_v13 (F := Ideal) x g w (ix2 r l) : EReal)
    = ∑ k : Fin 1024, (x (ix2 r k) * (scale fun j => x (ix2 r j)) * g (ix1 k)) * w (ix2 k l) := by
  rw [val_main_v13_apply]
  refine Finset.sum_congr rfl fun k _ => congrArg₂ (fun a b : EReal => a * b) (Eq.trans (congrArg (val_main_v12 (F := Ideal) x g) ?_) (norm_at x g r k)) (congrArg w ?_) <;>
    funext a <;> fin_cases a <;> rfl

end Cert.NormKvRefIdeal.Hand
-- ==== Proof.NormKvClaim.lean ====
/-
  The claims about the forward call of the norm before keys and values, put together.
-/
module

public import proofs.«01_k».proof.Defs
public import proofs.«01_k».proof.Proof.Gen.NormKv.Frame
public import proofs.«01_k».proof.Proof.Gen.NormKvRefIdeal.Run
public import proofs.«01_k».proof.Proof.NormKvValue
public import proofs.«01_k».proof.Proof.NormKvRef

@[expose] public section

set_option maxRecDepth 16384

noncomputable section

open Idealize.ShloMosaic Idealize.ShloMosaic.TcCoe Idealize.SL.Sem
open scoped BigOperators

namespace Cert.NormKvClaim

open Cert.NormKvIdeal Cert.NormKvIdeal.Hand

/-- The reference's results are the kernel's. -/
theorem same_prod (m : (ℓ : Loc nD τ sig) → Buf (Elt Ideal) ℓ) (c : Dev nD) :
    Cert.NormKvRefIdeal.Read.val_main_v13 (F := Ideal) (m ((c : Thread nD τ).loc main_arg0)) (m ((c : Thread nD τ).loc main_arg1)) (m ((c : Thread nD τ).loc main_arg2))
      = (Cert.NormKvIdeal.Gen.dats m 0 c).arrAt 3 Cert.NormKvIdeal.cfg0.N := by
  refine Eq.trans ?_ (final_prod m c).symm
  funext i
  idx_vars i
  exact Cert.NormKvRefIdeal.Hand.prod_at _ _ _ i0 i1

theorem same_norm (m : (ℓ : Loc nD τ sig) → Buf (Elt Ideal) ℓ) (c : Dev nD) :
    Cert.NormKvRefIdeal.Read.val_main_v14 (F := Ideal) (m ((c : Thread nD τ).loc main_arg0)) (m ((c : Thread nD τ).loc main_arg1))
      = (Cert.NormKvIdeal.Gen.dats m 0 c).arrAt 4 Cert.NormKvIdeal.cfg0.N := by
  refine Eq.trans ?_ (final_norm m c).symm
  funext i
  idx_vars i
  exact Cert.NormKvRefIdeal.Hand.copy_at _ _ i0 i1

/-- The call terminates without a fault and leaves its arguments alone. -/
theorem frame_kernel : Cert.quiescent_NormKv := fun m ρ _ => Cert.NormKv.Gen.frame m ρ

/-- The same over the extended reals. -/
theorem frame_ideal : Cert.quiescent_NormKvIdeal := fun m ρ _ => Cert.NormKvIdeal.Gen.frame m ρ

/-- The reference terminates without a fault and leaves its arguments alone. -/
theorem frame_reference : Cert.quiescent_NormKvRefIdeal := fun m ρ _ =>
  (θ_run _ _ _).mono (fun r h => ⟨fun c => (h c).2.2, sem_eq_zero_of_no_sems rfl r.2⟩) (Cert.NormKvRefIdeal.Value.run m ρ)

/-- The kernel's results are the reference's. -/
theorem algebraic : Cert.algebraic_NormKvIdeal_NormKvRefIdeal := by
  pair_intro
  · run_from Cert.NormKvIdeal.Value.run_blocks m g
  · run_from Cert.NormKvRefIdeal.Value.run m' g'
    · refine (Cert.NormKvRefIdeal.Read.val_main_v13_eq (F := Ideal) _ _ _).trans ?_
      exact same_prod m c
    · refine (Cert.NormKvRefIdeal.Read.val_main_v14_eq (F := Ideal) _ _).trans ?_
      exact same_norm m c

end Cert.NormKvClaim
-- ==== Proof.ReluBlock.lean ====
/-
  The squared ReLU's gradient fused with a product: what one block computes, and what the copies into the ring leave to be read.
-/
module

public import proofs.«01_k».proof.Proof.Gen.ReluIdeal.Value
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.ReluIdeal.Hand

open Cert.ReluIdeal Cert.ReluIdeal.Gen

/-- The word of two. -/
def two : EReal := FloatOps.ofBits (F := Ideal) .f32 0x40000000#32

/-- A block's entry: the product of the cotangent's row and the weight's, times twice the root of what the forward pass saved. -/
theorem pay_at (x : FVec Ideal S1024x1024 .bf16) (v w : FVec Ideal S1x1024x1024 .bf16) (W A : FVec Ideal S1024x1024 .bf16)
    (hW : shapeCast S1024x1024 v shapeCasts_S1x1024x1024_S1024x1024 = W) (hA : shapeCast S1024x1024 w shapeCasts_S1x1024x1024_S1024x1024 = A)
    (r l : Fin 1024) : (k0_pay1 (F := Ideal) x v w (ix2 r l) : EReal)
      = (∑ k : Fin 1024, (x (ix2 r k) : EReal) * W (ix2 l k)) * (two * Ideal.sqrt (A (ix2 r l))) := by
  unfold k0_pay1
  rw [hW, hA]
  pointwise []
  rfl

/-- A block copied whole into a slot of the ring, loaded again: the weight's ring. -/
theorem slot_w (s : Fin 3) {off : Fin 3 → ℕ} (ho : off = ![s.val, 0, 0]) (inb : ∀ a, off a + S1x1024x1024.size a ≤ S3x1024x1024.size a)
    (v : S1024x1024.Idx → Elt Ideal .bf16) :
    shapeCast S1024x1024 (View.readAt (Elt Ideal) (View.whole cc0_scratch0) (Rect.unit (s := S3x1024x1024) off S1x1024x1024.size inb).toLoadRect
      ((rslot0_0 s).view.writes (Elt Ideal) (rslot0_0 s).view.junk [⟨Rect.whole S1024x1024, v⟩])) shapeCasts_S1x1024x1024_S1024x1024 = v := by
  subst ho
  exact (Memref.read_squeeze_slice scM0_0 _ (fun _ => rfl) squeezes_S1x1024x1024_S1024x1024 shapeCasts_S1x1024x1024_S1024x1024 _).symm.trans
    (View.read_writes_whole (rslot0_0 s).view _ _)

/-- The saved activation's ring. -/
theorem slot_a (s : Fin 3) {off : Fin 3 → ℕ} (ho : off = ![s.val, 0, 0]) (inb : ∀ a, off a + S1x1024x1024.size a ≤ S3x1024x1024.size a)
    (v : S1024x1024.Idx → Elt Ideal .bf16) :
    shapeCast S1024x1024 (View.readAt (Elt Ideal) (View.whole cc0_scratch1) (Rect.unit (s := S3x1024x1024) off S1x1024x1024.size inb).toLoadRect
      ((rslot0_1 s).view.writes (Elt Ideal) (rslot0_1 s).view.junk [⟨Rect.whole S1024x1024, v⟩])) shapeCasts_S1x1024x1024_S1024x1024 = v := by
  subst ho
  exact (Memref.read_squeeze_slice scM0_1 _ (fun _ => rfl) squeezes_S1x1024x1024_S1024x1024 shapeCasts_S1x1024x1024_S1024x1024 _).symm.trans
    (View.read_writes_whole (rslot0_1 s).view _ _)

/-- The slot that a point loads from. -/
theorem slot_of : ∀ t : Fin cfg0.N, k0_off11 (grid0.coords t) = ![(Fin.ofNat 3 t.val).val, 0, 0] :=
  (by decide +kernel : ∀ t : Fin grid0.N, _)

end Cert.ReluIdeal.Hand
-- ==== Proof.ReluValue.lean ====
/-
  The squared ReLU's gradient fused with a product: what the result array of `ReluIdeal` holds.
-/
module

public import proofs.«01_k».proof.Proof.ReluBlock

@[expose] public section

set_option maxRecDepth 16384

noncomputable section

open Idealize.ShloMosaic Idealize.ShloMosaic.TcCoe Idealize.SL.Sem
open Idealize.ShloMosaic.Pipeline (Dat)
open scoped BigOperators

namespace Cert.ReluIdeal.Hand

open Cert.ReluIdeal Cert.ReluIdeal.Gen

variable (m : (ℓ : Loc nD τ sig) → Buf (Elt Ideal) ℓ)

/-- The pre-activation, cut off below zero. -/
def act (c : Dev nD) (i : S2048x4096.Idx) : EReal := max ((m ((c : Thread nD τ).loc main_arg0) : FVec Ideal S2048x4096 .f32) i) (FloatOps.ofBits (F := Ideal) .f32 0x00000000#32)

/-- The cotangent and the weight, as the program finds them. -/
def ctArr (c : Dev nD) : FVec Ideal S2048x1024 .f32 := m ((c : Thread nD τ).loc main_arg2)
def wArr (c : Dev nD) : FVec Ideal S4096x1024 .f32 := m ((c : Thread nD τ).loc main_arg1)

/-- The result: the product, times twice the root of the squared activation. -/
def du (c : Dev nD) (i : S2048x4096.Idx) : EReal :=
  (∑ k : Fin 1024, (ctArr m c (ix2 (i 0) k) : EReal) * wArr m c (ix2 (i 1) k))
    * (two * Ideal.sqrt (act m c i * act m c i))

/-- The blocks' places. -/
theorem places : ∀ t : Fin cfg0.N, win0_0.index t = ![t.val / 4, 0] ∧ win0_1.index t = ![t.val / 4, t.val % 4] :=
  (by decide +kernel : ∀ t : Fin grid0.N, _)

/-- The host lines cast the cotangent and the weight and square the activation. -/
theorem entry_d (c : Dev nD) (i : S2048x1024.Idx) : ((V m c main_v3 : FVec Ideal S2048x1024 .bf16) i : EReal) = (m ((c : Thread nD τ).loc main_arg2) : FVec Ideal S2048x1024 .f32) i := by
  unfold_abbrev_sides
  after_reads_at

theorem entry_w (c : Dev nD) (i : S4096x1024.Idx) : ((V m c main_v4 : FVec Ideal S4096x1024 .bf16) i : EReal) = (m ((c : Thread nD τ).loc main_arg1) : FVec Ideal S4096x1024 .f32) i := by
  unfold_abbrev_sides
  after_reads_at

theorem entry_a (c : Dev nD) (i : S2048x4096.Idx) : ((V m c main_v2 : FVec Ideal S2048x4096 .bf16) i : EReal) = act m c i * act m c i := by
  unfold_abbrev_sides
  after_reads_at
  unfold act
  rw [show (FloatOps.ofBits (F := Ideal) .f32 0x00000000#32 : EReal) = 0 from Ideal.ofBits_zero_f32]
  rfl

theorem lt8 (t : Fin cfg0.N) : t.val < 8 := lt_of_lt_of_eq t.isLt N_0

variable (c : Dev nD) (t : Fin cfg0.N)

/-- The block of a point, in the arrays. -/
def rowOf (r : Fin 1024) : Fin 2048 := ⟨1024 * (t.val / 4) + r.val, by have := lt8 t; have := r.isLt; omega⟩
def colOf (l : Fin 1024) : Fin 4096 := ⟨1024 * (t.val % 4) + l.val, by have := r_lt l; omega⟩
where r_lt (l : Fin 1024) : l.val < 1024 := l.isLt

theorem blk_d (r k : Fin 1024) : ((iblk m c 0 t : FVec Ideal S1024x1024 .bf16) (ix2 r k) : EReal)
    = (m ((c : Thread nD τ).loc main_arg2) : FVec Ideal S2048x1024 .f32) (ix2 (rowOf t r) k) := by
  refine (entry_d m c (((cfg0.win 0).blk t).view.emb (ix2 r k))).trans (congrArg _ ?_)
  funext a
  apply Fin.ext
  fin_cases a <;> blk_simp [places t] <;> simp [rowOf] <;> omega

theorem src_w (l k : Fin 1024) : (View.read (Elt Ideal) (srcB0_0 (Ring.bk 8 t.val)).view (V m c main_v4) (ix2 l k) : EReal)
    = (m ((c : Thread nD τ).loc main_arg1) : FVec Ideal S4096x1024 .f32) (ix2 (colOf t l) k) := by
  refine (entry_w m c ((srcB0_0 (Ring.bk 8 t.val)).view.emb (ix2 l k))).trans (congrArg _ ?_)
  have hb := Ring.bk_val (lt8 t)
  funext a
  apply Fin.ext
  fin_cases a
  · show 1024 * ((Ring.bk 8 t.val).val % 4) + 1 * l.val = 1024 * (t.val % 4) + l.val
    rw [hb]; omega
  · show 0 + 1 * k.val = k.val
    omega

theorem src_a (r l : Fin 1024) : (View.read (Elt Ideal) (srcB0_1 (Ring.bk 8 t.val)).view (V m c main_v2) (ix2 r l) : EReal)
    = act m c (ix2 (rowOf t r) (colOf t l)) * act m c (ix2 (rowOf t r) (colOf t l)) := by
  have e : (srcB0_1 (Ring.bk 8 t.val)).view.emb (ix2 r l) = (ix2 (rowOf t r) (colOf t l) : S2048x4096.Idx) := by
    have hb := Ring.bk_val (lt8 t)
    funext a
    apply Fin.ext
    fin_cases a
    · show 1024 * ((Ring.bk 8 t.val).val / 4) + 1 * r.val = 1024 * (t.val / 4) + r.val
      rw [hb]; omega
    · show 1024 * ((Ring.bk 8 t.val).val % 4) + 1 * l.val = 1024 * (t.val % 4) + l.val
      rw [hb]; omega
  refine (entry_a m c ((srcB0_1 (Ring.bk 8 t.val)).view.emb (ix2 r l))).trans ?_
  rw [e]

/-- A point's payload, at the blocks the copies brought. -/
theorem point (inb inb') (r l : Fin 1024) : (k0_pay1 (F := Ideal) (iblk m c 0 t)
      (View.readAt (Elt Ideal) (View.whole cc0_scratch0) (Rect.unit (s := S3x1024x1024) (k0_off11 (grid0.coords t)) S1x1024x1024.size inb).toLoadRect
        ((rslot0_0 (Fin.ofNat 3 t.val)).view.writes (Elt Ideal) (rslot0_0 (Fin.ofNat 3 t.val)).view.junk
          [⟨Rect.whole S1024x1024, ReadAs.same.apply (View.read (Elt Ideal) (srcB0_0 (Ring.bk 8 t.val)).view (V m c main_v4))⟩]))
      (View.readAt (Elt Ideal) (View.whole cc0_scratch1) (Rect.unit (s := S3x1024x1024) (k0_off11 (grid0.coords t)) S1x1024x1024.size inb').toLoadRect
        ((rslot0_1 (Fin.ofNat 3 t.val)).view.writes (Elt Ideal) (rslot0_1 (Fin.ofNat 3 t.val)).view.junk
          [⟨Rect.whole S1024x1024, ReadAs.same.apply (View.read (Elt Ideal) (srcB0_1 (Ring.bk 8 t.val)).view (V m c main_v2))⟩]))
      (ix2 r l) : EReal) = du m c (ix2 (rowOf t r) (colOf t l)) := by
  refine (pay_at _ _ _ _ _ (slot_w _ (slot_of t) inb _) (slot_a _ (slot_of t) inb' _) r l).trans ?_
  refine congrArg₂ (fun a b : EReal => a * (two * Ideal.sqrt b)) (Finset.sum_congr rfl fun k _ => ?_) (src_a m c t r l)
  exact congrArg₂ (fun a b : EReal => a * b) (blk_d m c t r k) (src_w m c t l k)

/-- What a point leaves in the output's block. -/
theorem out_at (r l : Fin 1024) : (outsAt0 m c t.val t.isLt (ix2 r l) : EReal) = du m c (ix2 (rowOf t r) (colOf t l)) := by
  have h8 := lt8 t
  by_cases h0 : t.val % 8 = 0
  · rw [outsAt0_A m c t h0 (by omega)]
    unfold out0_A_1
    frame_out
    exact point m c t _ _ r l
  · by_cases h1 : t.val < 6
    · rw [outsAt0_B m c t h0 h1]
      unfold out0_B_1
      frame_out
      exact point m c t _ _ r l
    · rw [outsAt0_C m c t h0 h1]
      unfold out0_C_1
      frame_out
      exact point m c t _ _ r l

/-- The result array, whole. -/
theorem final : (dats m 0 c).arrAt 1 cfg0.N = fun (i : S2048x4096.Idx) => du m c i := by
  refine (dats m 0 c).arrAt_eq_of_covers 1 _ (by decide +kernel) fun t hf y => ?_
  blk_simp
  rw [after0_1]
  idx_vars y
  refine (out_at m c t y0 y1).trans (congrArg (du m c) ?_)
  funext a
  apply Fin.ext
  fin_cases a <;> blk_simp [(places t).2] <;> simp [rowOf, colOf] <;> omega

end Cert.ReluIdeal.Hand
-- ==== Proof.ReluRef.lean ====
/-
  The squared ReLU's gradient fused with a product: what the reference computes.
-/
module

public import proofs.«01_k».proof.Proof.Gen.ReluRefIdeal.Read
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open scoped BigOperators

namespace Cert.ReluRefIdeal.Hand

open Cert.ReluRefIdeal Cert.ReluRefIdeal.Read

/-- The root of a square of a value that isn't negative. -/
theorem root_square (x : EReal) (h : 0 ≤ x) : Ideal.sqrt (x * x) = x := by
  induction x using EReal.rec with
  | bot => exact absurd h (by simp)
  | top => rw [EReal.top_mul_top]; rfl
  | coe a =>
    have ha : 0 ≤ a := EReal.coe_nonneg.mp h
    rw [← EReal.coe_mul, Ideal.sqrt_coe, if_neg (by nlinarith), Real.sqrt_mul_self ha]

variable (u : FVec Ideal S2048x4096 .f32) (w : FVec Ideal S4096x1024 .f32) (d : FVec Ideal S2048x1024 .f32)

/-- The gradient of the activation. -/
theorem prod_at (i : S2048x4096.Idx) : (val_main_v10 (F := Ideal) w d i : EReal) = ∑ k : Fin 1024, (d (ix2 (i 0) k) : EReal) * w (ix2 (i 1) k) := by
  rw [val_main_v10_apply]
  exact Finset.sum_congr rfl fun k _ => congrArg₂ (fun a b : EReal => a * b) (congrArg d (by funext a; fin_cases a <;> rfl)) (congrArg w (by funext a; fin_cases a <;> rfl))

/-- The reference's entry, in the kernel's form. -/
theorem ref_at (i : S2048x4096.Idx) (z : EReal) (hz : z = FloatOps.ofBits (F := Ideal) .f32 0x00000000#32) : (val_main_v14 (F := Ideal) u w d i : EReal)
    = (∑ k : Fin 1024, (d (ix2 (i 0) k) : EReal) * w (ix2 (i 1) k))
      * ((FloatOps.ofBits (F := Ideal) .f32 0x40000000#32 : EReal) * Ideal.sqrt (max (u i) z * max (u i) z)) := by
  have z0 : z = 0 := hz.trans Ideal.ofBits_zero_f32
  rw [root_square _ (le_trans (le_of_eq z0.symm) (le_max_right _ _))]
  rw [← prod_at w d i]
  have e : (val_main_v14 (F := Ideal) u w d i : EReal) = if (z : EReal) < u i then
      (val_main_v10 (F := Ideal) w d i : EReal) * ((FloatOps.ofBits (F := Ideal) .f32 0x40000000#32 : EReal) * max (u i) z) else z := by
    rw [hz]
    rw [val_main_v14_apply]
    show (val_main_v13 (F := Ideal) u w d i : EReal) = _
    rw [val_main_v13_apply, val_main_v2_apply, val_main_v11_apply, val_main_v6_apply]
    show (if BitVec.ofBool (decide ((val_main_v1 (F := Ideal) i : EReal) < u i)) = 1#1 then _ else _) = _
    by_cases h : (FloatOps.ofBits (F := Ideal) .f32 0x00000000#32 : EReal) < u i
    · rw [if_pos h]
      refine (if_pos ?_).trans ?_
      · exact congrArg BitVec.ofBool (decide_eq_true h)
      · rfl
    · rw [if_neg h]
      refine (if_neg ?_).trans ?_
      · intro hh
        have : BitVec.ofBool (decide ((FloatOps.ofBits (F := Ideal) .f32 0x00000000#32 : EReal) < u i)) = 1#1 := hh
        rw [decide_eq_false h] at this
        exact absurd this (by decide)
      · rfl
  rw [e]
  by_cases h : z < u i
  · rw [if_pos h]
  · rw [if_neg h, max_eq_right (not_lt.mp h), z0, mul_zero, mul_zero]

end Cert.ReluRefIdeal.Hand
-- ==== Proof.ReluClaim.lean ====
/-
  The claims about the squared ReLU's gradient with its product, put together.
-/
module

public import proofs.«01_k».proof.Defs
public import proofs.«01_k».proof.Proof.Gen.Relu.Frame
public import proofs.«01_k».proof.Proof.Gen.ReluRefIdeal.Run
public import proofs.«01_k».proof.Proof.ReluValue
public import proofs.«01_k».proof.Proof.ReluRef

@[expose] public section

set_option maxRecDepth 16384

noncomputable section

open Idealize.ShloMosaic Idealize.ShloMosaic.TcCoe Idealize.SL.Sem
open scoped BigOperators

namespace Cert.ReluClaim

open Cert.ReluIdeal Cert.ReluIdeal.Hand

/-- The reference's result is the kernel's. -/
theorem same (m : (ℓ : Loc nD τ sig) → Buf (Elt Ideal) ℓ) (c : Dev nD) :
    Cert.ReluRefIdeal.Read.val_main_v14 (F := Ideal) (m ((c : Thread nD τ).loc main_arg0)) (m ((c : Thread nD τ).loc main_arg1)) (m ((c : Thread nD τ).loc main_arg2))
      = (Cert.ReluIdeal.Gen.dats m 0 c).arrAt 1 Cert.ReluIdeal.cfg0.N :=
  (funext fun i => Cert.ReluRefIdeal.Hand.ref_at _ _ _ i _ rfl).trans (final m c).symm

/-- The call terminates without a fault and leaves its arguments alone. -/
theorem frame_kernel : Cert.quiescent_Relu := fun m ρ _ => Cert.Relu.Gen.frame m ρ

/-- The same over the extended reals. -/
theorem frame_ideal : Cert.quiescent_ReluIdeal := fun m ρ _ => Cert.ReluIdeal.Gen.frame m ρ

/-- The reference terminates without a fault and leaves its arguments alone. -/
theorem frame_reference : Cert.quiescent_ReluRefIdeal := fun m ρ _ =>
  (θ_run _ _ _).mono (fun r h => ⟨fun c => (h c).2, sem_eq_zero_of_no_sems rfl r.2⟩) (Cert.ReluRefIdeal.Value.run m ρ)

/-- The kernel's result is the reference's. -/
theorem algebraic : Cert.algebraic_ReluIdeal_ReluRefIdeal := by
  pair_intro
  · run_from Cert.ReluIdeal.Value.run_blocks m g
  · run_from Cert.ReluRefIdeal.Value.run m' g'
    refine (Cert.ReluRefIdeal.Read.val_main_v14_eq (F := Ideal) _ _ _).trans ?_
    exact same m c

end Cert.ReluClaim
-- ==== Proof.RmsQBlock.lean ====
/-
  The gradient of the queries' norm with its product: what one block computes.
-/
module

public import proofs.«01_k».proof.Proof.Gen.RmsQIdeal.Value
public import proofs.«01_k».proof.Proof.NormGrad
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.RmsQIdeal.Hand

open Cert.RmsQIdeal Cert.RmsQIdeal.Gen Cert.NormGrad

/-- The product of the cotangent's rows and the weight's. -/
theorem pay4_apply (x0 : FVec Ideal S512x1024 .bf16) (x2 : FVec Ideal S1024x1024 .bf16) (y : S512x1024.Idx) :
    (k0_pay4 (F := Ideal) x0 x2 y : EReal) = ∑ k : Fin 1024, x0 (ix2 (y 0) k) * x2 (ix2 (y 1) k) := by
  idx_vars y
  pointwise [k0_pay4]

/-- The running sum. -/
theorem pay3_apply (x acc : FVec Ideal S1x1024 .f32) (y : S1x1024.Idx) : (k0_pay3 (F := Ideal) x acc y : EReal) = acc y + x y := by
  idx_vars y
  pointwise [k0_pay3]

/-- A row's mean square and scale; what a block adds to the gradient of the weight; the gradient of a row. -/
theorem pay5_apply (x : FVec Ideal S512x1024 .f32) (r : Fin 512) :
    (k0_pay5 (F := Ideal) x (ix2 r 0) : EReal) = meanSq (fun k => x (ix2 r k)) := by
  pointwise [k0_pay5]
  rfl

theorem pay6_apply (x : FVec Ideal S512x1024 .f32) (r : Fin 512) :
    (k0_pay6 (F := Ideal) x (ix2 r 0) : EReal) = scale (fun k => x (ix2 r k)) := by
  unfold k0_pay6
  show Ideal.rsqrt (k0_pay5 (F := Ideal) x (ix2 r 0)) = _
  rw [pay5_apply]
  rfl

theorem pay7_apply (x0 : FVec Ideal S512x1024 .bf16) (x2 : FVec Ideal S1024x1024 .bf16) (x : FVec Ideal S512x1024 .f32) (y : S1x1024.Idx) :
    (k0_pay7 (F := Ideal) x0 x2 x y : EReal) = ∑ r : Fin 512, weight (fun k => x (ix2 r k)) (fun k => k0_pay4 (F := Ideal) x0 x2 (ix2 r k)) (y 1) := by
  idx_vars y
  have e : ∀ r : Fin 512, (k0_pay6 (F := Ideal) x (ix2 r 0) : EReal) = _ := pay6_apply x
  unfold k0_pay7
  generalize (k0_pay4 (F := Ideal) x0 x2 : FVec Ideal S512x1024 .f32) = d
  generalize (k0_pay6 (F := Ideal) x : FVec Ideal S512x1 .f32) = s at e ⊢
  pointwise []
  simp only [e]
  rfl

theorem pay8_apply (x0 : FVec Ideal S512x1024 .bf16) (x2 : FVec Ideal S1024x1024 .bf16) (x : FVec Ideal S512x1024 .f32) (g : FVec Ideal S1x1024 .f32) (y : S512x1024.Idx) :
    (k0_pay8 (F := Ideal) x0 x2 x g y : EReal)
      = grad (fun k => x (ix2 (y 0) k)) (fun k => g (ix2 0 k)) (fun k => k0_pay4 (F := Ideal) x0 x2 (ix2 (y 0) k)) (y 1) := by
  idx_vars y
  have e := pay6_apply x
  have e5 := pay5_apply x
  unfold k0_pay8
  generalize (k0_pay4 (F := Ideal) x0 x2 : FVec Ideal S512x1024 .f32) = d
  generalize (k0_pay6 (F := Ideal) x : FVec Ideal S512x1 .f32) = s at e ⊢
  generalize (k0_pay5 (F := Ideal) x : FVec Ideal S512x1 .f32) = q at e5 ⊢
  pointwise []
  have one : ∀ f : Fin 1 → EReal, ∑ k : Fin 1, f k = f 0 := fun f => Fin.sum_univ_one f
  rw [show (∑ k : Fin 1, _) = _ from one _]
  simp only [e, e5]
  rfl

end Cert.RmsQIdeal.Hand
-- ==== Proof.RmsQValue.lean ====
/-
  The gradient of the queries' norm with its product: what the two result arrays of `RmsQIdeal` hold.
-/
module

public import proofs.«01_k».proof.Proof.RmsQBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.RmsQIdeal.Hand

open Cert.RmsQIdeal Cert.RmsQIdeal.Gen Cert.NormGrad

variable (m : (ℓ : Loc nD τ sig) → Buf (Elt Ideal) ℓ)

/-- A row of the norm's input. -/
def xRow (c : Dev nD) (r : Fin 2048) : Fin 1024 → EReal := fun k => (m ((c : Thread nD τ).loc main_arg0) : FVec Ideal S2048x1024 .f32) (ix2 r k)

/-- The norm's weight. -/
def gRow (c : Dev nD) : Fin 1024 → EReal := fun k => (m ((c : Thread nD τ).loc main_arg1) : FVec Ideal S1024 .f32) (ix1 k)

/-- The product's cotangent, its weight, and the gradient that the residual brings. -/
def ct (c : Dev nD) (r : Fin 2048) (k : Fin 1024) : EReal := (m ((c : Thread nD τ).loc main_arg3) : FVec Ideal S2048x1024 .f32) (ix2 r k)

def wt (c : Dev nD) (l k : Fin 1024) : EReal := (m ((c : Thread nD τ).loc main_arg2) : FVec Ideal S1024x1024 .f32) (ix2 l k)

def res (c : Dev nD) (r : Fin 2048) (l : Fin 1024) : EReal := (m ((c : Thread nD τ).loc main_arg4) : FVec Ideal S2048x1024 .f32) (ix2 r l)

/-- A row of the gradient of the norm's output. -/
def dRow (c : Dev nD) (r : Fin 2048) : Fin 1024 → EReal := fun l => ∑ k : Fin 1024, ct m c r k * wt m c l k

/-- The blocks' places, window by window. -/
theorem places : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The host lines cast the cotangent and the weight and lay the norm's weight out as a row. -/
theorem entry_d (c : Dev nD) (i : S2048x1024.Idx) : (V m c main_v0 : FVec Ideal S2048x1024 .bf16) i = (m ((c : Thread nD τ).loc main_arg3) : FVec Ideal S2048x1024 .f32) i := by
  unfold_abbrev_sides
  after_reads_at

theorem entry_w (c : Dev nD) (i : S1024x1024.Idx) : (V m c main_v1 : FVec Ideal S1024x1024 .bf16) i = (m ((c : Thread nD τ).loc main_arg2) : FVec Ideal S1024x1024 .f32) i := by
  unfold_abbrev_sides
  after_reads_at

theorem entry_g (c : Dev nD) (l : Fin 1024) : (V m c main_v2 : FVec Ideal S1x1024 .f32) (ix2 0 l) = gRow m c l := by
  unfold_abbrev_sides
  after_reads_at
  rfl

theorem lt4 (t : Fin cfg0.N) : t.val < 4 := lt_of_lt_of_eq t.isLt N_0

/-- Each window's block, read in its array. -/
theorem blk_d (c : Dev nD) (t : Fin cfg0.N) (r : Fin 512) (k : Fin 1024) :
    (iblk m c 0 t : FVec Ideal S512x1024 .bf16) (ix2 r k) = ct m c (row t r) k := by
  refine (entry_d m c (((cfg0.win 0).blk t).view.emb (ix2 r k))).trans (congrArg _ ?_)
  funext a
  apply Fin.ext
  have := row_val t.val (lt4 t) r
  fin_cases a <;> blk_simp [places t] <;> simp <;> omega

theorem blk_w (c : Dev nD) (t : Fin cfg0.N) (l k : Fin 1024) :
    (iblk m c 1 t : FVec Ideal S1024x1024 .bf16) (ix2 l k) = wt m c l k := by
  refine (entry_w m c (((cfg0.win 1).blk t).view.emb (ix2 l k))).trans (congrArg _ ?_)
  funext a
  apply Fin.ext
  fin_cases a <;> blk_simp [places t] <;> simp

theorem blk_x (c : Dev nD) (t : Fin cfg0.N) (r : Fin 512) (k : Fin 1024) :
    (iblk m c 2 t : FVec Ideal S512x1024 .f32) (ix2 r k) = xRow m c (row t r) k := by
  refine (congrFun (V_main_arg0 m c) (((cfg0.win 2).blk t).view.emb (ix2 r k))).trans (congrArg _ ?_)
  funext a
  apply Fin.ext
  have := row_val t.val (lt4 t) r
  fin_cases a <;> blk_simp [places t] <;> simp <;> omega

theorem blk_g (c : Dev nD) (t : Fin cfg0.N) (k : Fin 1024) : (iblk m c 3 t : FVec Ideal S1x1024 .f32) (ix2 0 k) = gRow m c k := by
  refine Eq.trans (congrArg (V m c main_v2 : FVec Ideal S1x1024 .f32) ?_) (entry_g m c k)
  show (((cfg0.win 3).blk t).view.emb (ix2 0 k)) = _
  funext a
  apply Fin.ext
  fin_cases a <;> blk_simp [places t] <;> simp

theorem blk_r (c : Dev nD) (t : Fin cfg0.N) (r : Fin 512) (k : Fin 1024) :
    (iblk m c 4 t : FVec Ideal S512x1024 .f32) (ix2 r k) = res m c (row t r) k := by
  refine (congrFun (V_main_arg4 m c) (((cfg0.win 4).blk t).view.emb (ix2 r k))).trans (congrArg _ ?_)
  funext a
  apply Fin.ext
  have := row_val t.val (lt4 t) r
  fin_cases a <;> blk_simp [places t] <;> simp <;> omega

/-- What the kernel's blocks of a point amount to. -/
theorem pay4_at (c : Dev nD) (t : Fin cfg0.N) (r : Fin 512) (l : Fin 1024) :
    (k0_pay4 (F := Ideal) (iblk m c 0 t) (iblk m c 1 t) (ix2 r l) : EReal) = dRow m c (row t r) l := by
  refine (pay4_apply _ _ _).trans (Finset.sum_congr rfl fun k _ => ?_)
  exact congrArg₂ (fun a b : EReal => a * b) (blk_d m c t r k) (blk_w m c t l k)

theorem pay7_at (c : Dev nD) (t : Fin cfg0.N) (y : S1x1024.Idx) :
    (k0_pay7 (F := Ideal) (iblk m c 0 t) (iblk m c 1 t) (iblk m c 2 t) y : EReal)
      = ∑ r : Fin 512, weight (xRow m c (row t r)) (dRow m c (row t r)) (y 1) := by
  refine (pay7_apply _ _ _ _).trans (Finset.sum_congr rfl fun r _ => ?_)
  rw [show (fun k => (iblk m c 2 t : FVec Ideal S512x1024 .f32) (ix2 r k)) = xRow m c (row t r) from funext fun k => blk_x m c t r k,
    show (fun k => (k0_pay4 (F := Ideal) (iblk m c 0 t) (iblk m c 1 t) (ix2 r k) : EReal)) = dRow m c (row t r) from funext fun k => pay4_at m c t r k]

theorem pay8_at (c : Dev nD) (t : Fin cfg0.N) (y : S512x1024.Idx) :
    (k0_pay8 (F := Ideal) (iblk m c 0 t) (iblk m c 1 t) (iblk m c 2 t) (iblk m c 3 t) y : EReal)
      = grad (xRow m c (row t (y 0))) (gRow m c) (dRow m c (row t (y 0))) (y 1) := by
  refine (pay8_apply _ _ _ _ _).trans ?_
  rw [show (fun k => (iblk m c 2 t : FVec Ideal S512x1024 .f32) (ix2 (y 0) k)) = xRow m c (row t (y 0)) from funext fun k => blk_x m c t (y 0) k,
    show (fun k => (k0_pay4 (F := Ideal) (iblk m c 0 t) (iblk m c 1 t) (ix2 (y 0) k) : EReal)) = dRow m c (row t (y 0)) from funext fun k => pay4_at m c t (y 0) k,
    show (fun k => (iblk m c 3 t : FVec Ideal S1x1024 .f32) (ix2 0 k)) = gRow m c from funext fun k => blk_g m c t k]

/-- The first result: the gradient of the norm's input, with the residual's. -/
def dx (c : Dev nD) (r : Fin 2048) (l : Fin 1024) : EReal :=
  res m c r l + grad (xRow m c r) (gRow m c) (dRow m c r) l

/-- The second: the gradient of the norm's weight. -/
def dg (c : Dev nD) (l : Fin 1024) : EReal := ∑ r : Fin 2048, weight (xRow m c r) (dRow m c r) l

theorem pay1_at (c : Dev nD) (t : Fin cfg0.N) (y : S512x1024.Idx) :
    (k0_pay1 (F := Ideal) (k0_pay8 (F := Ideal) (iblk m c 0 t) (iblk m c 1 t) (iblk m c 2 t) (iblk m c 3 t)) (iblk m c 4 t) y : EReal) = dx m c (row t (y 0)) (y 1) := by
  have e := blk_r m c t (y 0) (y 1)
  have h := pay8_at m c t y
  have hy : (ix2 (y 0) (y 1) : S512x1024.Idx) = y := by idx_vars y
  rw [show ((iblk m c 4 t : FVec Ideal S512x1024 .f32) (ix2 (y 0) (y 1))) = (iblk m c 4 t : FVec Ideal S512x1024 .f32) y from congrArg _ hy] at e
  exact congrArg₂ (fun a b : EReal => a + b) e h

theorem final_dx (c : Dev nD) : (dats m 0 c).arrAt 5 cfg0.N = fun (i : S2048x1024.Idx) => dx m c (i 0) (i 1) := by
  refine (dats m 0 c).arrAt_eq_of_covers 5 _ (by decide +kernel) fun t hf y => ?_
  have e := pay1_at m c t y
  have hr := row_val t.val (lt4 t) (y 0)
  have hp : dx m c (row t (y 0)) (y 1) = dx m c (((cfg0.win 5).blk t).view.emb y 0) (((cfg0.win 5).blk t).view.emb y 1) := by
    refine congrArg₂ (dx m c) (Fin.ext ?_) (Fin.ext ?_)
    · blk_simp [places t] <;> simp <;> omega
    · blk_simp [places t]
  blk_simp
  rw [after0_5]
  by_cases h : t.val % 4 = 0
  · rw [outsAt0_A m c t h]
    frame_out
    exact e.trans hp
  · rw [outsAt0_B m c t h]
    frame_out
    exact e.trans hp

/-- The running sum of the weight's gradient after point `n`. -/
theorem dg_run (c : Dev nD) (n : ℕ) (h : n < cfg0.N) (j : S1x1024.Idx) :
    ((outsAt0 m c n h).2 : FVec Ideal S1x1024 .f32) j
      = ∑ p ∈ Finset.range (n + 1), ∑ r : Fin 512, weight (xRow m c (row p r)) (dRow m c (row p r)) (j 1) := by
  induction n generalizing j with
  | zero =>
    rw [outsAt0_A m c ⟨0, h⟩ rfl]
    frame_out
    refine (pay3_apply _ _ j).trans ?_
    refine (congrArg₂ (fun a b : EReal => a + b) (show (k0_pay2 (F := Ideal) j : EReal) = 0 from by pointwise [k0_pay2]) (pay7_at m c ⟨0, h⟩ j)).trans ?_
    simp
  | succ n ih =>
    have h4 : n + 1 < 4 := lt_of_lt_of_eq h N_0
    rw [outsAt0_B m c ⟨n + 1, h⟩ (by simp; omega)]
    frame_out
    rw [Finset.sum_range_succ]
    refine (pay3_apply _ _ j).trans ?_
    exact congrArg₂ (fun a b : EReal => a + b) (ih (by omega) j) (pay7_at m c ⟨n + 1, h⟩ j)

theorem final_dg (c : Dev nD) : (dats m 0 c).arrAt 6 cfg0.N = fun (i : S1x1024.Idx) => dg m c (i 1) := by
  refine (dats m 0 c).arrAt_eq_of_after_last 6 t0_3 (by decide +kernel) _ fun j => ?_
  blk_simp
  rw [after0_6]
  refine (dg_run m c _ _ _).trans ?_
  exact rows_sum fun r => weight (xRow m c r) (dRow m c r) (j 1)

end Cert.RmsQIdeal.Hand
-- ==== Proof.RmsQRef.lean ====
/-
  The gradient of the queries' norm with its product: what the reference computes.
-/
module

public import proofs.«01_k».proof.Proof.Gen.RmsQRefIdeal.Read
public import proofs.«01_k».proof.Proof.NormGrad
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open scoped BigOperators

namespace Cert.RmsQRefIdeal.Hand

open Cert.RmsQRefIdeal Cert.RmsQRefIdeal.Read Cert.NormGrad

variable (x : FVec Ideal S2048x1024 .f32) (g : FVec Ideal S1024 .f32) (w : FVec Ideal S1024x1024 .f32) (d res : FVec Ideal S2048x1024 .f32)

/-- The word of zero. -/
theorem word_zero : (FloatOps.ofBits (F := Ideal) .f32 0#32 : EReal) = 0 := Ideal.ofBits_zero_f32

/-- A row's mean square and scale. -/
theorem ms_at (r : Fin 2048) : (val_main_v6 (F := Ideal) x (ix2 r (0 : Fin 1)) : EReal) = meanSq fun k => x (ix2 r k) := by
  simp only [val_main_v6_apply, val_main_v5_apply, val_main_v4_apply, val_main_v3_apply, val_main_v2_apply, val_main_v1_apply, val_main_v0_apply,
    val_main_cst_apply, val_main_cst_0_apply, val_main_cst_1_apply]
  rw [word_zero, zero_add]
  unfold meanSq
  refine congrArg (fun s : EReal => Ideal.div s _ + _) (Finset.sum_congr rfl fun k _ => ?_)
  exact congrArg (fun z : EReal => z * z) (congrArg x (by funext a; fin_cases a <;> rfl))

theorem rs_at (r : Fin 2048) : (val_main_v7 (F := Ideal) x (ix2 r (0 : Fin 1)) : EReal) = scale fun k => x (ix2 r k) := by
  rw [val_main_v7_apply, ms_at]
  rfl

/-- The normed row without the weight. -/
theorem xn_at (r : Fin 2048) (l : Fin 1024) : (val_main_v12 (F := Ideal) x (ix2 r l) : EReal) = x (ix2 r l) * scale fun k => x (ix2 r k) := by
  rw [val_main_v12_apply, val_main_v11_apply, ← rs_at]
  exact congrArg (fun z : EReal => x (ix2 r l) * z) (congrArg (val_main_v7 (F := Ideal) x) (by funext a; fin_cases a <;> rfl))

/-- The gradient of the norm's output. -/
theorem d_at (r : Fin 2048) (l : Fin 1024) : (val_main_v17 (F := Ideal) w d (ix2 r l) : EReal) = ∑ k : Fin 1024, d (ix2 r k) * w (ix2 l k) := by
  rw [val_main_v17_apply]
  exact Finset.sum_congr rfl fun k _ => congrArg₂ (fun a b : EReal => a * b) (congrArg d (by funext a; fin_cases a <;> rfl)) (congrArg w (by funext a; fin_cases a <;> rfl))

/-- The second result: the gradient of the norm's weight. -/
theorem dg_at (D : Fin 2048 → Fin 1024 → EReal) (hD : ∀ r l, (val_main_v17 (F := Ideal) w d (ix2 r l) : EReal) = D r l) (l : Fin 1024) :
    (val_main_v39 (F := Ideal) x w d (ix2 (0 : Fin 1) l) : EReal) = ∑ r : Fin 2048, weight (fun k => x (ix2 r k)) (D r) l := by
  simp only [val_main_v39_apply, val_main_v23_apply, val_main_v20_apply, val_main_v19_apply, val_main_cst_3_apply, val_main_cst_4_apply]
  rw [word_zero, zero_add, Fin.sum_univ_one, zero_add]
  refine Finset.sum_congr rfl fun r _ => ?_
  rw [val_main_v18_apply]
  rw [show idx_main_v19 (idx_main_v20 (idx_main_v23 (idx_main_v39 (ix2 (0 : Fin 1) l)) 0)) r = ix2 r l from by
    funext a; apply Fin.ext; fin_cases a <;> simp [idx_main_v39, idx_main_v23, idx_main_v20, idx_main_v19]]
  exact congrArg₂ (fun a b : EReal => a * b) (xn_at x r l) (hD r l)

/-- The gradient that reaches a row's squares. -/
theorem pull_at (D : Fin 2048 → Fin 1024 → EReal) (hD : ∀ r l, (val_main_v17 (F := Ideal) w d (ix2 r l) : EReal) = D r l) (r : Fin 2048) (l : Fin 1024) :
    (val_main_v33 (F := Ideal) x g w d (ix2 r l) : EReal) = pull (fun k => x (ix2 r k)) (fun k => g (ix1 k)) (D r) := by
  simp only [val_main_v33_apply, val_main_v32_apply, val_main_cst_7_apply]
  rw [word_zero, zero_add, Fin.sum_univ_one]
  have e : ∀ i : S2048x1.Idx, i = ix2 r (0 : Fin 1) → (val_main_v31 (F := Ideal) x g w d i : EReal) = pull (fun k => x (ix2 r k)) (fun k => g (ix1 k)) (D r) := fun i hi => by
    rw [hi]
    simp only [val_main_v31_apply, val_main_v30_apply, val_main_v29_apply, val_main_v26_apply, val_main_v25_apply, val_main_v10_apply, val_main_v9_apply,
      val_main_v8_apply, val_main_cst_2_apply, val_main_cst_5_apply, val_main_cst_6_apply]
    rw [word_zero, zero_add, ms_at, rs_at]
    unfold pull
    refine congrArg (fun s : EReal => Ideal.div (s * _) _) (Finset.sum_congr rfl fun k _ => ?_)
    simp only [val_main_v24_apply, val_main_v22_apply, val_main_v21_apply, val_main_v13_apply]
    rw [show idx_main_v25 (idx_main_v26 (ix2 r (0 : Fin 1))) k = ix2 r k from by
      funext a; apply Fin.ext; fin_cases a <;> simp [idx_main_v25, idx_main_v26]]
    exact congrArg₂ (fun a b : EReal => x (ix2 r k) * (a * b)) (hD r k) (congrArg g (by funext a; fin_cases a <;> rfl))
  exact e _ (by funext a; fin_cases a <;> rfl)

/-- The first result: the gradient of the norm's input, with the residual's. -/
theorem dx_at (D : Fin 2048 → Fin 1024 → EReal) (hD : ∀ r l, (val_main_v17 (F := Ideal) w d (ix2 r l) : EReal) = D r l) (r : Fin 2048) (l : Fin 1024) :
    (val_main_v38 (F := Ideal) x g w d res (ix2 r l) : EReal)
      = res (ix2 r l) + grad (fun k => x (ix2 r k)) (fun k => g (ix1 k)) (D r) l := by
  simp only [val_main_v38_apply, val_main_v37_apply, val_main_v36_apply, val_main_v35_apply, val_main_v34_apply, val_main_v28_apply, val_main_v27_apply,
    val_main_v22_apply, val_main_v21_apply, val_main_v13_apply]
  rw [pull_at x g w d D hD r l, hD r l, show idx_main_v27 (ix2 r l) = ix2 r (0 : Fin 1) from by funext a; fin_cases a <;> rfl, rs_at]
  exact congrArg (fun z : EReal => res (ix2 r l) + (D r l * z * _ + _ + _)) (congrArg g (by funext a; fin_cases a <;> rfl))

end Cert.RmsQRefIdeal.Hand
-- ==== Proof.RmsQClaim.lean ====
/-
  The claims about the gradient of the queries' norm with its product, put together.
-/
module

public import proofs.«01_k».proof.Defs
public import proofs.«01_k».proof.Proof.Gen.RmsQ.Frame
public import proofs.«01_k».proof.Proof.Gen.RmsQRefIdeal.Run
public import proofs.«01_k».proof.Proof.RmsQValue
public import proofs.«01_k».proof.Proof.RmsQRef

@[expose] public section

set_option maxRecDepth 16384

noncomputable section

open Idealize.ShloMosaic Idealize.ShloMosaic.TcCoe Idealize.SL.Sem

namespace Cert.RmsQIdeal.Hand

open Cert.RmsQIdeal Cert.RmsQIdeal.Gen

variable (m : (ℓ : Loc nD τ sig) → Buf (Elt Ideal) ℓ)

/-- The reference's first result is the kernel's. -/
theorem ref_dx (c : Dev nD) :
    Cert.RmsQRefIdeal.Read.val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun (i : S2048x1024.Idx) => dx m c (i 0) (i 1) := by
  funext i
  idx_vars i
  exact Cert.RmsQRefIdeal.Hand.dx_at _ _ _ _ _ (dRow m c) (Cert.RmsQRefIdeal.Hand.d_at _ _) i0 i1

/-- The reference's second result is the kernel's. -/
theorem ref_dg (c : Dev nD) :
    Cert.RmsQRefIdeal.Read.val_main_v39 (F := Ideal) (m ((c : Thread nD τ).loc main_arg0)) (m ((c : Thread nD τ).loc main_arg2)) (m ((c : Thread nD τ).loc main_arg3))
      = fun (i : S1x1024.Idx) => dg m c (i 1) := by
  funext i
  idx_vars i
  obtain rfl : i0 = 0 := Subsingleton.elim _ _
  exact Cert.RmsQRefIdeal.Hand.dg_at _ _ _ (dRow m c) (Cert.RmsQRefIdeal.Hand.d_at _ _) i1

end Cert.RmsQIdeal.Hand

namespace Cert.RmsQClaim

open Cert.RmsQIdeal.Hand

/-- The call terminates without a fault and leaves its arguments alone; so do its ideal reading and the reference. -/
theorem frame_kernel : Cert.quiescent_RmsQ := fun m ρ _ => Cert.RmsQ.Gen.frame m ρ

theorem frame_ideal : Cert.quiescent_RmsQIdeal := fun m ρ _ => Cert.RmsQIdeal.Gen.frame m ρ

theorem frame_reference : Cert.quiescent_RmsQRefIdeal := fun m ρ _ =>
  (θ_run _ _ _).mono (fun r h => ⟨fun c => (h c).2.2, sem_eq_zero_of_no_sems rfl r.2⟩) (Cert.RmsQRefIdeal.Value.run m ρ)

/-- The kernel's two results are the reference's. -/
theorem algebraic : Cert.algebraic_RmsQIdeal_RmsQRefIdeal := by
  pair_intro
  · run_from Cert.RmsQIdeal.Value.run_blocks m g
  · run_from Cert.RmsQRefIdeal.Value.run m' g'
    · rw [Cert.RmsQRefIdeal.Read.val_main_v38_eq (F := Ideal) m' c, (hagree c).1, (hagree c).2.1, (hagree c).2.2.1, (hagree c).2.2.2.1, (hagree c).2.2.2.2]
      exact (ref_dx m c).trans (final_dx m c).symm
    · refine (Cert.RmsQRefIdeal.Read.val_main_v39_eq (F := Ideal) _ _ _).trans ?_
      exact (ref_dg m c).trans (final_dg m c).symm

end Cert.RmsQClaim
-- ==== Proof.RmsKvBlock.lean ====
/-
  The gradient of the norm before keys and values with its product: what one block computes.
-/
module

public import proofs.«01_k».proof.Proof.Gen.RmsKvIdeal.Value
public import proofs.«01_k».proof.Proof.NormGrad
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.RmsKvIdeal.Hand

open Cert.RmsKvIdeal Cert.RmsKvIdeal.Gen Cert.NormGrad

/-- The product of the cotangent's rows and the weight's. -/
theorem pay5_apply (x0 : FVec Ideal S512x256 .f32) (x2 : FVec Ideal S1024x256 .bf16) (y : S512x1024.Idx) :
    (k0_pay5 (F := Ideal) x0 x2 y : EReal) = ∑ k : Fin 256, x0 (ix2 (y 0) k) * x2 (ix2 (y 1) k) := by
  idx_vars y
  pointwise [k0_pay5]

/-- The running sum. -/
theorem pay4_apply (x acc : FVec Ideal S1x1024 .f32) (y : S1x1024.Idx) : (k0_pay4 (F := Ideal) x acc y : EReal) = acc y + x y := by
  idx_vars y
  pointwise [k0_pay4]

/-- A row's mean square and scale; what a block adds to the gradient of the weight; the gradient of a row. -/
theorem pay6_apply (x : FVec Ideal S512x1024 .f32) (r : Fin 512) :
    (k0_pay6 (F := Ideal) x (ix2 r 0) : EReal) = meanSq (fun k => x (ix2 r k)) := by
  pointwise [k0_pay6]
  rfl

theorem pay7_apply (x : FVec Ideal S512x1024 .f32) (r : Fin 512) :
    (k0_pay7 (F := Ideal) x (ix2 r 0) : EReal) = scale (fun k => x (ix2 r k)) := by
  unfold k0_pay7
  show Ideal.rsqrt (k0_pay6 (F := Ideal) x (ix2 r 0)) = _
  rw [pay6_apply]
  rfl

theorem pay8_apply (x0 : FVec Ideal S512x256 .f32) (x2 : FVec Ideal S1024x256 .bf16) (x : FVec Ideal S512x1024 .f32) (y : S1x1024.Idx) :
    (k0_pay8 (F := Ideal) x0 x2 x y : EReal) = ∑ r : Fin 512, weight (fun k => x (ix2 r k)) (fun k => k0_pay5 (F := Ideal) x0 x2 (ix2 r k)) (y 1) := by
  idx_vars y
  have e : ∀ r : Fin 512, (k0_pay7 (F := Ideal) x (ix2 r 0) : EReal) = _ := pay7_apply x
  unfold k0_pay8
  generalize (k0_pay5 (F := Ideal) x0 x2 : FVec Ideal S512x1024 .f32) = d
  generalize (k0_pay7 (F := Ideal) x : FVec Ideal S512x1 .f32) = s at e ⊢
  pointwise []
  simp only [e]
  rfl

theorem pay9_apply (x0 : FVec Ideal S512x256 .f32) (x2 : FVec Ideal S1024x256 .bf16) (x : FVec Ideal S512x1024 .f32) (g : FVec Ideal S1x1024 .f32) (y : S512x1024.Idx) :
    (k0_pay9 (F := Ideal) x0 x2 x g y : EReal)
      = grad (fun k => x (ix2 (y 0) k)) (fun k => g (ix2 0 k)) (fun k => k0_pay5 (F := Ideal) x0 x2 (ix2 (y 0) k)) (y 1) := by
  idx_vars y
  have e := pay7_apply x
  have e5 := pay6_apply x
  unfold k0_pay9
  generalize (k0_pay5 (F := Ideal) x0 x2 : FVec Ideal S512x1024 .f32) = d
  generalize (k0_pay7 (F := Ideal) x : FVec Ideal S512x1 .f32) = s at e ⊢
  generalize (k0_pay6 (F := Ideal) x : FVec Ideal S512x1 .f32) = q at e5 ⊢
  pointwise []
  have one : ∀ f : Fin 1 → EReal, ∑ k : Fin 1, f k = f 0 := fun f => Fin.sum_univ_one f
  rw [show (∑ k : Fin 1, _) = _ from one _]
  simp only [e, e5]
  rfl

end Cert.RmsKvIdeal.Hand
-- ==== Proof.RmsKvValue.lean ====
/-
  The gradient of the norm before keys and values with its product: what the two result arrays of `RmsKvIdeal` hold.
-/
module

public import proofs.«01_k».proof.Proof.RmsKvBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.RmsKvIdeal.Hand

open Cert.RmsKvIdeal Cert.RmsKvIdeal.Gen Cert.NormGrad

variable (m : (ℓ : Loc nD τ sig) → Buf (Elt Ideal) ℓ)

/-- A row of the norm's input. -/
def xRow (c : Dev nD) (r : Fin 2048) : Fin 1024 → EReal := fun k => (m ((c : Thread nD τ).loc main_arg0) : FVec Ideal S2048x1024 .f32) (ix2 r k)

/-- The norm's weight. -/
def gRow (c : Dev nD) : Fin 1024 → EReal := fun k => (m ((c : Thread nD τ).loc main_arg1) : FVec Ideal S1024 .f32) (ix1 k)

/-- The product's cotangent, its weight, and the gradient that the residual brings. -/
def ct (c : Dev nD) (r : Fin 2048) (k : Fin 256) : EReal := (m ((c : Thread nD τ).loc main_arg3) : FVec Ideal S2048x256 .f32) (ix2 r k)

def wt (c : Dev nD) (l : Fin 1024) (k : Fin 256) : EReal := (m ((c : Thread nD τ).loc main_arg2) : FVec Ideal S1024x256 .f32) (ix2 l k)

def res (c : Dev nD) (r : Fin 2048) (l : Fin 1024) : EReal := (m ((c : Thread nD τ).loc main_arg4) : FVec Ideal S2048x1024 .f32) (ix2 r l)

/-- A row of the gradient of the norm's output. -/
def dRow (c : Dev nD) (r : Fin 2048) : Fin 1024 → EReal := fun l => ∑ k : Fin 256, ct m c r k * wt m c l k

/-- The blocks' places, window by window. -/
theorem places : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] :=
  (by decide +kernel : ∀ t : Fin grid0.N, _)

/-- The host lines cast the weight and lay the norm's weight out as a row. -/
theorem entry_w (c : Dev nD) (i : S1024x256.Idx) : (V m c main_v0 : FVec Ideal S1024x256 .bf16) i = (m ((c : Thread nD τ).loc main_arg2) : FVec Ideal S1024x256 .f32) i := by
  unfold_abbrev_sides
  after_reads_at

theorem entry_g (c : Dev nD) (l : Fin 1024) : (V m c main_v1 : FVec Ideal S1x1024 .f32) (ix2 0 l) = gRow m c l := by
  unfold_abbrev_sides
  after_reads_at
  rfl

theorem lt4 (t : Fin cfg0.N) : t.val < 4 := lt_of_lt_of_eq t.isLt N_0

/-- Each window's block, read in its array. -/
theorem blk_d (c : Dev nD) (t : Fin cfg0.N) (r : Fin 512) (k : Fin 256) :
    (iblk m c 0 t : FVec Ideal S512x256 .f32) (ix2 r k) = ct m c (row t r) k := by
  refine (congrFun (V_main_arg3 m c) (((cfg0.win 0).blk t).view.emb (ix2 r k))).trans (congrArg _ ?_)
  funext a
  apply Fin.ext
  have := row_val t.val (lt4 t) r
  fin_cases a <;> blk_simp [places t] <;> simp <;> omega

theorem blk_w (c : Dev nD) (t : Fin cfg0.N) (l : Fin 1024) (k : Fin 256) :
    (iblk m c 1 t : FVec Ideal S1024x256 .bf16) (ix2 l k) = wt m c l k := by
  refine (entry_w m c (((cfg0.win 1).blk t).view.emb (ix2 l k))).trans (congrArg _ ?_)
  funext a
  apply Fin.ext
  fin_cases a <;> blk_simp [places t] <;> simp

theorem blk_x (c : Dev nD) (t : Fin cfg0.N) (r : Fin 512) (k : Fin 1024) :
    (iblk m c 2 t : FVec Ideal S512x1024 .f32) (ix2 r k) = xRow m c (row t r) k := by
  refine (congrFun (V_main_arg0 m c) (((cfg0.win 2).blk t).view.emb (ix2 r k))).trans (congrArg _ ?_)
  funext a
  apply Fin.ext
  have := row_val t.val (lt4 t) r
  fin_cases a <;> blk_simp [places t] <;> simp <;> omega

theorem blk_g (c : Dev nD) (t : Fin cfg0.N) (k : Fin 1024) : (iblk m c 3 t : FVec Ideal S1x1024 .f32) (ix2 0 k) = gRow m c k := by
  refine Eq.trans (congrArg (V m c main_v1 : FVec Ideal S1x1024 .f32) ?_) (entry_g m c k)
  show (((cfg0.win 3).blk t).view.emb (ix2 0 k)) = _
  funext a
  apply Fin.ext
  fin_cases a <;> blk_simp [places t] <;> simp

theorem blk_r (c : Dev nD) (t : Fin cfg0.N) (r : Fin 512) (k : Fin 1024) :
    (iblk m c 4 t : FVec Ideal S512x1024 .f32) (ix2 r k) = res m c (row t r) k := by
  refine (congrFun (V_main_arg4 m c) (((cfg0.win 4).blk t).view.emb (ix2 r k))).trans (congrArg _ ?_)
  funext a
  apply Fin.ext
  have := row_val t.val (lt4 t) r
  fin_cases a <;> blk_simp [places t] <;> simp <;> omega

/-- What the kernel's blocks of a point amount to. -/
theorem pay5_at (c : Dev nD) (t : Fin cfg0.N) (r : Fin 512) (l : Fin 1024) :
    (k0_pay5 (F := Ideal) (iblk m c 0 t) (iblk m c 1 t) (ix2 r l) : EReal) = dRow m c (row t r) l := by
  refine (pay5_apply _ _ _).trans (Finset.sum_congr rfl fun k _ => ?_)
  exact congrArg₂ (fun a b : EReal => a * b) (blk_d m c t r k) (blk_w m c t l k)

theorem pay8_at (c : Dev nD) (t : Fin cfg0.N) (y : S1x1024.Idx) :
    (k0_pay8 (F := Ideal) (iblk m c 0 t) (iblk m c 1 t) (iblk m c 2 t) y : EReal)
      = ∑ r : Fin 512, weight (xRow m c (row t r)) (dRow m c (row t r)) (y 1) := by
  refine (pay8_apply _ _ _ _).trans (Finset.sum_congr rfl fun r _ => ?_)
  rw [show (fun k => (iblk m c 2 t : FVec Ideal S512x1024 .f32) (ix2 r k)) = xRow m c (row t r) from funext fun k => blk_x m c t r k,
    show (fun k => (k0_pay5 (F := Ideal) (iblk m c 0 t) (iblk m c 1 t) (ix2 r k) : EReal)) = dRow m c (row t r) from funext fun k => pay5_at m c t r k]

theorem pay9_at (c : Dev nD) (t : Fin cfg0.N) (y : S512x1024.Idx) :
    (k0_pay9 (F := Ideal) (iblk m c 0 t) (iblk m c 1 t) (iblk m c 2 t) (iblk m c 3 t) y : EReal)
      = grad (xRow m c (row t (y 0))) (gRow m c) (dRow m c (row t (y 0))) (y 1) := by
  refine (pay9_apply _ _ _ _ _).trans ?_
  rw [show (fun k => (iblk m c 2 t : FVec Ideal S512x1024 .f32) (ix2 (y 0) k)) = xRow m c (row t (y 0)) from funext fun k => blk_x m c t (y 0) k,
    show (fun k => (k0_pay5 (F := Ideal) (iblk m c 0 t) (iblk m c 1 t) (ix2 (y 0) k) : EReal)) = dRow m c (row t (y 0)) from funext fun k => pay5_at m c t (y 0) k,
    show (fun k => (iblk m c 3 t : FVec Ideal S1x1024 .f32) (ix2 0 k)) = gRow m c from funext fun k => blk_g m c t k]

/-- The first result: the gradient of the norm's input, with the residual's. -/
def dx (c : Dev nD) (r : Fin 2048) (l : Fin 1024) : EReal :=
  res m c r l + grad (xRow m c r) (gRow m c) (dRow m c r) l

/-- The second: the gradient of the norm's weight. -/
def dg (c : Dev nD) (l : Fin 1024) : EReal := ∑ r : Fin 2048, weight (xRow m c r) (dRow m c r) l

theorem pay1_at (c : Dev nD) (t : Fin cfg0.N) (y : S512x1024.Idx) :
    (k0_pay1 (F := Ideal) (k0_pay9 (F := Ideal) (iblk m c 0 t) (iblk m c 1 t) (iblk m c 2 t) (iblk m c 3 t)) (iblk m c 4 t) y : EReal) = dx m c (row t (y 0)) (y 1) := by
  have e := blk_r m c t (y 0) (y 1)
  have h := pay9_at m c t y
  have hy : (ix2 (y 0) (y 1) : S512x1024.Idx) = y := by idx_vars y
  rw [show ((iblk m c 4 t : FVec Ideal S512x1024 .f32) (ix2 (y 0) (y 1))) = (iblk m c 4 t : FVec Ideal S512x1024 .f32) y from congrArg _ hy] at e
  exact congrArg₂ (fun a b : EReal => a + b) e h

/-- The arrays of the first result and of its copy in bf16. -/
theorem final_dx (c : Dev nD) : (dats m 0 c).arrAt 5 cfg0.N = fun (i : S2048x1024.Idx) => dx m c (i 0) (i 1) := by
  refine (dats m 0 c).arrAt_eq_of_covers 5 _ (by decide +kernel) fun t hf y => ?_
  have e := pay1_at m c t y
  have hr := row_val t.val (lt4 t) (y 0)
  have hp : dx m c (row t (y 0)) (y 1) = dx m c (((cfg0.win 5).blk t).view.emb y 0) (((cfg0.win 5).blk t).view.emb y 1) := by
    refine congrArg₂ (dx m c) (Fin.ext ?_) (Fin.ext ?_)
    · blk_simp [places t] <;> simp <;> omega
    · blk_simp [places t]
  blk_simp
  rw [after0_5]
  by_cases h : t.val % 4 = 0
  · rw [outsAt0_A m c t h]
    frame_out
    exact e.trans hp
  · rw [outsAt0_B m c t h]
    frame_out
    exact e.trans hp

theorem final_copy (c : Dev nD) : (dats m 0 c).arrAt 7 cfg0.N = fun (i : S2048x1024.Idx) => dx m c (i 0) (i 1) := by
  refine (dats m 0 c).arrAt_eq_of_covers 7 _ (by decide +kernel) fun t hf y => ?_
  have e := pay1_at m c t y
  have hr := row_val t.val (lt4 t) (y 0)
  have hp : dx m c (row t (y 0)) (y 1) = dx m c (((cfg0.win 7).blk t).view.emb y 0) (((cfg0.win 7).blk t).view.emb y 1) := by
    refine congrArg₂ (dx m c) (Fin.ext ?_) (Fin.ext ?_)
    · blk_simp [places t] <;> simp <;> omega
    · blk_simp [places t]
  blk_simp
  rw [after0_7]
  by_cases h : t.val % 4 = 0
  · rw [outsAt0_A m c t h]
    frame_out
    exact e.trans hp
  · rw [outsAt0_B m c t h]
    frame_out
    exact e.trans hp

/-- The running sum of the weight's gradient after point `n`. -/
theorem dg_run (c : Dev nD) (n : ℕ) (h : n < cfg0.N) (j : S1x1024.Idx) :
    ((outsAt0 m c n h).2.1 : FVec Ideal S1x1024 .f32) j
      = ∑ p ∈ Finset.range (n + 1), ∑ r : Fin 512, weight (xRow m c (row p r)) (dRow m c (row p r)) (j 1) := by
  induction n generalizing j with
  | zero =>
    rw [outsAt0_A m c ⟨0, h⟩ rfl]
    frame_out
    refine (pay4_apply _ _ j).trans ?_
    refine (congrArg₂ (fun a b : EReal => a + b) (show (k0_pay3 (F := Ideal) j : EReal) = 0 from by pointwise [k0_pay3]) (pay8_at m c ⟨0, h⟩ j)).trans ?_
    simp
  | succ n ih =>
    have h4 : n + 1 < 4 := lt_of_lt_of_eq h N_0
    rw [outsAt0_B m c ⟨n + 1, h⟩ (by simp; omega)]
    frame_out
    rw [Finset.sum_range_succ]
    refine (pay4_apply _ _ j).trans ?_
    exact congrArg₂ (fun a b : EReal => a + b) (ih (by omega) j) (pay8_at m c ⟨n + 1, h⟩ j)

theorem final_dg (c : Dev nD) : (dats m 0 c).arrAt 6 cfg0.N = fun (i : S1x1024.Idx) => dg m c (i 1) := by
  refine (dats m 0 c).arrAt_eq_of_after_last 6 t0_3 (by decide +kernel) _ fun j => ?_
  blk_simp
  rw [after0_6]
  refine (dg_run m c _ _ _).trans ?_
  exact rows_sum fun r => weight (xRow m c r) (dRow m c r) (j 1)

end Cert.RmsKvIdeal.Hand
-- ==== Proof.RmsKvRef.lean ====
/-
  The gradient of the norm before keys and values with its product: what the reference computes.
-/
module

public import proofs.«01_k».proof.Proof.Gen.RmsKvRefIdeal.Read
public import proofs.«01_k».proof.Proof.NormGrad
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open scoped BigOperators

namespace Cert.RmsKvRefIdeal.Hand

open Cert.RmsKvRefIdeal Cert.RmsKvRefIdeal.Read Cert.NormGrad

variable (x : FVec Ideal S2048x1024 .f32) (g : FVec Ideal S1024 .f32) (w : FVec Ideal S1024x256 .f32) (d : FVec Ideal S2048x256 .f32) (res : FVec Ideal S2048x1024 .f32)

/-- The word of zero. -/
theorem word_zero : (FloatOps.ofBits (F := Ideal) .f32 0#32 : EReal) = 0 := Ideal.ofBits_zero_f32

/-- A row's mean square and scale. -/
theorem ms_at (r : Fin 2048) : (val_main_v6 (F := Ideal) x (ix2 r (0 : Fin 1)) : EReal) = meanSq fun k => x (ix2 r k) := by
  simp only [val_main_v6_apply, val_main_v5_apply, val_main_v4_apply, val_main_v3_apply, val_main_v2_apply, val_main_v1_apply, val_main_v0_apply,
    val_main_cst_apply, val_main_cst_0_apply, val_main_cst_1_apply]
  rw [word_zero, zero_add]
  unfold meanSq
  refine congrArg (fun s : EReal => Ideal.div s _ + _) (Finset.sum_congr rfl fun k _ => ?_)
  exact congrArg (fun z : EReal => z * z) (congrArg x (by funext a; fin_cases a <;> rfl))

theorem rs_at (r : Fin 2048) : (val_main_v7 (F := Ideal) x (ix2 r (0 : Fin 1)) : EReal) = scale fun k => x (ix2 r k) := by
  rw [val_main_v7_apply, ms_at]
  rfl

/-- The normed row without the weight. -/
theorem xn_at (r : Fin 2048) (l : Fin 1024) : (val_main_v12 (F := Ideal) x (ix2 r l) : EReal) = x (ix2 r l) * scale fun k => x (ix2 r k) := by
  rw [val_main_v12_apply, val_main_v11_apply, ← rs_at]
  exact congrArg (fun z : EReal => x (ix2 r l) * z) (congrArg (val_main_v7 (F := Ideal) x) (by funext a; fin_cases a <;> rfl))

/-- The gradient of the norm's output. -/
theorem d_at (r : Fin 2048) (l : Fin 1024) : (val_main_v17 (F := Ideal) w d (ix2 r l) : EReal) = ∑ k : Fin 256, d (ix2 r k) * w (ix2 l k) := by
  rw [val_main_v17_apply]
  exact Finset.sum_congr rfl fun k _ => congrArg₂ (fun a b : EReal => a * b) (congrArg d (by funext a; fin_cases a <;> rfl)) (congrArg w (by funext a; fin_cases a <;> rfl))

/-- The second result: the gradient of the norm's weight. -/
theorem dg_at (D : Fin 2048 → Fin 1024 → EReal) (hD : ∀ r l, (val_main_v17 (F := Ideal) w d (ix2 r l) : EReal) = D r l) (l : Fin 1024) :
    (val_main_v41 (F := Ideal) x w d (ix2 (0 : Fin 1) l) : EReal) = ∑ r : Fin 2048, weight (fun k => x (ix2 r k)) (D r) l := by
  simp only [val_main_v41_apply, val_main_v23_apply, val_main_v20_apply, val_main_v19_apply, val_main_cst_3_apply, val_main_cst_4_apply]
  rw [word_zero, zero_add, Fin.sum_univ_one, zero_add]
  refine Finset.sum_congr rfl fun r _ => ?_
  rw [val_main_v18_apply]
  rw [show idx_main_v19 (idx_main_v20 (idx_main_v23 (idx_main_v41 (ix2 (0 : Fin 1) l)) 0)) r = ix2 r l from by
    funext a; apply Fin.ext; fin_cases a <;> simp [idx_main_v41, idx_main_v23, idx_main_v20, idx_main_v19]]
  exact congrArg₂ (fun a b : EReal => a * b) (xn_at x r l) (hD r l)

/-- The gradient that reaches a row's squares. -/
theorem pull_at (D : Fin 2048 → Fin 1024 → EReal) (hD : ∀ r l, (val_main_v17 (F := Ideal) w d (ix2 r l) : EReal) = D r l) (r : Fin 2048) (l : Fin 1024) :
    (val_main_v33 (F := Ideal) x g w d (ix2 r l) : EReal) = pull (fun k => x (ix2 r k)) (fun k => g (ix1 k)) (D r) := by
  simp only [val_main_v33_apply, val_main_v32_apply, val_main_cst_7_apply]
  rw [word_zero, zero_add, Fin.sum_univ_one]
  have e : ∀ i : S2048x1.Idx, i = ix2 r (0 : Fin 1) → (val_main_v31 (F := Ideal) x g w d i : EReal) = pull (fun k => x (ix2 r k)) (fun k => g (ix1 k)) (D r) := fun i hi => by
    rw [hi]
    simp only [val_main_v31_apply, val_main_v30_apply, val_main_v29_apply, val_main_v26_apply, val_main_v25_apply, val_main_v10_apply, val_main_v9_apply,
      val_main_v8_apply, val_main_cst_2_apply, val_main_cst_5_apply, val_main_cst_6_apply]
    rw [word_zero, zero_add, ms_at, rs_at]
    unfold pull
    refine congrArg (fun s : EReal => Ideal.div (s * _) _) (Finset.sum_congr rfl fun k _ => ?_)
    simp only [val_main_v24_apply, val_main_v22_apply, val_main_v21_apply, val_main_v13_apply]
    rw [show idx_main_v25 (idx_main_v26 (ix2 r (0 : Fin 1))) k = ix2 r k from by
      funext a; apply Fin.ext; fin_cases a <;> simp [idx_main_v25, idx_main_v26]]
    exact congrArg₂ (fun a b : EReal => x (ix2 r k) * (a * b)) (hD r k) (congrArg g (by funext a; fin_cases a <;> rfl))
  exact e _ (by funext a; fin_cases a <;> rfl)

/-- The first result: the gradient of the norm's input, with the residual's. -/
theorem dx_at (D : Fin 2048 → Fin 1024 → EReal) (hD : ∀ r l, (val_main_v17 (F := Ideal) w d (ix2 r l) : EReal) = D r l) (r : Fin 2048) (l : Fin 1024) :
    (val_main_v38 (F := Ideal) x g w d res (ix2 r l) : EReal)
      = res (ix2 r l) + grad (fun k => x (ix2 r k)) (fun k => g (ix1 k)) (D r) l := by
  simp only [val_main_v38_apply, val_main_v37_apply, val_main_v36_apply, val_main_v35_apply, val_main_v34_apply, val_main_v28_apply, val_main_v27_apply,
    val_main_v22_apply, val_main_v21_apply, val_main_v13_apply]
  rw [pull_at x g w d D hD r l, hD r l, show idx_main_v27 (ix2 r l) = ix2 r (0 : Fin 1) from by funext a; fin_cases a <;> rfl, rs_at]
  exact congrArg (fun z : EReal => res (ix2 r l) + (D r l * z * _ + _ + _)) (congrArg g (by funext a; fin_cases a <;> rfl))

/-- The copy in bf16 is the same. -/
theorem copy_at (r : Fin 2048) (l : Fin 1024) :
    (val_main_v40 (F := Ideal) x g w d res (ix2 r l) : EReal) = val_main_v38 (F := Ideal) x g w d res (ix2 r l) := rfl

end Cert.RmsKvRefIdeal.Hand
-- ==== Proof.RmsKvClaim.lean ====
/-
  The claims about the gradient of the norm before keys and values with its product, put together.
-/
module

public import proofs.«01_k».proof.Defs
public import proofs.«01_k».proof.Proof.Gen.RmsKv.Frame
public import proofs.«01_k».proof.Proof.Gen.RmsKvRefIdeal.Run
public import proofs.«01_k».proof.Proof.RmsKvValue
public import proofs.«01_k».proof.Proof.RmsKvRef

@[expose] public section

set_option maxRecDepth 16384

noncomputable section

open Idealize.ShloMosaic Idealize.ShloMosaic.TcCoe Idealize.SL.Sem

namespace Cert.RmsKvIdeal.Hand

open Cert.RmsKvIdeal Cert.RmsKvIdeal.Gen

variable (m : (ℓ : Loc nD τ sig) → Buf (Elt Ideal) ℓ)

/-- The reference's first result is the kernel's. -/
theorem ref_dx (c : Dev nD) :
    Cert.RmsKvRefIdeal.Read.val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun (i : S2048x1024.Idx) => dx m c (i 0) (i 1) := by
  funext i
  idx_vars i
  exact Cert.RmsKvRefIdeal.Hand.dx_at _ _ _ _ _ (dRow m c) (Cert.RmsKvRefIdeal.Hand.d_at _ _) i0 i1

/-- The copy in bf16. -/
theorem ref_copy (c : Dev nD) :
    Cert.RmsKvRefIdeal.Read.val_main_v40 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun (i : S2048x1024.Idx) => dx m c (i 0) (i 1) :=
  (funext fun i => by idx_vars i; exact Cert.RmsKvRefIdeal.Hand.copy_at _ _ _ _ _ i0 i1).trans (ref_dx m c)

/-- The reference's last result is the kernel's. -/
theorem ref_dg (c : Dev nD) :
    Cert.RmsKvRefIdeal.Read.val_main_v41 (F := Ideal) (m ((c : Thread nD τ).loc main_arg0)) (m ((c : Thread nD τ).loc main_arg2)) (m ((c : Thread nD τ).loc main_arg3))
      = fun (i : S1x1024.Idx) => dg m c (i 1) := by
  funext i
  idx_vars i
  obtain rfl : i0 = 0 := Subsingleton.elim _ _
  exact Cert.RmsKvRefIdeal.Hand.dg_at _ _ _ (dRow m c) (Cert.RmsKvRefIdeal.Hand.d_at _ _) i1

end Cert.RmsKvIdeal.Hand

namespace Cert.RmsKvClaim

open Cert.RmsKvIdeal.Hand

/-- The call terminates without a fault and leaves its arguments alone; so do its ideal reading and the reference. -/
theorem frame_kernel : Cert.quiescent_RmsKv := fun m ρ _ => Cert.RmsKv.Gen.frame m ρ

theorem frame_ideal : Cert.quiescent_RmsKvIdeal := fun m ρ _ => Cert.RmsKvIdeal.Gen.frame m ρ

theorem frame_reference : Cert.quiescent_RmsKvRefIdeal := fun m ρ _ =>
  (θ_run _ _ _).mono (fun r h => ⟨fun c => (h c).2.2.2, sem_eq_zero_of_no_sems rfl r.2⟩) (Cert.RmsKvRefIdeal.Value.run m ρ)

/-- The kernel's three results are the reference's. -/
theorem algebraic : Cert.algebraic_RmsKvIdeal_RmsKvRefIdeal := by
  pair_intro
  · run_from Cert.RmsKvIdeal.Value.run_blocks m g
  · run_from Cert.RmsKvRefIdeal.Value.run m' g'
    · rw [Cert.RmsKvRefIdeal.Read.val_main_v38_eq (F := Ideal) m' c, (hagree c).1, (hagree c).2.1, (hagree c).2.2.1, (hagree c).2.2.2.1, (hagree c).2.2.2.2]
      exact (ref_dx m c).trans (final_dx m c).symm
    · rw [Cert.RmsKvRefIdeal.Read.val_main_v40_eq (F := Ideal) m' c, (hagree c).1, (hagree c).2.1, (hagree c).2.2.1, (hagree c).2.2.2.1, (hagree c).2.2.2.2]
      exact (ref_copy m c).trans (final_copy m c).symm
    · refine (Cert.RmsKvRefIdeal.Read.val_main_v41_eq (F := Ideal) _ _ _).trans ?_
      exact (ref_dg m c).trans (final_dg m c).symm

end Cert.RmsKvClaim
-- ==== Proof.RmsUpBlock.lean ====
/-
  The gradient of the feed-forward layers' norm with its product: what one block computes.
-/
module

public import proofs.«01_k».proof.Proof.Gen.RmsUpIdeal.Value
public import proofs.«01_k».proof.Proof.NormGrad
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.RmsUpIdeal.Hand

open Cert.RmsUpIdeal Cert.RmsUpIdeal.Gen Cert.NormGrad

/-- The product of 512 columns of the cotangent's rows and one of the weight's blocks. -/
def piece (a : FVec Ideal S512x512 .bf16) (b : FVec Ideal S1x1024x512 .bf16) (r : Fin 512) (l : Fin 1024) : EReal :=
  ∑ k : Fin 512, a (ix2 r k) * b (ix3 0 l k)

theorem pay6_apply (v0 : FVec Ideal S512x512 .bf16) (v2 : FVec Ideal S1x1024x512 .bf16) (v5 : FVec Ideal S512x512 .bf16) (v7 : FVec Ideal S1x1024x512 .bf16) (v11 : FVec Ideal S512x512 .bf16) (v13 : FVec Ideal S1x1024x512 .bf16) (v17 : FVec Ideal S512x512 .bf16) (v19 : FVec Ideal S1x1024x512 .bf16) (v23 : FVec Ideal S512x512 .bf16) (v25 : FVec Ideal S1x1024x512 .bf16) (y : S512x1024.Idx) :
    (k0_pay6 (F := Ideal) v0 v2 v5 v7 v11 v13 v17 v19 v23 v25 y : EReal) = piece v0 v2 (y 0) (y 1) + piece v5 v7 (y 0) (y 1) + piece v11 v13 (y 0) (y 1) + piece v17 v19 (y 0) (y 1) + piece v23 v25 (y 0) (y 1) := by
  idx_vars y
  pointwise [k0_pay6]
  rfl

theorem pay7_apply (e : FVec Ideal S512x1024 .f32) (v29 : FVec Ideal S512x512 .bf16) (v31 : FVec Ideal S1x1024x512 .bf16) (v35 : FVec Ideal S512x512 .bf16) (v37 : FVec Ideal S1x1024x512 .bf16) (v41 : FVec Ideal S512x512 .bf16) (v43 : FVec Ideal S1x1024x512 .bf16) (y : S512x1024.Idx) :
    (k0_pay7 (F := Ideal) e v29 v31 v35 v37 v41 v43 y : EReal) = e y + piece v29 v31 (y 0) (y 1) + piece v35 v37 (y 0) (y 1) + piece v41 v43 (y 0) (y 1) := by
  idx_vars y
  pointwise [k0_pay7]
  rfl

/-- A row's mean square and scale, and the factor of the squares' gradient. -/
theorem pay9_apply (x : FVec Ideal S512x1024 .f32) (r : Fin 512) :
    (k0_pay9 (F := Ideal) x (ix2 r 0) : EReal) = meanSq (fun k => x (ix2 r k)) := by
  pointwise [k0_pay9]
  rfl

theorem pay10_apply (x : FVec Ideal S512x1024 .f32) (r : Fin 512) :
    (k0_pay10 (F := Ideal) x (ix2 r 0) : EReal) = scale (fun k => x (ix2 r k)) := by
  unfold k0_pay10
  show Ideal.rsqrt (k0_pay9 (F := Ideal) x (ix2 r 0)) = _
  rw [pay9_apply]
  rfl

theorem pay11_apply (x : FVec Ideal S512x1024 .f32) (r : Fin 512) :
    (k0_pay11 (F := Ideal) x (ix2 r 0) : EReal)
      = Ideal.ofBits .f32 0xBF000000#32 * Ideal.div (scale (fun k => x (ix2 r k))) (meanSq (fun k => x (ix2 r k))) := by
  unfold k0_pay11
  show Ideal.ofBits .f32 0xBF000000#32 * Ideal.div (k0_pay10 (F := Ideal) x (ix2 r 0)) (k0_pay9 (F := Ideal) x (ix2 r 0)) = _
  rw [pay9_apply, pay10_apply]

/-- The running sum: what a block adds to the gradient of the weight. -/
theorem pay5_apply (d x : FVec Ideal S512x1024 .f32) (acc : FVec Ideal S1x1024 .f32) (y : S1x1024.Idx) :
    (k0_pay5 (F := Ideal) d (k0_pay12 (F := Ideal) x) acc y : EReal)
      = acc y + ∑ r : Fin 512, weight (fun k => x (ix2 r k)) (fun k => d (ix2 r k)) (y 1) := by
  idx_vars y
  have e := pay10_apply x
  unfold k0_pay5 k0_pay12
  generalize (k0_pay10 (F := Ideal) x : FVec Ideal S512x1 .f32) = s at e ⊢
  pointwise []
  simp only [e]
  rfl

/-- The gradient of a row, and with the residual's. -/
theorem pay1_apply (d x : FVec Ideal S512x1024 .f32) (g : FVec Ideal S1x1024 .f32) (y : S512x1024.Idx) :
    (k0_pay1 (F := Ideal) d x (k0_pay8 (F := Ideal) g) (k0_pay10 (F := Ideal) x) (k0_pay11 (F := Ideal) x) y : EReal)
      = grad (fun k => x (ix2 (y 0) k)) (fun k => g (ix2 0 k)) (fun k => d (ix2 (y 0) k)) (y 1) := by
  idx_vars y
  have e := pay10_apply x
  have e5 := pay11_apply x
  unfold k0_pay1 k0_pay8
  generalize (k0_pay10 (F := Ideal) x : FVec Ideal S512x1 .f32) = s at e ⊢
  generalize (k0_pay11 (F := Ideal) x : FVec Ideal S512x1 .f32) = q at e5 ⊢
  pointwise []
  have one : ∀ f : Fin 1 → EReal, ∑ k : Fin 1, f k = f 0 := fun f => Fin.sum_univ_one f
  rw [show (∑ k : Fin 1, _) = _ from one _]
  simp only [e, e5]
  rfl

theorem pay2_apply (d x : FVec Ideal S512x1024 .f32) (g : FVec Ideal S1x1024 .f32) (res : FVec Ideal S512x1024 .f32) (y : S512x1024.Idx) :
    (k0_pay2 (F := Ideal) d x (k0_pay8 (F := Ideal) g) (k0_pay10 (F := Ideal) x) (k0_pay11 (F := Ideal) x) res y : EReal)
      = res y + grad (fun k => x (ix2 (y 0) k)) (fun k => g (ix2 0 k)) (fun k => d (ix2 (y 0) k)) (y 1) :=
  congrArg (fun z : EReal => (res y : EReal) + z) (pay1_apply d x g y)

/-- The sum over the columns, block by block of 512. -/
theorem eight_sum (g : ℕ → EReal) : ∑ k ∈ Finset.range 512, g (0 + k) + ∑ k ∈ Finset.range 512, g (512 + k) + ∑ k ∈ Finset.range 512, g (1024 + k)
    + ∑ k ∈ Finset.range 512, g (1536 + k) + ∑ k ∈ Finset.range 512, g (2048 + k) + ∑ k ∈ Finset.range 512, g (2560 + k)
    + ∑ k ∈ Finset.range 512, g (3072 + k) + ∑ k ∈ Finset.range 512, g (3584 + k) = ∑ k ∈ Finset.range 4096, g k := by
  rw [show 4096 = 512 + 512 + 512 + 512 + 512 + 512 + 512 + 512 from rfl]
  simp only [Finset.sum_range_add, Nat.zero_add]

/-- The blocks as the kernel reads them. -/
theorem cols_at (o : ℕ) (b : FVec Ideal S512x4096 .bf16) (inb) (r k : Fin 512) (hl : o + k.val < 4096) :
    View.ld (Val := Elt Ideal) (e' := .bf16) b (Rect.unit ![0, o] ![512, 512] inb) (ix2 r k) = b (ix2 r ⟨o + k.val, hl⟩) := by
  refine congrArg b ?_
  funext a
  refine Fin.ext ?_
  fin_cases a <;> simp [LoadRect.idx, Rect.unit]

theorem slab_at (j : ℕ) (b : FVec Ideal S8x1024x512 .bf16) (inb) (l : Fin 1024) (k : Fin 512) (hl : j < 8) :
    View.ld (Val := Elt Ideal) (e' := .bf16) b (Rect.unit ![j, 0, 0] ![1, 1024, 512] inb) (ix3 0 l k) = b (ix3 ⟨j, hl⟩ l k) := by
  refine congrArg b ?_
  funext a
  refine Fin.ext ?_
  fin_cases a <;> simp [LoadRect.idx, Rect.unit]

end Cert.RmsUpIdeal.Hand
-- ==== Proof.RmsUpValue.lean ====
/-
  The gradient of the feed-forward layers' norm with its product: what the two result arrays of `RmsUpIdeal` hold.
-/
module

public import proofs.«01_k».proof.Proof.RmsUpBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.RmsUpIdeal.Hand

open Cert.RmsUpIdeal Cert.RmsUpIdeal.Gen Cert.NormGrad

variable (m : (ℓ : Loc nD τ sig) → Buf (Elt Ideal) ℓ)

/-- A row of the norm's input. -/
def xRow (c : Dev nD) (r : Fin 2048) : Fin 1024 → EReal := fun k => (m ((c : Thread nD τ).loc main_arg0) : FVec Ideal S2048x1024 .f32) (ix2 r k)

/-- The norm's weight. -/
def gRow (c : Dev nD) : Fin 1024 → EReal := fun k => (m ((c : Thread nD τ).loc main_arg1) : FVec Ideal S1024 .f32) (ix1 k)

/-- The product's cotangent, its weight, and the gradient that the residual brings. -/
def ct (c : Dev nD) (r : Fin 2048) (k : Fin 4096) : EReal := (m ((c : Thread nD τ).loc main_arg3) : FVec Ideal S2048x4096 .f32) (ix2 r k)

def wt (c : Dev nD) (l : Fin 1024) (k : Fin 4096) : EReal := (m ((c : Thread nD τ).loc main_arg2) : FVec Ideal S1024x4096 .f32) (ix2 l k)

def res (c : Dev nD) (r : Fin 2048) (l : Fin 1024) : EReal := (m ((c : Thread nD τ).loc main_arg4) : FVec Ideal S2048x1024 .f32) (ix2 r l)

/-- A row of the gradient of the norm's output. -/
def dRow (c : Dev nD) (r : Fin 2048) : Fin 1024 → EReal := fun l => ∑ k : Fin 4096, ct m c r k * wt m c l k

/-- The blocks' places, window by window. -/
theorem places : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0]
    ∧ win0_7.index t = ![t.val, 0] :=
  (by decide +kernel : ∀ t : Fin grid0.N, _)

/-- The host lines cast the cotangent, cut the weight into eight blocks of columns and lay the norm's weight out as a row. -/
theorem entry_d (c : Dev nD) (i : S2048x4096.Idx) :
    (V m c main_v3 : FVec Ideal S2048x4096 .bf16) i = (m ((c : Thread nD τ).loc main_arg3) : FVec Ideal S2048x4096 .f32) i := by
  unfold_abbrev_sides
  after_reads_at

theorem entry_w (c : Dev nD) (j : Fin 8) (l : Fin 1024) (k : Fin 512) :
    (V m c main_v2 : FVec Ideal S8x1024x512 .bf16) (ix3 j l k)
      = (m ((c : Thread nD τ).loc main_arg2) : FVec Ideal S1024x4096 .f32) (ix2 l ⟨512 * j.val + k.val, by omega⟩) := by
  unfold_abbrev_sides
  after_reads_at
  exact congrArg (fun i => (m ((c : Thread nD τ).loc main_arg2) : FVec Ideal S1024x4096 .f32) (ix2 l i)) (Fin.ext (by simp only []; omega))

theorem entry_g (c : Dev nD) (l : Fin 1024) : (V m c main_v4 : FVec Ideal S1x1024 .f32) (ix2 0 l) = gRow m c l := by
  unfold_abbrev_sides
  after_reads_at
  rfl

theorem lt4 (t : Fin cfg0.N) : t.val < 4 := lt_of_lt_of_eq t.isLt N_0

/-- Each window's block, read in its array. -/
theorem blk_d (c : Dev nD) (t : Fin cfg0.N) (r : Fin 512) (k : Fin 4096) :
    (iblk m c 0 t : FVec Ideal S512x4096 .bf16) (ix2 r k) = ct m c (row t r) k := by
  refine (entry_d m c (((cfg0.win 0).blk t).view.emb (ix2 r k))).trans (congrArg _ ?_)
  funext a
  apply Fin.ext
  have := row_val t.val (lt4 t) r
  fin_cases a <;> blk_simp [places t] <;> simp <;> omega

theorem blk_w (c : Dev nD) (t : Fin cfg0.N) (j : Fin 8) (l : Fin 1024) (k : Fin 512) :
    (iblk m c 1 t : FVec Ideal S8x1024x512 .bf16) (ix3 j l k) = wt m c l ⟨512 * j.val + k.val, by omega⟩ := by
  refine Eq.trans (congrArg (V m c main_v2 : FVec Ideal S8x1024x512 .bf16) ?_) (entry_w m c j l k)
  show (((cfg0.win 1).blk t).view.emb (ix3 j l k)) = _
  funext a
  apply Fin.ext
  fin_cases a <;> blk_simp [places t] <;> simp

theorem blk_x (c : Dev nD) (t : Fin cfg0.N) (r : Fin 512) (k : Fin 1024) :
    (iblk m c 2 t : FVec Ideal S512x1024 .f32) (ix2 r k) = xRow m c (row t r) k := by
  refine (congrFun (V_main_arg0 m c) (((cfg0.win 2).blk t).view.emb (ix2 r k))).trans (congrArg _ ?_)
  funext a
  apply Fin.ext
  have := row_val t.val (lt4 t) r
  fin_cases a <;> blk_simp [places t] <;> simp <;> omega

theorem blk_g (c : Dev nD) (t : Fin cfg0.N) (k : Fin 1024) : (iblk m c 3 t : FVec Ideal S1x1024 .f32) (ix2 0 k) = gRow m c k := by
  refine Eq.trans (congrArg (V m c main_v4 : FVec Ideal S1x1024 .f32) ?_) (entry_g m c k)
  show (((cfg0.win 3).blk t).view.emb (ix2 0 k)) = _
  funext a
  apply Fin.ext
  fin_cases a <;> blk_simp [places t] <;> simp

theorem blk_r (c : Dev nD) (t : Fin cfg0.N) (r : Fin 512) (k : Fin 1024) :
    (iblk m c 4 t : FVec Ideal S512x1024 .f32) (ix2 r k) = res m c (row t r) k := by
  refine (congrFun (V_main_arg4 m c) (((cfg0.win 4).blk t).view.emb (ix2 r k))).trans (congrArg _ ?_)
  funext a
  apply Fin.ext
  have := row_val t.val (lt4 t) r
  fin_cases a <;> blk_simp [places t] <;> simp <;> omega

/-- The gradient of the norm's output that a point computes, from its blocks of the cotangent and of the weight. -/
abbrev dOf (b0 : FVec Ideal S512x4096 .bf16) (b1 : FVec Ideal S8x1024x512 .bf16) : FVec Ideal S512x1024 .f32 :=
  k0_pay7 (F := Ideal) (k0_pay6 (F := Ideal) (View.ld (Val := Elt Ideal) (e' := .bf16) b0 (Rect.unit ![0, 0] ![512, 512] inb_S512x4096_S512x512_0_0))
    (View.ld (Val := Elt Ideal) (e' := .bf16) b1 (Rect.unit ![0, 0, 0] ![1, 1024, 512] inb_S8x1024x512_S1x1024x512_0_0_0))
    (View.ld (Val := Elt Ideal) (e' := .bf16) b0 (Rect.unit ![0, 512] ![512, 512] inb_S512x4096_S512x512_0_512))
    (View.ld (Val := Elt Ideal) (e' := .bf16) b1 (Rect.unit ![1, 0, 0] ![1, 1024, 512] inb_S8x1024x512_S1x1024x512_1_0_0))
    (View.ld (Val := Elt Ideal) (e' := .bf16) b0 (Rect.unit ![0, 1024] ![512, 512] inb_S512x4096_S512x512_0_1024))
    (View.ld (Val := Elt Ideal) (e' := .bf16) b1 (Rect.unit ![2, 0, 0] ![1, 1024, 512] inb_S8x1024x512_S1x1024x512_2_0_0))
    (View.ld (Val := Elt Ideal) (e' := .bf16) b0 (Rect.unit ![0, 1536] ![512, 512] inb_S512x4096_S512x512_0_1536))
    (View.ld (Val := Elt Ideal) (e' := .bf16) b1 (Rect.unit ![3, 0, 0] ![1, 1024, 512] inb_S8x1024x512_S1x1024x512_3_0_0))
    (View.ld (Val := Elt Ideal) (e' := .bf16) b0 (Rect.unit ![0, 2048] ![512, 512] inb_S512x4096_S512x512_0_2048))
    (View.ld (Val := Elt Ideal) (e' := .bf16) b1 (Rect.unit ![4, 0, 0] ![1, 1024, 512] inb_S8x1024x512_S1x1024x512_4_0_0)))
    (View.ld (Val := Elt Ideal) (e' := .bf16) b0 (Rect.unit ![0, 2560] ![512, 512] inb_S512x4096_S512x512_0_2560))
    (View.ld (Val := Elt Ideal) (e' := .bf16) b1 (Rect.unit ![5, 0, 0] ![1, 1024, 512] inb_S8x1024x512_S1x1024x512_5_0_0))
    (View.ld (Val := Elt Ideal) (e' := .bf16) b0 (Rect.unit ![0, 3072] ![512, 512] inb_S512x4096_S512x512_0_3072))
    (View.ld (Val := Elt Ideal) (e' := .bf16) b1 (Rect.unit ![6, 0, 0] ![1, 1024, 512] inb_S8x1024x512_S1x1024x512_6_0_0))
    (View.ld (Val := Elt Ideal) (e' := .bf16) b0 (Rect.unit ![0, 3584] ![512, 512] inb_S512x4096_S512x512_0_3584))
    (View.ld (Val := Elt Ideal) (e' := .bf16) b1 (Rect.unit ![7, 0, 0] ![1, 1024, 512] inb_S8x1024x512_S1x1024x512_7_0_0))

/-- A term of the product, counted over all the columns. -/
def term (c : Dev nD) (r : Fin 2048) (l : Fin 1024) (n : ℕ) : EReal :=
  ct m c r ⟨n % 4096, Nat.mod_lt _ (by decide)⟩ * wt m c l ⟨n % 4096, Nat.mod_lt _ (by decide)⟩

theorem piece_at (c : Dev nD) (t : Fin cfg0.N) (o j : ℕ) (ho : o = 512 * j) (hj : j < 8) (i1) (i2) (r : Fin 512) (l : Fin 1024) :
    piece (View.ld (Val := Elt Ideal) (e' := .bf16) (iblk m c 0 t : FVec Ideal S512x4096 .bf16) (Rect.unit ![0, o] ![512, 512] i1))
      (View.ld (Val := Elt Ideal) (e' := .bf16) (iblk m c 1 t : FVec Ideal S8x1024x512 .bf16) (Rect.unit ![j, 0, 0] ![1, 1024, 512] i2)) r l
      = ∑ k ∈ Finset.range 512, term m c (row t r) l (o + k) := by
  rw [← Fin.sum_univ_eq_sum_range (fun k => term m c (row t r) l (o + k)) 512]
  refine Finset.sum_congr rfl fun k _ => congrArg₂ (fun a b : EReal => a * b) ?_ ?_
  · refine (cols_at o _ i1 r k (by omega)).trans ((blk_d m c t r _).trans (congrArg (ct m c (row t r)) (Fin.ext ?_)))
    exact (Nat.mod_eq_of_lt (by omega)).symm
  · refine (slab_at j _ i2 l k hj).trans ((blk_w m c t ⟨j, hj⟩ l k).trans (congrArg (wt m c l) (Fin.ext ?_)))
    show 512 * j + k.val = (o + k.val) % 4096
    rw [Nat.mod_eq_of_lt (by omega)]
    omega

theorem d_at (c : Dev nD) (t : Fin cfg0.N) (r : Fin 512) (l : Fin 1024) :
    (dOf (iblk m c 0 t) (iblk m c 1 t) (ix2 r l) : EReal) = dRow m c (row t r) l := by
  refine (pay7_apply _ _ _ _ _ _ _ _).trans ?_
  rw [pay6_apply]
  refine Eq.trans ?_ ((eight_sum (term m c (row t r) l)).trans ?_)
  · simp only [ix2_0, ix2_1]
    rw [piece_at m c t 0 0 rfl (by decide), piece_at m c t 512 1 rfl (by decide), piece_at m c t 1024 2 rfl (by decide),
      piece_at m c t 1536 3 rfl (by decide), piece_at m c t 2048 4 rfl (by decide), piece_at m c t 2560 5 rfl (by decide),
      piece_at m c t 3072 6 rfl (by decide), piece_at m c t 3584 7 rfl (by decide)]
  · rw [← Fin.sum_univ_eq_sum_range (term m c (row t r) l) 4096]
    refine Finset.sum_congr rfl fun k _ => ?_
    have hk : (⟨k.val % 4096, Nat.mod_lt _ (by decide)⟩ : Fin 4096) = k := Fin.ext (Nat.mod_eq_of_lt k.isLt)
    exact congrArg₂ (fun a b : EReal => a * b) (congrArg (ct m c (row t r)) hk) (congrArg (wt m c l) hk)

/-- The first result: the gradient of the norm's input, with the residual's. -/
def dx (c : Dev nD) (r : Fin 2048) (l : Fin 1024) : EReal :=
  res m c r l + grad (xRow m c r) (gRow m c) (dRow m c r) l

/-- The second: the gradient of the norm's weight. -/
def dg (c : Dev nD) (l : Fin 1024) : EReal := ∑ r : Fin 2048, weight (xRow m c r) (dRow m c r) l

theorem dx_block (c : Dev nD) (t : Fin cfg0.N) (y : S512x1024.Idx) :
    (k0_pay2 (F := Ideal) (dOf (iblk m c 0 t) (iblk m c 1 t)) (iblk m c 2 t) (k0_pay8 (F := Ideal) (iblk m c 3 t)) (k0_pay10 (F := Ideal) (iblk m c 2 t))
      (k0_pay11 (F := Ideal) (iblk m c 2 t)) (iblk m c 4 t) y : EReal) = dx m c (row t (y 0)) (y 1) := by
  refine (pay2_apply _ _ _ _ _).trans ?_
  have e := blk_r m c t (y 0) (y 1)
  have hy : (ix2 (y 0) (y 1) : S512x1024.Idx) = y := by idx_vars y
  rw [show ((iblk m c 4 t : FVec Ideal S512x1024 .f32) (ix2 (y 0) (y 1))) = (iblk m c 4 t : FVec Ideal S512x1024 .f32) y from congrArg _ hy] at e
  refine congrArg₂ (fun a b : EReal => a + b) e ?_
  rw [show (fun k => (iblk m c 2 t : FVec Ideal S512x1024 .f32) (ix2 (y 0) k)) = xRow m c (row t (y 0)) from funext fun k => blk_x m c t (y 0) k,
    show (fun k => (dOf (iblk m c 0 t) (iblk m c 1 t) (ix2 (y 0) k) : EReal)) = dRow m c (row t (y 0)) from funext fun k => d_at m c t (y 0) k,
    show (fun k => (iblk m c 3 t : FVec Ideal S1x1024 .f32) (ix2 0 k)) = gRow m c from funext fun k => blk_g m c t k]

theorem dg_block (c : Dev nD) (t : Fin cfg0.N) (acc : FVec Ideal S1x1024 .f32) (y : S1x1024.Idx) :
    (k0_pay5 (F := Ideal) (dOf (iblk m c 0 t) (iblk m c 1 t)) (k0_pay12 (F := Ideal) (iblk m c 2 t)) acc y : EReal)
      = acc y + ∑ r : Fin 512, weight (xRow m c (row t r)) (dRow m c (row t r)) (y 1) := by
  refine (pay5_apply _ _ _ _).trans (congrArg (fun z : EReal => (acc y : EReal) + z) (Finset.sum_congr rfl fun r _ => ?_))
  rw [show (fun k => (iblk m c 2 t : FVec Ideal S512x1024 .f32) (ix2 r k)) = xRow m c (row t r) from funext fun k => blk_x m c t r k,
    show (fun k => (dOf (iblk m c 0 t) (iblk m c 1 t) (ix2 r k) : EReal)) = dRow m c (row t r) from funext fun k => d_at m c t r k]

/-- The arrays of the first result and of its copy in bf16. -/
theorem final_dx (c : Dev nD) : (dats m 0 c).arrAt 5 cfg0.N = fun (i : S2048x1024.Idx) => dx m c (i 0) (i 1) := by
  refine (dats m 0 c).arrAt_eq_of_covers 5 _ (by decide +kernel) fun t hf y => ?_
  have e := dx_block m c t y
  have hr := row_val t.val (lt4 t) (y 0)
  have hp : dx m c (row t (y 0)) (y 1) = dx m c (((cfg0.win 5).blk t).view.emb y 0) (((cfg0.win 5).blk t).view.emb y 1) := by
    refine congrArg₂ (dx m c) (Fin.ext ?_) (Fin.ext ?_)
    · blk_simp [places t] <;> simp <;> omega
    · blk_simp [places t]
  blk_simp
  rw [after0_5]
  by_cases h : t.val % 4 = 0
  · rw [outsAt0_A m c t h]
    frame_out
    exact e.trans hp
  · rw [outsAt0_B m c t h]
    frame_out
    exact e.trans hp

theorem final_copy (c : Dev nD) : (dats m 0 c).arrAt 7 cfg0.N = fun (i : S2048x1024.Idx) => dx m c (i 0) (i 1) := by
  refine (dats m 0 c).arrAt_eq_of_covers 7 _ (by decide +kernel) fun t hf y => ?_
  have e := dx_block m c t y
  have hr := row_val t.val (lt4 t) (y 0)
  have hp : dx m c (row t (y 0)) (y 1) = dx m c (((cfg0.win 7).blk t).view.emb y 0) (((cfg0.win 7).blk t).view.emb y 1) := by
    refine congrArg₂ (dx m c) (Fin.ext ?_) (Fin.ext ?_)
    · blk_simp [places t] <;> simp <;> omega
    · blk_simp [places t]
  blk_simp
  rw [after0_7]
  by_cases h : t.val % 4 = 0
  · rw [outsAt0_A m c t h]
    frame_out
    exact e.trans hp
  · rw [outsAt0_B m c t h]
    frame_out
    exact e.trans hp

/-- The running sum of the weight's gradient after point `n`. -/
theorem dg_run (c : Dev nD) (n : ℕ) (h : n < cfg0.N) (j : S1x1024.Idx) :
    ((outsAt0 m c n h).2.1 : FVec Ideal S1x1024 .f32) j
      = ∑ p ∈ Finset.range (n + 1), ∑ r : Fin 512, weight (xRow m c (row p r)) (dRow m c (row p r)) (j 1) := by
  induction n generalizing j with
  | zero =>
    rw [outsAt0_A m c ⟨0, h⟩ rfl]
    frame_out
    refine (dg_block m c ⟨0, h⟩ _ j).trans ?_
    rw [show (k0_pay4 (F := Ideal) j : EReal) = 0 from by pointwise [k0_pay4]]
    simp
  | succ n ih =>
    have h4 : n + 1 < 4 := lt_of_lt_of_eq h N_0
    rw [outsAt0_B m c ⟨n + 1, h⟩ (by simp; omega)]
    frame_out
    rw [Finset.sum_range_succ]
    refine (dg_block m c ⟨n + 1, h⟩ _ j).trans ?_
    exact congrArg (fun z : EReal => z + _) (ih (by omega) j)

theorem final_dg (c : Dev nD) : (dats m 0 c).arrAt 6 cfg0.N = fun (i : S1x1024.Idx) => dg m c (i 1) := by
  refine (dats m 0 c).arrAt_eq_of_after_last 6 t0_3 (by decide +kernel) _ fun j => ?_
  blk_simp
  rw [after0_6]
  refine (dg_run m c _ _ _).trans ?_
  exact rows_sum fun r => weight (xRow m c r) (dRow m c r) (j 1)

end Cert.RmsUpIdeal.Hand
-- ==== Proof.RmsUpRef.lean ====
/-
  The gradient of the feed-forward layers' norm with its product: what the reference computes.
-/
module

public import proofs.«01_k».proof.Proof.Gen.RmsUpRefIdeal.Read
public import proofs.«01_k».proof.Proof.NormGrad
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open scoped BigOperators

namespace Cert.RmsUpRefIdeal.Hand

open Cert.RmsUpRefIdeal Cert.RmsUpRefIdeal.Read Cert.NormGrad

variable (x : FVec Ideal S2048x1024 .f32) (g : FVec Ideal S1024 .f32) (w : FVec Ideal S1024x4096 .f32) (d : FVec Ideal S2048x4096 .f32) (res : FVec Ideal S2048x1024 .f32)

/-- The word of zero. -/
theorem word_zero : (FloatOps.ofBits (F := Ideal) .f32 0#32 : EReal) = 0 := Ideal.ofBits_zero_f32

/-- A row's mean square and scale. -/
theorem ms_at (r : Fin 2048) : (val_main_v6 (F := Ideal) x (ix2 r (0 : Fin 1)) : EReal) = meanSq fun k => x (ix2 r k) := by
  simp only [val_main_v6_apply, val_main_v5_apply, val_main_v4_apply, val_main_v3_apply, val_main_v2_apply, val_main_v1_apply, val_main_v0_apply,
    val_main_cst_apply, val_main_cst_0_apply, val_main_cst_1_apply]
  rw [word_zero, zero_add]
  unfold meanSq
  refine congrArg (fun s : EReal => Ideal.div s _ + _) (Finset.sum_congr rfl fun k _ => ?_)
  exact congrArg (fun z : EReal => z * z) (congrArg x (by funext a; fin_cases a <;> rfl))

theorem rs_at (r : Fin 2048) : (val_main_v7 (F := Ideal) x (ix2 r (0 : Fin 1)) : EReal) = scale fun k => x (ix2 r k) := by
  rw [val_main_v7_apply, ms_at]
  rfl

/-- The normed row without the weight. -/
theorem xn_at (r : Fin 2048) (l : Fin 1024) : (val_main_v12 (F := Ideal) x (ix2 r l) : EReal) = x (ix2 r l) * scale fun k => x (ix2 r k) := by
  rw [val_main_v12_apply, val_main_v11_apply, ← rs_at]
  exact congrArg (fun z : EReal => x (ix2 r l) * z) (congrArg (val_main_v7 (F := Ideal) x) (by funext a; fin_cases a <;> rfl))

/-- The gradient of the norm's output. -/
theorem d_at (r : Fin 2048) (l : Fin 1024) : (val_main_v17 (F := Ideal) w d (ix2 r l) : EReal) = ∑ k : Fin 4096, d (ix2 r k) * w (ix2 l k) := by
  rw [val_main_v17_apply]
  exact Finset.sum_congr rfl fun k _ => congrArg₂ (fun a b : EReal => a * b) (congrArg d (by funext a; fin_cases a <;> rfl)) (congrArg w (by funext a; fin_cases a <;> rfl))

/-- The second result: the gradient of the norm's weight. -/
theorem dg_at (D : Fin 2048 → Fin 1024 → EReal) (hD : ∀ r l, (val_main_v17 (F := Ideal) w d (ix2 r l) : EReal) = D r l) (l : Fin 1024) :
    (val_main_v41 (F := Ideal) x w d (ix2 (0 : Fin 1) l) : EReal) = ∑ r : Fin 2048, weight (fun k => x (ix2 r k)) (D r) l := by
  simp only [val_main_v41_apply, val_main_v23_apply, val_main_v20_apply, val_main_v19_apply, val_main_cst_3_apply, val_main_cst_4_apply]
  rw [word_zero, zero_add, Fin.sum_univ_one, zero_add]
  refine Finset.sum_congr rfl fun r _ => ?_
  rw [val_main_v18_apply]
  rw [show idx_main_v19 (idx_main_v20 (idx_main_v23 (idx_main_v41 (ix2 (0 : Fin 1) l)) 0)) r = ix2 r l from by
    funext a; apply Fin.ext; fin_cases a <;> simp [idx_main_v41, idx_main_v23, idx_main_v20, idx_main_v19]]
  exact congrArg₂ (fun a b : EReal => a * b) (xn_at x r l) (hD r l)

/-- The gradient that reaches a row's squares. -/
theorem pull_at (D : Fin 2048 → Fin 1024 → EReal) (hD : ∀ r l, (val_main_v17 (F := Ideal) w d (ix2 r l) : EReal) = D r l) (r : Fin 2048) (l : Fin 1024) :
    (val_main_v33 (F := Ideal) x g w d (ix2 r l) : EReal) = pull (fun k => x (ix2 r k)) (fun k => g (ix1 k)) (D r) := by
  simp only [val_main_v33_apply, val_main_v32_apply, val_main_cst_7_apply]
  rw [word_zero, zero_add, Fin.sum_univ_one]
  have e : ∀ i : S2048x1.Idx, i = ix2 r (0 : Fin 1) → (val_main_v31 (F := Ideal) x g w d i : EReal) = pull (fun k => x (ix2 r k)) (fun k => g (ix1 k)) (D r) := fun i hi => by
    rw [hi]
    simp only [val_main_v31_apply, val_main_v30_apply, val_main_v29_apply, val_main_v26_apply, val_main_v25_apply, val_main_v10_apply, val_main_v9_apply,
      val_main_v8_apply, val_main_cst_2_apply, val_main_cst_5_apply, val_main_cst_6_apply]
    rw [word_zero, zero_add, ms_at, rs_at]
    unfold pull
    refine congrArg (fun s : EReal => Ideal.div (s * _) _) (Finset.sum_congr rfl fun k _ => ?_)
    simp only [val_main_v24_apply, val_main_v22_apply, val_main_v21_apply, val_main_v13_apply]
    rw [show idx_main_v25 (idx_main_v26 (ix2 r (0 : Fin 1))) k = ix2 r k from by
      funext a; apply Fin.ext; fin_cases a <;> simp [idx_main_v25, idx_main_v26]]
    exact congrArg₂ (fun a b : EReal => x (ix2 r k) * (a * b)) (hD r k) (congrArg g (by funext a; fin_cases a <;> rfl))
  exact e _ (by funext a; fin_cases a <;> rfl)

/-- The first result: the gradient of the norm's input, with the residual's. -/
theorem dx_at (D : Fin 2048 → Fin 1024 → EReal) (hD : ∀ r l, (val_main_v17 (F := Ideal) w d (ix2 r l) : EReal) = D r l) (r : Fin 2048) (l : Fin 1024) :
    (val_main_v38 (F := Ideal) x g w d res (ix2 r l) : EReal)
      = res (ix2 r l) + grad (fun k => x (ix2 r k)) (fun k => g (ix1 k)) (D r) l := by
  simp only [val_main_v38_apply, val_main_v37_apply, val_main_v36_apply, val_main_v35_apply, val_main_v34_apply, val_main_v28_apply, val_main_v27_apply,
    val_main_v22_apply, val_main_v21_apply, val_main_v13_apply]
  rw [pull_at x g w d D hD r l, hD r l, show idx_main_v27 (ix2 r l) = ix2 r (0 : Fin 1) from by funext a; fin_cases a <;> rfl, rs_at]
  exact congrArg (fun z : EReal => res (ix2 r l) + (D r l * z * _ + _ + _)) (congrArg g (by funext a; fin_cases a <;> rfl))

/-- The copy in bf16 is the same. -/
theorem copy_at (r : Fin 2048) (l : Fin 1024) :
    (val_main_v40 (F := Ideal) x g w d res (ix2 r l) : EReal) = val_main_v38 (F := Ideal) x g w d res (ix2 r l) := rfl

end Cert.RmsUpRefIdeal.Hand
-- ==== Proof.RmsUpClaim.lean ====
/-
  The claims about the gradient of the feed-forward layers' norm with its product, put together.
-/
module

public import proofs.«01_k».proof.Defs
public import proofs.«01_k».proof.Proof.Gen.RmsUp.Frame
public import proofs.«01_k».proof.Proof.Gen.RmsUpRefIdeal.Run
public import proofs.«01_k».proof.Proof.RmsUpValue
public import proofs.«01_k».proof.Proof.RmsUpRef

@[expose] public section

set_option maxRecDepth 16384

noncomputable section

open Idealize.ShloMosaic Idealize.ShloMosaic.TcCoe Idealize.SL.Sem

namespace Cert.RmsUpIdeal.Hand

open Cert.RmsUpIdeal Cert.RmsUpIdeal.Gen

variable (m : (ℓ : Loc nD τ sig) → Buf (Elt Ideal) ℓ)

/-- The reference's first result is the kernel's. -/
theorem ref_dx (c : Dev nD) :
    Cert.RmsUpRefIdeal.Read.val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun (i : S2048x1024.Idx) => dx m c (i 0) (i 1) := by
  funext i
  idx_vars i
  exact Cert.RmsUpRefIdeal.Hand.dx_at _ _ _ _ _ (dRow m c) (Cert.RmsUpRefIdeal.Hand.d_at _ _) i0 i1

/-- The copy in bf16. -/
theorem ref_copy (c : Dev nD) :
    Cert.RmsUpRefIdeal.Read.val_main_v40 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun (i : S2048x1024.Idx) => dx m c (i 0) (i 1) :=
  (funext fun i => by idx_vars i; exact Cert.RmsUpRefIdeal.Hand.copy_at _ _ _ _ _ i0 i1).trans (ref_dx m c)

/-- The reference's last result is the kernel's. -/
theorem ref_dg (c : Dev nD) :
    Cert.RmsUpRefIdeal.Read.val_main_v41 (F := Ideal) (m ((c : Thread nD τ).loc main_arg0)) (m ((c : Thread nD τ).loc main_arg2)) (m ((c : Thread nD τ).loc main_arg3))
      = fun (i : S1x1024.Idx) => dg m c (i 1) := by
  funext i
  idx_vars i
  obtain rfl : i0 = 0 := Subsingleton.elim _ _
  exact Cert.RmsUpRefIdeal.Hand.dg_at _ _ _ (dRow m c) (Cert.RmsUpRefIdeal.Hand.d_at _ _) i1

end Cert.RmsUpIdeal.Hand

namespace Cert.RmsUpClaim

open Cert.RmsUpIdeal.Hand

/-- The call terminates without a fault and leaves its arguments alone; so do its ideal reading and the reference. -/
theorem frame_kernel : Cert.quiescent_RmsUp := fun m ρ _ => Cert.RmsUp.Gen.frame m ρ

theorem frame_ideal : Cert.quiescent_RmsUpIdeal := fun m ρ _ => Cert.RmsUpIdeal.Gen.frame m ρ

theorem frame_reference : Cert.quiescent_RmsUpRefIdeal := fun m ρ _ =>
  (θ_run _ _ _).mono (fun r h => ⟨fun c => (h c).2.2.2, sem_eq_zero_of_no_sems rfl r.2⟩) (Cert.RmsUpRefIdeal.Value.run m ρ)

/-- The kernel's three results are the reference's. -/
theorem algebraic : Cert.algebraic_RmsUpIdeal_RmsUpRefIdeal := by
  pair_intro
  · run_from Cert.RmsUpIdeal.Value.run_blocks m g
  · run_from Cert.RmsUpRefIdeal.Value.run m' g'
    · rw [Cert.RmsUpRefIdeal.Read.val_main_v38_eq (F := Ideal) m' c, (hagree c).1, (hagree c).2.1, (hagree c).2.2.1, (hagree c).2.2.2.1, (hagree c).2.2.2.2]
      exact (ref_dx m c).trans (final_dx m c).symm
    · rw [Cert.RmsUpRefIdeal.Read.val_main_v40_eq (F := Ideal) m' c, (hagree c).1, (hagree c).2.1, (hagree c).2.2.1, (hagree c).2.2.2.1, (hagree c).2.2.2.2]
      exact (ref_copy m c).trans (final_copy m c).symm
    · refine (Cert.RmsUpRefIdeal.Read.val_main_v41_eq (F := Ideal) _ _ _).trans ?_
      exact (ref_dg m c).trans (final_dg m c).symm

end Cert.RmsUpClaim
-- ==== Proof.RmsInBlock.lean ====
/-
  The gradient of the first attention's norm with its product: what one block computes.
-/
module

public import proofs.«01_k».proof.Proof.Gen.RmsInIdeal.Value
public import proofs.«01_k».proof.Proof.NormGrad
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.RmsInIdeal.Hand

open Cert.RmsInIdeal Cert.RmsInIdeal.Gen Cert.NormGrad

/-- The products of the gate's columns, padded to 128, and of a piece of 1024 columns, each with its rows of the weight. -/
def pieceG (a : FVec Ideal S512x128 .bf16) (b : FVec Ideal S128x1024 .bf16) (r : Fin 512) (l : Fin 1024) : EReal :=
  ∑ k : Fin 128, a (ix2 r k) * b (ix2 k l)

def piece (a : FVec Ideal S1x512x1024 .bf16) (b : FVec Ideal S1024x1024 .bf16) (r : Fin 512) (l : Fin 1024) : EReal :=
  ∑ k : Fin 1024, a (ix3 0 r k) * b (ix2 k l)

theorem pay6_apply (v0 : FVec Ideal S512x128 .bf16) (v2 : FVec Ideal S128x1024 .bf16) (v5 : FVec Ideal S1x512x1024 .bf16) (v7 : FVec Ideal S1024x1024 .bf16)
    (v11 : FVec Ideal S1x512x1024 .bf16) (v13 : FVec Ideal S1024x1024 .bf16) (v17 : FVec Ideal S1x512x1024 .bf16) (v19 : FVec Ideal S1024x1024 .bf16)
    (y : S512x1024.Idx) : (k0_pay6 (F := Ideal) v0 v2 v5 v7 v11 v13 v17 v19 y : EReal)
      = pieceG v0 v2 (y 0) (y 1) + piece v5 v7 (y 0) (y 1) + piece v11 v13 (y 0) (y 1) + piece v17 v19 (y 0) (y 1) := by
  idx_vars y
  pointwise [k0_pay6]
  rfl

/-- A row's mean square and scale. -/
theorem pay1_apply (x : FVec Ideal S512x1024 .f32) (r : Fin 512) :
    (k0_pay1 (F := Ideal) (k0_pay8 (F := Ideal) x) (k0_pay9 (F := Ideal)) (ix2 r 0) : EReal) = meanSq (fun k => x (ix2 r k)) := by
  pointwise [k0_pay1, k0_pay8, k0_pay9]
  rfl

theorem pay2_apply (x : FVec Ideal S512x1024 .f32) (r : Fin 512) :
    (k0_pay2 (F := Ideal) (k0_pay8 (F := Ideal) x) (k0_pay9 (F := Ideal)) (ix2 r 0) : EReal) = scale (fun k => x (ix2 r k)) := by
  unfold k0_pay2
  show Ideal.rsqrt (k0_pay1 (F := Ideal) (k0_pay8 (F := Ideal) x) (k0_pay9 (F := Ideal)) (ix2 r 0)) = _
  rw [pay1_apply]
  rfl

/-- The running sum: what a block adds to the gradient of the weight. -/
theorem pay5_apply (d x : FVec Ideal S512x1024 .f32) (acc : FVec Ideal S1x1024 .f32) (y : S1x1024.Idx) :
    (k0_pay5 (F := Ideal) d x (k0_pay8 (F := Ideal) x) (k0_pay9 (F := Ideal)) acc y : EReal)
      = acc y + ∑ r : Fin 512, weight (fun k => x (ix2 r k)) (fun k => d (ix2 r k)) (y 1) := by
  idx_vars y
  have e := pay2_apply x
  unfold k0_pay5
  generalize (k0_pay2 (F := Ideal) (k0_pay8 (F := Ideal) x) (k0_pay9 (F := Ideal)) : FVec Ideal S512x1 .f32) = s at e ⊢
  pointwise []
  simp only [e]
  rfl

/-- The gradient of a row with the residual's. -/
theorem pay3_apply (d x : FVec Ideal S512x1024 .f32) (g : FVec Ideal S1x1024 .f32) (res : FVec Ideal S512x1024 .f32) (y : S512x1024.Idx) :
    (k0_pay3 (F := Ideal) d x (k0_pay7 (F := Ideal) g) (k0_pay8 (F := Ideal) x) (k0_pay9 (F := Ideal)) res y : EReal)
      = res y + grad (fun k => x (ix2 (y 0) k)) (fun k => g (ix2 0 k)) (fun k => d (ix2 (y 0) k)) (y 1) := by
  idx_vars y
  have e := pay2_apply x
  have e5 := pay1_apply x
  unfold k0_pay3 k0_pay7
  generalize (k0_pay2 (F := Ideal) (k0_pay8 (F := Ideal) x) (k0_pay9 (F := Ideal)) : FVec Ideal S512x1 .f32) = s at e ⊢
  generalize (k0_pay1 (F := Ideal) (k0_pay8 (F := Ideal) x) (k0_pay9 (F := Ideal)) : FVec Ideal S512x1 .f32) = q at e5 ⊢
  pointwise []
  have one : ∀ f : Fin 1 → EReal, ∑ k : Fin 1, f k = f 0 := fun f => Fin.sum_univ_one f
  rw [show (∑ k : Fin 1, _) = _ from one _]
  simp only [e, e5]
  rfl

/-- The sum over the padded columns, the gate's first. -/
theorem four_sum (g : ℕ → EReal) : ∑ k ∈ Finset.range 128, g (3072 + k) + ∑ k ∈ Finset.range 1024, g (0 + k) + ∑ k ∈ Finset.range 1024, g (1024 + k)
    + ∑ k ∈ Finset.range 1024, g (2048 + k) = ∑ k ∈ Finset.range 3200, g k := by
  rw [show 3200 = 1024 + 1024 + 1024 + 128 from rfl]
  simp only [Finset.sum_range_add, Nat.zero_add]
  abel

/-- The blocks as the kernel reads them. -/
theorem rows_at {n : ℕ} (o : ℕ) (b : FVec Ideal S3200x1024 .bf16) (inb) (k : Fin n) (l : Fin 1024) (hl : o + k.val < 3200) :
    View.ld (Val := Elt Ideal) (e' := .bf16) b (Rect.unit ![o, 0] ![n, 1024] inb) (ix2 k l) = b (ix2 ⟨o + k.val, hl⟩ l) := by
  refine congrArg b ?_
  funext a
  refine Fin.ext ?_
  fin_cases a <;> simp [LoadRect.idx, Rect.unit]

theorem slab_at (j : ℕ) (b : FVec Ideal S3x512x1024 .bf16) (inb) (r : Fin 512) (k : Fin 1024) (hl : j < 3) :
    View.ld (Val := Elt Ideal) (e' := .bf16) b (Rect.unit ![j, 0, 0] ![1, 512, 1024] inb) (ix3 0 r k) = b (ix3 ⟨j, hl⟩ r k) := by
  refine congrArg b ?_
  funext a
  refine Fin.ext ?_
  fin_cases a <;> simp [LoadRect.idx, Rect.unit]

end Cert.RmsInIdeal.Hand
-- ==== Proof.RmsInEntry.lean ====
/-
  The gradient of the first attention's norm with its product: the arrays that the host lines prepare.
-/
module

public import proofs.«01_k».proof.Proof.Gen.RmsInIdeal.Value
public import proofs.«01_k».proof.Proof.NormGrad
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.RmsInIdeal.Hand

open Cert.RmsInIdeal Cert.RmsInIdeal.Gen

variable (m : (ℓ : Loc nD τ sig) → Buf (Elt Ideal) ℓ)

/-- A row of the norm's input. -/
def xRow (c : Dev nD) (r : Fin 2048) : Fin 1024 → EReal := fun k => (m ((c : Thread nD τ).loc main_arg0) : FVec Ideal S2048x1024 .f32) (ix2 r k)

/-- The norm's weight. -/
def gRow (c : Dev nD) : Fin 1024 → EReal := fun k => (m ((c : Thread nD τ).loc main_arg1) : FVec Ideal S1024 .f32) (ix1 k)

/-- The product's cotangent, its weight, and the gradient that the residual brings. -/
def ct (c : Dev nD) (r : Fin 2048) (k : Fin 3088) : EReal := (m ((c : Thread nD τ).loc main_arg3) : FVec Ideal S2048x3088 .f32) (ix2 r k)

def wt (c : Dev nD) (l : Fin 1024) (k : Fin 3088) : EReal := (m ((c : Thread nD τ).loc main_arg2) : FVec Ideal S1024x3088 .f32) (ix2 l k)

def res (c : Dev nD) (r : Fin 2048) (l : Fin 1024) : EReal := (m ((c : Thread nD τ).loc main_arg4) : FVec Ideal S2048x1024 .f32) (ix2 r l)

theorem entry_g (c : Dev nD) (l : Fin 1024) : (V m c main_v10 : FVec Ideal S1x1024 .f32) (ix2 0 l) = gRow m c l := by
  unfold_abbrev_sides
  simp only [List.flatten_cons, List.flatten_nil, List.append_nil, hostOps0, hostOps0_1, hostOps0_2, hostOps0_3, hostOps0_4, List.cons_append, List.nil_append]
  after_reads_at
  rfl

/-- Queries, keys and values: the cotangent's columns in three pieces. -/
theorem entry_d (c : Dev nD) (j : Fin 3) (r : Fin 2048) (k : Fin 1024) :
    (V m c main_v6 : FVec Ideal S3x2048x1024 .bf16) (ix3 j r k) = ct m c r ⟨1024 * j.val + k.val, by omega⟩ := by
  unfold_abbrev_sides
  simp only [List.flatten_cons, List.flatten_nil, List.append_nil, hostOps0, hostOps0_1, hostOps0_2, hostOps0_3, hostOps0_4, List.cons_append, List.nil_append]
  after_reads_at
  exact congrArg (ct m c r) (Fin.ext (by simp only []; omega))

/-- The weight by rows, with 112 rows of zeros behind. -/
theorem entry_w (c : Dev nD) : (V m c main_v2 : FVec Ideal S3200x1024 .bf16) =
    (pad S3200x1024 ![0, 0] ![112, 0] ![0, 0]
      (transpose S3088x1024 [1, 0] (m ((c : Thread nD τ).loc main_arg2) : FVec Ideal S1024x3088 .f32) transposes_S1024x3088_S3088x1024_1_0)
      (sitofp (F := Ideal) .f32 (constantI S_ 32 0#32)) pads_S3088x1024_S3200x1024_01120_000 h_S_ : FVec Ideal S3200x1024 .f32) := by
  unfold V
  simp only [List.flatten_cons, List.flatten_nil, List.append_nil, hostOps0, hostOps0_1, hostOps0_2, hostOps0_3, hostOps0_4, List.cons_append, List.nil_append]
  after_reads_simp
  rfl

/-- The gate's columns of the cotangent, with 112 columns of zeros behind. -/
theorem entry_f (c : Dev nD) : (V m c main_v9 : FVec Ideal S2048x128 .bf16) =
    (pad S2048x128 ![0, 0] ![0, 112] ![0, 0]
      (extractStridedSlice S2048x16 ![0, 3072] (m ((c : Thread nD τ).loc main_arg3) : FVec Ideal S2048x3088 .f32) slices_S2048x3088_S2048x16_0_3072)
      (sitofp (F := Ideal) .f32 (constantI S_ 32 0#32)) pads_S2048x16_S2048x128_000_01120 h_S_ : FVec Ideal S2048x128 .f32) := by
  unfold V
  simp only [List.flatten_cons, List.flatten_nil, List.append_nil, hostOps0, hostOps0_1, hostOps0_2, hostOps0_3, hostOps0_4, List.cons_append, List.nil_append]
  after_reads_simp
  rfl

/-- The value that pads. -/
theorem pad_zero (i : S_.Idx) : (sitofp (F := Ideal) .f32 (constantI S_ 32 0#32) i : EReal) = 0 := by
  show (Scalar.sitofp .f32 0#32 : Ideal .f32) = 0
  exact sitofp_zero

theorem w_at (c : Dev nD) (n : Fin 3200) (l : Fin 1024) :
    (V m c main_v2 : FVec Ideal S3200x1024 .bf16) (ix2 n l) = if h : n.val < 3088 then wt m c l ⟨n.val, h⟩ else 0 := by
  rw [entry_w]
  by_cases h : n.val < 3088
  · rw [dif_pos h]
    refine (pad_apply_of_inside _ _ _ _ _ _ _ _ (ix2 ⟨n.val, h⟩ l : S3088x1024.Idx) fun a => ?_).trans ?_
    · match a with
      | ⟨0, _⟩ => exact (Nat.zero_add _).symm.trans (congrArg (0 + ·) (Nat.mul_one _).symm)
      | ⟨1, _⟩ => exact (Nat.zero_add _).symm.trans (congrArg (0 + ·) (Nat.mul_one _).symm)
    refine (transpose_apply _ _ _ _ (ix2 l ⟨n.val, h⟩ : S1024x3088.Idx) fun b => ?_).trans rfl
    match b with
      | ⟨0, _⟩ => rfl
      | ⟨1, _⟩ => rfl
  · rw [dif_neg h]
    refine (pad_apply_of_not_inside _ _ _ _ _ _ _ _ 0 ?_).trans (pad_zero _)
    show ¬(0 ≤ n.val ∧ (n.val - 0) % (0 + 1) = 0 ∧ (n.val - 0) / (0 + 1) < 3088)
    omega

theorem f_at (c : Dev nD) (r : Fin 2048) (k : Fin 128) :
    (V m c main_v9 : FVec Ideal S2048x128 .bf16) (ix2 r k) = if h : k.val < 16 then ct m c r ⟨3072 + k.val, by omega⟩ else 0 := by
  rw [entry_f]
  by_cases h : k.val < 16
  · rw [dif_pos h]
    refine (pad_apply_of_inside _ _ _ _ _ _ _ _ (ix2 r ⟨k.val, h⟩ : S2048x16.Idx) fun a => ?_).trans ?_
    · match a with
      | ⟨0, _⟩ => exact (Nat.zero_add _).symm.trans (congrArg (0 + ·) (Nat.mul_one _).symm)
      | ⟨1, _⟩ => exact (Nat.zero_add _).symm.trans (congrArg (0 + ·) (Nat.mul_one _).symm)
    refine congrArg (m ((c : Thread nD τ).loc main_arg3) : FVec Ideal S2048x3088 .f32) ?_
    funext a
    apply Fin.ext
    match a with
      | ⟨0, _⟩ => exact Nat.zero_add _
      | ⟨1, _⟩ => rfl
  · rw [dif_neg h]
    refine (pad_apply_of_not_inside _ _ _ _ _ _ _ _ 1 ?_).trans (pad_zero _)
    show ¬(0 ≤ k.val ∧ (k.val - 0) % (0 + 1) = 0 ∧ (k.val - 0) / (0 + 1) < 16)
    omega

end Cert.RmsInIdeal.Hand
-- ==== Proof.RmsInValue.lean ====
/-
  The gradient of the first attention's norm with its product: what the two result arrays of `RmsInIdeal` hold.
-/
module

public import proofs.«01_k».proof.Proof.RmsInBlock
public import proofs.«01_k».proof.Proof.RmsInEntry
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.RmsInIdeal.Hand

open Cert.RmsInIdeal Cert.RmsInIdeal.Gen Cert.NormGrad

variable (m : (ℓ : Loc nD τ sig) → Buf (Elt Ideal) ℓ)

/-- A row of the gradient of the norm's output. -/
def dRow (c : Dev nD) (r : Fin 2048) : Fin 1024 → EReal := fun l => ∑ k : Fin 3088, ct m c r k * wt m c l k

/-- The blocks' places, window by window. -/
theorem places : ∀ t : Fin cfg0.N, win0_0.index t = ![0, t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0]
    ∧ win0_7.index t = ![0, 0] :=
  (by decide +kernel : ∀ t : Fin grid0.N, _)

theorem lt4 (t : Fin cfg0.N) : t.val < 4 := lt_of_lt_of_eq t.isLt N_0

/-- Each window's block, read in its array. -/
theorem blk_d (c : Dev nD) (t : Fin cfg0.N) (j : Fin 3) (r : Fin 512) (k : Fin 1024) :
    (iblk m c 0 t : FVec Ideal S3x512x1024 .bf16) (ix3 j r k) = ct m c (row t r) ⟨1024 * j.val + k.val, by omega⟩ := by
  refine Eq.trans (congrArg (V m c main_v6 : FVec Ideal S3x2048x1024 .bf16) ?_) (entry_d m c j (row t r) k)
  show (((cfg0.win 0).blk t).view.emb (ix3 j r k)) = _
  funext a
  apply Fin.ext
  have := row_val t.val (lt4 t) r
  fin_cases a <;> blk_simp [places t] <;> simp <;> omega

theorem blk_f (c : Dev nD) (t : Fin cfg0.N) (r : Fin 512) (k : Fin 128) :
    (iblk m c 1 t : FVec Ideal S512x128 .bf16) (ix2 r k) = if h : k.val < 16 then ct m c (row t r) ⟨3072 + k.val, by omega⟩ else 0 := by
  refine Eq.trans (congrArg (V m c main_v9 : FVec Ideal S2048x128 .bf16) ?_) (f_at m c (row t r) k)
  show (((cfg0.win 1).blk t).view.emb (ix2 r k)) = _
  funext a
  apply Fin.ext
  have := row_val t.val (lt4 t) r
  fin_cases a <;> blk_simp [places t] <;> simp <;> omega

theorem blk_w (c : Dev nD) (t : Fin cfg0.N) (n : Fin 3200) (l : Fin 1024) :
    (iblk m c 2 t : FVec Ideal S3200x1024 .bf16) (ix2 n l) = if h : n.val < 3088 then wt m c l ⟨n.val, h⟩ else 0 := by
  refine Eq.trans (congrArg (V m c main_v2 : FVec Ideal S3200x1024 .bf16) ?_) (w_at m c n l)
  show (((cfg0.win 2).blk t).view.emb (ix2 n l)) = _
  funext a
  apply Fin.ext
  fin_cases a <;> blk_simp [places t] <;> simp

theorem blk_x (c : Dev nD) (t : Fin cfg0.N) (r : Fin 512) (k : Fin 1024) :
    (iblk m c 3 t : FVec Ideal S512x1024 .f32) (ix2 r k) = xRow m c (row t r) k := by
  refine (congrFun (V_main_arg0 m c) (((cfg0.win 3).blk t).view.emb (ix2 r k))).trans (congrArg _ ?_)
  funext a
  apply Fin.ext
  have := row_val t.val (lt4 t) r
  fin_cases a <;> blk_simp [places t] <;> simp <;> omega

theorem blk_g (c : Dev nD) (t : Fin cfg0.N) (k : Fin 1024) : (iblk m c 4 t : FVec Ideal S1x1024 .f32) (ix2 0 k) = gRow m c k := by
  refine Eq.trans (congrArg (V m c main_v10 : FVec Ideal S1x1024 .f32) ?_) (entry_g m c k)
  show (((cfg0.win 4).blk t).view.emb (ix2 0 k)) = _
  funext a
  apply Fin.ext
  fin_cases a <;> blk_simp [places t] <;> simp

theorem blk_r (c : Dev nD) (t : Fin cfg0.N) (r : Fin 512) (k : Fin 1024) :
    (iblk m c 5 t : FVec Ideal S512x1024 .f32) (ix2 r k) = res m c (row t r) k := by
  refine (congrFun (V_main_arg4 m c) (((cfg0.win 5).blk t).view.emb (ix2 r k))).trans (congrArg _ ?_)
  funext a
  apply Fin.ext
  have := row_val t.val (lt4 t) r
  fin_cases a <;> blk_simp [places t] <;> simp <;> omega

/-- The gradient of the norm's output that a point computes, from its blocks of the cotangent and the weight. -/
abbrev dOf (b0 : FVec Ideal S3x512x1024 .bf16) (b1 : FVec Ideal S512x128 .bf16) (b2 : FVec Ideal S3200x1024 .bf16) : FVec Ideal S512x1024 .f32 :=
  k0_pay6 (F := Ideal) b1 (View.ld (Val := Elt Ideal) (e' := .bf16) b2 (Rect.unit ![3072, 0] ![128, 1024] inb_S3200x1024_S128x1024_3072_0))
    (View.ld (Val := Elt Ideal) (e' := .bf16) b0 (Rect.unit ![0, 0, 0] ![1, 512, 1024] inb_S3x512x1024_S1x512x1024_0_0_0)) (View.ld (Val := Elt Ideal) (e' := .bf16) b2 (Rect.unit ![0, 0] ![1024, 1024] inb_S3200x1024_S1024x1024_0_0))
    (View.ld (Val := Elt Ideal) (e' := .bf16) b0 (Rect.unit ![1, 0, 0] ![1, 512, 1024] inb_S3x512x1024_S1x512x1024_1_0_0)) (View.ld (Val := Elt Ideal) (e' := .bf16) b2 (Rect.unit ![1024, 0] ![1024, 1024] inb_S3200x1024_S1024x1024_1024_0))
    (View.ld (Val := Elt Ideal) (e' := .bf16) b0 (Rect.unit ![2, 0, 0] ![1, 512, 1024] inb_S3x512x1024_S1x512x1024_2_0_0)) (View.ld (Val := Elt Ideal) (e' := .bf16) b2 (Rect.unit ![2048, 0] ![1024, 1024] inb_S3200x1024_S1024x1024_2048_0))

/-- A term of the product, counted over the padded columns. -/
def term (c : Dev nD) (r : Fin 2048) (l : Fin 1024) (n : ℕ) : EReal :=
  if h : n < 3088 then ct m c r ⟨n, h⟩ * wt m c l ⟨n, h⟩ else 0

theorem pieceG_at (c : Dev nD) (t : Fin cfg0.N) (i2) (r : Fin 512) (l : Fin 1024) :
    pieceG (iblk m c 1 t) (View.ld (Val := Elt Ideal) (e' := .bf16) (iblk m c 2 t : FVec Ideal S3200x1024 .bf16) (Rect.unit ![3072, 0] ![128, 1024] i2)) r l
      = ∑ k ∈ Finset.range 128, term m c (row t r) l (3072 + k) := by
  rw [← Fin.sum_univ_eq_sum_range (fun k => term m c (row t r) l (3072 + k)) 128]
  refine Finset.sum_congr rfl fun k _ => ?_
  refine (congrArg₂ (fun a b : EReal => a * b) (blk_f m c t r k) ((rows_at 3072 _ i2 k l (by omega)).trans (blk_w m c t _ l))).trans ?_
  unfold term
  by_cases h : k.val < 16
  · simp only [h, show 3072 + k.val < 3088 by omega, dite_true]
  · simp only [h, show ¬3072 + k.val < 3088 by omega, dite_false, mul_zero]

theorem piece_at (c : Dev nD) (t : Fin cfg0.N) (o j : ℕ) (ho : o = 1024 * j) (hj : j < 3) (i1) (i2) (r : Fin 512) (l : Fin 1024) :
    piece (View.ld (Val := Elt Ideal) (e' := .bf16) (iblk m c 0 t : FVec Ideal S3x512x1024 .bf16) (Rect.unit ![j, 0, 0] ![1, 512, 1024] i1))
      (View.ld (Val := Elt Ideal) (e' := .bf16) (iblk m c 2 t : FVec Ideal S3200x1024 .bf16) (Rect.unit ![o, 0] ![1024, 1024] i2)) r l
      = ∑ k ∈ Finset.range 1024, term m c (row t r) l (o + k) := by
  subst ho
  rw [← Fin.sum_univ_eq_sum_range (fun k => term m c (row t r) l (1024 * j + k)) 1024]
  refine Finset.sum_congr rfl fun k _ => ?_
  refine (congrArg₂ (fun a b : EReal => a * b) ((slab_at j _ i1 r k hj).trans (blk_d m c t ⟨j, hj⟩ r k))
    ((rows_at (1024 * j) _ i2 k l (by omega)).trans (blk_w m c t _ l))).trans ?_
  unfold term
  have h : 1024 * j + k.val < 3088 := by omega
  simp only [h, dite_true]

theorem d_at (c : Dev nD) (t : Fin cfg0.N) (r : Fin 512) (l : Fin 1024) :
    (dOf (iblk m c 0 t) (iblk m c 1 t) (iblk m c 2 t) (ix2 r l) : EReal) = dRow m c (row t r) l := by
  refine (pay6_apply _ _ _ _ _ _ _ _ _).trans ?_
  refine Eq.trans ?_ ((four_sum (term m c (row t r) l)).trans ?_)
  · simp only [ix2_0, ix2_1]
    rw [pieceG_at m c t, piece_at m c t 0 0 rfl (by decide), piece_at m c t 1024 1 rfl (by decide), piece_at m c t 2048 2 rfl (by decide)]
  · rw [Finset.sum_range_add (term m c (row t r) l) 3088 112, Finset.sum_eq_zero (s := Finset.range 112) fun k _ => by
      unfold term; rw [dif_neg (by omega)], add_zero, ← Fin.sum_univ_eq_sum_range (term m c (row t r) l) 3088]
    refine Finset.sum_congr rfl fun k _ => ?_
    unfold term
    rw [dif_pos k.isLt]

/-- The first result: the gradient of the norm's input, with the residual's. -/
def dx (c : Dev nD) (r : Fin 2048) (l : Fin 1024) : EReal :=
  res m c r l + grad (xRow m c r) (gRow m c) (dRow m c r) l

/-- The second: the gradient of the norm's weight. -/
def dg (c : Dev nD) (l : Fin 1024) : EReal := ∑ r : Fin 2048, weight (xRow m c r) (dRow m c r) l

theorem dx_block (c : Dev nD) (t : Fin cfg0.N) (y : S512x1024.Idx) :
    (k0_pay3 (F := Ideal) (dOf (iblk m c 0 t) (iblk m c 1 t) (iblk m c 2 t)) (iblk m c 3 t) (k0_pay7 (F := Ideal) (iblk m c 4 t))
      (k0_pay8 (F := Ideal) (iblk m c 3 t)) (k0_pay9 (F := Ideal)) (iblk m c 5 t) y : EReal) = dx m c (row t (y 0)) (y 1) := by
  refine (pay3_apply _ _ _ _ _).trans ?_
  have e := blk_r m c t (y 0) (y 1)
  have hy : (ix2 (y 0) (y 1) : S512x1024.Idx) = y := by idx_vars y
  rw [show ((iblk m c 5 t : FVec Ideal S512x1024 .f32) (ix2 (y 0) (y 1))) = (iblk m c 5 t : FVec Ideal S512x1024 .f32) y from congrArg _ hy] at e
  refine congrArg₂ (fun a b : EReal => a + b) e ?_
  rw [show (fun k => (iblk m c 3 t : FVec Ideal S512x1024 .f32) (ix2 (y 0) k)) = xRow m c (row t (y 0)) from funext fun k => blk_x m c t (y 0) k,
    show (fun k => (dOf (iblk m c 0 t) (iblk m c 1 t) (iblk m c 2 t) (ix2 (y 0) k) : EReal)) = dRow m c (row t (y 0)) from funext fun k => d_at m c t (y 0) k,
    show (fun k => (iblk m c 4 t : FVec Ideal S1x1024 .f32) (ix2 0 k)) = gRow m c from funext fun k => blk_g m c t k]

theorem dg_block (c : Dev nD) (t : Fin cfg0.N) (acc : FVec Ideal S1x1024 .f32) (y : S1x1024.Idx) :
    (k0_pay5 (F := Ideal) (dOf (iblk m c 0 t) (iblk m c 1 t) (iblk m c 2 t)) (iblk m c 3 t) (k0_pay8 (F := Ideal) (iblk m c 3 t)) (k0_pay9 (F := Ideal)) acc y : EReal)
      = acc y + ∑ r : Fin 512, weight (xRow m c (row t r)) (dRow m c (row t r)) (y 1) := by
  refine (pay5_apply _ _ _ _).trans (congrArg (fun z : EReal => (acc y : EReal) + z) (Finset.sum_congr rfl fun r _ => ?_))
  rw [show (fun k => (iblk m c 3 t : FVec Ideal S512x1024 .f32) (ix2 r k)) = xRow m c (row t r) from funext fun k => blk_x m c t r k,
    show (fun k => (dOf (iblk m c 0 t) (iblk m c 1 t) (iblk m c 2 t) (ix2 r k) : EReal)) = dRow m c (row t r) from funext fun k => d_at m c t r k]

/-- The array of the first result. -/
theorem final_dx (c : Dev nD) : (dats m 0 c).arrAt 6 cfg0.N = fun (i : S2048x1024.Idx) => dx m c (i 0) (i 1) := by
  refine (dats m 0 c).arrAt_eq_of_covers 6 _ (by decide +kernel) fun t hf y => ?_
  have e := dx_block m c t y
  have hr := row_val t.val (lt4 t) (y 0)
  have hp : dx m c (row t (y 0)) (y 1) = dx m c (((cfg0.win 6).blk t).view.emb y 0) (((cfg0.win 6).blk t).view.emb y 1) := by
    refine congrArg₂ (dx m c) (Fin.ext ?_) (Fin.ext ?_)
    · blk_simp [places t] <;> simp <;> omega
    · blk_simp [places t]
  blk_simp
  rw [after0_6]
  by_cases h : t.val % 4 = 0
  · rw [outsAt0_A m c t h]
    frame_out
    exact e.trans hp
  · rw [outsAt0_B m c t h]
    frame_out
    exact e.trans hp

/-- The running sum of the weight's gradient after point `n`. -/
theorem dg_run (c : Dev nD) (n : ℕ) (h : n < cfg0.N) (j : S1x1024.Idx) :
    ((outsAt0 m c n h).2 : FVec Ideal S1x1024 .f32) j
      = ∑ p ∈ Finset.range (n + 1), ∑ r : Fin 512, weight (xRow m c (row p r)) (dRow m c (row p r)) (j 1) := by
  induction n generalizing j with
  | zero =>
    rw [outsAt0_A m c ⟨0, h⟩ rfl]
    frame_out
    refine (dg_block m c ⟨0, h⟩ _ j).trans ?_
    rw [show (k0_pay4 (F := Ideal) j : EReal) = 0 from by pointwise [k0_pay4]]
    simp
  | succ n ih =>
    have h4 : n + 1 < 4 := lt_of_lt_of_eq h N_0
    rw [outsAt0_B m c ⟨n + 1, h⟩ (by simp; omega)]
    frame_out
    rw [Finset.sum_range_succ]
    refine (dg_block m c ⟨n + 1, h⟩ _ j).trans ?_
    exact congrArg (fun z : EReal => z + _) (ih (by omega) j)

theorem final_dg (c : Dev nD) : (dats m 0 c).arrAt 7 cfg0.N = fun (i : S1x1024.Idx) => dg m c (i 1) := by
  refine (dats m 0 c).arrAt_eq_of_after_last 7 t0_3 (by decide +kernel) _ fun j => ?_
  blk_simp
  rw [after0_7]
  refine (dg_run m c _ _ _).trans ?_
  exact rows_sum fun r => weight (xRow m c r) (dRow m c r) (j 1)

end Cert.RmsInIdeal.Hand
-- ==== Proof.RmsInRef.lean ====
/-
  The gradient of the first attention's norm with its product: what the reference computes.
-/
module

public import proofs.«01_k».proof.Proof.Gen.RmsInRefIdeal.Read
public import proofs.«01_k».proof.Proof.NormGrad
public import Idealize.ShloMosaic.Lib.Pipeline.ValueKit
public import Idealize.ShloMosaic.Lib.Claim
public import Idealize.ShloMosaic.Lib.KernelVsHost

@[expose] public section

set_option maxRecDepth 16384

noncomputable section

open Idealize.ShloMosaic Idealize.ShloMosaic.TcCoe Idealize.SL.Sem
open scoped BigOperators

namespace Cert.RmsInRefIdeal.Hand

open Cert.RmsInRefIdeal Cert.RmsInRefIdeal.Read Cert.NormGrad

variable (x : FVec Ideal S2048x1024 .f32) (g : FVec Ideal S1024 .f32) (w : FVec Ideal S1024x3088 .f32) (d : FVec Ideal S2048x3088 .f32) (res : FVec Ideal S2048x1024 .f32)

/-- The word of zero. -/
theorem word_zero : (FloatOps.ofBits (F := Ideal) .f32 0#32 : EReal) = 0 := Ideal.ofBits_zero_f32

/-- A row's mean square and scale. -/
theorem ms_at (r : Fin 2048) : (val_main_v6 (F := Ideal) x (ix2 r (0 : Fin 1)) : EReal) = meanSq fun k => x (ix2 r k) := by
  simp only [val_main_v6_apply, val_main_v5_apply, val_main_v4_apply, val_main_v3_apply, val_main_v2_apply, val_main_v1_apply, val_main_v0_apply,
    val_main_cst_apply, val_main_cst_0_apply, val_main_cst_1_apply]
  rw [word_zero, zero_add]
  unfold meanSq
  refine congrArg (fun s : EReal => Ideal.div s _ + _) (Finset.sum_congr rfl fun k _ => ?_)
  exact congrArg (fun z : EReal => z * z) (congrArg x (by funext a; fin_cases a <;> rfl))

theorem rs_at (r : Fin 2048) : (val_main_v7 (F := Ideal) x (ix2 r (0 : Fin 1)) : EReal) = scale fun k => x (ix2 r k) := by
  rw [val_main_v7_apply, ms_at]
  rfl

/-- The normed row without the weight. -/
theorem xn_at (r : Fin 2048) (l : Fin 1024) : (val_main_v12 (F := Ideal) x (ix2 r l) : EReal) = x (ix2 r l) * scale fun k => x (ix2 r k) := by
  rw [val_main_v12_apply, val_main_v11_apply, ← rs_at]
  exact congrArg (fun z : EReal => x (ix2 r l) * z) (congrArg (val_main_v7 (F := Ideal) x) (by funext a; fin_cases a <;> rfl))

/-- The gradient of the norm's output. -/
theorem d_at (r : Fin 2048) (l : Fin 1024) : (val_main_v17 (F := Ideal) w d (ix2 r l) : EReal) = ∑ k : Fin 3088, d (ix2 r k) * w (ix2 l k) := by
  rw [val_main_v17_apply]
  exact Finset.sum_congr rfl fun k _ => congrArg₂ (fun a b : EReal => a * b) (congrArg d (by funext a; fin_cases a <;> rfl)) (congrArg w (by funext a; fin_cases a <;> rfl))

/-- The second result: the gradient of the norm's weight. -/
theorem dg_at (D : Fin 2048 → Fin 1024 → EReal) (hD : ∀ r l, (val_main_v17 (F := Ideal) w d (ix2 r l) : EReal) = D r l) (l : Fin 1024) :
    (val_main_v39 (F := Ideal) x w d (ix2 (0 : Fin 1) l) : EReal) = ∑ r : Fin 2048, weight (fun k => x (ix2 r k)) (D r) l := by
  simp only [val_main_v39_apply, val_main_v23_apply, val_main_v20_apply, val_main_v19_apply, val_main_cst_3_apply, val_main_cst_4_apply]
  rw [word_zero, zero_add, Fin.sum_univ_one, zero_add]
  refine Finset.sum_congr rfl fun r _ => ?_
  rw [val_main_v18_apply]
  rw [show idx_main_v19 (idx_main_v20 (idx_main_v23 (idx_main_v39 (ix2 (0 : Fin 1) l)) 0)) r = ix2 r l from by
    funext a; apply Fin.ext; fin_cases a <;> simp [idx_main_v39, idx_main_v23, idx_main_v20, idx_main_v19]]
  exact congrArg₂ (fun a b : EReal => a * b) (xn_at x r l) (hD r l)

/-- The gradient that reaches a row's squares. -/
theorem pull_at (D : Fin 2048 → Fin 1024 → EReal) (hD : ∀ r l, (val_main_v17 (F := Ideal) w d (ix2 r l) : EReal) = D r l) (r : Fin 2048) (l : Fin 1024) :
    (val_main_v33 (F := Ideal) x g w d (ix2 r l) : EReal) = pull (fun k => x (ix2 r k)) (fun k => g (ix1 k)) (D r) := by
  simp only [val_main_v33_apply, val_main_v32_apply, val_main_cst_7_apply]
  rw [word_zero, zero_add, Fin.sum_univ_one]
  have e : ∀ i : S2048x1.Idx, i = ix2 r (0 : Fin 1) → (val_main_v31 (F := Ideal) x g w d i : EReal) = pull (fun k => x (ix2 r k)) (fun k => g (ix1 k)) (D r) := fun i hi => by
    rw [hi]
    simp only [val_main_v31_apply, val_main_v30_apply, val_main_v29_apply, val_main_v26_apply, val_main_v25_apply, val_main_v10_apply, val_main_v9_apply,
      val_main_v8_apply, val_main_cst_2_apply, val_main_cst_5_apply, val_main_cst_6_apply]
    rw [word_zero, zero_add, ms_at, rs_at]
    unfold pull
    refine congrArg (fun s : EReal => Ideal.div (s * _) _) (Finset.sum_congr rfl fun k _ => ?_)
    simp only [val_main_v24_apply, val_main_v22_apply, val_main_v21_apply, val_main_v13_apply]
    rw [show idx_main_v25 (idx_main_v26 (ix2 r (0 : Fin 1))) k = ix2 r k from by
      funext a; apply Fin.ext; fin_cases a <;> simp [idx_main_v25, idx_main_v26]]
    exact congrArg₂ (fun a b : EReal => x (ix2 r k) * (a * b)) (hD r k) (congrArg g (by funext a; fin_cases a <;> rfl))
  exact e _ (by funext a; fin_cases a <;> rfl)

/-- The first result: the gradient of the norm's input, with the residual's. -/
theorem dx_at (D : Fin 2048 → Fin 1024 → EReal) (hD : ∀ r l, (val_main_v17 (F := Ideal) w d (ix2 r l) : EReal) = D r l) (r : Fin 2048) (l : Fin 1024) :
    (val_main_v38 (F := Ideal) x g w d res (ix2 r l) : EReal)
      = res (ix2 r l) + grad (fun k => x (ix2 r k)) (fun k => g (ix1 k)) (D r) l := by
  simp only [val_main_v38_apply, val_main_v37_apply, val_main_v36_apply, val_main_v35_apply, val_main_v34_apply, val_main_v28_apply, val_main_v27_apply,
    val_main_v22_apply, val_main_v21_apply, val_main_v13_apply]
  rw [pull_at x g w d D hD r l, hD r l, show idx_main_v27 (ix2 r l) = ix2 r (0 : Fin 1) from by funext a; fin_cases a <;> rfl, rs_at]
  exact congrArg (fun z : EReal => res (ix2 r l) + (D r l * z * _ + _ + _)) (congrArg g (by funext a; fin_cases a <;> rfl))

end Cert.RmsInRefIdeal.Hand
-- ==== Proof.RmsInClaim.lean ====
/-
  The claims about the gradient of the first attention's norm with its product, put together.
-/
module

public import proofs.«01_k».proof.Defs
public import proofs.«01_k».proof.Proof.Gen.RmsIn.Frame
public import proofs.«01_k».proof.Proof.Gen.RmsInRefIdeal.Run
public import proofs.«01_k».proof.Proof.RmsInValue
public import proofs.«01_k».proof.Proof.RmsInRef

@[expose] public section

set_option maxRecDepth 16384

noncomputable section

open Idealize.ShloMosaic Idealize.ShloMosaic.TcCoe Idealize.SL.Sem

namespace Cert.RmsInIdeal.Hand

open Cert.RmsInIdeal Cert.RmsInIdeal.Gen

variable (m : (ℓ : Loc nD τ sig) → Buf (Elt Ideal) ℓ)

/-- The reference's first result is the kernel's. -/
theorem ref_dx (c : Dev nD) :
    Cert.RmsInRefIdeal.Read.val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = fun (i : S2048x1024.Idx) => dx m c (i 0) (i 1) := by
  funext i
  idx_vars i
  exact Cert.RmsInRefIdeal.Hand.dx_at _ _ _ _ _ (dRow m c) (Cert.RmsInRefIdeal.Hand.d_at _ _) i0 i1

/-- The reference's second result is the kernel's. -/
theorem ref_dg (c : Dev nD) :
    Cert.RmsInRefIdeal.Read.val_main_v39 (F := Ideal) (m ((c : Thread nD τ).loc main_arg0)) (m ((c : Thread nD τ).loc main_arg2)) (m ((c : Thread nD τ).loc main_arg3))
      = fun (i : S1x1024.Idx) => dg m c (i 1) := by
  funext i
  idx_vars i
  obtain rfl : i0 = 0 := Subsingleton.elim _ _
  exact Cert.RmsInRefIdeal.Hand.dg_at _ _ _ (dRow m c) (Cert.RmsInRefIdeal.Hand.d_at _ _) i1

end Cert.RmsInIdeal.Hand

namespace Cert.RmsInClaim

open Cert.RmsInIdeal.Hand

/-- The call terminates without a fault and leaves its arguments alone; so do its ideal reading and the reference. -/
theorem frame_kernel : Cert.quiescent_RmsIn := fun m ρ _ => Cert.RmsIn.Gen.frame m ρ

theorem frame_ideal : Cert.quiescent_RmsInIdeal := fun m ρ _ => Cert.RmsInIdeal.Gen.frame m ρ

theorem frame_reference : Cert.quiescent_RmsInRefIdeal := fun m ρ _ =>
  (θ_run _ _ _).mono (fun r h => ⟨fun c => (h c).2.2, sem_eq_zero_of_no_sems rfl r.2⟩) (Cert.RmsInRefIdeal.Value.run m ρ)

/-- The kernel's two results are the reference's. -/
theorem algebraic : Cert.algebraic_RmsInIdeal_RmsInRefIdeal := by
  pair_intro
  · run_from Cert.RmsInIdeal.Value.run_blocks m g
  · run_from Cert.RmsInRefIdeal.Value.run m' g'
    · rw [Cert.RmsInRefIdeal.Read.val_main_v38_eq (F := Ideal) m' c, (hagree c).1, (hagree c).2.1, (hagree c).2.2.1, (hagree c).2.2.2.1, (hagree c).2.2.2.2]
      exact (ref_dx m c).trans (final_dx m c).symm
    · refine (Cert.RmsInRefIdeal.Read.val_main_v39_eq (F := Ideal) _ _ _).trans ?_
      exact (ref_dg m c).trans (final_dg m c).symm

end Cert.RmsInClaim
-- ==== Proof.MatResClaim.lean ====
/-
  The feed-forward layers' last product, added to the residual stream: the claims.
-/
module

public import proofs.«01_k».proof.Defs
public import proofs.«01_k».proof.Proof.Gen.MatRes.Frame
public import proofs.«01_k».proof.Proof.Gen.MatResIdeal.Value
public import proofs.«01_k».proof.Proof.Gen.MatResRefIdeal.Run
public import proofs.«01_k».proof.Proof.Gen.MatResRefIdeal.Read
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.MatResClaim

open Cert.MatResIdeal Cert.MatResIdeal.Gen

variable (m : (ℓ : Loc nD τ sig) → Buf (Elt Ideal) ℓ) (c : Dev nD)

/-- The arguments, as the program finds them. -/
def aArr : FVec Ideal S2048x4096 .f32 := m ((c : Thread nD τ).loc main_arg0)
def wArr : FVec Ideal S4096x1024 .f32 := m ((c : Thread nD τ).loc main_arg1)
def hArr : FVec Ideal S2048x1024 .f32 := m ((c : Thread nD τ).loc main_arg2)

/-- The result. -/
def out (i : S2048x1024.Idx) : EReal := (hArr m c i : EReal) + ∑ k : Fin 4096, (aArr m c (ix2 (i 0) k) : EReal) * wArr m c (ix2 k (i 1))

theorem pay_apply (h : FVec Ideal S1024x512 .f32) (a : FVec Ideal S1024x4096 .bf16) (w : FVec Ideal S4096x512 .bf16) (y : S1024x512.Idx) :
    (k0_pay1 (F := Ideal) h a w y : EReal) = h y + ∑ k : Fin 4096, a (ix2 (y 0) k) * w (ix2 k (y 1)) := by
  idx_vars y
  pointwise [k0_pay1]

/-- The blocks' places. -/
theorem places : ∀ t : Fin cfg0.N, win0_0.index t = ![t.val / 2, 0] ∧ win0_1.index t = ![0, t.val % 2] ∧ win0_2.index t = ![t.val / 2, t.val % 2]
    ∧ win0_3.index t = ![t.val / 2, t.val % 2] :=
  (by decide +kernel : ∀ t : Fin grid0.N, _)

/-- The host lines cast the activation and the weight. -/
theorem entry_a (i : S2048x4096.Idx) : ((V m c main_v0 : FVec Ideal S2048x4096 .bf16) i : EReal) = aArr m c i := by
  unfold_abbrev_sides
  after_reads_at
  rfl

theorem entry_w (i : S4096x1024.Idx) : ((V m c main_v1 : FVec Ideal S4096x1024 .bf16) i : EReal) = wArr m c i := by
  unfold_abbrev_sides
  after_reads_at
  rfl

/-- The result array, whole. -/
theorem final : (dats m 0 c).arrAt 3 cfg0.N = fun (i : S2048x1024.Idx) => out m c i := by
  refine (dats m 0 c).arrAt_eq_of_covers 3 _ (by decide +kernel) fun t hf y => ?_
  have ht : t.val < 4 := lt_of_lt_of_eq t.isLt N_0
  blk_simp
  rw [after0_3]
  unfold out0_3
  frame_out
  idx_vars y
  refine (pay_apply _ _ _ _).trans ?_
  unfold out
  refine congrArg₂ (fun a b : EReal => a + b) (congrArg (hArr m c) ?_) (Finset.sum_congr rfl fun k _ =>
    congrArg₂ (fun a b : EReal => a * b) ((entry_a m c _).trans (congrArg (aArr m c) ?_)) ((entry_w m c _).trans (congrArg (wArr m c) ?_))) <;>
  · funext a
    apply Fin.ext
    fin_cases a <;> blk_simp [places t] <;> simp [places t]

/-- The reference's result is the kernel's. -/
theorem same : Cert.MatResRefIdeal.Read.val_main_v1 (F := Ideal) (m ((c : Thread nD τ).loc main_arg0)) (m ((c : Thread nD τ).loc main_arg1)) (m ((c : Thread nD τ).loc main_arg2))
      = (dats m 0 c).arrAt 3 cfg0.N := by
  refine Eq.trans ?_ (final m c).symm
  funext i
  idx_vars i
  rw [Cert.MatResRefIdeal.Read.val_main_v1_apply, Cert.MatResRefIdeal.Read.val_main_v0_apply]
  refine congrArg (fun s : EReal => hArr m c (ix2 i0 i1) + s) (Finset.sum_congr rfl fun k _ =>
    congrArg₂ (fun a b : EReal => a * b) (congrArg (aArr m c) ?_) (congrArg (wArr m c) ?_)) <;> funext a <;> fin_cases a <;> rfl

/-- The call terminates without a fault and leaves its arguments alone; so over the extended reals, and so does the reference. -/
theorem frame_kernel : Cert.quiescent_MatRes := fun m ρ _ => Cert.MatRes.Gen.frame m ρ

theorem frame_ideal : Cert.quiescent_MatResIdeal := fun m ρ _ => Cert.MatResIdeal.Gen.frame m ρ

theorem frame_reference : Cert.quiescent_MatResRefIdeal := fun m ρ _ =>
  (θ_run _ _ _).mono (fun r h => ⟨fun c => (h c).2, sem_eq_zero_of_no_sems rfl r.2⟩) (Cert.MatResRefIdeal.Value.run m ρ)

/-- The kernel's result is the reference's. -/
theorem algebraic : Cert.algebraic_MatResIdeal_MatResRefIdeal := by
  pair_intro
  · run_from Cert.MatResIdeal.Value.run_blocks m g
  · run_from Cert.MatResRefIdeal.Value.run m' g'
    refine (Cert.MatResRefIdeal.Read.val_main_v1_eq (F := Ideal) _ _ _).trans ?_
    exact same m c

end Cert.MatResClaim
-- ==== Proof.MatNtClaim.lean ====
/-
  The gradient of the attention's output, a product with the transposed weight: the claims.
-/
module

public import proofs.«01_k».proof.Defs
public import proofs.«01_k».proof.Proof.Gen.MatNt.Frame
public import proofs.«01_k».proof.Proof.Gen.MatNtIdeal.Value
public import proofs.«01_k».proof.Proof.Gen.MatNtRefIdeal.Run
public import proofs.«01_k».proof.Proof.Gen.MatNtRefIdeal.Read
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.MatNtClaim

open Cert.MatNtIdeal Cert.MatNtIdeal.Gen

variable (m : (ℓ : Loc nD τ sig) → Buf (Elt Ideal) ℓ) (c : Dev nD)

/-- The arguments, as the program finds them. -/
def dArr : FVec Ideal S2048x1024 .f32 := m ((c : Thread nD τ).loc main_arg0)
def wArr : FVec Ideal S1024x1024 .f32 := m ((c : Thread nD τ).loc main_arg1)

/-- The result. -/
def out (i : S2048x1024.Idx) : EReal := ∑ k : Fin 1024, (dArr m c (ix2 (i 0) k) : EReal) * wArr m c (ix2 (i 1) k)

theorem pay_apply (d w : FVec Ideal S1024x1024 .bf16) (y : S1024x1024.Idx) :
    (k0_pay1 (F := Ideal) d w y : EReal) = ∑ k : Fin 1024, d (ix2 (y 0) k) * w (ix2 (y 1) k) := by
  idx_vars y
  pointwise [k0_pay1]

/-- The blocks' places. -/
theorem places : ∀ t : Fin cfg0.N, win0_0.index t = ![t.val, 0] ∧ win0_1.index t = ![0, 0] ∧ win0_2.index t = ![t.val, 0] :=
  (by decide +kernel : ∀ t : Fin grid0.N, _)

/-- The host lines cast both. -/
theorem entry_d (i : S2048x1024.Idx) : ((V m c main_v0 : FVec Ideal S2048x1024 .bf16) i : EReal) = dArr m c i := by
  unfold_abbrev_sides
  after_reads_at
  rfl

theorem entry_w (i : S1024x1024.Idx) : ((V m c main_v1 : FVec Ideal S1024x1024 .bf16) i : EReal) = wArr m c i := by
  unfold_abbrev_sides
  after_reads_at
  rfl

/-- The result array, whole. -/
theorem final : (dats m 0 c).arrAt 2 cfg0.N = fun (i : S2048x1024.Idx) => out m c i := by
  refine (dats m 0 c).arrAt_eq_of_covers 2 _ (by decide +kernel) fun t hf y => ?_
  have ht : t.val < 2 := lt_of_lt_of_eq t.isLt N_0
  blk_simp
  rw [after0_2]
  unfold out0_2
  frame_out
  idx_vars y
  refine (pay_apply _ _ _).trans ?_
  unfold out
  refine Finset.sum_congr rfl fun k _ =>
    congrArg₂ (fun a b : EReal => a * b) ((entry_d m c _).trans (congrArg (dArr m c) ?_)) ((entry_w m c _).trans (congrArg (wArr m c) ?_)) <;>
  · funext a
    apply Fin.ext
    fin_cases a <;> blk_simp [places t] <;> simp [places t]

/-- The reference's result is the kernel's. -/
theorem same : Cert.MatNtRefIdeal.Read.val_main_v3 (F := Ideal) (m ((c : Thread nD τ).loc main_arg0)) (m ((c : Thread nD τ).loc main_arg1)) = (dats m 0 c).arrAt 2 cfg0.N := by
  refine Eq.trans ?_ (final m c).symm
  funext i
  idx_vars i
  rw [Cert.MatNtRefIdeal.Read.val_main_v3_apply]
  refine (Cert.MatNtRefIdeal.Read.val_main_v2_apply _ _ _).trans ?_
  refine Finset.sum_congr rfl fun k _ =>
    congrArg₂ (fun a b : EReal => a * b) (congrArg (dArr m c) ?_) (congrArg (wArr m c) ?_) <;> funext a <;> fin_cases a <;> rfl

/-- The call terminates without a fault and leaves its arguments alone; so over the extended reals, and so does the reference. -/
theorem frame_kernel : Cert.quiescent_MatNt := fun m ρ _ => Cert.MatNt.Gen.frame m ρ

theorem frame_ideal : Cert.quiescent_MatNtIdeal := fun m ρ _ => Cert.MatNtIdeal.Gen.frame m ρ

theorem frame_reference : Cert.quiescent_MatNtRefIdeal := fun m ρ _ =>
  (θ_run _ _ _).mono (fun r h => ⟨fun c => (h c).2, sem_eq_zero_of_no_sems rfl r.2⟩) (Cert.MatNtRefIdeal.Value.run m ρ)

/-- The kernel's result is the reference's. -/
theorem algebraic : Cert.algebraic_MatNtIdeal_MatNtRefIdeal := by
  pair_intro
  · run_from Cert.MatNtIdeal.Value.run_blocks m g
  · run_from Cert.MatNtRefIdeal.Value.run m' g'
    refine (Cert.MatNtRefIdeal.Read.val_main_v3_eq (F := Ideal) _ _).trans ?_
    exact same m c

end Cert.MatNtClaim
-- ==== Proof.MatTnClaim.lean ====
/-
  The gradient of a feed-forward layer's last weight, a product over the rows: the claims.
-/
module

public import proofs.«01_k».proof.Defs
public import proofs.«01_k».proof.Proof.Gen.MatTn.Frame
public import proofs.«01_k».proof.Proof.Gen.MatTnIdeal.Value
public import proofs.«01_k».proof.Proof.Gen.MatTnRefIdeal.Run
public import proofs.«01_k».proof.Proof.Gen.MatTnRefIdeal.Read
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.MatTnClaim

open Cert.MatTnIdeal Cert.MatTnIdeal.Gen

variable (m : (ℓ : Loc nD τ sig) → Buf (Elt Ideal) ℓ) (c : Dev nD)

/-- The arguments, as the program finds them. -/
def aArr : FVec Ideal S2048x4096 .f32 := m ((c : Thread nD τ).loc main_arg0)
def dArr : FVec Ideal S2048x1024 .f32 := m ((c : Thread nD τ).loc main_arg1)

/-- The result. -/
def out (i : S4096x1024.Idx) : EReal := ∑ k : Fin 2048, (aArr m c (ix2 k (i 0)) : EReal) * dArr m c (ix2 k (i 1))

theorem pay_apply (a d : FVec Ideal S2048x1024 .bf16) (y : S1024x1024.Idx) :
    (k0_pay1 (F := Ideal) a d y : EReal) = ∑ k : Fin 2048, a (ix2 k (y 0)) * d (ix2 k (y 1)) := by
  idx_vars y
  pointwise [k0_pay1]

/-- The blocks' places. -/
theorem places : ∀ t : Fin cfg0.N, win0_0.index t = ![0, t.val] ∧ win0_1.index t = ![0, 0] ∧ win0_2.index t = ![t.val, 0] :=
  (by decide +kernel : ∀ t : Fin grid0.N, _)

/-- The host lines cast both. -/
theorem entry_a (i : S2048x4096.Idx) : ((V m c main_v0 : FVec Ideal S2048x4096 .bf16) i : EReal) = aArr m c i := by
  unfold_abbrev_sides
  after_reads_at
  rfl

theorem entry_d (i : S2048x1024.Idx) : ((V m c main_v1 : FVec Ideal S2048x1024 .bf16) i : EReal) = dArr m c i := by
  unfold_abbrev_sides
  after_reads_at
  rfl

/-- The result array, whole. -/
theorem final : (dats m 0 c).arrAt 2 cfg0.N = fun (i : S4096x1024.Idx) => out m c i := by
  refine (dats m 0 c).arrAt_eq_of_covers 2 _ (by decide +kernel) fun t hf y => ?_
  have ht : t.val < 4 := lt_of_lt_of_eq t.isLt N_0
  blk_simp
  rw [after0_2]
  unfold out0_2
  frame_out
  idx_vars y
  refine (pay_apply _ _ _).trans ?_
  unfold out
  refine Finset.sum_congr rfl fun k _ =>
    congrArg₂ (fun a b : EReal => a * b) ((entry_a m c _).trans (congrArg (aArr m c) ?_)) ((entry_d m c _).trans (congrArg (dArr m c) ?_)) <;>
  · funext a
    apply Fin.ext
    fin_cases a <;> blk_simp [places t] <;> simp [places t]

/-- The reference's result is the kernel's: it multiplies in the other order and transposes. -/
theorem same : Cert.MatTnRefIdeal.Read.val_main_v4 (F := Ideal) (m ((c : Thread nD τ).loc main_arg0)) (m ((c : Thread nD τ).loc main_arg1)) = (dats m 0 c).arrAt 2 cfg0.N := by
  refine Eq.trans ?_ (final m c).symm
  funext i
  idx_vars i
  rw [Cert.MatTnRefIdeal.Read.val_main_v4_apply]
  refine (Cert.MatTnRefIdeal.Read.val_main_v3_apply _ _ _).trans ((Cert.MatTnRefIdeal.Read.val_main_v2_apply _ _ _).trans ?_)
  refine Finset.sum_congr rfl fun k _ => (mul_comm _ _).trans
    (congrArg₂ (fun a b : EReal => a * b) (congrArg (aArr m c) ?_) (congrArg (dArr m c) ?_)) <;> funext a <;> fin_cases a <;> rfl

/-- The call terminates without a fault and leaves its arguments alone; so over the extended reals, and so does the reference. -/
theorem frame_kernel : Cert.quiescent_MatTn := fun m ρ _ => Cert.MatTn.Gen.frame m ρ

theorem frame_ideal : Cert.quiescent_MatTnIdeal := fun m ρ _ => Cert.MatTnIdeal.Gen.frame m ρ

theorem frame_reference : Cert.quiescent_MatTnRefIdeal := fun m ρ _ =>
  (θ_run _ _ _).mono (fun r h => ⟨fun c => (h c).2, sem_eq_zero_of_no_sems rfl r.2⟩) (Cert.MatTnRefIdeal.Value.run m ρ)

/-- The kernel's result is the reference's. -/
theorem algebraic : Cert.algebraic_MatTnIdeal_MatTnRefIdeal := by
  pair_intro
  · run_from Cert.MatTnIdeal.Value.run_blocks m g
  · run_from Cert.MatTnRefIdeal.Value.run m' g'
    refine (Cert.MatTnRefIdeal.Read.val_main_v4_eq (F := Ideal) _ _).trans ?_
    exact same m c

end Cert.MatTnClaim
-- ==== Proof.AdamClaim.lean ====
/-
  The optimiser: the sum over the devices of the gradient and the AdamW step, one matrix: the claims.
-/
module

public import proofs.«01_k».proof.Defs
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.AdamClaim

open Cert.AdamIdeal Cert.AdamIdeal.Gen

variable (m : (ℓ : Loc nD τ sig) → Buf (Elt Ideal) ℓ) (c : Dev nD)

/-- The arguments, as the program finds them. -/
def pArr : FVec Ideal S8x128x1024 .f32 := m ((c : Thread nD τ).loc main_arg0)
def wArr : FVec Ideal S1x128x1024 .f32 := m ((c : Thread nD τ).loc main_arg1)
def mArr : FVec Ideal S1x128x1024 .f32 := m ((c : Thread nD τ).loc main_arg2)
def vArr : FVec Ideal S1x128x1024 .f32 := m ((c : Thread nD τ).loc main_arg3)

/-- The new first moment, of the gradient and the old one. -/
def newM (g x : Ideal .f32) : Ideal .f32 :=
  FloatOps.addf (FloatOps.mulf (FloatOps.ofBits .f32 0x3F666666#32) x) (FloatOps.mulf (FloatOps.ofBits .f32 0x3DCCCCCD#32) g)

/-- The new second moment. -/
def newV (g x : Ideal .f32) : Ideal .f32 :=
  FloatOps.addf (FloatOps.mulf (FloatOps.ofBits .f32 0x3F7FBE77#32) x) (FloatOps.mulf (FloatOps.ofBits .f32 0x3A83126F#32) (FloatOps.mulf g g))

/-- The update, of the gradient, the weight and the old moments. -/
def step (g w x v : Ideal .f32) : Ideal .f32 :=
  FloatOps.mulf (FloatOps.ofBits .f32 0xBA83126F#32) (FloatOps.addf
    (FloatOps.hostDivf (FloatOps.hostDivf (newM g x) (FloatOps.ofBits .f32 0x3F26BD02#32))
      (FloatOps.addf (FloatOps.hostUnary .sqrt (FloatOps.hostDivf (newV g v) (FloatOps.ofBits .f32 0x3C231ACC#32))) (FloatOps.ofBits .f32 0x322BCC77#32)))
    (FloatOps.mulf (FloatOps.ofBits .f32 0x3C23D70A#32) w))

/-- The gradient: the sum over the devices. -/
def grad (i : S1x128x1024.Idx) : EReal := ∑ d : Fin 8, (pArr m c (ix3 d (i 1) (i 2)) : EReal)

theorem pay_m (g : FVec Ideal S128x1024 .f32) (x : FVec Ideal S1x128x1024 .f32) (y : S1x128x1024.Idx) :
    (k0_pay1 (k0_pay5 (F := Ideal) g x) y : Ideal .f32) = newM (g (ix2 (y 1) (y 2))) (x y) := by
  idx_vars y
  obtain rfl : y0 = 0 := Subsingleton.elim _ _
  pointwise [k0_pay1, k0_pay5]
  rfl

theorem pay_v (g : FVec Ideal S128x1024 .f32) (x : FVec Ideal S1x128x1024 .f32) (y : S1x128x1024.Idx) :
    (k0_pay2 (k0_pay6 (F := Ideal) g x) y : Ideal .f32) = newV (g (ix2 (y 1) (y 2))) (x y) := by
  idx_vars y
  obtain rfl : y0 = 0 := Subsingleton.elim _ _
  pointwise [k0_pay2, k0_pay6]
  rfl

theorem pay_g (g : FVec Ideal S128x1024 .f32) (y : S1x128x1024.Idx) :
    (k0_pay4 (F := Ideal) g y : Ideal .f32) = g (ix2 (y 1) (y 2)) := by
  idx_vars y
  obtain rfl : y0 = 0 := Subsingleton.elim _ _
  pointwise [k0_pay4]

theorem pay_d (g : FVec Ideal S128x1024 .f32) (w x v : FVec Ideal S1x128x1024 .f32) (y : S1x128x1024.Idx) :
    (k0_pay7 (F := Ideal) g w x v y : Ideal .f32) = step (g (ix2 (y 1) (y 2))) (w y) (x y) (v y) := by
  idx_vars y
  obtain rfl : y0 = 0 := Subsingleton.elim _ _
  pointwise [k0_pay7, k0_pay5, k0_pay6]
  rfl

theorem pay_s (a0 a1 a2 a3 a4 a5 a6 a7 : FVec Ideal S1x128x1024 .bf16) (i : S128x1024.Idx) :
    (k0_pay3 (F := Ideal) a0 a1 a2 a3 a4 a5 a6 a7 i : EReal) = a0 (ix3 0 (i 0) (i 1)) + a1 (ix3 0 (i 0) (i 1)) + a2 (ix3 0 (i 0) (i 1))
      + a3 (ix3 0 (i 0) (i 1)) + a4 (ix3 0 (i 0) (i 1)) + a5 (ix3 0 (i 0) (i 1)) + a6 (ix3 0 (i 0) (i 1)) + a7 (ix3 0 (i 0) (i 1)) := by
  idx_vars i
  pointwise [k0_pay3]

/-- The host line casts the devices' parts. -/
theorem entry_p (i : S8x128x1024.Idx) : ((V m c main_v0 : FVec Ideal S8x128x1024 .bf16) i : EReal) = pArr m c i := by
  unfold_abbrev_sides
  after_reads_at
  rfl

/-- The blocks' places. -/
theorem places : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0] ∧ win0_7.index t = ![0, 0, 0] :=
  (by decide +kernel : ∀ t : Fin grid0.N, _)

/-- The kernel adds the devices' parts one after another. -/
theorem grad_blk (t : Fin cfg0.N) (i : S128x1024.Idx) :
    (k0_pay8 (F := Ideal) (iblk m c 0 t) (iblk m c 1 t) (iblk m c 2 t) (iblk m c 3 t) i : EReal) = grad m c (ix3 0 (i 0) (i 1)) := by
  idx_vars i
  unfold k0_pay8
  refine (pay_s _ _ _ _ _ _ _ _ _).trans ?_
  unfold grad
  rw [Fin.sum_univ_eight]
  have h (j k : S8x128x1024.Idx) (e : j = k) : ((V m c main_v0 : FVec Ideal S8x128x1024 .bf16) j : EReal) = pArr m c k := e ▸ entry_p m c j
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) (h _ _ ?_) (h _ _ ?_)) (h _ _ ?_)) (h _ _ ?_)) (h _ _ ?_)) (h _ _ ?_)) (h _ _ ?_)) (h _ _ ?_) <;>
  · funext a
    apply Fin.ext
    fin_cases a <;> blk_simp [places t] <;> simp [places t]

/-- The four result arrays, whole. -/
theorem final_g : (dats m 0 c).arrAt 4 cfg0.N = fun (i : S1x128x1024.Idx) => grad m c i := by
  refine (dats m 0 c).arrAt_eq_of_covers 4 _ (by decide +kernel) fun t hf y => ?_
  blk_simp
  rw [after0_4]
  unfold out0_4
  frame_out
  refine (pay_g _ _).trans ((grad_blk m c t _).trans (congrArg (grad m c) ?_))
  idx_vars y
  obtain rfl : y0 = 0 := Subsingleton.elim _ _
  funext a
  apply Fin.ext
  fin_cases a <;> blk_simp [places t] <;> simp [places t]

theorem final_d : (dats m 0 c).arrAt 5 cfg0.N
    = fun (i : S1x128x1024.Idx) => step (grad m c i) (wArr m c i) (mArr m c i) (vArr m c i) := by
  refine (dats m 0 c).arrAt_eq_of_covers 5 _ (by decide +kernel) fun t hf y => ?_
  blk_simp
  rw [after0_5]
  unfold out0_5
  frame_out
  refine (pay_d _ _ _ _ _).trans ?_
  idx_vars y
  obtain rfl : y0 = 0 := Subsingleton.elim _ _
  refine (congr (congr (congrArg₂ step ((grad_blk m c t _).trans (congrArg (grad m c) ?_)) (congrArg (wArr m c) ?_)) (congrArg (mArr m c) ?_)) (congrArg (vArr m c) ?_)) <;>
  · funext a
    apply Fin.ext
    fin_cases a <;> blk_simp [places t] <;> simp [places t]

theorem final_m : (dats m 0 c).arrAt 6 cfg0.N = fun (i : S1x128x1024.Idx) => newM (grad m c i) (mArr m c i) := by
  refine (dats m 0 c).arrAt_eq_of_covers 6 _ (by decide +kernel) fun t hf y => ?_
  blk_simp
  rw [after0_6]
  unfold out0_6
  frame_out
  refine (pay_m _ _ _).trans ?_
  idx_vars y
  obtain rfl : y0 = 0 := Subsingleton.elim _ _
  refine congrArg₂ newM ((grad_blk m c t _).trans (congrArg (grad m c) ?_)) (congrArg (mArr m c) ?_) <;>
  · funext a
    apply Fin.ext
    fin_cases a <;> blk_simp [places t] <;> simp [places t]

theorem final_v : (dats m 0 c).arrAt 7 cfg0.N = fun (i : S1x128x1024.Idx) => newV (grad m c i) (vArr m c i) := by
  refine (dats m 0 c).arrAt_eq_of_covers 7 _ (by decide +kernel) fun t hf y => ?_
  blk_simp
  rw [after0_7]
  unfold out0_7
  frame_out
  refine (pay_v _ _ _).trans ?_
  idx_vars y
  obtain rfl : y0 = 0 := Subsingleton.elim _ _
  refine congrArg₂ newV ((grad_blk m c t _).trans (congrArg (grad m c) ?_)) (congrArg (vArr m c) ?_) <;>
  · funext a
    apply Fin.ext
    fin_cases a <;> blk_simp [places t] <;> simp [places t]

/-! ## The reference -/

theorem ref_grad (i : S1x128x1024.Idx) : (Cert.AdamRefIdeal.Read.val_main_v1 (F := Ideal) (pArr m c) i : EReal) = grad m c i := by
  rw [Cert.AdamRefIdeal.Read.val_main_v1_apply, Cert.AdamRefIdeal.Read.val_main_v0_apply]
  refine (congrArg (fun z : EReal => z + _) (show (FloatOps.ofBits (F := Ideal) .f32 0x00000000#32 : EReal) = 0 from Ideal.ofBits_zero_f32)).trans ((zero_add _).trans ?_)
  refine Finset.sum_congr rfl fun k _ => congrArg (pArr m c) ?_
  funext a
  fin_cases a <;> rfl

theorem same_g : Cert.AdamRefIdeal.Read.val_main_v1 (F := Ideal) (pArr m c) = (dats m 0 c).arrAt 4 cfg0.N :=
  (funext fun i => ref_grad m c i).trans (final_g m c).symm

theorem same_m : Cert.AdamRefIdeal.Read.val_main_v6 (F := Ideal) (pArr m c) (mArr m c) = (dats m 0 c).arrAt 6 cfg0.N :=
  (funext fun i => congrArg (fun g : Ideal .f32 => newM g (mArr m c i)) (ref_grad m c i)).trans (final_m m c).symm

theorem same_v : Cert.AdamRefIdeal.Read.val_main_v12 (F := Ideal) (pArr m c) (vArr m c) = (dats m 0 c).arrAt 7 cfg0.N :=
  (funext fun i => congrArg (fun g : Ideal .f32 => newV g (vArr m c i)) (ref_grad m c i)).trans (final_v m c).symm

theorem same_d : Cert.AdamRefIdeal.Read.val_main_v25 (F := Ideal) (pArr m c) (wArr m c) (mArr m c) (vArr m c) = (dats m 0 c).arrAt 5 cfg0.N :=
  (funext fun i => congrArg (fun g : Ideal .f32 => step g (wArr m c i) (mArr m c i) (vArr m c i)) (ref_grad m c i)).trans (final_d m c).symm

/-- The call terminates without a fault and leaves its arguments alone; so over the extended reals, and so does the reference. -/
theorem frame_kernel : Cert.quiescent_Adam := fun m ρ _ => Cert.Adam.Gen.frame m ρ

theorem frame_ideal : Cert.quiescent_AdamIdeal := fun m ρ _ => Cert.AdamIdeal.Gen.frame m ρ

theorem frame_reference : Cert.quiescent_AdamRefIdeal := fun m ρ _ =>
  (θ_run _ _ _).mono (fun r h => ⟨fun c => (h c).2.2.2.2, sem_eq_zero_of_no_sems rfl r.2⟩) (Cert.AdamRefIdeal.Value.run m ρ)

set_option maxHeartbeats 4000000 in
/-- The kernel's results are the reference's. -/
theorem algebraic : Cert.algebraic_AdamIdeal_AdamRefIdeal := by
  pair_intro
  · run_from Cert.AdamIdeal.Value.run_blocks m g
  · run_from Cert.AdamRefIdeal.Value.run m' g'
    · exact (Cert.AdamRefIdeal.Read.val_main_v1_eq (F := Ideal) _).trans (same_g m c)
    · refine (Cert.AdamRefIdeal.Read.val_main_v25_eq (F := Ideal) _ _ _ _).trans ?_
      exact same_d m c
    · exact (Cert.AdamRefIdeal.Read.val_main_v6_eq (F := Ideal) _ _).trans (same_m m c)
    · exact (Cert.AdamRefIdeal.Read.val_main_v12_eq (F := Ideal) _ _).trans (same_v m c)

end Cert.AdamClaim
-- ==== Proof.JoinClaim.lean ====
/-
  The join of the row blocks of the input projection, one of each device: the claims.
-/
module

public import proofs.«01_k».proof.Defs
public import proofs.«01_k».proof.Proof.Gen.Join.Frame
public import proofs.«01_k».proof.Proof.Gen.JoinIdeal.Value
public import proofs.«01_k».proof.Proof.Gen.JoinRefIdeal.Run
public import proofs.«01_k».proof.Proof.Gen.JoinRefIdeal.Read
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.JoinClaim

open Cert.JoinIdeal Cert.JoinIdeal.Gen

variable (m : (ℓ : Loc nD τ sig) → Buf (Elt Ideal) ℓ) (c : Dev nD)

/-- The arguments, as the program finds them. -/
def pArr : FVec Ideal S8x386x1024 .f32 := m ((c : Thread nD τ).loc main_arg0)

/-- A device's row, with numbers for its place. -/
def pAt (d a l : ℕ) : EReal := if h : d < 8 ∧ a < 386 ∧ l < 1024 then pArr m c (ix3 ⟨d, h.1⟩ ⟨a, h.2.1⟩ ⟨l, h.2.2⟩) else 0

theorem pAt_of {d a l : ℕ} (i : S8x386x1024.Idx) (h0 : (i 0).val = d) (h1 : (i 1).val = a) (h2 : (i 2).val = l) : (pArr m c i : EReal) = pAt m c d a l := by
  subst h0 h1 h2
  unfold pAt
  rw [dif_pos ⟨(i 0).isLt, (i 1).isLt, (i 2).isLt⟩]
  refine congrArg (pArr m c) ?_
  funext a
  fin_cases a <;> rfl

/-- The blocks' places. -/
theorem places : ∀ t : Fin cfg0.N, win0_0.index t = ![0, 0, t.val] ∧ win0_1.index t = ![0, t.val] :=
  (by decide +kernel : ∀ t : Fin grid0.N, _)

/-- The host line casts the rows. -/
theorem entry_p (i : S8x386x1024.Idx) : ((V m c main_v0 : FVec Ideal S8x386x1024 .bf16) i : EReal) = pArr m c i := by
  unfold_abbrev_sides
  after_reads_at
  rfl

/-- One store: 386 rows behind those that are there. -/
theorem join_step (n off : ℕ) (hoff : off = 386 * n) (inb) (w : FVec Ideal S386x256 .bf16) (L : List (View.Piece (Elt Ideal) S3200x256 .bf16))
    (Q : ℕ → ℕ → EReal) (hL : ∀ (r : Fin 3200) (l : Fin 256), (View.canon L (ix2 r l) : EReal) = if r.val < 386 * n then Q r.val l.val else 0)
    (hw : ∀ (a : Fin 386) (l : Fin 256), (w (ix2 a l) : EReal) = Q (386 * n + a.val) l.val) (r : Fin 3200) (l : Fin 256) :
    (View.canon (@List.cons (View.Piece (Elt Ideal) S3200x256 .bf16) ⟨Rect.unit (s := S3200x256) ![off, 0] ![386, 256] inb, w⟩ L) (ix2 r l) : EReal)
      = if r.val < 386 * (n + 1) then Q r.val l.val else 0 := by
  subst hoff
  by_cases h : 386 * n ≤ r.val ∧ r.val < 386 * (n + 1)
  · have e : (Rect.unit (s := S3200x256) ![386 * n, 0] ![386, 256] inb).emb (ix2 (⟨r.val - 386 * n, by omega⟩ : Fin 386) l) = ix2 r l := by
      funext a
      refine Fin.ext ?_
      fin_cases a <;> simp [Rect.emb, Rect.unit] <;> omega
    rw [← e, if_pos h.2]
    refine (View.canon_cons_emb _ _ _ _).trans ((hw _ _).trans ?_)
    exact congrArg (fun k => Q k l.val) (by show 386 * n + (r.val - 386 * n) = r.val; omega)
  · rw [View.canon_cons_of_not_mem, hL]
    · by_cases h' : r.val < 386 * n
      · rw [if_pos h', if_pos (by omega)]
      · rw [if_neg h', if_neg (by omega)]
    · intro hm
      obtain ⟨x, hx, e⟩ := ((LoadRect.mem_set (r := (Rect.unit (s := S3200x256) ![386 * n, 0] ![386, 256] inb).toLoadRect)).mp hm) 0
      replace hx : x < 386 := hx
      replace e : r.val = 386 * n + 1 * x := e
      omega

theorem pay_row (x : FVec Ideal S1x386x256 .bf16) (a : Fin 386) (l : Fin 256) : (k0_pay1 (F := Ideal) x (ix2 a l) : EReal) = x (ix3 0 a l) := by
  pointwise [k0_pay1]

variable (t : Fin cfg0.N)

/-- The result of one point: the devices' rows one below another, then zeros. -/
def Q (r l : ℕ) : EReal := pAt m c (r / 386) (r % 386) (256 * t.val + l)

theorem ld_blk (n : ℕ) (inb) (a : Fin 386) (l : Fin 256) :
    (k0_pay1 (F := Ideal) (View.ld (iblk m c 0 t : FVec Ideal S8x386x256 .bf16) (Rect.unit (s := S8x386x256) ![n, 0, 0] ![1, 386, 256] inb)) (ix2 a l) : EReal)
      = Q m c t (386 * n + a.val) l.val := by
  have ha := a.isLt
  have q : (386 * n + a.val) / 386 = n := by omega
  have q' : (386 * n + a.val) % 386 = a.val := by omega
  rw [Q, q, q']
  refine (pay_row _ _ _).trans ((entry_p m c _).trans (pAt_of m c _ ?_ ?_ ?_)) <;> blk_simp [places t] <;> simp [places t] <;> omega

theorem after_blk (r : Fin 3200) (l : Fin 256) : (outsAt0 m c t (ix2 r l) : EReal) = if r.val < 3088 then Q m c t r.val l.val else 0 := by
  unfold outsAt0 out0_A_1
  frame_out
  refine join_step 7 _ rfl _ _ _ _ (join_step 6 _ rfl _ _ _ _ (join_step 5 _ rfl _ _ _ _ (join_step 4 _ rfl _ _ _ _ (join_step 3 _ rfl _ _ _ _
    (join_step 2 _ rfl _ _ _ _ (join_step 1 _ rfl _ _ _ _ (join_step 0 _ rfl _ _ _ _ (fun r l => ?_) (ld_blk m c t 0 _)) (ld_blk m c t 1 _)) (ld_blk m c t 2 _))
    (ld_blk m c t 3 _)) (ld_blk m c t 4 _)) (ld_blk m c t 5 _)) (ld_blk m c t 6 _)) (ld_blk m c t 7 _) r l
  rw [if_neg (by omega), View.canon_cons_unit_lit _ _ _ (by intro a; fin_cases a <;> rfl)]
  pointwise [k0_pay3]

/-- The result array, whole. -/
def out (i : S3200x1024.Idx) : EReal := if (i 0).val < 3088 then pAt m c ((i 0).val / 386) ((i 0).val % 386) (i 1).val else 0

theorem final : (dats m 0 c).arrAt 1 cfg0.N = fun (i : S3200x1024.Idx) => out m c i := by
  refine (dats m 0 c).arrAt_eq_of_covers 1 _ (by decide +kernel) fun t hf y => ?_
  have ht : t.val < 4 := lt_of_lt_of_eq t.isLt N_0
  blk_simp
  rw [after0_1]
  idx_vars y
  refine (after_blk m c t y0 y1).trans ?_
  unfold out Q
  have e0 : (((cfg0.win 1).blk t).view.emb (ix2 y0 y1) 0).val = y0.val := by blk_simp [places t]
  have e1 : (((cfg0.win 1).blk t).view.emb (ix2 y0 y1) 1).val = 256 * t.val + y1.val := by blk_simp [places t]; simp; omega
  rw [e0, e1]

/-- The reference's result is the kernel's. -/
theorem same : Cert.JoinRefIdeal.Read.val_main_v3 (F := Ideal) (m ((c : Thread nD τ).loc main_arg0)) = (dats m 0 c).arrAt 1 cfg0.N := by
  refine Eq.trans ?_ (final m c).symm
  funext i
  refine (show _ = (Cert.JoinRefIdeal.Read.val_main_v2 (F := Ideal) (pArr m c) i : EReal) from rfl).trans ?_
  unfold Cert.JoinRefIdeal.Read.val_main_v2 out
  rw [concatenate_pair_apply]
  have h1 := (i 1).isLt
  replace h1 : (i 1).val < 1024 := h1
  by_cases h : (i 0).val < 3088
  · refine (dif_pos (show (i 0).val < 3088 from h)).trans ?_
    rw [if_pos h, Cert.JoinRefIdeal.Read.val_main_v0_apply]
    refine pAt_of m c _ ?_ ?_ ?_
    · show ((i 0).val * 1024 + (i 1).val) / 395264 = _; omega
    · show ((i 0).val * 1024 + (i 1).val) / 1024 % 386 = _; omega
    · show ((i 0).val * 1024 + (i 1).val) % 1024 = _; omega
  · refine (dif_neg (show ¬ (i 0).val < 3088 from h)).trans ?_
    rw [if_neg h, Cert.JoinRefIdeal.Read.val_main_v1_apply]
    exact Ideal.ofBits_zero_f32

/-- The call terminates without a fault and leaves its arguments alone; so over the extended reals, and so does the reference. -/
theorem frame_kernel : Cert.quiescent_Join := fun m ρ _ => Cert.Join.Gen.frame m ρ

theorem frame_ideal : Cert.quiescent_JoinIdeal := fun m ρ _ => Cert.JoinIdeal.Gen.frame m ρ

theorem frame_reference : Cert.quiescent_JoinRefIdeal := fun m ρ _ =>
  (θ_run _ _ _).mono (fun r h => ⟨fun c => (h c).2, sem_eq_zero_of_no_sems rfl r.2⟩) (Cert.JoinRefIdeal.Value.run m ρ)

/-- The kernel's result is the reference's. -/
theorem algebraic : Cert.algebraic_JoinIdeal_JoinRefIdeal := by
  pair_intro
  · run_from Cert.JoinIdeal.Value.run_blocks m g
  · run_from Cert.JoinRefIdeal.Value.run m' g'
    refine (Cert.JoinRefIdeal.Read.val_main_v3_eq (F := Ideal) _).trans ?_
    rw [hagree c]
    exact same m c

end Cert.JoinClaim
-- ==== Proof.RowSplitClaim.lean ====
/-
  The gradient of the input projection cut into row blocks, one for each device: the claims.
-/
module

public import proofs.«01_k».proof.Defs
public import proofs.«01_k».proof.Proof.Gen.RowSplit.Frame
public import proofs.«01_k».proof.Proof.Gen.RowSplitIdeal.Value
public import proofs.«01_k».proof.Proof.Gen.RowSplitRefIdeal.Run
public import proofs.«01_k».proof.Proof.Gen.RowSplitRefIdeal.Read
public import Idealize.ShloMosaic.Lib.Pipeline.ValueKit
public import Idealize.ShloMosaic.Lib.Claim
public import Idealize.ShloMosaic.Lib.StableHlo.ReadAt
public import Idealize.ShloMosaic.Lib.KernelVsHost

@[expose] public section

set_option maxRecDepth 16384

noncomputable section

open Idealize.ShloMosaic Idealize.ShloMosaic.TcCoe Idealize.SL.Sem
open Idealize.ShloMosaic.Pipeline (Dat)
open scoped BigOperators

namespace Cert.RowSplitClaim

open Cert.RowSplitIdeal Cert.RowSplitIdeal.Gen

variable (m : (ℓ : Loc nD τ sig) → Buf (Elt Ideal) ℓ) (c : Dev nD)

/-- The arguments, as the program finds them. -/
def aArr : FVec Ideal S3072x1024 .f32 := m ((c : Thread nD τ).loc main_arg0)
def bArr : FVec Ideal S128x1024 .f32 := m ((c : Thread nD τ).loc main_arg1)

/-- A row of the two matrices, one below the other, with numbers for its place. -/
def rowAt (r l : ℕ) : EReal :=
  if h : r < 3072 ∧ l < 1024 then aArr m c (ix2 ⟨r, h.1⟩ ⟨l, h.2⟩)
  else if h : 3072 ≤ r ∧ r < 3200 ∧ l < 1024 then bArr m c (ix2 ⟨r - 3072, by omega⟩ ⟨l, h.2.2⟩) else 0

theorem rowAt_a {r l : ℕ} (i : S3072x1024.Idx) (h0 : (i 0).val = r) (h1 : (i 1).val = l) : (aArr m c i : EReal) = rowAt m c r l := by
  subst h0 h1
  unfold rowAt
  rw [dif_pos ⟨(i 0).isLt, (i 1).isLt⟩]
  refine congrArg (aArr m c) ?_
  funext a
  fin_cases a <;> rfl

theorem rowAt_b {r l : ℕ} (i : S128x1024.Idx) (h0 : (i 0).val + 3072 = r) (h1 : (i 1).val = l) : (bArr m c i : EReal) = rowAt m c r l := by
  subst h0 h1
  have hi : (i 0).val < 128 := (i 0).isLt
  have hj : (i 1).val < 1024 := (i 1).isLt
  unfold rowAt
  rw [dif_neg (by omega), dif_pos ⟨by omega, by omega, hj⟩]
  refine congrArg (bArr m c) ?_
  funext a
  apply Fin.ext
  fin_cases a
  · show (i 0).val = (i 0).val + 3072 - 3072
    omega
  · rfl

/-- The blocks' places. -/
theorem places : ∀ t : Fin cfg0.N, win0_0.index t = ![0, t.val] ∧ win0_1.index t = ![0, t.val] ∧ win0_2.index t = ![0, 0, t.val] :=
  (by decide +kernel : ∀ t : Fin grid0.N, _)

/-- The host lines cast the two matrices. -/
theorem entry_a (i : S3072x1024.Idx) : ((V m c main_v0 : FVec Ideal S3072x1024 .bf16) i : EReal) = aArr m c i := by
  unfold_abbrev_sides
  after_reads_at
  rfl

theorem entry_b (i : S128x1024.Idx) : ((V m c main_v1 : FVec Ideal S128x1024 .bf16) i : EReal) = bArr m c i := by
  unfold_abbrev_sides
  after_reads_at
  rfl

/-- One store: the next `n` rows, in block `j0` from row `a0` on. -/
theorem split_step (s j0 a0 n : ℕ) (hs : s = 386 * j0 + a0) (hn : a0 + n ≤ 386) (inb)
    (w : FVec Ideal ⟨3, ![1, n, 256]⟩ .bf16) (L : List (View.Piece (Elt Ideal) S8x386x256 .bf16)) (Q : ℕ → ℕ → EReal)
    (hL : ∀ (j : Fin 8) (r : Fin 386) (l : Fin 256), 386 * j.val + r.val < s → (View.canon L (ix3 j r l) : EReal) = Q (386 * j.val + r.val) l.val)
    (hw : ∀ (a : Fin n) (l : Fin 256), (w (ix3 (0 : Fin 1) a l) : EReal) = Q (s + a.val) l.val)
    (j : Fin 8) (r : Fin 386) (l : Fin 256) (h : 386 * j.val + r.val < s + n) :
    (View.canon (@List.cons (View.Piece (Elt Ideal) S8x386x256 .bf16) ⟨Rect.unit (s := S8x386x256) ![j0, a0, 0] ![1, n, 256] inb, w⟩ L) (ix3 j r l) : EReal)
      = Q (386 * j.val + r.val) l.val := by
  subst hs
  have hr := r.isLt
  by_cases hlt : 386 * j.val + r.val < 386 * j0 + a0
  · rw [View.canon_cons_of_not_mem, hL _ _ _ hlt]
    intro hm
    have hm' := (LoadRect.mem_set (r := (Rect.unit (s := S8x386x256) ![j0, a0, 0] ![1, n, 256] inb).toLoadRect)).mp hm
    obtain ⟨x, hx, e⟩ := hm' 0
    obtain ⟨x', hx', e'⟩ := hm' 1
    replace hx : x < 1 := hx
    replace e : j.val = j0 + 1 * x := e
    replace hx' : x' < n := hx'
    replace e' : r.val = a0 + 1 * x' := e'
    omega
  · have hj : j.val = j0 := by omega
    have e : (Rect.unit (s := S8x386x256) ![j0, a0, 0] ![1, n, 256] inb).emb (ix3 (0 : Fin 1) (⟨r.val - a0, by omega⟩ : Fin n) l) = ix3 j r l := by
      funext a
      refine Fin.ext ?_
      fin_cases a <;> simp [Rect.emb, Rect.unit] <;> omega
    rw [← e]
    refine (View.canon_cons_emb _ _ _ _).trans ((hw _ _).trans ?_)
    exact congrArg (fun k => Q k l.val) (by show 386 * j0 + a0 + (r.val - a0) = 386 * j.val + r.val; omega)

theorem pay_whole (x : FVec Ideal S386x256 .bf16) (a : Fin 386) (l : Fin 256) : (k0_pay2 (F := Ideal) x (ix3 (0 : Fin 1) a l) : EReal) = x (ix2 a l) := by
  pointwise [k0_pay2]

theorem pay_end (x : FVec Ideal S370x256 .bf16) (a : Fin 370) (l : Fin 256) : (k0_pay3 (F := Ideal) x (ix3 (0 : Fin 1) a l) : EReal) = x (ix2 a l) := by
  pointwise [k0_pay3]

theorem pay_rest (x : FVec Ideal S16x256 .bf16) (a : Fin 16) (l : Fin 256) : (k0_pay4 (F := Ideal) x (ix3 (0 : Fin 1) a l) : EReal) = x (ix2 a l) := by
  pointwise [k0_pay4]

variable (t : Fin cfg0.N)

/-- The rows of one point's columns. -/
def Q (r l : ℕ) : EReal := rowAt m c r (256 * t.val + l)

theorem ld_whole (s : ℕ) (inb) (a : Fin 386) (l : Fin 256) :
    (k0_pay2 (F := Ideal) (View.ld (iblk m c 0 t : FVec Ideal S3072x256 .bf16) (Rect.unit (s := S3072x256) ![s, 0] ![386, 256] inb)) (ix3 (0 : Fin 1) a l) : EReal)
      = Q m c t (s + a.val) l.val := by
  refine (pay_whole _ _ _).trans ((entry_a m c _).trans (rowAt_a m c _ ?_ ?_)) <;> blk_simp [places t] <;> simp [places t] <;> omega

theorem ld_end (inb) (a : Fin 370) (l : Fin 256) :
    (k0_pay3 (F := Ideal) (View.ld (iblk m c 0 t : FVec Ideal S3072x256 .bf16) (Rect.unit (s := S3072x256) ![2702, 0] ![370, 256] inb)) (ix3 (0 : Fin 1) a l) : EReal)
      = Q m c t (2702 + a.val) l.val := by
  refine (pay_end _ _ _).trans ((entry_a m c _).trans (rowAt_a m c _ ?_ ?_)) <;> blk_simp [places t] <;> simp [places t] <;> omega

theorem ld_rest (inb) (a : Fin 16) (l : Fin 256) :
    (k0_pay4 (F := Ideal) (View.ld (iblk m c 1 t : FVec Ideal S128x256 .bf16) (Rect.unit (s := S128x256) ![0, 0] ![16, 256] inb)) (ix3 (0 : Fin 1) a l) : EReal)
      = Q m c t (3072 + a.val) l.val := by
  refine (pay_rest _ _ _).trans ((entry_b m c _).trans (rowAt_b m c _ ?_ ?_)) <;> blk_simp [places t] <;> simp [places t] <;> omega

theorem after_blk (j : Fin 8) (r : Fin 386) (l : Fin 256) : (outsAt0 m c t (ix3 j r l) : EReal) = Q m c t (386 * j.val + r.val) l.val := by
  unfold outsAt0 out0_A_2
  frame_out
  have hj := j.isLt
  have hr := r.isLt
  refine split_step 3072 7 370 16 rfl (by omega) _ _ _ _ (split_step 2702 7 0 370 rfl (by omega) _ _ _ _ (split_step 2316 6 0 386 rfl (by omega) _ _ _ _
    (split_step 1930 5 0 386 rfl (by omega) _ _ _ _ (split_step 1544 4 0 386 rfl (by omega) _ _ _ _ (split_step 1158 3 0 386 rfl (by omega) _ _ _ _
    (split_step 772 2 0 386 rfl (by omega) _ _ _ _ (split_step 386 1 0 386 rfl (by omega) _ _ _ _ (split_step 0 0 0 386 rfl (by omega) _ _ _ _
    (fun _ _ _ h => absurd h (by omega)) (ld_whole m c t 0 _)) (ld_whole m c t 386 _)) (ld_whole m c t 772 _)) (ld_whole m c t 1158 _))
    (ld_whole m c t 1544 _)) (ld_whole m c t 1930 _)) (ld_whole m c t 2316 _)) (ld_end m c t _)) (ld_rest m c t _) j r l (by omega)

/-- The result array, whole. -/
theorem final : (dats m 0 c).arrAt 2 cfg0.N = fun (i : S8x386x1024.Idx) => rowAt m c (386 * (i 0).val + (i 1).val) (i 2).val := by
  refine (dats m 0 c).arrAt_eq_of_covers 2 _ (by decide +kernel) fun t hf y => ?_
  have ht : t.val < 4 := lt_of_lt_of_eq t.isLt N_0
  blk_simp
  rw [after0_2]
  idx_vars y
  refine (after_blk m c t y0 y1 y2).trans ?_
  unfold Q
  refine congrArg₂ (rowAt m c) ?_ ?_ <;> blk_simp [places t] <;> simp <;> omega

/-- The reference's result is the kernel's. -/
theorem same : Cert.RowSplitRefIdeal.Read.val_main_v3 (F := Ideal) (m ((c : Thread nD τ).loc main_arg0)) (m ((c : Thread nD τ).loc main_arg1))
      = (dats m 0 c).arrAt 2 cfg0.N := by
  refine Eq.trans ?_ (final m c).symm
  funext i
  refine (show _ = (Cert.RowSplitRefIdeal.Read.val_main_v2 (F := Ideal) (aArr m c) (bArr m c) i : EReal) from rfl).trans ?_
  rw [Cert.RowSplitRefIdeal.Read.val_main_v2_apply, Cert.RowSplitRefIdeal.Read.val_main_v1_apply]
  unfold Cert.RowSplitRefIdeal.Read.val_main_v0
  rw [concatenate_pair_apply]
  have h0 : (i 0).val < 8 := (i 0).isLt
  have h1 : (i 1).val < 386 := (i 1).isLt
  have h2 : (i 2).val < 1024 := (i 2).isLt
  by_cases h : (((i 0).val * 386 + (i 1).val) * 1024 + (i 2).val) / 1024 < 3072
  · refine (dif_pos h).trans (rowAt_a m c _ ?_ ?_)
    · show (((i 0).val * 386 + (i 1).val) * 1024 + (i 2).val) / 1024 = _; omega
    · show (((i 0).val * 386 + (i 1).val) * 1024 + (i 2).val) % 1024 = _; omega
  · refine (dif_neg h).trans (rowAt_b m c _ ?_ ?_)
    · show (((i 0).val * 386 + (i 1).val) * 1024 + (i 2).val) / 1024 - 3072 + 3072 = _; omega
    · show (((i 0).val * 386 + (i 1).val) * 1024 + (i 2).val) % 1024 = _; omega

/-- The call terminates without a fault and leaves its arguments alone; so over the extended reals, and so does the reference. -/
theorem frame_kernel : Cert.quiescent_RowSplit := fun m ρ _ => Cert.RowSplit.Gen.frame m ρ

theorem frame_ideal : Cert.quiescent_RowSplitIdeal := fun m ρ _ => Cert.RowSplitIdeal.Gen.frame m ρ

theorem frame_reference : Cert.quiescent_RowSplitRefIdeal := fun m ρ _ =>
  (θ_run _ _ _).mono (fun r h => ⟨fun c => (h c).2, sem_eq_zero_of_no_sems rfl r.2⟩) (Cert.RowSplitRefIdeal.Value.run m ρ)

/-- The kernel's result is the reference's. -/
theorem algebraic : Cert.algebraic_RowSplitIdeal_RowSplitRefIdeal := by
  pair_intro
  · run_from Cert.RowSplitIdeal.Value.run_blocks m g
  · run_from Cert.RowSplitRefIdeal.Value.run m' g'
    refine (Cert.RowSplitRefIdeal.Read.val_main_v3_eq (F := Ideal) _ _).trans ?_
    exact same m c

end Cert.RowSplitClaim
-- ==== Proof.lean ====
/-
  The claims about the calls of the training step, put together: each module `Proof/<Call>Claim.lean` holds the
  frames and the value claim of one call.
-/
module

public import proofs.«01_k».proof.Defs
public import proofs.«01_k».proof.Proof.Gen.LossIdeal.Value
public import proofs.«01_k».proof.Proof.Gen.LossRefIdeal.Run
public import proofs.«01_k».proof.Proof.Gen.LossRefIdeal.Read
public import proofs.«01_k».proof.Proof.LossClaim
public import proofs.«01_k».proof.Proof.Gen.GateIdeal.Value
public import proofs.«01_k».proof.Proof.Gen.GateRefIdeal.Run
public import proofs.«01_k».proof.Proof.Gen.GateRefIdeal.Read
public import proofs.«01_k».proof.Proof.GateClaim
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.GateFwdClaim
public import proofs.«01_k».proof.Proof.Gen.FoxIdeal.Value
public import proofs.«01_k».proof.Proof.Gen.FoxRefIdeal.Run
public import proofs.«01_k».proof.Proof.Gen.FoxRefIdeal.Read
public import proofs.«01_k».proof.Proof.FoxClaim
public import proofs.«01_k».proof.Proof.Gen.FoxFwdIdeal.Value
public import proofs.«01_k».proof.Proof.Gen.FoxFwdRefIdeal.Run
public import proofs.«01_k».proof.Proof.Gen.FoxFwdRefIdeal.Read
public import proofs.«01_k».proof.Proof.FoxFwdClaim
public import proofs.«01_k».proof.Proof.Gen.NormKvIdeal.Value
public import proofs.«01_k».proof.Proof.Gen.NormKvRefIdeal.Run
public import proofs.«01_k».proof.Proof.Gen.NormKvRefIdeal.Read
public import proofs.«01_k».proof.Proof.NormKvClaim
public import proofs.«01_k».proof.Proof.Gen.ReluIdeal.Value
public import proofs.«01_k».proof.Proof.Gen.ReluRefIdeal.Run
public import proofs.«01_k».proof.Proof.Gen.ReluRefIdeal.Read
public import proofs.«01_k».proof.Proof.ReluClaim
public import proofs.«01_k».proof.Proof.Gen.RmsQIdeal.Value
public import proofs.«01_k».proof.Proof.Gen.RmsQRefIdeal.Run
public import proofs.«01_k».proof.Proof.Gen.RmsQRefIdeal.Read
public import proofs.«01_k».proof.Proof.RmsQClaim
public import proofs.«01_k».proof.Proof.Gen.RmsKvIdeal.Value
public import proofs.«01_k».proof.Proof.Gen.RmsKvRefIdeal.Run
public import proofs.«01_k».proof.Proof.Gen.RmsKvRefIdeal.Read
public import proofs.«01_k».proof.Proof.RmsKvClaim
public import proofs.«01_k».proof.Proof.Gen.RmsUpIdeal.Value
public import proofs.«01_k».proof.Proof.Gen.RmsUpRefIdeal.Run
public import proofs.«01_k».proof.Proof.Gen.RmsUpRefIdeal.Read
public import proofs.«01_k».proof.Proof.RmsUpClaim
public import proofs.«01_k».proof.Proof.Gen.RmsInIdeal.Value
public import proofs.«01_k».proof.Proof.Gen.RmsInRefIdeal.Run
public import proofs.«01_k».proof.Proof.Gen.RmsInRefIdeal.Read
public import proofs.«01_k».proof.Proof.RmsInClaim
public import proofs.«01_k».proof.Proof.Gen.MatResIdeal.Value
public import proofs.«01_k».proof.Proof.Gen.MatResRefIdeal.Run
public import proofs.«01_k».proof.Proof.Gen.MatResRefIdeal.Read
public import proofs.«01_k».proof.Proof.MatResClaim
public import proofs.«01_k».proof.Proof.Gen.MatNtIdeal.Value
public import proofs.«01_k».proof.Proof.Gen.MatNtRefIdeal.Run
public import proofs.«01_k».proof.Proof.Gen.MatNtRefIdeal.Read
public import proofs.«01_k».proof.Proof.MatNtClaim
public import proofs.«01_k».proof.Proof.Gen.MatTnIdeal.Value
public import proofs.«01_k».proof.Proof.Gen.MatTnRefIdeal.Run
public import proofs.«01_k».proof.Proof.Gen.MatTnRefIdeal.Read
public import proofs.«01_k».proof.Proof.MatTnClaim
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamClaim
public import proofs.«01_k».proof.Proof.Gen.JoinIdeal.Value
public import proofs.«01_k».proof.Proof.Gen.JoinRefIdeal.Run
public import proofs.«01_k».proof.Proof.Gen.JoinRefIdeal.Read
public import proofs.«01_k».proof.Proof.JoinClaim
public import proofs.«01_k».proof.Proof.Gen.RowSplitIdeal.Value
public import proofs.«01_k».proof.Proof.Gen.RowSplitRefIdeal.Run
public import proofs.«01_k».proof.Proof.Gen.RowSplitRefIdeal.Read
public import proofs.«01_k».proof.Proof.RowSplitClaim

@[expose] public section

noncomputable section

namespace Cert.Proof

theorem claim : Cert.Claim :=
  ⟨Cert.Loss.Gen.facts,
    Cert.LossIdeal.Gen.facts,
    Cert.LossRefIdeal.Gen.facts,
    Cert.Gate.Gen.facts,
    Cert.GateIdeal.Gen.facts,
    Cert.GateRefIdeal.Gen.facts,
    Cert.GateFwd.Gen.facts,
    Cert.GateFwdIdeal.Gen.facts,
    Cert.GateFwdRefIdeal.Gen.facts,
    Cert.Fox.Gen.facts,
    Cert.FoxIdeal.Gen.facts,
    Cert.FoxRefIdeal.Gen.facts,
    Cert.FoxFwd.Gen.facts,
    Cert.FoxFwdIdeal.Gen.facts,
    Cert.FoxFwdRefIdeal.Gen.facts,
    Cert.NormKv.Gen.facts,
    Cert.NormKvIdeal.Gen.facts,
    Cert.NormKvRefIdeal.Gen.facts,
    Cert.Relu.Gen.facts,
    Cert.ReluIdeal.Gen.facts,
    Cert.ReluRefIdeal.Gen.facts,
    Cert.RmsQ.Gen.facts,
    Cert.RmsQIdeal.Gen.facts,
    Cert.RmsQRefIdeal.Gen.facts,
    Cert.RmsKv.Gen.facts,
    Cert.RmsKvIdeal.Gen.facts,
    Cert.RmsKvRefIdeal.Gen.facts,
    Cert.RmsUp.Gen.facts,
    Cert.RmsUpIdeal.Gen.facts,
    Cert.RmsUpRefIdeal.Gen.facts,
    Cert.RmsIn.Gen.facts,
    Cert.RmsInIdeal.Gen.facts,
    Cert.RmsInRefIdeal.Gen.facts,
    Cert.MatRes.Gen.facts,
    Cert.MatResIdeal.Gen.facts,
    Cert.MatResRefIdeal.Gen.facts,
    Cert.MatNt.Gen.facts,
    Cert.MatNtIdeal.Gen.facts,
    Cert.MatNtRefIdeal.Gen.facts,
    Cert.MatTn.Gen.facts,
    Cert.MatTnIdeal.Gen.facts,
    Cert.MatTnRefIdeal.Gen.facts,
    Cert.Adam.Gen.facts,
    Cert.AdamIdeal.Gen.facts,
    Cert.AdamRefIdeal.Gen.facts,
    Cert.Join.Gen.facts,
    Cert.JoinIdeal.Gen.facts,
    Cert.JoinRefIdeal.Gen.facts,
    Cert.RowSplit.Gen.facts,
    Cert.RowSplitIdeal.Gen.facts,
    Cert.RowSplitRefIdeal.Gen.facts,
    Cert.FoxClaim.facts,
    Cert.FoxFwdClaim.facts,
    Cert.LossClaim.frame_kernel, Cert.LossClaim.frame_ideal, Cert.LossClaim.frame_reference,
    Cert.GateClaim.frame_kernel, Cert.GateClaim.frame_ideal, Cert.GateClaim.frame_reference,
    Cert.GateFwdClaim.frame_kernel, Cert.GateFwdClaim.frame_ideal, Cert.GateFwdClaim.frame_reference,
    Cert.FoxClaim.frame_kernel, Cert.FoxClaim.frame_ideal, Cert.FoxClaim.frame_ideal_finite _, Cert.FoxClaim.frame_reference, Cert.FoxClaim.frame_reference_finite _,
    Cert.FoxFwdClaim.frame_kernel, Cert.FoxFwdClaim.frame_ideal, Cert.FoxFwdClaim.frame_ideal_finite _, Cert.FoxFwdClaim.frame_reference, Cert.FoxFwdClaim.frame_reference_finite _,
    Cert.NormKvClaim.frame_kernel, Cert.NormKvClaim.frame_ideal, Cert.NormKvClaim.frame_reference,
    Cert.ReluClaim.frame_kernel, Cert.ReluClaim.frame_ideal, Cert.ReluClaim.frame_reference,
    Cert.RmsQClaim.frame_kernel, Cert.RmsQClaim.frame_ideal, Cert.RmsQClaim.frame_reference,
    Cert.RmsKvClaim.frame_kernel, Cert.RmsKvClaim.frame_ideal, Cert.RmsKvClaim.frame_reference,
    Cert.RmsUpClaim.frame_kernel, Cert.RmsUpClaim.frame_ideal, Cert.RmsUpClaim.frame_reference,
    Cert.RmsInClaim.frame_kernel, Cert.RmsInClaim.frame_ideal, Cert.RmsInClaim.frame_reference,
    Cert.MatResClaim.frame_kernel, Cert.MatResClaim.frame_ideal, Cert.MatResClaim.frame_reference,
    Cert.MatNtClaim.frame_kernel, Cert.MatNtClaim.frame_ideal, Cert.MatNtClaim.frame_reference,
    Cert.MatTnClaim.frame_kernel, Cert.MatTnClaim.frame_ideal, Cert.MatTnClaim.frame_reference,
    Cert.AdamClaim.frame_kernel, Cert.AdamClaim.frame_ideal, Cert.AdamClaim.frame_reference,
    Cert.JoinClaim.frame_kernel, Cert.JoinClaim.frame_ideal, Cert.JoinClaim.frame_reference,
    Cert.RowSplitClaim.frame_kernel, Cert.RowSplitClaim.frame_ideal, Cert.RowSplitClaim.frame_reference,
    trivial, Cert.LossClaim.algebraic,
    trivial, Cert.GateClaim.algebraic,
    trivial, Cert.GateFwdClaim.algebraic,
    Cert.FoxClaim.preserves, Cert.FoxClaim.algebraic _,
    Cert.FoxFwdClaim.preserves, Cert.FoxFwdClaim.algebraic _,
    trivial, Cert.NormKvClaim.algebraic,
    trivial, Cert.ReluClaim.algebraic,
    trivial, Cert.RmsQClaim.algebraic,
    trivial, Cert.RmsKvClaim.algebraic,
    trivial, Cert.RmsUpClaim.algebraic,
    trivial, Cert.RmsInClaim.algebraic,
    trivial, Cert.MatResClaim.algebraic,
    trivial, Cert.MatNtClaim.algebraic,
    trivial, Cert.MatTnClaim.algebraic,
    trivial, Cert.AdamClaim.algebraic,
    trivial, Cert.JoinClaim.algebraic,
    trivial, Cert.RowSplitClaim.algebraic⟩

end Cert.Proof
